-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.2.2 = (fun _ => 1#1)

def Pre_MlpIn (m : (ℓ : Loc Cert.MlpIn.nD Cert.MlpIn.τ Cert.MlpIn.sig) → Buf (Elt Bits) ℓ) : Prop :=
  True

def Pre_MlpInIdeal (m : (ℓ : Loc Cert.MlpInIdeal.nD Cert.MlpInIdeal.τ Cert.MlpInIdeal.sig) → Buf (Elt Ideal) ℓ) : Prop :=
  True

def Pre_MlpInReferenceIdeal (m : (ℓ : Loc Cert.MlpInReferenceIdeal.nD Cert.MlpInReferenceIdeal.τ Cert.MlpInReferenceIdeal.sig) → Buf (Elt Ideal) ℓ) : Prop :=
  True

def Pre_MlpOut (m : (ℓ : Loc Cert.MlpOut.nD Cert.MlpOut.τ Cert.MlpOut.sig) → Buf (Elt Bits) ℓ) : Prop :=
  True

def Pre_MlpOutIdeal (m : (ℓ : Loc Cert.MlpOutIdeal.nD Cert.MlpOutIdeal.τ Cert.MlpOutIdeal.sig) → Buf (Elt Ideal) ℓ) : Prop :=
  True

def Pre_MlpOutReferenceIdeal (m : (ℓ : Loc Cert.MlpOutReferenceIdeal.nD Cert.MlpOutReferenceIdeal.τ Cert.MlpOutReferenceIdeal.sig) → Buf (Elt Ideal) ℓ) : Prop :=
  True

def Pre_MlpOutDx (m : (ℓ : Loc Cert.MlpOutDx.nD Cert.MlpOutDx.τ Cert.MlpOutDx.sig) → Buf (Elt Bits) ℓ) : Prop :=
  True

def Pre_MlpOutDxIdeal (m : (ℓ : Loc Cert.MlpOutDxIdeal.nD Cert.MlpOutDxIdeal.τ Cert.MlpOutDxIdeal.sig) → Buf (Elt Ideal) ℓ) : Prop :=
  True

def Pre_MlpOutDxReferenceIdeal (m : (ℓ : Loc Cert.MlpOutDxReferenceIdeal.nD Cert.MlpOutDxReferenceIdeal.τ Cert.MlpOutDxReferenceIdeal.sig) → Buf (Elt Ideal) ℓ) : Prop :=
  True

def Pre_MlpOutDw (m : (ℓ : Loc Cert.MlpOutDw.nD Cert.MlpOutDw.τ Cert.MlpOutDw.sig) → Buf (Elt Bits) ℓ) : Prop :=
  True

def Pre_MlpOutDwIdeal (m : (ℓ : Loc Cert.MlpOutDwIdeal.nD Cert.MlpOutDwIdeal.τ Cert.MlpOutDwIdeal.sig) → Buf (Elt Ideal) ℓ) : Prop :=
  True

def Pre_MlpOutDwReferenceIdeal (m : (ℓ : Loc Cert.MlpOutDwReferenceIdeal.nD Cert.MlpOutDwReferenceIdeal.τ Cert.MlpOutDwReferenceIdeal.sig) → Buf (Elt Ideal) ℓ) : Prop :=
  True

def Pre_MlpInDx (m : (ℓ : Loc Cert.MlpInDx.nD Cert.MlpInDx.τ Cert.MlpInDx.sig) → Buf (Elt Bits) ℓ) : Prop :=
  True

def Pre_MlpInDxIdeal (m : (ℓ : Loc Cert.MlpInDxIdeal.nD Cert.MlpInDxIdeal.τ Cert.MlpInDxIdeal.sig) → Buf (Elt Ideal) ℓ) : Prop :=
  True

def Pre_MlpInDxReferenceIdeal (m : (ℓ : Loc Cert.MlpInDxReferenceIdeal.nD Cert.MlpInDxReferenceIdeal.τ Cert.MlpInDxReferenceIdeal.sig) → Buf (Elt Ideal) ℓ) : Prop :=
  True

def Pre_MlpInDw (m : (ℓ : Loc Cert.MlpInDw.nD Cert.MlpInDw.τ Cert.MlpInDw.sig) → Buf (Elt Bits) ℓ) : Prop :=
  True

def Pre_MlpInDwIdeal (m : (ℓ : Loc Cert.MlpInDwIdeal.nD Cert.MlpInDwIdeal.τ Cert.MlpInDwIdeal.sig) → Buf (Elt Ideal) ℓ) : Prop :=
  True

def Pre_MlpInDwReferenceIdeal (m : (ℓ : Loc Cert.MlpInDwReferenceIdeal.nD Cert.MlpInDwReferenceIdeal.τ Cert.MlpInDwReferenceIdeal.sig) → Buf (Elt Ideal) ℓ) : Prop :=
  True

def Pre_ProjMain (m : (ℓ : Loc Cert.ProjMain.nD Cert.ProjMain.τ Cert.ProjMain.sig) → Buf (Elt Bits) ℓ) : Prop :=
  True

def Pre_ProjMainIdeal (m : (ℓ : Loc Cert.ProjMainIdeal.nD Cert.ProjMainIdeal.τ Cert.ProjMainIdeal.sig) → Buf (Elt Ideal) ℓ) : Prop :=
  True

def Pre_ProjMainReferenceIdeal (m : (ℓ : Loc Cert.ProjMainReferenceIdeal.nD Cert.ProjMainReferenceIdeal.τ Cert.ProjMainReferenceIdeal.sig) → Buf (Elt Ideal) ℓ) : Prop :=
  True

def Pre_ProjMainDx (m : (ℓ : Loc Cert.ProjMainDx.nD Cert.ProjMainDx.τ Cert.ProjMainDx.sig) → Buf (Elt Bits) ℓ) : Prop :=
  True

def Pre_ProjMainDxIdeal (m : (ℓ : Loc Cert.ProjMainDxIdeal.nD Cert.ProjMainDxIdeal.τ Cert.ProjMainDxIdeal.sig) → Buf (Elt Ideal) ℓ) : Prop :=
  True

def Pre_ProjMainDxReferenceIdeal (m : (ℓ : Loc Cert.ProjMainDxReferenceIdeal.nD Cert.ProjMainDxReferenceIdeal.τ Cert.ProjMainDxReferenceIdeal.sig) → Buf (Elt Ideal) ℓ) : Prop :=
  True

def Pre_ProjMainDw (m : (ℓ : Loc Cert.ProjMainDw.nD Cert.ProjMainDw.τ Cert.ProjMainDw.sig) → Buf (Elt Bits) ℓ) : Prop :=
  True

def Pre_ProjMainDwIdeal (m : (ℓ : Loc Cert.ProjMainDwIdeal.nD Cert.ProjMainDwIdeal.τ Cert.ProjMainDwIdeal.sig) → Buf (Elt Ideal) ℓ) : Prop :=
  True

def Pre_ProjMainDwReferenceIdeal (m : (ℓ : Loc Cert.ProjMainDwReferenceIdeal.nD Cert.ProjMainDwReferenceIdeal.τ Cert.ProjMainDwReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_OutProjDx (m : (ℓ : Loc Cert.OutProjDx.nD Cert.OutProjDx.τ Cert.OutProjDx.sig) → Buf (Elt Bits) ℓ) : Prop :=
  True

def Pre_OutProjDxIdeal (m : (ℓ : Loc Cert.OutProjDxIdeal.nD Cert.OutProjDxIdeal.τ Cert.OutProjDxIdeal.sig) → Buf (Elt Ideal) ℓ) : Prop :=
  True

def Pre_OutProjDxReferenceIdeal (m : (ℓ : Loc Cert.OutProjDxReferenceIdeal.nD Cert.OutProjDxReferenceIdeal.τ Cert.OutProjDxReferenceIdeal.sig) → Buf (Elt Ideal) ℓ) : Prop :=
  True

def Pre_OutProjDw (m : (ℓ : Loc Cert.OutProjDw.nD Cert.OutProjDw.τ Cert.OutProjDw.sig) → Buf (Elt Bits) ℓ) : Prop :=
  True

def Pre_OutProjDwIdeal (m : (ℓ : Loc Cert.OutProjDwIdeal.nD Cert.OutProjDwIdeal.τ Cert.OutProjDwIdeal.sig) → Buf (Elt Ideal) ℓ) : Prop :=
  True

def Pre_OutProjDwReferenceIdeal (m : (ℓ : Loc Cert.OutProjDwReferenceIdeal.nD Cert.OutProjDwReferenceIdeal.τ Cert.OutProjDwReferenceIdeal.sig) → Buf (Elt Ideal) ℓ) : Prop :=
  True

def Pre_ProjSmall (m : (ℓ : Loc Cert.ProjSmall.nD Cert.ProjSmall.τ Cert.ProjSmall.sig) → Buf (Elt Bits) ℓ) : Prop :=
  True

def Pre_ProjSmallIdeal (m : (ℓ : Loc Cert.ProjSmallIdeal.nD Cert.ProjSmallIdeal.τ Cert.ProjSmallIdeal.sig) → Buf (Elt Ideal) ℓ) : Prop :=
  True

def Pre_ProjSmallReferenceIdeal (m : (ℓ : Loc Cert.ProjSmallReferenceIdeal.nD Cert.ProjSmallReferenceIdeal.τ Cert.ProjSmallReferenceIdeal.sig) → Buf (Elt Ideal) ℓ) : Prop :=
  True

def Pre_GateDx (m : (ℓ : Loc Cert.GateDx.nD Cert.GateDx.τ Cert.GateDx.sig) → Buf (Elt Bits) ℓ) : Prop :=
  True

def Pre_GateDxIdeal (m : (ℓ : Loc Cert.GateDxIdeal.nD Cert.GateDxIdeal.τ Cert.GateDxIdeal.sig) → Buf (Elt Ideal) ℓ) : Prop :=
  True

def Pre_GateDxReferenceIdeal (m : (ℓ : Loc Cert.GateDxReferenceIdeal.nD Cert.GateDxReferenceIdeal.τ Cert.GateDxReferenceIdeal.sig) → Buf (Elt Ideal) ℓ) : Prop :=
  True

def Pre_GateDw (m : (ℓ : Loc Cert.GateDw.nD Cert.GateDw.τ Cert.GateDw.sig) → Buf (Elt Bits) ℓ) : Prop :=
  True

def Pre_GateDwIdeal (m : (ℓ : Loc Cert.GateDwIdeal.nD Cert.GateDwIdeal.τ Cert.GateDwIdeal.sig) → Buf (Elt Ideal) ℓ) : Prop :=
  True

def Pre_GateDwReferenceIdeal (m : (ℓ : Loc Cert.GateDwReferenceIdeal.nD Cert.GateDwReferenceIdeal.τ Cert.GateDwReferenceIdeal.sig) → Buf (Elt Ideal) ℓ) : Prop :=
  True

def Pre_ProjSmallDw (m : (ℓ : Loc Cert.ProjSmallDw.nD Cert.ProjSmallDw.τ Cert.ProjSmallDw.sig) → Buf (Elt Bits) ℓ) : Prop :=
  True

def Pre_ProjSmallDwIdeal (m : (ℓ : Loc Cert.ProjSmallDwIdeal.nD Cert.ProjSmallDwIdeal.τ Cert.ProjSmallDwIdeal.sig) → Buf (Elt Ideal) ℓ) : Prop :=
  True

def Pre_ProjSmallDwReferenceIdeal (m : (ℓ : Loc Cert.ProjSmallDwReferenceIdeal.nD Cert.ProjSmallDwReferenceIdeal.τ Cert.ProjSmallDwReferenceIdeal.sig) → Buf (Elt Ideal) ℓ) : Prop :=
  True

def Pre_Premix (m : (ℓ : Loc Cert.Premix.nD Cert.Premix.τ Cert.Premix.sig) → Buf (Elt Bits) ℓ) : Prop :=
  True

def Pre_PremixIdeal (m : (ℓ : Loc Cert.PremixIdeal.nD Cert.PremixIdeal.τ Cert.PremixIdeal.sig) → Buf (Elt Ideal) ℓ) : Prop :=
  True

def Pre_PremixReferenceIdeal (m : (ℓ : Loc Cert.PremixReferenceIdeal.nD Cert.PremixReferenceIdeal.τ Cert.PremixReferenceIdeal.sig) → Buf (Elt Ideal) ℓ) : Prop :=
  True

def Pre_PostmixPremlp (m : (ℓ : Loc Cert.PostmixPremlp.nD Cert.PostmixPremlp.τ Cert.PostmixPremlp.sig) → Buf (Elt Bits) ℓ) : Prop :=
  True

def Pre_PostmixPremlpIdeal (m : (ℓ : Loc Cert.PostmixPremlpIdeal.nD Cert.PostmixPremlpIdeal.τ Cert.PostmixPremlpIdeal.sig) → Buf (Elt Ideal) ℓ) : Prop :=
  True

def Pre_PostmixPremlpReferenceIdeal (m : (ℓ : Loc Cert.PostmixPremlpReferenceIdeal.nD Cert.PostmixPremlpReferenceIdeal.τ Cert.PostmixPremlpReferenceIdeal.sig) → Buf (Elt Ideal) ℓ) : Prop :=
  True

def Pre_FoxFwd (m : (ℓ : Loc Cert.FoxFwd.nD Cert.FoxFwd.τ Cert.FoxFwd.sig) → Buf (Elt Bits) ℓ) : Prop :=
  True

def Pre_FoxFwdIdeal (m : (ℓ : Loc Cert.FoxFwdIdeal.nD Cert.FoxFwdIdeal.τ Cert.FoxFwdIdeal.sig) → Buf (Elt Ideal) ℓ) : Prop :=
  True

def Pre_FoxFwdIdeal_finite_fwd [hPre_finite_fwd : Cert.Pre_finite_fwd.Facts] (m : (ℓ : Loc Cert.FoxFwdIdeal.nD Cert.FoxFwdIdeal.τ Cert.FoxFwdIdeal.sig) → Buf (Elt Ideal) ℓ) : Prop :=
  ∀ c : Dev Cert.FoxFwdIdeal.nD,
    (Cert.Pre_finite_fwd.fn (F := Ideal) (m ((c.tc : Thread Cert.FoxFwdIdeal.nD Cert.FoxFwdIdeal.τ).loc Cert.FoxFwdIdeal.main_arg0)) (m ((c.tc : Thread Cert.FoxFwdIdeal.nD Cert.FoxFwdIdeal.τ).loc Cert.FoxFwdIdeal.main_arg1))).1 = (fun _ => 1#1)
    ∧ (Cert.Pre_finite_fwd.fn (F := Ideal) (m ((c.tc : Thread Cert.FoxFwdIdeal.nD Cert.FoxFwdIdeal.τ).loc Cert.FoxFwdIdeal.main_arg0)) (m ((c.tc : Thread Cert.FoxFwdIdeal.nD Cert.FoxFwdIdeal.τ).loc Cert.FoxFwdIdeal.main_arg1))).2.1 = (fun _ => 1#1)
    ∧ (Cert.Pre_finite_fwd.fn (F := Ideal) (m ((c.tc : Thread Cert.FoxFwdIdeal.nD Cert.FoxFwdIdeal.τ).loc Cert.FoxFwdIdeal.main_arg0)) (m ((c.tc : Thread Cert.FoxFwdIdeal.nD Cert.FoxFwdIdeal.τ).loc Cert.FoxFwdIdeal.main_arg1))).2.2.1 = (fun _ => 1#1)
    ∧ (Cert.Pre_finite_fwd.fn (F := Ideal) (m ((c.tc : Thread Cert.FoxFwdIdeal.nD Cert.FoxFwdIdeal.τ).loc Cert.FoxFwdIdeal.main_arg0)) (m ((c.tc : Thread Cert.FoxFwdIdeal.nD Cert.FoxFwdIdeal.τ).loc Cert.FoxFwdIdeal.main_arg1))).2.2.2 = (fun _ => 1#1)

def Pre_FoxFwdReferenceIdeal (m : (ℓ : Loc Cert.FoxFwdReferenceIdeal.nD Cert.FoxFwdReferenceIdeal.τ Cert.FoxFwdReferenceIdeal.sig) → Buf (Elt Ideal) ℓ) : Prop :=
  True

def Pre_FoxFwdReferenceIdeal_finite_fwd [hPre_finite_fwd : Cert.Pre_finite_fwd.Facts] (m : (ℓ : Loc Cert.FoxFwdReferenceIdeal.nD Cert.FoxFwdReferenceIdeal.τ Cert.FoxFwdReferenceIdeal.sig) → Buf (Elt Ideal) ℓ) : Prop :=
  ∀ c : Dev Cert.FoxFwdReferenceIdeal.nD,
    (Cert.Pre_finite_fwd.fn (F := Ideal) (m ((c.tc : Thread Cert.FoxFwdReferenceIdeal.nD Cert.FoxFwdReferenceIdeal.τ).loc Cert.FoxFwdReferenceIdeal.main_arg0)) (m ((c.tc : Thread Cert.FoxFwdReferenceIdeal.nD Cert.FoxFwdReferenceIdeal.τ).loc Cert.FoxFwdReferenceIdeal.main_arg1))).1 = (fun _ => 1#1)
    ∧ (Cert.Pre_finite_fwd.fn (F := Ideal) (m ((c.tc : Thread Cert.FoxFwdReferenceIdeal.nD Cert.FoxFwdReferenceIdeal.τ).loc Cert.FoxFwdReferenceIdeal.main_arg0)) (m ((c.tc : Thread Cert.FoxFwdReferenceIdeal.nD Cert.FoxFwdReferenceIdeal.τ).loc Cert.FoxFwdReferenceIdeal.main_arg1))).2.1 = (fun _ => 1#1)
    ∧ (Cert.Pre_finite_fwd.fn (F := Ideal) (m ((c.tc : Thread Cert.FoxFwdReferenceIdeal.nD Cert.FoxFwdReferenceIdeal.τ).loc Cert.FoxFwdReferenceIdeal.main_arg0)) (m ((c.tc : Thread Cert.FoxFwdReferenceIdeal.nD Cert.FoxFwdReferenceIdeal.τ).loc Cert.FoxFwdReferenceIdeal.main_arg1))).2.2.1 = (fun _ => 1#1)
    ∧ (Cert.Pre_finite_fwd.fn (F := Ideal) (m ((c.tc : Thread Cert.FoxFwdReferenceIdeal.nD Cert.FoxFwdReferenceIdeal.τ).loc Cert.FoxFwdReferenceIdeal.main_arg0)) (m ((c.tc : Thread Cert.FoxFwdReferenceIdeal.nD Cert.FoxFwdReferenceIdeal.τ).loc Cert.FoxFwdReferenceIdeal.main_arg1))).2.2.2 = (fun _ => 1#1)

def Pre_PremixBwd (m : (ℓ : Loc Cert.PremixBwd.nD Cert.PremixBwd.τ Cert.PremixBwd.sig) → Buf (Elt Bits) ℓ) : Prop :=
  True

def Pre_PremixBwdIdeal (m : (ℓ : Loc Cert.PremixBwdIdeal.nD Cert.PremixBwdIdeal.τ Cert.PremixBwdIdeal.sig) → Buf (Elt Ideal) ℓ) : Prop :=
  True

def Pre_PremixBwdReferenceIdeal (m : (ℓ : Loc Cert.PremixBwdReferenceIdeal.nD Cert.PremixBwdReferenceIdeal.τ Cert.PremixBwdReferenceIdeal.sig) → Buf (Elt Ideal) ℓ) : Prop :=
  True

def Pre_PremlpPostmixBwd (m : (ℓ : Loc Cert.PremlpPostmixBwd.nD Cert.PremlpPostmixBwd.τ Cert.PremlpPostmixBwd.sig) → Buf (Elt Bits) ℓ) : Prop :=
  True

def Pre_PremlpPostmixBwdIdeal (m : (ℓ : Loc Cert.PremlpPostmixBwdIdeal.nD Cert.PremlpPostmixBwdIdeal.τ Cert.PremlpPostmixBwdIdeal.sig) → Buf (Elt Ideal) ℓ) : Prop :=
  True

def Pre_PremlpPostmixBwdReferenceIdeal (m : (ℓ : Loc Cert.PremlpPostmixBwdReferenceIdeal.nD Cert.PremlpPostmixBwdReferenceIdeal.τ Cert.PremlpPostmixBwdReferenceIdeal.sig) → Buf (Elt Ideal) ℓ) : Prop :=
  True

def Pre_FoxCum (m : (ℓ : Loc Cert.FoxCum.nD Cert.FoxCum.τ Cert.FoxCum.sig) → Buf (Elt Bits) ℓ) : Prop :=
  True

def Pre_FoxCumIdeal (m : (ℓ : Loc Cert.FoxCumIdeal.nD Cert.FoxCumIdeal.τ Cert.FoxCumIdeal.sig) → Buf (Elt Ideal) ℓ) : Prop :=
  True

def Pre_FoxCumReferenceIdeal (m : (ℓ : Loc Cert.FoxCumReferenceIdeal.nD Cert.FoxCumReferenceIdeal.τ Cert.FoxCumReferenceIdeal.sig) → Buf (Elt Ideal) ℓ) : Prop :=
  True

def Pre_FoxCumBwd (m : (ℓ : Loc Cert.FoxCumBwd.nD Cert.FoxCumBwd.τ Cert.FoxCumBwd.sig) → Buf (Elt Bits) ℓ) : Prop :=
  True

def Pre_FoxCumBwdIdeal (m : (ℓ : Loc Cert.FoxCumBwdIdeal.nD Cert.FoxCumBwdIdeal.τ Cert.FoxCumBwdIdeal.sig) → Buf (Elt Ideal) ℓ) : Prop :=
  True

def Pre_FoxCumBwdIdeal_below [hPre_below : Cert.Pre_below.Facts] (m : (ℓ : Loc Cert.FoxCumBwdIdeal.nD Cert.FoxCumBwdIdeal.τ Cert.FoxCumBwdIdeal.sig) → Buf (Elt Ideal) ℓ) : Prop :=
  ∀ c : Dev Cert.FoxCumBwdIdeal.nD,
    (Cert.Pre_below.fn (F := Ideal) (m ((c.tc : Thread Cert.FoxCumBwdIdeal.nD Cert.FoxCumBwdIdeal.τ).loc Cert.FoxCumBwdIdeal.main_arg0)) (m ((c.tc : Thread Cert.FoxCumBwdIdeal.nD Cert.FoxCumBwdIdeal.τ).loc Cert.FoxCumBwdIdeal.main_arg1)) (m ((c.tc : Thread Cert.FoxCumBwdIdeal.nD Cert.FoxCumBwdIdeal.τ).loc Cert.FoxCumBwdIdeal.main_arg2)) (m ((c.tc : Thread Cert.FoxCumBwdIdeal.nD Cert.FoxCumBwdIdeal.τ).loc Cert.FoxCumBwdIdeal.main_arg3))).1 = (fun _ => 1#1)
    ∧ (Cert.Pre_below.fn (F := Ideal) (m ((c.tc : Thread Cert.FoxCumBwdIdeal.nD Cert.FoxCumBwdIdeal.τ).loc Cert.FoxCumBwdIdeal.main_arg0)) (m ((c.tc : Thread Cert.FoxCumBwdIdeal.nD Cert.FoxCumBwdIdeal.τ).loc Cert.FoxCumBwdIdeal.main_arg1)) (m ((c.tc : Thread Cert.FoxCumBwdIdeal.nD Cert.FoxCumBwdIdeal.τ).loc Cert.FoxCumBwdIdeal.main_arg2)) (m ((c.tc : Thread Cert.FoxCumBwdIdeal.nD Cert.FoxCumBwdIdeal.τ).loc Cert.FoxCumBwdIdeal.main_arg3))).2 = (fun _ => 1#1)

def Pre_FoxCumBwdReferenceIdeal (m : (ℓ : Loc Cert.FoxCumBwdReferenceIdeal.nD Cert.FoxCumBwdReferenceIdeal.τ Cert.FoxCumBwdReferenceIdeal.sig) → Buf (Elt Ideal) ℓ) : Prop :=
  True

def Pre_FoxCumBwdReferenceIdeal_below [hPre_below : Cert.Pre_below.Facts] (m : (ℓ : Loc Cert.FoxCumBwdReferenceIdeal.nD Cert.FoxCumBwdReferenceIdeal.τ Cert.FoxCumBwdReferenceIdeal.sig) → Buf (Elt Ideal) ℓ) : Prop :=
  ∀ c : Dev Cert.FoxCumBwdReferenceIdeal.nD,
    (Cert.Pre_below.fn (F := Ideal) (m ((c.tc : Thread Cert.FoxCumBwdReferenceIdeal.nD Cert.FoxCumBwdReferenceIdeal.τ).loc Cert.FoxCumBwdReferenceIdeal.main_arg0)) (m ((c.tc : Thread Cert.FoxCumBwdReferenceIdeal.nD Cert.FoxCumBwdReferenceIdeal.τ).loc Cert.FoxCumBwdReferenceIdeal.main_arg1)) (m ((c.tc : Thread Cert.FoxCumBwdReferenceIdeal.nD Cert.FoxCumBwdReferenceIdeal.τ).loc Cert.FoxCumBwdReferenceIdeal.main_arg2)) (m ((c.tc : Thread Cert.FoxCumBwdReferenceIdeal.nD Cert.FoxCumBwdReferenceIdeal.τ).loc Cert.FoxCumBwdReferenceIdeal.main_arg3))).1 = (fun _ => 1#1)
    ∧ (Cert.Pre_below.fn (F := Ideal) (m ((c.tc : Thread Cert.FoxCumBwdReferenceIdeal.nD Cert.FoxCumBwdReferenceIdeal.τ).loc Cert.FoxCumBwdReferenceIdeal.main_arg0)) (m ((c.tc : Thread Cert.FoxCumBwdReferenceIdeal.nD Cert.FoxCumBwdReferenceIdeal.τ).loc Cert.FoxCumBwdReferenceIdeal.main_arg1)) (m ((c.tc : Thread Cert.FoxCumBwdReferenceIdeal.nD Cert.FoxCumBwdReferenceIdeal.τ).loc Cert.FoxCumBwdReferenceIdeal.main_arg2)) (m ((c.tc : Thread Cert.FoxCumBwdReferenceIdeal.nD Cert.FoxCumBwdReferenceIdeal.τ).loc Cert.FoxCumBwdReferenceIdeal.main_arg3))).2 = (fun _ => 1#1)

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationReferenceIdeal (m : (ℓ : Loc Cert.ModulationReferenceIdeal.nD Cert.ModulationReferenceIdeal.τ Cert.ModulationReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_MlpIn [hMlpIn : Cert.MlpIn.Facts] : Prop :=
  ∀ (m : (ℓ : Loc Cert.MlpIn.nD Cert.MlpIn.τ Cert.MlpIn.sig) → Buf (Elt Bits) ℓ) (g : Dev Cert.MlpIn.nD → PrngReg), Pre_MlpIn m →
    θ_run (Cert.MlpIn.defs (F := Bits)) (onTc (τ := Cert.MlpIn.τ) (Cert.MlpIn.main (F := Bits))) ⟨m, fun _ => 0, g⟩ (fun r => (∀ c : Dev Cert.MlpIn.nD,
      r.2.mem ((c.tc : Thread Cert.MlpIn.nD Cert.MlpIn.τ).loc Cert.MlpIn.main_arg0) = m ((c.tc : Thread Cert.MlpIn.nD Cert.MlpIn.τ).loc Cert.MlpIn.main_arg0)
      ∧ r.2.mem ((c.tc : Thread Cert.MlpIn.nD Cert.MlpIn.τ).loc Cert.MlpIn.main_arg1) = m ((c.tc : Thread Cert.MlpIn.nD Cert.MlpIn.τ).loc Cert.MlpIn.main_arg1))
      ∧ r.2.sem = fun _ => 0)

def quiescent_MlpInIdeal [hMlpInIdeal : Cert.MlpInIdeal.Facts] : Prop :=
  ∀ (m : (ℓ : Loc Cert.MlpInIdeal.nD Cert.MlpInIdeal.τ Cert.MlpInIdeal.sig) → Buf (Elt Ideal) ℓ) (g : Dev Cert.MlpInIdeal.nD → PrngReg), Pre_MlpInIdeal m →
    θ_run (Cert.MlpInIdeal.defs (F := Ideal)) (onTc (τ := Cert.MlpInIdeal.τ) (Cert.MlpInIdeal.main (F := Ideal))) ⟨m, fun _ => 0, g⟩ (fun r => (∀ c : Dev Cert.MlpInIdeal.nD,
      r.2.mem ((c.tc : Thread Cert.MlpInIdeal.nD Cert.MlpInIdeal.τ).loc Cert.MlpInIdeal.main_arg0) = m ((c.tc : Thread Cert.MlpInIdeal.nD Cert.MlpInIdeal.τ).loc Cert.MlpInIdeal.main_arg0)
      ∧ r.2.mem ((c.tc : Thread Cert.MlpInIdeal.nD Cert.MlpInIdeal.τ).loc Cert.MlpInIdeal.main_arg1) = m ((c.tc : Thread Cert.MlpInIdeal.nD Cert.MlpInIdeal.τ).loc Cert.MlpInIdeal.main_arg1))
      ∧ r.2.sem = fun _ => 0)

def quiescent_MlpInReferenceIdeal [hMlpInReferenceIdeal : Cert.MlpInReferenceIdeal.Facts] : Prop :=
  ∀ (m : (ℓ : Loc Cert.MlpInReferenceIdeal.nD Cert.MlpInReferenceIdeal.τ Cert.MlpInReferenceIdeal.sig) → Buf (Elt Ideal) ℓ) (g : Dev Cert.MlpInReferenceIdeal.nD → PrngReg), Pre_MlpInReferenceIdeal m →
    θ_run (Cert.MlpInReferenceIdeal.defs (F := Ideal)) (onTc (τ := Cert.MlpInReferenceIdeal.τ) (Cert.MlpInReferenceIdeal.main (F := Ideal))) ⟨m, fun _ => 0, g⟩ (fun r => (∀ c : Dev Cert.MlpInReferenceIdeal.nD,
      r.2.mem ((c.tc : Thread Cert.MlpInReferenceIdeal.nD Cert.MlpInReferenceIdeal.τ).loc Cert.MlpInReferenceIdeal.main_arg0) = m ((c.tc : Thread Cert.MlpInReferenceIdeal.nD Cert.MlpInReferenceIdeal.τ).loc Cert.MlpInReferenceIdeal.main_arg0)
      ∧ r.2.mem ((c.tc : Thread Cert.MlpInReferenceIdeal.nD Cert.MlpInReferenceIdeal.τ).loc Cert.MlpInReferenceIdeal.main_arg1) = m ((c.tc : Thread Cert.MlpInReferenceIdeal.nD Cert.MlpInReferenceIdeal.τ).loc Cert.MlpInReferenceIdeal.main_arg1))
      ∧ r.2.sem = fun _ => 0)

def quiescent_MlpOut [hMlpOut : Cert.MlpOut.Facts] : Prop :=
  ∀ (m : (ℓ : Loc Cert.MlpOut.nD Cert.MlpOut.τ Cert.MlpOut.sig) → Buf (Elt Bits) ℓ) (g : Dev Cert.MlpOut.nD → PrngReg), Pre_MlpOut m →
    θ_run (Cert.MlpOut.defs (F := Bits)) (onTc (τ := Cert.MlpOut.τ) (Cert.MlpOut.main (F := Bits))) ⟨m, fun _ => 0, g⟩ (fun r => (∀ c : Dev Cert.MlpOut.nD,
      r.2.mem ((c.tc : Thread Cert.MlpOut.nD Cert.MlpOut.τ).loc Cert.MlpOut.main_arg0) = m ((c.tc : Thread Cert.MlpOut.nD Cert.MlpOut.τ).loc Cert.MlpOut.main_arg0)
      ∧ r.2.mem ((c.tc : Thread Cert.MlpOut.nD Cert.MlpOut.τ).loc Cert.MlpOut.main_arg1) = m ((c.tc : Thread Cert.MlpOut.nD Cert.MlpOut.τ).loc Cert.MlpOut.main_arg1))
      ∧ r.2.sem = fun _ => 0)

def quiescent_MlpOutIdeal [hMlpOutIdeal : Cert.MlpOutIdeal.Facts] : Prop :=
  ∀ (m : (ℓ : Loc Cert.MlpOutIdeal.nD Cert.MlpOutIdeal.τ Cert.MlpOutIdeal.sig) → Buf (Elt Ideal) ℓ) (g : Dev Cert.MlpOutIdeal.nD → PrngReg), Pre_MlpOutIdeal m →
    θ_run (Cert.MlpOutIdeal.defs (F := Ideal)) (onTc (τ := Cert.MlpOutIdeal.τ) (Cert.MlpOutIdeal.main (F := Ideal))) ⟨m, fun _ => 0, g⟩ (fun r => (∀ c : Dev Cert.MlpOutIdeal.nD,
      r.2.mem ((c.tc : Thread Cert.MlpOutIdeal.nD Cert.MlpOutIdeal.τ).loc Cert.MlpOutIdeal.main_arg0) = m ((c.tc : Thread Cert.MlpOutIdeal.nD Cert.MlpOutIdeal.τ).loc Cert.MlpOutIdeal.main_arg0)
      ∧ r.2.mem ((c.tc : Thread Cert.MlpOutIdeal.nD Cert.MlpOutIdeal.τ).loc Cert.MlpOutIdeal.main_arg1) = m ((c.tc : Thread Cert.MlpOutIdeal.nD Cert.MlpOutIdeal.τ).loc Cert.MlpOutIdeal.main_arg1))
      ∧ r.2.sem = fun _ => 0)

def quiescent_MlpOutReferenceIdeal [hMlpOutReferenceIdeal : Cert.MlpOutReferenceIdeal.Facts] : Prop :=
  ∀ (m : (ℓ : Loc Cert.MlpOutReferenceIdeal.nD Cert.MlpOutReferenceIdeal.τ Cert.MlpOutReferenceIdeal.sig) → Buf (Elt Ideal) ℓ) (g : Dev Cert.MlpOutReferenceIdeal.nD → PrngReg), Pre_MlpOutReferenceIdeal m →
    θ_run (Cert.MlpOutReferenceIdeal.defs (F := Ideal)) (onTc (τ := Cert.MlpOutReferenceIdeal.τ) (Cert.MlpOutReferenceIdeal.main (F := Ideal))) ⟨m, fun _ => 0, g⟩ (fun r => (∀ c : Dev Cert.MlpOutReferenceIdeal.nD,
      r.2.mem ((c.tc : Thread Cert.MlpOutReferenceIdeal.nD Cert.MlpOutReferenceIdeal.τ).loc Cert.MlpOutReferenceIdeal.main_arg0) = m ((c.tc : Thread Cert.MlpOutReferenceIdeal.nD Cert.MlpOutReferenceIdeal.τ).loc Cert.MlpOutReferenceIdeal.main_arg0)
      ∧ r.2.mem ((c.tc : Thread Cert.MlpOutReferenceIdeal.nD Cert.MlpOutReferenceIdeal.τ).loc Cert.MlpOutReferenceIdeal.main_arg1) = m ((c.tc : Thread Cert.MlpOutReferenceIdeal.nD Cert.MlpOutReferenceIdeal.τ).loc Cert.MlpOutReferenceIdeal.main_arg1))
      ∧ r.2.sem = fun _ => 0)

def quiescent_MlpOutDx [hMlpOutDx : Cert.MlpOutDx.Facts] : Prop :=
  ∀ (m : (ℓ : Loc Cert.MlpOutDx.nD Cert.MlpOutDx.τ Cert.MlpOutDx.sig) → Buf (Elt Bits) ℓ) (g : Dev Cert.MlpOutDx.nD → PrngReg), Pre_MlpOutDx m →
    θ_run (Cert.MlpOutDx.defs (F := Bits)) (onTc (τ := Cert.MlpOutDx.τ) (Cert.MlpOutDx.main (F := Bits))) ⟨m, fun _ => 0, g⟩ (fun r => (∀ c : Dev Cert.MlpOutDx.nD,
      r.2.mem ((c.tc : Thread Cert.MlpOutDx.nD Cert.MlpOutDx.τ).loc Cert.MlpOutDx.main_arg0) = m ((c.tc : Thread Cert.MlpOutDx.nD Cert.MlpOutDx.τ).loc Cert.MlpOutDx.main_arg0)
      ∧ r.2.mem ((c.tc : Thread Cert.MlpOutDx.nD Cert.MlpOutDx.τ).loc Cert.MlpOutDx.main_arg1) = m ((c.tc : Thread Cert.MlpOutDx.nD Cert.MlpOutDx.τ).loc Cert.MlpOutDx.main_arg1)
      ∧ r.2.mem ((c.tc : Thread Cert.MlpOutDx.nD Cert.MlpOutDx.τ).loc Cert.MlpOutDx.main_arg2) = m ((c.tc : Thread Cert.MlpOutDx.nD Cert.MlpOutDx.τ).loc Cert.MlpOutDx.main_arg2))
      ∧ r.2.sem = fun _ => 0)

def quiescent_MlpOutDxIdeal [hMlpOutDxIdeal : Cert.MlpOutDxIdeal.Facts] : Prop :=
  ∀ (m : (ℓ : Loc Cert.MlpOutDxIdeal.nD Cert.MlpOutDxIdeal.τ Cert.MlpOutDxIdeal.sig) → Buf (Elt Ideal) ℓ) (g : Dev Cert.MlpOutDxIdeal.nD → PrngReg), Pre_MlpOutDxIdeal m →
    θ_run (Cert.MlpOutDxIdeal.defs (F := Ideal)) (onTc (τ := Cert.MlpOutDxIdeal.τ) (Cert.MlpOutDxIdeal.main (F := Ideal))) ⟨m, fun _ => 0, g⟩ (fun r => (∀ c : Dev Cert.MlpOutDxIdeal.nD,
      r.2.mem ((c.tc : Thread Cert.MlpOutDxIdeal.nD Cert.MlpOutDxIdeal.τ).loc Cert.MlpOutDxIdeal.main_arg0) = m ((c.tc : Thread Cert.MlpOutDxIdeal.nD Cert.MlpOutDxIdeal.τ).loc Cert.MlpOutDxIdeal.main_arg0)
      ∧ r.2.mem ((c.tc : Thread Cert.MlpOutDxIdeal.nD Cert.MlpOutDxIdeal.τ).loc Cert.MlpOutDxIdeal.main_arg1) = m ((c.tc : Thread Cert.MlpOutDxIdeal.nD Cert.MlpOutDxIdeal.τ).loc Cert.MlpOutDxIdeal.main_arg1)
      ∧ r.2.mem ((c.tc : Thread Cert.MlpOutDxIdeal.nD Cert.MlpOutDxIdeal.τ).loc Cert.MlpOutDxIdeal.main_arg2) = m ((c.tc : Thread Cert.MlpOutDxIdeal.nD Cert.MlpOutDxIdeal.τ).loc Cert.MlpOutDxIdeal.main_arg2))
      ∧ r.2.sem = fun _ => 0)

def quiescent_MlpOutDxReferenceIdeal [hMlpOutDxReferenceIdeal : Cert.MlpOutDxReferenceIdeal.Facts] : Prop :=
  ∀ (m : (ℓ : Loc Cert.MlpOutDxReferenceIdeal.nD Cert.MlpOutDxReferenceIdeal.τ Cert.MlpOutDxReferenceIdeal.sig) → Buf (Elt Ideal) ℓ) (g : Dev Cert.MlpOutDxReferenceIdeal.nD → PrngReg), Pre_MlpOutDxReferenceIdeal m →
    θ_run (Cert.MlpOutDxReferenceIdeal.defs (F := Ideal)) (onTc (τ := Cert.MlpOutDxReferenceIdeal.τ) (Cert.MlpOutDxReferenceIdeal.main (F := Ideal))) ⟨m, fun _ => 0, g⟩ (fun r => (∀ c : Dev Cert.MlpOutDxReferenceIdeal.nD,
      r.2.mem ((c.tc : Thread Cert.MlpOutDxReferenceIdeal.nD Cert.MlpOutDxReferenceIdeal.τ).loc Cert.MlpOutDxReferenceIdeal.main_arg0) = m ((c.tc : Thread Cert.MlpOutDxReferenceIdeal.nD Cert.MlpOutDxReferenceIdeal.τ).loc Cert.MlpOutDxReferenceIdeal.main_arg0)
      ∧ r.2.mem ((c.tc : Thread Cert.MlpOutDxReferenceIdeal.nD Cert.MlpOutDxReferenceIdeal.τ).loc Cert.MlpOutDxReferenceIdeal.main_arg1) = m ((c.tc : Thread Cert.MlpOutDxReferenceIdeal.nD Cert.MlpOutDxReferenceIdeal.τ).loc Cert.MlpOutDxReferenceIdeal.main_arg1)
      ∧ r.2.mem ((c.tc : Thread Cert.MlpOutDxReferenceIdeal.nD Cert.MlpOutDxReferenceIdeal.τ).loc Cert.MlpOutDxReferenceIdeal.main_arg2) = m ((c.tc : Thread Cert.MlpOutDxReferenceIdeal.nD Cert.MlpOutDxReferenceIdeal.τ).loc Cert.MlpOutDxReferenceIdeal.main_arg2))
      ∧ r.2.sem = fun _ => 0)

def quiescent_MlpOutDw [hMlpOutDw : Cert.MlpOutDw.Facts] : Prop :=
  ∀ (m : (ℓ : Loc Cert.MlpOutDw.nD Cert.MlpOutDw.τ Cert.MlpOutDw.sig) → Buf (Elt Bits) ℓ) (g : Dev Cert.MlpOutDw.nD → PrngReg), Pre_MlpOutDw m →
    θ_run (Cert.MlpOutDw.defs (F := Bits)) (onTc (τ := Cert.MlpOutDw.τ) (Cert.MlpOutDw.main (F := Bits))) ⟨m, fun _ => 0, g⟩ (fun r => (∀ c : Dev Cert.MlpOutDw.nD,
      r.2.mem ((c.tc : Thread Cert.MlpOutDw.nD Cert.MlpOutDw.τ).loc Cert.MlpOutDw.main_arg0) = m ((c.tc : Thread Cert.MlpOutDw.nD Cert.MlpOutDw.τ).loc Cert.MlpOutDw.main_arg0)
      ∧ r.2.mem ((c.tc : Thread Cert.MlpOutDw.nD Cert.MlpOutDw.τ).loc Cert.MlpOutDw.main_arg1) = m ((c.tc : Thread Cert.MlpOutDw.nD Cert.MlpOutDw.τ).loc Cert.MlpOutDw.main_arg1))
      ∧ r.2.sem = fun _ => 0)

def quiescent_MlpOutDwIdeal [hMlpOutDwIdeal : Cert.MlpOutDwIdeal.Facts] : Prop :=
  ∀ (m : (ℓ : Loc Cert.MlpOutDwIdeal.nD Cert.MlpOutDwIdeal.τ Cert.MlpOutDwIdeal.sig) → Buf (Elt Ideal) ℓ) (g : Dev Cert.MlpOutDwIdeal.nD → PrngReg), Pre_MlpOutDwIdeal m →
    θ_run (Cert.MlpOutDwIdeal.defs (F := Ideal)) (onTc (τ := Cert.MlpOutDwIdeal.τ) (Cert.MlpOutDwIdeal.main (F := Ideal))) ⟨m, fun _ => 0, g⟩ (fun r => (∀ c : Dev Cert.MlpOutDwIdeal.nD,
      r.2.mem ((c.tc : Thread Cert.MlpOutDwIdeal.nD Cert.MlpOutDwIdeal.τ).loc Cert.MlpOutDwIdeal.main_arg0) = m ((c.tc : Thread Cert.MlpOutDwIdeal.nD Cert.MlpOutDwIdeal.τ).loc Cert.MlpOutDwIdeal.main_arg0)
      ∧ r.2.mem ((c.tc : Thread Cert.MlpOutDwIdeal.nD Cert.MlpOutDwIdeal.τ).loc Cert.MlpOutDwIdeal.main_arg1) = m ((c.tc : Thread Cert.MlpOutDwIdeal.nD Cert.MlpOutDwIdeal.τ).loc Cert.MlpOutDwIdeal.main_arg1))
      ∧ r.2.sem = fun _ => 0)

def quiescent_MlpOutDwReferenceIdeal [hMlpOutDwReferenceIdeal : Cert.MlpOutDwReferenceIdeal.Facts] : Prop :=
  ∀ (m : (ℓ : Loc Cert.MlpOutDwReferenceIdeal.nD Cert.MlpOutDwReferenceIdeal.τ Cert.MlpOutDwReferenceIdeal.sig) → Buf (Elt Ideal) ℓ) (g : Dev Cert.MlpOutDwReferenceIdeal.nD → PrngReg), Pre_MlpOutDwReferenceIdeal m →
    θ_run (Cert.MlpOutDwReferenceIdeal.defs (F := Ideal)) (onTc (τ := Cert.MlpOutDwReferenceIdeal.τ) (Cert.MlpOutDwReferenceIdeal.main (F := Ideal))) ⟨m, fun _ => 0, g⟩ (fun r => (∀ c : Dev Cert.MlpOutDwReferenceIdeal.nD,
      r.2.mem ((c.tc : Thread Cert.MlpOutDwReferenceIdeal.nD Cert.MlpOutDwReferenceIdeal.τ).loc Cert.MlpOutDwReferenceIdeal.main_arg0) = m ((c.tc : Thread Cert.MlpOutDwReferenceIdeal.nD Cert.MlpOutDwReferenceIdeal.τ).loc Cert.MlpOutDwReferenceIdeal.main_arg0)
      ∧ r.2.mem ((c.tc : Thread Cert.MlpOutDwReferenceIdeal.nD Cert.MlpOutDwReferenceIdeal.τ).loc Cert.MlpOutDwReferenceIdeal.main_arg1) = m ((c.tc : Thread Cert.MlpOutDwReferenceIdeal.nD Cert.MlpOutDwReferenceIdeal.τ).loc Cert.MlpOutDwReferenceIdeal.main_arg1))
      ∧ r.2.sem = fun _ => 0)

def quiescent_MlpInDx [hMlpInDx : Cert.MlpInDx.Facts] : Prop :=
  ∀ (m : (ℓ : Loc Cert.MlpInDx.nD Cert.MlpInDx.τ Cert.MlpInDx.sig) → Buf (Elt Bits) ℓ) (g : Dev Cert.MlpInDx.nD → PrngReg), Pre_MlpInDx m →
    θ_run (Cert.MlpInDx.defs (F := Bits)) (onTc (τ := Cert.MlpInDx.τ) (Cert.MlpInDx.main (F := Bits))) ⟨m, fun _ => 0, g⟩ (fun r => (∀ c : Dev Cert.MlpInDx.nD,
      r.2.mem ((c.tc : Thread Cert.MlpInDx.nD Cert.MlpInDx.τ).loc Cert.MlpInDx.main_arg0) = m ((c.tc : Thread Cert.MlpInDx.nD Cert.MlpInDx.τ).loc Cert.MlpInDx.main_arg0)
      ∧ r.2.mem ((c.tc : Thread Cert.MlpInDx.nD Cert.MlpInDx.τ).loc Cert.MlpInDx.main_arg1) = m ((c.tc : Thread Cert.MlpInDx.nD Cert.MlpInDx.τ).loc Cert.MlpInDx.main_arg1))
      ∧ r.2.sem = fun _ => 0)

def quiescent_MlpInDxIdeal [hMlpInDxIdeal : Cert.MlpInDxIdeal.Facts] : Prop :=
  ∀ (m : (ℓ : Loc Cert.MlpInDxIdeal.nD Cert.MlpInDxIdeal.τ Cert.MlpInDxIdeal.sig) → Buf (Elt Ideal) ℓ) (g : Dev Cert.MlpInDxIdeal.nD → PrngReg), Pre_MlpInDxIdeal m →
    θ_run (Cert.MlpInDxIdeal.defs (F := Ideal)) (onTc (τ := Cert.MlpInDxIdeal.τ) (Cert.MlpInDxIdeal.main (F := Ideal))) ⟨m, fun _ => 0, g⟩ (fun r => (∀ c : Dev Cert.MlpInDxIdeal.nD,
      r.2.mem ((c.tc : Thread Cert.MlpInDxIdeal.nD Cert.MlpInDxIdeal.τ).loc Cert.MlpInDxIdeal.main_arg0) = m ((c.tc : Thread Cert.MlpInDxIdeal.nD Cert.MlpInDxIdeal.τ).loc Cert.MlpInDxIdeal.main_arg0)
      ∧ r.2.mem ((c.tc : Thread Cert.MlpInDxIdeal.nD Cert.MlpInDxIdeal.τ).loc Cert.MlpInDxIdeal.main_arg1) = m ((c.tc : Thread Cert.MlpInDxIdeal.nD Cert.MlpInDxIdeal.τ).loc Cert.MlpInDxIdeal.main_arg1))
      ∧ r.2.sem = fun _ => 0)

def quiescent_MlpInDxReferenceIdeal [hMlpInDxReferenceIdeal : Cert.MlpInDxReferenceIdeal.Facts] : Prop :=
  ∀ (m : (ℓ : Loc Cert.MlpInDxReferenceIdeal.nD Cert.MlpInDxReferenceIdeal.τ Cert.MlpInDxReferenceIdeal.sig) → Buf (Elt Ideal) ℓ) (g : Dev Cert.MlpInDxReferenceIdeal.nD → PrngReg), Pre_MlpInDxReferenceIdeal m →
    θ_run (Cert.MlpInDxReferenceIdeal.defs (F := Ideal)) (onTc (τ := Cert.MlpInDxReferenceIdeal.τ) (Cert.MlpInDxReferenceIdeal.main (F := Ideal))) ⟨m, fun _ => 0, g⟩ (fun r => (∀ c : Dev Cert.MlpInDxReferenceIdeal.nD,
      r.2.mem ((c.tc : Thread Cert.MlpInDxReferenceIdeal.nD Cert.MlpInDxReferenceIdeal.τ).loc Cert.MlpInDxReferenceIdeal.main_arg0) = m ((c.tc : Thread Cert.MlpInDxReferenceIdeal.nD Cert.MlpInDxReferenceIdeal.τ).loc Cert.MlpInDxReferenceIdeal.main_arg0)
      ∧ r.2.mem ((c.tc : Thread Cert.MlpInDxReferenceIdeal.nD Cert.MlpInDxReferenceIdeal.τ).loc Cert.MlpInDxReferenceIdeal.main_arg1) = m ((c.tc : Thread Cert.MlpInDxReferenceIdeal.nD Cert.MlpInDxReferenceIdeal.τ).loc Cert.MlpInDxReferenceIdeal.main_arg1))
      ∧ r.2.sem = fun _ => 0)

def quiescent_MlpInDw [hMlpInDw : Cert.MlpInDw.Facts] : Prop :=
  ∀ (m : (ℓ : Loc Cert.MlpInDw.nD Cert.MlpInDw.τ Cert.MlpInDw.sig) → Buf (Elt Bits) ℓ) (g : Dev Cert.MlpInDw.nD → PrngReg), Pre_MlpInDw m →
    θ_run (Cert.MlpInDw.defs (F := Bits)) (onTc (τ := Cert.MlpInDw.τ) (Cert.MlpInDw.main (F := Bits))) ⟨m, fun _ => 0, g⟩ (fun r => (∀ c : Dev Cert.MlpInDw.nD,
      r.2.mem ((c.tc : Thread Cert.MlpInDw.nD Cert.MlpInDw.τ).loc Cert.MlpInDw.main_arg0) = m ((c.tc : Thread Cert.MlpInDw.nD Cert.MlpInDw.τ).loc Cert.MlpInDw.main_arg0)
      ∧ r.2.mem ((c.tc : Thread Cert.MlpInDw.nD Cert.MlpInDw.τ).loc Cert.MlpInDw.main_arg1) = m ((c.tc : Thread Cert.MlpInDw.nD Cert.MlpInDw.τ).loc Cert.MlpInDw.main_arg1))
      ∧ r.2.sem = fun _ => 0)

def quiescent_MlpInDwIdeal [hMlpInDwIdeal : Cert.MlpInDwIdeal.Facts] : Prop :=
  ∀ (m : (ℓ : Loc Cert.MlpInDwIdeal.nD Cert.MlpInDwIdeal.τ Cert.MlpInDwIdeal.sig) → Buf (Elt Ideal) ℓ) (g : Dev Cert.MlpInDwIdeal.nD → PrngReg), Pre_MlpInDwIdeal m →
    θ_run (Cert.MlpInDwIdeal.defs (F := Ideal)) (onTc (τ := Cert.MlpInDwIdeal.τ) (Cert.MlpInDwIdeal.main (F := Ideal))) ⟨m, fun _ => 0, g⟩ (fun r => (∀ c : Dev Cert.MlpInDwIdeal.nD,
      r.2.mem ((c.tc : Thread Cert.MlpInDwIdeal.nD Cert.MlpInDwIdeal.τ).loc Cert.MlpInDwIdeal.main_arg0) = m ((c.tc : Thread Cert.MlpInDwIdeal.nD Cert.MlpInDwIdeal.τ).loc Cert.MlpInDwIdeal.main_arg0)
      ∧ r.2.mem ((c.tc : Thread Cert.MlpInDwIdeal.nD Cert.MlpInDwIdeal.τ).loc Cert.MlpInDwIdeal.main_arg1) = m ((c.tc : Thread Cert.MlpInDwIdeal.nD Cert.MlpInDwIdeal.τ).loc Cert.MlpInDwIdeal.main_arg1))
      ∧ r.2.sem = fun _ => 0)

def quiescent_MlpInDwReferenceIdeal [hMlpInDwReferenceIdeal : Cert.MlpInDwReferenceIdeal.Facts] : Prop :=
  ∀ (m : (ℓ : Loc Cert.MlpInDwReferenceIdeal.nD Cert.MlpInDwReferenceIdeal.τ Cert.MlpInDwReferenceIdeal.sig) → Buf (Elt Ideal) ℓ) (g : Dev Cert.MlpInDwReferenceIdeal.nD → PrngReg), Pre_MlpInDwReferenceIdeal m →
    θ_run (Cert.MlpInDwReferenceIdeal.defs (F := Ideal)) (onTc (τ := Cert.MlpInDwReferenceIdeal.τ) (Cert.MlpInDwReferenceIdeal.main (F := Ideal))) ⟨m, fun _ => 0, g⟩ (fun r => (∀ c : Dev Cert.MlpInDwReferenceIdeal.nD,
      r.2.mem ((c.tc : Thread Cert.MlpInDwReferenceIdeal.nD Cert.MlpInDwReferenceIdeal.τ).loc Cert.MlpInDwReferenceIdeal.main_arg0) = m ((c.tc : Thread Cert.MlpInDwReferenceIdeal.nD Cert.MlpInDwReferenceIdeal.τ).loc Cert.MlpInDwReferenceIdeal.main_arg0)
      ∧ r.2.mem ((c.tc : Thread Cert.MlpInDwReferenceIdeal.nD Cert.MlpInDwReferenceIdeal.τ).loc Cert.MlpInDwReferenceIdeal.main_arg1) = m ((c.tc : Thread Cert.MlpInDwReferenceIdeal.nD Cert.MlpInDwReferenceIdeal.τ).loc Cert.MlpInDwReferenceIdeal.main_arg1))
      ∧ r.2.sem = fun _ => 0)

def quiescent_ProjMain [hProjMain : Cert.ProjMain.Facts] : Prop :=
  ∀ (m : (ℓ : Loc Cert.ProjMain.nD Cert.ProjMain.τ Cert.ProjMain.sig) → Buf (Elt Bits) ℓ) (g : Dev Cert.ProjMain.nD → PrngReg), Pre_ProjMain m →
    θ_run (Cert.ProjMain.defs (F := Bits)) (onTc (τ := Cert.ProjMain.τ) (Cert.ProjMain.main (F := Bits))) ⟨m, fun _ => 0, g⟩ (fun r => (∀ c : Dev Cert.ProjMain.nD,
      r.2.mem ((c.tc : Thread Cert.ProjMain.nD Cert.ProjMain.τ).loc Cert.ProjMain.main_arg0) = m ((c.tc : Thread Cert.ProjMain.nD Cert.ProjMain.τ).loc Cert.ProjMain.main_arg0)
      ∧ r.2.mem ((c.tc : Thread Cert.ProjMain.nD Cert.ProjMain.τ).loc Cert.ProjMain.main_arg1) = m ((c.tc : Thread Cert.ProjMain.nD Cert.ProjMain.τ).loc Cert.ProjMain.main_arg1))
      ∧ r.2.sem = fun _ => 0)

def quiescent_ProjMainIdeal [hProjMainIdeal : Cert.ProjMainIdeal.Facts] : Prop :=
  ∀ (m : (ℓ : Loc Cert.ProjMainIdeal.nD Cert.ProjMainIdeal.τ Cert.ProjMainIdeal.sig) → Buf (Elt Ideal) ℓ) (g : Dev Cert.ProjMainIdeal.nD → PrngReg), Pre_ProjMainIdeal m →
    θ_run (Cert.ProjMainIdeal.defs (F := Ideal)) (onTc (τ := Cert.ProjMainIdeal.τ) (Cert.ProjMainIdeal.main (F := Ideal))) ⟨m, fun _ => 0, g⟩ (fun r => (∀ c : Dev Cert.ProjMainIdeal.nD,
      r.2.mem ((c.tc : Thread Cert.ProjMainIdeal.nD Cert.ProjMainIdeal.τ).loc Cert.ProjMainIdeal.main_arg0) = m ((c.tc : Thread Cert.ProjMainIdeal.nD Cert.ProjMainIdeal.τ).loc Cert.ProjMainIdeal.main_arg0)
      ∧ r.2.mem ((c.tc : Thread Cert.ProjMainIdeal.nD Cert.ProjMainIdeal.τ).loc Cert.ProjMainIdeal.main_arg1) = m ((c.tc : Thread Cert.ProjMainIdeal.nD Cert.ProjMainIdeal.τ).loc Cert.ProjMainIdeal.main_arg1))
      ∧ r.2.sem = fun _ => 0)

def quiescent_ProjMainReferenceIdeal [hProjMainReferenceIdeal : Cert.ProjMainReferenceIdeal.Facts] : Prop :=
  ∀ (m : (ℓ : Loc Cert.ProjMainReferenceIdeal.nD Cert.ProjMainReferenceIdeal.τ Cert.ProjMainReferenceIdeal.sig) → Buf (Elt Ideal) ℓ) (g : Dev Cert.ProjMainReferenceIdeal.nD → PrngReg), Pre_ProjMainReferenceIdeal m →
    θ_run (Cert.ProjMainReferenceIdeal.defs (F := Ideal)) (onTc (τ := Cert.ProjMainReferenceIdeal.τ) (Cert.ProjMainReferenceIdeal.main (F := Ideal))) ⟨m, fun _ => 0, g⟩ (fun r => (∀ c : Dev Cert.ProjMainReferenceIdeal.nD,
      r.2.mem ((c.tc : Thread Cert.ProjMainReferenceIdeal.nD Cert.ProjMainReferenceIdeal.τ).loc Cert.ProjMainReferenceIdeal.main_arg0) = m ((c.tc : Thread Cert.ProjMainReferenceIdeal.nD Cert.ProjMainReferenceIdeal.τ).loc Cert.ProjMainReferenceIdeal.main_arg0)
      ∧ r.2.mem ((c.tc : Thread Cert.ProjMainReferenceIdeal.nD Cert.ProjMainReferenceIdeal.τ).loc Cert.ProjMainReferenceIdeal.main_arg1) = m ((c.tc : Thread Cert.ProjMainReferenceIdeal.nD Cert.ProjMainReferenceIdeal.τ).loc Cert.ProjMainReferenceIdeal.main_arg1))
      ∧ r.2.sem = fun _ => 0)

def quiescent_ProjMainDx [hProjMainDx : Cert.ProjMainDx.Facts] : Prop :=
  ∀ (m : (ℓ : Loc Cert.ProjMainDx.nD Cert.ProjMainDx.τ Cert.ProjMainDx.sig) → Buf (Elt Bits) ℓ) (g : Dev Cert.ProjMainDx.nD → PrngReg), Pre_ProjMainDx m →
    θ_run (Cert.ProjMainDx.defs (F := Bits)) (onTc (τ := Cert.ProjMainDx.τ) (Cert.ProjMainDx.main (F := Bits))) ⟨m, fun _ => 0, g⟩ (fun r => (∀ c : Dev Cert.ProjMainDx.nD,
      r.2.mem ((c.tc : Thread Cert.ProjMainDx.nD Cert.ProjMainDx.τ).loc Cert.ProjMainDx.main_arg0) = m ((c.tc : Thread Cert.ProjMainDx.nD Cert.ProjMainDx.τ).loc Cert.ProjMainDx.main_arg0)
      ∧ r.2.mem ((c.tc : Thread Cert.ProjMainDx.nD Cert.ProjMainDx.τ).loc Cert.ProjMainDx.main_arg1) = m ((c.tc : Thread Cert.ProjMainDx.nD Cert.ProjMainDx.τ).loc Cert.ProjMainDx.main_arg1)
      ∧ r.2.mem ((c.tc : Thread Cert.ProjMainDx.nD Cert.ProjMainDx.τ).loc Cert.ProjMainDx.main_arg2) = m ((c.tc : Thread Cert.ProjMainDx.nD Cert.ProjMainDx.τ).loc Cert.ProjMainDx.main_arg2)
      ∧ r.2.mem ((c.tc : Thread Cert.ProjMainDx.nD Cert.ProjMainDx.τ).loc Cert.ProjMainDx.main_arg3) = m ((c.tc : Thread Cert.ProjMainDx.nD Cert.ProjMainDx.τ).loc Cert.ProjMainDx.main_arg3))
      ∧ r.2.sem = fun _ => 0)

def quiescent_ProjMainDxIdeal [hProjMainDxIdeal : Cert.ProjMainDxIdeal.Facts] : Prop :=
  ∀ (m : (ℓ : Loc Cert.ProjMainDxIdeal.nD Cert.ProjMainDxIdeal.τ Cert.ProjMainDxIdeal.sig) → Buf (Elt Ideal) ℓ) (g : Dev Cert.ProjMainDxIdeal.nD → PrngReg), Pre_ProjMainDxIdeal m →
    θ_run (Cert.ProjMainDxIdeal.defs (F := Ideal)) (onTc (τ := Cert.ProjMainDxIdeal.τ) (Cert.ProjMainDxIdeal.main (F := Ideal))) ⟨m, fun _ => 0, g⟩ (fun r => (∀ c : Dev Cert.ProjMainDxIdeal.nD,
      r.2.mem ((c.tc : Thread Cert.ProjMainDxIdeal.nD Cert.ProjMainDxIdeal.τ).loc Cert.ProjMainDxIdeal.main_arg0) = m ((c.tc : Thread Cert.ProjMainDxIdeal.nD Cert.ProjMainDxIdeal.τ).loc Cert.ProjMainDxIdeal.main_arg0)
      ∧ r.2.mem ((c.tc : Thread Cert.ProjMainDxIdeal.nD Cert.ProjMainDxIdeal.τ).loc Cert.ProjMainDxIdeal.main_arg1) = m ((c.tc : Thread Cert.ProjMainDxIdeal.nD Cert.ProjMainDxIdeal.τ).loc Cert.ProjMainDxIdeal.main_arg1)
      ∧ r.2.mem ((c.tc : Thread Cert.ProjMainDxIdeal.nD Cert.ProjMainDxIdeal.τ).loc Cert.ProjMainDxIdeal.main_arg2) = m ((c.tc : Thread Cert.ProjMainDxIdeal.nD Cert.ProjMainDxIdeal.τ).loc Cert.ProjMainDxIdeal.main_arg2)
      ∧ r.2.mem ((c.tc : Thread Cert.ProjMainDxIdeal.nD Cert.ProjMainDxIdeal.τ).loc Cert.ProjMainDxIdeal.main_arg3) = m ((c.tc : Thread Cert.ProjMainDxIdeal.nD Cert.ProjMainDxIdeal.τ).loc Cert.ProjMainDxIdeal.main_arg3))
      ∧ r.2.sem = fun _ => 0)

def quiescent_ProjMainDxReferenceIdeal [hProjMainDxReferenceIdeal : Cert.ProjMainDxReferenceIdeal.Facts] : Prop :=
  ∀ (m : (ℓ : Loc Cert.ProjMainDxReferenceIdeal.nD Cert.ProjMainDxReferenceIdeal.τ Cert.ProjMainDxReferenceIdeal.sig) → Buf (Elt Ideal) ℓ) (g : Dev Cert.ProjMainDxReferenceIdeal.nD → PrngReg), Pre_ProjMainDxReferenceIdeal m →
    θ_run (Cert.ProjMainDxReferenceIdeal.defs (F := Ideal)) (onTc (τ := Cert.ProjMainDxReferenceIdeal.τ) (Cert.ProjMainDxReferenceIdeal.main (F := Ideal))) ⟨m, fun _ => 0, g⟩ (fun r => (∀ c : Dev Cert.ProjMainDxReferenceIdeal.nD,
      r.2.mem ((c.tc : Thread Cert.ProjMainDxReferenceIdeal.nD Cert.ProjMainDxReferenceIdeal.τ).loc Cert.ProjMainDxReferenceIdeal.main_arg0) = m ((c.tc : Thread Cert.ProjMainDxReferenceIdeal.nD Cert.ProjMainDxReferenceIdeal.τ).loc Cert.ProjMainDxReferenceIdeal.main_arg0)
      ∧ r.2.mem ((c.tc : Thread Cert.ProjMainDxReferenceIdeal.nD Cert.ProjMainDxReferenceIdeal.τ).loc Cert.ProjMainDxReferenceIdeal.main_arg1) = m ((c.tc : Thread Cert.ProjMainDxReferenceIdeal.nD Cert.ProjMainDxReferenceIdeal.τ).loc Cert.ProjMainDxReferenceIdeal.main_arg1)
      ∧ r.2.mem ((c.tc : Thread Cert.ProjMainDxReferenceIdeal.nD Cert.ProjMainDxReferenceIdeal.τ).loc Cert.ProjMainDxReferenceIdeal.main_arg2) = m ((c.tc : Thread Cert.ProjMainDxReferenceIdeal.nD Cert.ProjMainDxReferenceIdeal.τ).loc Cert.ProjMainDxReferenceIdeal.main_arg2)
      ∧ r.2.mem ((c.tc : Thread Cert.ProjMainDxReferenceIdeal.nD Cert.ProjMainDxReferenceIdeal.τ).loc Cert.ProjMainDxReferenceIdeal.main_arg3) = m ((c.tc : Thread Cert.ProjMainDxReferenceIdeal.nD Cert.ProjMainDxReferenceIdeal.τ).loc Cert.ProjMainDxReferenceIdeal.main_arg3))
      ∧ r.2.sem = fun _ => 0)

def quiescent_ProjMainDw [hProjMainDw : Cert.ProjMainDw.Facts] : Prop :=
  ∀ (m : (ℓ : Loc Cert.ProjMainDw.nD Cert.ProjMainDw.τ Cert.ProjMainDw.sig) → Buf (Elt Bits) ℓ) (g : Dev Cert.ProjMainDw.nD → PrngReg), Pre_ProjMainDw m →
    θ_run (Cert.ProjMainDw.defs (F := Bits)) (onTc (τ := Cert.ProjMainDw.τ) (Cert.ProjMainDw.main (F := Bits))) ⟨m, fun _ => 0, g⟩ (fun r => (∀ c : Dev Cert.ProjMainDw.nD,
      r.2.mem ((c.tc : Thread Cert.ProjMainDw.nD Cert.ProjMainDw.τ).loc Cert.ProjMainDw.main_arg0) = m ((c.tc : Thread Cert.ProjMainDw.nD Cert.ProjMainDw.τ).loc Cert.ProjMainDw.main_arg0)
      ∧ r.2.mem ((c.tc : Thread Cert.ProjMainDw.nD Cert.ProjMainDw.τ).loc Cert.ProjMainDw.main_arg1) = m ((c.tc : Thread Cert.ProjMainDw.nD Cert.ProjMainDw.τ).loc Cert.ProjMainDw.main_arg1))
      ∧ r.2.sem = fun _ => 0)

def quiescent_ProjMainDwIdeal [hProjMainDwIdeal : Cert.ProjMainDwIdeal.Facts] : Prop :=
  ∀ (m : (ℓ : Loc Cert.ProjMainDwIdeal.nD Cert.ProjMainDwIdeal.τ Cert.ProjMainDwIdeal.sig) → Buf (Elt Ideal) ℓ) (g : Dev Cert.ProjMainDwIdeal.nD → PrngReg), Pre_ProjMainDwIdeal m →
    θ_run (Cert.ProjMainDwIdeal.defs (F := Ideal)) (onTc (τ := Cert.ProjMainDwIdeal.τ) (Cert.ProjMainDwIdeal.main (F := Ideal))) ⟨m, fun _ => 0, g⟩ (fun r => (∀ c : Dev Cert.ProjMainDwIdeal.nD,
      r.2.mem ((c.tc : Thread Cert.ProjMainDwIdeal.nD Cert.ProjMainDwIdeal.τ).loc Cert.ProjMainDwIdeal.main_arg0) = m ((c.tc : Thread Cert.ProjMainDwIdeal.nD Cert.ProjMainDwIdeal.τ).loc Cert.ProjMainDwIdeal.main_arg0)
      ∧ r.2.mem ((c.tc : Thread Cert.ProjMainDwIdeal.nD Cert.ProjMainDwIdeal.τ).loc Cert.ProjMainDwIdeal.main_arg1) = m ((c.tc : Thread Cert.ProjMainDwIdeal.nD Cert.ProjMainDwIdeal.τ).loc Cert.ProjMainDwIdeal.main_arg1))
      ∧ r.2.sem = fun _ => 0)

def quiescent_ProjMainDwReferenceIdeal [hProjMainDwReferenceIdeal : Cert.ProjMainDwReferenceIdeal.Facts] : Prop :=
  ∀ (m : (ℓ : Loc Cert.ProjMainDwReferenceIdeal.nD Cert.ProjMainDwReferenceIdeal.τ Cert.ProjMainDwReferenceIdeal.sig) → Buf (Elt Ideal) ℓ) (g : Dev Cert.ProjMainDwReferenceIdeal.nD → PrngReg), Pre_ProjMainDwReferenceIdeal m →
    θ_run (Cert.ProjMainDwReferenceIdeal.defs (F := Ideal)) (onTc (τ := Cert.ProjMainDwReferenceIdeal.τ) (Cert.ProjMainDwReferenceIdeal.main (F := Ideal))) ⟨m, fun _ => 0, g⟩ (fun r => (∀ c : Dev Cert.ProjMainDwReferenceIdeal.nD,
      r.2.mem ((c.tc : Thread Cert.ProjMainDwReferenceIdeal.nD Cert.ProjMainDwReferenceIdeal.τ).loc Cert.ProjMainDwReferenceIdeal.main_arg0) = m ((c.tc : Thread Cert.ProjMainDwReferenceIdeal.nD Cert.ProjMainDwReferenceIdeal.τ).loc Cert.ProjMainDwReferenceIdeal.main_arg0)
      ∧ r.2.mem ((c.tc : Thread Cert.ProjMainDwReferenceIdeal.nD Cert.ProjMainDwReferenceIdeal.τ).loc Cert.ProjMainDwReferenceIdeal.main_arg1) = m ((c.tc : Thread Cert.ProjMainDwReferenceIdeal.nD Cert.ProjMainDwReferenceIdeal.τ).loc Cert.ProjMainDwReferenceIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1))
      ∧ r.2.sem = fun _ => 0)

def quiescent_OutProjDx [hOutProjDx : Cert.OutProjDx.Facts] : Prop :=
  ∀ (m : (ℓ : Loc Cert.OutProjDx.nD Cert.OutProjDx.τ Cert.OutProjDx.sig) → Buf (Elt Bits) ℓ) (g : Dev Cert.OutProjDx.nD → PrngReg), Pre_OutProjDx m →
    θ_run (Cert.OutProjDx.defs (F := Bits)) (onTc (τ := Cert.OutProjDx.τ) (Cert.OutProjDx.main (F := Bits))) ⟨m, fun _ => 0, g⟩ (fun r => (∀ c : Dev Cert.OutProjDx.nD,
      r.2.mem ((c.tc : Thread Cert.OutProjDx.nD Cert.OutProjDx.τ).loc Cert.OutProjDx.main_arg0) = m ((c.tc : Thread Cert.OutProjDx.nD Cert.OutProjDx.τ).loc Cert.OutProjDx.main_arg0)
      ∧ r.2.mem ((c.tc : Thread Cert.OutProjDx.nD Cert.OutProjDx.τ).loc Cert.OutProjDx.main_arg1) = m ((c.tc : Thread Cert.OutProjDx.nD Cert.OutProjDx.τ).loc Cert.OutProjDx.main_arg1))
      ∧ r.2.sem = fun _ => 0)

def quiescent_OutProjDxIdeal [hOutProjDxIdeal : Cert.OutProjDxIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg), Pre_OutProjDxIdeal m →
    θ_run (Cert.OutProjDxIdeal.defs (F := Ideal)) (onTc (τ := Cert.OutProjDxIdeal.τ) (Cert.OutProjDxIdeal.main (F := Ideal))) ⟨m, fun _ => 0, g⟩ (fun r => (∀ c : Dev Cert.OutProjDxIdeal.nD,
      r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
      ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1))
      ∧ r.2.sem = fun _ => 0)

def quiescent_OutProjDxReferenceIdeal [hOutProjDxReferenceIdeal : Cert.OutProjDxReferenceIdeal.Facts] : Prop :=
  ∀ (m : (ℓ : Loc Cert.OutProjDxReferenceIdeal.nD Cert.OutProjDxReferenceIdeal.τ Cert.OutProjDxReferenceIdeal.sig) → Buf (Elt Ideal) ℓ) (g : Dev Cert.OutProjDxReferenceIdeal.nD → PrngReg), Pre_OutProjDxReferenceIdeal m →
    θ_run (Cert.OutProjDxReferenceIdeal.defs (F := Ideal)) (onTc (τ := Cert.OutProjDxReferenceIdeal.τ) (Cert.OutProjDxReferenceIdeal.main (F := Ideal))) ⟨m, fun _ => 0, g⟩ (fun r => (∀ c : Dev Cert.OutProjDxReferenceIdeal.nD,
      r.2.mem ((c.tc : Thread Cert.OutProjDxReferenceIdeal.nD Cert.OutProjDxReferenceIdeal.τ).loc Cert.OutProjDxReferenceIdeal.main_arg0) = m ((c.tc : Thread Cert.OutProjDxReferenceIdeal.nD Cert.OutProjDxReferenceIdeal.τ).loc Cert.OutProjDxReferenceIdeal.main_arg0)
      ∧ r.2.mem ((c.tc : Thread Cert.OutProjDxReferenceIdeal.nD Cert.OutProjDxReferenceIdeal.τ).loc Cert.OutProjDxReferenceIdeal.main_arg1) = m ((c.tc : Thread Cert.OutProjDxReferenceIdeal.nD Cert.OutProjDxReferenceIdeal.τ).loc Cert.OutProjDxReferenceIdeal.main_arg1))
      ∧ r.2.sem = fun _ => 0)

def quiescent_OutProjDw [hOutProjDw : Cert.OutProjDw.Facts] : Prop :=
  ∀ (m : (ℓ : Loc Cert.OutProjDw.nD Cert.OutProjDw.τ Cert.OutProjDw.sig) → Buf (Elt Bits) ℓ) (g : Dev Cert.OutProjDw.nD → PrngReg), Pre_OutProjDw m →
    θ_run (Cert.OutProjDw.defs (F := Bits)) (onTc (τ := Cert.OutProjDw.τ) (Cert.OutProjDw.main (F := Bits))) ⟨m, fun _ => 0, g⟩ (fun r => (∀ c : Dev Cert.OutProjDw.nD,
      r.2.mem ((c.tc : Thread Cert.OutProjDw.nD Cert.OutProjDw.τ).loc Cert.OutProjDw.main_arg0) = m ((c.tc : Thread Cert.OutProjDw.nD Cert.OutProjDw.τ).loc Cert.OutProjDw.main_arg0)
      ∧ r.2.mem ((c.tc : Thread Cert.OutProjDw.nD Cert.OutProjDw.τ).loc Cert.OutProjDw.main_arg1) = m ((c.tc : Thread Cert.OutProjDw.nD Cert.OutProjDw.τ).loc Cert.OutProjDw.main_arg1))
      ∧ r.2.sem = fun _ => 0)

def quiescent_OutProjDwIdeal [hOutProjDwIdeal : Cert.OutProjDwIdeal.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg), Pre_OutProjDwIdeal m →
    θ_run (Cert.OutProjDwIdeal.defs (F := Ideal)) (onTc (τ := Cert.OutProjDwIdeal.τ) (Cert.OutProjDwIdeal.main (F := Ideal))) ⟨m, fun _ => 0, g⟩ (fun r => (∀ c : Dev Cert.OutProjDwIdeal.nD,
      r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
      ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1))
      ∧ r.2.sem = fun _ => 0)

def quiescent_OutProjDwReferenceIdeal [hOutProjDwReferenceIdeal : Cert.OutProjDwReferenceIdeal.Facts] : Prop :=
  ∀ (m : (ℓ : Loc Cert.OutProjDwReferenceIdeal.nD Cert.OutProjDwReferenceIdeal.τ Cert.OutProjDwReferenceIdeal.sig) → Buf (Elt Ideal) ℓ) (g : Dev Cert.OutProjDwReferenceIdeal.nD → PrngReg), Pre_OutProjDwReferenceIdeal m →
    θ_run (Cert.OutProjDwReferenceIdeal.defs (F := Ideal)) (onTc (τ := Cert.OutProjDwReferenceIdeal.τ) (Cert.OutProjDwReferenceIdeal.main (F := Ideal))) ⟨m, fun _ => 0, g⟩ (fun r => (∀ c : Dev Cert.OutProjDwReferenceIdeal.nD,
      r.2.mem ((c.tc : Thread Cert.OutProjDwReferenceIdeal.nD Cert.OutProjDwReferenceIdeal.τ).loc Cert.OutProjDwReferenceIdeal.main_arg0) = m ((c.tc : Thread Cert.OutProjDwReferenceIdeal.nD Cert.OutProjDwReferenceIdeal.τ).loc Cert.OutProjDwReferenceIdeal.main_arg0)
      ∧ r.2.mem ((c.tc : Thread Cert.OutProjDwReferenceIdeal.nD Cert.OutProjDwReferenceIdeal.τ).loc Cert.OutProjDwReferenceIdeal.main_arg1) = m ((c.tc : Thread Cert.OutProjDwReferenceIdeal.nD Cert.OutProjDwReferenceIdeal.τ).loc Cert.OutProjDwReferenceIdeal.main_arg1))
      ∧ r.2.sem = fun _ => 0)

def quiescent_ProjSmall [hProjSmall : Cert.ProjSmall.Facts] : Prop :=
  ∀ (m : (ℓ : Loc Cert.ProjSmall.nD Cert.ProjSmall.τ Cert.ProjSmall.sig) → Buf (Elt Bits) ℓ) (g : Dev Cert.ProjSmall.nD → PrngReg), Pre_ProjSmall m →
    θ_run (Cert.ProjSmall.defs (F := Bits)) (onTc (τ := Cert.ProjSmall.τ) (Cert.ProjSmall.main (F := Bits))) ⟨m, fun _ => 0, g⟩ (fun r => (∀ c : Dev Cert.ProjSmall.nD,
      r.2.mem ((c.tc : Thread Cert.ProjSmall.nD Cert.ProjSmall.τ).loc Cert.ProjSmall.main_arg0) = m ((c.tc : Thread Cert.ProjSmall.nD Cert.ProjSmall.τ).loc Cert.ProjSmall.main_arg0)
      ∧ r.2.mem ((c.tc : Thread Cert.ProjSmall.nD Cert.ProjSmall.τ).loc Cert.ProjSmall.main_arg1) = m ((c.tc : Thread Cert.ProjSmall.nD Cert.ProjSmall.τ).loc Cert.ProjSmall.main_arg1))
      ∧ r.2.sem = fun _ => 0)

def quiescent_ProjSmallIdeal [hProjSmallIdeal : Cert.ProjSmallIdeal.Facts] : Prop :=
  ∀ (m : (ℓ : Loc Cert.ProjSmallIdeal.nD Cert.ProjSmallIdeal.τ Cert.ProjSmallIdeal.sig) → Buf (Elt Ideal) ℓ) (g : Dev Cert.ProjSmallIdeal.nD → PrngReg), Pre_ProjSmallIdeal m →
    θ_run (Cert.ProjSmallIdeal.defs (F := Ideal)) (onTc (τ := Cert.ProjSmallIdeal.τ) (Cert.ProjSmallIdeal.main (F := Ideal))) ⟨m, fun _ => 0, g⟩ (fun r => (∀ c : Dev Cert.ProjSmallIdeal.nD,
      r.2.mem ((c.tc : Thread Cert.ProjSmallIdeal.nD Cert.ProjSmallIdeal.τ).loc Cert.ProjSmallIdeal.main_arg0) = m ((c.tc : Thread Cert.ProjSmallIdeal.nD Cert.ProjSmallIdeal.τ).loc Cert.ProjSmallIdeal.main_arg0)
      ∧ r.2.mem ((c.tc : Thread Cert.ProjSmallIdeal.nD Cert.ProjSmallIdeal.τ).loc Cert.ProjSmallIdeal.main_arg1) = m ((c.tc : Thread Cert.ProjSmallIdeal.nD Cert.ProjSmallIdeal.τ).loc Cert.ProjSmallIdeal.main_arg1))
      ∧ r.2.sem = fun _ => 0)

def quiescent_ProjSmallReferenceIdeal [hProjSmallReferenceIdeal : Cert.ProjSmallReferenceIdeal.Facts] : Prop :=
  ∀ (m : (ℓ : Loc Cert.ProjSmallReferenceIdeal.nD Cert.ProjSmallReferenceIdeal.τ Cert.ProjSmallReferenceIdeal.sig) → Buf (Elt Ideal) ℓ) (g : Dev Cert.ProjSmallReferenceIdeal.nD → PrngReg), Pre_ProjSmallReferenceIdeal m →
    θ_run (Cert.ProjSmallReferenceIdeal.defs (F := Ideal)) (onTc (τ := Cert.ProjSmallReferenceIdeal.τ) (Cert.ProjSmallReferenceIdeal.main (F := Ideal))) ⟨m, fun _ => 0, g⟩ (fun r => (∀ c : Dev Cert.ProjSmallReferenceIdeal.nD,
      r.2.mem ((c.tc : Thread Cert.ProjSmallReferenceIdeal.nD Cert.ProjSmallReferenceIdeal.τ).loc Cert.ProjSmallReferenceIdeal.main_arg0) = m ((c.tc : Thread Cert.ProjSmallReferenceIdeal.nD Cert.ProjSmallReferenceIdeal.τ).loc Cert.ProjSmallReferenceIdeal.main_arg0)
      ∧ r.2.mem ((c.tc : Thread Cert.ProjSmallReferenceIdeal.nD Cert.ProjSmallReferenceIdeal.τ).loc Cert.ProjSmallReferenceIdeal.main_arg1) = m ((c.tc : Thread Cert.ProjSmallReferenceIdeal.nD Cert.ProjSmallReferenceIdeal.τ).loc Cert.ProjSmallReferenceIdeal.main_arg1))
      ∧ r.2.sem = fun _ => 0)

def quiescent_GateDx [hGateDx : Cert.GateDx.Facts] : Prop :=
  ∀ (m : (ℓ : Loc Cert.GateDx.nD Cert.GateDx.τ Cert.GateDx.sig) → Buf (Elt Bits) ℓ) (g : Dev Cert.GateDx.nD → PrngReg), Pre_GateDx m →
    θ_run (Cert.GateDx.defs (F := Bits)) (onTc (τ := Cert.GateDx.τ) (Cert.GateDx.main (F := Bits))) ⟨m, fun _ => 0, g⟩ (fun r => (∀ c : Dev Cert.GateDx.nD,
      r.2.mem ((c.tc : Thread Cert.GateDx.nD Cert.GateDx.τ).loc Cert.GateDx.main_arg0) = m ((c.tc : Thread Cert.GateDx.nD Cert.GateDx.τ).loc Cert.GateDx.main_arg0)
      ∧ r.2.mem ((c.tc : Thread Cert.GateDx.nD Cert.GateDx.τ).loc Cert.GateDx.main_arg1) = m ((c.tc : Thread Cert.GateDx.nD Cert.GateDx.τ).loc Cert.GateDx.main_arg1)
      ∧ r.2.mem ((c.tc : Thread Cert.GateDx.nD Cert.GateDx.τ).loc Cert.GateDx.main_arg2) = m ((c.tc : Thread Cert.GateDx.nD Cert.GateDx.τ).loc Cert.GateDx.main_arg2))
      ∧ r.2.sem = fun _ => 0)

def quiescent_GateDxIdeal [hGateDxIdeal : Cert.GateDxIdeal.Facts] : Prop :=
  ∀ (m : (ℓ : Loc Cert.GateDxIdeal.nD Cert.GateDxIdeal.τ Cert.GateDxIdeal.sig) → Buf (Elt Ideal) ℓ) (g : Dev Cert.GateDxIdeal.nD → PrngReg), Pre_GateDxIdeal m →
    θ_run (Cert.GateDxIdeal.defs (F := Ideal)) (onTc (τ := Cert.GateDxIdeal.τ) (Cert.GateDxIdeal.main (F := Ideal))) ⟨m, fun _ => 0, g⟩ (fun r => (∀ c : Dev Cert.GateDxIdeal.nD,
      r.2.mem ((c.tc : Thread Cert.GateDxIdeal.nD Cert.GateDxIdeal.τ).loc Cert.GateDxIdeal.main_arg0) = m ((c.tc : Thread Cert.GateDxIdeal.nD Cert.GateDxIdeal.τ).loc Cert.GateDxIdeal.main_arg0)
      ∧ r.2.mem ((c.tc : Thread Cert.GateDxIdeal.nD Cert.GateDxIdeal.τ).loc Cert.GateDxIdeal.main_arg1) = m ((c.tc : Thread Cert.GateDxIdeal.nD Cert.GateDxIdeal.τ).loc Cert.GateDxIdeal.main_arg1)
      ∧ r.2.mem ((c.tc : Thread Cert.GateDxIdeal.nD Cert.GateDxIdeal.τ).loc Cert.GateDxIdeal.main_arg2) = m ((c.tc : Thread Cert.GateDxIdeal.nD Cert.GateDxIdeal.τ).loc Cert.GateDxIdeal.main_arg2))
      ∧ r.2.sem = fun _ => 0)

def quiescent_GateDxReferenceIdeal [hGateDxReferenceIdeal : Cert.GateDxReferenceIdeal.Facts] : Prop :=
  ∀ (m : (ℓ : Loc Cert.GateDxReferenceIdeal.nD Cert.GateDxReferenceIdeal.τ Cert.GateDxReferenceIdeal.sig) → Buf (Elt Ideal) ℓ) (g : Dev Cert.GateDxReferenceIdeal.nD → PrngReg), Pre_GateDxReferenceIdeal m →
    θ_run (Cert.GateDxReferenceIdeal.defs (F := Ideal)) (onTc (τ := Cert.GateDxReferenceIdeal.τ) (Cert.GateDxReferenceIdeal.main (F := Ideal))) ⟨m, fun _ => 0, g⟩ (fun r => (∀ c : Dev Cert.GateDxReferenceIdeal.nD,
      r.2.mem ((c.tc : Thread Cert.GateDxReferenceIdeal.nD Cert.GateDxReferenceIdeal.τ).loc Cert.GateDxReferenceIdeal.main_arg0) = m ((c.tc : Thread Cert.GateDxReferenceIdeal.nD Cert.GateDxReferenceIdeal.τ).loc Cert.GateDxReferenceIdeal.main_arg0)
      ∧ r.2.mem ((c.tc : Thread Cert.GateDxReferenceIdeal.nD Cert.GateDxReferenceIdeal.τ).loc Cert.GateDxReferenceIdeal.main_arg1) = m ((c.tc : Thread Cert.GateDxReferenceIdeal.nD Cert.GateDxReferenceIdeal.τ).loc Cert.GateDxReferenceIdeal.main_arg1)
      ∧ r.2.mem ((c.tc : Thread Cert.GateDxReferenceIdeal.nD Cert.GateDxReferenceIdeal.τ).loc Cert.GateDxReferenceIdeal.main_arg2) = m ((c.tc : Thread Cert.GateDxReferenceIdeal.nD Cert.GateDxReferenceIdeal.τ).loc Cert.GateDxReferenceIdeal.main_arg2))
      ∧ r.2.sem = fun _ => 0)

def quiescent_GateDw [hGateDw : Cert.GateDw.Facts] : Prop :=
  ∀ (m : (ℓ : Loc Cert.GateDw.nD Cert.GateDw.τ Cert.GateDw.sig) → Buf (Elt Bits) ℓ) (g : Dev Cert.GateDw.nD → PrngReg), Pre_GateDw m →
    θ_run (Cert.GateDw.defs (F := Bits)) (onTc (τ := Cert.GateDw.τ) (Cert.GateDw.main (F := Bits))) ⟨m, fun _ => 0, g⟩ (fun r => (∀ c : Dev Cert.GateDw.nD,
      r.2.mem ((c.tc : Thread Cert.GateDw.nD Cert.GateDw.τ).loc Cert.GateDw.main_arg0) = m ((c.tc : Thread Cert.GateDw.nD Cert.GateDw.τ).loc Cert.GateDw.main_arg0)
      ∧ r.2.mem ((c.tc : Thread Cert.GateDw.nD Cert.GateDw.τ).loc Cert.GateDw.main_arg1) = m ((c.tc : Thread Cert.GateDw.nD Cert.GateDw.τ).loc Cert.GateDw.main_arg1))
      ∧ r.2.sem = fun _ => 0)

def quiescent_GateDwIdeal [hGateDwIdeal : Cert.GateDwIdeal.Facts] : Prop :=
  ∀ (m : (ℓ : Loc Cert.GateDwIdeal.nD Cert.GateDwIdeal.τ Cert.GateDwIdeal.sig) → Buf (Elt Ideal) ℓ) (g : Dev Cert.GateDwIdeal.nD → PrngReg), Pre_GateDwIdeal m →
    θ_run (Cert.GateDwIdeal.defs (F := Ideal)) (onTc (τ := Cert.GateDwIdeal.τ) (Cert.GateDwIdeal.main (F := Ideal))) ⟨m, fun _ => 0, g⟩ (fun r => (∀ c : Dev Cert.GateDwIdeal.nD,
      r.2.mem ((c.tc : Thread Cert.GateDwIdeal.nD Cert.GateDwIdeal.τ).loc Cert.GateDwIdeal.main_arg0) = m ((c.tc : Thread Cert.GateDwIdeal.nD Cert.GateDwIdeal.τ).loc Cert.GateDwIdeal.main_arg0)
      ∧ r.2.mem ((c.tc : Thread Cert.GateDwIdeal.nD Cert.GateDwIdeal.τ).loc Cert.GateDwIdeal.main_arg1) = m ((c.tc : Thread Cert.GateDwIdeal.nD Cert.GateDwIdeal.τ).loc Cert.GateDwIdeal.main_arg1))
      ∧ r.2.sem = fun _ => 0)

def quiescent_GateDwReferenceIdeal [hGateDwReferenceIdeal : Cert.GateDwReferenceIdeal.Facts] : Prop :=
  ∀ (m : (ℓ : Loc Cert.GateDwReferenceIdeal.nD Cert.GateDwReferenceIdeal.τ Cert.GateDwReferenceIdeal.sig) → Buf (Elt Ideal) ℓ) (g : Dev Cert.GateDwReferenceIdeal.nD → PrngReg), Pre_GateDwReferenceIdeal m →
    θ_run (Cert.GateDwReferenceIdeal.defs (F := Ideal)) (onTc (τ := Cert.GateDwReferenceIdeal.τ) (Cert.GateDwReferenceIdeal.main (F := Ideal))) ⟨m, fun _ => 0, g⟩ (fun r => (∀ c : Dev Cert.GateDwReferenceIdeal.nD,
      r.2.mem ((c.tc : Thread Cert.GateDwReferenceIdeal.nD Cert.GateDwReferenceIdeal.τ).loc Cert.GateDwReferenceIdeal.main_arg0) = m ((c.tc : Thread Cert.GateDwReferenceIdeal.nD Cert.GateDwReferenceIdeal.τ).loc Cert.GateDwReferenceIdeal.main_arg0)
      ∧ r.2.mem ((c.tc : Thread Cert.GateDwReferenceIdeal.nD Cert.GateDwReferenceIdeal.τ).loc Cert.GateDwReferenceIdeal.main_arg1) = m ((c.tc : Thread Cert.GateDwReferenceIdeal.nD Cert.GateDwReferenceIdeal.τ).loc Cert.GateDwReferenceIdeal.main_arg1))
      ∧ r.2.sem = fun _ => 0)

def quiescent_ProjSmallDw [hProjSmallDw : Cert.ProjSmallDw.Facts] : Prop :=
  ∀ (m : (ℓ : Loc Cert.ProjSmallDw.nD Cert.ProjSmallDw.τ Cert.ProjSmallDw.sig) → Buf (Elt Bits) ℓ) (g : Dev Cert.ProjSmallDw.nD → PrngReg), Pre_ProjSmallDw m →
    θ_run (Cert.ProjSmallDw.defs (F := Bits)) (onTc (τ := Cert.ProjSmallDw.τ) (Cert.ProjSmallDw.main (F := Bits))) ⟨m, fun _ => 0, g⟩ (fun r => (∀ c : Dev Cert.ProjSmallDw.nD,
      r.2.mem ((c.tc : Thread Cert.ProjSmallDw.nD Cert.ProjSmallDw.τ).loc Cert.ProjSmallDw.main_arg0) = m ((c.tc : Thread Cert.ProjSmallDw.nD Cert.ProjSmallDw.τ).loc Cert.ProjSmallDw.main_arg0)
      ∧ r.2.mem ((c.tc : Thread Cert.ProjSmallDw.nD Cert.ProjSmallDw.τ).loc Cert.ProjSmallDw.main_arg1) = m ((c.tc : Thread Cert.ProjSmallDw.nD Cert.ProjSmallDw.τ).loc Cert.ProjSmallDw.main_arg1))
      ∧ r.2.sem = fun _ => 0)

def quiescent_ProjSmallDwIdeal [hProjSmallDwIdeal : Cert.ProjSmallDwIdeal.Facts] : Prop :=
  ∀ (m : (ℓ : Loc Cert.ProjSmallDwIdeal.nD Cert.ProjSmallDwIdeal.τ Cert.ProjSmallDwIdeal.sig) → Buf (Elt Ideal) ℓ) (g : Dev Cert.ProjSmallDwIdeal.nD → PrngReg), Pre_ProjSmallDwIdeal m →
    θ_run (Cert.ProjSmallDwIdeal.defs (F := Ideal)) (onTc (τ := Cert.ProjSmallDwIdeal.τ) (Cert.ProjSmallDwIdeal.main (F := Ideal))) ⟨m, fun _ => 0, g⟩ (fun r => (∀ c : Dev Cert.ProjSmallDwIdeal.nD,
      r.2.mem ((c.tc : Thread Cert.ProjSmallDwIdeal.nD Cert.ProjSmallDwIdeal.τ).loc Cert.ProjSmallDwIdeal.main_arg0) = m ((c.tc : Thread Cert.ProjSmallDwIdeal.nD Cert.ProjSmallDwIdeal.τ).loc Cert.ProjSmallDwIdeal.main_arg0)
      ∧ r.2.mem ((c.tc : Thread Cert.ProjSmallDwIdeal.nD Cert.ProjSmallDwIdeal.τ).loc Cert.ProjSmallDwIdeal.main_arg1) = m ((c.tc : Thread Cert.ProjSmallDwIdeal.nD Cert.ProjSmallDwIdeal.τ).loc Cert.ProjSmallDwIdeal.main_arg1))
      ∧ r.2.sem = fun _ => 0)

def quiescent_ProjSmallDwReferenceIdeal [hProjSmallDwReferenceIdeal : Cert.ProjSmallDwReferenceIdeal.Facts] : Prop :=
  ∀ (m : (ℓ : Loc Cert.ProjSmallDwReferenceIdeal.nD Cert.ProjSmallDwReferenceIdeal.τ Cert.ProjSmallDwReferenceIdeal.sig) → Buf (Elt Ideal) ℓ) (g : Dev Cert.ProjSmallDwReferenceIdeal.nD → PrngReg), Pre_ProjSmallDwReferenceIdeal m →
    θ_run (Cert.ProjSmallDwReferenceIdeal.defs (F := Ideal)) (onTc (τ := Cert.ProjSmallDwReferenceIdeal.τ) (Cert.ProjSmallDwReferenceIdeal.main (F := Ideal))) ⟨m, fun _ => 0, g⟩ (fun r => (∀ c : Dev Cert.ProjSmallDwReferenceIdeal.nD,
      r.2.mem ((c.tc : Thread Cert.ProjSmallDwReferenceIdeal.nD Cert.ProjSmallDwReferenceIdeal.τ).loc Cert.ProjSmallDwReferenceIdeal.main_arg0) = m ((c.tc : Thread Cert.ProjSmallDwReferenceIdeal.nD Cert.ProjSmallDwReferenceIdeal.τ).loc Cert.ProjSmallDwReferenceIdeal.main_arg0)
      ∧ r.2.mem ((c.tc : Thread Cert.ProjSmallDwReferenceIdeal.nD Cert.ProjSmallDwReferenceIdeal.τ).loc Cert.ProjSmallDwReferenceIdeal.main_arg1) = m ((c.tc : Thread Cert.ProjSmallDwReferenceIdeal.nD Cert.ProjSmallDwReferenceIdeal.τ).loc Cert.ProjSmallDwReferenceIdeal.main_arg1))
      ∧ r.2.sem = fun _ => 0)

def quiescent_Premix [hPremix : Cert.Premix.Facts] : Prop :=
  ∀ (m : (ℓ : Loc Cert.Premix.nD Cert.Premix.τ Cert.Premix.sig) → Buf (Elt Bits) ℓ) (g : Dev Cert.Premix.nD → PrngReg), Pre_Premix m →
    θ_run (Cert.Premix.defs (F := Bits)) (onTc (τ := Cert.Premix.τ) (Cert.Premix.main (F := Bits))) ⟨m, fun _ => 0, g⟩ (fun r => (∀ c : Dev Cert.Premix.nD,
      r.2.mem ((c.tc : Thread Cert.Premix.nD Cert.Premix.τ).loc Cert.Premix.main_arg0) = m ((c.tc : Thread Cert.Premix.nD Cert.Premix.τ).loc Cert.Premix.main_arg0)
      ∧ r.2.mem ((c.tc : Thread Cert.Premix.nD Cert.Premix.τ).loc Cert.Premix.main_arg1) = m ((c.tc : Thread Cert.Premix.nD Cert.Premix.τ).loc Cert.Premix.main_arg1)
      ∧ r.2.mem ((c.tc : Thread Cert.Premix.nD Cert.Premix.τ).loc Cert.Premix.main_arg2) = m ((c.tc : Thread Cert.Premix.nD Cert.Premix.τ).loc Cert.Premix.main_arg2)
      ∧ r.2.mem ((c.tc : Thread Cert.Premix.nD Cert.Premix.τ).loc Cert.Premix.main_arg3) = m ((c.tc : Thread Cert.Premix.nD Cert.Premix.τ).loc Cert.Premix.main_arg3))
      ∧ r.2.sem = fun _ => 0)

def quiescent_PremixIdeal [hPremixIdeal : Cert.PremixIdeal.Facts] : Prop :=
  ∀ (m : (ℓ : Loc Cert.PremixIdeal.nD Cert.PremixIdeal.τ Cert.PremixIdeal.sig) → Buf (Elt Ideal) ℓ) (g : Dev Cert.PremixIdeal.nD → PrngReg), Pre_PremixIdeal m →
    θ_run (Cert.PremixIdeal.defs (F := Ideal)) (onTc (τ := Cert.PremixIdeal.τ) (Cert.PremixIdeal.main (F := Ideal))) ⟨m, fun _ => 0, g⟩ (fun r => (∀ c : Dev Cert.PremixIdeal.nD,
      r.2.mem ((c.tc : Thread Cert.PremixIdeal.nD Cert.PremixIdeal.τ).loc Cert.PremixIdeal.main_arg0) = m ((c.tc : Thread Cert.PremixIdeal.nD Cert.PremixIdeal.τ).loc Cert.PremixIdeal.main_arg0)
      ∧ r.2.mem ((c.tc : Thread Cert.PremixIdeal.nD Cert.PremixIdeal.τ).loc Cert.PremixIdeal.main_arg1) = m ((c.tc : Thread Cert.PremixIdeal.nD Cert.PremixIdeal.τ).loc Cert.PremixIdeal.main_arg1)
      ∧ r.2.mem ((c.tc : Thread Cert.PremixIdeal.nD Cert.PremixIdeal.τ).loc Cert.PremixIdeal.main_arg2) = m ((c.tc : Thread Cert.PremixIdeal.nD Cert.PremixIdeal.τ).loc Cert.PremixIdeal.main_arg2)
      ∧ r.2.mem ((c.tc : Thread Cert.PremixIdeal.nD Cert.PremixIdeal.τ).loc Cert.PremixIdeal.main_arg3) = m ((c.tc : Thread Cert.PremixIdeal.nD Cert.PremixIdeal.τ).loc Cert.PremixIdeal.main_arg3))
      ∧ r.2.sem = fun _ => 0)

def quiescent_PremixReferenceIdeal [hPremixReferenceIdeal : Cert.PremixReferenceIdeal.Facts] : Prop :=
  ∀ (m : (ℓ : Loc Cert.PremixReferenceIdeal.nD Cert.PremixReferenceIdeal.τ Cert.PremixReferenceIdeal.sig) → Buf (Elt Ideal) ℓ) (g : Dev Cert.PremixReferenceIdeal.nD → PrngReg), Pre_PremixReferenceIdeal m →
    θ_run (Cert.PremixReferenceIdeal.defs (F := Ideal)) (onTc (τ := Cert.PremixReferenceIdeal.τ) (Cert.PremixReferenceIdeal.main (F := Ideal))) ⟨m, fun _ => 0, g⟩ (fun r => (∀ c : Dev Cert.PremixReferenceIdeal.nD,
      r.2.mem ((c.tc : Thread Cert.PremixReferenceIdeal.nD Cert.PremixReferenceIdeal.τ).loc Cert.PremixReferenceIdeal.main_arg0) = m ((c.tc : Thread Cert.PremixReferenceIdeal.nD Cert.PremixReferenceIdeal.τ).loc Cert.PremixReferenceIdeal.main_arg0)
      ∧ r.2.mem ((c.tc : Thread Cert.PremixReferenceIdeal.nD Cert.PremixReferenceIdeal.τ).loc Cert.PremixReferenceIdeal.main_arg1) = m ((c.tc : Thread Cert.PremixReferenceIdeal.nD Cert.PremixReferenceIdeal.τ).loc Cert.PremixReferenceIdeal.main_arg1)
      ∧ r.2.mem ((c.tc : Thread Cert.PremixReferenceIdeal.nD Cert.PremixReferenceIdeal.τ).loc Cert.PremixReferenceIdeal.main_arg2) = m ((c.tc : Thread Cert.PremixReferenceIdeal.nD Cert.PremixReferenceIdeal.τ).loc Cert.PremixReferenceIdeal.main_arg2)
      ∧ r.2.mem ((c.tc : Thread Cert.PremixReferenceIdeal.nD Cert.PremixReferenceIdeal.τ).loc Cert.PremixReferenceIdeal.main_arg3) = m ((c.tc : Thread Cert.PremixReferenceIdeal.nD Cert.PremixReferenceIdeal.τ).loc Cert.PremixReferenceIdeal.main_arg3))
      ∧ r.2.sem = fun _ => 0)

def quiescent_PostmixPremlp [hPostmixPremlp : Cert.PostmixPremlp.Facts] : Prop :=
  ∀ (m : (ℓ : Loc Cert.PostmixPremlp.nD Cert.PostmixPremlp.τ Cert.PostmixPremlp.sig) → Buf (Elt Bits) ℓ) (g : Dev Cert.PostmixPremlp.nD → PrngReg), Pre_PostmixPremlp m →
    θ_run (Cert.PostmixPremlp.defs (F := Bits)) (onTc (τ := Cert.PostmixPremlp.τ) (Cert.PostmixPremlp.main (F := Bits))) ⟨m, fun _ => 0, g⟩ (fun r => (∀ c : Dev Cert.PostmixPremlp.nD,
      r.2.mem ((c.tc : Thread Cert.PostmixPremlp.nD Cert.PostmixPremlp.τ).loc Cert.PostmixPremlp.main_arg0) = m ((c.tc : Thread Cert.PostmixPremlp.nD Cert.PostmixPremlp.τ).loc Cert.PostmixPremlp.main_arg0)
      ∧ r.2.mem ((c.tc : Thread Cert.PostmixPremlp.nD Cert.PostmixPremlp.τ).loc Cert.PostmixPremlp.main_arg1) = m ((c.tc : Thread Cert.PostmixPremlp.nD Cert.PostmixPremlp.τ).loc Cert.PostmixPremlp.main_arg1)
      ∧ r.2.mem ((c.tc : Thread Cert.PostmixPremlp.nD Cert.PostmixPremlp.τ).loc Cert.PostmixPremlp.main_arg2) = m ((c.tc : Thread Cert.PostmixPremlp.nD Cert.PostmixPremlp.τ).loc Cert.PostmixPremlp.main_arg2)
      ∧ r.2.mem ((c.tc : Thread Cert.PostmixPremlp.nD Cert.PostmixPremlp.τ).loc Cert.PostmixPremlp.main_arg3) = m ((c.tc : Thread Cert.PostmixPremlp.nD Cert.PostmixPremlp.τ).loc Cert.PostmixPremlp.main_arg3)
      ∧ r.2.mem ((c.tc : Thread Cert.PostmixPremlp.nD Cert.PostmixPremlp.τ).loc Cert.PostmixPremlp.main_arg4) = m ((c.tc : Thread Cert.PostmixPremlp.nD Cert.PostmixPremlp.τ).loc Cert.PostmixPremlp.main_arg4)
      ∧ r.2.mem ((c.tc : Thread Cert.PostmixPremlp.nD Cert.PostmixPremlp.τ).loc Cert.PostmixPremlp.main_arg5) = m ((c.tc : Thread Cert.PostmixPremlp.nD Cert.PostmixPremlp.τ).loc Cert.PostmixPremlp.main_arg5)
      ∧ r.2.mem ((c.tc : Thread Cert.PostmixPremlp.nD Cert.PostmixPremlp.τ).loc Cert.PostmixPremlp.main_arg6) = m ((c.tc : Thread Cert.PostmixPremlp.nD Cert.PostmixPremlp.τ).loc Cert.PostmixPremlp.main_arg6))
      ∧ r.2.sem = fun _ => 0)

def quiescent_PostmixPremlpIdeal [hPostmixPremlpIdeal : Cert.PostmixPremlpIdeal.Facts] : Prop :=
  ∀ (m : (ℓ : Loc Cert.PostmixPremlpIdeal.nD Cert.PostmixPremlpIdeal.τ Cert.PostmixPremlpIdeal.sig) → Buf (Elt Ideal) ℓ) (g : Dev Cert.PostmixPremlpIdeal.nD → PrngReg), Pre_PostmixPremlpIdeal m →
    θ_run (Cert.PostmixPremlpIdeal.defs (F := Ideal)) (onTc (τ := Cert.PostmixPremlpIdeal.τ) (Cert.PostmixPremlpIdeal.main (F := Ideal))) ⟨m, fun _ => 0, g⟩ (fun r => (∀ c : Dev Cert.PostmixPremlpIdeal.nD,
      r.2.mem ((c.tc : Thread Cert.PostmixPremlpIdeal.nD Cert.PostmixPremlpIdeal.τ).loc Cert.PostmixPremlpIdeal.main_arg0) = m ((c.tc : Thread Cert.PostmixPremlpIdeal.nD Cert.PostmixPremlpIdeal.τ).loc Cert.PostmixPremlpIdeal.main_arg0)
      ∧ r.2.mem ((c.tc : Thread Cert.PostmixPremlpIdeal.nD Cert.PostmixPremlpIdeal.τ).loc Cert.PostmixPremlpIdeal.main_arg1) = m ((c.tc : Thread Cert.PostmixPremlpIdeal.nD Cert.PostmixPremlpIdeal.τ).loc Cert.PostmixPremlpIdeal.main_arg1)
      ∧ r.2.mem ((c.tc : Thread Cert.PostmixPremlpIdeal.nD Cert.PostmixPremlpIdeal.τ).loc Cert.PostmixPremlpIdeal.main_arg2) = m ((c.tc : Thread Cert.PostmixPremlpIdeal.nD Cert.PostmixPremlpIdeal.τ).loc Cert.PostmixPremlpIdeal.main_arg2)
      ∧ r.2.mem ((c.tc : Thread Cert.PostmixPremlpIdeal.nD Cert.PostmixPremlpIdeal.τ).loc Cert.PostmixPremlpIdeal.main_arg3) = m ((c.tc : Thread Cert.PostmixPremlpIdeal.nD Cert.PostmixPremlpIdeal.τ).loc Cert.PostmixPremlpIdeal.main_arg3)
      ∧ r.2.mem ((c.tc : Thread Cert.PostmixPremlpIdeal.nD Cert.PostmixPremlpIdeal.τ).loc Cert.PostmixPremlpIdeal.main_arg4) = m ((c.tc : Thread Cert.PostmixPremlpIdeal.nD Cert.PostmixPremlpIdeal.τ).loc Cert.PostmixPremlpIdeal.main_arg4)
      ∧ r.2.mem ((c.tc : Thread Cert.PostmixPremlpIdeal.nD Cert.PostmixPremlpIdeal.τ).loc Cert.PostmixPremlpIdeal.main_arg5) = m ((c.tc : Thread Cert.PostmixPremlpIdeal.nD Cert.PostmixPremlpIdeal.τ).loc Cert.PostmixPremlpIdeal.main_arg5)
      ∧ r.2.mem ((c.tc : Thread Cert.PostmixPremlpIdeal.nD Cert.PostmixPremlpIdeal.τ).loc Cert.PostmixPremlpIdeal.main_arg6) = m ((c.tc : Thread Cert.PostmixPremlpIdeal.nD Cert.PostmixPremlpIdeal.τ).loc Cert.PostmixPremlpIdeal.main_arg6))
      ∧ r.2.sem = fun _ => 0)

def quiescent_PostmixPremlpReferenceIdeal [hPostmixPremlpReferenceIdeal : Cert.PostmixPremlpReferenceIdeal.Facts] : Prop :=
  ∀ (m : (ℓ : Loc Cert.PostmixPremlpReferenceIdeal.nD Cert.PostmixPremlpReferenceIdeal.τ Cert.PostmixPremlpReferenceIdeal.sig) → Buf (Elt Ideal) ℓ) (g : Dev Cert.PostmixPremlpReferenceIdeal.nD → PrngReg), Pre_PostmixPremlpReferenceIdeal m →
    θ_run (Cert.PostmixPremlpReferenceIdeal.defs (F := Ideal)) (onTc (τ := Cert.PostmixPremlpReferenceIdeal.τ) (Cert.PostmixPremlpReferenceIdeal.main (F := Ideal))) ⟨m, fun _ => 0, g⟩ (fun r => (∀ c : Dev Cert.PostmixPremlpReferenceIdeal.nD,
      r.2.mem ((c.tc : Thread Cert.PostmixPremlpReferenceIdeal.nD Cert.PostmixPremlpReferenceIdeal.τ).loc Cert.PostmixPremlpReferenceIdeal.main_arg0) = m ((c.tc : Thread Cert.PostmixPremlpReferenceIdeal.nD Cert.PostmixPremlpReferenceIdeal.τ).loc Cert.PostmixPremlpReferenceIdeal.main_arg0)
      ∧ r.2.mem ((c.tc : Thread Cert.PostmixPremlpReferenceIdeal.nD Cert.PostmixPremlpReferenceIdeal.τ).loc Cert.PostmixPremlpReferenceIdeal.main_arg1) = m ((c.tc : Thread Cert.PostmixPremlpReferenceIdeal.nD Cert.PostmixPremlpReferenceIdeal.τ).loc Cert.PostmixPremlpReferenceIdeal.main_arg1)
      ∧ r.2.mem ((c.tc : Thread Cert.PostmixPremlpReferenceIdeal.nD Cert.PostmixPremlpReferenceIdeal.τ).loc Cert.PostmixPremlpReferenceIdeal.main_arg2) = m ((c.tc : Thread Cert.PostmixPremlpReferenceIdeal.nD Cert.PostmixPremlpReferenceIdeal.τ).loc Cert.PostmixPremlpReferenceIdeal.main_arg2)
      ∧ r.2.mem ((c.tc : Thread Cert.PostmixPremlpReferenceIdeal.nD Cert.PostmixPremlpReferenceIdeal.τ).loc Cert.PostmixPremlpReferenceIdeal.main_arg3) = m ((c.tc : Thread Cert.PostmixPremlpReferenceIdeal.nD Cert.PostmixPremlpReferenceIdeal.τ).loc Cert.PostmixPremlpReferenceIdeal.main_arg3)
      ∧ r.2.mem ((c.tc : Thread Cert.PostmixPremlpReferenceIdeal.nD Cert.PostmixPremlpReferenceIdeal.τ).loc Cert.PostmixPremlpReferenceIdeal.main_arg4) = m ((c.tc : Thread Cert.PostmixPremlpReferenceIdeal.nD Cert.PostmixPremlpReferenceIdeal.τ).loc Cert.PostmixPremlpReferenceIdeal.main_arg4)
      ∧ r.2.mem ((c.tc : Thread Cert.PostmixPremlpReferenceIdeal.nD Cert.PostmixPremlpReferenceIdeal.τ).loc Cert.PostmixPremlpReferenceIdeal.main_arg5) = m ((c.tc : Thread Cert.PostmixPremlpReferenceIdeal.nD Cert.PostmixPremlpReferenceIdeal.τ).loc Cert.PostmixPremlpReferenceIdeal.main_arg5)
      ∧ r.2.mem ((c.tc : Thread Cert.PostmixPremlpReferenceIdeal.nD Cert.PostmixPremlpReferenceIdeal.τ).loc Cert.PostmixPremlpReferenceIdeal.main_arg6) = m ((c.tc : Thread Cert.PostmixPremlpReferenceIdeal.nD Cert.PostmixPremlpReferenceIdeal.τ).loc Cert.PostmixPremlpReferenceIdeal.main_arg6))
      ∧ r.2.sem = fun _ => 0)

def quiescent_FoxFwd [hFoxFwd : Cert.FoxFwd.Facts] : Prop :=
  ∀ (m : (ℓ : Loc Cert.FoxFwd.nD Cert.FoxFwd.τ Cert.FoxFwd.sig) → Buf (Elt Bits) ℓ) (g : Dev Cert.FoxFwd.nD → PrngReg), Pre_FoxFwd m →
    θ_run (Cert.FoxFwd.defs (F := Bits)) (onTc (τ := Cert.FoxFwd.τ) (Cert.FoxFwd.main (F := Bits))) ⟨m, fun _ => 0, g⟩ (fun r => (∀ c : Dev Cert.FoxFwd.nD,
      r.2.mem ((c.tc : Thread Cert.FoxFwd.nD Cert.FoxFwd.τ).loc Cert.FoxFwd.main_arg0) = m ((c.tc : Thread Cert.FoxFwd.nD Cert.FoxFwd.τ).loc Cert.FoxFwd.main_arg0)
      ∧ r.2.mem ((c.tc : Thread Cert.FoxFwd.nD Cert.FoxFwd.τ).loc Cert.FoxFwd.main_arg1) = m ((c.tc : Thread Cert.FoxFwd.nD Cert.FoxFwd.τ).loc Cert.FoxFwd.main_arg1))
      ∧ r.2.sem = fun _ => 0)

def quiescent_FoxFwdIdeal [hFoxFwdIdeal : Cert.FoxFwdIdeal.Facts] : Prop :=
  ∀ (m : (ℓ : Loc Cert.FoxFwdIdeal.nD Cert.FoxFwdIdeal.τ Cert.FoxFwdIdeal.sig) → Buf (Elt Ideal) ℓ) (g : Dev Cert.FoxFwdIdeal.nD → PrngReg), Pre_FoxFwdIdeal m →
    θ_run (Cert.FoxFwdIdeal.defs (F := Ideal)) (onTc (τ := Cert.FoxFwdIdeal.τ) (Cert.FoxFwdIdeal.main (F := Ideal))) ⟨m, fun _ => 0, g⟩ (fun r => (∀ c : Dev Cert.FoxFwdIdeal.nD,
      r.2.mem ((c.tc : Thread Cert.FoxFwdIdeal.nD Cert.FoxFwdIdeal.τ).loc Cert.FoxFwdIdeal.main_arg0) = m ((c.tc : Thread Cert.FoxFwdIdeal.nD Cert.FoxFwdIdeal.τ).loc Cert.FoxFwdIdeal.main_arg0)
      ∧ r.2.mem ((c.tc : Thread Cert.FoxFwdIdeal.nD Cert.FoxFwdIdeal.τ).loc Cert.FoxFwdIdeal.main_arg1) = m ((c.tc : Thread Cert.FoxFwdIdeal.nD Cert.FoxFwdIdeal.τ).loc Cert.FoxFwdIdeal.main_arg1))
      ∧ r.2.sem = fun _ => 0)

def quiescent_FoxFwdIdeal_pre_finite_fwd [hFoxFwdIdeal : Cert.FoxFwdIdeal.Facts] [hPre_finite_fwd : Cert.Pre_finite_fwd.Facts] : Prop :=
  ∀ (m : (ℓ : Loc Cert.FoxFwdIdeal.nD Cert.FoxFwdIdeal.τ Cert.FoxFwdIdeal.sig) → Buf (Elt Ideal) ℓ) (g : Dev Cert.FoxFwdIdeal.nD → PrngReg), Pre_FoxFwdIdeal_finite_fwd m →
    θ_run (Cert.FoxFwdIdeal.defs (F := Ideal)) (onTc (τ := Cert.FoxFwdIdeal.τ) (Cert.FoxFwdIdeal.main (F := Ideal))) ⟨m, fun _ => 0, g⟩ (fun r => (∀ c : Dev Cert.FoxFwdIdeal.nD,
      r.2.mem ((c.tc : Thread Cert.FoxFwdIdeal.nD Cert.FoxFwdIdeal.τ).loc Cert.FoxFwdIdeal.main_arg0) = m ((c.tc : Thread Cert.FoxFwdIdeal.nD Cert.FoxFwdIdeal.τ).loc Cert.FoxFwdIdeal.main_arg0)
      ∧ r.2.mem ((c.tc : Thread Cert.FoxFwdIdeal.nD Cert.FoxFwdIdeal.τ).loc Cert.FoxFwdIdeal.main_arg1) = m ((c.tc : Thread Cert.FoxFwdIdeal.nD Cert.FoxFwdIdeal.τ).loc Cert.FoxFwdIdeal.main_arg1))
      ∧ r.2.sem = fun _ => 0)

def quiescent_FoxFwdReferenceIdeal [hFoxFwdReferenceIdeal : Cert.FoxFwdReferenceIdeal.Facts] : Prop :=
  ∀ (m : (ℓ : Loc Cert.FoxFwdReferenceIdeal.nD Cert.FoxFwdReferenceIdeal.τ Cert.FoxFwdReferenceIdeal.sig) → Buf (Elt Ideal) ℓ) (g : Dev Cert.FoxFwdReferenceIdeal.nD → PrngReg), Pre_FoxFwdReferenceIdeal m →
    θ_run (Cert.FoxFwdReferenceIdeal.defs (F := Ideal)) (onTc (τ := Cert.FoxFwdReferenceIdeal.τ) (Cert.FoxFwdReferenceIdeal.main (F := Ideal))) ⟨m, fun _ => 0, g⟩ (fun r => (∀ c : Dev Cert.FoxFwdReferenceIdeal.nD,
      r.2.mem ((c.tc : Thread Cert.FoxFwdReferenceIdeal.nD Cert.FoxFwdReferenceIdeal.τ).loc Cert.FoxFwdReferenceIdeal.main_arg0) = m ((c.tc : Thread Cert.FoxFwdReferenceIdeal.nD Cert.FoxFwdReferenceIdeal.τ).loc Cert.FoxFwdReferenceIdeal.main_arg0)
      ∧ r.2.mem ((c.tc : Thread Cert.FoxFwdReferenceIdeal.nD Cert.FoxFwdReferenceIdeal.τ).loc Cert.FoxFwdReferenceIdeal.main_arg1) = m ((c.tc : Thread Cert.FoxFwdReferenceIdeal.nD Cert.FoxFwdReferenceIdeal.τ).loc Cert.FoxFwdReferenceIdeal.main_arg1))
      ∧ r.2.sem = fun _ => 0)

def quiescent_FoxFwdReferenceIdeal_pre_finite_fwd [hFoxFwdReferenceIdeal : Cert.FoxFwdReferenceIdeal.Facts] [hPre_finite_fwd : Cert.Pre_finite_fwd.Facts] : Prop :=
  ∀ (m : (ℓ : Loc Cert.FoxFwdReferenceIdeal.nD Cert.FoxFwdReferenceIdeal.τ Cert.FoxFwdReferenceIdeal.sig) → Buf (Elt Ideal) ℓ) (g : Dev Cert.FoxFwdReferenceIdeal.nD → PrngReg), Pre_FoxFwdReferenceIdeal_finite_fwd m →
    θ_run (Cert.FoxFwdReferenceIdeal.defs (F := Ideal)) (onTc (τ := Cert.FoxFwdReferenceIdeal.τ) (Cert.FoxFwdReferenceIdeal.main (F := Ideal))) ⟨m, fun _ => 0, g⟩ (fun r => (∀ c : Dev Cert.FoxFwdReferenceIdeal.nD,
      r.2.mem ((c.tc : Thread Cert.FoxFwdReferenceIdeal.nD Cert.FoxFwdReferenceIdeal.τ).loc Cert.FoxFwdReferenceIdeal.main_arg0) = m ((c.tc : Thread Cert.FoxFwdReferenceIdeal.nD Cert.FoxFwdReferenceIdeal.τ).loc Cert.FoxFwdReferenceIdeal.main_arg0)
      ∧ r.2.mem ((c.tc : Thread Cert.FoxFwdReferenceIdeal.nD Cert.FoxFwdReferenceIdeal.τ).loc Cert.FoxFwdReferenceIdeal.main_arg1) = m ((c.tc : Thread Cert.FoxFwdReferenceIdeal.nD Cert.FoxFwdReferenceIdeal.τ).loc Cert.FoxFwdReferenceIdeal.main_arg1))
      ∧ r.2.sem = fun _ => 0)

def quiescent_PremixBwd [hPremixBwd : Cert.PremixBwd.Facts] : Prop :=
  ∀ (m : (ℓ : Loc Cert.PremixBwd.nD Cert.PremixBwd.τ Cert.PremixBwd.sig) → Buf (Elt Bits) ℓ) (g : Dev Cert.PremixBwd.nD → PrngReg), Pre_PremixBwd m →
    θ_run (Cert.PremixBwd.defs (F := Bits)) (onTc (τ := Cert.PremixBwd.τ) (Cert.PremixBwd.main (F := Bits))) ⟨m, fun _ => 0, g⟩ (fun r => (∀ c : Dev Cert.PremixBwd.nD,
      r.2.mem ((c.tc : Thread Cert.PremixBwd.nD Cert.PremixBwd.τ).loc Cert.PremixBwd.main_arg0) = m ((c.tc : Thread Cert.PremixBwd.nD Cert.PremixBwd.τ).loc Cert.PremixBwd.main_arg0)
      ∧ r.2.mem ((c.tc : Thread Cert.PremixBwd.nD Cert.PremixBwd.τ).loc Cert.PremixBwd.main_arg1) = m ((c.tc : Thread Cert.PremixBwd.nD Cert.PremixBwd.τ).loc Cert.PremixBwd.main_arg1)
      ∧ r.2.mem ((c.tc : Thread Cert.PremixBwd.nD Cert.PremixBwd.τ).loc Cert.PremixBwd.main_arg2) = m ((c.tc : Thread Cert.PremixBwd.nD Cert.PremixBwd.τ).loc Cert.PremixBwd.main_arg2)
      ∧ r.2.mem ((c.tc : Thread Cert.PremixBwd.nD Cert.PremixBwd.τ).loc Cert.PremixBwd.main_arg3) = m ((c.tc : Thread Cert.PremixBwd.nD Cert.PremixBwd.τ).loc Cert.PremixBwd.main_arg3)
      ∧ r.2.mem ((c.tc : Thread Cert.PremixBwd.nD Cert.PremixBwd.τ).loc Cert.PremixBwd.main_arg4) = m ((c.tc : Thread Cert.PremixBwd.nD Cert.PremixBwd.τ).loc Cert.PremixBwd.main_arg4))
      ∧ r.2.sem = fun _ => 0)

def quiescent_PremixBwdIdeal [hPremixBwdIdeal : Cert.PremixBwdIdeal.Facts] : Prop :=
  ∀ (m : (ℓ : Loc Cert.PremixBwdIdeal.nD Cert.PremixBwdIdeal.τ Cert.PremixBwdIdeal.sig) → Buf (Elt Ideal) ℓ) (g : Dev Cert.PremixBwdIdeal.nD → PrngReg), Pre_PremixBwdIdeal m →
    θ_run (Cert.PremixBwdIdeal.defs (F := Ideal)) (onTc (τ := Cert.PremixBwdIdeal.τ) (Cert.PremixBwdIdeal.main (F := Ideal))) ⟨m, fun _ => 0, g⟩ (fun r => (∀ c : Dev Cert.PremixBwdIdeal.nD,
      r.2.mem ((c.tc : Thread Cert.PremixBwdIdeal.nD Cert.PremixBwdIdeal.τ).loc Cert.PremixBwdIdeal.main_arg0) = m ((c.tc : Thread Cert.PremixBwdIdeal.nD Cert.PremixBwdIdeal.τ).loc Cert.PremixBwdIdeal.main_arg0)
      ∧ r.2.mem ((c.tc : Thread Cert.PremixBwdIdeal.nD Cert.PremixBwdIdeal.τ).loc Cert.PremixBwdIdeal.main_arg1) = m ((c.tc : Thread Cert.PremixBwdIdeal.nD Cert.PremixBwdIdeal.τ).loc Cert.PremixBwdIdeal.main_arg1)
      ∧ r.2.mem ((c.tc : Thread Cert.PremixBwdIdeal.nD Cert.PremixBwdIdeal.τ).loc Cert.PremixBwdIdeal.main_arg2) = m ((c.tc : Thread Cert.PremixBwdIdeal.nD Cert.PremixBwdIdeal.τ).loc Cert.PremixBwdIdeal.main_arg2)
      ∧ r.2.mem ((c.tc : Thread Cert.PremixBwdIdeal.nD Cert.PremixBwdIdeal.τ).loc Cert.PremixBwdIdeal.main_arg3) = m ((c.tc : Thread Cert.PremixBwdIdeal.nD Cert.PremixBwdIdeal.τ).loc Cert.PremixBwdIdeal.main_arg3)
      ∧ r.2.mem ((c.tc : Thread Cert.PremixBwdIdeal.nD Cert.PremixBwdIdeal.τ).loc Cert.PremixBwdIdeal.main_arg4) = m ((c.tc : Thread Cert.PremixBwdIdeal.nD Cert.PremixBwdIdeal.τ).loc Cert.PremixBwdIdeal.main_arg4))
      ∧ r.2.sem = fun _ => 0)

def quiescent_PremixBwdReferenceIdeal [hPremixBwdReferenceIdeal : Cert.PremixBwdReferenceIdeal.Facts] : Prop :=
  ∀ (m : (ℓ : Loc Cert.PremixBwdReferenceIdeal.nD Cert.PremixBwdReferenceIdeal.τ Cert.PremixBwdReferenceIdeal.sig) → Buf (Elt Ideal) ℓ) (g : Dev Cert.PremixBwdReferenceIdeal.nD → PrngReg), Pre_PremixBwdReferenceIdeal m →
    θ_run (Cert.PremixBwdReferenceIdeal.defs (F := Ideal)) (onTc (τ := Cert.PremixBwdReferenceIdeal.τ) (Cert.PremixBwdReferenceIdeal.main (F := Ideal))) ⟨m, fun _ => 0, g⟩ (fun r => (∀ c : Dev Cert.PremixBwdReferenceIdeal.nD,
      r.2.mem ((c.tc : Thread Cert.PremixBwdReferenceIdeal.nD Cert.PremixBwdReferenceIdeal.τ).loc Cert.PremixBwdReferenceIdeal.main_arg0) = m ((c.tc : Thread Cert.PremixBwdReferenceIdeal.nD Cert.PremixBwdReferenceIdeal.τ).loc Cert.PremixBwdReferenceIdeal.main_arg0)
      ∧ r.2.mem ((c.tc : Thread Cert.PremixBwdReferenceIdeal.nD Cert.PremixBwdReferenceIdeal.τ).loc Cert.PremixBwdReferenceIdeal.main_arg1) = m ((c.tc : Thread Cert.PremixBwdReferenceIdeal.nD Cert.PremixBwdReferenceIdeal.τ).loc Cert.PremixBwdReferenceIdeal.main_arg1)
      ∧ r.2.mem ((c.tc : Thread Cert.PremixBwdReferenceIdeal.nD Cert.PremixBwdReferenceIdeal.τ).loc Cert.PremixBwdReferenceIdeal.main_arg2) = m ((c.tc : Thread Cert.PremixBwdReferenceIdeal.nD Cert.PremixBwdReferenceIdeal.τ).loc Cert.PremixBwdReferenceIdeal.main_arg2)
      ∧ r.2.mem ((c.tc : Thread Cert.PremixBwdReferenceIdeal.nD Cert.PremixBwdReferenceIdeal.τ).loc Cert.PremixBwdReferenceIdeal.main_arg3) = m ((c.tc : Thread Cert.PremixBwdReferenceIdeal.nD Cert.PremixBwdReferenceIdeal.τ).loc Cert.PremixBwdReferenceIdeal.main_arg3)
      ∧ r.2.mem ((c.tc : Thread Cert.PremixBwdReferenceIdeal.nD Cert.PremixBwdReferenceIdeal.τ).loc Cert.PremixBwdReferenceIdeal.main_arg4) = m ((c.tc : Thread Cert.PremixBwdReferenceIdeal.nD Cert.PremixBwdReferenceIdeal.τ).loc Cert.PremixBwdReferenceIdeal.main_arg4))
      ∧ r.2.sem = fun _ => 0)

def quiescent_PremlpPostmixBwd [hPremlpPostmixBwd : Cert.PremlpPostmixBwd.Facts] : Prop :=
  ∀ (m : (ℓ : Loc Cert.PremlpPostmixBwd.nD Cert.PremlpPostmixBwd.τ Cert.PremlpPostmixBwd.sig) → Buf (Elt Bits) ℓ) (g : Dev Cert.PremlpPostmixBwd.nD → PrngReg), Pre_PremlpPostmixBwd m →
    θ_run (Cert.PremlpPostmixBwd.defs (F := Bits)) (onTc (τ := Cert.PremlpPostmixBwd.τ) (Cert.PremlpPostmixBwd.main (F := Bits))) ⟨m, fun _ => 0, g⟩ (fun r => (∀ c : Dev Cert.PremlpPostmixBwd.nD,
      r.2.mem ((c.tc : Thread Cert.PremlpPostmixBwd.nD Cert.PremlpPostmixBwd.τ).loc Cert.PremlpPostmixBwd.main_arg0) = m ((c.tc : Thread Cert.PremlpPostmixBwd.nD Cert.PremlpPostmixBwd.τ).loc Cert.PremlpPostmixBwd.main_arg0)
      ∧ r.2.mem ((c.tc : Thread Cert.PremlpPostmixBwd.nD Cert.PremlpPostmixBwd.τ).loc Cert.PremlpPostmixBwd.main_arg1) = m ((c.tc : Thread Cert.PremlpPostmixBwd.nD Cert.PremlpPostmixBwd.τ).loc Cert.PremlpPostmixBwd.main_arg1)
      ∧ r.2.mem ((c.tc : Thread Cert.PremlpPostmixBwd.nD Cert.PremlpPostmixBwd.τ).loc Cert.PremlpPostmixBwd.main_arg2) = m ((c.tc : Thread Cert.PremlpPostmixBwd.nD Cert.PremlpPostmixBwd.τ).loc Cert.PremlpPostmixBwd.main_arg2)
      ∧ r.2.mem ((c.tc : Thread Cert.PremlpPostmixBwd.nD Cert.PremlpPostmixBwd.τ).loc Cert.PremlpPostmixBwd.main_arg3) = m ((c.tc : Thread Cert.PremlpPostmixBwd.nD Cert.PremlpPostmixBwd.τ).loc Cert.PremlpPostmixBwd.main_arg3)
      ∧ r.2.mem ((c.tc : Thread Cert.PremlpPostmixBwd.nD Cert.PremlpPostmixBwd.τ).loc Cert.PremlpPostmixBwd.main_arg4) = m ((c.tc : Thread Cert.PremlpPostmixBwd.nD Cert.PremlpPostmixBwd.τ).loc Cert.PremlpPostmixBwd.main_arg4)
      ∧ r.2.mem ((c.tc : Thread Cert.PremlpPostmixBwd.nD Cert.PremlpPostmixBwd.τ).loc Cert.PremlpPostmixBwd.main_arg5) = m ((c.tc : Thread Cert.PremlpPostmixBwd.nD Cert.PremlpPostmixBwd.τ).loc Cert.PremlpPostmixBwd.main_arg5)
      ∧ r.2.mem ((c.tc : Thread Cert.PremlpPostmixBwd.nD Cert.PremlpPostmixBwd.τ).loc Cert.PremlpPostmixBwd.main_arg6) = m ((c.tc : Thread Cert.PremlpPostmixBwd.nD Cert.PremlpPostmixBwd.τ).loc Cert.PremlpPostmixBwd.main_arg6)
      ∧ r.2.mem ((c.tc : Thread Cert.PremlpPostmixBwd.nD Cert.PremlpPostmixBwd.τ).loc Cert.PremlpPostmixBwd.main_arg7) = m ((c.tc : Thread Cert.PremlpPostmixBwd.nD Cert.PremlpPostmixBwd.τ).loc Cert.PremlpPostmixBwd.main_arg7))
      ∧ r.2.sem = fun _ => 0)

def quiescent_PremlpPostmixBwdIdeal [hPremlpPostmixBwdIdeal : Cert.PremlpPostmixBwdIdeal.Facts] : Prop :=
  ∀ (m : (ℓ : Loc Cert.PremlpPostmixBwdIdeal.nD Cert.PremlpPostmixBwdIdeal.τ Cert.PremlpPostmixBwdIdeal.sig) → Buf (Elt Ideal) ℓ) (g : Dev Cert.PremlpPostmixBwdIdeal.nD → PrngReg), Pre_PremlpPostmixBwdIdeal m →
    θ_run (Cert.PremlpPostmixBwdIdeal.defs (F := Ideal)) (onTc (τ := Cert.PremlpPostmixBwdIdeal.τ) (Cert.PremlpPostmixBwdIdeal.main (F := Ideal))) ⟨m, fun _ => 0, g⟩ (fun r => (∀ c : Dev Cert.PremlpPostmixBwdIdeal.nD,
      r.2.mem ((c.tc : Thread Cert.PremlpPostmixBwdIdeal.nD Cert.PremlpPostmixBwdIdeal.τ).loc Cert.PremlpPostmixBwdIdeal.main_arg0) = m ((c.tc : Thread Cert.PremlpPostmixBwdIdeal.nD Cert.PremlpPostmixBwdIdeal.τ).loc Cert.PremlpPostmixBwdIdeal.main_arg0)
      ∧ r.2.mem ((c.tc : Thread Cert.PremlpPostmixBwdIdeal.nD Cert.PremlpPostmixBwdIdeal.τ).loc Cert.PremlpPostmixBwdIdeal.main_arg1) = m ((c.tc : Thread Cert.PremlpPostmixBwdIdeal.nD Cert.PremlpPostmixBwdIdeal.τ).loc Cert.PremlpPostmixBwdIdeal.main_arg1)
      ∧ r.2.mem ((c.tc : Thread Cert.PremlpPostmixBwdIdeal.nD Cert.PremlpPostmixBwdIdeal.τ).loc Cert.PremlpPostmixBwdIdeal.main_arg2) = m ((c.tc : Thread Cert.PremlpPostmixBwdIdeal.nD Cert.PremlpPostmixBwdIdeal.τ).loc Cert.PremlpPostmixBwdIdeal.main_arg2)
      ∧ r.2.mem ((c.tc : Thread Cert.PremlpPostmixBwdIdeal.nD Cert.PremlpPostmixBwdIdeal.τ).loc Cert.PremlpPostmixBwdIdeal.main_arg3) = m ((c.tc : Thread Cert.PremlpPostmixBwdIdeal.nD Cert.PremlpPostmixBwdIdeal.τ).loc Cert.PremlpPostmixBwdIdeal.main_arg3)
      ∧ r.2.mem ((c.tc : Thread Cert.PremlpPostmixBwdIdeal.nD Cert.PremlpPostmixBwdIdeal.τ).loc Cert.PremlpPostmixBwdIdeal.main_arg4) = m ((c.tc : Thread Cert.PremlpPostmixBwdIdeal.nD Cert.PremlpPostmixBwdIdeal.τ).loc Cert.PremlpPostmixBwdIdeal.main_arg4)
      ∧ r.2.mem ((c.tc : Thread Cert.PremlpPostmixBwdIdeal.nD Cert.PremlpPostmixBwdIdeal.τ).loc Cert.PremlpPostmixBwdIdeal.main_arg5) = m ((c.tc : Thread Cert.PremlpPostmixBwdIdeal.nD Cert.PremlpPostmixBwdIdeal.τ).loc Cert.PremlpPostmixBwdIdeal.main_arg5)
      ∧ r.2.mem ((c.tc : Thread Cert.PremlpPostmixBwdIdeal.nD Cert.PremlpPostmixBwdIdeal.τ).loc Cert.PremlpPostmixBwdIdeal.main_arg6) = m ((c.tc : Thread Cert.PremlpPostmixBwdIdeal.nD Cert.PremlpPostmixBwdIdeal.τ).loc Cert.PremlpPostmixBwdIdeal.main_arg6)
      ∧ r.2.mem ((c.tc : Thread Cert.PremlpPostmixBwdIdeal.nD Cert.PremlpPostmixBwdIdeal.τ).loc Cert.PremlpPostmixBwdIdeal.main_arg7) = m ((c.tc : Thread Cert.PremlpPostmixBwdIdeal.nD Cert.PremlpPostmixBwdIdeal.τ).loc Cert.PremlpPostmixBwdIdeal.main_arg7))
      ∧ r.2.sem = fun _ => 0)

def quiescent_PremlpPostmixBwdReferenceIdeal [hPremlpPostmixBwdReferenceIdeal : Cert.PremlpPostmixBwdReferenceIdeal.Facts] : Prop :=
  ∀ (m : (ℓ : Loc Cert.PremlpPostmixBwdReferenceIdeal.nD Cert.PremlpPostmixBwdReferenceIdeal.τ Cert.PremlpPostmixBwdReferenceIdeal.sig) → Buf (Elt Ideal) ℓ) (g : Dev Cert.PremlpPostmixBwdReferenceIdeal.nD → PrngReg), Pre_PremlpPostmixBwdReferenceIdeal m →
    θ_run (Cert.PremlpPostmixBwdReferenceIdeal.defs (F := Ideal)) (onTc (τ := Cert.PremlpPostmixBwdReferenceIdeal.τ) (Cert.PremlpPostmixBwdReferenceIdeal.main (F := Ideal))) ⟨m, fun _ => 0, g⟩ (fun r => (∀ c : Dev Cert.PremlpPostmixBwdReferenceIdeal.nD,
      r.2.mem ((c.tc : Thread Cert.PremlpPostmixBwdReferenceIdeal.nD Cert.PremlpPostmixBwdReferenceIdeal.τ).loc Cert.PremlpPostmixBwdReferenceIdeal.main_arg0) = m ((c.tc : Thread Cert.PremlpPostmixBwdReferenceIdeal.nD Cert.PremlpPostmixBwdReferenceIdeal.τ).loc Cert.PremlpPostmixBwdReferenceIdeal.main_arg0)
      ∧ r.2.mem ((c.tc : Thread Cert.PremlpPostmixBwdReferenceIdeal.nD Cert.PremlpPostmixBwdReferenceIdeal.τ).loc Cert.PremlpPostmixBwdReferenceIdeal.main_arg1) = m ((c.tc : Thread Cert.PremlpPostmixBwdReferenceIdeal.nD Cert.PremlpPostmixBwdReferenceIdeal.τ).loc Cert.PremlpPostmixBwdReferenceIdeal.main_arg1)
      ∧ r.2.mem ((c.tc : Thread Cert.PremlpPostmixBwdReferenceIdeal.nD Cert.PremlpPostmixBwdReferenceIdeal.τ).loc Cert.PremlpPostmixBwdReferenceIdeal.main_arg2) = m ((c.tc : Thread Cert.PremlpPostmixBwdReferenceIdeal.nD Cert.PremlpPostmixBwdReferenceIdeal.τ).loc Cert.PremlpPostmixBwdReferenceIdeal.main_arg2)
      ∧ r.2.mem ((c.tc : Thread Cert.PremlpPostmixBwdReferenceIdeal.nD Cert.PremlpPostmixBwdReferenceIdeal.τ).loc Cert.PremlpPostmixBwdReferenceIdeal.main_arg3) = m ((c.tc : Thread Cert.PremlpPostmixBwdReferenceIdeal.nD Cert.PremlpPostmixBwdReferenceIdeal.τ).loc Cert.PremlpPostmixBwdReferenceIdeal.main_arg3)
      ∧ r.2.mem ((c.tc : Thread Cert.PremlpPostmixBwdReferenceIdeal.nD Cert.PremlpPostmixBwdReferenceIdeal.τ).loc Cert.PremlpPostmixBwdReferenceIdeal.main_arg4) = m ((c.tc : Thread Cert.PremlpPostmixBwdReferenceIdeal.nD Cert.PremlpPostmixBwdReferenceIdeal.τ).loc Cert.PremlpPostmixBwdReferenceIdeal.main_arg4)
      ∧ r.2.mem ((c.tc : Thread Cert.PremlpPostmixBwdReferenceIdeal.nD Cert.PremlpPostmixBwdReferenceIdeal.τ).loc Cert.PremlpPostmixBwdReferenceIdeal.main_arg5) = m ((c.tc : Thread Cert.PremlpPostmixBwdReferenceIdeal.nD Cert.PremlpPostmixBwdReferenceIdeal.τ).loc Cert.PremlpPostmixBwdReferenceIdeal.main_arg5)
      ∧ r.2.mem ((c.tc : Thread Cert.PremlpPostmixBwdReferenceIdeal.nD Cert.PremlpPostmixBwdReferenceIdeal.τ).loc Cert.PremlpPostmixBwdReferenceIdeal.main_arg6) = m ((c.tc : Thread Cert.PremlpPostmixBwdReferenceIdeal.nD Cert.PremlpPostmixBwdReferenceIdeal.τ).loc Cert.PremlpPostmixBwdReferenceIdeal.main_arg6)
      ∧ r.2.mem ((c.tc : Thread Cert.PremlpPostmixBwdReferenceIdeal.nD Cert.PremlpPostmixBwdReferenceIdeal.τ).loc Cert.PremlpPostmixBwdReferenceIdeal.main_arg7) = m ((c.tc : Thread Cert.PremlpPostmixBwdReferenceIdeal.nD Cert.PremlpPostmixBwdReferenceIdeal.τ).loc Cert.PremlpPostmixBwdReferenceIdeal.main_arg7))
      ∧ r.2.sem = fun _ => 0)

def quiescent_FoxCum [hFoxCum : Cert.FoxCum.Facts] : Prop :=
  ∀ (m : (ℓ : Loc Cert.FoxCum.nD Cert.FoxCum.τ Cert.FoxCum.sig) → Buf (Elt Bits) ℓ) (g : Dev Cert.FoxCum.nD → PrngReg), Pre_FoxCum m →
    θ_run (Cert.FoxCum.defs (F := Bits)) (onTc (τ := Cert.FoxCum.τ) (Cert.FoxCum.main (F := Bits))) ⟨m, fun _ => 0, g⟩ (fun r => (∀ c : Dev Cert.FoxCum.nD,
      r.2.mem ((c.tc : Thread Cert.FoxCum.nD Cert.FoxCum.τ).loc Cert.FoxCum.main_arg0) = m ((c.tc : Thread Cert.FoxCum.nD Cert.FoxCum.τ).loc Cert.FoxCum.main_arg0)
      ∧ r.2.mem ((c.tc : Thread Cert.FoxCum.nD Cert.FoxCum.τ).loc Cert.FoxCum.main_arg1) = m ((c.tc : Thread Cert.FoxCum.nD Cert.FoxCum.τ).loc Cert.FoxCum.main_arg1))
      ∧ r.2.sem = fun _ => 0)

def quiescent_FoxCumIdeal [hFoxCumIdeal : Cert.FoxCumIdeal.Facts] : Prop :=
  ∀ (m : (ℓ : Loc Cert.FoxCumIdeal.nD Cert.FoxCumIdeal.τ Cert.FoxCumIdeal.sig) → Buf (Elt Ideal) ℓ) (g : Dev Cert.FoxCumIdeal.nD → PrngReg), Pre_FoxCumIdeal m →
    θ_run (Cert.FoxCumIdeal.defs (F := Ideal)) (onTc (τ := Cert.FoxCumIdeal.τ) (Cert.FoxCumIdeal.main (F := Ideal))) ⟨m, fun _ => 0, g⟩ (fun r => (∀ c : Dev Cert.FoxCumIdeal.nD,
      r.2.mem ((c.tc : Thread Cert.FoxCumIdeal.nD Cert.FoxCumIdeal.τ).loc Cert.FoxCumIdeal.main_arg0) = m ((c.tc : Thread Cert.FoxCumIdeal.nD Cert.FoxCumIdeal.τ).loc Cert.FoxCumIdeal.main_arg0)
      ∧ r.2.mem ((c.tc : Thread Cert.FoxCumIdeal.nD Cert.FoxCumIdeal.τ).loc Cert.FoxCumIdeal.main_arg1) = m ((c.tc : Thread Cert.FoxCumIdeal.nD Cert.FoxCumIdeal.τ).loc Cert.FoxCumIdeal.main_arg1))
      ∧ r.2.sem = fun _ => 0)

def quiescent_FoxCumReferenceIdeal [hFoxCumReferenceIdeal : Cert.FoxCumReferenceIdeal.Facts] : Prop :=
  ∀ (m : (ℓ : Loc Cert.FoxCumReferenceIdeal.nD Cert.FoxCumReferenceIdeal.τ Cert.FoxCumReferenceIdeal.sig) → Buf (Elt Ideal) ℓ) (g : Dev Cert.FoxCumReferenceIdeal.nD → PrngReg), Pre_FoxCumReferenceIdeal m →
    θ_run (Cert.FoxCumReferenceIdeal.defs (F := Ideal)) (onTc (τ := Cert.FoxCumReferenceIdeal.τ) (Cert.FoxCumReferenceIdeal.main (F := Ideal))) ⟨m, fun _ => 0, g⟩ (fun r => (∀ c : Dev Cert.FoxCumReferenceIdeal.nD,
      r.2.mem ((c.tc : Thread Cert.FoxCumReferenceIdeal.nD Cert.FoxCumReferenceIdeal.τ).loc Cert.FoxCumReferenceIdeal.main_arg0) = m ((c.tc : Thread Cert.FoxCumReferenceIdeal.nD Cert.FoxCumReferenceIdeal.τ).loc Cert.FoxCumReferenceIdeal.main_arg0)
      ∧ r.2.mem ((c.tc : Thread Cert.FoxCumReferenceIdeal.nD Cert.FoxCumReferenceIdeal.τ).loc Cert.FoxCumReferenceIdeal.main_arg1) = m ((c.tc : Thread Cert.FoxCumReferenceIdeal.nD Cert.FoxCumReferenceIdeal.τ).loc Cert.FoxCumReferenceIdeal.main_arg1))
      ∧ r.2.sem = fun _ => 0)

def quiescent_FoxCumBwd [hFoxCumBwd : Cert.FoxCumBwd.Facts] : Prop :=
  ∀ (m : (ℓ : Loc Cert.FoxCumBwd.nD Cert.FoxCumBwd.τ Cert.FoxCumBwd.sig) → Buf (Elt Bits) ℓ) (g : Dev Cert.FoxCumBwd.nD → PrngReg), Pre_FoxCumBwd m →
    θ_run (Cert.FoxCumBwd.defs (F := Bits)) (onTc (τ := Cert.FoxCumBwd.τ) (Cert.FoxCumBwd.main (F := Bits))) ⟨m, fun _ => 0, g⟩ (fun r => (∀ c : Dev Cert.FoxCumBwd.nD,
      r.2.mem ((c.tc : Thread Cert.FoxCumBwd.nD Cert.FoxCumBwd.τ).loc Cert.FoxCumBwd.main_arg0) = m ((c.tc : Thread Cert.FoxCumBwd.nD Cert.FoxCumBwd.τ).loc Cert.FoxCumBwd.main_arg0)
      ∧ r.2.mem ((c.tc : Thread Cert.FoxCumBwd.nD Cert.FoxCumBwd.τ).loc Cert.FoxCumBwd.main_arg1) = m ((c.tc : Thread Cert.FoxCumBwd.nD Cert.FoxCumBwd.τ).loc Cert.FoxCumBwd.main_arg1)
      ∧ r.2.mem ((c.tc : Thread Cert.FoxCumBwd.nD Cert.FoxCumBwd.τ).loc Cert.FoxCumBwd.main_arg2) = m ((c.tc : Thread Cert.FoxCumBwd.nD Cert.FoxCumBwd.τ).loc Cert.FoxCumBwd.main_arg2)
      ∧ r.2.mem ((c.tc : Thread Cert.FoxCumBwd.nD Cert.FoxCumBwd.τ).loc Cert.FoxCumBwd.main_arg3) = m ((c.tc : Thread Cert.FoxCumBwd.nD Cert.FoxCumBwd.τ).loc Cert.FoxCumBwd.main_arg3))
      ∧ r.2.sem = fun _ => 0)

def quiescent_FoxCumBwdIdeal [hFoxCumBwdIdeal : Cert.FoxCumBwdIdeal.Facts] : Prop :=
  ∀ (m : (ℓ : Loc Cert.FoxCumBwdIdeal.nD Cert.FoxCumBwdIdeal.τ Cert.FoxCumBwdIdeal.sig) → Buf (Elt Ideal) ℓ) (g : Dev Cert.FoxCumBwdIdeal.nD → PrngReg), Pre_FoxCumBwdIdeal m →
    θ_run (Cert.FoxCumBwdIdeal.defs (F := Ideal)) (onTc (τ := Cert.FoxCumBwdIdeal.τ) (Cert.FoxCumBwdIdeal.main (F := Ideal))) ⟨m, fun _ => 0, g⟩ (fun r => (∀ c : Dev Cert.FoxCumBwdIdeal.nD,
      r.2.mem ((c.tc : Thread Cert.FoxCumBwdIdeal.nD Cert.FoxCumBwdIdeal.τ).loc Cert.FoxCumBwdIdeal.main_arg0) = m ((c.tc : Thread Cert.FoxCumBwdIdeal.nD Cert.FoxCumBwdIdeal.τ).loc Cert.FoxCumBwdIdeal.main_arg0)
      ∧ r.2.mem ((c.tc : Thread Cert.FoxCumBwdIdeal.nD Cert.FoxCumBwdIdeal.τ).loc Cert.FoxCumBwdIdeal.main_arg1) = m ((c.tc : Thread Cert.FoxCumBwdIdeal.nD Cert.FoxCumBwdIdeal.τ).loc Cert.FoxCumBwdIdeal.main_arg1)
      ∧ r.2.mem ((c.tc : Thread Cert.FoxCumBwdIdeal.nD Cert.FoxCumBwdIdeal.τ).loc Cert.FoxCumBwdIdeal.main_arg2) = m ((c.tc : Thread Cert.FoxCumBwdIdeal.nD Cert.FoxCumBwdIdeal.τ).loc Cert.FoxCumBwdIdeal.main_arg2)
      ∧ r.2.mem ((c.tc : Thread Cert.FoxCumBwdIdeal.nD Cert.FoxCumBwdIdeal.τ).loc Cert.FoxCumBwdIdeal.main_arg3) = m ((c.tc : Thread Cert.FoxCumBwdIdeal.nD Cert.FoxCumBwdIdeal.τ).loc Cert.FoxCumBwdIdeal.main_arg3))
      ∧ r.2.sem = fun _ => 0)

def quiescent_FoxCumBwdIdeal_pre_below [hFoxCumBwdIdeal : Cert.FoxCumBwdIdeal.Facts] [hPre_below : Cert.Pre_below.Facts] : Prop :=
  ∀ (m : (ℓ : Loc Cert.FoxCumBwdIdeal.nD Cert.FoxCumBwdIdeal.τ Cert.FoxCumBwdIdeal.sig) → Buf (Elt Ideal) ℓ) (g : Dev Cert.FoxCumBwdIdeal.nD → PrngReg), Pre_FoxCumBwdIdeal_below m →
    θ_run (Cert.FoxCumBwdIdeal.defs (F := Ideal)) (onTc (τ := Cert.FoxCumBwdIdeal.τ) (Cert.FoxCumBwdIdeal.main (F := Ideal))) ⟨m, fun _ => 0, g⟩ (fun r => (∀ c : Dev Cert.FoxCumBwdIdeal.nD,
      r.2.mem ((c.tc : Thread Cert.FoxCumBwdIdeal.nD Cert.FoxCumBwdIdeal.τ).loc Cert.FoxCumBwdIdeal.main_arg0) = m ((c.tc : Thread Cert.FoxCumBwdIdeal.nD Cert.FoxCumBwdIdeal.τ).loc Cert.FoxCumBwdIdeal.main_arg0)
      ∧ r.2.mem ((c.tc : Thread Cert.FoxCumBwdIdeal.nD Cert.FoxCumBwdIdeal.τ).loc Cert.FoxCumBwdIdeal.main_arg1) = m ((c.tc : Thread Cert.FoxCumBwdIdeal.nD Cert.FoxCumBwdIdeal.τ).loc Cert.FoxCumBwdIdeal.main_arg1)
      ∧ r.2.mem ((c.tc : Thread Cert.FoxCumBwdIdeal.nD Cert.FoxCumBwdIdeal.τ).loc Cert.FoxCumBwdIdeal.main_arg2) = m ((c.tc : Thread Cert.FoxCumBwdIdeal.nD Cert.FoxCumBwdIdeal.τ).loc Cert.FoxCumBwdIdeal.main_arg2)
      ∧ r.2.mem ((c.tc : Thread Cert.FoxCumBwdIdeal.nD Cert.FoxCumBwdIdeal.τ).loc Cert.FoxCumBwdIdeal.main_arg3) = m ((c.tc : Thread Cert.FoxCumBwdIdeal.nD Cert.FoxCumBwdIdeal.τ).loc Cert.FoxCumBwdIdeal.main_arg3))
      ∧ r.2.sem = fun _ => 0)

def quiescent_FoxCumBwdReferenceIdeal [hFoxCumBwdReferenceIdeal : Cert.FoxCumBwdReferenceIdeal.Facts] : Prop :=
  ∀ (m : (ℓ : Loc Cert.FoxCumBwdReferenceIdeal.nD Cert.FoxCumBwdReferenceIdeal.τ Cert.FoxCumBwdReferenceIdeal.sig) → Buf (Elt Ideal) ℓ) (g : Dev Cert.FoxCumBwdReferenceIdeal.nD → PrngReg), Pre_FoxCumBwdReferenceIdeal m →
    θ_run (Cert.FoxCumBwdReferenceIdeal.defs (F := Ideal)) (onTc (τ := Cert.FoxCumBwdReferenceIdeal.τ) (Cert.FoxCumBwdReferenceIdeal.main (F := Ideal))) ⟨m, fun _ => 0, g⟩ (fun r => (∀ c : Dev Cert.FoxCumBwdReferenceIdeal.nD,
      r.2.mem ((c.tc : Thread Cert.FoxCumBwdReferenceIdeal.nD Cert.FoxCumBwdReferenceIdeal.τ).loc Cert.FoxCumBwdReferenceIdeal.main_arg0) = m ((c.tc : Thread Cert.FoxCumBwdReferenceIdeal.nD Cert.FoxCumBwdReferenceIdeal.τ).loc Cert.FoxCumBwdReferenceIdeal.main_arg0)
      ∧ r.2.mem ((c.tc : Thread Cert.FoxCumBwdReferenceIdeal.nD Cert.FoxCumBwdReferenceIdeal.τ).loc Cert.FoxCumBwdReferenceIdeal.main_arg1) = m ((c.tc : Thread Cert.FoxCumBwdReferenceIdeal.nD Cert.FoxCumBwdReferenceIdeal.τ).loc Cert.FoxCumBwdReferenceIdeal.main_arg1)
      ∧ r.2.mem ((c.tc : Thread Cert.FoxCumBwdReferenceIdeal.nD Cert.FoxCumBwdReferenceIdeal.τ).loc Cert.FoxCumBwdReferenceIdeal.main_arg2) = m ((c.tc : Thread Cert.FoxCumBwdReferenceIdeal.nD Cert.FoxCumBwdReferenceIdeal.τ).loc Cert.FoxCumBwdReferenceIdeal.main_arg2)
      ∧ r.2.mem ((c.tc : Thread Cert.FoxCumBwdReferenceIdeal.nD Cert.FoxCumBwdReferenceIdeal.τ).loc Cert.FoxCumBwdReferenceIdeal.main_arg3) = m ((c.tc : Thread Cert.FoxCumBwdReferenceIdeal.nD Cert.FoxCumBwdReferenceIdeal.τ).loc Cert.FoxCumBwdReferenceIdeal.main_arg3))
      ∧ r.2.sem = fun _ => 0)

def quiescent_FoxCumBwdReferenceIdeal_pre_below [hFoxCumBwdReferenceIdeal : Cert.FoxCumBwdReferenceIdeal.Facts] [hPre_below : Cert.Pre_below.Facts] : Prop :=
  ∀ (m : (ℓ : Loc Cert.FoxCumBwdReferenceIdeal.nD Cert.FoxCumBwdReferenceIdeal.τ Cert.FoxCumBwdReferenceIdeal.sig) → Buf (Elt Ideal) ℓ) (g : Dev Cert.FoxCumBwdReferenceIdeal.nD → PrngReg), Pre_FoxCumBwdReferenceIdeal_below m →
    θ_run (Cert.FoxCumBwdReferenceIdeal.defs (F := Ideal)) (onTc (τ := Cert.FoxCumBwdReferenceIdeal.τ) (Cert.FoxCumBwdReferenceIdeal.main (F := Ideal))) ⟨m, fun _ => 0, g⟩ (fun r => (∀ c : Dev Cert.FoxCumBwdReferenceIdeal.nD,
      r.2.mem ((c.tc : Thread Cert.FoxCumBwdReferenceIdeal.nD Cert.FoxCumBwdReferenceIdeal.τ).loc Cert.FoxCumBwdReferenceIdeal.main_arg0) = m ((c.tc : Thread Cert.FoxCumBwdReferenceIdeal.nD Cert.FoxCumBwdReferenceIdeal.τ).loc Cert.FoxCumBwdReferenceIdeal.main_arg0)
      ∧ r.2.mem ((c.tc : Thread Cert.FoxCumBwdReferenceIdeal.nD Cert.FoxCumBwdReferenceIdeal.τ).loc Cert.FoxCumBwdReferenceIdeal.main_arg1) = m ((c.tc : Thread Cert.FoxCumBwdReferenceIdeal.nD Cert.FoxCumBwdReferenceIdeal.τ).loc Cert.FoxCumBwdReferenceIdeal.main_arg1)
      ∧ r.2.mem ((c.tc : Thread Cert.FoxCumBwdReferenceIdeal.nD Cert.FoxCumBwdReferenceIdeal.τ).loc Cert.FoxCumBwdReferenceIdeal.main_arg2) = m ((c.tc : Thread Cert.FoxCumBwdReferenceIdeal.nD Cert.FoxCumBwdReferenceIdeal.τ).loc Cert.FoxCumBwdReferenceIdeal.main_arg2)
      ∧ r.2.mem ((c.tc : Thread Cert.FoxCumBwdReferenceIdeal.nD Cert.FoxCumBwdReferenceIdeal.τ).loc Cert.FoxCumBwdReferenceIdeal.main_arg3) = m ((c.tc : Thread Cert.FoxCumBwdReferenceIdeal.nD Cert.FoxCumBwdReferenceIdeal.τ).loc Cert.FoxCumBwdReferenceIdeal.main_arg3))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1))
      ∧ r.2.sem = fun _ => 0)

def quiescent_ModulationReferenceIdeal [hModulationReferenceIdeal : Cert.ModulationReferenceIdeal.Facts] : Prop :=
  ∀ (m : (ℓ : Loc Cert.ModulationReferenceIdeal.nD Cert.ModulationReferenceIdeal.τ Cert.ModulationReferenceIdeal.sig) → Buf (Elt Ideal) ℓ) (g : Dev Cert.ModulationReferenceIdeal.nD → PrngReg), Pre_ModulationReferenceIdeal m →
    θ_run (Cert.ModulationReferenceIdeal.defs (F := Ideal)) (onTc (τ := Cert.ModulationReferenceIdeal.τ) (Cert.ModulationReferenceIdeal.main (F := Ideal))) ⟨m, fun _ => 0, g⟩ (fun r => (∀ c : Dev Cert.ModulationReferenceIdeal.nD,
      r.2.mem ((c.tc : Thread Cert.ModulationReferenceIdeal.nD Cert.ModulationReferenceIdeal.τ).loc Cert.ModulationReferenceIdeal.main_arg0) = m ((c.tc : Thread Cert.ModulationReferenceIdeal.nD Cert.ModulationReferenceIdeal.τ).loc Cert.ModulationReferenceIdeal.main_arg0)
      ∧ r.2.mem ((c.tc : Thread Cert.ModulationReferenceIdeal.nD Cert.ModulationReferenceIdeal.τ).loc Cert.ModulationReferenceIdeal.main_arg1) = m ((c.tc : Thread Cert.ModulationReferenceIdeal.nD Cert.ModulationReferenceIdeal.τ).loc Cert.ModulationReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v38_0)) (v1 : (c : Dev Cert.KernelIdeal.nD) → Buf (Elt Ideal) ((c.tc : Thread Cert.KernelIdeal.nD Cert.KernelIdeal.τ).loc Cert.KernelIdeal.main_v38_1)) (v2 : (c : Dev Cert.KernelIdeal.nD) → Buf (Elt Ideal) ((c.tc : Thread Cert.KernelIdeal.nD Cert.KernelIdeal.τ).loc Cert.KernelIdeal.main_v38_2)) (v3 : (c : Dev Cert.KernelIdeal.nD) → Buf (Elt Ideal) ((c.tc : Thread Cert.KernelIdeal.nD Cert.KernelIdeal.τ).loc Cert.KernelIdeal.main_v38_3)) (v4 : (c : Dev Cert.KernelIdeal.nD) → Buf (Elt Ideal) ((c.tc : Thread Cert.KernelIdeal.nD Cert.KernelIdeal.τ).loc Cert.KernelIdeal.main_v38_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38_0) = v0 c
          ∧ r.2.mem ((c.tc : Thread Cert.KernelIdeal.nD Cert.KernelIdeal.τ).loc Cert.KernelIdeal.main_v38_1) = v1 c
          ∧ r.2.mem ((c.tc : Thread Cert.KernelIdeal.nD Cert.KernelIdeal.τ).loc Cert.KernelIdeal.main_v38_2) = v2 c
          ∧ r.2.mem ((c.tc : Thread Cert.KernelIdeal.nD Cert.KernelIdeal.τ).loc Cert.KernelIdeal.main_v38_3) = v3 c
          ∧ r.2.mem ((c.tc : Thread Cert.KernelIdeal.nD Cert.KernelIdeal.τ).loc Cert.KernelIdeal.main_v38_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_v81) = v2 c
          ∧ r.2.mem ((c.tc : Thread Cert.ReferenceIdeal.nD Cert.ReferenceIdeal.τ).loc Cert.ReferenceIdeal.main_v82) = v3 c
          ∧ r.2.mem ((c.tc : Thread Cert.ReferenceIdeal.nD Cert.ReferenceIdeal.τ).loc Cert.ReferenceIdeal.main_v83) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_MlpIn_MlpInIdeal : Prop :=
  True

def algebraic_MlpInIdeal_MlpInReferenceIdeal [hMlpInIdeal : Cert.MlpInIdeal.Facts] [hMlpInReferenceIdeal : Cert.MlpInReferenceIdeal.Facts] : Prop :=
  ∀ (m : (ℓ : Loc Cert.MlpInIdeal.nD Cert.MlpInIdeal.τ Cert.MlpInIdeal.sig) → Buf (Elt Ideal) ℓ) (g : Dev Cert.MlpInIdeal.nD → PrngReg)
    (m' : (ℓ : Loc Cert.MlpInReferenceIdeal.nD Cert.MlpInReferenceIdeal.τ Cert.MlpInReferenceIdeal.sig) → Buf (Elt Ideal) ℓ) (g' : Dev Cert.MlpInReferenceIdeal.nD → PrngReg), Pre_MlpInIdeal m →
    (∀ c : Dev Cert.MlpInIdeal.nD,
      m' ((c.tc : Thread Cert.MlpInReferenceIdeal.nD Cert.MlpInReferenceIdeal.τ).loc Cert.MlpInReferenceIdeal.main_arg0) = m ((c.tc : Thread Cert.MlpInIdeal.nD Cert.MlpInIdeal.τ).loc Cert.MlpInIdeal.main_arg0)
      ∧ m' ((c.tc : Thread Cert.MlpInReferenceIdeal.nD Cert.MlpInReferenceIdeal.τ).loc Cert.MlpInReferenceIdeal.main_arg1) = m ((c.tc : Thread Cert.MlpInIdeal.nD Cert.MlpInIdeal.τ).loc Cert.MlpInIdeal.main_arg1)) →
    ∃ (v0 : (c : Dev Cert.MlpInIdeal.nD) → Buf (Elt Ideal) ((c.tc : Thread Cert.MlpInIdeal.nD Cert.MlpInIdeal.τ).loc Cert.MlpInIdeal.main_v0_0)) (v1 : (c : Dev Cert.MlpInIdeal.nD) → Buf (Elt Ideal) ((c.tc : Thread Cert.MlpInIdeal.nD Cert.MlpInIdeal.τ).loc Cert.MlpInIdeal.main_v0_1)),
      θ_run (Cert.MlpInIdeal.defs (F := Ideal)) (onTc (τ := Cert.MlpInIdeal.τ) (Cert.MlpInIdeal.main (F := Ideal))) ⟨m, fun _ => 0, g⟩ (fun r => ∀ c : Dev Cert.MlpInIdeal.nD,
          r.2.mem ((c.tc : Thread Cert.MlpInIdeal.nD Cert.MlpInIdeal.τ).loc Cert.MlpInIdeal.main_v0_0) = v0 c
          ∧ r.2.mem ((c.tc : Thread Cert.MlpInIdeal.nD Cert.MlpInIdeal.τ).loc Cert.MlpInIdeal.main_v0_1) = v1 c
          ∧ r.2.mem ((c.tc : Thread Cert.MlpInIdeal.nD Cert.MlpInIdeal.τ).loc Cert.MlpInIdeal.main_arg0) = m ((c.tc : Thread Cert.MlpInIdeal.nD Cert.MlpInIdeal.τ).loc Cert.MlpInIdeal.main_arg0)
          ∧ r.2.mem ((c.tc : Thread Cert.MlpInIdeal.nD Cert.MlpInIdeal.τ).loc Cert.MlpInIdeal.main_arg1) = m ((c.tc : Thread Cert.MlpInIdeal.nD Cert.MlpInIdeal.τ).loc Cert.MlpInIdeal.main_arg1))
      ∧ θ_run (Cert.MlpInReferenceIdeal.defs (F := Ideal)) (onTc (τ := Cert.MlpInReferenceIdeal.τ) (Cert.MlpInReferenceIdeal.main (F := Ideal))) ⟨m', fun _ => 0, g'⟩ (fun r => ∀ c : Dev Cert.MlpInReferenceIdeal.nD,
          r.2.mem ((c.tc : Thread Cert.MlpInReferenceIdeal.nD Cert.MlpInReferenceIdeal.τ).loc Cert.MlpInReferenceIdeal.main_v7) = v0 c
          ∧ r.2.mem ((c.tc : Thread Cert.MlpInReferenceIdeal.nD Cert.MlpInReferenceIdeal.τ).loc Cert.MlpInReferenceIdeal.main_v8) = v1 c
          ∧ r.2.mem ((c.tc : Thread Cert.MlpInReferenceIdeal.nD Cert.MlpInReferenceIdeal.τ).loc Cert.MlpInReferenceIdeal.main_arg0) = m' ((c.tc : Thread Cert.MlpInReferenceIdeal.nD Cert.MlpInReferenceIdeal.τ).loc Cert.MlpInReferenceIdeal.main_arg0)
          ∧ r.2.mem ((c.tc : Thread Cert.MlpInReferenceIdeal.nD Cert.MlpInReferenceIdeal.τ).loc Cert.MlpInReferenceIdeal.main_arg1) = m' ((c.tc : Thread Cert.MlpInReferenceIdeal.nD Cert.MlpInReferenceIdeal.τ).loc Cert.MlpInReferenceIdeal.main_arg1))

def preserves_MlpOut_MlpOutIdeal : Prop :=
  True

def algebraic_MlpOutIdeal_MlpOutReferenceIdeal [hMlpOutIdeal : Cert.MlpOutIdeal.Facts] [hMlpOutReferenceIdeal : Cert.MlpOutReferenceIdeal.Facts] : Prop :=
  ∀ (m : (ℓ : Loc Cert.MlpOutIdeal.nD Cert.MlpOutIdeal.τ Cert.MlpOutIdeal.sig) → Buf (Elt Ideal) ℓ) (g : Dev Cert.MlpOutIdeal.nD → PrngReg)
    (m' : (ℓ : Loc Cert.MlpOutReferenceIdeal.nD Cert.MlpOutReferenceIdeal.τ Cert.MlpOutReferenceIdeal.sig) → Buf (Elt Ideal) ℓ) (g' : Dev Cert.MlpOutReferenceIdeal.nD → PrngReg), Pre_MlpOutIdeal m →
    (∀ c : Dev Cert.MlpOutIdeal.nD,
      m' ((c.tc : Thread Cert.MlpOutReferenceIdeal.nD Cert.MlpOutReferenceIdeal.τ).loc Cert.MlpOutReferenceIdeal.main_arg0) = m ((c.tc : Thread Cert.MlpOutIdeal.nD Cert.MlpOutIdeal.τ).loc Cert.MlpOutIdeal.main_arg0)
      ∧ m' ((c.tc : Thread Cert.MlpOutReferenceIdeal.nD Cert.MlpOutReferenceIdeal.τ).loc Cert.MlpOutReferenceIdeal.main_arg1) = m ((c.tc : Thread Cert.MlpOutIdeal.nD Cert.MlpOutIdeal.τ).loc Cert.MlpOutIdeal.main_arg1)) →
    ∃ (v0 : (c : Dev Cert.MlpOutIdeal.nD) → Buf (Elt Ideal) ((c.tc : Thread Cert.MlpOutIdeal.nD Cert.MlpOutIdeal.τ).loc Cert.MlpOutIdeal.main_v0)),
      θ_run (Cert.MlpOutIdeal.defs (F := Ideal)) (onTc (τ := Cert.MlpOutIdeal.τ) (Cert.MlpOutIdeal.main (F := Ideal))) ⟨m, fun _ => 0, g⟩ (fun r => ∀ c : Dev Cert.MlpOutIdeal.nD,
          r.2.mem ((c.tc : Thread Cert.MlpOutIdeal.nD Cert.MlpOutIdeal.τ).loc Cert.MlpOutIdeal.main_v0) = v0 c
          ∧ r.2.mem ((c.tc : Thread Cert.MlpOutIdeal.nD Cert.MlpOutIdeal.τ).loc Cert.MlpOutIdeal.main_arg0) = m ((c.tc : Thread Cert.MlpOutIdeal.nD Cert.MlpOutIdeal.τ).loc Cert.MlpOutIdeal.main_arg0)
          ∧ r.2.mem ((c.tc : Thread Cert.MlpOutIdeal.nD Cert.MlpOutIdeal.τ).loc Cert.MlpOutIdeal.main_arg1) = m ((c.tc : Thread Cert.MlpOutIdeal.nD Cert.MlpOutIdeal.τ).loc Cert.MlpOutIdeal.main_arg1))
      ∧ θ_run (Cert.MlpOutReferenceIdeal.defs (F := Ideal)) (onTc (τ := Cert.MlpOutReferenceIdeal.τ) (Cert.MlpOutReferenceIdeal.main (F := Ideal))) ⟨m', fun _ => 0, g'⟩ (fun r => ∀ c : Dev Cert.MlpOutReferenceIdeal.nD,
          r.2.mem ((c.tc : Thread Cert.MlpOutReferenceIdeal.nD Cert.MlpOutReferenceIdeal.τ).loc Cert.MlpOutReferenceIdeal.main_v3) = v0 c
          ∧ r.2.mem ((c.tc : Thread Cert.MlpOutReferenceIdeal.nD Cert.MlpOutReferenceIdeal.τ).loc Cert.MlpOutReferenceIdeal.main_arg0) = m' ((c.tc : Thread Cert.MlpOutReferenceIdeal.nD Cert.MlpOutReferenceIdeal.τ).loc Cert.MlpOutReferenceIdeal.main_arg0)
          ∧ r.2.mem ((c.tc : Thread Cert.MlpOutReferenceIdeal.nD Cert.MlpOutReferenceIdeal.τ).loc Cert.MlpOutReferenceIdeal.main_arg1) = m' ((c.tc : Thread Cert.MlpOutReferenceIdeal.nD Cert.MlpOutReferenceIdeal.τ).loc Cert.MlpOutReferenceIdeal.main_arg1))

def preserves_MlpOutDx_MlpOutDxIdeal : Prop :=
  True

def algebraic_MlpOutDxIdeal_MlpOutDxReferenceIdeal [hMlpOutDxIdeal : Cert.MlpOutDxIdeal.Facts] [hMlpOutDxReferenceIdeal : Cert.MlpOutDxReferenceIdeal.Facts] : Prop :=
  ∀ (m : (ℓ : Loc Cert.MlpOutDxIdeal.nD Cert.MlpOutDxIdeal.τ Cert.MlpOutDxIdeal.sig) → Buf (Elt Ideal) ℓ) (g : Dev Cert.MlpOutDxIdeal.nD → PrngReg)
    (m' : (ℓ : Loc Cert.MlpOutDxReferenceIdeal.nD Cert.MlpOutDxReferenceIdeal.τ Cert.MlpOutDxReferenceIdeal.sig) → Buf (Elt Ideal) ℓ) (g' : Dev Cert.MlpOutDxReferenceIdeal.nD → PrngReg), Pre_MlpOutDxIdeal m →
    (∀ c : Dev Cert.MlpOutDxIdeal.nD,
      m' ((c.tc : Thread Cert.MlpOutDxReferenceIdeal.nD Cert.MlpOutDxReferenceIdeal.τ).loc Cert.MlpOutDxReferenceIdeal.main_arg0) = m ((c.tc : Thread Cert.MlpOutDxIdeal.nD Cert.MlpOutDxIdeal.τ).loc Cert.MlpOutDxIdeal.main_arg0)
      ∧ m' ((c.tc : Thread Cert.MlpOutDxReferenceIdeal.nD Cert.MlpOutDxReferenceIdeal.τ).loc Cert.MlpOutDxReferenceIdeal.main_arg1) = m ((c.tc : Thread Cert.MlpOutDxIdeal.nD Cert.MlpOutDxIdeal.τ).loc Cert.MlpOutDxIdeal.main_arg1)
      ∧ m' ((c.tc : Thread Cert.MlpOutDxReferenceIdeal.nD Cert.MlpOutDxReferenceIdeal.τ).loc Cert.MlpOutDxReferenceIdeal.main_arg2) = m ((c.tc : Thread Cert.MlpOutDxIdeal.nD Cert.MlpOutDxIdeal.τ).loc Cert.MlpOutDxIdeal.main_arg2)) →
    ∃ (v0 : (c : Dev Cert.MlpOutDxIdeal.nD) → Buf (Elt Ideal) ((c.tc : Thread Cert.MlpOutDxIdeal.nD Cert.MlpOutDxIdeal.τ).loc Cert.MlpOutDxIdeal.main_v2)),
      θ_run (Cert.MlpOutDxIdeal.defs (F := Ideal)) (onTc (τ := Cert.MlpOutDxIdeal.τ) (Cert.MlpOutDxIdeal.main (F := Ideal))) ⟨m, fun _ => 0, g⟩ (fun r => ∀ c : Dev Cert.MlpOutDxIdeal.nD,
          r.2.mem ((c.tc : Thread Cert.MlpOutDxIdeal.nD Cert.MlpOutDxIdeal.τ).loc Cert.MlpOutDxIdeal.main_v2) = v0 c
          ∧ r.2.mem ((c.tc : Thread Cert.MlpOutDxIdeal.nD Cert.MlpOutDxIdeal.τ).loc Cert.MlpOutDxIdeal.main_arg0) = m ((c.tc : Thread Cert.MlpOutDxIdeal.nD Cert.MlpOutDxIdeal.τ).loc Cert.MlpOutDxIdeal.main_arg0)
          ∧ r.2.mem ((c.tc : Thread Cert.MlpOutDxIdeal.nD Cert.MlpOutDxIdeal.τ).loc Cert.MlpOutDxIdeal.main_arg1) = m ((c.tc : Thread Cert.MlpOutDxIdeal.nD Cert.MlpOutDxIdeal.τ).loc Cert.MlpOutDxIdeal.main_arg1)
          ∧ r.2.mem ((c.tc : Thread Cert.MlpOutDxIdeal.nD Cert.MlpOutDxIdeal.τ).loc Cert.MlpOutDxIdeal.main_arg2) = m ((c.tc : Thread Cert.MlpOutDxIdeal.nD Cert.MlpOutDxIdeal.τ).loc Cert.MlpOutDxIdeal.main_arg2))
      ∧ θ_run (Cert.MlpOutDxReferenceIdeal.defs (F := Ideal)) (onTc (τ := Cert.MlpOutDxReferenceIdeal.τ) (Cert.MlpOutDxReferenceIdeal.main (F := Ideal))) ⟨m', fun _ => 0, g'⟩ (fun r => ∀ c : Dev Cert.MlpOutDxReferenceIdeal.nD,
          r.2.mem ((c.tc : Thread Cert.MlpOutDxReferenceIdeal.nD Cert.MlpOutDxReferenceIdeal.τ).loc Cert.MlpOutDxReferenceIdeal.main_v15) = v0 c
          ∧ r.2.mem ((c.tc : Thread Cert.MlpOutDxReferenceIdeal.nD Cert.MlpOutDxReferenceIdeal.τ).loc Cert.MlpOutDxReferenceIdeal.main_arg0) = m' ((c.tc : Thread Cert.MlpOutDxReferenceIdeal.nD Cert.MlpOutDxReferenceIdeal.τ).loc Cert.MlpOutDxReferenceIdeal.main_arg0)
          ∧ r.2.mem ((c.tc : Thread Cert.MlpOutDxReferenceIdeal.nD Cert.MlpOutDxReferenceIdeal.τ).loc Cert.MlpOutDxReferenceIdeal.main_arg1) = m' ((c.tc : Thread Cert.MlpOutDxReferenceIdeal.nD Cert.MlpOutDxReferenceIdeal.τ).loc Cert.MlpOutDxReferenceIdeal.main_arg1)
          ∧ r.2.mem ((c.tc : Thread Cert.MlpOutDxReferenceIdeal.nD Cert.MlpOutDxReferenceIdeal.τ).loc Cert.MlpOutDxReferenceIdeal.main_arg2) = m' ((c.tc : Thread Cert.MlpOutDxReferenceIdeal.nD Cert.MlpOutDxReferenceIdeal.τ).loc Cert.MlpOutDxReferenceIdeal.main_arg2))

def preserves_MlpOutDw_MlpOutDwIdeal : Prop :=
  True

def algebraic_MlpOutDwIdeal_MlpOutDwReferenceIdeal [hMlpOutDwIdeal : Cert.MlpOutDwIdeal.Facts] [hMlpOutDwReferenceIdeal : Cert.MlpOutDwReferenceIdeal.Facts] : Prop :=
  ∀ (m : (ℓ : Loc Cert.MlpOutDwIdeal.nD Cert.MlpOutDwIdeal.τ Cert.MlpOutDwIdeal.sig) → Buf (Elt Ideal) ℓ) (g : Dev Cert.MlpOutDwIdeal.nD → PrngReg)
    (m' : (ℓ : Loc Cert.MlpOutDwReferenceIdeal.nD Cert.MlpOutDwReferenceIdeal.τ Cert.MlpOutDwReferenceIdeal.sig) → Buf (Elt Ideal) ℓ) (g' : Dev Cert.MlpOutDwReferenceIdeal.nD → PrngReg), Pre_MlpOutDwIdeal m →
    (∀ c : Dev Cert.MlpOutDwIdeal.nD,
      m' ((c.tc : Thread Cert.MlpOutDwReferenceIdeal.nD Cert.MlpOutDwReferenceIdeal.τ).loc Cert.MlpOutDwReferenceIdeal.main_arg0) = m ((c.tc : Thread Cert.MlpOutDwIdeal.nD Cert.MlpOutDwIdeal.τ).loc Cert.MlpOutDwIdeal.main_arg0)
      ∧ m' ((c.tc : Thread Cert.MlpOutDwReferenceIdeal.nD Cert.MlpOutDwReferenceIdeal.τ).loc Cert.MlpOutDwReferenceIdeal.main_arg1) = m ((c.tc : Thread Cert.MlpOutDwIdeal.nD Cert.MlpOutDwIdeal.τ).loc Cert.MlpOutDwIdeal.main_arg1)) →
    ∃ (v0 : (c : Dev Cert.MlpOutDwIdeal.nD) → Buf (Elt Ideal) ((c.tc : Thread Cert.MlpOutDwIdeal.nD Cert.MlpOutDwIdeal.τ).loc Cert.MlpOutDwIdeal.main_v0)),
      θ_run (Cert.MlpOutDwIdeal.defs (F := Ideal)) (onTc (τ := Cert.MlpOutDwIdeal.τ) (Cert.MlpOutDwIdeal.main (F := Ideal))) ⟨m, fun _ => 0, g⟩ (fun r => ∀ c : Dev Cert.MlpOutDwIdeal.nD,
          r.2.mem ((c.tc : Thread Cert.MlpOutDwIdeal.nD Cert.MlpOutDwIdeal.τ).loc Cert.MlpOutDwIdeal.main_v0) = v0 c
          ∧ r.2.mem ((c.tc : Thread Cert.MlpOutDwIdeal.nD Cert.MlpOutDwIdeal.τ).loc Cert.MlpOutDwIdeal.main_arg0) = m ((c.tc : Thread Cert.MlpOutDwIdeal.nD Cert.MlpOutDwIdeal.τ).loc Cert.MlpOutDwIdeal.main_arg0)
          ∧ r.2.mem ((c.tc : Thread Cert.MlpOutDwIdeal.nD Cert.MlpOutDwIdeal.τ).loc Cert.MlpOutDwIdeal.main_arg1) = m ((c.tc : Thread Cert.MlpOutDwIdeal.nD Cert.MlpOutDwIdeal.τ).loc Cert.MlpOutDwIdeal.main_arg1))
      ∧ θ_run (Cert.MlpOutDwReferenceIdeal.defs (F := Ideal)) (onTc (τ := Cert.MlpOutDwReferenceIdeal.τ) (Cert.MlpOutDwReferenceIdeal.main (F := Ideal))) ⟨m', fun _ => 0, g'⟩ (fun r => ∀ c : Dev Cert.MlpOutDwReferenceIdeal.nD,
          r.2.mem ((c.tc : Thread Cert.MlpOutDwReferenceIdeal.nD Cert.MlpOutDwReferenceIdeal.τ).loc Cert.MlpOutDwReferenceIdeal.main_v6) = v0 c
          ∧ r.2.mem ((c.tc : Thread Cert.MlpOutDwReferenceIdeal.nD Cert.MlpOutDwReferenceIdeal.τ).loc Cert.MlpOutDwReferenceIdeal.main_arg0) = m' ((c.tc : Thread Cert.MlpOutDwReferenceIdeal.nD Cert.MlpOutDwReferenceIdeal.τ).loc Cert.MlpOutDwReferenceIdeal.main_arg0)
          ∧ r.2.mem ((c.tc : Thread Cert.MlpOutDwReferenceIdeal.nD Cert.MlpOutDwReferenceIdeal.τ).loc Cert.MlpOutDwReferenceIdeal.main_arg1) = m' ((c.tc : Thread Cert.MlpOutDwReferenceIdeal.nD Cert.MlpOutDwReferenceIdeal.τ).loc Cert.MlpOutDwReferenceIdeal.main_arg1))

def preserves_MlpInDx_MlpInDxIdeal : Prop :=
  True

def algebraic_MlpInDxIdeal_MlpInDxReferenceIdeal [hMlpInDxIdeal : Cert.MlpInDxIdeal.Facts] [hMlpInDxReferenceIdeal : Cert.MlpInDxReferenceIdeal.Facts] : Prop :=
  ∀ (m : (ℓ : Loc Cert.MlpInDxIdeal.nD Cert.MlpInDxIdeal.τ Cert.MlpInDxIdeal.sig) → Buf (Elt Ideal) ℓ) (g : Dev Cert.MlpInDxIdeal.nD → PrngReg)
    (m' : (ℓ : Loc Cert.MlpInDxReferenceIdeal.nD Cert.MlpInDxReferenceIdeal.τ Cert.MlpInDxReferenceIdeal.sig) → Buf (Elt Ideal) ℓ) (g' : Dev Cert.MlpInDxReferenceIdeal.nD → PrngReg), Pre_MlpInDxIdeal m →
    (∀ c : Dev Cert.MlpInDxIdeal.nD,
      m' ((c.tc : Thread Cert.MlpInDxReferenceIdeal.nD Cert.MlpInDxReferenceIdeal.τ).loc Cert.MlpInDxReferenceIdeal.main_arg0) = m ((c.tc : Thread Cert.MlpInDxIdeal.nD Cert.MlpInDxIdeal.τ).loc Cert.MlpInDxIdeal.main_arg0)
      ∧ m' ((c.tc : Thread Cert.MlpInDxReferenceIdeal.nD Cert.MlpInDxReferenceIdeal.τ).loc Cert.MlpInDxReferenceIdeal.main_arg1) = m ((c.tc : Thread Cert.MlpInDxIdeal.nD Cert.MlpInDxIdeal.τ).loc Cert.MlpInDxIdeal.main_arg1)) →
    ∃ (v0 : (c : Dev Cert.MlpInDxIdeal.nD) → Buf (Elt Ideal) ((c.tc : Thread Cert.MlpInDxIdeal.nD Cert.MlpInDxIdeal.τ).loc Cert.MlpInDxIdeal.main_v0)),
      θ_run (Cert.MlpInDxIdeal.defs (F := Ideal)) (onTc (τ := Cert.MlpInDxIdeal.τ) (Cert.MlpInDxIdeal.main (F := Ideal))) ⟨m, fun _ => 0, g⟩ (fun r => ∀ c : Dev Cert.MlpInDxIdeal.nD,
          r.2.mem ((c.tc : Thread Cert.MlpInDxIdeal.nD Cert.MlpInDxIdeal.τ).loc Cert.MlpInDxIdeal.main_v0) = v0 c
          ∧ r.2.mem ((c.tc : Thread Cert.MlpInDxIdeal.nD Cert.MlpInDxIdeal.τ).loc Cert.MlpInDxIdeal.main_arg0) = m ((c.tc : Thread Cert.MlpInDxIdeal.nD Cert.MlpInDxIdeal.τ).loc Cert.MlpInDxIdeal.main_arg0)
          ∧ r.2.mem ((c.tc : Thread Cert.MlpInDxIdeal.nD Cert.MlpInDxIdeal.τ).loc Cert.MlpInDxIdeal.main_arg1) = m ((c.tc : Thread Cert.MlpInDxIdeal.nD Cert.MlpInDxIdeal.τ).loc Cert.MlpInDxIdeal.main_arg1))
      ∧ θ_run (Cert.MlpInDxReferenceIdeal.defs (F := Ideal)) (onTc (τ := Cert.MlpInDxReferenceIdeal.τ) (Cert.MlpInDxReferenceIdeal.main (F := Ideal))) ⟨m', fun _ => 0, g'⟩ (fun r => ∀ c : Dev Cert.MlpInDxReferenceIdeal.nD,
          r.2.mem ((c.tc : Thread Cert.MlpInDxReferenceIdeal.nD Cert.MlpInDxReferenceIdeal.τ).loc Cert.MlpInDxReferenceIdeal.main_v7) = v0 c
          ∧ r.2.mem ((c.tc : Thread Cert.MlpInDxReferenceIdeal.nD Cert.MlpInDxReferenceIdeal.τ).loc Cert.MlpInDxReferenceIdeal.main_arg0) = m' ((c.tc : Thread Cert.MlpInDxReferenceIdeal.nD Cert.MlpInDxReferenceIdeal.τ).loc Cert.MlpInDxReferenceIdeal.main_arg0)
          ∧ r.2.mem ((c.tc : Thread Cert.MlpInDxReferenceIdeal.nD Cert.MlpInDxReferenceIdeal.τ).loc Cert.MlpInDxReferenceIdeal.main_arg1) = m' ((c.tc : Thread Cert.MlpInDxReferenceIdeal.nD Cert.MlpInDxReferenceIdeal.τ).loc Cert.MlpInDxReferenceIdeal.main_arg1))

def preserves_MlpInDw_MlpInDwIdeal : Prop :=
  True

def algebraic_MlpInDwIdeal_MlpInDwReferenceIdeal [hMlpInDwIdeal : Cert.MlpInDwIdeal.Facts] [hMlpInDwReferenceIdeal : Cert.MlpInDwReferenceIdeal.Facts] : Prop :=
  ∀ (m : (ℓ : Loc Cert.MlpInDwIdeal.nD Cert.MlpInDwIdeal.τ Cert.MlpInDwIdeal.sig) → Buf (Elt Ideal) ℓ) (g : Dev Cert.MlpInDwIdeal.nD → PrngReg)
    (m' : (ℓ : Loc Cert.MlpInDwReferenceIdeal.nD Cert.MlpInDwReferenceIdeal.τ Cert.MlpInDwReferenceIdeal.sig) → Buf (Elt Ideal) ℓ) (g' : Dev Cert.MlpInDwReferenceIdeal.nD → PrngReg), Pre_MlpInDwIdeal m →
    (∀ c : Dev Cert.MlpInDwIdeal.nD,
      m' ((c.tc : Thread Cert.MlpInDwReferenceIdeal.nD Cert.MlpInDwReferenceIdeal.τ).loc Cert.MlpInDwReferenceIdeal.main_arg0) = m ((c.tc : Thread Cert.MlpInDwIdeal.nD Cert.MlpInDwIdeal.τ).loc Cert.MlpInDwIdeal.main_arg0)
      ∧ m' ((c.tc : Thread Cert.MlpInDwReferenceIdeal.nD Cert.MlpInDwReferenceIdeal.τ).loc Cert.MlpInDwReferenceIdeal.main_arg1) = m ((c.tc : Thread Cert.MlpInDwIdeal.nD Cert.MlpInDwIdeal.τ).loc Cert.MlpInDwIdeal.main_arg1)) →
    ∃ (v0 : (c : Dev Cert.MlpInDwIdeal.nD) → Buf (Elt Ideal) ((c.tc : Thread Cert.MlpInDwIdeal.nD Cert.MlpInDwIdeal.τ).loc Cert.MlpInDwIdeal.main_v0)),
      θ_run (Cert.MlpInDwIdeal.defs (F := Ideal)) (onTc (τ := Cert.MlpInDwIdeal.τ) (Cert.MlpInDwIdeal.main (F := Ideal))) ⟨m, fun _ => 0, g⟩ (fun r => ∀ c : Dev Cert.MlpInDwIdeal.nD,
          r.2.mem ((c.tc : Thread Cert.MlpInDwIdeal.nD Cert.MlpInDwIdeal.τ).loc Cert.MlpInDwIdeal.main_v0) = v0 c
          ∧ r.2.mem ((c.tc : Thread Cert.MlpInDwIdeal.nD Cert.MlpInDwIdeal.τ).loc Cert.MlpInDwIdeal.main_arg0) = m ((c.tc : Thread Cert.MlpInDwIdeal.nD Cert.MlpInDwIdeal.τ).loc Cert.MlpInDwIdeal.main_arg0)
          ∧ r.2.mem ((c.tc : Thread Cert.MlpInDwIdeal.nD Cert.MlpInDwIdeal.τ).loc Cert.MlpInDwIdeal.main_arg1) = m ((c.tc : Thread Cert.MlpInDwIdeal.nD Cert.MlpInDwIdeal.τ).loc Cert.MlpInDwIdeal.main_arg1))
      ∧ θ_run (Cert.MlpInDwReferenceIdeal.defs (F := Ideal)) (onTc (τ := Cert.MlpInDwReferenceIdeal.τ) (Cert.MlpInDwReferenceIdeal.main (F := Ideal))) ⟨m', fun _ => 0, g'⟩ (fun r => ∀ c : Dev Cert.MlpInDwReferenceIdeal.nD,
          r.2.mem ((c.tc : Thread Cert.MlpInDwReferenceIdeal.nD Cert.MlpInDwReferenceIdeal.τ).loc Cert.MlpInDwReferenceIdeal.main_v10) = v0 c
          ∧ r.2.mem ((c.tc : Thread Cert.MlpInDwReferenceIdeal.nD Cert.MlpInDwReferenceIdeal.τ).loc Cert.MlpInDwReferenceIdeal.main_arg0) = m' ((c.tc : Thread Cert.MlpInDwReferenceIdeal.nD Cert.MlpInDwReferenceIdeal.τ).loc Cert.MlpInDwReferenceIdeal.main_arg0)
          ∧ r.2.mem ((c.tc : Thread Cert.MlpInDwReferenceIdeal.nD Cert.MlpInDwReferenceIdeal.τ).loc Cert.MlpInDwReferenceIdeal.main_arg1) = m' ((c.tc : Thread Cert.MlpInDwReferenceIdeal.nD Cert.MlpInDwReferenceIdeal.τ).loc Cert.MlpInDwReferenceIdeal.main_arg1))

def preserves_ProjMain_ProjMainIdeal : Prop :=
  True

def algebraic_ProjMainIdeal_ProjMainReferenceIdeal [hProjMainIdeal : Cert.ProjMainIdeal.Facts] [hProjMainReferenceIdeal : Cert.ProjMainReferenceIdeal.Facts] : Prop :=
  ∀ (m : (ℓ : Loc Cert.ProjMainIdeal.nD Cert.ProjMainIdeal.τ Cert.ProjMainIdeal.sig) → Buf (Elt Ideal) ℓ) (g : Dev Cert.ProjMainIdeal.nD → PrngReg)
    (m' : (ℓ : Loc Cert.ProjMainReferenceIdeal.nD Cert.ProjMainReferenceIdeal.τ Cert.ProjMainReferenceIdeal.sig) → Buf (Elt Ideal) ℓ) (g' : Dev Cert.ProjMainReferenceIdeal.nD → PrngReg), Pre_ProjMainIdeal m →
    (∀ c : Dev Cert.ProjMainIdeal.nD,
      m' ((c.tc : Thread Cert.ProjMainReferenceIdeal.nD Cert.ProjMainReferenceIdeal.τ).loc Cert.ProjMainReferenceIdeal.main_arg0) = m ((c.tc : Thread Cert.ProjMainIdeal.nD Cert.ProjMainIdeal.τ).loc Cert.ProjMainIdeal.main_arg0)
      ∧ m' ((c.tc : Thread Cert.ProjMainReferenceIdeal.nD Cert.ProjMainReferenceIdeal.τ).loc Cert.ProjMainReferenceIdeal.main_arg1) = m ((c.tc : Thread Cert.ProjMainIdeal.nD Cert.ProjMainIdeal.τ).loc Cert.ProjMainIdeal.main_arg1)) →
    ∃ (v0 : (c : Dev Cert.ProjMainIdeal.nD) → Buf (Elt Ideal) ((c.tc : Thread Cert.ProjMainIdeal.nD Cert.ProjMainIdeal.τ).loc Cert.ProjMainIdeal.main_v0)),
      θ_run (Cert.ProjMainIdeal.defs (F := Ideal)) (onTc (τ := Cert.ProjMainIdeal.τ) (Cert.ProjMainIdeal.main (F := Ideal))) ⟨m, fun _ => 0, g⟩ (fun r => ∀ c : Dev Cert.ProjMainIdeal.nD,
          r.2.mem ((c.tc : Thread Cert.ProjMainIdeal.nD Cert.ProjMainIdeal.τ).loc Cert.ProjMainIdeal.main_v0) = v0 c
          ∧ r.2.mem ((c.tc : Thread Cert.ProjMainIdeal.nD Cert.ProjMainIdeal.τ).loc Cert.ProjMainIdeal.main_arg0) = m ((c.tc : Thread Cert.ProjMainIdeal.nD Cert.ProjMainIdeal.τ).loc Cert.ProjMainIdeal.main_arg0)
          ∧ r.2.mem ((c.tc : Thread Cert.ProjMainIdeal.nD Cert.ProjMainIdeal.τ).loc Cert.ProjMainIdeal.main_arg1) = m ((c.tc : Thread Cert.ProjMainIdeal.nD Cert.ProjMainIdeal.τ).loc Cert.ProjMainIdeal.main_arg1))
      ∧ θ_run (Cert.ProjMainReferenceIdeal.defs (F := Ideal)) (onTc (τ := Cert.ProjMainReferenceIdeal.τ) (Cert.ProjMainReferenceIdeal.main (F := Ideal))) ⟨m', fun _ => 0, g'⟩ (fun r => ∀ c : Dev Cert.ProjMainReferenceIdeal.nD,
          r.2.mem ((c.tc : Thread Cert.ProjMainReferenceIdeal.nD Cert.ProjMainReferenceIdeal.τ).loc Cert.ProjMainReferenceIdeal.main_v4) = v0 c
          ∧ r.2.mem ((c.tc : Thread Cert.ProjMainReferenceIdeal.nD Cert.ProjMainReferenceIdeal.τ).loc Cert.ProjMainReferenceIdeal.main_arg0) = m' ((c.tc : Thread Cert.ProjMainReferenceIdeal.nD Cert.ProjMainReferenceIdeal.τ).loc Cert.ProjMainReferenceIdeal.main_arg0)
          ∧ r.2.mem ((c.tc : Thread Cert.ProjMainReferenceIdeal.nD Cert.ProjMainReferenceIdeal.τ).loc Cert.ProjMainReferenceIdeal.main_arg1) = m' ((c.tc : Thread Cert.ProjMainReferenceIdeal.nD Cert.ProjMainReferenceIdeal.τ).loc Cert.ProjMainReferenceIdeal.main_arg1))

def preserves_ProjMainDx_ProjMainDxIdeal : Prop :=
  True

def algebraic_ProjMainDxIdeal_ProjMainDxReferenceIdeal [hProjMainDxIdeal : Cert.ProjMainDxIdeal.Facts] [hProjMainDxReferenceIdeal : Cert.ProjMainDxReferenceIdeal.Facts] : Prop :=
  ∀ (m : (ℓ : Loc Cert.ProjMainDxIdeal.nD Cert.ProjMainDxIdeal.τ Cert.ProjMainDxIdeal.sig) → Buf (Elt Ideal) ℓ) (g : Dev Cert.ProjMainDxIdeal.nD → PrngReg)
    (m' : (ℓ : Loc Cert.ProjMainDxReferenceIdeal.nD Cert.ProjMainDxReferenceIdeal.τ Cert.ProjMainDxReferenceIdeal.sig) → Buf (Elt Ideal) ℓ) (g' : Dev Cert.ProjMainDxReferenceIdeal.nD → PrngReg), Pre_ProjMainDxIdeal m →
    (∀ c : Dev Cert.ProjMainDxIdeal.nD,
      m' ((c.tc : Thread Cert.ProjMainDxReferenceIdeal.nD Cert.ProjMainDxReferenceIdeal.τ).loc Cert.ProjMainDxReferenceIdeal.main_arg0) = m ((c.tc : Thread Cert.ProjMainDxIdeal.nD Cert.ProjMainDxIdeal.τ).loc Cert.ProjMainDxIdeal.main_arg0)
      ∧ m' ((c.tc : Thread Cert.ProjMainDxReferenceIdeal.nD Cert.ProjMainDxReferenceIdeal.τ).loc Cert.ProjMainDxReferenceIdeal.main_arg1) = m ((c.tc : Thread Cert.ProjMainDxIdeal.nD Cert.ProjMainDxIdeal.τ).loc Cert.ProjMainDxIdeal.main_arg1)
      ∧ m' ((c.tc : Thread Cert.ProjMainDxReferenceIdeal.nD Cert.ProjMainDxReferenceIdeal.τ).loc Cert.ProjMainDxReferenceIdeal.main_arg2) = m ((c.tc : Thread Cert.ProjMainDxIdeal.nD Cert.ProjMainDxIdeal.τ).loc Cert.ProjMainDxIdeal.main_arg2)
      ∧ m' ((c.tc : Thread Cert.ProjMainDxReferenceIdeal.nD Cert.ProjMainDxReferenceIdeal.τ).loc Cert.ProjMainDxReferenceIdeal.main_arg3) = m ((c.tc : Thread Cert.ProjMainDxIdeal.nD Cert.ProjMainDxIdeal.τ).loc Cert.ProjMainDxIdeal.main_arg3)) →
    ∃ (v0 : (c : Dev Cert.ProjMainDxIdeal.nD) → Buf (Elt Ideal) ((c.tc : Thread Cert.ProjMainDxIdeal.nD Cert.ProjMainDxIdeal.τ).loc Cert.ProjMainDxIdeal.main_v0)),
      θ_run (Cert.ProjMainDxIdeal.defs (F := Ideal)) (onTc (τ := Cert.ProjMainDxIdeal.τ) (Cert.ProjMainDxIdeal.main (F := Ideal))) ⟨m, fun _ => 0, g⟩ (fun r => ∀ c : Dev Cert.ProjMainDxIdeal.nD,
          r.2.mem ((c.tc : Thread Cert.ProjMainDxIdeal.nD Cert.ProjMainDxIdeal.τ).loc Cert.ProjMainDxIdeal.main_v0) = v0 c
          ∧ r.2.mem ((c.tc : Thread Cert.ProjMainDxIdeal.nD Cert.ProjMainDxIdeal.τ).loc Cert.ProjMainDxIdeal.main_arg0) = m ((c.tc : Thread Cert.ProjMainDxIdeal.nD Cert.ProjMainDxIdeal.τ).loc Cert.ProjMainDxIdeal.main_arg0)
          ∧ r.2.mem ((c.tc : Thread Cert.ProjMainDxIdeal.nD Cert.ProjMainDxIdeal.τ).loc Cert.ProjMainDxIdeal.main_arg1) = m ((c.tc : Thread Cert.ProjMainDxIdeal.nD Cert.ProjMainDxIdeal.τ).loc Cert.ProjMainDxIdeal.main_arg1)
          ∧ r.2.mem ((c.tc : Thread Cert.ProjMainDxIdeal.nD Cert.ProjMainDxIdeal.τ).loc Cert.ProjMainDxIdeal.main_arg2) = m ((c.tc : Thread Cert.ProjMainDxIdeal.nD Cert.ProjMainDxIdeal.τ).loc Cert.ProjMainDxIdeal.main_arg2)
          ∧ r.2.mem ((c.tc : Thread Cert.ProjMainDxIdeal.nD Cert.ProjMainDxIdeal.τ).loc Cert.ProjMainDxIdeal.main_arg3) = m ((c.tc : Thread Cert.ProjMainDxIdeal.nD Cert.ProjMainDxIdeal.τ).loc Cert.ProjMainDxIdeal.main_arg3))
      ∧ θ_run (Cert.ProjMainDxReferenceIdeal.defs (F := Ideal)) (onTc (τ := Cert.ProjMainDxReferenceIdeal.τ) (Cert.ProjMainDxReferenceIdeal.main (F := Ideal))) ⟨m', fun _ => 0, g'⟩ (fun r => ∀ c : Dev Cert.ProjMainDxReferenceIdeal.nD,
          r.2.mem ((c.tc : Thread Cert.ProjMainDxReferenceIdeal.nD Cert.ProjMainDxReferenceIdeal.τ).loc Cert.ProjMainDxReferenceIdeal.main_v11) = v0 c
          ∧ r.2.mem ((c.tc : Thread Cert.ProjMainDxReferenceIdeal.nD Cert.ProjMainDxReferenceIdeal.τ).loc Cert.ProjMainDxReferenceIdeal.main_arg0) = m' ((c.tc : Thread Cert.ProjMainDxReferenceIdeal.nD Cert.ProjMainDxReferenceIdeal.τ).loc Cert.ProjMainDxReferenceIdeal.main_arg0)
          ∧ r.2.mem ((c.tc : Thread Cert.ProjMainDxReferenceIdeal.nD Cert.ProjMainDxReferenceIdeal.τ).loc Cert.ProjMainDxReferenceIdeal.main_arg1) = m' ((c.tc : Thread Cert.ProjMainDxReferenceIdeal.nD Cert.ProjMainDxReferenceIdeal.τ).loc Cert.ProjMainDxReferenceIdeal.main_arg1)
          ∧ r.2.mem ((c.tc : Thread Cert.ProjMainDxReferenceIdeal.nD Cert.ProjMainDxReferenceIdeal.τ).loc Cert.ProjMainDxReferenceIdeal.main_arg2) = m' ((c.tc : Thread Cert.ProjMainDxReferenceIdeal.nD Cert.ProjMainDxReferenceIdeal.τ).loc Cert.ProjMainDxReferenceIdeal.main_arg2)
          ∧ r.2.mem ((c.tc : Thread Cert.ProjMainDxReferenceIdeal.nD Cert.ProjMainDxReferenceIdeal.τ).loc Cert.ProjMainDxReferenceIdeal.main_arg3) = m' ((c.tc : Thread Cert.ProjMainDxReferenceIdeal.nD Cert.ProjMainDxReferenceIdeal.τ).loc Cert.ProjMainDxReferenceIdeal.main_arg3))

def preserves_ProjMainDw_ProjMainDwIdeal : Prop :=
  True

def algebraic_ProjMainDwIdeal_ProjMainDwReferenceIdeal [hProjMainDwIdeal : Cert.ProjMainDwIdeal.Facts] [hProjMainDwReferenceIdeal : Cert.ProjMainDwReferenceIdeal.Facts] : Prop :=
  ∀ (m : (ℓ : Loc Cert.ProjMainDwIdeal.nD Cert.ProjMainDwIdeal.τ Cert.ProjMainDwIdeal.sig) → Buf (Elt Ideal) ℓ) (g : Dev Cert.ProjMainDwIdeal.nD → PrngReg)
    (m' : (ℓ : Loc Cert.ProjMainDwReferenceIdeal.nD Cert.ProjMainDwReferenceIdeal.τ Cert.ProjMainDwReferenceIdeal.sig) → Buf (Elt Ideal) ℓ) (g' : Dev Cert.ProjMainDwReferenceIdeal.nD → PrngReg), Pre_ProjMainDwIdeal m →
    (∀ c : Dev Cert.ProjMainDwIdeal.nD,
      m' ((c.tc : Thread Cert.ProjMainDwReferenceIdeal.nD Cert.ProjMainDwReferenceIdeal.τ).loc Cert.ProjMainDwReferenceIdeal.main_arg0) = m ((c.tc : Thread Cert.ProjMainDwIdeal.nD Cert.ProjMainDwIdeal.τ).loc Cert.ProjMainDwIdeal.main_arg0)
      ∧ m' ((c.tc : Thread Cert.ProjMainDwReferenceIdeal.nD Cert.ProjMainDwReferenceIdeal.τ).loc Cert.ProjMainDwReferenceIdeal.main_arg1) = m ((c.tc : Thread Cert.ProjMainDwIdeal.nD Cert.ProjMainDwIdeal.τ).loc Cert.ProjMainDwIdeal.main_arg1)) →
    ∃ (v0 : (c : Dev Cert.ProjMainDwIdeal.nD) → Buf (Elt Ideal) ((c.tc : Thread Cert.ProjMainDwIdeal.nD Cert.ProjMainDwIdeal.τ).loc Cert.ProjMainDwIdeal.main_v0)),
      θ_run (Cert.ProjMainDwIdeal.defs (F := Ideal)) (onTc (τ := Cert.ProjMainDwIdeal.τ) (Cert.ProjMainDwIdeal.main (F := Ideal))) ⟨m, fun _ => 0, g⟩ (fun r => ∀ c : Dev Cert.ProjMainDwIdeal.nD,
          r.2.mem ((c.tc : Thread Cert.ProjMainDwIdeal.nD Cert.ProjMainDwIdeal.τ).loc Cert.ProjMainDwIdeal.main_v0) = v0 c
          ∧ r.2.mem ((c.tc : Thread Cert.ProjMainDwIdeal.nD Cert.ProjMainDwIdeal.τ).loc Cert.ProjMainDwIdeal.main_arg0) = m ((c.tc : Thread Cert.ProjMainDwIdeal.nD Cert.ProjMainDwIdeal.τ).loc Cert.ProjMainDwIdeal.main_arg0)
          ∧ r.2.mem ((c.tc : Thread Cert.ProjMainDwIdeal.nD Cert.ProjMainDwIdeal.τ).loc Cert.ProjMainDwIdeal.main_arg1) = m ((c.tc : Thread Cert.ProjMainDwIdeal.nD Cert.ProjMainDwIdeal.τ).loc Cert.ProjMainDwIdeal.main_arg1))
      ∧ θ_run (Cert.ProjMainDwReferenceIdeal.defs (F := Ideal)) (onTc (τ := Cert.ProjMainDwReferenceIdeal.τ) (Cert.ProjMainDwReferenceIdeal.main (F := Ideal))) ⟨m', fun _ => 0, g'⟩ (fun r => ∀ c : Dev Cert.ProjMainDwReferenceIdeal.nD,
          r.2.mem ((c.tc : Thread Cert.ProjMainDwReferenceIdeal.nD Cert.ProjMainDwReferenceIdeal.τ).loc Cert.ProjMainDwReferenceIdeal.main_v8) = v0 c
          ∧ r.2.mem ((c.tc : Thread Cert.ProjMainDwReferenceIdeal.nD Cert.ProjMainDwReferenceIdeal.τ).loc Cert.ProjMainDwReferenceIdeal.main_arg0) = m' ((c.tc : Thread Cert.ProjMainDwReferenceIdeal.nD Cert.ProjMainDwReferenceIdeal.τ).loc Cert.ProjMainDwReferenceIdeal.main_arg0)
          ∧ r.2.mem ((c.tc : Thread Cert.ProjMainDwReferenceIdeal.nD Cert.ProjMainDwReferenceIdeal.τ).loc Cert.ProjMainDwReferenceIdeal.main_arg1) = m' ((c.tc : Thread Cert.ProjMainDwReferenceIdeal.nD Cert.ProjMainDwReferenceIdeal.τ).loc Cert.ProjMainDwReferenceIdeal.main_arg1))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v3) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1))

def preserves_OutProjDx_OutProjDxIdeal : Prop :=
  True

def algebraic_OutProjDxIdeal_OutProjDxReferenceIdeal [hOutProjDxIdeal : Cert.OutProjDxIdeal.Facts] [hOutProjDxReferenceIdeal : Cert.OutProjDxReferenceIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg)
    (m' : (ℓ : Loc Cert.OutProjDxReferenceIdeal.nD Cert.OutProjDxReferenceIdeal.τ Cert.OutProjDxReferenceIdeal.sig) → Buf (Elt Ideal) ℓ) (g' : Dev Cert.OutProjDxReferenceIdeal.nD → PrngReg), Pre_OutProjDxIdeal m →
    (∀ c : Dev Cert.OutProjDxIdeal.nD,
      m' ((c.tc : Thread Cert.OutProjDxReferenceIdeal.nD Cert.OutProjDxReferenceIdeal.τ).loc Cert.OutProjDxReferenceIdeal.main_arg0) = m ((c.tc : Thread Cert.OutProjDxIdeal.nD Cert.OutProjDxIdeal.τ).loc Cert.OutProjDxIdeal.main_arg0)
      ∧ m' ((c.tc : Thread Cert.OutProjDxReferenceIdeal.nD Cert.OutProjDxReferenceIdeal.τ).loc Cert.OutProjDxReferenceIdeal.main_arg1) = m ((c.tc : Thread Cert.OutProjDxIdeal.nD Cert.OutProjDxIdeal.τ).loc Cert.OutProjDxIdeal.main_arg1)) →
    ∃ (v0 : (c : Dev Cert.OutProjDxIdeal.nD) → Buf (Elt Ideal) ((c.tc : Thread Cert.OutProjDxIdeal.nD Cert.OutProjDxIdeal.τ).loc Cert.OutProjDxIdeal.main_v0)),
      θ_run (Cert.OutProjDxIdeal.defs (F := Ideal)) (onTc (τ := Cert.OutProjDxIdeal.τ) (Cert.OutProjDxIdeal.main (F := Ideal))) ⟨m, fun _ => 0, g⟩ (fun r => ∀ c : Dev Cert.OutProjDxIdeal.nD,
          r.2.mem ((c.tc : Thread Cert.OutProjDxIdeal.nD Cert.OutProjDxIdeal.τ).loc Cert.OutProjDxIdeal.main_v0) = v0 c
          ∧ r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
          ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1))
      ∧ θ_run (Cert.OutProjDxReferenceIdeal.defs (F := Ideal)) (onTc (τ := Cert.OutProjDxReferenceIdeal.τ) (Cert.OutProjDxReferenceIdeal.main (F := Ideal))) ⟨m', fun _ => 0, g'⟩ (fun r => ∀ c : Dev Cert.OutProjDxReferenceIdeal.nD,
          r.2.mem ((c.tc : Thread Cert.OutProjDxReferenceIdeal.nD Cert.OutProjDxReferenceIdeal.τ).loc Cert.OutProjDxReferenceIdeal.main_v5) = v0 c
          ∧ r.2.mem ((c.tc : Thread Cert.OutProjDxReferenceIdeal.nD Cert.OutProjDxReferenceIdeal.τ).loc Cert.OutProjDxReferenceIdeal.main_arg0) = m' ((c.tc : Thread Cert.OutProjDxReferenceIdeal.nD Cert.OutProjDxReferenceIdeal.τ).loc Cert.OutProjDxReferenceIdeal.main_arg0)
          ∧ r.2.mem ((c.tc : Thread Cert.OutProjDxReferenceIdeal.nD Cert.OutProjDxReferenceIdeal.τ).loc Cert.OutProjDxReferenceIdeal.main_arg1) = m' ((c.tc : Thread Cert.OutProjDxReferenceIdeal.nD Cert.OutProjDxReferenceIdeal.τ).loc Cert.OutProjDxReferenceIdeal.main_arg1))

def preserves_OutProjDw_OutProjDwIdeal : Prop :=
  True

def algebraic_OutProjDwIdeal_OutProjDwReferenceIdeal [hOutProjDwIdeal : Cert.OutProjDwIdeal.Facts] [hOutProjDwReferenceIdeal : Cert.OutProjDwReferenceIdeal.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg)
    (m' : (ℓ : Loc Cert.OutProjDwReferenceIdeal.nD Cert.OutProjDwReferenceIdeal.τ Cert.OutProjDwReferenceIdeal.sig) → Buf (Elt Ideal) ℓ) (g' : Dev Cert.OutProjDwReferenceIdeal.nD → PrngReg), Pre_OutProjDwIdeal m →
    (∀ c : Dev Cert.OutProjDwIdeal.nD,
      m' ((c.tc : Thread Cert.OutProjDwReferenceIdeal.nD Cert.OutProjDwReferenceIdeal.τ).loc Cert.OutProjDwReferenceIdeal.main_arg0) = m ((c.tc : Thread Cert.OutProjDwIdeal.nD Cert.OutProjDwIdeal.τ).loc Cert.OutProjDwIdeal.main_arg0)
      ∧ m' ((c.tc : Thread Cert.OutProjDwReferenceIdeal.nD Cert.OutProjDwReferenceIdeal.τ).loc Cert.OutProjDwReferenceIdeal.main_arg1) = m ((c.tc : Thread Cert.OutProjDwIdeal.nD Cert.OutProjDwIdeal.τ).loc Cert.OutProjDwIdeal.main_arg1)) →
    ∃ (v0 : (c : Dev Cert.OutProjDwIdeal.nD) → Buf (Elt Ideal) ((c.tc : Thread Cert.OutProjDwIdeal.nD Cert.OutProjDwIdeal.τ).loc Cert.OutProjDwIdeal.main_v0)),
      θ_run (Cert.OutProjDwIdeal.defs (F := Ideal)) (onTc (τ := Cert.OutProjDwIdeal.τ) (Cert.OutProjDwIdeal.main (F := Ideal))) ⟨m, fun _ => 0, g⟩ (fun r => ∀ c : Dev Cert.OutProjDwIdeal.nD,
          r.2.mem ((c.tc : Thread Cert.OutProjDwIdeal.nD Cert.OutProjDwIdeal.τ).loc Cert.OutProjDwIdeal.main_v0) = v0 c
          ∧ r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
          ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1))
      ∧ θ_run (Cert.OutProjDwReferenceIdeal.defs (F := Ideal)) (onTc (τ := Cert.OutProjDwReferenceIdeal.τ) (Cert.OutProjDwReferenceIdeal.main (F := Ideal))) ⟨m', fun _ => 0, g'⟩ (fun r => ∀ c : Dev Cert.OutProjDwReferenceIdeal.nD,
          r.2.mem ((c.tc : Thread Cert.OutProjDwReferenceIdeal.nD Cert.OutProjDwReferenceIdeal.τ).loc Cert.OutProjDwReferenceIdeal.main_v6) = v0 c
          ∧ r.2.mem ((c.tc : Thread Cert.OutProjDwReferenceIdeal.nD Cert.OutProjDwReferenceIdeal.τ).loc Cert.OutProjDwReferenceIdeal.main_arg0) = m' ((c.tc : Thread Cert.OutProjDwReferenceIdeal.nD Cert.OutProjDwReferenceIdeal.τ).loc Cert.OutProjDwReferenceIdeal.main_arg0)
          ∧ r.2.mem ((c.tc : Thread Cert.OutProjDwReferenceIdeal.nD Cert.OutProjDwReferenceIdeal.τ).loc Cert.OutProjDwReferenceIdeal.main_arg1) = m' ((c.tc : Thread Cert.OutProjDwReferenceIdeal.nD Cert.OutProjDwReferenceIdeal.τ).loc Cert.OutProjDwReferenceIdeal.main_arg1))

def preserves_ProjSmall_ProjSmallIdeal : Prop :=
  True

def algebraic_ProjSmallIdeal_ProjSmallReferenceIdeal [hProjSmallIdeal : Cert.ProjSmallIdeal.Facts] [hProjSmallReferenceIdeal : Cert.ProjSmallReferenceIdeal.Facts] : Prop :=
  ∀ (m : (ℓ : Loc Cert.ProjSmallIdeal.nD Cert.ProjSmallIdeal.τ Cert.ProjSmallIdeal.sig) → Buf (Elt Ideal) ℓ) (g : Dev Cert.ProjSmallIdeal.nD → PrngReg)
    (m' : (ℓ : Loc Cert.ProjSmallReferenceIdeal.nD Cert.ProjSmallReferenceIdeal.τ Cert.ProjSmallReferenceIdeal.sig) → Buf (Elt Ideal) ℓ) (g' : Dev Cert.ProjSmallReferenceIdeal.nD → PrngReg), Pre_ProjSmallIdeal m →
    (∀ c : Dev Cert.ProjSmallIdeal.nD,
      m' ((c.tc : Thread Cert.ProjSmallReferenceIdeal.nD Cert.ProjSmallReferenceIdeal.τ).loc Cert.ProjSmallReferenceIdeal.main_arg0) = m ((c.tc : Thread Cert.ProjSmallIdeal.nD Cert.ProjSmallIdeal.τ).loc Cert.ProjSmallIdeal.main_arg0)
      ∧ m' ((c.tc : Thread Cert.ProjSmallReferenceIdeal.nD Cert.ProjSmallReferenceIdeal.τ).loc Cert.ProjSmallReferenceIdeal.main_arg1) = m ((c.tc : Thread Cert.ProjSmallIdeal.nD Cert.ProjSmallIdeal.τ).loc Cert.ProjSmallIdeal.main_arg1)) →
    ∃ (v0 : (c : Dev Cert.ProjSmallIdeal.nD) → Buf (Elt Ideal) ((c.tc : Thread Cert.ProjSmallIdeal.nD Cert.ProjSmallIdeal.τ).loc Cert.ProjSmallIdeal.main_v0)),
      θ_run (Cert.ProjSmallIdeal.defs (F := Ideal)) (onTc (τ := Cert.ProjSmallIdeal.τ) (Cert.ProjSmallIdeal.main (F := Ideal))) ⟨m, fun _ => 0, g⟩ (fun r => ∀ c : Dev Cert.ProjSmallIdeal.nD,
          r.2.mem ((c.tc : Thread Cert.ProjSmallIdeal.nD Cert.ProjSmallIdeal.τ).loc Cert.ProjSmallIdeal.main_v0) = v0 c
          ∧ r.2.mem ((c.tc : Thread Cert.ProjSmallIdeal.nD Cert.ProjSmallIdeal.τ).loc Cert.ProjSmallIdeal.main_arg0) = m ((c.tc : Thread Cert.ProjSmallIdeal.nD Cert.ProjSmallIdeal.τ).loc Cert.ProjSmallIdeal.main_arg0)
          ∧ r.2.mem ((c.tc : Thread Cert.ProjSmallIdeal.nD Cert.ProjSmallIdeal.τ).loc Cert.ProjSmallIdeal.main_arg1) = m ((c.tc : Thread Cert.ProjSmallIdeal.nD Cert.ProjSmallIdeal.τ).loc Cert.ProjSmallIdeal.main_arg1))
      ∧ θ_run (Cert.ProjSmallReferenceIdeal.defs (F := Ideal)) (onTc (τ := Cert.ProjSmallReferenceIdeal.τ) (Cert.ProjSmallReferenceIdeal.main (F := Ideal))) ⟨m', fun _ => 0, g'⟩ (fun r => ∀ c : Dev Cert.ProjSmallReferenceIdeal.nD,
          r.2.mem ((c.tc : Thread Cert.ProjSmallReferenceIdeal.nD Cert.ProjSmallReferenceIdeal.τ).loc Cert.ProjSmallReferenceIdeal.main_v3) = v0 c
          ∧ r.2.mem ((c.tc : Thread Cert.ProjSmallReferenceIdeal.nD Cert.ProjSmallReferenceIdeal.τ).loc Cert.ProjSmallReferenceIdeal.main_arg0) = m' ((c.tc : Thread Cert.ProjSmallReferenceIdeal.nD Cert.ProjSmallReferenceIdeal.τ).loc Cert.ProjSmallReferenceIdeal.main_arg0)
          ∧ r.2.mem ((c.tc : Thread Cert.ProjSmallReferenceIdeal.nD Cert.ProjSmallReferenceIdeal.τ).loc Cert.ProjSmallReferenceIdeal.main_arg1) = m' ((c.tc : Thread Cert.ProjSmallReferenceIdeal.nD Cert.ProjSmallReferenceIdeal.τ).loc Cert.ProjSmallReferenceIdeal.main_arg1))

def preserves_GateDx_GateDxIdeal : Prop :=
  True

def algebraic_GateDxIdeal_GateDxReferenceIdeal [hGateDxIdeal : Cert.GateDxIdeal.Facts] [hGateDxReferenceIdeal : Cert.GateDxReferenceIdeal.Facts] : Prop :=
  ∀ (m : (ℓ : Loc Cert.GateDxIdeal.nD Cert.GateDxIdeal.τ Cert.GateDxIdeal.sig) → Buf (Elt Ideal) ℓ) (g : Dev Cert.GateDxIdeal.nD → PrngReg)
    (m' : (ℓ : Loc Cert.GateDxReferenceIdeal.nD Cert.GateDxReferenceIdeal.τ Cert.GateDxReferenceIdeal.sig) → Buf (Elt Ideal) ℓ) (g' : Dev Cert.GateDxReferenceIdeal.nD → PrngReg), Pre_GateDxIdeal m →
    (∀ c : Dev Cert.GateDxIdeal.nD,
      m' ((c.tc : Thread Cert.GateDxReferenceIdeal.nD Cert.GateDxReferenceIdeal.τ).loc Cert.GateDxReferenceIdeal.main_arg0) = m ((c.tc : Thread Cert.GateDxIdeal.nD Cert.GateDxIdeal.τ).loc Cert.GateDxIdeal.main_arg0)
      ∧ m' ((c.tc : Thread Cert.GateDxReferenceIdeal.nD Cert.GateDxReferenceIdeal.τ).loc Cert.GateDxReferenceIdeal.main_arg1) = m ((c.tc : Thread Cert.GateDxIdeal.nD Cert.GateDxIdeal.τ).loc Cert.GateDxIdeal.main_arg1)
      ∧ m' ((c.tc : Thread Cert.GateDxReferenceIdeal.nD Cert.GateDxReferenceIdeal.τ).loc Cert.GateDxReferenceIdeal.main_arg2) = m ((c.tc : Thread Cert.GateDxIdeal.nD Cert.GateDxIdeal.τ).loc Cert.GateDxIdeal.main_arg2)) →
    ∃ (v0 : (c : Dev Cert.GateDxIdeal.nD) → Buf (Elt Ideal) ((c.tc : Thread Cert.GateDxIdeal.nD Cert.GateDxIdeal.τ).loc Cert.GateDxIdeal.main_v0)),
      θ_run (Cert.GateDxIdeal.defs (F := Ideal)) (onTc (τ := Cert.GateDxIdeal.τ) (Cert.GateDxIdeal.main (F := Ideal))) ⟨m, fun _ => 0, g⟩ (fun r => ∀ c : Dev Cert.GateDxIdeal.nD,
          r.2.mem ((c.tc : Thread Cert.GateDxIdeal.nD Cert.GateDxIdeal.τ).loc Cert.GateDxIdeal.main_v0) = v0 c
          ∧ r.2.mem ((c.tc : Thread Cert.GateDxIdeal.nD Cert.GateDxIdeal.τ).loc Cert.GateDxIdeal.main_arg0) = m ((c.tc : Thread Cert.GateDxIdeal.nD Cert.GateDxIdeal.τ).loc Cert.GateDxIdeal.main_arg0)
          ∧ r.2.mem ((c.tc : Thread Cert.GateDxIdeal.nD Cert.GateDxIdeal.τ).loc Cert.GateDxIdeal.main_arg1) = m ((c.tc : Thread Cert.GateDxIdeal.nD Cert.GateDxIdeal.τ).loc Cert.GateDxIdeal.main_arg1)
          ∧ r.2.mem ((c.tc : Thread Cert.GateDxIdeal.nD Cert.GateDxIdeal.τ).loc Cert.GateDxIdeal.main_arg2) = m ((c.tc : Thread Cert.GateDxIdeal.nD Cert.GateDxIdeal.τ).loc Cert.GateDxIdeal.main_arg2))
      ∧ θ_run (Cert.GateDxReferenceIdeal.defs (F := Ideal)) (onTc (τ := Cert.GateDxReferenceIdeal.τ) (Cert.GateDxReferenceIdeal.main (F := Ideal))) ⟨m', fun _ => 0, g'⟩ (fun r => ∀ c : Dev Cert.GateDxReferenceIdeal.nD,
          r.2.mem ((c.tc : Thread Cert.GateDxReferenceIdeal.nD Cert.GateDxReferenceIdeal.τ).loc Cert.GateDxReferenceIdeal.main_v5) = v0 c
          ∧ r.2.mem ((c.tc : Thread Cert.GateDxReferenceIdeal.nD Cert.GateDxReferenceIdeal.τ).loc Cert.GateDxReferenceIdeal.main_arg0) = m' ((c.tc : Thread Cert.GateDxReferenceIdeal.nD Cert.GateDxReferenceIdeal.τ).loc Cert.GateDxReferenceIdeal.main_arg0)
          ∧ r.2.mem ((c.tc : Thread Cert.GateDxReferenceIdeal.nD Cert.GateDxReferenceIdeal.τ).loc Cert.GateDxReferenceIdeal.main_arg1) = m' ((c.tc : Thread Cert.GateDxReferenceIdeal.nD Cert.GateDxReferenceIdeal.τ).loc Cert.GateDxReferenceIdeal.main_arg1)
          ∧ r.2.mem ((c.tc : Thread Cert.GateDxReferenceIdeal.nD Cert.GateDxReferenceIdeal.τ).loc Cert.GateDxReferenceIdeal.main_arg2) = m' ((c.tc : Thread Cert.GateDxReferenceIdeal.nD Cert.GateDxReferenceIdeal.τ).loc Cert.GateDxReferenceIdeal.main_arg2))

def preserves_GateDw_GateDwIdeal : Prop :=
  True

def algebraic_GateDwIdeal_GateDwReferenceIdeal [hGateDwIdeal : Cert.GateDwIdeal.Facts] [hGateDwReferenceIdeal : Cert.GateDwReferenceIdeal.Facts] : Prop :=
  ∀ (m : (ℓ : Loc Cert.GateDwIdeal.nD Cert.GateDwIdeal.τ Cert.GateDwIdeal.sig) → Buf (Elt Ideal) ℓ) (g : Dev Cert.GateDwIdeal.nD → PrngReg)
    (m' : (ℓ : Loc Cert.GateDwReferenceIdeal.nD Cert.GateDwReferenceIdeal.τ Cert.GateDwReferenceIdeal.sig) → Buf (Elt Ideal) ℓ) (g' : Dev Cert.GateDwReferenceIdeal.nD → PrngReg), Pre_GateDwIdeal m →
    (∀ c : Dev Cert.GateDwIdeal.nD,
      m' ((c.tc : Thread Cert.GateDwReferenceIdeal.nD Cert.GateDwReferenceIdeal.τ).loc Cert.GateDwReferenceIdeal.main_arg0) = m ((c.tc : Thread Cert.GateDwIdeal.nD Cert.GateDwIdeal.τ).loc Cert.GateDwIdeal.main_arg0)
      ∧ m' ((c.tc : Thread Cert.GateDwReferenceIdeal.nD Cert.GateDwReferenceIdeal.τ).loc Cert.GateDwReferenceIdeal.main_arg1) = m ((c.tc : Thread Cert.GateDwIdeal.nD Cert.GateDwIdeal.τ).loc Cert.GateDwIdeal.main_arg1)) →
    ∃ (v0 : (c : Dev Cert.GateDwIdeal.nD) → Buf (Elt Ideal) ((c.tc : Thread Cert.GateDwIdeal.nD Cert.GateDwIdeal.τ).loc Cert.GateDwIdeal.main_v0)),
      θ_run (Cert.GateDwIdeal.defs (F := Ideal)) (onTc (τ := Cert.GateDwIdeal.τ) (Cert.GateDwIdeal.main (F := Ideal))) ⟨m, fun _ => 0, g⟩ (fun r => ∀ c : Dev Cert.GateDwIdeal.nD,
          r.2.mem ((c.tc : Thread Cert.GateDwIdeal.nD Cert.GateDwIdeal.τ).loc Cert.GateDwIdeal.main_v0) = v0 c
          ∧ r.2.mem ((c.tc : Thread Cert.GateDwIdeal.nD Cert.GateDwIdeal.τ).loc Cert.GateDwIdeal.main_arg0) = m ((c.tc : Thread Cert.GateDwIdeal.nD Cert.GateDwIdeal.τ).loc Cert.GateDwIdeal.main_arg0)
          ∧ r.2.mem ((c.tc : Thread Cert.GateDwIdeal.nD Cert.GateDwIdeal.τ).loc Cert.GateDwIdeal.main_arg1) = m ((c.tc : Thread Cert.GateDwIdeal.nD Cert.GateDwIdeal.τ).loc Cert.GateDwIdeal.main_arg1))
      ∧ θ_run (Cert.GateDwReferenceIdeal.defs (F := Ideal)) (onTc (τ := Cert.GateDwReferenceIdeal.τ) (Cert.GateDwReferenceIdeal.main (F := Ideal))) ⟨m', fun _ => 0, g'⟩ (fun r => ∀ c : Dev Cert.GateDwReferenceIdeal.nD,
          r.2.mem ((c.tc : Thread Cert.GateDwReferenceIdeal.nD Cert.GateDwReferenceIdeal.τ).loc Cert.GateDwReferenceIdeal.main_v4) = v0 c
          ∧ r.2.mem ((c.tc : Thread Cert.GateDwReferenceIdeal.nD Cert.GateDwReferenceIdeal.τ).loc Cert.GateDwReferenceIdeal.main_arg0) = m' ((c.tc : Thread Cert.GateDwReferenceIdeal.nD Cert.GateDwReferenceIdeal.τ).loc Cert.GateDwReferenceIdeal.main_arg0)
          ∧ r.2.mem ((c.tc : Thread Cert.GateDwReferenceIdeal.nD Cert.GateDwReferenceIdeal.τ).loc Cert.GateDwReferenceIdeal.main_arg1) = m' ((c.tc : Thread Cert.GateDwReferenceIdeal.nD Cert.GateDwReferenceIdeal.τ).loc Cert.GateDwReferenceIdeal.main_arg1))

def preserves_ProjSmallDw_ProjSmallDwIdeal : Prop :=
  True

def algebraic_ProjSmallDwIdeal_ProjSmallDwReferenceIdeal [hProjSmallDwIdeal : Cert.ProjSmallDwIdeal.Facts] [hProjSmallDwReferenceIdeal : Cert.ProjSmallDwReferenceIdeal.Facts] : Prop :=
  ∀ (m : (ℓ : Loc Cert.ProjSmallDwIdeal.nD Cert.ProjSmallDwIdeal.τ Cert.ProjSmallDwIdeal.sig) → Buf (Elt Ideal) ℓ) (g : Dev Cert.ProjSmallDwIdeal.nD → PrngReg)
    (m' : (ℓ : Loc Cert.ProjSmallDwReferenceIdeal.nD Cert.ProjSmallDwReferenceIdeal.τ Cert.ProjSmallDwReferenceIdeal.sig) → Buf (Elt Ideal) ℓ) (g' : Dev Cert.ProjSmallDwReferenceIdeal.nD → PrngReg), Pre_ProjSmallDwIdeal m →
    (∀ c : Dev Cert.ProjSmallDwIdeal.nD,
      m' ((c.tc : Thread Cert.ProjSmallDwReferenceIdeal.nD Cert.ProjSmallDwReferenceIdeal.τ).loc Cert.ProjSmallDwReferenceIdeal.main_arg0) = m ((c.tc : Thread Cert.ProjSmallDwIdeal.nD Cert.ProjSmallDwIdeal.τ).loc Cert.ProjSmallDwIdeal.main_arg0)
      ∧ m' ((c.tc : Thread Cert.ProjSmallDwReferenceIdeal.nD Cert.ProjSmallDwReferenceIdeal.τ).loc Cert.ProjSmallDwReferenceIdeal.main_arg1) = m ((c.tc : Thread Cert.ProjSmallDwIdeal.nD Cert.ProjSmallDwIdeal.τ).loc Cert.ProjSmallDwIdeal.main_arg1)) →
    ∃ (v0 : (c : Dev Cert.ProjSmallDwIdeal.nD) → Buf (Elt Ideal) ((c.tc : Thread Cert.ProjSmallDwIdeal.nD Cert.ProjSmallDwIdeal.τ).loc Cert.ProjSmallDwIdeal.main_v0)),
      θ_run (Cert.ProjSmallDwIdeal.defs (F := Ideal)) (onTc (τ := Cert.ProjSmallDwIdeal.τ) (Cert.ProjSmallDwIdeal.main (F := Ideal))) ⟨m, fun _ => 0, g⟩ (fun r => ∀ c : Dev Cert.ProjSmallDwIdeal.nD,
          r.2.mem ((c.tc : Thread Cert.ProjSmallDwIdeal.nD Cert.ProjSmallDwIdeal.τ).loc Cert.ProjSmallDwIdeal.main_v0) = v0 c
          ∧ r.2.mem ((c.tc : Thread Cert.ProjSmallDwIdeal.nD Cert.ProjSmallDwIdeal.τ).loc Cert.ProjSmallDwIdeal.main_arg0) = m ((c.tc : Thread Cert.ProjSmallDwIdeal.nD Cert.ProjSmallDwIdeal.τ).loc Cert.ProjSmallDwIdeal.main_arg0)
          ∧ r.2.mem ((c.tc : Thread Cert.ProjSmallDwIdeal.nD Cert.ProjSmallDwIdeal.τ).loc Cert.ProjSmallDwIdeal.main_arg1) = m ((c.tc : Thread Cert.ProjSmallDwIdeal.nD Cert.ProjSmallDwIdeal.τ).loc Cert.ProjSmallDwIdeal.main_arg1))
      ∧ θ_run (Cert.ProjSmallDwReferenceIdeal.defs (F := Ideal)) (onTc (τ := Cert.ProjSmallDwReferenceIdeal.τ) (Cert.ProjSmallDwReferenceIdeal.main (F := Ideal))) ⟨m', fun _ => 0, g'⟩ (fun r => ∀ c : Dev Cert.ProjSmallDwReferenceIdeal.nD,
          r.2.mem ((c.tc : Thread Cert.ProjSmallDwReferenceIdeal.nD Cert.ProjSmallDwReferenceIdeal.τ).loc Cert.ProjSmallDwReferenceIdeal.main_v7) = v0 c
          ∧ r.2.mem ((c.tc : Thread Cert.ProjSmallDwReferenceIdeal.nD Cert.ProjSmallDwReferenceIdeal.τ).loc Cert.ProjSmallDwReferenceIdeal.main_arg0) = m' ((c.tc : Thread Cert.ProjSmallDwReferenceIdeal.nD Cert.ProjSmallDwReferenceIdeal.τ).loc Cert.ProjSmallDwReferenceIdeal.main_arg0)
          ∧ r.2.mem ((c.tc : Thread Cert.ProjSmallDwReferenceIdeal.nD Cert.ProjSmallDwReferenceIdeal.τ).loc Cert.ProjSmallDwReferenceIdeal.main_arg1) = m' ((c.tc : Thread Cert.ProjSmallDwReferenceIdeal.nD Cert.ProjSmallDwReferenceIdeal.τ).loc Cert.ProjSmallDwReferenceIdeal.main_arg1))

def preserves_Premix_PremixIdeal : Prop :=
  True

def algebraic_PremixIdeal_PremixReferenceIdeal [hPremixIdeal : Cert.PremixIdeal.Facts] [hPremixReferenceIdeal : Cert.PremixReferenceIdeal.Facts] : Prop :=
  ∀ (m : (ℓ : Loc Cert.PremixIdeal.nD Cert.PremixIdeal.τ Cert.PremixIdeal.sig) → Buf (Elt Ideal) ℓ) (g : Dev Cert.PremixIdeal.nD → PrngReg)
    (m' : (ℓ : Loc Cert.PremixReferenceIdeal.nD Cert.PremixReferenceIdeal.τ Cert.PremixReferenceIdeal.sig) → Buf (Elt Ideal) ℓ) (g' : Dev Cert.PremixReferenceIdeal.nD → PrngReg), Pre_PremixIdeal m →
    (∀ c : Dev Cert.PremixIdeal.nD,
      m' ((c.tc : Thread Cert.PremixReferenceIdeal.nD Cert.PremixReferenceIdeal.τ).loc Cert.PremixReferenceIdeal.main_arg0) = m ((c.tc : Thread Cert.PremixIdeal.nD Cert.PremixIdeal.τ).loc Cert.PremixIdeal.main_arg0)
      ∧ m' ((c.tc : Thread Cert.PremixReferenceIdeal.nD Cert.PremixReferenceIdeal.τ).loc Cert.PremixReferenceIdeal.main_arg1) = m ((c.tc : Thread Cert.PremixIdeal.nD Cert.PremixIdeal.τ).loc Cert.PremixIdeal.main_arg1)
      ∧ m' ((c.tc : Thread Cert.PremixReferenceIdeal.nD Cert.PremixReferenceIdeal.τ).loc Cert.PremixReferenceIdeal.main_arg2) = m ((c.tc : Thread Cert.PremixIdeal.nD Cert.PremixIdeal.τ).loc Cert.PremixIdeal.main_arg2)
      ∧ m' ((c.tc : Thread Cert.PremixReferenceIdeal.nD Cert.PremixReferenceIdeal.τ).loc Cert.PremixReferenceIdeal.main_arg3) = m ((c.tc : Thread Cert.PremixIdeal.nD Cert.PremixIdeal.τ).loc Cert.PremixIdeal.main_arg3)) →
    ∃ (v0 : (c : Dev Cert.PremixIdeal.nD) → Buf (Elt Ideal) ((c.tc : Thread Cert.PremixIdeal.nD Cert.PremixIdeal.τ).loc Cert.PremixIdeal.main_v0)),
      θ_run (Cert.PremixIdeal.defs (F := Ideal)) (onTc (τ := Cert.PremixIdeal.τ) (Cert.PremixIdeal.main (F := Ideal))) ⟨m, fun _ => 0, g⟩ (fun r => ∀ c : Dev Cert.PremixIdeal.nD,
          r.2.mem ((c.tc : Thread Cert.PremixIdeal.nD Cert.PremixIdeal.τ).loc Cert.PremixIdeal.main_v0) = v0 c
          ∧ r.2.mem ((c.tc : Thread Cert.PremixIdeal.nD Cert.PremixIdeal.τ).loc Cert.PremixIdeal.main_arg0) = m ((c.tc : Thread Cert.PremixIdeal.nD Cert.PremixIdeal.τ).loc Cert.PremixIdeal.main_arg0)
          ∧ r.2.mem ((c.tc : Thread Cert.PremixIdeal.nD Cert.PremixIdeal.τ).loc Cert.PremixIdeal.main_arg1) = m ((c.tc : Thread Cert.PremixIdeal.nD Cert.PremixIdeal.τ).loc Cert.PremixIdeal.main_arg1)
          ∧ r.2.mem ((c.tc : Thread Cert.PremixIdeal.nD Cert.PremixIdeal.τ).loc Cert.PremixIdeal.main_arg2) = m ((c.tc : Thread Cert.PremixIdeal.nD Cert.PremixIdeal.τ).loc Cert.PremixIdeal.main_arg2)
          ∧ r.2.mem ((c.tc : Thread Cert.PremixIdeal.nD Cert.PremixIdeal.τ).loc Cert.PremixIdeal.main_arg3) = m ((c.tc : Thread Cert.PremixIdeal.nD Cert.PremixIdeal.τ).loc Cert.PremixIdeal.main_arg3))
      ∧ θ_run (Cert.PremixReferenceIdeal.defs (F := Ideal)) (onTc (τ := Cert.PremixReferenceIdeal.τ) (Cert.PremixReferenceIdeal.main (F := Ideal))) ⟨m', fun _ => 0, g'⟩ (fun r => ∀ c : Dev Cert.PremixReferenceIdeal.nD,
          r.2.mem ((c.tc : Thread Cert.PremixReferenceIdeal.nD Cert.PremixReferenceIdeal.τ).loc Cert.PremixReferenceIdeal.main_v18) = v0 c
          ∧ r.2.mem ((c.tc : Thread Cert.PremixReferenceIdeal.nD Cert.PremixReferenceIdeal.τ).loc Cert.PremixReferenceIdeal.main_arg0) = m' ((c.tc : Thread Cert.PremixReferenceIdeal.nD Cert.PremixReferenceIdeal.τ).loc Cert.PremixReferenceIdeal.main_arg0)
          ∧ r.2.mem ((c.tc : Thread Cert.PremixReferenceIdeal.nD Cert.PremixReferenceIdeal.τ).loc Cert.PremixReferenceIdeal.main_arg1) = m' ((c.tc : Thread Cert.PremixReferenceIdeal.nD Cert.PremixReferenceIdeal.τ).loc Cert.PremixReferenceIdeal.main_arg1)
          ∧ r.2.mem ((c.tc : Thread Cert.PremixReferenceIdeal.nD Cert.PremixReferenceIdeal.τ).loc Cert.PremixReferenceIdeal.main_arg2) = m' ((c.tc : Thread Cert.PremixReferenceIdeal.nD Cert.PremixReferenceIdeal.τ).loc Cert.PremixReferenceIdeal.main_arg2)
          ∧ r.2.mem ((c.tc : Thread Cert.PremixReferenceIdeal.nD Cert.PremixReferenceIdeal.τ).loc Cert.PremixReferenceIdeal.main_arg3) = m' ((c.tc : Thread Cert.PremixReferenceIdeal.nD Cert.PremixReferenceIdeal.τ).loc Cert.PremixReferenceIdeal.main_arg3))

def preserves_PostmixPremlp_PostmixPremlpIdeal : Prop :=
  True

def algebraic_PostmixPremlpIdeal_PostmixPremlpReferenceIdeal [hPostmixPremlpIdeal : Cert.PostmixPremlpIdeal.Facts] [hPostmixPremlpReferenceIdeal : Cert.PostmixPremlpReferenceIdeal.Facts] : Prop :=
  ∀ (m : (ℓ : Loc Cert.PostmixPremlpIdeal.nD Cert.PostmixPremlpIdeal.τ Cert.PostmixPremlpIdeal.sig) → Buf (Elt Ideal) ℓ) (g : Dev Cert.PostmixPremlpIdeal.nD → PrngReg)
    (m' : (ℓ : Loc Cert.PostmixPremlpReferenceIdeal.nD Cert.PostmixPremlpReferenceIdeal.τ Cert.PostmixPremlpReferenceIdeal.sig) → Buf (Elt Ideal) ℓ) (g' : Dev Cert.PostmixPremlpReferenceIdeal.nD → PrngReg), Pre_PostmixPremlpIdeal m →
    (∀ c : Dev Cert.PostmixPremlpIdeal.nD,
      m' ((c.tc : Thread Cert.PostmixPremlpReferenceIdeal.nD Cert.PostmixPremlpReferenceIdeal.τ).loc Cert.PostmixPremlpReferenceIdeal.main_arg0) = m ((c.tc : Thread Cert.PostmixPremlpIdeal.nD Cert.PostmixPremlpIdeal.τ).loc Cert.PostmixPremlpIdeal.main_arg0)
      ∧ m' ((c.tc : Thread Cert.PostmixPremlpReferenceIdeal.nD Cert.PostmixPremlpReferenceIdeal.τ).loc Cert.PostmixPremlpReferenceIdeal.main_arg1) = m ((c.tc : Thread Cert.PostmixPremlpIdeal.nD Cert.PostmixPremlpIdeal.τ).loc Cert.PostmixPremlpIdeal.main_arg1)
      ∧ m' ((c.tc : Thread Cert.PostmixPremlpReferenceIdeal.nD Cert.PostmixPremlpReferenceIdeal.τ).loc Cert.PostmixPremlpReferenceIdeal.main_arg2) = m ((c.tc : Thread Cert.PostmixPremlpIdeal.nD Cert.PostmixPremlpIdeal.τ).loc Cert.PostmixPremlpIdeal.main_arg2)
      ∧ m' ((c.tc : Thread Cert.PostmixPremlpReferenceIdeal.nD Cert.PostmixPremlpReferenceIdeal.τ).loc Cert.PostmixPremlpReferenceIdeal.main_arg3) = m ((c.tc : Thread Cert.PostmixPremlpIdeal.nD Cert.PostmixPremlpIdeal.τ).loc Cert.PostmixPremlpIdeal.main_arg3)
      ∧ m' ((c.tc : Thread Cert.PostmixPremlpReferenceIdeal.nD Cert.PostmixPremlpReferenceIdeal.τ).loc Cert.PostmixPremlpReferenceIdeal.main_arg4) = m ((c.tc : Thread Cert.PostmixPremlpIdeal.nD Cert.PostmixPremlpIdeal.τ).loc Cert.PostmixPremlpIdeal.main_arg4)
      ∧ m' ((c.tc : Thread Cert.PostmixPremlpReferenceIdeal.nD Cert.PostmixPremlpReferenceIdeal.τ).loc Cert.PostmixPremlpReferenceIdeal.main_arg5) = m ((c.tc : Thread Cert.PostmixPremlpIdeal.nD Cert.PostmixPremlpIdeal.τ).loc Cert.PostmixPremlpIdeal.main_arg5)
      ∧ m' ((c.tc : Thread Cert.PostmixPremlpReferenceIdeal.nD Cert.PostmixPremlpReferenceIdeal.τ).loc Cert.PostmixPremlpReferenceIdeal.main_arg6) = m ((c.tc : Thread Cert.PostmixPremlpIdeal.nD Cert.PostmixPremlpIdeal.τ).loc Cert.PostmixPremlpIdeal.main_arg6)) →
    ∃ (v0 : (c : Dev Cert.PostmixPremlpIdeal.nD) → Buf (Elt Ideal) ((c.tc : Thread Cert.PostmixPremlpIdeal.nD Cert.PostmixPremlpIdeal.τ).loc Cert.PostmixPremlpIdeal.main_v0_0)) (v1 : (c : Dev Cert.PostmixPremlpIdeal.nD) → Buf (Elt Ideal) ((c.tc : Thread Cert.PostmixPremlpIdeal.nD Cert.PostmixPremlpIdeal.τ).loc Cert.PostmixPremlpIdeal.main_v0_1)),
      θ_run (Cert.PostmixPremlpIdeal.defs (F := Ideal)) (onTc (τ := Cert.PostmixPremlpIdeal.τ) (Cert.PostmixPremlpIdeal.main (F := Ideal))) ⟨m, fun _ => 0, g⟩ (fun r => ∀ c : Dev Cert.PostmixPremlpIdeal.nD,
          r.2.mem ((c.tc : Thread Cert.PostmixPremlpIdeal.nD Cert.PostmixPremlpIdeal.τ).loc Cert.PostmixPremlpIdeal.main_v0_0) = v0 c
          ∧ r.2.mem ((c.tc : Thread Cert.PostmixPremlpIdeal.nD Cert.PostmixPremlpIdeal.τ).loc Cert.PostmixPremlpIdeal.main_v0_1) = v1 c
          ∧ r.2.mem ((c.tc : Thread Cert.PostmixPremlpIdeal.nD Cert.PostmixPremlpIdeal.τ).loc Cert.PostmixPremlpIdeal.main_arg0) = m ((c.tc : Thread Cert.PostmixPremlpIdeal.nD Cert.PostmixPremlpIdeal.τ).loc Cert.PostmixPremlpIdeal.main_arg0)
          ∧ r.2.mem ((c.tc : Thread Cert.PostmixPremlpIdeal.nD Cert.PostmixPremlpIdeal.τ).loc Cert.PostmixPremlpIdeal.main_arg1) = m ((c.tc : Thread Cert.PostmixPremlpIdeal.nD Cert.PostmixPremlpIdeal.τ).loc Cert.PostmixPremlpIdeal.main_arg1)
          ∧ r.2.mem ((c.tc : Thread Cert.PostmixPremlpIdeal.nD Cert.PostmixPremlpIdeal.τ).loc Cert.PostmixPremlpIdeal.main_arg2) = m ((c.tc : Thread Cert.PostmixPremlpIdeal.nD Cert.PostmixPremlpIdeal.τ).loc Cert.PostmixPremlpIdeal.main_arg2)
          ∧ r.2.mem ((c.tc : Thread Cert.PostmixPremlpIdeal.nD Cert.PostmixPremlpIdeal.τ).loc Cert.PostmixPremlpIdeal.main_arg3) = m ((c.tc : Thread Cert.PostmixPremlpIdeal.nD Cert.PostmixPremlpIdeal.τ).loc Cert.PostmixPremlpIdeal.main_arg3)
          ∧ r.2.mem ((c.tc : Thread Cert.PostmixPremlpIdeal.nD Cert.PostmixPremlpIdeal.τ).loc Cert.PostmixPremlpIdeal.main_arg4) = m ((c.tc : Thread Cert.PostmixPremlpIdeal.nD Cert.PostmixPremlpIdeal.τ).loc Cert.PostmixPremlpIdeal.main_arg4)
          ∧ r.2.mem ((c.tc : Thread Cert.PostmixPremlpIdeal.nD Cert.PostmixPremlpIdeal.τ).loc Cert.PostmixPremlpIdeal.main_arg5) = m ((c.tc : Thread Cert.PostmixPremlpIdeal.nD Cert.PostmixPremlpIdeal.τ).loc Cert.PostmixPremlpIdeal.main_arg5)
          ∧ r.2.mem ((c.tc : Thread Cert.PostmixPremlpIdeal.nD Cert.PostmixPremlpIdeal.τ).loc Cert.PostmixPremlpIdeal.main_arg6) = m ((c.tc : Thread Cert.PostmixPremlpIdeal.nD Cert.PostmixPremlpIdeal.τ).loc Cert.PostmixPremlpIdeal.main_arg6))
      ∧ θ_run (Cert.PostmixPremlpReferenceIdeal.defs (F := Ideal)) (onTc (τ := Cert.PostmixPremlpReferenceIdeal.τ) (Cert.PostmixPremlpReferenceIdeal.main (F := Ideal))) ⟨m', fun _ => 0, g'⟩ (fun r => ∀ c : Dev Cert.PostmixPremlpReferenceIdeal.nD,
          r.2.mem ((c.tc : Thread Cert.PostmixPremlpReferenceIdeal.nD Cert.PostmixPremlpReferenceIdeal.τ).loc Cert.PostmixPremlpReferenceIdeal.main_v15) = v0 c
          ∧ r.2.mem ((c.tc : Thread Cert.PostmixPremlpReferenceIdeal.nD Cert.PostmixPremlpReferenceIdeal.τ).loc Cert.PostmixPremlpReferenceIdeal.main_v34) = v1 c
          ∧ r.2.mem ((c.tc : Thread Cert.PostmixPremlpReferenceIdeal.nD Cert.PostmixPremlpReferenceIdeal.τ).loc Cert.PostmixPremlpReferenceIdeal.main_arg0) = m' ((c.tc : Thread Cert.PostmixPremlpReferenceIdeal.nD Cert.PostmixPremlpReferenceIdeal.τ).loc Cert.PostmixPremlpReferenceIdeal.main_arg0)
          ∧ r.2.mem ((c.tc : Thread Cert.PostmixPremlpReferenceIdeal.nD Cert.PostmixPremlpReferenceIdeal.τ).loc Cert.PostmixPremlpReferenceIdeal.main_arg1) = m' ((c.tc : Thread Cert.PostmixPremlpReferenceIdeal.nD Cert.PostmixPremlpReferenceIdeal.τ).loc Cert.PostmixPremlpReferenceIdeal.main_arg1)
          ∧ r.2.mem ((c.tc : Thread Cert.PostmixPremlpReferenceIdeal.nD Cert.PostmixPremlpReferenceIdeal.τ).loc Cert.PostmixPremlpReferenceIdeal.main_arg2) = m' ((c.tc : Thread Cert.PostmixPremlpReferenceIdeal.nD Cert.PostmixPremlpReferenceIdeal.τ).loc Cert.PostmixPremlpReferenceIdeal.main_arg2)
          ∧ r.2.mem ((c.tc : Thread Cert.PostmixPremlpReferenceIdeal.nD Cert.PostmixPremlpReferenceIdeal.τ).loc Cert.PostmixPremlpReferenceIdeal.main_arg3) = m' ((c.tc : Thread Cert.PostmixPremlpReferenceIdeal.nD Cert.PostmixPremlpReferenceIdeal.τ).loc Cert.PostmixPremlpReferenceIdeal.main_arg3)
          ∧ r.2.mem ((c.tc : Thread Cert.PostmixPremlpReferenceIdeal.nD Cert.PostmixPremlpReferenceIdeal.τ).loc Cert.PostmixPremlpReferenceIdeal.main_arg4) = m' ((c.tc : Thread Cert.PostmixPremlpReferenceIdeal.nD Cert.PostmixPremlpReferenceIdeal.τ).loc Cert.PostmixPremlpReferenceIdeal.main_arg4)
          ∧ r.2.mem ((c.tc : Thread Cert.PostmixPremlpReferenceIdeal.nD Cert.PostmixPremlpReferenceIdeal.τ).loc Cert.PostmixPremlpReferenceIdeal.main_arg5) = m' ((c.tc : Thread Cert.PostmixPremlpReferenceIdeal.nD Cert.PostmixPremlpReferenceIdeal.τ).loc Cert.PostmixPremlpReferenceIdeal.main_arg5)
          ∧ r.2.mem ((c.tc : Thread Cert.PostmixPremlpReferenceIdeal.nD Cert.PostmixPremlpReferenceIdeal.τ).loc Cert.PostmixPremlpReferenceIdeal.main_arg6) = m' ((c.tc : Thread Cert.PostmixPremlpReferenceIdeal.nD Cert.PostmixPremlpReferenceIdeal.τ).loc Cert.PostmixPremlpReferenceIdeal.main_arg6))

def preserves_FoxFwd_FoxFwdIdeal : Prop :=
  IdealRules.named_const.Statement Cert.FoxFwdIdeal.κ "mask" .f32 0xFF7FFFFF#32 ⊥

def algebraic_FoxFwdIdeal_FoxFwdReferenceIdeal_pre_finite_fwd [hFoxFwdIdeal : Cert.FoxFwdIdeal.Facts] [hFoxFwdReferenceIdeal : Cert.FoxFwdReferenceIdeal.Facts] [hPre_finite_fwd : Cert.Pre_finite_fwd.Facts] : Prop :=
  ∀ (m : (ℓ : Loc Cert.FoxFwdIdeal.nD Cert.FoxFwdIdeal.τ Cert.FoxFwdIdeal.sig) → Buf (Elt Ideal) ℓ) (g : Dev Cert.FoxFwdIdeal.nD → PrngReg)
    (m' : (ℓ : Loc Cert.FoxFwdReferenceIdeal.nD Cert.FoxFwdReferenceIdeal.τ Cert.FoxFwdReferenceIdeal.sig) → Buf (Elt Ideal) ℓ) (g' : Dev Cert.FoxFwdReferenceIdeal.nD → PrngReg), Pre_FoxFwdIdeal_finite_fwd m →
    (∀ c : Dev Cert.FoxFwdIdeal.nD,
      m' ((c.tc : Thread Cert.FoxFwdReferenceIdeal.nD Cert.FoxFwdReferenceIdeal.τ).loc Cert.FoxFwdReferenceIdeal.main_arg0) = m ((c.tc : Thread Cert.FoxFwdIdeal.nD Cert.FoxFwdIdeal.τ).loc Cert.FoxFwdIdeal.main_arg0)
      ∧ m' ((c.tc : Thread Cert.FoxFwdReferenceIdeal.nD Cert.FoxFwdReferenceIdeal.τ).loc Cert.FoxFwdReferenceIdeal.main_arg1) = m ((c.tc : Thread Cert.FoxFwdIdeal.nD Cert.FoxFwdIdeal.τ).loc Cert.FoxFwdIdeal.main_arg1)) →
    ∃ (v0 : (c : Dev Cert.FoxFwdIdeal.nD) → Buf (Elt Ideal) ((c.tc : Thread Cert.FoxFwdIdeal.nD Cert.FoxFwdIdeal.τ).loc Cert.FoxFwdIdeal.main_v1_0)) (v1 : (c : Dev Cert.FoxFwdIdeal.nD) → Buf (Elt Ideal) ((c.tc : Thread Cert.FoxFwdIdeal.nD Cert.FoxFwdIdeal.τ).loc Cert.FoxFwdIdeal.main_v1_1)),
      θ_run (Cert.FoxFwdIdeal.defs (F := Ideal)) (onTc (τ := Cert.FoxFwdIdeal.τ) (Cert.FoxFwdIdeal.main (F := Ideal))) ⟨m, fun _ => 0, g⟩ (fun r => ∀ c : Dev Cert.FoxFwdIdeal.nD,
          r.2.mem ((c.tc : Thread Cert.FoxFwdIdeal.nD Cert.FoxFwdIdeal.τ).loc Cert.FoxFwdIdeal.main_v1_0) = v0 c
          ∧ r.2.mem ((c.tc : Thread Cert.FoxFwdIdeal.nD Cert.FoxFwdIdeal.τ).loc Cert.FoxFwdIdeal.main_v1_1) = v1 c
          ∧ r.2.mem ((c.tc : Thread Cert.FoxFwdIdeal.nD Cert.FoxFwdIdeal.τ).loc Cert.FoxFwdIdeal.main_arg0) = m ((c.tc : Thread Cert.FoxFwdIdeal.nD Cert.FoxFwdIdeal.τ).loc Cert.FoxFwdIdeal.main_arg0)
          ∧ r.2.mem ((c.tc : Thread Cert.FoxFwdIdeal.nD Cert.FoxFwdIdeal.τ).loc Cert.FoxFwdIdeal.main_arg1) = m ((c.tc : Thread Cert.FoxFwdIdeal.nD Cert.FoxFwdIdeal.τ).loc Cert.FoxFwdIdeal.main_arg1))
      ∧ θ_run (Cert.FoxFwdReferenceIdeal.defs (F := Ideal)) (onTc (τ := Cert.FoxFwdReferenceIdeal.τ) (Cert.FoxFwdReferenceIdeal.main (F := Ideal))) ⟨m', fun _ => 0, g'⟩ (fun r => ∀ c : Dev Cert.FoxFwdReferenceIdeal.nD,
          r.2.mem ((c.tc : Thread Cert.FoxFwdReferenceIdeal.nD Cert.FoxFwdReferenceIdeal.τ).loc Cert.FoxFwdReferenceIdeal.main_v40) = v0 c
          ∧ r.2.mem ((c.tc : Thread Cert.FoxFwdReferenceIdeal.nD Cert.FoxFwdReferenceIdeal.τ).loc Cert.FoxFwdReferenceIdeal.main_v44) = v1 c
          ∧ r.2.mem ((c.tc : Thread Cert.FoxFwdReferenceIdeal.nD Cert.FoxFwdReferenceIdeal.τ).loc Cert.FoxFwdReferenceIdeal.main_arg0) = m' ((c.tc : Thread Cert.FoxFwdReferenceIdeal.nD Cert.FoxFwdReferenceIdeal.τ).loc Cert.FoxFwdReferenceIdeal.main_arg0)
          ∧ r.2.mem ((c.tc : Thread Cert.FoxFwdReferenceIdeal.nD Cert.FoxFwdReferenceIdeal.τ).loc Cert.FoxFwdReferenceIdeal.main_arg1) = m' ((c.tc : Thread Cert.FoxFwdReferenceIdeal.nD Cert.FoxFwdReferenceIdeal.τ).loc Cert.FoxFwdReferenceIdeal.main_arg1))

def preserves_PremixBwd_PremixBwdIdeal : Prop :=
  True

def algebraic_PremixBwdIdeal_PremixBwdReferenceIdeal [hPremixBwdIdeal : Cert.PremixBwdIdeal.Facts] [hPremixBwdReferenceIdeal : Cert.PremixBwdReferenceIdeal.Facts] : Prop :=
  ∀ (m : (ℓ : Loc Cert.PremixBwdIdeal.nD Cert.PremixBwdIdeal.τ Cert.PremixBwdIdeal.sig) → Buf (Elt Ideal) ℓ) (g : Dev Cert.PremixBwdIdeal.nD → PrngReg)
    (m' : (ℓ : Loc Cert.PremixBwdReferenceIdeal.nD Cert.PremixBwdReferenceIdeal.τ Cert.PremixBwdReferenceIdeal.sig) → Buf (Elt Ideal) ℓ) (g' : Dev Cert.PremixBwdReferenceIdeal.nD → PrngReg), Pre_PremixBwdIdeal m →
    (∀ c : Dev Cert.PremixBwdIdeal.nD,
      m' ((c.tc : Thread Cert.PremixBwdReferenceIdeal.nD Cert.PremixBwdReferenceIdeal.τ).loc Cert.PremixBwdReferenceIdeal.main_arg0) = m ((c.tc : Thread Cert.PremixBwdIdeal.nD Cert.PremixBwdIdeal.τ).loc Cert.PremixBwdIdeal.main_arg0)
      ∧ m' ((c.tc : Thread Cert.PremixBwdReferenceIdeal.nD Cert.PremixBwdReferenceIdeal.τ).loc Cert.PremixBwdReferenceIdeal.main_arg1) = m ((c.tc : Thread Cert.PremixBwdIdeal.nD Cert.PremixBwdIdeal.τ).loc Cert.PremixBwdIdeal.main_arg1)
      ∧ m' ((c.tc : Thread Cert.PremixBwdReferenceIdeal.nD Cert.PremixBwdReferenceIdeal.τ).loc Cert.PremixBwdReferenceIdeal.main_arg2) = m ((c.tc : Thread Cert.PremixBwdIdeal.nD Cert.PremixBwdIdeal.τ).loc Cert.PremixBwdIdeal.main_arg2)
      ∧ m' ((c.tc : Thread Cert.PremixBwdReferenceIdeal.nD Cert.PremixBwdReferenceIdeal.τ).loc Cert.PremixBwdReferenceIdeal.main_arg3) = m ((c.tc : Thread Cert.PremixBwdIdeal.nD Cert.PremixBwdIdeal.τ).loc Cert.PremixBwdIdeal.main_arg3)
      ∧ m' ((c.tc : Thread Cert.PremixBwdReferenceIdeal.nD Cert.PremixBwdReferenceIdeal.τ).loc Cert.PremixBwdReferenceIdeal.main_arg4) = m ((c.tc : Thread Cert.PremixBwdIdeal.nD Cert.PremixBwdIdeal.τ).loc Cert.PremixBwdIdeal.main_arg4)) →
    ∃ (v0 : (c : Dev Cert.PremixBwdIdeal.nD) → Buf (Elt Ideal) ((c.tc : Thread Cert.PremixBwdIdeal.nD Cert.PremixBwdIdeal.τ).loc Cert.PremixBwdIdeal.main_v0_0)) (v1 : (c : Dev Cert.PremixBwdIdeal.nD) → Buf (Elt Ideal) ((c.tc : Thread Cert.PremixBwdIdeal.nD Cert.PremixBwdIdeal.τ).loc Cert.PremixBwdIdeal.main_v0_1)) (v2 : (c : Dev Cert.PremixBwdIdeal.nD) → Buf (Elt Ideal) ((c.tc : Thread Cert.PremixBwdIdeal.nD Cert.PremixBwdIdeal.τ).loc Cert.PremixBwdIdeal.main_v0_2)) (v3 : (c : Dev Cert.PremixBwdIdeal.nD) → Buf (Elt Ideal) ((c.tc : Thread Cert.PremixBwdIdeal.nD Cert.PremixBwdIdeal.τ).loc Cert.PremixBwdIdeal.main_v0_3)),
      θ_run (Cert.PremixBwdIdeal.defs (F := Ideal)) (onTc (τ := Cert.PremixBwdIdeal.τ) (Cert.PremixBwdIdeal.main (F := Ideal))) ⟨m, fun _ => 0, g⟩ (fun r => ∀ c : Dev Cert.PremixBwdIdeal.nD,
          r.2.mem ((c.tc : Thread Cert.PremixBwdIdeal.nD Cert.PremixBwdIdeal.τ).loc Cert.PremixBwdIdeal.main_v0_0) = v0 c
          ∧ r.2.mem ((c.tc : Thread Cert.PremixBwdIdeal.nD Cert.PremixBwdIdeal.τ).loc Cert.PremixBwdIdeal.main_v0_1) = v1 c
          ∧ r.2.mem ((c.tc : Thread Cert.PremixBwdIdeal.nD Cert.PremixBwdIdeal.τ).loc Cert.PremixBwdIdeal.main_v0_2) = v2 c
          ∧ r.2.mem ((c.tc : Thread Cert.PremixBwdIdeal.nD Cert.PremixBwdIdeal.τ).loc Cert.PremixBwdIdeal.main_v0_3) = v3 c
          ∧ r.2.mem ((c.tc : Thread Cert.PremixBwdIdeal.nD Cert.PremixBwdIdeal.τ).loc Cert.PremixBwdIdeal.main_arg0) = m ((c.tc : Thread Cert.PremixBwdIdeal.nD Cert.PremixBwdIdeal.τ).loc Cert.PremixBwdIdeal.main_arg0)
          ∧ r.2.mem ((c.tc : Thread Cert.PremixBwdIdeal.nD Cert.PremixBwdIdeal.τ).loc Cert.PremixBwdIdeal.main_arg1) = m ((c.tc : Thread Cert.PremixBwdIdeal.nD Cert.PremixBwdIdeal.τ).loc Cert.PremixBwdIdeal.main_arg1)
          ∧ r.2.mem ((c.tc : Thread Cert.PremixBwdIdeal.nD Cert.PremixBwdIdeal.τ).loc Cert.PremixBwdIdeal.main_arg2) = m ((c.tc : Thread Cert.PremixBwdIdeal.nD Cert.PremixBwdIdeal.τ).loc Cert.PremixBwdIdeal.main_arg2)
          ∧ r.2.mem ((c.tc : Thread Cert.PremixBwdIdeal.nD Cert.PremixBwdIdeal.τ).loc Cert.PremixBwdIdeal.main_arg3) = m ((c.tc : Thread Cert.PremixBwdIdeal.nD Cert.PremixBwdIdeal.τ).loc Cert.PremixBwdIdeal.main_arg3)
          ∧ r.2.mem ((c.tc : Thread Cert.PremixBwdIdeal.nD Cert.PremixBwdIdeal.τ).loc Cert.PremixBwdIdeal.main_arg4) = m ((c.tc : Thread Cert.PremixBwdIdeal.nD Cert.PremixBwdIdeal.τ).loc Cert.PremixBwdIdeal.main_arg4))
      ∧ θ_run (Cert.PremixBwdReferenceIdeal.defs (F := Ideal)) (onTc (τ := Cert.PremixBwdReferenceIdeal.τ) (Cert.PremixBwdReferenceIdeal.main (F := Ideal))) ⟨m', fun _ => 0, g'⟩ (fun r => ∀ c : Dev Cert.PremixBwdReferenceIdeal.nD,
          r.2.mem ((c.tc : Thread Cert.PremixBwdReferenceIdeal.nD Cert.PremixBwdReferenceIdeal.τ).loc Cert.PremixBwdReferenceIdeal.main_v49) = v0 c
          ∧ r.2.mem ((c.tc : Thread Cert.PremixBwdReferenceIdeal.nD Cert.PremixBwdReferenceIdeal.τ).loc Cert.PremixBwdReferenceIdeal.main_v27) = v1 c
          ∧ r.2.mem ((c.tc : Thread Cert.PremixBwdReferenceIdeal.nD Cert.PremixBwdReferenceIdeal.τ).loc Cert.PremixBwdReferenceIdeal.main_v24) = v2 c
          ∧ r.2.mem ((c.tc : Thread Cert.PremixBwdReferenceIdeal.nD Cert.PremixBwdReferenceIdeal.τ).loc Cert.PremixBwdReferenceIdeal.main_v32) = v3 c
          ∧ r.2.mem ((c.tc : Thread Cert.PremixBwdReferenceIdeal.nD Cert.PremixBwdReferenceIdeal.τ).loc Cert.PremixBwdReferenceIdeal.main_arg0) = m' ((c.tc : Thread Cert.PremixBwdReferenceIdeal.nD Cert.PremixBwdReferenceIdeal.τ).loc Cert.PremixBwdReferenceIdeal.main_arg0)
          ∧ r.2.mem ((c.tc : Thread Cert.PremixBwdReferenceIdeal.nD Cert.PremixBwdReferenceIdeal.τ).loc Cert.PremixBwdReferenceIdeal.main_arg1) = m' ((c.tc : Thread Cert.PremixBwdReferenceIdeal.nD Cert.PremixBwdReferenceIdeal.τ).loc Cert.PremixBwdReferenceIdeal.main_arg1)
          ∧ r.2.mem ((c.tc : Thread Cert.PremixBwdReferenceIdeal.nD Cert.PremixBwdReferenceIdeal.τ).loc Cert.PremixBwdReferenceIdeal.main_arg2) = m' ((c.tc : Thread Cert.PremixBwdReferenceIdeal.nD Cert.PremixBwdReferenceIdeal.τ).loc Cert.PremixBwdReferenceIdeal.main_arg2)
          ∧ r.2.mem ((c.tc : Thread Cert.PremixBwdReferenceIdeal.nD Cert.PremixBwdReferenceIdeal.τ).loc Cert.PremixBwdReferenceIdeal.main_arg3) = m' ((c.tc : Thread Cert.PremixBwdReferenceIdeal.nD Cert.PremixBwdReferenceIdeal.τ).loc Cert.PremixBwdReferenceIdeal.main_arg3)
          ∧ r.2.mem ((c.tc : Thread Cert.PremixBwdReferenceIdeal.nD Cert.PremixBwdReferenceIdeal.τ).loc Cert.PremixBwdReferenceIdeal.main_arg4) = m' ((c.tc : Thread Cert.PremixBwdReferenceIdeal.nD Cert.PremixBwdReferenceIdeal.τ).loc Cert.PremixBwdReferenceIdeal.main_arg4))

def preserves_PremlpPostmixBwd_PremlpPostmixBwdIdeal : Prop :=
  True

def algebraic_PremlpPostmixBwdIdeal_PremlpPostmixBwdReferenceIdeal [hPremlpPostmixBwdIdeal : Cert.PremlpPostmixBwdIdeal.Facts] [hPremlpPostmixBwdReferenceIdeal : Cert.PremlpPostmixBwdReferenceIdeal.Facts] : Prop :=
  ∀ (m : (ℓ : Loc Cert.PremlpPostmixBwdIdeal.nD Cert.PremlpPostmixBwdIdeal.τ Cert.PremlpPostmixBwdIdeal.sig) → Buf (Elt Ideal) ℓ) (g : Dev Cert.PremlpPostmixBwdIdeal.nD → PrngReg)
    (m' : (ℓ : Loc Cert.PremlpPostmixBwdReferenceIdeal.nD Cert.PremlpPostmixBwdReferenceIdeal.τ Cert.PremlpPostmixBwdReferenceIdeal.sig) → Buf (Elt Ideal) ℓ) (g' : Dev Cert.PremlpPostmixBwdReferenceIdeal.nD → PrngReg), Pre_PremlpPostmixBwdIdeal m →
    (∀ c : Dev Cert.PremlpPostmixBwdIdeal.nD,
      m' ((c.tc : Thread Cert.PremlpPostmixBwdReferenceIdeal.nD Cert.PremlpPostmixBwdReferenceIdeal.τ).loc Cert.PremlpPostmixBwdReferenceIdeal.main_arg0) = m ((c.tc : Thread Cert.PremlpPostmixBwdIdeal.nD Cert.PremlpPostmixBwdIdeal.τ).loc Cert.PremlpPostmixBwdIdeal.main_arg0)
      ∧ m' ((c.tc : Thread Cert.PremlpPostmixBwdReferenceIdeal.nD Cert.PremlpPostmixBwdReferenceIdeal.τ).loc Cert.PremlpPostmixBwdReferenceIdeal.main_arg1) = m ((c.tc : Thread Cert.PremlpPostmixBwdIdeal.nD Cert.PremlpPostmixBwdIdeal.τ).loc Cert.PremlpPostmixBwdIdeal.main_arg1)
      ∧ m' ((c.tc : Thread Cert.PremlpPostmixBwdReferenceIdeal.nD Cert.PremlpPostmixBwdReferenceIdeal.τ).loc Cert.PremlpPostmixBwdReferenceIdeal.main_arg2) = m ((c.tc : Thread Cert.PremlpPostmixBwdIdeal.nD Cert.PremlpPostmixBwdIdeal.τ).loc Cert.PremlpPostmixBwdIdeal.main_arg2)
      ∧ m' ((c.tc : Thread Cert.PremlpPostmixBwdReferenceIdeal.nD Cert.PremlpPostmixBwdReferenceIdeal.τ).loc Cert.PremlpPostmixBwdReferenceIdeal.main_arg3) = m ((c.tc : Thread Cert.PremlpPostmixBwdIdeal.nD Cert.PremlpPostmixBwdIdeal.τ).loc Cert.PremlpPostmixBwdIdeal.main_arg3)
      ∧ m' ((c.tc : Thread Cert.PremlpPostmixBwdReferenceIdeal.nD Cert.PremlpPostmixBwdReferenceIdeal.τ).loc Cert.PremlpPostmixBwdReferenceIdeal.main_arg4) = m ((c.tc : Thread Cert.PremlpPostmixBwdIdeal.nD Cert.PremlpPostmixBwdIdeal.τ).loc Cert.PremlpPostmixBwdIdeal.main_arg4)
      ∧ m' ((c.tc : Thread Cert.PremlpPostmixBwdReferenceIdeal.nD Cert.PremlpPostmixBwdReferenceIdeal.τ).loc Cert.PremlpPostmixBwdReferenceIdeal.main_arg5) = m ((c.tc : Thread Cert.PremlpPostmixBwdIdeal.nD Cert.PremlpPostmixBwdIdeal.τ).loc Cert.PremlpPostmixBwdIdeal.main_arg5)
      ∧ m' ((c.tc : Thread Cert.PremlpPostmixBwdReferenceIdeal.nD Cert.PremlpPostmixBwdReferenceIdeal.τ).loc Cert.PremlpPostmixBwdReferenceIdeal.main_arg6) = m ((c.tc : Thread Cert.PremlpPostmixBwdIdeal.nD Cert.PremlpPostmixBwdIdeal.τ).loc Cert.PremlpPostmixBwdIdeal.main_arg6)
      ∧ m' ((c.tc : Thread Cert.PremlpPostmixBwdReferenceIdeal.nD Cert.PremlpPostmixBwdReferenceIdeal.τ).loc Cert.PremlpPostmixBwdReferenceIdeal.main_arg7) = m ((c.tc : Thread Cert.PremlpPostmixBwdIdeal.nD Cert.PremlpPostmixBwdIdeal.τ).loc Cert.PremlpPostmixBwdIdeal.main_arg7)) →
    ∃ (v0 : (c : Dev Cert.PremlpPostmixBwdIdeal.nD) → Buf (Elt Ideal) ((c.tc : Thread Cert.PremlpPostmixBwdIdeal.nD Cert.PremlpPostmixBwdIdeal.τ).loc Cert.PremlpPostmixBwdIdeal.main_v0_0)) (v1 : (c : Dev Cert.PremlpPostmixBwdIdeal.nD) → Buf (Elt Ideal) ((c.tc : Thread Cert.PremlpPostmixBwdIdeal.nD Cert.PremlpPostmixBwdIdeal.τ).loc Cert.PremlpPostmixBwdIdeal.main_v0_1)) (v2 : (c : Dev Cert.PremlpPostmixBwdIdeal.nD) → Buf (Elt Ideal) ((c.tc : Thread Cert.PremlpPostmixBwdIdeal.nD Cert.PremlpPostmixBwdIdeal.τ).loc Cert.PremlpPostmixBwdIdeal.main_v0_2)) (v3 : (c : Dev Cert.PremlpPostmixBwdIdeal.nD) → Buf (Elt Ideal) ((c.tc : Thread Cert.PremlpPostmixBwdIdeal.nD Cert.PremlpPostmixBwdIdeal.τ).loc Cert.PremlpPostmixBwdIdeal.main_v0_3)) (v4 : (c : Dev Cert.PremlpPostmixBwdIdeal.nD) → Buf (Elt Ideal) ((c.tc : Thread Cert.PremlpPostmixBwdIdeal.nD Cert.PremlpPostmixBwdIdeal.τ).loc Cert.PremlpPostmixBwdIdeal.main_v0_4)) (v5 : (c : Dev Cert.PremlpPostmixBwdIdeal.nD) → Buf (Elt Ideal) ((c.tc : Thread Cert.PremlpPostmixBwdIdeal.nD Cert.PremlpPostmixBwdIdeal.τ).loc Cert.PremlpPostmixBwdIdeal.main_v0_5)) (v6 : (c : Dev Cert.PremlpPostmixBwdIdeal.nD) → Buf (Elt Ideal) ((c.tc : Thread Cert.PremlpPostmixBwdIdeal.nD Cert.PremlpPostmixBwdIdeal.τ).loc Cert.PremlpPostmixBwdIdeal.main_v0_6)),
      θ_run (Cert.PremlpPostmixBwdIdeal.defs (F := Ideal)) (onTc (τ := Cert.PremlpPostmixBwdIdeal.τ) (Cert.PremlpPostmixBwdIdeal.main (F := Ideal))) ⟨m, fun _ => 0, g⟩ (fun r => ∀ c : Dev Cert.PremlpPostmixBwdIdeal.nD,
          r.2.mem ((c.tc : Thread Cert.PremlpPostmixBwdIdeal.nD Cert.PremlpPostmixBwdIdeal.τ).loc Cert.PremlpPostmixBwdIdeal.main_v0_0) = v0 c
          ∧ r.2.mem ((c.tc : Thread Cert.PremlpPostmixBwdIdeal.nD Cert.PremlpPostmixBwdIdeal.τ).loc Cert.PremlpPostmixBwdIdeal.main_v0_1) = v1 c
          ∧ r.2.mem ((c.tc : Thread Cert.PremlpPostmixBwdIdeal.nD Cert.PremlpPostmixBwdIdeal.τ).loc Cert.PremlpPostmixBwdIdeal.main_v0_2) = v2 c
          ∧ r.2.mem ((c.tc : Thread Cert.PremlpPostmixBwdIdeal.nD Cert.PremlpPostmixBwdIdeal.τ).loc Cert.PremlpPostmixBwdIdeal.main_v0_3) = v3 c
          ∧ r.2.mem ((c.tc : Thread Cert.PremlpPostmixBwdIdeal.nD Cert.PremlpPostmixBwdIdeal.τ).loc Cert.PremlpPostmixBwdIdeal.main_v0_4) = v4 c
          ∧ r.2.mem ((c.tc : Thread Cert.PremlpPostmixBwdIdeal.nD Cert.PremlpPostmixBwdIdeal.τ).loc Cert.PremlpPostmixBwdIdeal.main_v0_5) = v5 c
          ∧ r.2.mem ((c.tc : Thread Cert.PremlpPostmixBwdIdeal.nD Cert.PremlpPostmixBwdIdeal.τ).loc Cert.PremlpPostmixBwdIdeal.main_v0_6) = v6 c
          ∧ r.2.mem ((c.tc : Thread Cert.PremlpPostmixBwdIdeal.nD Cert.PremlpPostmixBwdIdeal.τ).loc Cert.PremlpPostmixBwdIdeal.main_arg0) = m ((c.tc : Thread Cert.PremlpPostmixBwdIdeal.nD Cert.PremlpPostmixBwdIdeal.τ).loc Cert.PremlpPostmixBwdIdeal.main_arg0)
          ∧ r.2.mem ((c.tc : Thread Cert.PremlpPostmixBwdIdeal.nD Cert.PremlpPostmixBwdIdeal.τ).loc Cert.PremlpPostmixBwdIdeal.main_arg1) = m ((c.tc : Thread Cert.PremlpPostmixBwdIdeal.nD Cert.PremlpPostmixBwdIdeal.τ).loc Cert.PremlpPostmixBwdIdeal.main_arg1)
          ∧ r.2.mem ((c.tc : Thread Cert.PremlpPostmixBwdIdeal.nD Cert.PremlpPostmixBwdIdeal.τ).loc Cert.PremlpPostmixBwdIdeal.main_arg2) = m ((c.tc : Thread Cert.PremlpPostmixBwdIdeal.nD Cert.PremlpPostmixBwdIdeal.τ).loc Cert.PremlpPostmixBwdIdeal.main_arg2)
          ∧ r.2.mem ((c.tc : Thread Cert.PremlpPostmixBwdIdeal.nD Cert.PremlpPostmixBwdIdeal.τ).loc Cert.PremlpPostmixBwdIdeal.main_arg3) = m ((c.tc : Thread Cert.PremlpPostmixBwdIdeal.nD Cert.PremlpPostmixBwdIdeal.τ).loc Cert.PremlpPostmixBwdIdeal.main_arg3)
          ∧ r.2.mem ((c.tc : Thread Cert.PremlpPostmixBwdIdeal.nD Cert.PremlpPostmixBwdIdeal.τ).loc Cert.PremlpPostmixBwdIdeal.main_arg4) = m ((c.tc : Thread Cert.PremlpPostmixBwdIdeal.nD Cert.PremlpPostmixBwdIdeal.τ).loc Cert.PremlpPostmixBwdIdeal.main_arg4)
          ∧ r.2.mem ((c.tc : Thread Cert.PremlpPostmixBwdIdeal.nD Cert.PremlpPostmixBwdIdeal.τ).loc Cert.PremlpPostmixBwdIdeal.main_arg5) = m ((c.tc : Thread Cert.PremlpPostmixBwdIdeal.nD Cert.PremlpPostmixBwdIdeal.τ).loc Cert.PremlpPostmixBwdIdeal.main_arg5)
          ∧ r.2.mem ((c.tc : Thread Cert.PremlpPostmixBwdIdeal.nD Cert.PremlpPostmixBwdIdeal.τ).loc Cert.PremlpPostmixBwdIdeal.main_arg6) = m ((c.tc : Thread Cert.PremlpPostmixBwdIdeal.nD Cert.PremlpPostmixBwdIdeal.τ).loc Cert.PremlpPostmixBwdIdeal.main_arg6)
          ∧ r.2.mem ((c.tc : Thread Cert.PremlpPostmixBwdIdeal.nD Cert.PremlpPostmixBwdIdeal.τ).loc Cert.PremlpPostmixBwdIdeal.main_arg7) = m ((c.tc : Thread Cert.PremlpPostmixBwdIdeal.nD Cert.PremlpPostmixBwdIdeal.τ).loc Cert.PremlpPostmixBwdIdeal.main_arg7))
      ∧ θ_run (Cert.PremlpPostmixBwdReferenceIdeal.defs (F := Ideal)) (onTc (τ := Cert.PremlpPostmixBwdReferenceIdeal.τ) (Cert.PremlpPostmixBwdReferenceIdeal.main (F := Ideal))) ⟨m', fun _ => 0, g'⟩ (fun r => ∀ c : Dev Cert.PremlpPostmixBwdReferenceIdeal.nD,
          r.2.mem ((c.tc : Thread Cert.PremlpPostmixBwdReferenceIdeal.nD Cert.PremlpPostmixBwdReferenceIdeal.τ).loc Cert.PremlpPostmixBwdReferenceIdeal.main_v49) = v0 c
          ∧ r.2.mem ((c.tc : Thread Cert.PremlpPostmixBwdReferenceIdeal.nD Cert.PremlpPostmixBwdReferenceIdeal.τ).loc Cert.PremlpPostmixBwdReferenceIdeal.main_v92) = v1 c
          ∧ r.2.mem ((c.tc : Thread Cert.PremlpPostmixBwdReferenceIdeal.nD Cert.PremlpPostmixBwdReferenceIdeal.τ).loc Cert.PremlpPostmixBwdReferenceIdeal.main_v27) = v2 c
          ∧ r.2.mem ((c.tc : Thread Cert.PremlpPostmixBwdReferenceIdeal.nD Cert.PremlpPostmixBwdReferenceIdeal.τ).loc Cert.PremlpPostmixBwdReferenceIdeal.main_v24) = v3 c
          ∧ r.2.mem ((c.tc : Thread Cert.PremlpPostmixBwdReferenceIdeal.nD Cert.PremlpPostmixBwdReferenceIdeal.τ).loc Cert.PremlpPostmixBwdReferenceIdeal.main_v32) = v4 c
          ∧ r.2.mem ((c.tc : Thread Cert.PremlpPostmixBwdReferenceIdeal.nD Cert.PremlpPostmixBwdReferenceIdeal.τ).loc Cert.PremlpPostmixBwdReferenceIdeal.main_v72) = v5 c
          ∧ r.2.mem ((c.tc : Thread Cert.PremlpPostmixBwdReferenceIdeal.nD Cert.PremlpPostmixBwdReferenceIdeal.τ).loc Cert.PremlpPostmixBwdReferenceIdeal.main_v75) = v6 c
          ∧ r.2.mem ((c.tc : Thread Cert.PremlpPostmixBwdReferenceIdeal.nD Cert.PremlpPostmixBwdReferenceIdeal.τ).loc Cert.PremlpPostmixBwdReferenceIdeal.main_arg0) = m' ((c.tc : Thread Cert.PremlpPostmixBwdReferenceIdeal.nD Cert.PremlpPostmixBwdReferenceIdeal.τ).loc Cert.PremlpPostmixBwdReferenceIdeal.main_arg0)
          ∧ r.2.mem ((c.tc : Thread Cert.PremlpPostmixBwdReferenceIdeal.nD Cert.PremlpPostmixBwdReferenceIdeal.τ).loc Cert.PremlpPostmixBwdReferenceIdeal.main_arg1) = m' ((c.tc : Thread Cert.PremlpPostmixBwdReferenceIdeal.nD Cert.PremlpPostmixBwdReferenceIdeal.τ).loc Cert.PremlpPostmixBwdReferenceIdeal.main_arg1)
          ∧ r.2.mem ((c.tc : Thread Cert.PremlpPostmixBwdReferenceIdeal.nD Cert.PremlpPostmixBwdReferenceIdeal.τ).loc Cert.PremlpPostmixBwdReferenceIdeal.main_arg2) = m' ((c.tc : Thread Cert.PremlpPostmixBwdReferenceIdeal.nD Cert.PremlpPostmixBwdReferenceIdeal.τ).loc Cert.PremlpPostmixBwdReferenceIdeal.main_arg2)
          ∧ r.2.mem ((c.tc : Thread Cert.PremlpPostmixBwdReferenceIdeal.nD Cert.PremlpPostmixBwdReferenceIdeal.τ).loc Cert.PremlpPostmixBwdReferenceIdeal.main_arg3) = m' ((c.tc : Thread Cert.PremlpPostmixBwdReferenceIdeal.nD Cert.PremlpPostmixBwdReferenceIdeal.τ).loc Cert.PremlpPostmixBwdReferenceIdeal.main_arg3)
          ∧ r.2.mem ((c.tc : Thread Cert.PremlpPostmixBwdReferenceIdeal.nD Cert.PremlpPostmixBwdReferenceIdeal.τ).loc Cert.PremlpPostmixBwdReferenceIdeal.main_arg4) = m' ((c.tc : Thread Cert.PremlpPostmixBwdReferenceIdeal.nD Cert.PremlpPostmixBwdReferenceIdeal.τ).loc Cert.PremlpPostmixBwdReferenceIdeal.main_arg4)
          ∧ r.2.mem ((c.tc : Thread Cert.PremlpPostmixBwdReferenceIdeal.nD Cert.PremlpPostmixBwdReferenceIdeal.τ).loc Cert.PremlpPostmixBwdReferenceIdeal.main_arg5) = m' ((c.tc : Thread Cert.PremlpPostmixBwdReferenceIdeal.nD Cert.PremlpPostmixBwdReferenceIdeal.τ).loc Cert.PremlpPostmixBwdReferenceIdeal.main_arg5)
          ∧ r.2.mem ((c.tc : Thread Cert.PremlpPostmixBwdReferenceIdeal.nD Cert.PremlpPostmixBwdReferenceIdeal.τ).loc Cert.PremlpPostmixBwdReferenceIdeal.main_arg6) = m' ((c.tc : Thread Cert.PremlpPostmixBwdReferenceIdeal.nD Cert.PremlpPostmixBwdReferenceIdeal.τ).loc Cert.PremlpPostmixBwdReferenceIdeal.main_arg6)
          ∧ r.2.mem ((c.tc : Thread Cert.PremlpPostmixBwdReferenceIdeal.nD Cert.PremlpPostmixBwdReferenceIdeal.τ).loc Cert.PremlpPostmixBwdReferenceIdeal.main_arg7) = m' ((c.tc : Thread Cert.PremlpPostmixBwdReferenceIdeal.nD Cert.PremlpPostmixBwdReferenceIdeal.τ).loc Cert.PremlpPostmixBwdReferenceIdeal.main_arg7))

def preserves_FoxCum_FoxCumIdeal : Prop :=
  True

def algebraic_FoxCumIdeal_FoxCumReferenceIdeal [hFoxCumIdeal : Cert.FoxCumIdeal.Facts] [hFoxCumReferenceIdeal : Cert.FoxCumReferenceIdeal.Facts] : Prop :=
  ∀ (m : (ℓ : Loc Cert.FoxCumIdeal.nD Cert.FoxCumIdeal.τ Cert.FoxCumIdeal.sig) → Buf (Elt Ideal) ℓ) (g : Dev Cert.FoxCumIdeal.nD → PrngReg)
    (m' : (ℓ : Loc Cert.FoxCumReferenceIdeal.nD Cert.FoxCumReferenceIdeal.τ Cert.FoxCumReferenceIdeal.sig) → Buf (Elt Ideal) ℓ) (g' : Dev Cert.FoxCumReferenceIdeal.nD → PrngReg), Pre_FoxCumIdeal m →
    (∀ c : Dev Cert.FoxCumIdeal.nD,
      m' ((c.tc : Thread Cert.FoxCumReferenceIdeal.nD Cert.FoxCumReferenceIdeal.τ).loc Cert.FoxCumReferenceIdeal.main_arg0) = m ((c.tc : Thread Cert.FoxCumIdeal.nD Cert.FoxCumIdeal.τ).loc Cert.FoxCumIdeal.main_arg0)
      ∧ m' ((c.tc : Thread Cert.FoxCumReferenceIdeal.nD Cert.FoxCumReferenceIdeal.τ).loc Cert.FoxCumReferenceIdeal.main_arg1) = m ((c.tc : Thread Cert.FoxCumIdeal.nD Cert.FoxCumIdeal.τ).loc Cert.FoxCumIdeal.main_arg1)) →
    ∃ (v0 : (c : Dev Cert.FoxCumIdeal.nD) → Buf (Elt Ideal) ((c.tc : Thread Cert.FoxCumIdeal.nD Cert.FoxCumIdeal.τ).loc Cert.FoxCumIdeal.main_v0)),
      θ_run (Cert.FoxCumIdeal.defs (F := Ideal)) (onTc (τ := Cert.FoxCumIdeal.τ) (Cert.FoxCumIdeal.main (F := Ideal))) ⟨m, fun _ => 0, g⟩ (fun r => ∀ c : Dev Cert.FoxCumIdeal.nD,
          r.2.mem ((c.tc : Thread Cert.FoxCumIdeal.nD Cert.FoxCumIdeal.τ).loc Cert.FoxCumIdeal.main_v0) = v0 c
          ∧ r.2.mem ((c.tc : Thread Cert.FoxCumIdeal.nD Cert.FoxCumIdeal.τ).loc Cert.FoxCumIdeal.main_arg0) = m ((c.tc : Thread Cert.FoxCumIdeal.nD Cert.FoxCumIdeal.τ).loc Cert.FoxCumIdeal.main_arg0)
          ∧ r.2.mem ((c.tc : Thread Cert.FoxCumIdeal.nD Cert.FoxCumIdeal.τ).loc Cert.FoxCumIdeal.main_arg1) = m ((c.tc : Thread Cert.FoxCumIdeal.nD Cert.FoxCumIdeal.τ).loc Cert.FoxCumIdeal.main_arg1))
      ∧ θ_run (Cert.FoxCumReferenceIdeal.defs (F := Ideal)) (onTc (τ := Cert.FoxCumReferenceIdeal.τ) (Cert.FoxCumReferenceIdeal.main (F := Ideal))) ⟨m', fun _ => 0, g'⟩ (fun r => ∀ c : Dev Cert.FoxCumReferenceIdeal.nD,
          r.2.mem ((c.tc : Thread Cert.FoxCumReferenceIdeal.nD Cert.FoxCumReferenceIdeal.τ).loc Cert.FoxCumReferenceIdeal.main_v6) = v0 c
          ∧ r.2.mem ((c.tc : Thread Cert.FoxCumReferenceIdeal.nD Cert.FoxCumReferenceIdeal.τ).loc Cert.FoxCumReferenceIdeal.main_arg0) = m' ((c.tc : Thread Cert.FoxCumReferenceIdeal.nD Cert.FoxCumReferenceIdeal.τ).loc Cert.FoxCumReferenceIdeal.main_arg0)
          ∧ r.2.mem ((c.tc : Thread Cert.FoxCumReferenceIdeal.nD Cert.FoxCumReferenceIdeal.τ).loc Cert.FoxCumReferenceIdeal.main_arg1) = m' ((c.tc : Thread Cert.FoxCumReferenceIdeal.nD Cert.FoxCumReferenceIdeal.τ).loc Cert.FoxCumReferenceIdeal.main_arg1))

def preserves_FoxCumBwd_FoxCumBwdIdeal : Prop :=
  True

def algebraic_FoxCumBwdIdeal_FoxCumBwdReferenceIdeal_pre_below [hFoxCumBwdIdeal : Cert.FoxCumBwdIdeal.Facts] [hFoxCumBwdReferenceIdeal : Cert.FoxCumBwdReferenceIdeal.Facts] [hPre_below : Cert.Pre_below.Facts] : Prop :=
  ∀ (m : (ℓ : Loc Cert.FoxCumBwdIdeal.nD Cert.FoxCumBwdIdeal.τ Cert.FoxCumBwdIdeal.sig) → Buf (Elt Ideal) ℓ) (g : Dev Cert.FoxCumBwdIdeal.nD → PrngReg)
    (m' : (ℓ : Loc Cert.FoxCumBwdReferenceIdeal.nD Cert.FoxCumBwdReferenceIdeal.τ Cert.FoxCumBwdReferenceIdeal.sig) → Buf (Elt Ideal) ℓ) (g' : Dev Cert.FoxCumBwdReferenceIdeal.nD → PrngReg), Pre_FoxCumBwdIdeal_below m →
    (∀ c : Dev Cert.FoxCumBwdIdeal.nD,
      m' ((c.tc : Thread Cert.FoxCumBwdReferenceIdeal.nD Cert.FoxCumBwdReferenceIdeal.τ).loc Cert.FoxCumBwdReferenceIdeal.main_arg0) = m ((c.tc : Thread Cert.FoxCumBwdIdeal.nD Cert.FoxCumBwdIdeal.τ).loc Cert.FoxCumBwdIdeal.main_arg0)
      ∧ m' ((c.tc : Thread Cert.FoxCumBwdReferenceIdeal.nD Cert.FoxCumBwdReferenceIdeal.τ).loc Cert.FoxCumBwdReferenceIdeal.main_arg1) = m ((c.tc : Thread Cert.FoxCumBwdIdeal.nD Cert.FoxCumBwdIdeal.τ).loc Cert.FoxCumBwdIdeal.main_arg1)
      ∧ m' ((c.tc : Thread Cert.FoxCumBwdReferenceIdeal.nD Cert.FoxCumBwdReferenceIdeal.τ).loc Cert.FoxCumBwdReferenceIdeal.main_arg2) = m ((c.tc : Thread Cert.FoxCumBwdIdeal.nD Cert.FoxCumBwdIdeal.τ).loc Cert.FoxCumBwdIdeal.main_arg2)
      ∧ m' ((c.tc : Thread Cert.FoxCumBwdReferenceIdeal.nD Cert.FoxCumBwdReferenceIdeal.τ).loc Cert.FoxCumBwdReferenceIdeal.main_arg3) = m ((c.tc : Thread Cert.FoxCumBwdIdeal.nD Cert.FoxCumBwdIdeal.τ).loc Cert.FoxCumBwdIdeal.main_arg3)) →
    ∃ (v0 : (c : Dev Cert.FoxCumBwdIdeal.nD) → Buf (Elt Ideal) ((c.tc : Thread Cert.FoxCumBwdIdeal.nD Cert.FoxCumBwdIdeal.τ).loc Cert.FoxCumBwdIdeal.main_v0_0)) (v1 : (c : Dev Cert.FoxCumBwdIdeal.nD) → Buf (Elt Ideal) ((c.tc : Thread Cert.FoxCumBwdIdeal.nD Cert.FoxCumBwdIdeal.τ).loc Cert.FoxCumBwdIdeal.main_v0_1)),
      θ_run (Cert.FoxCumBwdIdeal.defs (F := Ideal)) (onTc (τ := Cert.FoxCumBwdIdeal.τ) (Cert.FoxCumBwdIdeal.main (F := Ideal))) ⟨m, fun _ => 0, g⟩ (fun r => ∀ c : Dev Cert.FoxCumBwdIdeal.nD,
          r.2.mem ((c.tc : Thread Cert.FoxCumBwdIdeal.nD Cert.FoxCumBwdIdeal.τ).loc Cert.FoxCumBwdIdeal.main_v0_0) = v0 c
          ∧ r.2.mem ((c.tc : Thread Cert.FoxCumBwdIdeal.nD Cert.FoxCumBwdIdeal.τ).loc Cert.FoxCumBwdIdeal.main_v0_1) = v1 c
          ∧ r.2.mem ((c.tc : Thread Cert.FoxCumBwdIdeal.nD Cert.FoxCumBwdIdeal.τ).loc Cert.FoxCumBwdIdeal.main_arg0) = m ((c.tc : Thread Cert.FoxCumBwdIdeal.nD Cert.FoxCumBwdIdeal.τ).loc Cert.FoxCumBwdIdeal.main_arg0)
          ∧ r.2.mem ((c.tc : Thread Cert.FoxCumBwdIdeal.nD Cert.FoxCumBwdIdeal.τ).loc Cert.FoxCumBwdIdeal.main_arg1) = m ((c.tc : Thread Cert.FoxCumBwdIdeal.nD Cert.FoxCumBwdIdeal.τ).loc Cert.FoxCumBwdIdeal.main_arg1)
          ∧ r.2.mem ((c.tc : Thread Cert.FoxCumBwdIdeal.nD Cert.FoxCumBwdIdeal.τ).loc Cert.FoxCumBwdIdeal.main_arg2) = m ((c.tc : Thread Cert.FoxCumBwdIdeal.nD Cert.FoxCumBwdIdeal.τ).loc Cert.FoxCumBwdIdeal.main_arg2)
          ∧ r.2.mem ((c.tc : Thread Cert.FoxCumBwdIdeal.nD Cert.FoxCumBwdIdeal.τ).loc Cert.FoxCumBwdIdeal.main_arg3) = m ((c.tc : Thread Cert.FoxCumBwdIdeal.nD Cert.FoxCumBwdIdeal.τ).loc Cert.FoxCumBwdIdeal.main_arg3))
      ∧ θ_run (Cert.FoxCumBwdReferenceIdeal.defs (F := Ideal)) (onTc (τ := Cert.FoxCumBwdReferenceIdeal.τ) (Cert.FoxCumBwdReferenceIdeal.main (F := Ideal))) ⟨m', fun _ => 0, g'⟩ (fun r => ∀ c : Dev Cert.FoxCumBwdReferenceIdeal.nD,
          r.2.mem ((c.tc : Thread Cert.FoxCumBwdReferenceIdeal.nD Cert.FoxCumBwdReferenceIdeal.τ).loc Cert.FoxCumBwdReferenceIdeal.main_v14) = v0 c
          ∧ r.2.mem ((c.tc : Thread Cert.FoxCumBwdReferenceIdeal.nD Cert.FoxCumBwdReferenceIdeal.τ).loc Cert.FoxCumBwdReferenceIdeal.main_v16) = v1 c
          ∧ r.2.mem ((c.tc : Thread Cert.FoxCumBwdReferenceIdeal.nD Cert.FoxCumBwdReferenceIdeal.τ).loc Cert.FoxCumBwdReferenceIdeal.main_arg0) = m' ((c.tc : Thread Cert.FoxCumBwdReferenceIdeal.nD Cert.FoxCumBwdReferenceIdeal.τ).loc Cert.FoxCumBwdReferenceIdeal.main_arg0)
          ∧ r.2.mem ((c.tc : Thread Cert.FoxCumBwdReferenceIdeal.nD Cert.FoxCumBwdReferenceIdeal.τ).loc Cert.FoxCumBwdReferenceIdeal.main_arg1) = m' ((c.tc : Thread Cert.FoxCumBwdReferenceIdeal.nD Cert.FoxCumBwdReferenceIdeal.τ).loc Cert.FoxCumBwdReferenceIdeal.main_arg1)
          ∧ r.2.mem ((c.tc : Thread Cert.FoxCumBwdReferenceIdeal.nD Cert.FoxCumBwdReferenceIdeal.τ).loc Cert.FoxCumBwdReferenceIdeal.main_arg2) = m' ((c.tc : Thread Cert.FoxCumBwdReferenceIdeal.nD Cert.FoxCumBwdReferenceIdeal.τ).loc Cert.FoxCumBwdReferenceIdeal.main_arg2)
          ∧ r.2.mem ((c.tc : Thread Cert.FoxCumBwdReferenceIdeal.nD Cert.FoxCumBwdReferenceIdeal.τ).loc Cert.FoxCumBwdReferenceIdeal.main_arg3) = m' ((c.tc : Thread Cert.FoxCumBwdReferenceIdeal.nD Cert.FoxCumBwdReferenceIdeal.τ).loc Cert.FoxCumBwdReferenceIdeal.main_arg3))

def preserves_Modulation_ModulationIdeal : Prop :=
  True

def algebraic_ModulationIdeal_ModulationReferenceIdeal [hModulationIdeal : Cert.ModulationIdeal.Facts] [hModulationReferenceIdeal : Cert.ModulationReferenceIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationReferenceIdeal.nD Cert.ModulationReferenceIdeal.τ Cert.ModulationReferenceIdeal.sig) → Buf (Elt Ideal) ℓ) (g' : Dev Cert.ModulationReferenceIdeal.nD → PrngReg), Pre_ModulationIdeal m →
    (∀ c : Dev Cert.ModulationIdeal.nD,
      m' ((c.tc : Thread Cert.ModulationReferenceIdeal.nD Cert.ModulationReferenceIdeal.τ).loc Cert.ModulationReferenceIdeal.main_arg0) = m ((c.tc : Thread Cert.ModulationIdeal.nD Cert.ModulationIdeal.τ).loc Cert.ModulationIdeal.main_arg0)
      ∧ m' ((c.tc : Thread Cert.ModulationReferenceIdeal.nD Cert.ModulationReferenceIdeal.τ).loc Cert.ModulationReferenceIdeal.main_arg1) = m ((c.tc : Thread Cert.ModulationIdeal.nD Cert.ModulationIdeal.τ).loc Cert.ModulationIdeal.main_arg1)) →
    ∃ (v0 : (c : Dev Cert.ModulationIdeal.nD) → Buf (Elt Ideal) ((c.tc : Thread Cert.ModulationIdeal.nD Cert.ModulationIdeal.τ).loc Cert.ModulationIdeal.main_v0_0)) (v1 : (c : Dev Cert.ModulationIdeal.nD) → Buf (Elt Ideal) ((c.tc : Thread Cert.ModulationIdeal.nD Cert.ModulationIdeal.τ).loc Cert.ModulationIdeal.main_v0_1)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v0_0) = v0 c
          ∧ r.2.mem ((c.tc : Thread Cert.ModulationIdeal.nD Cert.ModulationIdeal.τ).loc Cert.ModulationIdeal.main_v0_1) = v1 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1))
      ∧ θ_run (Cert.ModulationReferenceIdeal.defs (F := Ideal)) (onTc (τ := Cert.ModulationReferenceIdeal.τ) (Cert.ModulationReferenceIdeal.main (F := Ideal))) ⟨m', fun _ => 0, g'⟩ (fun r => ∀ c : Dev Cert.ModulationReferenceIdeal.nD,
          r.2.mem ((c.tc : Thread Cert.ModulationReferenceIdeal.nD Cert.ModulationReferenceIdeal.τ).loc Cert.ModulationReferenceIdeal.main_v1) = v0 c
          ∧ r.2.mem ((c.tc : Thread Cert.ModulationReferenceIdeal.nD Cert.ModulationReferenceIdeal.τ).loc Cert.ModulationReferenceIdeal.main_v0) = v1 c
          ∧ r.2.mem ((c.tc : Thread Cert.ModulationReferenceIdeal.nD Cert.ModulationReferenceIdeal.τ).loc Cert.ModulationReferenceIdeal.main_arg0) = m' ((c.tc : Thread Cert.ModulationReferenceIdeal.nD Cert.ModulationReferenceIdeal.τ).loc Cert.ModulationReferenceIdeal.main_arg0)
          ∧ r.2.mem ((c.tc : Thread Cert.ModulationReferenceIdeal.nD Cert.ModulationReferenceIdeal.τ).loc Cert.ModulationReferenceIdeal.main_arg1) = m' ((c.tc : Thread Cert.ModulationReferenceIdeal.nD Cert.ModulationReferenceIdeal.τ).loc Cert.ModulationReferenceIdeal.main_arg1))

def Claim : Prop :=
  ∃ (hKernel : Cert.Kernel.Facts) (hKernelIdeal : Cert.KernelIdeal.Facts) (hReferenceIdeal : Cert.ReferenceIdeal.Facts) (hMlpIn : Cert.MlpIn.Facts) (hMlpInIdeal : Cert.MlpInIdeal.Facts) (hMlpInReferenceIdeal : Cert.MlpInReferenceIdeal.Facts) (hMlpOut : Cert.MlpOut.Facts) (hMlpOutIdeal : Cert.MlpOutIdeal.Facts) (hMlpOutReferenceIdeal : Cert.MlpOutReferenceIdeal.Facts) (hMlpOutDx : Cert.MlpOutDx.Facts) (hMlpOutDxIdeal : Cert.MlpOutDxIdeal.Facts) (hMlpOutDxReferenceIdeal : Cert.MlpOutDxReferenceIdeal.Facts) (hMlpOutDw : Cert.MlpOutDw.Facts) (hMlpOutDwIdeal : Cert.MlpOutDwIdeal.Facts) (hMlpOutDwReferenceIdeal : Cert.MlpOutDwReferenceIdeal.Facts) (hMlpInDx : Cert.MlpInDx.Facts) (hMlpInDxIdeal : Cert.MlpInDxIdeal.Facts) (hMlpInDxReferenceIdeal : Cert.MlpInDxReferenceIdeal.Facts) (hMlpInDw : Cert.MlpInDw.Facts) (hMlpInDwIdeal : Cert.MlpInDwIdeal.Facts) (hMlpInDwReferenceIdeal : Cert.MlpInDwReferenceIdeal.Facts) (hProjMain : Cert.ProjMain.Facts) (hProjMainIdeal : Cert.ProjMainIdeal.Facts) (hProjMainReferenceIdeal : Cert.ProjMainReferenceIdeal.Facts) (hProjMainDx : Cert.ProjMainDx.Facts) (hProjMainDxIdeal : Cert.ProjMainDxIdeal.Facts) (hProjMainDxReferenceIdeal : Cert.ProjMainDxReferenceIdeal.Facts) (hProjMainDw : Cert.ProjMainDw.Facts) (hProjMainDwIdeal : Cert.ProjMainDwIdeal.Facts) (hProjMainDwReferenceIdeal : Cert.ProjMainDwReferenceIdeal.Facts) (hOutProj : Cert.OutProj.Facts) (hOutProjIdeal : Cert.OutProjIdeal.Facts) (hOutProjReferenceIdeal : Cert.OutProjReferenceIdeal.Facts) (hOutProjDx : Cert.OutProjDx.Facts) (hOutProjDxIdeal : Cert.OutProjDxIdeal.Facts) (hOutProjDxReferenceIdeal : Cert.OutProjDxReferenceIdeal.Facts) (hOutProjDw : Cert.OutProjDw.Facts) (hOutProjDwIdeal : Cert.OutProjDwIdeal.Facts) (hOutProjDwReferenceIdeal : Cert.OutProjDwReferenceIdeal.Facts) (hProjSmall : Cert.ProjSmall.Facts) (hProjSmallIdeal : Cert.ProjSmallIdeal.Facts) (hProjSmallReferenceIdeal : Cert.ProjSmallReferenceIdeal.Facts) (hGateDx : Cert.GateDx.Facts) (hGateDxIdeal : Cert.GateDxIdeal.Facts) (hGateDxReferenceIdeal : Cert.GateDxReferenceIdeal.Facts) (hGateDw : Cert.GateDw.Facts) (hGateDwIdeal : Cert.GateDwIdeal.Facts) (hGateDwReferenceIdeal : Cert.GateDwReferenceIdeal.Facts) (hProjSmallDw : Cert.ProjSmallDw.Facts) (hProjSmallDwIdeal : Cert.ProjSmallDwIdeal.Facts) (hProjSmallDwReferenceIdeal : Cert.ProjSmallDwReferenceIdeal.Facts) (hPremix : Cert.Premix.Facts) (hPremixIdeal : Cert.PremixIdeal.Facts) (hPremixReferenceIdeal : Cert.PremixReferenceIdeal.Facts) (hPostmixPremlp : Cert.PostmixPremlp.Facts) (hPostmixPremlpIdeal : Cert.PostmixPremlpIdeal.Facts) (hPostmixPremlpReferenceIdeal : Cert.PostmixPremlpReferenceIdeal.Facts) (hFoxFwd : Cert.FoxFwd.Facts) (hFoxFwdIdeal : Cert.FoxFwdIdeal.Facts) (hFoxFwdReferenceIdeal : Cert.FoxFwdReferenceIdeal.Facts) (hPremixBwd : Cert.PremixBwd.Facts) (hPremixBwdIdeal : Cert.PremixBwdIdeal.Facts) (hPremixBwdReferenceIdeal : Cert.PremixBwdReferenceIdeal.Facts) (hPremlpPostmixBwd : Cert.PremlpPostmixBwd.Facts) (hPremlpPostmixBwdIdeal : Cert.PremlpPostmixBwdIdeal.Facts) (hPremlpPostmixBwdReferenceIdeal : Cert.PremlpPostmixBwdReferenceIdeal.Facts) (hFoxCum : Cert.FoxCum.Facts) (hFoxCumIdeal : Cert.FoxCumIdeal.Facts) (hFoxCumReferenceIdeal : Cert.FoxCumReferenceIdeal.Facts) (hFoxCumBwd : Cert.FoxCumBwd.Facts) (hFoxCumBwdIdeal : Cert.FoxCumBwdIdeal.Facts) (hFoxCumBwdReferenceIdeal : Cert.FoxCumBwdReferenceIdeal.Facts) (hModulation : Cert.Modulation.Facts) (hModulationIdeal : Cert.ModulationIdeal.Facts) (hModulationReferenceIdeal : Cert.ModulationReferenceIdeal.Facts) (hPre_finite : Cert.Pre_finite.Facts) (hPre_finite_fwd : Cert.Pre_finite_fwd.Facts) (hPre_below : Cert.Pre_below.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_MlpIn (hMlpIn := hMlpIn)
    ∧ quiescent_MlpInIdeal (hMlpInIdeal := hMlpInIdeal)
    ∧ quiescent_MlpInReferenceIdeal (hMlpInReferenceIdeal := hMlpInReferenceIdeal)
    ∧ quiescent_MlpOut (hMlpOut := hMlpOut)
    ∧ quiescent_MlpOutIdeal (hMlpOutIdeal := hMlpOutIdeal)
    ∧ quiescent_MlpOutReferenceIdeal (hMlpOutReferenceIdeal := hMlpOutReferenceIdeal)
    ∧ quiescent_MlpOutDx (hMlpOutDx := hMlpOutDx)
    ∧ quiescent_MlpOutDxIdeal (hMlpOutDxIdeal := hMlpOutDxIdeal)
    ∧ quiescent_MlpOutDxReferenceIdeal (hMlpOutDxReferenceIdeal := hMlpOutDxReferenceIdeal)
    ∧ quiescent_MlpOutDw (hMlpOutDw := hMlpOutDw)
    ∧ quiescent_MlpOutDwIdeal (hMlpOutDwIdeal := hMlpOutDwIdeal)
    ∧ quiescent_MlpOutDwReferenceIdeal (hMlpOutDwReferenceIdeal := hMlpOutDwReferenceIdeal)
    ∧ quiescent_MlpInDx (hMlpInDx := hMlpInDx)
    ∧ quiescent_MlpInDxIdeal (hMlpInDxIdeal := hMlpInDxIdeal)
    ∧ quiescent_MlpInDxReferenceIdeal (hMlpInDxReferenceIdeal := hMlpInDxReferenceIdeal)
    ∧ quiescent_MlpInDw (hMlpInDw := hMlpInDw)
    ∧ quiescent_MlpInDwIdeal (hMlpInDwIdeal := hMlpInDwIdeal)
    ∧ quiescent_MlpInDwReferenceIdeal (hMlpInDwReferenceIdeal := hMlpInDwReferenceIdeal)
    ∧ quiescent_ProjMain (hProjMain := hProjMain)
    ∧ quiescent_ProjMainIdeal (hProjMainIdeal := hProjMainIdeal)
    ∧ quiescent_ProjMainReferenceIdeal (hProjMainReferenceIdeal := hProjMainReferenceIdeal)
    ∧ quiescent_ProjMainDx (hProjMainDx := hProjMainDx)
    ∧ quiescent_ProjMainDxIdeal (hProjMainDxIdeal := hProjMainDxIdeal)
    ∧ quiescent_ProjMainDxReferenceIdeal (hProjMainDxReferenceIdeal := hProjMainDxReferenceIdeal)
    ∧ quiescent_ProjMainDw (hProjMainDw := hProjMainDw)
    ∧ quiescent_ProjMainDwIdeal (hProjMainDwIdeal := hProjMainDwIdeal)
    ∧ quiescent_ProjMainDwReferenceIdeal (hProjMainDwReferenceIdeal := hProjMainDwReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_OutProjDx (hOutProjDx := hOutProjDx)
    ∧ quiescent_OutProjDxIdeal (hOutProjDxIdeal := hOutProjDxIdeal)
    ∧ quiescent_OutProjDxReferenceIdeal (hOutProjDxReferenceIdeal := hOutProjDxReferenceIdeal)
    ∧ quiescent_OutProjDw (hOutProjDw := hOutProjDw)
    ∧ quiescent_OutProjDwIdeal (hOutProjDwIdeal := hOutProjDwIdeal)
    ∧ quiescent_OutProjDwReferenceIdeal (hOutProjDwReferenceIdeal := hOutProjDwReferenceIdeal)
    ∧ quiescent_ProjSmall (hProjSmall := hProjSmall)
    ∧ quiescent_ProjSmallIdeal (hProjSmallIdeal := hProjSmallIdeal)
    ∧ quiescent_ProjSmallReferenceIdeal (hProjSmallReferenceIdeal := hProjSmallReferenceIdeal)
    ∧ quiescent_GateDx (hGateDx := hGateDx)
    ∧ quiescent_GateDxIdeal (hGateDxIdeal := hGateDxIdeal)
    ∧ quiescent_GateDxReferenceIdeal (hGateDxReferenceIdeal := hGateDxReferenceIdeal)
    ∧ quiescent_GateDw (hGateDw := hGateDw)
    ∧ quiescent_GateDwIdeal (hGateDwIdeal := hGateDwIdeal)
    ∧ quiescent_GateDwReferenceIdeal (hGateDwReferenceIdeal := hGateDwReferenceIdeal)
    ∧ quiescent_ProjSmallDw (hProjSmallDw := hProjSmallDw)
    ∧ quiescent_ProjSmallDwIdeal (hProjSmallDwIdeal := hProjSmallDwIdeal)
    ∧ quiescent_ProjSmallDwReferenceIdeal (hProjSmallDwReferenceIdeal := hProjSmallDwReferenceIdeal)
    ∧ quiescent_Premix (hPremix := hPremix)
    ∧ quiescent_PremixIdeal (hPremixIdeal := hPremixIdeal)
    ∧ quiescent_PremixReferenceIdeal (hPremixReferenceIdeal := hPremixReferenceIdeal)
    ∧ quiescent_PostmixPremlp (hPostmixPremlp := hPostmixPremlp)
    ∧ quiescent_PostmixPremlpIdeal (hPostmixPremlpIdeal := hPostmixPremlpIdeal)
    ∧ quiescent_PostmixPremlpReferenceIdeal (hPostmixPremlpReferenceIdeal := hPostmixPremlpReferenceIdeal)
    ∧ quiescent_FoxFwd (hFoxFwd := hFoxFwd)
    ∧ quiescent_FoxFwdIdeal (hFoxFwdIdeal := hFoxFwdIdeal)
    ∧ quiescent_FoxFwdIdeal_pre_finite_fwd (hFoxFwdIdeal := hFoxFwdIdeal) (hPre_finite_fwd := hPre_finite_fwd)
    ∧ quiescent_FoxFwdReferenceIdeal (hFoxFwdReferenceIdeal := hFoxFwdReferenceIdeal)
    ∧ quiescent_FoxFwdReferenceIdeal_pre_finite_fwd (hFoxFwdReferenceIdeal := hFoxFwdReferenceIdeal) (hPre_finite_fwd := hPre_finite_fwd)
    ∧ quiescent_PremixBwd (hPremixBwd := hPremixBwd)
    ∧ quiescent_PremixBwdIdeal (hPremixBwdIdeal := hPremixBwdIdeal)
    ∧ quiescent_PremixBwdReferenceIdeal (hPremixBwdReferenceIdeal := hPremixBwdReferenceIdeal)
    ∧ quiescent_PremlpPostmixBwd (hPremlpPostmixBwd := hPremlpPostmixBwd)
    ∧ quiescent_PremlpPostmixBwdIdeal (hPremlpPostmixBwdIdeal := hPremlpPostmixBwdIdeal)
    ∧ quiescent_PremlpPostmixBwdReferenceIdeal (hPremlpPostmixBwdReferenceIdeal := hPremlpPostmixBwdReferenceIdeal)
    ∧ quiescent_FoxCum (hFoxCum := hFoxCum)
    ∧ quiescent_FoxCumIdeal (hFoxCumIdeal := hFoxCumIdeal)
    ∧ quiescent_FoxCumReferenceIdeal (hFoxCumReferenceIdeal := hFoxCumReferenceIdeal)
    ∧ quiescent_FoxCumBwd (hFoxCumBwd := hFoxCumBwd)
    ∧ quiescent_FoxCumBwdIdeal (hFoxCumBwdIdeal := hFoxCumBwdIdeal)
    ∧ quiescent_FoxCumBwdIdeal_pre_below (hFoxCumBwdIdeal := hFoxCumBwdIdeal) (hPre_below := hPre_below)
    ∧ quiescent_FoxCumBwdReferenceIdeal (hFoxCumBwdReferenceIdeal := hFoxCumBwdReferenceIdeal)
    ∧ quiescent_FoxCumBwdReferenceIdeal_pre_below (hFoxCumBwdReferenceIdeal := hFoxCumBwdReferenceIdeal) (hPre_below := hPre_below)
    ∧ quiescent_Modulation (hModulation := hModulation)
    ∧ quiescent_ModulationIdeal (hModulationIdeal := hModulationIdeal)
    ∧ quiescent_ModulationReferenceIdeal (hModulationReferenceIdeal := hModulationReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_MlpIn_MlpInIdeal
    ∧ algebraic_MlpInIdeal_MlpInReferenceIdeal (hMlpInIdeal := hMlpInIdeal) (hMlpInReferenceIdeal := hMlpInReferenceIdeal)
    ∧ preserves_MlpOut_MlpOutIdeal
    ∧ algebraic_MlpOutIdeal_MlpOutReferenceIdeal (hMlpOutIdeal := hMlpOutIdeal) (hMlpOutReferenceIdeal := hMlpOutReferenceIdeal)
    ∧ preserves_MlpOutDx_MlpOutDxIdeal
    ∧ algebraic_MlpOutDxIdeal_MlpOutDxReferenceIdeal (hMlpOutDxIdeal := hMlpOutDxIdeal) (hMlpOutDxReferenceIdeal := hMlpOutDxReferenceIdeal)
    ∧ preserves_MlpOutDw_MlpOutDwIdeal
    ∧ algebraic_MlpOutDwIdeal_MlpOutDwReferenceIdeal (hMlpOutDwIdeal := hMlpOutDwIdeal) (hMlpOutDwReferenceIdeal := hMlpOutDwReferenceIdeal)
    ∧ preserves_MlpInDx_MlpInDxIdeal
    ∧ algebraic_MlpInDxIdeal_MlpInDxReferenceIdeal (hMlpInDxIdeal := hMlpInDxIdeal) (hMlpInDxReferenceIdeal := hMlpInDxReferenceIdeal)
    ∧ preserves_MlpInDw_MlpInDwIdeal
    ∧ algebraic_MlpInDwIdeal_MlpInDwReferenceIdeal (hMlpInDwIdeal := hMlpInDwIdeal) (hMlpInDwReferenceIdeal := hMlpInDwReferenceIdeal)
    ∧ preserves_ProjMain_ProjMainIdeal
    ∧ algebraic_ProjMainIdeal_ProjMainReferenceIdeal (hProjMainIdeal := hProjMainIdeal) (hProjMainReferenceIdeal := hProjMainReferenceIdeal)
    ∧ preserves_ProjMainDx_ProjMainDxIdeal
    ∧ algebraic_ProjMainDxIdeal_ProjMainDxReferenceIdeal (hProjMainDxIdeal := hProjMainDxIdeal) (hProjMainDxReferenceIdeal := hProjMainDxReferenceIdeal)
    ∧ preserves_ProjMainDw_ProjMainDwIdeal
    ∧ algebraic_ProjMainDwIdeal_ProjMainDwReferenceIdeal (hProjMainDwIdeal := hProjMainDwIdeal) (hProjMainDwReferenceIdeal := hProjMainDwReferenceIdeal)
    ∧ preserves_OutProj_OutProjIdeal
    ∧ algebraic_OutProjIdeal_OutProjReferenceIdeal (hOutProjIdeal := hOutProjIdeal) (hOutProjReferenceIdeal := hOutProjReferenceIdeal)
    ∧ preserves_OutProjDx_OutProjDxIdeal
    ∧ algebraic_OutProjDxIdeal_OutProjDxReferenceIdeal (hOutProjDxIdeal := hOutProjDxIdeal) (hOutProjDxReferenceIdeal := hOutProjDxReferenceIdeal)
    ∧ preserves_OutProjDw_OutProjDwIdeal
    ∧ algebraic_OutProjDwIdeal_OutProjDwReferenceIdeal (hOutProjDwIdeal := hOutProjDwIdeal) (hOutProjDwReferenceIdeal := hOutProjDwReferenceIdeal)
    ∧ preserves_ProjSmall_ProjSmallIdeal
    ∧ algebraic_ProjSmallIdeal_ProjSmallReferenceIdeal (hProjSmallIdeal := hProjSmallIdeal) (hProjSmallReferenceIdeal := hProjSmallReferenceIdeal)
    ∧ preserves_GateDx_GateDxIdeal
    ∧ algebraic_GateDxIdeal_GateDxReferenceIdeal (hGateDxIdeal := hGateDxIdeal) (hGateDxReferenceIdeal := hGateDxReferenceIdeal)
    ∧ preserves_GateDw_GateDwIdeal
    ∧ algebraic_GateDwIdeal_GateDwReferenceIdeal (hGateDwIdeal := hGateDwIdeal) (hGateDwReferenceIdeal := hGateDwReferenceIdeal)
    ∧ preserves_ProjSmallDw_ProjSmallDwIdeal
    ∧ algebraic_ProjSmallDwIdeal_ProjSmallDwReferenceIdeal (hProjSmallDwIdeal := hProjSmallDwIdeal) (hProjSmallDwReferenceIdeal := hProjSmallDwReferenceIdeal)
    ∧ preserves_Premix_PremixIdeal
    ∧ algebraic_PremixIdeal_PremixReferenceIdeal (hPremixIdeal := hPremixIdeal) (hPremixReferenceIdeal := hPremixReferenceIdeal)
    ∧ preserves_PostmixPremlp_PostmixPremlpIdeal
    ∧ algebraic_PostmixPremlpIdeal_PostmixPremlpReferenceIdeal (hPostmixPremlpIdeal := hPostmixPremlpIdeal) (hPostmixPremlpReferenceIdeal := hPostmixPremlpReferenceIdeal)
    ∧ preserves_FoxFwd_FoxFwdIdeal
    ∧ algebraic_FoxFwdIdeal_FoxFwdReferenceIdeal_pre_finite_fwd (hFoxFwdIdeal := hFoxFwdIdeal) (hFoxFwdReferenceIdeal := hFoxFwdReferenceIdeal) (hPre_finite_fwd := hPre_finite_fwd)
    ∧ preserves_PremixBwd_PremixBwdIdeal
    ∧ algebraic_PremixBwdIdeal_PremixBwdReferenceIdeal (hPremixBwdIdeal := hPremixBwdIdeal) (hPremixBwdReferenceIdeal := hPremixBwdReferenceIdeal)
    ∧ preserves_PremlpPostmixBwd_PremlpPostmixBwdIdeal
    ∧ algebraic_PremlpPostmixBwdIdeal_PremlpPostmixBwdReferenceIdeal (hPremlpPostmixBwdIdeal := hPremlpPostmixBwdIdeal) (hPremlpPostmixBwdReferenceIdeal := hPremlpPostmixBwdReferenceIdeal)
    ∧ preserves_FoxCum_FoxCumIdeal
    ∧ algebraic_FoxCumIdeal_FoxCumReferenceIdeal (hFoxCumIdeal := hFoxCumIdeal) (hFoxCumReferenceIdeal := hFoxCumReferenceIdeal)
    ∧ preserves_FoxCumBwd_FoxCumBwdIdeal
    ∧ algebraic_FoxCumBwdIdeal_FoxCumBwdReferenceIdeal_pre_below (hFoxCumBwdIdeal := hFoxCumBwdIdeal) (hFoxCumBwdReferenceIdeal := hFoxCumBwdReferenceIdeal) (hPre_below := hPre_below)
    ∧ preserves_Modulation_ModulationIdeal
    ∧ algebraic_ModulationIdeal_ModulationReferenceIdeal (hModulationIdeal := hModulationIdeal) (hModulationReferenceIdeal := hModulationReferenceIdeal)
-- ==== Pre_below.lean ====
abbrev S8x4096 : Shape := ⟨2, ![8, 4096]⟩
abbrev S8x4096x1 : Shape := ⟨3, ![8, 4096, 1]⟩
abbrev S4096x128 : Shape := ⟨2, ![4096, 128]⟩
abbrev S1x128 : Shape := ⟨2, ![1, 128]⟩
abbrev S_ : Shape := ⟨0, ![]⟩

class Facts : Prop where
  bcast_S_S8x4096 : S_.BroadcastsInDim S8x4096 (![] : Fin 0 → Fin S8x4096.rank)
  bcast_S_S8x4096x1 : S_.BroadcastsInDim S8x4096x1 (![] : Fin 0 → Fin S8x4096x1.rank)

variable [Facts]

def fn {F : FTy → Type} [FloatOps F] (main_arg0 : FVec F S8x4096 .f32) (main_arg1 : FVec F S8x4096x1 .f32) (main_arg2 : FVec F S4096x128 .f32) (main_arg3 : FVec F S1x128 .f32) : IVec S8x4096 1 × IVec S8x4096x1 1 :=
  let main_cst : FVec F S_ .f32 := constant S_ .f32 0x7F800000#32
  let main_v0 : FVec F S8x4096 .f32 := broadcastInDim S8x4096 ![] bcast_S_S8x4096 main_cst
  let main_v1 : IVec S8x4096 1 := cmpf .olt main_arg0 main_v0
  let main_cst_0 : FVec F S_ .f32 := constant S_ .f32 0x7F800000#32
  let main_v2 : FVec F S8x4096x1 .f32 := broadcastInDim S8x4096x1 ![] bcast_S_S8x4096x1 main_cst_0
  let main_v3 : IVec S8x4096x1 1 := cmpf .olt main_arg1 main_v2
  (main_v1, main_v3)
-- ==== Pre_finite.lean ====
abbrev S4096x6144 : Shape := ⟨2, ![4096, 6144]⟩
abbrev S8x1x4096 : Shape := ⟨3, ![8, 1, 4096]⟩
abbrev S4096x1024 : Shape := ⟨2, ![4096, 1024]⟩
abbrev S_ : Shape := ⟨0, ![]⟩

class Facts : Prop where
  bcast_S_S4096x6144 : S_.BroadcastsInDim S4096x6144 (![] : Fin 0 → Fin S4096x6144.rank)
  bcast_S_S8x1x4096 : S_.BroadcastsInDim S8x1x4096 (![] : Fin 0 → Fin S8x1x4096.rank)
  bcast_S_S4096x1024 : S_.BroadcastsInDim S4096x1024 (![] : Fin 0 → Fin S4096x1024.rank)

variable [Facts]

def fn {F : FTy → Type} [FloatOps F] (main_arg0 : FVec F S4096x6144 .bf16) (main_arg1 : FVec F S8x1x4096 .f32) (main_arg2 : FVec F S4096x1024 .bf16) : IVec S4096x6144 1 × IVec S4096x6144 1 × IVec S8x1x4096 1 × IVec S8x1x4096 1 × IVec S4096x1024 1 × IVec S4096x1024 1 :=
  let main_cst : FVec F S_ .bf16 := constant S_ .bf16 0x7F80#16
  let main_v0 : FVec F S4096x6144 .bf16 := broadcastInDim S4096x6144 ![] bcast_S_S4096x6144 main_cst
  let main_v1 : IVec S4096x6144 1 := cmpf .olt main_arg0 main_v0
  let main_cst_0 : FVec F S_ .bf16 := constant S_ .bf16 0xFF80#16
  let main_v2 : FVec F S4096x6144 .bf16 := broadcastInDim S4096x6144 ![] bcast_S_S4096x6144 main_cst_0
  let main_v3 : IVec S4096x6144 1 := cmpf .ogt main_arg0 main_v2
  let main_cst_1 : FVec F S_ .f32 := constant S_ .f32 0x7F800000#32
  let main_v4 : FVec F S8x1x4096 .f32 := broadcastInDim S8x1x4096 ![] bcast_S_S8x1x4096 main_cst_1
  let main_v5 : IVec S8x1x4096 1 := cmpf .olt main_arg1 main_v4
  let main_cst_2 : FVec F S_ .f32 := constant S_ .f32 0xFF800000#32
  let main_v6 : FVec F S8x1x4096 .f32 := broadcastInDim S8x1x4096 ![] bcast_S_S8x1x4096 main_cst_2
  let main_v7 : IVec S8x1x4096 1 := cmpf .ogt main_arg1 main_v6
  let main_cst_3 : FVec F S_ .bf16 := constant S_ .bf16 0x7F80#16
  let main_v8 : FVec F S4096x1024 .bf16 := broadcastInDim S4096x1024 ![] bcast_S_S4096x1024 main_cst_3
  let main_v9 : IVec S4096x1024 1 := cmpf .olt main_arg2 main_v8
  let main_cst_4 : FVec F S_ .bf16 := constant S_ .bf16 0xFF80#16
  let main_v10 : FVec F S4096x1024 .bf16 := broadcastInDim S4096x1024 ![] bcast_S_S4096x1024 main_cst_4
  let main_v11 : IVec S4096x1024 1 := cmpf .ogt main_arg2 main_v10
  (main_v1, main_v3, main_v5, main_v7, main_v9, main_v11)
-- ==== Pre_finite_fwd.lean ====
abbrev S4096x6144 : Shape := ⟨2, ![4096, 6144]⟩
abbrev S8x1x4096 : Shape := ⟨3, ![8, 1, 4096]⟩
abbrev S_ : Shape := ⟨0, ![]⟩

class Facts : Prop where
  bcast_S_S4096x6144 : S_.BroadcastsInDim S4096x6144 (![] : Fin 0 → Fin S4096x6144.rank)
  bcast_S_S8x1x4096 : S_.BroadcastsInDim S8x1x4096 (![] : Fin 0 → Fin S8x1x4096.rank)

variable [Facts]

def fn {F : FTy → Type} [FloatOps F] (main_arg0 : FVec F S4096x6144 .bf16) (main_arg1 : FVec F S8x1x4096 .f32) : IVec S4096x6144 1 × IVec S4096x6144 1 × IVec S8x1x4096 1 × IVec S8x1x4096 1 :=
  let main_cst : FVec F S_ .bf16 := constant S_ .bf16 0x7F80#16
  let main_v0 : FVec F S4096x6144 .bf16 := broadcastInDim S4096x6144 ![] bcast_S_S4096x6144 main_cst
  let main_v1 : IVec S4096x6144 1 := cmpf .olt main_arg0 main_v0
  let main_cst_0 : FVec F S_ .bf16 := constant S_ .bf16 0xFF80#16
  let main_v2 : FVec F S4096x6144 .bf16 := broadcastInDim S4096x6144 ![] bcast_S_S4096x6144 main_cst_0
  let main_v3 : IVec S4096x6144 1 := cmpf .ogt main_arg0 main_v2
  let main_cst_1 : FVec F S_ .f32 := constant S_ .f32 0x7F800000#32
  let main_v4 : FVec F S8x1x4096 .f32 := broadcastInDim S8x1x4096 ![] bcast_S_S8x1x4096 main_cst_1
  let main_v5 : IVec S8x1x4096 1 := cmpf .olt main_arg1 main_v4
  let main_cst_2 : FVec F S_ .f32 := constant S_ .f32 0xFF800000#32
  let main_v6 : FVec F S8x1x4096 .f32 := broadcastInDim S8x1x4096 ![] bcast_S_S8x1x4096 main_cst_2
  let main_v7 : IVec S8x1x4096 1 := cmpf .ogt main_arg1 main_v6
  (main_v1, main_v3, main_v5, main_v7)
-- ==== Kernel.lean ====
abbrev S4096x6144 : Shape := ⟨2, ![4096, 6144]⟩
abbrev S8x1x4096 : Shape := ⟨3, ![8, 1, 4096]⟩
abbrev S4096x1024 : Shape := ⟨2, ![4096, 1024]⟩
abbrev S4096x8x128 : Shape := ⟨3, ![4096, 8, 128]⟩
abbrev S8x4096x4096 : Shape := ⟨3, ![8, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S4096x128 : Shape := ⟨2, ![4096, 128]⟩
abbrev S1x4096x1 : Shape := ⟨3, ![1, 4096, 1]⟩
abbrev S1024x128 : Shape := ⟨2, ![1024, 128]⟩
abbrev S1x1x1024 : Shape := ⟨3, ![1, 1, 1024]⟩
abbrev S1x1024 : Shape := ⟨2, ![1, 1024]⟩
abbrev S512x128 : Shape := ⟨2, ![512, 128]⟩
abbrev S1x512 : Shape := ⟨2, ![1, 512]⟩
abbrev S512x512 : Shape := ⟨2, ![512, 512]⟩
abbrev S1x512x1 : Shape := ⟨3, ![1, 512, 1]⟩
abbrev S512x1 : Shape := ⟨2, ![512, 1]⟩
abbrev S512 : Shape := ⟨1, ![512]⟩
abbrev S512x1024 : Shape := ⟨2, ![512, 1024]⟩
abbrev S1024 : Shape := ⟨1, ![1024]⟩

abbrev nBuf : Space → Nat
  | .hbm => 50
  | .vmem => 25
  | .smem => 0
  | _ => 0

abbrev bufTy : (tb : Table) → Fin (tcTables nBuf tb) → BufTy
  | .hbm, ⟨0, _⟩ => ⟨S4096x6144, .bf16⟩
  | .hbm, ⟨1, _⟩ => ⟨S8x1x4096, .f32⟩
  | .hbm, ⟨2, _⟩ => ⟨S4096x1024, .bf16⟩
  | .hbm, ⟨3, _⟩ => ⟨S4096x1024, .bf16⟩
  | .hbm, ⟨4, _⟩ => ⟨S4096x1024, .f32⟩
  | .hbm, ⟨5, _⟩ => ⟨S4096x8x128, .f32⟩
  | .hbm, ⟨6, _⟩ => ⟨S4096x1024, .bf16⟩
  | .hbm, ⟨7, _⟩ => ⟨S4096x1024, .f32⟩
  | .hbm, ⟨8, _⟩ => ⟨S4096x8x128, .f32⟩
  | .hbm, ⟨9, _⟩ => ⟨S4096x1024, .bf16⟩
  | .hbm, ⟨10, _⟩ => ⟨S4096x1024, .f32⟩
  | .hbm, ⟨11, _⟩ => ⟨S4096x8x128, .f32⟩
  | .hbm, ⟨12, _⟩ => ⟨S8x4096x4096, .f32⟩
  | .hbm, ⟨13, _⟩ => ⟨S_, .f32⟩
  | .hbm, ⟨14, _⟩ => ⟨S8x4096x4096, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S4096, .i32⟩
  | .hbm, ⟨19, _⟩ => ⟨S4096x1, .i32⟩
  | .hbm, ⟨20, _⟩ => ⟨S4096, .i32⟩
  | .hbm, ⟨21, _⟩ => ⟨S1x4096, .i32⟩
  | .hbm, ⟨22, _⟩ => ⟨S4096x4096, .i32⟩
  | .hbm, ⟨23, _⟩ => ⟨S4096x4096, .i32⟩
  | .hbm, ⟨24, _⟩ => ⟨S4096x4096, .i1⟩
  | .hbm, ⟨25, _⟩ => ⟨S8x4096x4096, .i1⟩
  | .hbm, ⟨26, _⟩ => ⟨S_, .f32⟩
  | .hbm, ⟨27, _⟩ => ⟨S8x4096x4096, .f32⟩
  | .hbm, ⟨28, _⟩ => ⟨S8x4096x4096, .f32⟩
  | .hbm, ⟨29, _⟩ => ⟨S_, .f32⟩
  | .hbm, ⟨30, _⟩ => ⟨S8x4096, .f32⟩
  | .hbm, ⟨31, _⟩ => ⟨S8x4096x1, .f32⟩
  | .hbm, ⟨32, _⟩ => ⟨S8x4096x4096, .f32⟩
  | .hbm, ⟨33, _⟩ => ⟨S8x4096x4096, .f32⟩
  | .hbm, ⟨34, _⟩ => ⟨S8x4096x4096, .f32⟩
  | .hbm, ⟨35, _⟩ => ⟨S_, .f32⟩
  | .hbm, ⟨36, _⟩ => ⟨S8x4096, .f32⟩
  | .hbm, ⟨37, _⟩ => ⟨S8x4096x1, .f32⟩
  | .hbm, ⟨38, _⟩ => ⟨S8x4096x1, .f32⟩
  | .hbm, ⟨39, _⟩ => ⟨S8x4096x1, .f32⟩
  | .hbm, ⟨40, _⟩ => ⟨S8x4096x4096, .f32⟩
  | .hbm, ⟨41, _⟩ => ⟨S8x4096x4096, .f32⟩
  | .hbm, ⟨42, _⟩ => ⟨S8x128x4096, .f32⟩
  | .hbm, ⟨43, _⟩ => ⟨S4096x8x128, .f32⟩
  | .hbm, ⟨44, _⟩ => ⟨S4096x1024, .f32⟩
  | .hbm, ⟨45, _⟩ => ⟨S4096x1024, .f32⟩
  | .hbm, ⟨46, _⟩ => ⟨S4096x1024, .bf16⟩
  | .hbm, ⟨47, _⟩ => ⟨S4096x1024, .bf16⟩
  | .hbm, ⟨48, _⟩ => ⟨S8x1x4096, .f32⟩
  | .hbm, ⟨49, _⟩ => ⟨S8x4096x1, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .f32⟩
  | .local _ .vmem, ⟨5, _⟩ => ⟨S4096x128, .f32⟩
  | .local _ .vmem, ⟨6, _⟩ => ⟨S1x4096x1, .f32⟩
  | .local _ .vmem, ⟨7, _⟩ => ⟨S1x4096x1, .f32⟩
  | .local _ .vmem, ⟨8, _⟩ => ⟨S1024x128, .bf16⟩
  | .local _ .vmem, ⟨9, _⟩ => ⟨S1024x128, .bf16⟩
  | .local _ .vmem, ⟨10, _⟩ => ⟨S1024x128, .bf16⟩
  | .local _ .vmem, ⟨11, _⟩ => ⟨S1024x128, .bf16⟩
  | .local _ .vmem, ⟨12, _⟩ => ⟨S1x1x1024, .f32⟩
  | .local _ .vmem, ⟨13, _⟩ => ⟨S1x1x1024, .f32⟩
  | .local _ .vmem, ⟨14, _⟩ => ⟨S4096x128, .f32⟩
  | .local _ .vmem, ⟨15, _⟩ => ⟨S4096x128, .f32⟩
  | .local _ .vmem, ⟨16, _⟩ => ⟨S1024x128, .bf16⟩
  | .local _ .vmem, ⟨17, _⟩ => ⟨S1024x128, .bf16⟩
  | .local _ .vmem, ⟨18, _⟩ => ⟨S1024x128, .bf16⟩
  | .local _ .vmem, ⟨19, _⟩ => ⟨S1024x128, .bf16⟩
  | .local _ .vmem, ⟨20, _⟩ => ⟨S1x1x1024, .f32⟩
  | .local _ .vmem, ⟨21, _⟩ => ⟨S1x1x1024, .f32⟩
  | .local _ .vmem, ⟨22, _⟩ => ⟨S1x4096x1, .f32⟩
  | .local _ .vmem, ⟨23, _⟩ => ⟨S1x4096x1, .f32⟩
  | .local _ .vmem, ⟨24, _⟩ => ⟨S4096x1, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_0 : Ref sig .tc := ⟨.hbm, 26, rfl⟩
abbrev main_v22 : Ref sig .tc := ⟨.hbm, 27, rfl⟩
abbrev main_v23 : Ref sig .tc := ⟨.hbm, 28, rfl⟩
abbrev main_cst_1 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_2 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38_0 : Ref sig .tc := ⟨.hbm, 45, rfl⟩
abbrev main_v38_1 : Ref sig .tc := ⟨.hbm, 46, rfl⟩
abbrev main_v38_2 : Ref sig .tc := ⟨.hbm, 47, rfl⟩
abbrev main_v38_3 : Ref sig .tc := ⟨.hbm, 48, rfl⟩
abbrev main_v38_4 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c1024_i32 : BitVec 32 := 1024#32
  let v13 : BitVec 32 := Scalar.muli arg1 c1024_i32
  let c0_i32_9 : BitVec 32 := 0#32
  let v14 : BitVec 32 := Scalar.addi v13 c0_i32_9
  v14
def k0_off1 (i : grid0.Coords) (c0_i32_9 : BitVec 32) : Fin 2 → Nat :=
  let arg1 : BitVec 32 := BitVec.ofNat 32 (i 1).val
  let c1024_i32 : BitVec 32 := 1024#32
  let v13 : BitVec 32 := Scalar.muli arg1 c1024_i32
  let v14 : BitVec 32 := Scalar.addi v13 c0_i32_9
  let v15 : BitVec 32 := v14
  let v16 : Index := Scalar.indexCast v15
  let c0_10 : Index := 0#32
  ![v16.toNat, 0]
def k0_off2 (i : grid0.Coords) (c0_i32_9 : BitVec 32) : Fin 3 → Nat :=
  let c0_14 : Index := 0#32
  let arg1 : BitVec 32 := BitVec.ofNat 32 (i 1).val
  let c1024_i32 : BitVec 32 := 1024#32
  let v13 : BitVec 32 := Scalar.muli arg1 c1024_i32
  let v14 : BitVec 32 := Scalar.addi v13 c0_i32_9
  let v15 : BitVec 32 := v14
  let v25 : Index := Scalar.indexCast v15
  let c0_15 : Index := 0#32
  ![0, v25.toNat, 0]
def k0_off3 (i : grid0.Coords) (c0_i32_9 : BitVec 32) : Fin 2 → Nat :=
  let arg1 : BitVec 32 := BitVec.ofNat 32 (i 1).val
  let c1024_i32 : BitVec 32 := 1024#32
  let v13 : BitVec 32 := Scalar.muli arg1 c1024_i32
  let v14 : BitVec 32 := Scalar.addi v13 c0_i32_9
  let v15 : BitVec 32 := v14
  let v39 : Index := Scalar.indexCast v15
  let c0_19 : Index := 0#32
  ![v39.toNat, 0]
def k0_mult2 (i : grid0.Coords) : BitVec 32 :=
  let arg1 : BitVec 32 := BitVec.ofNat 32 (i 1).val
  let c1024_i32_33 : BitVec 32 := 1024#32
  let v83 : BitVec 32 := Scalar.muli arg1 c1024_i32_33
  let c512_i32 : BitVec 32 := 512#32
  let v84 : BitVec 32 := Scalar.addi v83 c512_i32
  v84
@[reducible] def k0_t1_loop (i : grid0.Coords) : Scf.Loop 32 :=
  let arg1 : BitVec 32 := BitVec.ofNat 32 (i 1).val
  let c1_i32 : BitVec 32 := 1#32
  let v144 : BitVec 32 := Scalar.addi arg1 c1_i32
  let c4_i32 : BitVec 32 := 4#32
  let v145 : BitVec 32 := Scalar.subi c4_i32 v144
  let c1_i32_57 : BitVec 32 := 1#32
  let v147 : BitVec 32 := Scalar.divsi v145 c1_i32_57
  let v148 : BitVec 32 := Scalar.muli v147 c1_i32_57
  let v149 : BitVec 32 := Scalar.addi v144 v148
  let c1_i32_58 : BitVec 32 := 1#32
  ⟨v144, v149, c1_i32_58⟩
def k0_mult3 (i : grid0.Coords) (k0_t1 : Fin (k0_t1_loop i).trips) : BitVec 32 :=
  let arg1 : BitVec 32 := BitVec.ofNat 32 (i 1).val
  let c1_i32 : BitVec 32 := 1#32
  let v144 : BitVec 32 := Scalar.addi arg1 c1_i32
  let c1_i32_58 : BitVec 32 := 1#32
  let arg15 : BitVec 32 := Scf.iv v144 c1_i32_58 k0_t1
  let c1024_i32_68 : BitVec 32 := 1024#32
  let v161 : BitVec 32 := Scalar.muli arg15 c1024_i32_68
  let c0_i32_69 : BitVec 32 := 0#32
  let v162 : BitVec 32 := Scalar.addi v161 c0_i32_69
  v162
def k0_off4 (i : grid0.Coords) (k0_t1 : Fin (k0_t1_loop i).trips) (c0_i32_69 : BitVec 32) : Fin 2 → Nat :=
  let arg1 : BitVec 32 := BitVec.ofNat 32 (i 1).val
  let c1_i32 : BitVec 32 := 1#32
  let v144 : BitVec 32 := Scalar.addi arg1 c1_i32
  let c1_i32_58 : BitVec 32 := 1#32
  let arg15 : BitVec 32 := Scf.iv v144 c1_i32_58 k0_t1
  let c1024_i32_68 : BitVec 32 := 1024#32
  let v161 : BitVec 32 := Scalar.muli arg15 c1024_i32_68
  let v162 : BitVec 32 := Scalar.addi v161 c0_i32_69
  let v163 : BitVec 32 := v162
  let v164 : Index := Scalar.indexCast v163
  let c0_70 : Index := 0#32
  ![v164.toNat, 0]
def k0_off5 (i : grid0.Coords) (k0_t1 : Fin (k0_t1_loop i).trips) (c0_i32_69 : BitVec 32) : Fin 3 → Nat :=
  let c0_74 : Index := 0#32
  let arg1 : BitVec 32 := BitVec.ofNat 32 (i 1).val
  let c1_i32 : BitVec 32 := 1#32
  let v144 : BitVec 32 := Scalar.addi arg1 c1_i32
  let c1_i32_58 : BitVec 32 := 1#32
  let arg15 : BitVec 32 := Scf.iv v144 c1_i32_58 k0_t1
  let c1024_i32_68 : BitVec 32 := 1024#32
  let v161 : BitVec 32 := Scalar.muli arg15 c1024_i32_68
  let v162 : BitVec 32 := Scalar.addi v161 c0_i32_69
  let v163 : BitVec 32 := v162
  let v173 : Index := Scalar.indexCast v163
  let c0_75 : Index := 0#32
  ![0, v173.toNat, 0]
def k0_off6 (i : grid0.Coords) (k0_t1 : Fin (k0_t1_loop i).trips) (c0_i32_69 : BitVec 32) : Fin 2 → Nat :=
  let arg1 : BitVec 32 := BitVec.ofNat 32 (i 1).val
  let c1_i32 : BitVec 32 := 1#32
  let v144 : BitVec 32 := Scalar.addi arg1 c1_i32
  let c1_i32_58 : BitVec 32 := 1#32
  let arg15 : BitVec 32 := Scf.iv v144 c1_i32_58 k0_t1
  let c1024_i32_68 : BitVec 32 := 1024#32
  let v161 : BitVec 32 := Scalar.muli arg15 c1024_i32_68
  let v162 : BitVec 32 := Scalar.addi v161 c0_i32_69
  let v163 : BitVec 32 := v162
  let v180 : Index := Scalar.indexCast v163
  let c0_77 : Index := 0#32
  ![v180.toNat, 0]
def k0_mult4 (i : grid0.Coords) (k0_t1 : Fin (k0_t1_loop i).trips) : BitVec 32 :=
  let arg1 : BitVec 32 := BitVec.ofNat 32 (i 1).val
  let c1_i32 : BitVec 32 := 1#32
  let v144 : BitVec 32 := Scalar.addi arg1 c1_i32
  let c1_i32_58 : BitVec 32 := 1#32
  let arg15 : BitVec 32 := Scf.iv v144 c1_i32_58 k0_t1
  let c1024_i32_91 : BitVec 32 := 1024#32
  let v215 : BitVec 32 := Scalar.muli arg15 c1024_i32_91
  let c512_i32_92 : BitVec 32 := 512#32
  let v216 : BitVec 32 := Scalar.addi v215 c512_i32_92
  v216
@[reducible] def k0_t2_loop (i : grid0.Coords) : Scf.Loop 32 :=
  let arg1 : BitVec 32 := BitVec.ofNat 32 (i 1).val
  let c1_i32 : BitVec 32 := 1#32
  let v144 : BitVec 32 := Scalar.addi arg1 c1_i32
  let c4_i32 : BitVec 32 := 4#32
  let v145 : BitVec 32 := Scalar.subi c4_i32 v144
  let c1_i32_57 : BitVec 32 := 1#32
  let v147 : BitVec 32 := Scalar.divsi v145 c1_i32_57
  let v148 : BitVec 32 := Scalar.muli v147 c1_i32_57
  let v149 : BitVec 32 := Scalar.addi v144 v148
  let v146 : BitVec 32 := Scalar.addi v144 v145
  let c1_i32_59 : BitVec 32 := 1#32
  ⟨v149, v146, c1_i32_59⟩
def k0_mult5 (i : grid0.Coords) (k0_t2 : Fin (k0_t2_loop i).trips) : BitVec 32 :=
  let arg1 : BitVec 32 := BitVec.ofNat 32 (i 1).val
  let c1_i32 : BitVec 32 := 1#32
  let v144 : BitVec 32 := Scalar.addi arg1 c1_i32
  let c4_i32 : BitVec 32 := 4#32
  let v145 : BitVec 32 := Scalar.subi c4_i32 v144
  let c1_i32_57 : BitVec 32 := 1#32
  let v147 : BitVec 32 := Scalar.divsi v145 c1_i32_57
  let v148 : BitVec 32 := Scalar.muli v147 c1_i32_57
  let v149 : BitVec 32 := Scalar.addi v144 v148
  let c1_i32_59 : BitVec 32 := 1#32
  let arg15 : BitVec 32 := Scf.iv v149 c1_i32_59 k0_t2
  let c1024_i32_68 : BitVec 32 := 1024#32
  let v161 : BitVec 32 := Scalar.muli arg15 c1024_i32_68
  let c0_i32_69 : BitVec 32 := 0#32
  let v162 : BitVec 32 := Scalar.addi v161 c0_i32_69
  v162
def k0_off7 (i : grid0.Coords) (k0_t2 : Fin (k0_t2_loop i).trips) (c0_i32_69 : BitVec 32) : Fin 2 → Nat :=
  let arg1 : BitVec 32 := BitVec.ofNat 32 (i 1).val
  let c1_i32 : BitVec 32 := 1#32
  let v144 : BitVec 32 := Scalar.addi arg1 c1_i32
  let c4_i32 : BitVec 32 := 4#32
  let v145 : BitVec 32 := Scalar.subi c4_i32 v144
  let c1_i32_57 : BitVec 32 := 1#32
  let v147 : BitVec 32 := Scalar.divsi v145 c1_i32_57
  let v148 : BitVec 32 := Scalar.muli v147 c1_i32_57
  let v149 : BitVec 32 := Scalar.addi v144 v148
  let c1_i32_59 : BitVec 32 := 1#32
  let arg15 : BitVec 32 := Scf.iv v149 c1_i32_59 k0_t2
  let c1024_i32_68 : BitVec 32 := 1024#32
  let v161 : BitVec 32 := Scalar.muli arg15 c1024_i32_68
  let v162 : BitVec 32 := Scalar.addi v161 c0_i32_69
  let v163 : BitVec 32 := v162
  let v164 : Index := Scalar.indexCast v163
  let c0_70 : Index := 0#32
  ![v164.toNat, 0]
def k0_off8 (i : grid0.Coords) (k0_t2 : Fin (k0_t2_loop i).trips) (c0_i32_69 : BitVec 32) : Fin 3 → Nat :=
  let c0_74 : Index := 0#32
  let arg1 : BitVec 32 := BitVec.ofNat 32 (i 1).val
  let c1_i32 : BitVec 32 := 1#32
  let v144 : BitVec 32 := Scalar.addi arg1 c1_i32
  let c4_i32 : BitVec 32 := 4#32
  let v145 : BitVec 32 := Scalar.subi c4_i32 v144
  let c1_i32_57 : BitVec 32 := 1#32
  let v147 : BitVec 32 := Scalar.divsi v145 c1_i32_57
  let v148 : BitVec 32 := Scalar.muli v147 c1_i32_57
  let v149 : BitVec 32 := Scalar.addi v144 v148
  let c1_i32_59 : BitVec 32 := 1#32
  let arg15 : BitVec 32 := Scf.iv v149 c1_i32_59 k0_t2
  let c1024_i32_68 : BitVec 32 := 1024#32
  let v161 : BitVec 32 := Scalar.muli arg15 c1024_i32_68
  let v162 : BitVec 32 := Scalar.addi v161 c0_i32_69
  let v163 : BitVec 32 := v162
  let v173 : Index := Scalar.indexCast v163
  let c0_75 : Index := 0#32
  ![0, v173.toNat, 0]
def k0_off9 (i : grid0.Coords) (k0_t2 : Fin (k0_t2_loop i).trips) (c0_i32_69 : BitVec 32) : Fin 2 → Nat :=
  let arg1 : BitVec 32 := BitVec.ofNat 32 (i 1).val
  let c1_i32 : BitVec 32 := 1#32
  let v144 : BitVec 32 := Scalar.addi arg1 c1_i32
  let c4_i32 : BitVec 32 := 4#32
  let v145 : BitVec 32 := Scalar.subi c4_i32 v144
  let c1_i32_57 : BitVec 32 := 1#32
  let v147 : BitVec 32 := Scalar.divsi v145 c1_i32_57
  let v148 : BitVec 32 := Scalar.muli v147 c1_i32_57
  let v149 : BitVec 32 := Scalar.addi v144 v148
  let c1_i32_59 : BitVec 32 := 1#32
  let arg15 : BitVec 32 := Scf.iv v149 c1_i32_59 k0_t2
  let c1024_i32_68 : BitVec 32 := 1024#32
  let v161 : BitVec 32 := Scalar.muli arg15 c1024_i32_68
  let v162 : BitVec 32 := Scalar.addi v161 c0_i32_69
  let v163 : BitVec 32 := v162
  let v180 : Index := Scalar.indexCast v163
  let c0_77 : Index := 0#32
  ![v180.toNat, 0]
def k0_mult6 (i : grid0.Coords) (k0_t2 : Fin (k0_t2_loop i).trips) : BitVec 32 :=
  let arg1 : BitVec 32 := BitVec.ofNat 32 (i 1).val
  let c1_i32 : BitVec 32 := 1#32
  let v144 : BitVec 32 := Scalar.addi arg1 c1_i32
  let c4_i32 : BitVec 32 := 4#32
  let v145 : BitVec 32 := Scalar.subi c4_i32 v144
  let c1_i32_57 : BitVec 32 := 1#32
  let v147 : BitVec 32 := Scalar.divsi v145 c1_i32_57
  let v148 : BitVec 32 := Scalar.muli v147 c1_i32_57
  let v149 : BitVec 32 := Scalar.addi v144 v148
  let c1_i32_59 : BitVec 32 := 1#32
  let arg15 : BitVec 32 := Scf.iv v149 c1_i32_59 k0_t2
  let c1024_i32_91 : BitVec 32 := 1024#32
  let v215 : BitVec 32 := Scalar.muli arg15 c1024_i32_91
  let c512_i32_92 : BitVec 32 := 512#32
  let v216 : BitVec 32 := Scalar.addi v215 c512_i32_92
  v216
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4096x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S4096x6144 : Shape := ⟨2, ![4096, 6144]⟩
abbrev S8x1x4096 : Shape := ⟨3, ![8, 1, 4096]⟩
abbrev S4096x1024 : Shape := ⟨2, ![4096, 1024]⟩
abbrev S4096x8x128 : Shape := ⟨3, ![4096, 8, 128]⟩
abbrev S8x4096 : Shape := ⟨2, ![8, 4096]⟩
abbrev S8x4096x4096 : Shape := ⟨3, ![8, 4096, 4096]⟩
abbrev S_ : Shape := ⟨0, ![]⟩
abbrev S8x4096x1 : Shape := ⟨3, ![8, 4096, 1]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x128x4096 : Shape := ⟨3, ![8, 128, 4096]⟩
abbrev S8x4096x128 : Shape := ⟨3, ![8, 4096, 128]⟩

abbrev nBuf : Space → Nat
  | .hbm => 101
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S8x1x4096, .f32⟩
  | .hbm, ⟨2, _⟩ => ⟨S4096x1024, .bf16⟩
  | .hbm, ⟨3, _⟩ => ⟨S4096x1024, .bf16⟩
  | .hbm, ⟨4, _⟩ => ⟨S4096x1024, .f32⟩
  | .hbm, ⟨5, _⟩ => ⟨S4096x8x128, .f32⟩
  | .hbm, ⟨6, _⟩ => ⟨S4096x1024, .bf16⟩
  | .hbm, ⟨7, _⟩ => ⟨S4096x1024, .f32⟩
  | .hbm, ⟨8, _⟩ => ⟨S4096x8x128, .f32⟩
  | .hbm, ⟨9, _⟩ => ⟨S4096x1024, .bf16⟩
  | .hbm, ⟨10, _⟩ => ⟨S4096x1024, .f32⟩
  | .hbm, ⟨11, _⟩ => ⟨S4096x8x128, .f32⟩
  | .hbm, ⟨12, _⟩ => ⟨S8x4096, .f32⟩
  | .hbm, ⟨13, _⟩ => ⟨S4096x1024, .f32⟩
  | .hbm, ⟨14, _⟩ => ⟨S4096x8x128, .f32⟩
  | .hbm, ⟨15, _⟩ => ⟨S8x4096x4096, .f32⟩
  | .hbm, ⟨16, _⟩ => ⟨S_, .f32⟩
  | .hbm, ⟨17, _⟩ => ⟨S8x4096x4096, .f32⟩
  | .hbm, ⟨18, _⟩ => ⟨S8x4096x4096, .f32⟩
  | .hbm, ⟨19, _⟩ => ⟨S8x4096x1, .f32⟩
  | .hbm, ⟨20, _⟩ => ⟨S8x1x4096, .f32⟩
  | .hbm, ⟨21, _⟩ => ⟨S8x4096x4096, .f32⟩
  | .hbm, ⟨22, _⟩ => ⟨S8x4096x4096, .f32⟩
  | .hbm, ⟨23, _⟩ => ⟨S8x4096x4096, .f32⟩
  | .hbm, ⟨24, _⟩ => ⟨S4096, .i32⟩
  | .hbm, ⟨25, _⟩ => ⟨S4096x1, .i32⟩
  | .hbm, ⟨26, _⟩ => ⟨S4096, .i32⟩
  | .hbm, ⟨27, _⟩ => ⟨S1x4096, .i32⟩
  | .hbm, ⟨28, _⟩ => ⟨S4096x4096, .i32⟩
  | .hbm, ⟨29, _⟩ => ⟨S4096x4096, .i32⟩
  | .hbm, ⟨30, _⟩ => ⟨S4096x4096, .i1⟩
  | .hbm, ⟨31, _⟩ => ⟨S8x4096x4096, .i1⟩
  | .hbm, ⟨32, _⟩ => ⟨S8x4096x4096, .f32⟩
  | .hbm, ⟨33, _⟩ => ⟨S_, .f32⟩
  | .hbm, ⟨34, _⟩ => ⟨S8x4096x4096, .f32⟩
  | .hbm, ⟨35, _⟩ => ⟨S8x4096x4096, .f32⟩
  | .hbm, ⟨36, _⟩ => ⟨S_, .f32⟩
  | .hbm, ⟨37, _⟩ => ⟨S8x4096x4096, .f32⟩
  | .hbm, ⟨38, _⟩ => ⟨S_, .f32⟩
  | .hbm, ⟨39, _⟩ => ⟨S8x4096, .f32⟩
  | .hbm, ⟨40, _⟩ => ⟨S8x4096x1, .f32⟩
  | .hbm, ⟨41, _⟩ => ⟨S8x4096x4096, .f32⟩
  | .hbm, ⟨42, _⟩ => ⟨S8x4096x4096, .f32⟩
  | .hbm, ⟨43, _⟩ => ⟨S8x4096x4096, .f32⟩
  | .hbm, ⟨44, _⟩ => ⟨S_, .f32⟩
  | .hbm, ⟨45, _⟩ => ⟨S8x4096, .f32⟩
  | .hbm, ⟨46, _⟩ => ⟨S8x4096x1, .f32⟩
  | .hbm, ⟨47, _⟩ => ⟨S8x4096x4096, .f32⟩
  | .hbm, ⟨48, _⟩ => ⟨S8x4096x4096, .f32⟩
  | .hbm, ⟨49, _⟩ => ⟨S8x4096x1, .f32⟩
  | .hbm, ⟨50, _⟩ => ⟨S_, .f32⟩
  | .hbm, ⟨51, _⟩ => ⟨S8x4096x1, .f32⟩
  | .hbm, ⟨52, _⟩ => ⟨S8x4096x1, .f32⟩
  | .hbm, ⟨53, _⟩ => ⟨S8x128x4096, .f32⟩
  | .hbm, ⟨54, _⟩ => ⟨S4096x8x128, .f32⟩
  | .hbm, ⟨55, _⟩ => ⟨S8x128x4096, .f32⟩
  | .hbm, ⟨56, _⟩ => ⟨S8x4096x4096, .f32⟩
  | .hbm, ⟨57, _⟩ => ⟨S8x128x4096, .f32⟩
  | .hbm, ⟨58, _⟩ => ⟨S4096x8x128, .f32⟩
  | .hbm, ⟨59, _⟩ => ⟨S8x4096x4096, .f32⟩
  | .hbm, ⟨60, _⟩ => ⟨S8x4096x4096, .f32⟩
  | .hbm, ⟨61, _⟩ => ⟨S8x4096x4096, .f32⟩
  | .hbm, ⟨62, _⟩ => ⟨S_, .f32⟩
  | .hbm, ⟨63, _⟩ => ⟨S8x4096, .f32⟩
  | .hbm, ⟨64, _⟩ => ⟨S8x4096x1, .f32⟩
  | .hbm, ⟨65, _⟩ => ⟨S8x4096x1, .f32⟩
  | .hbm, ⟨66, _⟩ => ⟨S8x4096x4096, .f32⟩
  | .hbm, ⟨67, _⟩ => ⟨S8x4096x4096, .f32⟩
  | .hbm, ⟨68, _⟩ => ⟨S_, .f32⟩
  | .hbm, ⟨69, _⟩ => ⟨S8x4096, .f32⟩
  | .hbm, ⟨70, _⟩ => ⟨S8x4096x4096, .f32⟩
  | .hbm, ⟨71, _⟩ => ⟨S8x4096x4096, .f32⟩
  | .hbm, ⟨72, _⟩ => ⟨S8x4096x4096, .f32⟩
  | .hbm, ⟨73, _⟩ => ⟨S_, .f32⟩
  | .hbm, ⟨74, _⟩ => ⟨S8x4096x4096, .f32⟩
  | .hbm, ⟨75, _⟩ => ⟨S8x4096x4096, .f32⟩
  | .hbm, ⟨76, _⟩ => ⟨S_, .f32⟩
  | .hbm, ⟨77, _⟩ => ⟨S8x4096, .f32⟩
  | .hbm, ⟨78, _⟩ => ⟨S8x4096x1, .f32⟩
  | .hbm, ⟨79, _⟩ => ⟨S8x4096x4096, .f32⟩
  | .hbm, ⟨80, _⟩ => ⟨S_, .f32⟩
  | .hbm, ⟨81, _⟩ => ⟨S8x4096, .f32⟩
  | .hbm, ⟨82, _⟩ => ⟨S8x1x4096, .f32⟩
  | .hbm, ⟨83, _⟩ => ⟨S_, .f32⟩
  | .hbm, ⟨84, _⟩ => ⟨S8x4096, .f32⟩
  | .hbm, ⟨85, _⟩ => ⟨S_, .f32⟩
  | .hbm, ⟨86, _⟩ => ⟨S8x4096, .f32⟩
  | .hbm, ⟨87, _⟩ => ⟨S_, .f32⟩
  | .hbm, ⟨88, _⟩ => ⟨S8x4096x4096, .f32⟩
  | .hbm, ⟨89, _⟩ => ⟨S8x4096x4096, .f32⟩
  | .hbm, ⟨90, _⟩ => ⟨S8x4096x128, .f32⟩
  | .hbm, ⟨91, _⟩ => ⟨S4096x8x128, .f32⟩
  | .hbm, ⟨92, _⟩ => ⟨S8x4096x128, .f32⟩
  | .hbm, ⟨93, _⟩ => ⟨S4096x8x128, .f32⟩
  | .hbm, ⟨94, _⟩ => ⟨S4096x1024, .f32⟩
  | .hbm, ⟨95, _⟩ => ⟨S4096x1024, .f32⟩
  | .hbm, ⟨96, _⟩ => ⟨S4096x1024, .bf16⟩
  | .hbm, ⟨97, _⟩ => ⟨S4096x1024, .f32⟩
  | .hbm, ⟨98, _⟩ => ⟨S4096x1024, .bf16⟩
  | .hbm, ⟨99, _⟩ => ⟨S8x1x4096, .f32⟩
  | .hbm, ⟨100, _⟩ => ⟨S8x4096x1, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_cst_0 : Ref sig .tc := ⟨.hbm, 33, rfl⟩
abbrev main_v29 : Ref sig .tc := ⟨.hbm, 34, rfl⟩
abbrev main_v30 : Ref sig .tc := ⟨.hbm, 35, rfl⟩
abbrev main_cst_1 : Ref sig .tc := ⟨.hbm, 36, rfl⟩
abbrev main_v31 : Ref sig .tc := ⟨.hbm, 37, rfl⟩
abbrev main_cst_2 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_4 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_cst_5 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_cst_6 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_cst_7 : Ref sig .tc := ⟨.hbm, 73, rfl⟩
abbrev main_v62 : Ref sig .tc := ⟨.hbm, 74, rfl⟩
abbrev main_v63 : Ref sig .tc := ⟨.hbm, 75, rfl⟩
abbrev main_cst_8 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_cst_9 : Ref sig .tc := ⟨.hbm, 80, rfl⟩
abbrev main_v67 : Ref sig .tc := ⟨.hbm, 81, rfl⟩
abbrev main_v68 : Ref sig .tc := ⟨.hbm, 82, rfl⟩
abbrev main_cst_10 : Ref sig .tc := ⟨.hbm, 83, rfl⟩
abbrev main_v69 : Ref sig .tc := ⟨.hbm, 84, rfl⟩
abbrev main_cst_11 : Ref sig .tc := ⟨.hbm, 85, rfl⟩
abbrev main_v70 : Ref sig .tc := ⟨.hbm, 86, rfl⟩
abbrev main_cst_12 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩

abbrev nD : Nat := 1
abbrev τ : Topo := Topo.v7x

variable {F : FTy → Type} [FloatOps F]
-- ==== MlpIn.lean ====
abbrev S4096x2048 : Shape := ⟨2, ![4096, 2048]⟩
abbrev S8x2048x1024 : Shape := ⟨3, ![8, 2048, 1024]⟩
abbrev S4096x8192 : Shape := ⟨2, ![4096, 8192]⟩
abbrev S1024x2048 : Shape := ⟨2, ![1024, 2048]⟩
abbrev S1x2048x1024 : Shape := ⟨3, ![1, 2048, 1024]⟩
abbrev S1024x1024 : Shape := ⟨2, ![1024, 1024]⟩
abbrev S8x128 : Shape := ⟨2, ![8, 128]⟩
abbrev S2048x1024 : Shape := ⟨2, ![2048, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S8x2048x1024, .bf16⟩
  | .hbm, ⟨2, _⟩ => ⟨S4096x8192, .bf16⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpInReferenceIdeal.lean ====
abbrev S4096x2048 : Shape := ⟨2, ![4096, 2048]⟩
abbrev S8x2048x1024 : Shape := ⟨3, ![8, 2048, 1024]⟩
abbrev S2048x8x1024 : Shape := ⟨3, ![2048, 8, 1024]⟩
abbrev S2048x8192 : Shape := ⟨2, ![2048, 8192]⟩
abbrev S4096x8192 : Shape := ⟨2, ![4096, 8192]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x1024, .bf16⟩
  | .hbm, ⟨2, _⟩ => ⟨S4096x2048, .f32⟩
  | .hbm, ⟨3, _⟩ => ⟨S8x2048x1024, .f32⟩
  | .hbm, ⟨4, _⟩ => ⟨S2048x8x1024, .f32⟩
  | .hbm, ⟨5, _⟩ => ⟨S2048x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S4096x8192, .bf16⟩
  | .hbm, ⟨12, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== MlpOut.lean ====
abbrev S4096x8192 : Shape := ⟨2, ![4096, 8192]⟩
abbrev S8192x2048 : Shape := ⟨2, ![8192, 2048]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpOutReferenceIdeal.lean ====
abbrev S4096x8192 : Shape := ⟨2, ![4096, 8192]⟩
abbrev S8192x2048 : Shape := ⟨2, ![8192, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x8192, .f32⟩
  | .hbm, ⟨3, _⟩ => ⟨S8192x2048, .f32⟩
  | .hbm, ⟨4, _⟩ => ⟨S4096x2048, .f32⟩
  | .hbm, ⟨5, _⟩ => ⟨S4096x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MlpOutDx.lean ====
abbrev S4096x8192 : Shape := ⟨2, ![4096, 8192]⟩
abbrev S8192x2048 : Shape := ⟨2, ![8192, 2048]⟩
abbrev S4096x2048 : Shape := ⟨2, ![4096, 2048]⟩
abbrev S_ : Shape := ⟨0, ![]⟩
abbrev S1024x2048 : Shape := ⟨2, ![1024, 2048]⟩
abbrev S1024x1024 : Shape := ⟨2, ![1024, 1024]⟩
abbrev S8x128 : Shape := ⟨2, ![8, 128]⟩

abbrev nBuf : Space → Nat
  | .hbm => 7
  | .vmem => 9
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .bf16⟩
  | .hbm, ⟨3, _⟩ => ⟨S_, .bf16⟩
  | .hbm, ⟨4, _⟩ => ⟨S4096x8192, .bf16⟩
  | .hbm, ⟨5, _⟩ => ⟨S4096x8192, .bf16⟩
  | .hbm, ⟨6, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S8x128, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpOutDxReferenceIdeal.lean ====
abbrev S4096x8192 : Shape := ⟨2, ![4096, 8192]⟩
abbrev S8192x2048 : Shape := ⟨2, ![8192, 2048]⟩
abbrev S4096x2048 : Shape := ⟨2, ![4096, 2048]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .bf16⟩
  | .hbm, ⟨3, _⟩ => ⟨S8192x2048, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .i1⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x2048, .f32⟩
  | .hbm, ⟨18, _⟩ => ⟨S4096x2048, .f32⟩
  | .hbm, ⟨19, _⟩ => ⟨S4096x8192, .f32⟩
  | .hbm, ⟨20, _⟩ => ⟨S4096x8192, .f32⟩
  | .hbm, ⟨21, _⟩ => ⟨S_, .f32⟩
  | .hbm, ⟨22, _⟩ => ⟨S4096x8192, .f32⟩
  | .hbm, ⟨23, _⟩ => ⟨S4096x8192, .f32⟩
  | .hbm, ⟨24, _⟩ => ⟨S4096x8192, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== MlpOutDw.lean ====
abbrev S4096x8192 : Shape := ⟨2, ![4096, 8192]⟩
abbrev S4096x2048 : Shape := ⟨2, ![4096, 2048]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpOutDwReferenceIdeal.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S2048x8192 : Shape := ⟨2, ![2048, 8192]⟩

abbrev nBuf : Space → Nat
  | .hbm => 10
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S_, .f32⟩
  | .hbm, ⟨3, _⟩ => ⟨S8192x2048, .f32⟩
  | .hbm, ⟨4, _⟩ => ⟨S4096x8192, .f32⟩
  | .hbm, ⟨5, _⟩ => ⟨S4096x2048, .f32⟩
  | .hbm, ⟨6, _⟩ => ⟨S4096x2048, .f32⟩
  | .hbm, ⟨7, _⟩ => ⟨S2048x8192, .f32⟩
  | .hbm, ⟨8, _⟩ => ⟨S8192x2048, .f32⟩
  | .hbm, ⟨9, _⟩ => ⟨S8192x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MlpInDx.lean ====
abbrev S8x2048x1024 : Shape := ⟨3, ![8, 2048, 1024]⟩
abbrev S4096x8192 : Shape := ⟨2, ![4096, 8192]⟩
abbrev S4096x2048 : Shape := ⟨2, ![4096, 2048]⟩
abbrev S1024x2048 : Shape := ⟨2, ![1024, 2048]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8x2048x1024, .bf16⟩
  | .hbm, ⟨1, _⟩ => ⟨S4096x8192, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2x1024x1024, .bf16⟩
  | .local _ .vmem, ⟨3, _⟩ => ⟨S2x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpInDxReferenceIdeal.lean ====
abbrev S8x2048x1024 : Shape := ⟨3, ![8, 2048, 1024]⟩
abbrev S4096x8192 : Shape := ⟨2, ![4096, 8192]⟩
abbrev S2048x8x1024 : Shape := ⟨3, ![2048, 8, 1024]⟩
abbrev S2048x8192 : Shape := ⟨2, ![2048, 8192]⟩
abbrev S_ : Shape := ⟨0, ![]⟩
abbrev S4096x2048 : Shape := ⟨2, ![4096, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S4096x8192, .bf16⟩
  | .hbm, ⟨2, _⟩ => ⟨S8x2048x1024, .f32⟩
  | .hbm, ⟨3, _⟩ => ⟨S2048x8x1024, .f32⟩
  | .hbm, ⟨4, _⟩ => ⟨S2048x8192, .f32⟩
  | .hbm, ⟨5, _⟩ => ⟨S_, .f32⟩
  | .hbm, ⟨6, _⟩ => ⟨S4096x2048, .f32⟩
  | .hbm, ⟨7, _⟩ => ⟨S4096x8192, .f32⟩
  | .hbm, ⟨8, _⟩ => ⟨S4096x8192, .f32⟩
  | .hbm, ⟨9, _⟩ => ⟨S4096x2048, .f32⟩
  | .hbm, ⟨10, _⟩ => ⟨S4096x2048, .bf16⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== MlpInDw.lean ====
abbrev S4096x2048 : Shape := ⟨2, ![4096, 2048]⟩
abbrev S4096x8192 : Shape := ⟨2, ![4096, 8192]⟩
abbrev S8x2048x1024 : Shape := ⟨3, ![8, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S8x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpInDwReferenceIdeal.lean ====
abbrev S4096x2048 : Shape := ⟨2, ![4096, 2048]⟩
abbrev S4096x8192 : Shape := ⟨2, ![4096, 8192]⟩
abbrev S_ : Shape := ⟨0, ![]⟩
abbrev S8x2048x1024 : Shape := ⟨3, ![8, 2048, 1024]⟩
abbrev S2048x8x1024 : Shape := ⟨3, ![2048, 8, 1024]⟩
abbrev S2048x8192 : Shape := ⟨2, ![2048, 8192]⟩
abbrev S8192x2048 : Shape := ⟨2, ![8192, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S_, .f32⟩
  | .hbm, ⟨3, _⟩ => ⟨S8x2048x1024, .f32⟩
  | .hbm, ⟨4, _⟩ => ⟨S4096x2048, .f32⟩
  | .hbm, ⟨5, _⟩ => ⟨S2048x8x1024, .f32⟩
  | .hbm, ⟨6, _⟩ => ⟨S2048x8192, .f32⟩
  | .hbm, ⟨7, _⟩ => ⟨S4096x8192, .f32⟩
  | .hbm, ⟨8, _⟩ => ⟨S4096x8192, .f32⟩
  | .hbm, ⟨9, _⟩ => ⟨S8192x2048, .f32⟩
  | .hbm, ⟨10, _⟩ => ⟨S2048x8192, .f32⟩
  | .hbm, ⟨11, _⟩ => ⟨S2048x8x1024, .f32⟩
  | .hbm, ⟨12, _⟩ => ⟨S8x2048x1024, .f32⟩
  | .hbm, ⟨13, _⟩ => ⟨S8x2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== ProjMain.lean ====
abbrev S4096x2048 : Shape := ⟨2, ![4096, 2048]⟩
abbrev S6144x2048 : Shape := ⟨2, ![6144, 2048]⟩
abbrev S4096x6144 : Shape := ⟨2, ![4096, 6144]⟩
abbrev S1024x2048 : Shape := ⟨2, ![1024, 2048]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S6144x2048, .bf16⟩
  | .hbm, ⟨2, _⟩ => ⟨S4096x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjMainReferenceIdeal.lean ====
abbrev S4096x2048 : Shape := ⟨2, ![4096, 2048]⟩
abbrev S6144x2048 : Shape := ⟨2, ![6144, 2048]⟩
abbrev S2048x6144 : Shape := ⟨2, ![2048, 6144]⟩
abbrev S4096x6144 : Shape := ⟨2, ![4096, 6144]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S6144x2048, .bf16⟩
  | .hbm, ⟨2, _⟩ => ⟨S4096x2048, .f32⟩
  | .hbm, ⟨3, _⟩ => ⟨S6144x2048, .f32⟩
  | .hbm, ⟨4, _⟩ => ⟨S2048x6144, .f32⟩
  | .hbm, ⟨5, _⟩ => ⟨S4096x6144, .f32⟩
  | .hbm, ⟨6, _⟩ => ⟨S4096x6144, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== ProjMainDx.lean ====
abbrev S4096x6144 : Shape := ⟨2, ![4096, 6144]⟩
abbrev S6144x2048 : Shape := ⟨2, ![6144, 2048]⟩
abbrev S4096x128 : Shape := ⟨2, ![4096, 128]⟩
abbrev S128x2048 : Shape := ⟨2, ![128, 2048]⟩
abbrev S4096x2048 : Shape := ⟨2, ![4096, 2048]⟩
abbrev S1024x2048 : Shape := ⟨2, ![1024, 2048]⟩
abbrev S2048x1024 : Shape := ⟨2, ![2048, 1024]⟩
abbrev S1024x128 : Shape := ⟨2, ![1024, 128]⟩
abbrev S128x1024 : Shape := ⟨2, ![128, 1024]⟩
abbrev S1024x1024 : Shape := ⟨2, ![1024, 1024]⟩

abbrev nBuf : Space → Nat
  | .hbm => 5
  | .vmem => 11
  | .smem => 0
  | _ => 0

abbrev bufTy : (tb : Table) → Fin (tcTables nBuf tb) → BufTy
  | .hbm, ⟨0, _⟩ => ⟨S4096x6144, .bf16⟩
  | .hbm, ⟨1, _⟩ => ⟨S6144x2048, .bf16⟩
  | .hbm, ⟨2, _⟩ => ⟨S4096x128, .f32⟩
  | .hbm, ⟨3, _⟩ => ⟨S128x2048, .bf16⟩
  | .hbm, ⟨4, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x128, .f32⟩
  | .local _ .vmem, ⟨5, _⟩ => ⟨S1024x128, .f32⟩
  | .local _ .vmem, ⟨6, _⟩ => ⟨S128x1024, .bf16⟩
  | .local _ .vmem, ⟨7, _⟩ => ⟨S128x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 3], ![false, false, false]⟩

def k0_cond3 (i : grid0.Coords) : BitVec 1 :=
  let arg2 : BitVec 32 := BitVec.ofNat 32 (i 2).val
  let c2_i32_3 : BitVec 32 := 2#32
  let v8 : BitVec 1 := Scalar.cmpi .eq arg2 c2_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== ProjMainDxReferenceIdeal.lean ====
abbrev S4096x6144 : Shape := ⟨2, ![4096, 6144]⟩
abbrev S6144x2048 : Shape := ⟨2, ![6144, 2048]⟩
abbrev S4096x128 : Shape := ⟨2, ![4096, 128]⟩
abbrev S128x2048 : Shape := ⟨2, ![128, 2048]⟩
abbrev S_ : Shape := ⟨0, ![]⟩
abbrev S4096x2048 : Shape := ⟨2, ![4096, 2048]⟩
abbrev S2048x6144 : Shape := ⟨2, ![2048, 6144]⟩
abbrev S2048x128 : Shape := ⟨2, ![2048, 128]⟩

abbrev nBuf : Space → Nat
  | .hbm => 17
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S6144x2048, .bf16⟩
  | .hbm, ⟨2, _⟩ => ⟨S4096x128, .f32⟩
  | .hbm, ⟨3, _⟩ => ⟨S128x2048, .bf16⟩
  | .hbm, ⟨4, _⟩ => ⟨S6144x2048, .f32⟩
  | .hbm, ⟨5, _⟩ => ⟨S128x2048, .f32⟩
  | .hbm, ⟨6, _⟩ => ⟨S_, .f32⟩
  | .hbm, ⟨7, _⟩ => ⟨S4096x2048, .f32⟩
  | .hbm, ⟨8, _⟩ => ⟨S2048x6144, .f32⟩
  | .hbm, ⟨9, _⟩ => ⟨S4096x6144, .f32⟩
  | .hbm, ⟨10, _⟩ => ⟨S2048x128, .f32⟩
  | .hbm, ⟨11, _⟩ => ⟨S4096x128, .f32⟩
  | .hbm, ⟨12, _⟩ => ⟨S4096x6144, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .bf16⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== ProjMainDw.lean ====
abbrev S4096x6144 : Shape := ⟨2, ![4096, 6144]⟩
abbrev S4096x2048 : Shape := ⟨2, ![4096, 2048]⟩
abbrev S6144x2048 : Shape := ⟨2, ![6144, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x6144, .bf16⟩
  | .hbm, ⟨1, _⟩ => ⟨S4096x2048, .bf16⟩
  | .hbm, ⟨2, _⟩ => ⟨S6144x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjMainDwReferenceIdeal.lean ====
abbrev S4096x6144 : Shape := ⟨2, ![4096, 6144]⟩
abbrev S4096x2048 : Shape := ⟨2, ![4096, 2048]⟩
abbrev S_ : Shape := ⟨0, ![]⟩
abbrev S6144x2048 : Shape := ⟨2, ![6144, 2048]⟩
abbrev S2048x6144 : Shape := ⟨2, ![2048, 6144]⟩

abbrev nBuf : Space → Nat
  | .hbm => 12
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S4096x2048, .bf16⟩
  | .hbm, ⟨2, _⟩ => ⟨S_, .f32⟩
  | .hbm, ⟨3, _⟩ => ⟨S6144x2048, .f32⟩
  | .hbm, ⟨4, _⟩ => ⟨S4096x2048, .f32⟩
  | .hbm, ⟨5, _⟩ => ⟨S2048x6144, .f32⟩
  | .hbm, ⟨6, _⟩ => ⟨S4096x6144, .f32⟩
  | .hbm, ⟨7, _⟩ => ⟨S4096x6144, .f32⟩
  | .hbm, ⟨8, _⟩ => ⟨S6144x2048, .f32⟩
  | .hbm, ⟨9, _⟩ => ⟨S2048x6144, .f32⟩
  | .hbm, ⟨10, _⟩ => ⟨S6144x2048, .f32⟩
  | .hbm, ⟨11, _⟩ => ⟨S6144x2048, .bf16⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== OutProj.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjReferenceIdeal.lean ====
abbrev S4096x2048 : Shape := ⟨2, ![4096, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | .hbm, ⟨5, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutProjDx.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjDxReferenceIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S2048x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutProjDw.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjDwReferenceIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ProjSmall.lean ====
abbrev S4096x2048 : Shape := ⟨2, ![4096, 2048]⟩
abbrev S128x2048 : Shape := ⟨2, ![128, 2048]⟩
abbrev S4096x128 : Shape := ⟨2, ![4096, 128]⟩
abbrev S1024x2048 : Shape := ⟨2, ![1024, 2048]⟩
abbrev S1024x128 : Shape := ⟨2, ![1024, 128]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S128x2048, .bf16⟩
  | .hbm, ⟨2, _⟩ => ⟨S4096x128, .f32⟩
  | .local _ .vmem, ⟨0, _⟩ => ⟨S1024x2048, .bf16⟩
  | .local _ .vmem, ⟨1, _⟩ => ⟨S1024x2048, .bf16⟩
  | .local _ .vmem, ⟨2, _⟩ => ⟨S128x2048, .bf16⟩
  | .local _ .vmem, ⟨3, _⟩ => ⟨S1024x128, .f32⟩
  | .local _ .vmem, ⟨4, _⟩ => ⟨S1024x128, .f32⟩
  | .local _ .vmem, ⟨5, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjSmallReferenceIdeal.lean ====
abbrev S4096x2048 : Shape := ⟨2, ![4096, 2048]⟩
abbrev S128x2048 : Shape := ⟨2, ![128, 2048]⟩
abbrev S2048x128 : Shape := ⟨2, ![2048, 128]⟩
abbrev S4096x128 : Shape := ⟨2, ![4096, 128]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S128x2048, .bf16⟩
  | .hbm, ⟨2, _⟩ => ⟨S4096x2048, .f32⟩
  | .hbm, ⟨3, _⟩ => ⟨S128x2048, .f32⟩
  | .hbm, ⟨4, _⟩ => ⟨S2048x128, .f32⟩
  | .hbm, ⟨5, _⟩ => ⟨S4096x128, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GateDx.lean ====
abbrev S4096x512 : Shape := ⟨2, ![4096, 512]⟩
abbrev S128x512 : Shape := ⟨2, ![128, 512]⟩
abbrev S4096x128 : Shape := ⟨2, ![4096, 128]⟩
abbrev S1024x512 : Shape := ⟨2, ![1024, 512]⟩
abbrev S1024x128 : Shape := ⟨2, ![1024, 128]⟩
abbrev S8x128 : Shape := ⟨2, ![8, 128]⟩

abbrev nBuf : Space → Nat
  | .hbm => 4
  | .vmem => 8
  | .smem => 0
  | _ => 0

abbrev bufTy : (tb : Table) → Fin (tcTables nBuf tb) → BufTy
  | .hbm, ⟨0, _⟩ => ⟨S4096x512, .bf16⟩
  | .hbm, ⟨1, _⟩ => ⟨S128x512, .bf16⟩
  | .hbm, ⟨2, _⟩ => ⟨S4096x128, .f32⟩
  | .hbm, ⟨3, _⟩ => ⟨S4096x128, .f32⟩
  | .local _ .vmem, ⟨0, _⟩ => ⟨S1024x512, .bf16⟩
  | .local _ .vmem, ⟨1, _⟩ => ⟨S1024x512, .bf16⟩
  | .local _ .vmem, ⟨2, _⟩ => ⟨S128x512, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S8x128, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GateDxReferenceIdeal.lean ====
abbrev S4096x512 : Shape := ⟨2, ![4096, 512]⟩
abbrev S128x512 : Shape := ⟨2, ![128, 512]⟩
abbrev S4096x128 : Shape := ⟨2, ![4096, 128]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S128x512, .bf16⟩
  | .hbm, ⟨2, _⟩ => ⟨S4096x128, .f32⟩
  | .hbm, ⟨3, _⟩ => ⟨S128x512, .f32⟩
  | .hbm, ⟨4, _⟩ => ⟨S_, .f32⟩
  | .hbm, ⟨5, _⟩ => ⟨S4096x128, .f32⟩
  | .hbm, ⟨6, _⟩ => ⟨S4096x512, .f32⟩
  | .hbm, ⟨7, _⟩ => ⟨S4096x512, .f32⟩
  | .hbm, ⟨8, _⟩ => ⟨S4096x128, .f32⟩
  | .hbm, ⟨9, _⟩ => ⟨S4096x128, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== GateDw.lean ====
abbrev S4096x128 : Shape := ⟨2, ![4096, 128]⟩
abbrev S4096x512 : Shape := ⟨2, ![4096, 512]⟩
abbrev S128x512 : Shape := ⟨2, ![128, 512]⟩
abbrev S2048x128 : Shape := ⟨2, ![2048, 128]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x128, .f32⟩
  | .hbm, ⟨1, _⟩ => ⟨S4096x512, .bf16⟩
  | .hbm, ⟨2, _⟩ => ⟨S128x512, .f32⟩
  | .local _ .vmem, ⟨0, _⟩ => ⟨S2048x128, .f32⟩
  | .local _ .vmem, ⟨1, _⟩ => ⟨S2048x128, .f32⟩
  | .local _ .vmem, ⟨2, _⟩ => ⟨S2048x512, .bf16⟩
  | .local _ .vmem, ⟨3, _⟩ => ⟨S2048x512, .bf16⟩
  | .local _ .vmem, ⟨4, _⟩ => ⟨S128x512, .f32⟩
  | .local _ .vmem, ⟨5, _⟩ => ⟨S128x512, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GateDwReferenceIdeal.lean ====
abbrev S4096x128 : Shape := ⟨2, ![4096, 128]⟩
abbrev S4096x512 : Shape := ⟨2, ![4096, 512]⟩
abbrev S_ : Shape := ⟨0, ![]⟩
abbrev S128x512 : Shape := ⟨2, ![128, 512]⟩
abbrev S512x128 : Shape := ⟨2, ![512, 128]⟩

abbrev nBuf : Space → Nat
  | .hbm => 8
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x512, .bf16⟩
  | .hbm, ⟨2, _⟩ => ⟨S_, .f32⟩
  | .hbm, ⟨3, _⟩ => ⟨S128x512, .f32⟩
  | .hbm, ⟨4, _⟩ => ⟨S4096x512, .f32⟩
  | .hbm, ⟨5, _⟩ => ⟨S4096x512, .f32⟩
  | .hbm, ⟨6, _⟩ => ⟨S512x128, .f32⟩
  | .hbm, ⟨7, _⟩ => ⟨S128x512, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ProjSmallDw.lean ====
abbrev S4096x128 : Shape := ⟨2, ![4096, 128]⟩
abbrev S4096x2048 : Shape := ⟨2, ![4096, 2048]⟩
abbrev S128x2048 : Shape := ⟨2, ![128, 2048]⟩
abbrev S2048x128 : Shape := ⟨2, ![2048, 128]⟩
abbrev S2048x1024 : Shape := ⟨2, ![2048, 1024]⟩
abbrev S128x1024 : Shape := ⟨2, ![128, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x128, .f32⟩
  | .hbm, ⟨1, _⟩ => ⟨S4096x2048, .bf16⟩
  | .hbm, ⟨2, _⟩ => ⟨S128x2048, .bf16⟩
  | .local _ .vmem, ⟨0, _⟩ => ⟨S2048x128, .f32⟩
  | .local _ .vmem, ⟨1, _⟩ => ⟨S2048x128, .f32⟩
  | .local _ .vmem, ⟨2, _⟩ => ⟨S2048x1024, .bf16⟩
  | .local _ .vmem, ⟨3, _⟩ => ⟨S2048x1024, .bf16⟩
  | .local _ .vmem, ⟨4, _⟩ => ⟨S128x1024, .bf16⟩
  | .local _ .vmem, ⟨5, _⟩ => ⟨S128x1024, .bf16⟩
  | .local _ .vmem, ⟨6, _⟩ => ⟨S128x1024, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjSmallDwReferenceIdeal.lean ====
abbrev S4096x128 : Shape := ⟨2, ![4096, 128]⟩
abbrev S4096x2048 : Shape := ⟨2, ![4096, 2048]⟩
abbrev S_ : Shape := ⟨0, ![]⟩
abbrev S128x2048 : Shape := ⟨2, ![128, 2048]⟩
abbrev S2048x128 : Shape := ⟨2, ![2048, 128]⟩

abbrev nBuf : Space → Nat
  | .hbm => 11
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x2048, .bf16⟩
  | .hbm, ⟨2, _⟩ => ⟨S_, .f32⟩
  | .hbm, ⟨3, _⟩ => ⟨S128x2048, .f32⟩
  | .hbm, ⟨4, _⟩ => ⟨S4096x2048, .f32⟩
  | .hbm, ⟨5, _⟩ => ⟨S2048x128, .f32⟩
  | .hbm, ⟨6, _⟩ => ⟨S4096x128, .f32⟩
  | .hbm, ⟨7, _⟩ => ⟨S128x2048, .f32⟩
  | .hbm, ⟨8, _⟩ => ⟨S2048x128, .f32⟩
  | .hbm, ⟨9, _⟩ => ⟨S128x2048, .f32⟩
  | .hbm, ⟨10, _⟩ => ⟨S128x2048, .bf16⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Premix.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PremixReferenceIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== PostmixPremlp.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S4096x2048, .f32⟩
  | .hbm, ⟨8, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== PostmixPremlpReferenceIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 49
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S1x2048, .f32⟩
  | .hbm, ⟨43, _⟩ => ⟨S1x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== FoxFwd.lean ====
abbrev S4096x6144 : Shape := ⟨2, ![4096, 6144]⟩
abbrev S8x1x4096 : Shape := ⟨3, ![8, 1, 4096]⟩
abbrev S8x4x1x1024 : Shape := ⟨4, ![8, 4, 1, 1024]⟩
abbrev S4096x1024 : Shape := ⟨2, ![4096, 1024]⟩
abbrev S8x4096x1 : Shape := ⟨3, ![8, 4096, 1]⟩
abbrev S1024x128 : Shape := ⟨2, ![1024, 128]⟩
abbrev S4096x128 : Shape := ⟨2, ![4096, 128]⟩
abbrev S1x4x1x1024 : Shape := ⟨4, ![1, 4, 1, 1024]⟩
abbrev S1x1024x1 : Shape := ⟨3, ![1, 1024, 1]⟩
abbrev S512x128 : Shape := ⟨2, ![512, 128]⟩
abbrev S512x1 : Shape := ⟨2, ![512, 1]⟩
abbrev S1x1x1x1024 : Shape := ⟨4, ![1, 1, 1, 1024]⟩
abbrev S1x1024 : Shape := ⟨2, ![1, 1024]⟩
abbrev S512x1024 : Shape := ⟨2, ![512, 1024]⟩
abbrev S512 : Shape := ⟨1, ![512]⟩
abbrev S1x512 : Shape := ⟨2, ![1, 512]⟩
abbrev S512x512 : Shape := ⟨2, ![512, 512]⟩
abbrev S1x512x1 : Shape := ⟨3, ![1, 512, 1]⟩

abbrev nBuf : Space → Nat
  | .hbm => 5
  | .vmem => 12
  | .smem => 0
  | _ => 0

abbrev bufTy : (tb : Table) → Fin (tcTables nBuf tb) → BufTy
  | .hbm, ⟨0, _⟩ => ⟨S4096x6144, .bf16⟩
  | .hbm, ⟨1, _⟩ => ⟨S8x1x4096, .f32⟩
  | .hbm, ⟨2, _⟩ => ⟨S8x4x1x1024, .f32⟩
  | .hbm, ⟨3, _⟩ => ⟨S4096x1024, .f32⟩
  | .hbm, ⟨4, _⟩ => ⟨S8x4096x1, .f32⟩
  | .local _ .vmem, ⟨0, _⟩ => ⟨S1024x128, .bf16⟩
  | .local _ .vmem, ⟨1, _⟩ => ⟨S1024x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1x4x1x1024, .f32⟩
  | .local _ .vmem, ⟨7, _⟩ => ⟨S1x4x1x1024, .f32⟩
  | .local _ .vmem, ⟨8, _⟩ => ⟨S1024x128, .f32⟩
  | .local _ .vmem, ⟨9, _⟩ => ⟨S1024x128, .f32⟩
  | .local _ .vmem, ⟨10, _⟩ => ⟨S1x1024x1, .f32⟩
  | .local _ .vmem, ⟨11, _⟩ => ⟨S1x1024x1, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

@[reducible] def k0_t1_loop (i : grid0.Coords) : Scf.Loop 32 :=
  let c0_i32 : BitVec 32 := 0#32
  let arg1 : BitVec 32 := BitVec.ofNat 32 (i 1).val
  let v8 : BitVec 32 := Scalar.subi arg1 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_7 : BitVec 32 := 1#32
  ⟨c0_i32, v12, c1_i32_7⟩
def k0_mult1 (i : grid0.Coords) (k0_t1 : Fin (k0_t1_loop i).trips) : BitVec 32 :=
  let c0_i32 : BitVec 32 := 0#32
  let c1_i32_7 : BitVec 32 := 1#32
  let arg8 : BitVec 32 := Scf.iv c0_i32 c1_i32_7 k0_t1
  let c1024_i32_41 : BitVec 32 := 1024#32
  let v109 : BitVec 32 := Scalar.muli arg8 c1024_i32_41
  v109
def k0_off1 (i : grid0.Coords) (k0_t1 : Fin (k0_t1_loop i).trips) : Fin 2 → Nat :=
  let c0_i32 : BitVec 32 := 0#32
  let c1_i32_7 : BitVec 32 := 1#32
  let arg8 : BitVec 32 := Scf.iv c0_i32 c1_i32_7 k0_t1
  let c1024_i32_41 : BitVec 32 := 1024#32
  let v109 : BitVec 32 := Scalar.muli arg8 c1024_i32_41
  let v110 : BitVec 32 := v109
  let v111 : Index := Scalar.indexCast v110
  let c0_42 : Index := 0#32
  ![v111.toNat, 0]
def k0_off2 (i : grid0.Coords) (k0_t1 : Fin (k0_t1_loop i).trips) : Fin 4 → Nat :=
  let c0_44 : Index := 0#32
  let c0_i32 : BitVec 32 := 0#32
  let c1_i32_7 : BitVec 32 := 1#32
  let arg8 : BitVec 32 := Scf.iv c0_i32 c1_i32_7 k0_t1
  let v115 : Index := Scalar.indexCast arg8
  let c0_45 : Index := 0#32
  let c0_46 : Index := 0#32
  ![0, v115.toNat, 0, 0]
@[reducible] def k0_t2_loop (i : grid0.Coords) : Scf.Loop 32 :=
  let c0_i32 : BitVec 32 := 0#32
  let arg1 : BitVec 32 := BitVec.ofNat 32 (i 1).val
  let v8 : BitVec 32 := Scalar.subi arg1 c0_i32
  let c1_i32 : BitVec 32 := 1#32
  let v10 : BitVec 32 := Scalar.divsi v8 c1_i32
  let v11 : BitVec 32 := Scalar.muli v10 c1_i32
  let v12 : BitVec 32 := Scalar.addi c0_i32 v11
  let v9 : BitVec 32 := Scalar.addi c0_i32 v8
  let c1_i32_8 : BitVec 32 := 1#32
  ⟨v12, v9, c1_i32_8⟩
def k0_mult2 (i : grid0.Coords) (k0_t2 : Fin (k0_t2_loop i).trips) : BitVec 32 :=
  let c0_i32 : BitVec 32 := 0#32
  let arg1 : BitVec 32 := BitVec.ofNat 32 (i 1).val
  let v8 : BitVec 32 := Scalar.subi arg1 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_8 : BitVec 32 := 1#32
  let arg8 : BitVec 32 := Scf.iv v12 c1_i32_8 k0_t2
  let c1024_i32_41 : BitVec 32 := 1024#32
  let v109 : BitVec 32 := Scalar.muli arg8 c1024_i32_41
  v109
def k0_off3 (i : grid0.Coords) (k0_t2 : Fin (k0_t2_loop i).trips) : Fin 2 → Nat :=
  let c0_i32 : BitVec 32 := 0#32
  let arg1 : BitVec 32 := BitVec.ofNat 32 (i 1).val
  let v8 : BitVec 32 := Scalar.subi arg1 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_8 : BitVec 32 := 1#32
  let arg8 : BitVec 32 := Scf.iv v12 c1_i32_8 k0_t2
  let c1024_i32_41 : BitVec 32 := 1024#32
  let v109 : BitVec 32 := Scalar.muli arg8 c1024_i32_41
  let v110 : BitVec 32 := v109
  let v111 : Index := Scalar.indexCast v110
  let c0_42 : Index := 0#32
  ![v111.toNat, 0]
def k0_off4 (i : grid0.Coords) (k0_t2 : Fin (k0_t2_loop i).trips) : Fin 4 → Nat :=
  let c0_44 : Index := 0#32
  let c0_i32 : BitVec 32 := 0#32
  let arg1 : BitVec 32 := BitVec.ofNat 32 (i 1).val
  let v8 : BitVec 32 := Scalar.subi arg1 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_8 : BitVec 32 := 1#32
  let arg8 : BitVec 32 := Scf.iv v12 c1_i32_8 k0_t2
  let v115 : Index := Scalar.indexCast arg8
  let c0_45 : Index := 0#32
  let c0_46 : Index := 0#32
  ![0, v115.toNat, 0, 0]
def k0_mult3 (i : grid0.Coords) : BitVec 32 :=
  let arg1 : BitVec 32 := BitVec.ofNat 32 (i 1).val
  let c1024_i32 : BitVec 32 := 1024#32
  let v15 : BitVec 32 := Scalar.muli arg1 c1024_i32
  v15
def k0_off5 (i : grid0.Coords) : Fin 2 → Nat :=
  let arg1 : BitVec 32 := BitVec.ofNat 32 (i 1).val
  let c1024_i32 : BitVec 32 := 1024#32
  let v15 : BitVec 32 := Scalar.muli arg1 c1024_i32
  let v16 : BitVec 32 := v15
  let v17 : Index := Scalar.indexCast v16
  let c0_9 : Index := 0#32
  ![v17.toNat, 0]
def k0_off6 (i : grid0.Coords) : Fin 4 → Nat :=
  let c0_11 : Index := 0#32
  let arg1 : BitVec 32 := BitVec.ofNat 32 (i 1).val
  let v21 : Index := Scalar.indexCast arg1
  let c0_12 : Index := 0#32
  let c0_13 : Index := 0#32
  ![0, v21.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FoxFwdIdeal.lean ====
variable {F : FTy → Type} [FloatOps F] [Named F]
def κ : String → Option EReal := fun
  | "mask" => some ⊥
  | _ => none
-- ==== FoxFwdReferenceIdeal.lean ====
abbrev S4096x6144 : Shape := ⟨2, ![4096, 6144]⟩
abbrev S8x1x4096 : Shape := ⟨3, ![8, 1, 4096]⟩
abbrev S4096x1024 : Shape := ⟨2, ![4096, 1024]⟩
abbrev S4096x8x128 : Shape := ⟨3, ![4096, 8, 128]⟩
abbrev S8x4096 : Shape := ⟨2, ![8, 4096]⟩
abbrev S8x4096x4096 : Shape := ⟨3, ![8, 4096, 4096]⟩
abbrev S_ : Shape := ⟨0, ![]⟩
abbrev S8x4096x1 : Shape := ⟨3, ![8, 4096, 1]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x128x4096 : Shape := ⟨3, ![8, 128, 4096]⟩

abbrev nBuf : Space → Nat
  | .hbm => 51
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S8x1x4096, .f32⟩
  | .hbm, ⟨2, _⟩ => ⟨S4096x1024, .bf16⟩
  | .hbm, ⟨3, _⟩ => ⟨S4096x1024, .f32⟩
  | .hbm, ⟨4, _⟩ => ⟨S4096x8x128, .f32⟩
  | .hbm, ⟨5, _⟩ => ⟨S4096x1024, .bf16⟩
  | .hbm, ⟨6, _⟩ => ⟨S4096x1024, .f32⟩
  | .hbm, ⟨7, _⟩ => ⟨S4096x8x128, .f32⟩
  | .hbm, ⟨8, _⟩ => ⟨S4096x1024, .bf16⟩
  | .hbm, ⟨9, _⟩ => ⟨S4096x1024, .f32⟩
  | .hbm, ⟨10, _⟩ => ⟨S4096x8x128, .f32⟩
  | .hbm, ⟨11, _⟩ => ⟨S8x4096, .f32⟩
  | .hbm, ⟨12, _⟩ => ⟨S8x4096x4096, .f32⟩
  | .hbm, ⟨13, _⟩ => ⟨S_, .f32⟩
  | .hbm, ⟨14, _⟩ => ⟨S8x4096x4096, .f32⟩
  | .hbm, ⟨15, _⟩ => ⟨S8x4096x4096, .f32⟩
  | .hbm, ⟨16, _⟩ => ⟨S8x4096x1, .f32⟩
  | .hbm, ⟨17, _⟩ => ⟨S8x1x4096, .f32⟩
  | .hbm, ⟨18, _⟩ => ⟨S8x4096x4096, .f32⟩
  | .hbm, ⟨19, _⟩ => ⟨S8x4096x4096, .f32⟩
  | .hbm, ⟨20, _⟩ => ⟨S8x4096x4096, .f32⟩
  | .hbm, ⟨21, _⟩ => ⟨S4096, .i32⟩
  | .hbm, ⟨22, _⟩ => ⟨S4096x1, .i32⟩
  | .hbm, ⟨23, _⟩ => ⟨S4096, .i32⟩
  | .hbm, ⟨24, _⟩ => ⟨S1x4096, .i32⟩
  | .hbm, ⟨25, _⟩ => ⟨S4096x4096, .i32⟩
  | .hbm, ⟨26, _⟩ => ⟨S4096x4096, .i32⟩
  | .hbm, ⟨27, _⟩ => ⟨S4096x4096, .i1⟩
  | .hbm, ⟨28, _⟩ => ⟨S8x4096x4096, .i1⟩
  | .hbm, ⟨29, _⟩ => ⟨S8x4096x4096, .f32⟩
  | .hbm, ⟨30, _⟩ => ⟨S_, .f32⟩
  | .hbm, ⟨31, _⟩ => ⟨S8x4096x4096, .f32⟩
  | .hbm, ⟨32, _⟩ => ⟨S8x4096x4096, .f32⟩
  | .hbm, ⟨33, _⟩ => ⟨S_, .f32⟩
  | .hbm, ⟨34, _⟩ => ⟨S8x4096, .f32⟩
  | .hbm, ⟨35, _⟩ => ⟨S8x4096x1, .f32⟩
  | .hbm, ⟨36, _⟩ => ⟨S8x4096x4096, .f32⟩
  | .hbm, ⟨37, _⟩ => ⟨S8x4096x4096, .f32⟩
  | .hbm, ⟨38, _⟩ => ⟨S8x4096x4096, .f32⟩
  | .hbm, ⟨39, _⟩ => ⟨S_, .f32⟩
  | .hbm, ⟨40, _⟩ => ⟨S8x4096, .f32⟩
  | .hbm, ⟨41, _⟩ => ⟨S8x4096x1, .f32⟩
  | .hbm, ⟨42, _⟩ => ⟨S8x4096x4096, .f32⟩
  | .hbm, ⟨43, _⟩ => ⟨S8x4096x4096, .f32⟩
  | .hbm, ⟨44, _⟩ => ⟨S8x128x4096, .f32⟩
  | .hbm, ⟨45, _⟩ => ⟨S4096x8x128, .f32⟩
  | .hbm, ⟨46, _⟩ => ⟨S4096x1024, .f32⟩
  | .hbm, ⟨47, _⟩ => ⟨S8x4096x1, .f32⟩
  | .hbm, ⟨48, _⟩ => ⟨S8x4096x1, .f32⟩
  | .hbm, ⟨49, _⟩ => ⟨S8x4096x1, .f32⟩
  | .hbm, ⟨50, _⟩ => ⟨S8x4096x1, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_cst_0 : Ref sig .tc := ⟨.hbm, 30, rfl⟩
abbrev main_v27 : Ref sig .tc := ⟨.hbm, 31, rfl⟩
abbrev main_v28 : Ref sig .tc := ⟨.hbm, 32, rfl⟩
abbrev main_cst_1 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_cst_2 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩

abbrev nD : Nat := 1
abbrev τ : Topo := Topo.v7x

variable {F : FTy → Type} [FloatOps F]
-- ==== PremixBwd.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 9
  | .vmem => 13
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S4096x2048, .f32⟩
  | .hbm, ⟨6, _⟩ => ⟨S1x2048, .f32⟩
  | .hbm, ⟨7, _⟩ => ⟨S1x2048, .f32⟩
  | .hbm, ⟨8, _⟩ => ⟨S1x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v19 : BitVec 1 := Scalar.cmpi .eq arg0 c0_i32
  let v20 : BitVec 32 := Scalar.extui v19
  let c0_i32_8 : BitVec 32 := 0#32
  let v21 : BitVec 1 := Scalar.cmpi .ne v20 c0_i32_8
  v21

def k0_cond2 (i : grid0.Coords) : BitVec 1 :=
  let arg0 : BitVec 32 := BitVec.ofNat 32 (i 0).val
  let c0_i32_9 : BitVec 32 := 0#32
  let v22 : BitVec 1 := Scalar.cmpi .sgt arg0 c0_i32_9
  let v23 : BitVec 32 := Scalar.extui v22
  let c0_i32_10 : BitVec 32 := 0#32
  let v24 : BitVec 1 := Scalar.cmpi .ne v23 c0_i32_10
  v24

def k0_cond3 (i : grid0.Coords) : BitVec 1 :=
  let arg0 : BitVec 32 := BitVec.ofNat 32 (i 0).val
  let c0_i32_12 : BitVec 32 := 0#32
  let v27 : BitVec 1 := Scalar.cmpi .eq arg0 c0_i32_12
  let v28 : BitVec 32 := Scalar.extui v27
  let c0_i32_13 : BitVec 32 := 0#32
  let v29 : BitVec 1 := Scalar.cmpi .ne v28 c0_i32_13
  v29

def k0_cond4 (i : grid0.Coords) : BitVec 1 :=
  let arg0 : BitVec 32 := BitVec.ofNat 32 (i 0).val
  let c0_i32_14 : BitVec 32 := 0#32
  let v30 : BitVec 1 := Scalar.cmpi .sgt arg0 c0_i32_14
  let v31 : BitVec 32 := Scalar.extui v30
  let c0_i32_15 : BitVec 32 := 0#32
  let v32 : BitVec 1 := Scalar.cmpi .ne v31 c0_i32_15
  v32

def k0_cond5 (i : grid0.Coords) : BitVec 1 :=
  let arg0 : BitVec 32 := BitVec.ofNat 32 (i 0).val
  let c0_i32_20 : BitVec 32 := 0#32
  let v41 : BitVec 1 := Scalar.cmpi .eq arg0 c0_i32_20
  let v42 : BitVec 32 := Scalar.extui v41
  let c0_i32_21 : BitVec 32 := 0#32
  let v43 : BitVec 1 := Scalar.cmpi .ne v42 c0_i32_21
  v43

def k0_cond6 (i : grid0.Coords) : BitVec 1 :=
  let arg0 : BitVec 32 := BitVec.ofNat 32 (i 0).val
  let c0_i32_22 : BitVec 32 := 0#32
  let v44 : BitVec 1 := Scalar.cmpi .sgt arg0 c0_i32_22
  let v45 : BitVec 32 := Scalar.extui v44
  let c0_i32_23 : BitVec 32 := 0#32
  let v46 : BitVec 1 := Scalar.cmpi .ne v45 c0_i32_23
  v46

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== PremixBwdReferenceIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 67
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S1x2048, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S2048, .f32⟩
  | .hbm, ⟨36, _⟩ => ⟨S1x2048, .f32⟩
  | .hbm, ⟨37, _⟩ => ⟨S4096x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S4096x2048, .f32⟩
  | .hbm, ⟨54, _⟩ => ⟨S4096x2048, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S_, .f32⟩
  | .hbm, ⟨60, _⟩ => ⟨S4096, .f32⟩
  | .hbm, ⟨61, _⟩ => ⟨S4096x2048, .f32⟩
  | .hbm, ⟨62, _⟩ => ⟨S4096x2048, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_cst_10 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== PremlpPostmixBwd.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 15
  | .vmem => 21
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S4096x2048, .f32⟩
  | .hbm, ⟨3, _⟩ => ⟨S4096x2048, .bf16⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S4096x2048, .f32⟩
  | .hbm, ⟨9, _⟩ => ⟨S4096x2048, .bf16⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S1x2048, .f32⟩
  | .hbm, ⟨14, _⟩ => ⟨S1x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x2048, .bf16⟩
  | .local _ .vmem, ⟨16, _⟩ => ⟨S1x2048, .f32⟩
  | .local _ .vmem, ⟨17, _⟩ => ⟨S1x2048, .f32⟩
  | .local _ .vmem, ⟨18, _⟩ => ⟨S1x2048, .f32⟩
  | .local _ .vmem, ⟨19, _⟩ => ⟨S1x2048, .f32⟩
  | .local _ .vmem, ⟨20, _⟩ => ⟨S1x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v19 : BitVec 1 := Scalar.cmpi .eq arg0 c0_i32
  let v20 : BitVec 32 := Scalar.extui v19
  let c0_i32_8 : BitVec 32 := 0#32
  let v21 : BitVec 1 := Scalar.cmpi .ne v20 c0_i32_8
  v21

def k0_cond2 (i : grid0.Coords) : BitVec 1 :=
  let arg0 : BitVec 32 := BitVec.ofNat 32 (i 0).val
  let c0_i32_9 : BitVec 32 := 0#32
  let v22 : BitVec 1 := Scalar.cmpi .sgt arg0 c0_i32_9
  let v23 : BitVec 32 := Scalar.extui v22
  let c0_i32_10 : BitVec 32 := 0#32
  let v24 : BitVec 1 := Scalar.cmpi .ne v23 c0_i32_10
  v24

def k0_cond3 (i : grid0.Coords) : BitVec 1 :=
  let arg0 : BitVec 32 := BitVec.ofNat 32 (i 0).val
  let c0_i32_12 : BitVec 32 := 0#32
  let v27 : BitVec 1 := Scalar.cmpi .eq arg0 c0_i32_12
  let v28 : BitVec 32 := Scalar.extui v27
  let c0_i32_13 : BitVec 32 := 0#32
  let v29 : BitVec 1 := Scalar.cmpi .ne v28 c0_i32_13
  v29

def k0_cond4 (i : grid0.Coords) : BitVec 1 :=
  let arg0 : BitVec 32 := BitVec.ofNat 32 (i 0).val
  let c0_i32_14 : BitVec 32 := 0#32
  let v30 : BitVec 1 := Scalar.cmpi .sgt arg0 c0_i32_14
  let v31 : BitVec 32 := Scalar.extui v30
  let c0_i32_15 : BitVec 32 := 0#32
  let v32 : BitVec 1 := Scalar.cmpi .ne v31 c0_i32_15
  v32

def k0_cond5 (i : grid0.Coords) : BitVec 1 :=
  let arg0 : BitVec 32 := BitVec.ofNat 32 (i 0).val
  let c0_i32_20 : BitVec 32 := 0#32
  let v41 : BitVec 1 := Scalar.cmpi .eq arg0 c0_i32_20
  let v42 : BitVec 32 := Scalar.extui v41
  let c0_i32_21 : BitVec 32 := 0#32
  let v43 : BitVec 1 := Scalar.cmpi .ne v42 c0_i32_21
  v43

def k0_cond6 (i : grid0.Coords) : BitVec 1 :=
  let arg0 : BitVec 32 := BitVec.ofNat 32 (i 0).val
  let c0_i32_22 : BitVec 32 := 0#32
  let v44 : BitVec 1 := Scalar.cmpi .sgt arg0 c0_i32_22
  let v45 : BitVec 32 := Scalar.extui v44
  let c0_i32_23 : BitVec 32 := 0#32
  let v46 : BitVec 1 := Scalar.cmpi .ne v45 c0_i32_23
  v46

def k0_cond7 (i : grid0.Coords) : BitVec 1 :=
  let arg0 : BitVec 32 := BitVec.ofNat 32 (i 0).val
  let c0_i32_40 : BitVec 32 := 0#32
  let v81 : BitVec 1 := Scalar.cmpi .eq arg0 c0_i32_40
  let v82 : BitVec 32 := Scalar.extui v81
  let c0_i32_41 : BitVec 32 := 0#32
  let v83 : BitVec 1 := Scalar.cmpi .ne v82 c0_i32_41
  v83

def k0_cond8 (i : grid0.Coords) : BitVec 1 :=
  let arg0 : BitVec 32 := BitVec.ofNat 32 (i 0).val
  let c0_i32_42 : BitVec 32 := 0#32
  let v84 : BitVec 1 := Scalar.cmpi .sgt arg0 c0_i32_42
  let v85 : BitVec 32 := Scalar.extui v84
  let c0_i32_43 : BitVec 32 := 0#32
  let v86 : BitVec 1 := Scalar.cmpi .ne v85 c0_i32_43
  v86

def k0_cond9 (i : grid0.Coords) : BitVec 1 :=
  let arg0 : BitVec 32 := BitVec.ofNat 32 (i 0).val
  let c0_i32_47 : BitVec 32 := 0#32
  let v93 : BitVec 1 := Scalar.cmpi .eq arg0 c0_i32_47
  let v94 : BitVec 32 := Scalar.extui v93
  let c0_i32_48 : BitVec 32 := 0#32
  let v95 : BitVec 1 := Scalar.cmpi .ne v94 c0_i32_48
  v95

def k0_cond10 (i : grid0.Coords) : BitVec 1 :=
  let arg0 : BitVec 32 := BitVec.ofNat 32 (i 0).val
  let c0_i32_49 : BitVec 32 := 0#32
  let v96 : BitVec 1 := Scalar.cmpi .sgt arg0 c0_i32_49
  let v97 : BitVec 32 := Scalar.extui v96
  let c0_i32_50 : BitVec 32 := 0#32
  let v98 : BitVec 1 := Scalar.cmpi .ne v97 c0_i32_50
  v98

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== PremlpPostmixBwdReferenceIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 122
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S4096x2048, .f32⟩
  | .hbm, ⟨3, _⟩ => ⟨S4096x2048, .bf16⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S_, .f32⟩
  | .hbm, ⟨9, _⟩ => ⟨S1x2048, .f32⟩
  | .hbm, ⟨10, _⟩ => ⟨S4096x2048, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S1x2048, .f32⟩
  | .hbm, ⟨31, _⟩ => ⟨S1x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S2048, .f32⟩
  | .hbm, ⟨39, _⟩ => ⟨S1x2048, .f32⟩
  | .hbm, ⟨40, _⟩ => ⟨S4096x2048, .f32⟩
  | .hbm, ⟨41, _⟩ => ⟨S_, .f32⟩
  | .hbm, ⟨42, _⟩ => ⟨S2048, .f32⟩
  | .hbm, ⟨43, _⟩ => ⟨S1x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S_, .f32⟩
  | .hbm, ⟨54, _⟩ => ⟨S4096, .f32⟩
  | .hbm, ⟨55, _⟩ => ⟨S4096x1, .f32⟩
  | .hbm, ⟨56, _⟩ => ⟨S4096x2048, .f32⟩
  | .hbm, ⟨57, _⟩ => ⟨S4096x2048, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S_, .f32⟩
  | .hbm, ⟨63, _⟩ => ⟨S4096, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S4096x2048, .f32⟩
  | .hbm, ⟨72, _⟩ => ⟨S_, .f32⟩
  | .hbm, ⟨73, _⟩ => ⟨S4096, .f32⟩
  | .hbm, ⟨74, _⟩ => ⟨S4096x1, .f32⟩
  | .hbm, ⟨75, _⟩ => ⟨S_, .f32⟩
  | .hbm, ⟨76, _⟩ => ⟨S4096x1, .f32⟩
  | .hbm, ⟨77, _⟩ => ⟨S4096x1, .f32⟩
  | .hbm, ⟨78, _⟩ => ⟨S_, .f32⟩
  | .hbm, ⟨79, _⟩ => ⟨S4096x1, .f32⟩
  | .hbm, ⟨80, _⟩ => ⟨S4096x1, .f32⟩
  | .hbm, ⟨81, _⟩ => ⟨S4096x1, .f32⟩
  | .hbm, ⟨82, _⟩ => ⟨S4096x1, .f32⟩
  | .hbm, ⟨83, _⟩ => ⟨S_, .f32⟩
  | .hbm, ⟨84, _⟩ => ⟨S4096x1, .f32⟩
  | .hbm, ⟨85, _⟩ => ⟨S4096x1, .f32⟩
  | .hbm, ⟨86, _⟩ => ⟨S4096x2048, .f32⟩
  | .hbm, ⟨87, _⟩ => ⟨S4096x2048, .f32⟩
  | .hbm, ⟨88, _⟩ => ⟨S4096x2048, .f32⟩
  | .hbm, ⟨89, _⟩ => ⟨S4096x2048, .f32⟩
  | .hbm, ⟨90, _⟩ => ⟨S4096x2048, .f32⟩
  | .hbm, ⟨91, _⟩ => ⟨S4096x2048, .f32⟩
  | .hbm, ⟨92, _⟩ => ⟨S4096x2048, .f32⟩
  | .hbm, ⟨93, _⟩ => ⟨S4096x2048, .f32⟩
  | .hbm, ⟨94, _⟩ => ⟨S4096x2048, .f32⟩
  | .hbm, ⟨95, _⟩ => ⟨S_, .f32⟩
  | .hbm, ⟨96, _⟩ => ⟨S2048, .f32⟩
  | .hbm, ⟨97, _⟩ => ⟨S1x2048, .f32⟩
  | .hbm, ⟨98, _⟩ => ⟨S4096x2048, .f32⟩
  | .hbm, ⟨99, _⟩ => ⟨S_, .f32⟩
  | .hbm, ⟨100, _⟩ => ⟨S2048, .f32⟩
  | .hbm, ⟨101, _⟩ => ⟨S1x2048, .f32⟩
  | .hbm, ⟨102, _⟩ => ⟨S4096x2048, .f32⟩
  | .hbm, ⟨103, _⟩ => ⟨S4096x2048, .f32⟩
  | .hbm, ⟨104, _⟩ => ⟨S4096x2048, .f32⟩
  | .hbm, ⟨105, _⟩ => ⟨S_, .f32⟩
  | .hbm, ⟨106, _⟩ => ⟨S4096, .f32⟩
  | .hbm, ⟨107, _⟩ => ⟨S4096x1, .f32⟩
  | .hbm, ⟨108, _⟩ => ⟨S4096x2048, .f32⟩
  | .hbm, ⟨109, _⟩ => ⟨S4096x2048, .f32⟩
  | .hbm, ⟨110, _⟩ => ⟨S4096x1, .f32⟩
  | .hbm, ⟨111, _⟩ => ⟨S_, .f32⟩
  | .hbm, ⟨112, _⟩ => ⟨S4096x1, .f32⟩
  | .hbm, ⟨113, _⟩ => ⟨S4096x1, .f32⟩
  | .hbm, ⟨114, _⟩ => ⟨S_, .f32⟩
  | .hbm, ⟨115, _⟩ => ⟨S4096, .f32⟩
  | .hbm, ⟨116, _⟩ => ⟨S4096x2048, .f32⟩
  | .hbm, ⟨117, _⟩ => ⟨S4096x2048, .f32⟩
  | .hbm, ⟨118, _⟩ => ⟨S4096x2048, .f32⟩
  | .hbm, ⟨119, _⟩ => ⟨S4096x2048, .f32⟩
  | .hbm, ⟨120, _⟩ => ⟨S4096x2048, .f32⟩
  | .hbm, ⟨121, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_9 : Ref sig .tc := ⟨.hbm, 59, rfl⟩
abbrev main_v41 : Ref sig .tc := ⟨.hbm, 60, rfl⟩
abbrev main_v42 : Ref sig .tc := ⟨.hbm, 61, rfl⟩
abbrev main_cst_10 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_11 : Ref sig .tc := ⟨.hbm, 72, rfl⟩
abbrev main_v52 : Ref sig .tc := ⟨.hbm, 73, rfl⟩
abbrev main_v53 : Ref sig .tc := ⟨.hbm, 74, rfl⟩
abbrev main_cst_12 : Ref sig .tc := ⟨.hbm, 75, rfl⟩
abbrev main_v54 : Ref sig .tc := ⟨.hbm, 76, rfl⟩
abbrev main_v55 : Ref sig .tc := ⟨.hbm, 77, rfl⟩
abbrev main_cst_13 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_14 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_15 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_16 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_17 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_18 : Ref sig .tc := ⟨.hbm, 111, rfl⟩
abbrev main_v84 : Ref sig .tc := ⟨.hbm, 112, rfl⟩
abbrev main_v85 : Ref sig .tc := ⟨.hbm, 113, rfl⟩
abbrev main_cst_19 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩

abbrev nD : Nat := 1
abbrev τ : Topo := Topo.v7x

variable {F : FTy → Type} [FloatOps F]
-- ==== FoxCum.lean ====
abbrev S4096x128 : Shape := ⟨2, ![4096, 128]⟩
abbrev S1x128 : Shape := ⟨2, ![1, 128]⟩
abbrev S8x4096 : Shape := ⟨2, ![8, 4096]⟩
abbrev S256x128 : Shape := ⟨2, ![256, 128]⟩
abbrev S8x256 : Shape := ⟨2, ![8, 256]⟩
abbrev S8x128 : Shape := ⟨2, ![8, 128]⟩
abbrev S128x256 : Shape := ⟨2, ![128, 256]⟩
abbrev S256x256 : Shape := ⟨2, ![256, 256]⟩
abbrev S8x1 : Shape := ⟨2, ![8, 1]⟩
abbrev S8 : Shape := ⟨1, ![8]⟩

abbrev nBuf : Space → Nat
  | .hbm => 3
  | .vmem => 6
  | .smem => 0
  | _ => 0

abbrev bufTy : (tb : Table) → Fin (tcTables nBuf tb) → BufTy
  | .hbm, ⟨0, _⟩ => ⟨S4096x128, .f32⟩
  | .hbm, ⟨1, _⟩ => ⟨S1x128, .f32⟩
  | .hbm, ⟨2, _⟩ => ⟨S8x4096, .f32⟩
  | .local _ .vmem, ⟨0, _⟩ => ⟨S256x128, .f32⟩
  | .local _ .vmem, ⟨1, _⟩ => ⟨S256x128, .f32⟩
  | .local _ .vmem, ⟨2, _⟩ => ⟨S1x128, .f32⟩
  | .local _ .vmem, ⟨3, _⟩ => ⟨S8x256, .f32⟩
  | .local _ .vmem, ⟨4, _⟩ => ⟨S8x256, .f32⟩
  | .local _ .vmem, ⟨5, _⟩ => ⟨S8x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FoxCumReferenceIdeal.lean ====
abbrev S4096x128 : Shape := ⟨2, ![4096, 128]⟩
abbrev S1x128 : Shape := ⟨2, ![1, 128]⟩
abbrev S4096x8 : Shape := ⟨2, ![4096, 8]⟩
abbrev S1x8 : Shape := ⟨2, ![1, 8]⟩
abbrev S_ : Shape := ⟨0, ![]⟩
abbrev S8x4096 : Shape := ⟨2, ![8, 4096]⟩

abbrev nBuf : Space → Nat
  | .hbm => 26
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S1x128, .f32⟩
  | .hbm, ⟨2, _⟩ => ⟨S4096x8, .f32⟩
  | .hbm, ⟨3, _⟩ => ⟨S1x8, .f32⟩
  | .hbm, ⟨4, _⟩ => ⟨S4096x8, .f32⟩
  | .hbm, ⟨5, _⟩ => ⟨S4096x8, .f32⟩
  | .hbm, ⟨6, _⟩ => ⟨S4096x8, .f32⟩
  | .hbm, ⟨7, _⟩ => ⟨S_, .f32⟩
  | .hbm, ⟨8, _⟩ => ⟨S4096x8, .f32⟩
  | .hbm, ⟨9, _⟩ => ⟨S4096x8, .f32⟩
  | .hbm, ⟨10, _⟩ => ⟨S4096x8, .f32⟩
  | .hbm, ⟨11, _⟩ => ⟨S4096x8, .f32⟩
  | .hbm, ⟨12, _⟩ => ⟨S4096x8, .i1⟩
  | .hbm, ⟨13, _⟩ => ⟨S4096x8, .f32⟩
  | .hbm, ⟨14, _⟩ => ⟨S4096x8, .f32⟩
  | .hbm, ⟨15, _⟩ => ⟨S4096x8, .f32⟩
  | .hbm, ⟨16, _⟩ => ⟨S4096x8, .f32⟩
  | .hbm, ⟨17, _⟩ => ⟨S4096x8, .f32⟩
  | .hbm, ⟨18, _⟩ => ⟨S4096x8, .f32⟩
  | .hbm, ⟨19, _⟩ => ⟨S4096x8, .f32⟩
  | .hbm, ⟨20, _⟩ => ⟨S4096x8, .f32⟩
  | .hbm, ⟨21, _⟩ => ⟨S4096x8, .f32⟩
  | .hbm, ⟨22, _⟩ => ⟨S_, .f32⟩
  | .hbm, ⟨23, _⟩ => ⟨S_, .f32⟩
  | .hbm, ⟨24, _⟩ => ⟨S4096x8, .f32⟩
  | .hbm, ⟨25, _⟩ => ⟨S8x4096, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1 : Ref sig .tc := ⟨.hbm, 20, rfl⟩
abbrev main_v4 : Ref sig .tc := ⟨.hbm, 21, rfl⟩
abbrev main_call1_call0_cst : Ref sig .tc := ⟨.hbm, 22, rfl⟩
abbrev main_call1_call0_v0 : Ref sig .tc := ⟨.hbm, 23, rfl⟩
abbrev main_v5 : Ref sig .tc := ⟨.hbm, 24, rfl⟩
abbrev main_v6 : Ref sig .tc := ⟨.hbm, 25, rfl⟩

abbrev nD : Nat := 1
abbrev τ : Topo := Topo.v7x

variable {F : FTy → Type} [FloatOps F]
-- ==== FoxCumBwd.lean ====
abbrev S8x4096 : Shape := ⟨2, ![8, 4096]⟩
abbrev S8x4096x1 : Shape := ⟨3, ![8, 4096, 1]⟩
abbrev S4096x128 : Shape := ⟨2, ![4096, 128]⟩
abbrev S1x128 : Shape := ⟨2, ![1, 128]⟩
abbrev S8x128 : Shape := ⟨2, ![8, 128]⟩
abbrev S8x256 : Shape := ⟨2, ![8, 256]⟩
abbrev S8x256x1 : Shape := ⟨3, ![8, 256, 1]⟩
abbrev S256x128 : Shape := ⟨2, ![256, 128]⟩
abbrev S1x256x1 : Shape := ⟨3, ![1, 256, 1]⟩
abbrev S256x1 : Shape := ⟨2, ![256, 1]⟩
abbrev S128x256 : Shape := ⟨2, ![128, 256]⟩
abbrev S256x256 : Shape := ⟨2, ![256, 256]⟩
abbrev S8x1 : Shape := ⟨2, ![8, 1]⟩
abbrev S8 : Shape := ⟨1, ![8]⟩
abbrev S120x256 : Shape := ⟨2, ![120, 256]⟩

abbrev nBuf : Space → Nat
  | .hbm => 6
  | .vmem => 11
  | .smem => 0
  | _ => 0

abbrev bufTy : (tb : Table) → Fin (tcTables nBuf tb) → BufTy
  | .hbm, ⟨0, _⟩ => ⟨S8x4096, .f32⟩
  | .hbm, ⟨1, _⟩ => ⟨S8x4096x1, .f32⟩
  | .hbm, ⟨2, _⟩ => ⟨S4096x128, .f32⟩
  | .hbm, ⟨3, _⟩ => ⟨S1x128, .f32⟩
  | .hbm, ⟨4, _⟩ => ⟨S4096x128, .f32⟩
  | .hbm, ⟨5, _⟩ => ⟨S8x128, .f32⟩
  | .local _ .vmem, ⟨0, _⟩ => ⟨S8x256, .f32⟩
  | .local _ .vmem, ⟨1, _⟩ => ⟨S8x256, .f32⟩
  | .local _ .vmem, ⟨2, _⟩ => ⟨S8x256x1, .f32⟩
  | .local _ .vmem, ⟨3, _⟩ => ⟨S8x256x1, .f32⟩
  | .local _ .vmem, ⟨4, _⟩ => ⟨S256x128, .f32⟩
  | .local _ .vmem, ⟨5, _⟩ => ⟨S256x128, .f32⟩
  | .local _ .vmem, ⟨6, _⟩ => ⟨S1x128, .f32⟩
  | .local _ .vmem, ⟨7, _⟩ => ⟨S256x128, .f32⟩
  | .local _ .vmem, ⟨8, _⟩ => ⟨S256x128, .f32⟩
  | .local _ .vmem, ⟨9, _⟩ => ⟨S8x128, .f32⟩
  | .local _ .vmem, ⟨10, _⟩ => ⟨S8x128, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![c0_i32.toNat, v0.toNat]

def cc0_transform_1 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== FoxCumBwdReferenceIdeal.lean ====
abbrev S8x4096 : Shape := ⟨2, ![8, 4096]⟩
abbrev S8x4096x1 : Shape := ⟨3, ![8, 4096, 1]⟩
abbrev S4096x128 : Shape := ⟨2, ![4096, 128]⟩
abbrev S1x128 : Shape := ⟨2, ![1, 128]⟩
abbrev S1x8 : Shape := ⟨2, ![1, 8]⟩
abbrev S4096x8 : Shape := ⟨2, ![4096, 8]⟩
abbrev S_ : Shape := ⟨0, ![]⟩
abbrev S8 : Shape := ⟨1, ![8]⟩
abbrev S8x1 : Shape := ⟨2, ![8, 1]⟩
abbrev S8x128 : Shape := ⟨2, ![8, 128]⟩

abbrev nBuf : Space → Nat
  | .hbm => 76
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S8x4096x1, .f32⟩
  | .hbm, ⟨2, _⟩ => ⟨S4096x128, .f32⟩
  | .hbm, ⟨3, _⟩ => ⟨S1x128, .f32⟩
  | .hbm, ⟨4, _⟩ => ⟨S1x8, .f32⟩
  | .hbm, ⟨5, _⟩ => ⟨S4096x8, .f32⟩
  | .hbm, ⟨6, _⟩ => ⟨S4096x8, .f32⟩
  | .hbm, ⟨7, _⟩ => ⟨S4096x8, .f32⟩
  | .hbm, ⟨8, _⟩ => ⟨S4096x8, .f32⟩
  | .hbm, ⟨9, _⟩ => ⟨S_, .f32⟩
  | .hbm, ⟨10, _⟩ => ⟨S4096x8, .f32⟩
  | .hbm, ⟨11, _⟩ => ⟨S4096x8, .f32⟩
  | .hbm, ⟨12, _⟩ => ⟨S4096x8, .f32⟩
  | .hbm, ⟨13, _⟩ => ⟨S4096x8, .f32⟩
  | .hbm, ⟨14, _⟩ => ⟨S4096x8, .i1⟩
  | .hbm, ⟨15, _⟩ => ⟨S4096x8, .f32⟩
  | .hbm, ⟨16, _⟩ => ⟨S4096x8, .f32⟩
  | .hbm, ⟨17, _⟩ => ⟨S4096x8, .f32⟩
  | .hbm, ⟨18, _⟩ => ⟨S4096x8, .f32⟩
  | .hbm, ⟨19, _⟩ => ⟨S4096x8, .f32⟩
  | .hbm, ⟨20, _⟩ => ⟨S4096x8, .f32⟩
  | .hbm, ⟨21, _⟩ => ⟨S4096x8, .f32⟩
  | .hbm, ⟨22, _⟩ => ⟨S4096x8, .f32⟩
  | .hbm, ⟨23, _⟩ => ⟨S_, .f32⟩
  | .hbm, ⟨24, _⟩ => ⟨S4096x8, .f32⟩
  | .hbm, ⟨25, _⟩ => ⟨S4096x8, .i1⟩
  | .hbm, ⟨26, _⟩ => ⟨S_, .f32⟩
  | .hbm, ⟨27, _⟩ => ⟨S4096x8, .f32⟩
  | .hbm, ⟨28, _⟩ => ⟨S4096x8, .f32⟩
  | .hbm, ⟨29, _⟩ => ⟨S_, .f32⟩
  | .hbm, ⟨30, _⟩ => ⟨S4096x8, .f32⟩
  | .hbm, ⟨31, _⟩ => ⟨S4096x8, .i1⟩
  | .hbm, ⟨32, _⟩ => ⟨S_, .f32⟩
  | .hbm, ⟨33, _⟩ => ⟨S4096x8, .f32⟩
  | .hbm, ⟨34, _⟩ => ⟨S4096x8, .f32⟩
  | .hbm, ⟨35, _⟩ => ⟨S4096x8, .f32⟩
  | .hbm, ⟨36, _⟩ => ⟨S4096x8, .f32⟩
  | .hbm, ⟨37, _⟩ => ⟨S_, .f32⟩
  | .hbm, ⟨38, _⟩ => ⟨S_, .f32⟩
  | .hbm, ⟨39, _⟩ => ⟨S_, .i1⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S4096x8, .f32⟩
  | .hbm, ⟨45, _⟩ => ⟨S4096x8, .i1⟩
  | .hbm, ⟨46, _⟩ => ⟨S_, .f32⟩
  | .hbm, ⟨47, _⟩ => ⟨S4096x8, .f32⟩
  | .hbm, ⟨48, _⟩ => ⟨S4096x8, .f32⟩
  | .hbm, ⟨49, _⟩ => ⟨S4096x8, .f32⟩
  | .hbm, ⟨50, _⟩ => ⟨S4096x8, .f32⟩
  | .hbm, ⟨51, _⟩ => ⟨S4096x8, .f32⟩
  | .hbm, ⟨52, _⟩ => ⟨S_, .f32⟩
  | .hbm, ⟨53, _⟩ => ⟨S4096x8, .f32⟩
  | .hbm, ⟨54, _⟩ => ⟨S4096x8, .f32⟩
  | .hbm, ⟨55, _⟩ => ⟨S4096x8, .f32⟩
  | .hbm, ⟨56, _⟩ => ⟨S_, .f32⟩
  | .hbm, ⟨57, _⟩ => ⟨S_, .f32⟩
  | .hbm, ⟨58, _⟩ => ⟨S4096x8, .f32⟩
  | .hbm, ⟨59, _⟩ => ⟨S8x4096, .f32⟩
  | .hbm, ⟨60, _⟩ => ⟨S8x4096, .f32⟩
  | .hbm, ⟨61, _⟩ => ⟨S8x4096, .f32⟩
  | .hbm, ⟨62, _⟩ => ⟨S4096x8, .f32⟩
  | .hbm, ⟨63, _⟩ => ⟨S_, .f32⟩
  | .hbm, ⟨64, _⟩ => ⟨S_, .f32⟩
  | .hbm, ⟨65, _⟩ => ⟨S4096x8, .f32⟩
  | .hbm, ⟨66, _⟩ => ⟨S4096x8, .f32⟩
  | .hbm, ⟨67, _⟩ => ⟨S4096x8, .f32⟩
  | .hbm, ⟨68, _⟩ => ⟨S4096x8, .f32⟩
  | .hbm, ⟨69, _⟩ => ⟨S_, .f32⟩
  | .hbm, ⟨70, _⟩ => ⟨S8, .f32⟩
  | .hbm, ⟨71, _⟩ => ⟨S1x8, .f32⟩
  | .hbm, ⟨72, _⟩ => ⟨S_, .f32⟩
  | .hbm, ⟨73, _⟩ => ⟨S4096x128, .f32⟩
  | .hbm, ⟨74, _⟩ => ⟨S8x1, .f32⟩
  | .hbm, ⟨75, _⟩ => ⟨S8x128, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_call0_v5 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_v8 : Ref sig .tc := ⟨.hbm, 18, rfl⟩
abbrev main_call0_call0_v9 : Ref sig .tc := ⟨.hbm, 19, rfl⟩
abbrev main_call0_call0_v10 : Ref sig .tc := ⟨.hbm, 20, rfl⟩
abbrev main_call0_call0_v11 : Ref sig .tc := ⟨.hbm, 21, rfl⟩
abbrev main_call0_v1_0 : Ref sig .tc := ⟨.hbm, 22, rfl⟩
abbrev main_call0_call0_cst_0 : Ref sig .tc := ⟨.hbm, 23, rfl⟩
abbrev main_call0_call0_v13 : Ref sig .tc := ⟨.hbm, 24, rfl⟩
abbrev main_call0_call0_v14 : Ref sig .tc := ⟨.hbm, 25, rfl⟩
abbrev main_call0_call0_cst_1 : Ref sig .tc := ⟨.hbm, 26, rfl⟩
abbrev main_call0_call0_v15 : Ref sig .tc := ⟨.hbm, 27, rfl⟩
abbrev main_call0_call0_v16 : Ref sig .tc := ⟨.hbm, 28, rfl⟩
abbrev main_call0_call0_cst_2 : Ref sig .tc := ⟨.hbm, 29, rfl⟩
abbrev main_call0_call0_v17 : Ref sig .tc := ⟨.hbm, 30, rfl⟩
abbrev main_call0_call0_v18 : Ref sig .tc := ⟨.hbm, 31, rfl⟩
abbrev main_call0_call0_cst_3 : Ref sig .tc := ⟨.hbm, 32, rfl⟩
abbrev main_call0_call0_v19 : Ref sig .tc := ⟨.hbm, 33, rfl⟩
abbrev main_call0_call0_v20 : Ref sig .tc := ⟨.hbm, 34, rfl⟩
abbrev main_call0_call0_v21 : Ref sig .tc := ⟨.hbm, 35, rfl⟩
abbrev main_v4_1 : Ref sig .tc := ⟨.hbm, 36, rfl⟩
abbrev main_call0_call0_cst_4 : Ref sig .tc := ⟨.hbm, 37, rfl⟩
abbrev main_call0_call0_cst_5 : Ref sig .tc := ⟨.hbm, 38, rfl⟩
abbrev main_call0_call0_v23 : Ref sig .tc := ⟨.hbm, 39, rfl⟩
abbrev main_call0_call0_cst_6 : Ref sig .tc := ⟨.hbm, 40, rfl⟩
abbrev main_call0_call0_cst_7 : Ref sig .tc := ⟨.hbm, 41, rfl⟩
abbrev main_call0_call0_v24 : Ref sig .tc := ⟨.hbm, 42, rfl⟩
abbrev main_call0_call0_cst_8 : Ref sig .tc := ⟨.hbm, 43, rfl⟩
abbrev main_call0_call0_v25 : Ref sig .tc := ⟨.hbm, 44, rfl⟩
abbrev main_call0_call0_v26 : Ref sig .tc := ⟨.hbm, 45, rfl⟩
abbrev main_call0_call0_cst_9 : Ref sig .tc := ⟨.hbm, 46, rfl⟩
abbrev main_call0_call0_v27 : Ref sig .tc := ⟨.hbm, 47, rfl⟩
abbrev main_call0_call0_v28 : Ref sig .tc := ⟨.hbm, 48, rfl⟩
abbrev main_call0_call0_v29 : Ref sig .tc := ⟨.hbm, 49, rfl⟩
abbrev main_call0_call0_v30 : Ref sig .tc := ⟨.hbm, 50, rfl⟩
abbrev main_call0_call0_v31 : Ref sig .tc := ⟨.hbm, 51, rfl⟩
abbrev main_call0_call0_cst_10 : Ref sig .tc := ⟨.hbm, 52, rfl⟩
abbrev main_call0_call0_v32 : Ref sig .tc := ⟨.hbm, 53, rfl⟩
abbrev main_v4_2 : Ref sig .tc := ⟨.hbm, 54, rfl⟩
abbrev main_v4_0 : Ref sig .tc := ⟨.hbm, 55, rfl⟩
abbrev main_call1_call0_cst : Ref sig .tc := ⟨.hbm, 56, rfl⟩
abbrev main_call1_call0_v0 : Ref sig .tc := ⟨.hbm, 57, rfl⟩
abbrev main_v5 : Ref sig .tc := ⟨.hbm, 58, rfl⟩
abbrev main_v6 : Ref sig .tc := ⟨.hbm, 59, rfl⟩
abbrev main_v7 : Ref sig .tc := ⟨.hbm, 60, rfl⟩
abbrev main_v8 : Ref sig .tc := ⟨.hbm, 61, rfl⟩
abbrev main_v9 : Ref sig .tc := ⟨.hbm, 62, rfl⟩
abbrev main_call2_call0_cst : Ref sig .tc := ⟨.hbm, 63, rfl⟩
abbrev main_call2_call0_v0 : Ref sig .tc := ⟨.hbm, 64, rfl⟩
abbrev main_v10 : Ref sig .tc := ⟨.hbm, 65, rfl⟩
abbrev main_call3_v0 : Ref sig .tc := ⟨.hbm, 66, rfl⟩
abbrev main_call3_v1 : Ref sig .tc := ⟨.hbm, 67, rfl⟩
abbrev main_v11 : Ref sig .tc := ⟨.hbm, 68, rfl⟩
abbrev main_cst : Ref sig .tc := ⟨.hbm, 69, rfl⟩
abbrev main_v12 : Ref sig .tc := ⟨.hbm, 70, rfl⟩
abbrev main_v13 : Ref sig .tc := ⟨.hbm, 71, rfl⟩
abbrev main_cst_0 : Ref sig .tc := ⟨.hbm, 72, rfl⟩
abbrev main_v14 : Ref sig .tc := ⟨.hbm, 73, rfl⟩
abbrev main_v15 : Ref sig .tc := ⟨.hbm, 74, rfl⟩
abbrev main_v16 : Ref sig .tc := ⟨.hbm, 75, rfl⟩

abbrev nD : Nat := 1
abbrev τ : Topo := Topo.v7x

variable {F : FTy → Type} [FloatOps F]
-- ==== Modulation.lean ====
abbrev S8x2048 : Shape := ⟨2, ![8, 2048]⟩
abbrev S2048x1536 : Shape := ⟨2, ![2048, 1536]⟩
abbrev S8x1536 : Shape := ⟨2, ![8, 1536]⟩
abbrev S2048x512 : Shape := ⟨2, ![2048, 512]⟩
abbrev S8x512 : Shape := ⟨2, ![8, 512]⟩

abbrev nBuf : Space → Nat
  | .hbm => 4
  | .vmem => 6
  | .smem => 0
  | _ => 0

abbrev bufTy : (tb : Table) → Fin (tcTables nBuf tb) → BufTy
  | .hbm, ⟨0, _⟩ => ⟨S8x2048, .f32⟩
  | .hbm, ⟨1, _⟩ => ⟨S2048x1536, .f32⟩
  | .hbm, ⟨2, _⟩ => ⟨S8x1536, .f32⟩
  | .hbm, ⟨3, _⟩ => ⟨S8x2048, .f32⟩
  | .local _ .vmem, ⟨0, _⟩ => ⟨S8x2048, .f32⟩
  | .local _ .vmem, ⟨1, _⟩ => ⟨S2048x512, .f32⟩
  | .local _ .vmem, ⟨2, _⟩ => ⟨S2048x512, .f32⟩
  | .local _ .vmem, ⟨3, _⟩ => ⟨S8x512, .f32⟩
  | .local _ .vmem, ⟨4, _⟩ => ⟨S8x512, .f32⟩
  | .local _ .vmem, ⟨5, _⟩ => ⟨S8x2048, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ModulationReferenceIdeal.lean ====
abbrev S8x2048 : Shape := ⟨2, ![8, 2048]⟩
abbrev S2048x1536 : Shape := ⟨2, ![2048, 1536]⟩
abbrev S_ : Shape := ⟨0, ![]⟩
abbrev S8x1536 : Shape := ⟨2, ![8, 1536]⟩

abbrev nBuf : Space → Nat
  | .hbm => 12
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048x1536, .f32⟩
  | .hbm, ⟨2, _⟩ => ⟨S8x2048, .f32⟩
  | .hbm, ⟨3, _⟩ => ⟨S8x2048, .f32⟩
  | .hbm, ⟨4, _⟩ => ⟨S_, .f32⟩
  | .hbm, ⟨5, _⟩ => ⟨S8x2048, .f32⟩
  | .hbm, ⟨6, _⟩ => ⟨S8x2048, .f32⟩
  | .hbm, ⟨7, _⟩ => ⟨S_, .f32⟩
  | .hbm, ⟨8, _⟩ => ⟨S8x2048, .f32⟩
  | .hbm, ⟨9, _⟩ => ⟨S8x2048, .f32⟩
  | .hbm, ⟨10, _⟩ => ⟨S8x2048, .f32⟩
  | .hbm, ⟨11, _⟩ => ⟨S8x1536, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩

abbrev nD : Nat := 1
abbrev τ : Topo := Topo.v7x

variable {F : FTy → Type} [FloatOps F]
-- ==== Proof.Fox.Model.lean ====
/- What one point of the kernel's grid computes, as a function of what it reads: the blocks of 512 query rows it
   goes through, one after the other. Nothing here speaks of memory: the arrays are plain functions of an index, a
   block of rows is a window of them, and a store is the array with the window replaced. -/
module

public import proofs.«01_k».proof.Proof.Gen.KernelIdeal.Skeleton
public import Idealize.ShloMosaic.Lib.VecWindow

@[expose] public section

set_option maxRecDepth 16384

noncomputable section

namespace Cert.KernelIdeal.Fox

open Idealize.ShloMosaic Cert.KernelIdeal Cert.KernelIdeal.Gen

variable {F : FTy → Type} [FloatOps F]

/-- Where block `b` of 512 rows begins, in an array of rows and lanes. -/
def at2 (b : Fin 8) : Fin 2 → ℕ := ![512 * b.val, 0]
/-- Where block `b` of 512 rows begins, in a column with a leading axis of one. -/
def at3 (b : Fin 8) : Fin 3 → ℕ := ![0, 512 * b.val, 0]

theorem at2_inb (b : Fin 8) : ∀ a, at2 b a + S512x128.size a ≤ S4096x128.size a := by revert b; decide
theorem at2_inb' (b : Fin 8) : ∀ a, at2 b a + S512x1.size a ≤ S4096x1.size a := by revert b; decide
theorem at3_inb (b : Fin 8) : ∀ a, at3 b a + S1x512x1.size a ≤ S1x4096x1.size a := by revert b; decide

/-- Block `b` of an array of 128 lanes. -/
def rows {e : EltTy} (x : Vec F S4096x128 e) (b : Fin 8) : Vec F S512x128 e := VecWindow.window x (at2 b) S512x128.size (at2_inb b)
/-- Block `b` of a column. -/
def rowsC (x : Vec F S4096x1 .f32) (b : Fin 8) : Vec F S512x1 .f32 := VecWindow.window x (at2 b) S512x1.size (at2_inb' b)
/-- Block `b` of a column with a leading axis. -/
def rowsL (x : Vec F S1x4096x1 .f32) (b : Fin 8) : Vec F S1x512x1 .f32 := VecWindow.window x (at3 b) S1x512x1.size (at3_inb b)
/-- Replace block `b` of an array of 128 lanes. -/
def setRows (x : Vec F S4096x128 .f32) (b : Fin 8) (w : Vec F S512x128 .f32) : Vec F S4096x128 .f32 := VecWindow.put x (at2 b) S512x128.size w
/-- Replace block `b` of a column with a leading axis. -/
def setRowsL (x : Vec F S1x4096x1 .f32) (b : Fin 8) (w : Vec F S1x512x1 .f32) : Vec F S1x4096x1 .f32 := VecWindow.put x (at3 b) S1x512x1.size w

/-- What a point carries through its blocks: the sums for the keys, for the values and for the row of forget logits. -/
abbrev Acc (F : FTy → Type) [FloatOps F] := FVec F S1024x128 .f32 × FVec F S1024x128 .f32 × FVec F S1x1024 .f32

/-- The carried sums, the gradient of the queries and its column of row sums. -/
structure St (F : FTy → Type) [FloatOps F] where
  acc : Acc F
  dq : Vec F S4096x128 .f32
  dcq : Vec F S1x4096x1 .f32

/-- What a point reads: queries, output gradient, row statistics and deltas of the head, keys, values and forget row of its block. -/
structure In (F : FTy → Type) [FloatOps F] where
  q : Vec F S4096x128 .bf16
  dO : Vec F S4096x128 .bf16
  lse : Vec F S1x4096x1 .f32
  de : Vec F S4096x1 .f32
  k : Vec F S1024x128 .bf16
  v : Vec F S1024x128 .bf16
  c : Vec F S1x1x1024 .f32

/-- A block of rows strictly below the diagonal. -/
def half (x : In F) (b : Fin 8) (s : St F) : St F where
  acc := (k0_pay6 x.k x.v (k0_pay31 x.c) s.acc.1 (rows x.q b) (rows x.dO b) (rowsL x.lse b) (rowsC x.de b),
    k0_pay5 x.k (k0_pay31 x.c) s.acc.2.1 (rows x.q b) (rows x.dO b) (rowsL x.lse b),
    k0_pay9 s.acc.2.2 (k0_pay8 x.k x.v (k0_pay31 x.c) (rows x.q b) (rows x.dO b) (rowsL x.lse b) (rowsC x.de b)))
  dq := setRows s.dq b (k0_pay7 x.k x.v (k0_pay31 x.c) (rows x.q b) (rows x.dO b) (rowsL x.lse b) (rowsC x.de b) (rows s.dq b))
  dcq := setRowsL s.dcq b (k0_pay10 (k0_pay3 x.k x.v (k0_pay31 x.c) (rows x.q b) (rows x.dO b) (rowsL x.lse b) (rowsC x.de b)) (rowsL s.dcq b))

/-- The first block on the diagonal: only the first 512 keys are visible. The sums begin here. -/
def diag0 (x : In F) (b : Fin 8) (s : St F) : St F where
  acc := (k0_pay43 k0_pay32 (k0_pay36 x.v) (rows x.q b) (rows x.dO b) (k0_pay37 x.k x.c (rows x.q b) (rowsL x.lse b)) k0_pay38 (rowsC x.de b),
    k0_pay42 k0_pay33 (rows x.dO b) (k0_pay37 x.k x.c (rows x.q b) (rowsL x.lse b)) k0_pay38,
    k0_pay45 k0_pay34 (k0_pay36 x.v) (rows x.dO b) (k0_pay37 x.k x.c (rows x.q b) (rowsL x.lse b)) k0_pay38 (rowsC x.de b))
  dq := setRows s.dq b (k0_pay44 (k0_pay35 x.k) (k0_pay36 x.v) (rows x.dO b) (k0_pay37 x.k x.c (rows x.q b) (rowsL x.lse b)) k0_pay38 (rowsC x.de b) (rows s.dq b))
  dcq := setRowsL s.dcq b (k0_pay47 (k0_pay46 (k0_pay36 x.v) (rows x.dO b) (k0_pay37 x.k x.c (rows x.q b) (rowsL x.lse b)) k0_pay38 (rowsC x.de b) (rowsL s.dcq b)))

/-- The second block on the diagonal. -/
def diag1 (x : In F) (b : Fin 8) (s : St F) : St F where
  acc := (k0_pay52 x.k x.v (k0_pay31 x.c) s.acc.1 (rows x.q b) (rows x.dO b) (rowsL x.lse b) (rowsC x.de b),
    k0_pay51 x.k (k0_pay31 x.c) s.acc.2.1 (rows x.q b) (rows x.dO b) (rowsL x.lse b),
    k0_pay55 s.acc.2.2 (k0_pay49 x.k x.v (k0_pay31 x.c) (rows x.q b) (rows x.dO b) (rowsL x.lse b) (rowsC x.de b)))
  dq := setRows s.dq b (k0_pay54 x.k (k0_pay50 x.k x.v (k0_pay31 x.c) (rows x.q b) (rows x.dO b) (rowsL x.lse b) (rowsC x.de b)) (k0_pay53 (rows s.dq b)))
  dcq := setRowsL s.dcq b (k0_pay56 (k0_pay49 x.k x.v (k0_pay31 x.c) (rows x.q b) (rows x.dO b) (rowsL x.lse b) (rowsC x.de b)) (rowsL s.dcq b))

/-- Block number `n`. -/
def blk (n : ℕ) : Fin 8 := ⟨n % 8, Nat.mod_lt _ (by decide)⟩

/-- `n` blocks strictly below the diagonal, from block number `b` on. -/
def sweep (x : In F) (b : ℕ) (s : St F) : ℕ → St F
  | 0 => s
  | n + 1 => half x (blk (b + n)) (sweep x b s n)

/-- A point: the two blocks on the diagonal of key block `j`, and all blocks below. -/
def point (x : In F) (j : ℕ) (dq : Vec F S4096x128 .f32) (dcq : Vec F S1x4096x1 .f32) : St F :=
  sweep x (2 * (j + 1)) (diag1 x (blk (2 * j + 1)) (diag0 x (blk (2 * j)) ⟨(k0_pay32, k0_pay33, k0_pay34), dq, dcq⟩)) (2 * (3 - j))

end Cert.KernelIdeal.Fox
end
-- ==== Proof.Fox.Loop.lean ====
/- The counted loop of the kernel: after its trips the carried sums and the two arrays it adds to are those of
   `Fox.sweep`. -/
module

public import proofs.«01_k».proof.Proof.Fox.Model
public import proofs.«01_k».proof.Proof.Gen.KernelIdeal.Loops

@[expose] public section

set_option maxRecDepth 16384

noncomputable section

namespace Cert.KernelIdeal.Fox

open Idealize.ShloMosaic Cert.KernelIdeal Cert.KernelIdeal.Gen

variable {F : FTy → Type} [FloatOps F]

theorem off4_0 (i : grid0.Coords) (t : Fin (k0_t1_loop i).trips) : k0_off4 i t 0#32 = at2 (blk (2 * ((i 1).val + 1) + 2 * t.val)) := by revert i; decide +kernel
theorem off4_1 (i : grid0.Coords) (t : Fin (k0_t1_loop i).trips) : k0_off4 i t 512#32 = at2 (blk (2 * ((i 1).val + 1) + (2 * t.val + 1))) := by revert i; decide +kernel
theorem off5_0 (i : grid0.Coords) (t : Fin (k0_t1_loop i).trips) : k0_off5 i t 0#32 = at3 (blk (2 * ((i 1).val + 1) + 2 * t.val)) := by revert i; decide +kernel
theorem off5_1 (i : grid0.Coords) (t : Fin (k0_t1_loop i).trips) : k0_off5 i t 512#32 = at3 (blk (2 * ((i 1).val + 1) + (2 * t.val + 1))) := by revert i; decide +kernel
theorem off6_0 (i : grid0.Coords) (t : Fin (k0_t1_loop i).trips) : k0_off6 i t 0#32 = at2 (blk (2 * ((i 1).val + 1) + 2 * t.val)) := by revert i; decide +kernel
theorem off6_1 (i : grid0.Coords) (t : Fin (k0_t1_loop i).trips) : k0_off6 i t 512#32 = at2 (blk (2 * ((i 1).val + 1) + (2 * t.val + 1))) := by revert i; decide +kernel

theorem trips1 (i : grid0.Coords) : (k0_t1_loop i).trips = 3 - (i 1).val := by revert i; decide +kernel
theorem trips2 (i : grid0.Coords) : (k0_t2_loop i).trips = 0 := by revert i; decide +kernel

section Windows
variable {κ : Kind} {sp : Space}

theorem readRows {e : EltTy} (v : View sig κ sp S4096x128 e) (f : v.ty.Contents (Elt F)) {off : Fin 2 → ℕ} {b : Fin 8} (h : off = at2 b)
    (inb : ∀ a, off a + (![512, 128] : Fin 2 → ℕ) a ≤ S4096x128.size a) :
    v.readAt (Elt F) (Rect.unit (s := S4096x128) off ![512, 128] inb).toLoadRect f = rows (F := F) (v.read (Elt F) f) b :=
  View.readAt_unit v f inb h (at2_inb b)

theorem readRowsC (v : View sig κ sp S4096x1 .f32) (f : v.ty.Contents (Elt F)) {off : Fin 2 → ℕ} {b : Fin 8} (h : off = at2 b)
    (inb : ∀ a, off a + (![512, 1] : Fin 2 → ℕ) a ≤ S4096x1.size a) :
    v.readAt (Elt F) (Rect.unit (s := S4096x1) off ![512, 1] inb).toLoadRect f = rowsC (F := F) (v.read (Elt F) f) b :=
  View.readAt_unit v f inb h (at2_inb' b)

theorem readRowsL (v : View sig κ sp S1x4096x1 .f32) (f : v.ty.Contents (Elt F)) {off : Fin 3 → ℕ} {b : Fin 8} (h : off = at3 b)
    (inb : ∀ a, off a + (![1, 512, 1] : Fin 3 → ℕ) a ≤ S1x4096x1.size a) :
    v.readAt (Elt F) (Rect.unit (s := S1x4096x1) off ![1, 512, 1] inb).toLoadRect f = rowsL (F := F) (v.read (Elt F) f) b :=
  View.readAt_unit v f inb h (at3_inb b)

theorem writeRows (v : View sig κ sp S4096x128 .f32) (f : v.ty.Contents (Elt F)) {off : Fin 2 → ℕ} {b : Fin 8} (h : off = at2 b)
    (inb : ∀ a, off a + (![512, 128] : Fin 2 → ℕ) a ≤ S4096x128.size a) (w : (Rect.unit (s := S4096x128) off ![512, 128] inb).shape.Idx → Elt F .f32)
    (L : List (View.Piece (Elt F) S4096x128 .f32)) :
    v.read (Elt F) (v.writes (Elt F) f (⟨Rect.unit (s := S4096x128) off ![512, 128] inb, w⟩ :: L))
      = setRows (F := F) (v.read (Elt F) (v.writes (Elt F) f L)) b w :=
  View.read_writes_cons_put v f inb w L h

theorem writeRowsL (v : View sig κ sp S1x4096x1 .f32) (f : v.ty.Contents (Elt F)) {off : Fin 3 → ℕ} {b : Fin 8} (h : off = at3 b)
    (inb : ∀ a, off a + (![1, 512, 1] : Fin 3 → ℕ) a ≤ S1x4096x1.size a) (w : (Rect.unit (s := S1x4096x1) off ![1, 512, 1] inb).shape.Idx → Elt F .f32)
    (L : List (View.Piece (Elt F) S1x4096x1 .f32)) :
    v.read (Elt F) (v.writes (Elt F) f (⟨Rect.unit (s := S1x4096x1) off ![1, 512, 1] inb, w⟩ :: L))
      = setRowsL (F := F) (v.read (Elt F) (v.writes (Elt F) f L)) b w :=
  View.read_writes_cons_put v f inb w L h
theorem readRows' {e : EltTy} (v : View sig κ sp S4096x128 e) (f : v.ty.Contents (Elt F)) {off : Fin 2 → ℕ} {b : Fin 8} (h : off = at2 b)
    (inb : ∀ a, off a + S512x128.size a ≤ S4096x128.size a) :
    v.readAt (Elt F) (Rect.unit (s := S4096x128) off S512x128.size inb).toLoadRect f = rows (F := F) (v.read (Elt F) f) b :=
  View.readAt_unit v f inb h (at2_inb b)

theorem readRowsC' (v : View sig κ sp S4096x1 .f32) (f : v.ty.Contents (Elt F)) {off : Fin 2 → ℕ} {b : Fin 8} (h : off = at2 b)
    (inb : ∀ a, off a + S512x1.size a ≤ S4096x1.size a) :
    v.readAt (Elt F) (Rect.unit (s := S4096x1) off S512x1.size inb).toLoadRect f = rowsC (F := F) (v.read (Elt F) f) b :=
  View.readAt_unit v f inb h (at2_inb' b)

theorem readRowsL' (v : View sig κ sp S1x4096x1 .f32) (f : v.ty.Contents (Elt F)) {off : Fin 3 → ℕ} {b : Fin 8} (h : off = at3 b)
    (inb : ∀ a, off a + S1x512x1.size a ≤ S1x4096x1.size a) :
    v.readAt (Elt F) (Rect.unit (s := S1x4096x1) off S1x512x1.size inb).toLoadRect f = rowsL (F := F) (v.read (Elt F) f) b :=
  View.readAt_unit v f inb h (at3_inb b)

theorem writeRows' (v : View sig κ sp S4096x128 .f32) (f : v.ty.Contents (Elt F)) {off : Fin 2 → ℕ} {b : Fin 8} (h : off = at2 b)
    (inb : ∀ a, off a + S512x128.size a ≤ S4096x128.size a) (w : (Rect.unit (s := S4096x128) off S512x128.size inb).shape.Idx → Elt F .f32)
    (L : List (View.Piece (Elt F) S4096x128 .f32)) :
    v.read (Elt F) (v.writes (Elt F) f (⟨Rect.unit (s := S4096x128) off S512x128.size inb, w⟩ :: L))
      = setRows (F := F) (v.read (Elt F) (v.writes (Elt F) f L)) b w :=
  View.read_writes_cons_put v f inb w L h

theorem writeRowsL' (v : View sig κ sp S1x4096x1 .f32) (f : v.ty.Contents (Elt F)) {off : Fin 3 → ℕ} {b : Fin 8} (h : off = at3 b)
    (inb : ∀ a, off a + S1x512x1.size a ≤ S1x4096x1.size a) (w : (Rect.unit (s := S1x4096x1) off S1x512x1.size inb).shape.Idx → Elt F .f32)
    (L : List (View.Piece (Elt F) S1x4096x1 .f32)) :
    v.read (Elt F) (v.writes (Elt F) f (⟨Rect.unit (s := S1x4096x1) off S1x512x1.size inb, w⟩ :: L))
      = setRowsL (F := F) (v.read (Elt F) (v.writes (Elt F) f L)) b w :=
  View.read_writes_cons_put v f inb w L h

theorem readK {e : EltTy} (v : View sig κ sp S1024x128 e) (f : v.ty.Contents (Elt F)) (off : Fin 2 → ℕ) (inb : ∀ a, off a + (![1024, 128] : Fin 2 → ℕ) a ≤ S1024x128.size a) :
    v.readAt (Elt F) (Rect.unit (s := S1024x128) off ![1024, 128] inb).toLoadRect f = v.read (Elt F) f := View.readAt_full v f inb

theorem readC {e : EltTy} (v : View sig κ sp S1x1x1024 e) (f : v.ty.Contents (Elt F)) (off : Fin 3 → ℕ) (inb : ∀ a, off a + (![1, 1, 1024] : Fin 3 → ℕ) a ≤ S1x1x1024.size a) :
    v.readAt (Elt F) (Rect.unit (s := S1x1x1024) off ![1, 1, 1024] inb).toLoadRect f = v.read (Elt F) f := View.readAt_full v f inb

theorem readQ {e : EltTy} (v : View sig κ sp S4096x128 e) (f : v.ty.Contents (Elt F)) (off : Fin 2 → ℕ) (inb : ∀ a, off a + (![4096, 128] : Fin 2 → ℕ) a ≤ S4096x128.size a) :
    v.readAt (Elt F) (Rect.unit (s := S4096x128) off ![4096, 128] inb).toLoadRect f = v.read (Elt F) f := View.readAt_full v f inb

theorem writeQ {e : EltTy} (v : View sig κ sp S4096x128 e) (f : v.ty.Contents (Elt F)) (off : Fin 2 → ℕ) (inb : ∀ a, off a + (![4096, 128] : Fin 2 → ℕ) a ≤ S4096x128.size a)
    (w : (Rect.unit (s := S4096x128) off ![4096, 128] inb).shape.Idx → Elt F e) (L : List (View.Piece (Elt F) S4096x128 e)) :
    v.read (Elt F) (v.writes (Elt F) f (⟨Rect.unit (s := S4096x128) off ![4096, 128] inb, w⟩ :: L)) = w := View.read_writes_full v f inb w L

theorem writeL {e : EltTy} (v : View sig κ sp S1x4096x1 e) (f : v.ty.Contents (Elt F)) (off : Fin 3 → ℕ) (inb : ∀ a, off a + (![1, 4096, 1] : Fin 3 → ℕ) a ≤ S1x4096x1.size a)
    (w : (Rect.unit (s := S1x4096x1) off ![1, 4096, 1] inb).shape.Idx → Elt F e) (L : List (View.Piece (Elt F) S1x4096x1 e)) :
    v.read (Elt F) (v.writes (Elt F) f (⟨Rect.unit (s := S1x4096x1) off ![1, 4096, 1] inb, w⟩ :: L)) = w := View.read_writes_full v f inb w L

theorem writeD {e : EltTy} (v : View sig κ sp S4096x1 e) (f : v.ty.Contents (Elt F)) (off : Fin 2 → ℕ) (inb : ∀ a, off a + (![4096, 1] : Fin 2 → ℕ) a ≤ S4096x1.size a)
    (w : (Rect.unit (s := S4096x1) off ![4096, 1] inb).shape.Idx → Elt F e) (L : List (View.Piece (Elt F) S4096x1 e)) :
    v.read (Elt F) (v.writes (Elt F) f (⟨Rect.unit (s := S4096x1) off ![4096, 1] inb, w⟩ :: L)) = w := View.read_writes_full v f inb w L
end Windows

theorem apart {b b' : Fin 8} (h : b ≠ b') : 512 * b'.val + 512 ≤ 512 * b.val ∨ 512 * b.val + 512 ≤ 512 * b'.val := by
  have := fun e => h (Fin.ext e); omega

theorem rows_set_ne (x : Vec F S4096x128 .f32) {b b' : Fin 8} (w : Vec F S512x128 .f32) (h : b ≠ b') : rows (setRows x b w) b' = rows x b' :=
  VecWindow.window_put_of_disjoint x (at2 b) S512x128.size (at2 b') S512x128.size (at2_inb b') w 0 (apart h)

theorem rowsL_set_ne (x : Vec F S1x4096x1 .f32) {b b' : Fin 8} (w : Vec F S1x512x1 .f32) (h : b ≠ b') : rowsL (setRowsL x b w) b' = rowsL x b' :=
  VecWindow.window_put_of_disjoint x (at3 b) S1x512x1.size (at3 b') S1x512x1.size (at3_inb b') w 1 (apart h)

theorem blk_ne (n : ℕ) : blk n ≠ blk (n + 1) := fun h => by
  have := congrArg Fin.val h
  simp only [blk] at this
  omega

section
variable (𝒱 : Variants) (c : Dev nD) (bd : Option 𝒱.V) (i : grid0.Coords)
  (arg2 : Memref sig .tc .vmem S4096x128 .bf16) (harg2 : arg2.IsWhole) (arg3 : Memref sig .tc .vmem S4096x128 .bf16) (harg3 : arg3.IsWhole)
  (arg4 : Memref sig .tc .vmem S4096x128 .f32) (harg4 : arg4.IsWhole) (arg5 : Memref sig .tc .vmem S1x4096x1 .f32) (harg5 : arg5.IsWhole)
  (arg6 : Memref sig .tc .vmem S1024x128 .bf16) (harg6 : arg6.IsWhole) (arg7 : Memref sig .tc .vmem S1024x128 .bf16) (harg7 : arg7.IsWhole)
  (arg8 : Memref sig .tc .vmem S1x1x1024 .f32) (harg8 : arg8.IsWhole) (arg9 : Memref sig .tc .vmem S4096x128 .f32) (harg9 : arg9.IsWhole)
  (arg10 : Memref sig .tc .vmem S1024x128 .bf16) (harg10 : arg10.IsWhole) (arg11 : Memref sig .tc .vmem S1024x128 .bf16) (harg11 : arg11.IsWhole)
  (arg12 : Memref sig .tc .vmem S1x1x1024 .f32) (harg12 : arg12.IsWhole) (arg13 : Memref sig .tc .vmem S1x4096x1 .f32) (harg13 : arg13.IsWhole)
  (arg14 : Memref sig .tc .vmem S4096x1 .f32) (harg14 : arg14.IsWhole)
  (arg1 : BitVec 32) (x : In F) (v72 : FVec F S1x1024 .f32) (v85 : BitVec 32) (v113 : FVec F S512x1024 .f32) (v114 : FVec F S512x1024 .bf16)
  (v117 : FVec F S1024x128 .f32) (v119 : FVec F S1024x128 .f32) (v122 : FVec F S512x128 .f32) (v144 : BitVec 32)
  (X2 : BufTy.Contents (Elt F) arg2.view.ty) (X3 : BufTy.Contents (Elt F) arg3.view.ty) (X5 : BufTy.Contents (Elt F) arg5.view.ty)
  (X14 : BufTy.Contents (Elt F) arg14.view.ty)
  (h2 : arg2.view.read (Elt F) X2 = x.q) (h3 : arg3.view.read (Elt F) X3 = x.dO) (h5 : arg5.view.read (Elt F) X5 = x.lse)
  (h14 : arg14.view.read (Elt F) X14 = x.de)

include h2 h3 h5 h14 in
/-- One trip: two blocks, the second at the contents the first left. -/
theorem trip_val (t : Fin (k0_t1_loop i).trips) (acc : Acc F) (f9 : BufTy.Contents (Elt F) arg9.view.ty) (f13 : BufTy.Contents (Elt F) arg13.view.ty) :
    let T := trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg1 x.k x.v (k0_pay31 x.c) v72 v85 v113 v114 v117 v119 v122 v144 X2 X3 X5 X14 t
    let S := half x (blk (2 * ((i 1).val + 1) + (2 * t.val + 1))) (half x (blk (2 * ((i 1).val + 1) + 2 * t.val)) ⟨acc, arg9.view.read (Elt F) f9, arg13.view.read (Elt F) f13⟩)
    T.1 acc f9 f13 = S.acc ∧ arg9.view.read (Elt F) (arg9.view.writes (Elt F) f9 (T.2.1 acc f9 f13)) = S.dq ∧
      arg13.view.read (Elt F) (arg13.view.writes (Elt F) f13 (T.2.2.1 acc f9 f13)) = S.dcq := by
  intro T S
  simp only [T, S]
  unfold trip_k0_t1
  dsimp only
  sl_unfold_run_names
  have n : blk (2 * ((i 1).val + 1) + 2 * t.val) ≠ blk (2 * ((i 1).val + 1) + (2 * t.val + 1)) := blk_ne _
  simp only [readRows _ _ (off4_0 i t), readRows _ _ (off4_1 i t), readRowsC _ _ (off6_0 i t), readRowsC _ _ (off6_1 i t),
    readRowsL _ _ (off5_0 i t), readRowsL _ _ (off5_1 i t), writeRows _ _ (off4_0 i t), writeRows _ _ (off4_1 i t),
    writeRowsL _ _ (off5_0 i t), writeRowsL _ _ (off5_1 i t), View.writes_nil, h2, h3, h5, h14, half, rows_set_ne _ _ n, rowsL_set_ne _ _ n]
  exact ⟨rfl, rfl, rfl⟩

include h2 h3 h5 h14 in
/-- The trips before trip `t`, at the contents `G9` and `G13` and the sums `init` the loop begins with. -/
theorem st_val (G9 : BufTy.Contents (Elt F) arg9.view.ty) (G13 : BufTy.Contents (Elt F) arg13.view.ty) (init : Acc F) (t : ℕ) (ht : t ≤ (k0_t1_loop i).trips) :
    let T := st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg1 x.k x.v (k0_pay31 x.c) v72 v85 v113 v114 v117 v119 v122 v144 X2 X3 X5 X14 G9 G13 init t
    let S := sweep x (2 * ((i 1).val + 1)) ⟨init, arg9.view.read (Elt F) G9, arg13.view.read (Elt F) G13⟩ (2 * t)
    T.1 = S.acc ∧ arg9.view.read (Elt F) (arg9.view.writes (Elt F) G9 T.2.1) = S.dq ∧
      arg13.view.read (Elt F) (arg13.view.writes (Elt F) G13 T.2.2) = S.dcq := by
  induction t with
  | zero => exact ⟨rfl, rfl, rfl⟩
  | succ t ih =>
    obtain ⟨i1, i2, i3⟩ := ih (by omega)
    intro T S
    have e := trip_val 𝒱 c bd i arg2 harg2 arg3 harg3 arg4 harg4 arg5 harg5 arg6 harg6 arg7 harg7 arg8 harg8 arg9 harg9 arg10 harg10 arg11 harg11 arg12 harg12 arg13 harg13 arg14 harg14 arg1 x v72 v85 v113 v114 v117 v119 v122 v144 X2 X3 X5 X14 h2 h3 h5 h14 ⟨t, ht⟩
    have hT : T = _ := st_k0_t1_succ 𝒱 c bd i arg2 harg2 arg3 harg3 arg4 harg4 arg5 harg5 arg6 harg6 arg7 harg7 arg8 harg8 arg9 harg9 arg10 harg10 arg11 harg11 arg12 harg12 arg13 harg13 arg14 harg14 arg1 x.k x.v (k0_pay31 x.c) v72 v85 v113 v114 v117 v119 v122 v144 X2 X3 X5 X14 G9 G13 init ⟨t, ht⟩
    rw [hT]
    simp only [View.writes_append]
    have key : ∀ P : Acc F × List (View.Piece (Elt F) S4096x128 .f32) × List (View.Piece (Elt F) S1x4096x1 .f32), P = st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg1 x.k x.v (k0_pay31 x.c) v72 v85 v113 v114 v117 v119 v122 v144 X2 X3 X5 X14 G9 G13 init t → _ :=
      fun P _ => e P.1 (arg9.view.writes (Elt F) G9 P.2.1) (arg13.view.writes (Elt F) G13 P.2.2)
    obtain ⟨e1, e2, e3⟩ := key _ rfl
    have hs : ∀ (a : Acc F) (y : Vec F S4096x128 .f32) (z : Vec F S1x4096x1 .f32) (W : St F), a = W.acc → y = W.dq → z = W.dcq → (⟨a, y, z⟩ : St F) = W := by
      rintro _ _ _ ⟨⟩ rfl rfl rfl; rfl
    rw [hs _ _ _ _ i1 i2 i3] at e1 e2 e3
    exact ⟨e1, e2, e3⟩

include h2 h3 h5 h14 in
/-- The loop after the two blocks of the diagonal: the sums and arrays of the whole point. -/
theorem loop_val {v3 v4 : Vec F S1024x128 .bf16} {v6 : FVec F S1x1024 .f32} {G9 : BufTy.Contents (Elt F) arg9.view.ty} {G13 : BufTy.Contents (Elt F) arg13.view.ty} {init : Acc F}
    {n : ℕ} (dq : Vec F S4096x128 .f32) (dcq : Vec F S1x4096x1 .f32)
    (hn : n = (k0_t1_loop i).trips) (e3 : v3 = x.k) (e4 : v4 = x.v) (e6 : v6 = k0_pay31 x.c)
    (hi : init = (diag1 x (blk (2 * (i 1).val + 1)) (diag0 x (blk (2 * (i 1).val)) ⟨(k0_pay32, k0_pay33, k0_pay34), dq, dcq⟩)).acc)
    (h9 : arg9.view.read (Elt F) G9 = (diag1 x (blk (2 * (i 1).val + 1)) (diag0 x (blk (2 * (i 1).val)) ⟨(k0_pay32, k0_pay33, k0_pay34), dq, dcq⟩)).dq)
    (h13 : arg13.view.read (Elt F) G13 = (diag1 x (blk (2 * (i 1).val + 1)) (diag0 x (blk (2 * (i 1).val)) ⟨(k0_pay32, k0_pay33, k0_pay34), dq, dcq⟩)).dcq) :
    let T := st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg1 v3 v4 v6 v72 v85 v113 v114 v117 v119 v122 v144 X2 X3 X5 X14 G9 G13 init n
    T.1 = (point x (i 1).val dq dcq).acc ∧ arg9.view.read (Elt F) (arg9.view.writes (Elt F) G9 T.2.1) = (point x (i 1).val dq dcq).dq ∧
      arg13.view.read (Elt F) (arg13.view.writes (Elt F) G13 T.2.2) = (point x (i 1).val dq dcq).dcq := by
  subst e3 e4 e6 hn hi
  have e := st_val 𝒱 c bd i arg2 harg2 arg3 harg3 arg4 harg4 arg5 harg5 arg6 harg6 arg7 harg7 arg8 harg8 arg9 harg9 arg10 harg10 arg11 harg11 arg12 harg12 arg13 harg13 arg14 harg14 arg1 x v72 v85 v113 v114 v117 v119 v122 v144 X2 X3 X5 X14 h2 h3 h5 h14 G9 G13
    (diag1 x (blk (2 * (i 1).val + 1)) (diag0 x (blk (2 * (i 1).val)) ⟨(k0_pay32, k0_pay33, k0_pay34), dq, dcq⟩)).acc _ (le_refl _)
  rw [h9, h13] at e
  have ep : point x (i 1).val dq dcq = sweep x (2 * ((i 1).val + 1)) (diag1 x (blk (2 * (i 1).val + 1)) (diag0 x (blk (2 * (i 1).val)) ⟨(k0_pay32, k0_pay33, k0_pay34), dq, dcq⟩)) (2 * (k0_t1_loop i).trips) := by
    rw [trips1]; rfl
  rw [ep]
  exact e
end

end Cert.KernelIdeal.Fox
end
-- ==== Proof.Fox.Body.lean ====
/- One point of the grid as the program runs it: from the staged blocks to what it leaves in each buffer. -/
module

public import proofs.«01_k».proof.Proof.Fox.Loop
public import proofs.«01_k».proof.Proof.Gen.KernelIdeal.Frame

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The point is the first of its head: the branch that clears the query gradient and computes the deltas is taken. -/
abbrev First (i : grid0.Coords) : Prop := (Scalar.cmpi .ne (Scalar.extui (Scalar.cmpi .eq (BitVec.ofNat 32 (i 1).val) 0#32)) 0#32) = 1#1

theorem off1_0 (i : grid0.Coords) : k0_off1 i 0#32 = at2 (blk (2 * (i 1).val)) := by revert i; decide +kernel
theorem off1_1 (i : grid0.Coords) : k0_off1 i 512#32 = at2 (blk (2 * (i 1).val + 1)) := by revert i; decide +kernel
theorem off2_0 (i : grid0.Coords) : k0_off2 i 0#32 = at3 (blk (2 * (i 1).val)) := by revert i; decide +kernel
theorem off2_1 (i : grid0.Coords) : k0_off2 i 512#32 = at3 (blk (2 * (i 1).val + 1)) := by revert i; decide +kernel
theorem off3_0 (i : grid0.Coords) : k0_off3 i 0#32 = at2 (blk (2 * (i 1).val)) := by revert i; decide +kernel
theorem off3_1 (i : grid0.Coords) : k0_off3 i 512#32 = at2 (blk (2 * (i 1).val + 1)) := by revert i; decide +kernel
/-- The remainder loop makes no trip. -/
theorem trips0 (i : grid0.Coords) : Scf.trips (k0_t2_loop i).lb (k0_t2_loop i).ub (k0_t2_loop i).st = 0 := trips2 i

section
variable (c : Dev nD) (i : grid0.Coords)
  (arg2 : Memref sig .tc .vmem S4096x128 .bf16) (harg2 : arg2.IsWhole) (arg3 : Memref sig .tc .vmem S4096x128 .bf16) (harg3 : arg3.IsWhole)
  (arg4 : Memref sig .tc .vmem S4096x128 .f32) (harg4 : arg4.IsWhole) (arg5 : Memref sig .tc .vmem S1x4096x1 .f32) (harg5 : arg5.IsWhole)
  (arg6 : Memref sig .tc .vmem S1024x128 .bf16) (harg6 : arg6.IsWhole) (arg7 : Memref sig .tc .vmem S1024x128 .bf16) (harg7 : arg7.IsWhole)
  (arg8 : Memref sig .tc .vmem S1x1x1024 .f32) (harg8 : arg8.IsWhole) (arg9 : Memref sig .tc .vmem S4096x128 .f32) (harg9 : arg9.IsWhole)
  (arg10 : Memref sig .tc .vmem S1024x128 .bf16) (harg10 : arg10.IsWhole) (arg11 : Memref sig .tc .vmem S1024x128 .bf16) (harg11 : arg11.IsWhole)
  (arg12 : Memref sig .tc .vmem S1x1x1024 .f32) (harg12 : arg12.IsWhole) (arg13 : Memref sig .tc .vmem S1x4096x1 .f32) (harg13 : arg13.IsWhole)
  (arg14 : Memref sig .tc .vmem S4096x1 .f32) (harg14 : arg14.IsWhole)

set_option maxHeartbeats 1000000 in
theorem run_next (hc : ¬ First i) (x : In F) (o : Vec F S4096x128 .f32) (dq : Vec F S4096x128 .f32) (dcq : Vec F S1x4096x1 .f32) (E : Set ℕ) (K : PUnit → sProp 𝕄) :
    iprop(owns (c : Thread nD τ) arg2 fullShare x.q ∗ owns (c : Thread nD τ) arg3 fullShare x.dO ∗ owns (c : Thread nD τ) arg4 fullShare o ∗ owns (c : Thread nD τ) arg5 fullShare x.lse ∗ owns (c : Thread nD τ) arg6 fullShare x.k ∗ owns (c : Thread nD τ) arg7 fullShare x.v ∗ owns (c : Thread nD τ) arg8 fullShare x.c
        ∗ owns (c : Thread nD τ) arg9 fullShare dq ∗ (∃ d, owns (c : Thread nD τ) arg10 fullShare d) ∗ (∃ d, owns (c : Thread nD τ) arg11 fullShare d) ∗ (∃ d, owns (c : Thread nD τ) arg12 fullShare d) ∗ owns (c : Thread nD τ) arg13 fullShare dcq ∗ owns (c : Thread nD τ) arg14 fullShare x.de
        ∗ (iprop(owns (c : Thread nD τ) arg2 fullShare x.q ∗ owns (c : Thread nD τ) arg3 fullShare x.dO ∗ owns (c : Thread nD τ) arg4 fullShare o ∗ owns (c : Thread nD τ) arg5 fullShare x.lse ∗ owns (c : Thread nD τ) arg6 fullShare x.k ∗ owns (c : Thread nD τ) arg7 fullShare x.v ∗ owns (c : Thread nD τ) arg8 fullShare x.c
          ∗ owns (c : Thread nD τ) arg9 fullShare (point x (i 1).val dq dcq).dq ∗ owns (c : Thread nD τ) arg10 fullShare (k0_pay65 (point x (i 1).val dq dcq).acc.1) ∗ owns (c : Thread nD τ) arg11 fullShare (k0_pay66 (point x (i 1).val dq dcq).acc.2.1)
          ∗ owns (c : Thread nD τ) arg12 fullShare (k0_pay1 (point x (i 1).val dq dcq).acc.2.2) ∗ owns (c : Thread nD τ) arg13 fullShare (point x (i 1).val dq dcq).dcq ∗ owns (c : Thread nD τ) arg14 fullShare x.de) -∗ K ⟨⟩))
      ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11 arg12 harg12 arg13 harg13 arg14 harg14) K := by
  simp only [cc0_fox_bwd_eq_skeleton]; unfold cc0_fox_bwd_skel
  simp only [k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%fs0, %hs0, HS0⟩, Hk⟩
  sl_exec (disch := first | sl_exact hc)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]; rotate_left
  isplitl [H8]; rotate_left
  isplitl [H9]; rotate_left
  isplitl [H10]; rotate_left
  isplitl [H11]; rotate_left
  · iexists _; isplitr; swap; · iexact HS0
    ipureintro; exact hs0
  on_goal 5 =>
    iexists _; isplitr; swap; iexact H11; ipureintro
    rw [trips0, st_k0_t2.eq_1, List.nil_append, View.writes_append]
    refine (loop_val Variants.none c none i arg2 harg2 arg3 harg3 arg4 harg4 arg5 harg5 arg6 harg6 arg7 harg7 arg8 harg8 arg9 harg9 arg10 harg10 arg11 harg11 arg12 harg12 arg13 harg13 arg14 harg14 _ x _ _ _ _ _ _ _ _ _ _ _ _ hf0 hf1 hf3 hs0 dq dcq rfl ?_ ?_ ?_ ?_ ?_ ?_).2.2
  on_goal 4 =>
    iexists _; isplitr; swap; iexact H10; ipureintro
    rw [View.read_writes_full]; unfold run_next.sl.r_17; rw [trips0, st_k0_t2.eq_1]
    refine congrArg (fun z : Acc F => k0_pay1 z.2.2) (loop_val Variants.none c none i arg2 harg2 arg3 harg3 arg4 harg4 arg5 harg5 arg6 harg6 arg7 harg7 arg8 harg8 arg9 harg9 arg10 harg10 arg11 harg11 arg12 harg12 arg13 harg13 arg14 harg14 _ x _ _ _ _ _ _ _ _ _ _ _ _ hf0 hf1 hf3 hs0 dq dcq rfl ?_ ?_ ?_ ?_ ?_ ?_).1
  on_goal 3 =>
    iexists _; isplitr; swap; iexact H9; ipureintro
    rw [View.read_writes_full, trips0, st_k0_t2.eq_1]
    refine congrArg (fun z : Acc F => k0_pay66 z.2.1) (loop_val Variants.none c none i arg2 harg2 arg3 harg3 arg4 harg4 arg5 harg5 arg6 harg6 arg7 harg7 arg8 harg8 arg9 harg9 arg10 harg10 arg11 harg11 arg12 harg12 arg13 harg13 arg14 harg14 _ x _ _ _ _ _ _ _ _ _ _ _ _ hf0 hf1 hf3 hs0 dq dcq rfl ?_ ?_ ?_ ?_ ?_ ?_).1
  on_goal 2 =>
    iexists _; isplitr; swap; iexact H8; ipureintro
    rw [View.read_writes_full, trips0, st_k0_t2.eq_1]
    refine congrArg (fun z : Acc F => k0_pay65 z.1) (loop_val Variants.none c none i arg2 harg2 arg3 harg3 arg4 harg4 arg5 harg5 arg6 harg6 arg7 harg7 arg8 harg8 arg9 harg9 arg10 harg10 arg11 harg11 arg12 harg12 arg13 harg13 arg14 harg14 _ x _ _ _ _ _ _ _ _ _ _ _ _ hf0 hf1 hf3 hs0 dq dcq rfl ?_ ?_ ?_ ?_ ?_ ?_).1
  on_goal 1 =>
    iexists _; isplitr; swap; iexact H7; ipureintro
    rw [trips0, st_k0_t2.eq_1, List.nil_append, View.writes_append]
    refine (loop_val Variants.none c none i arg2 harg2 arg3 harg3 arg4 harg4 arg5 harg5 arg6 harg6 arg7 harg7 arg8 harg8 arg9 harg9 arg10 harg10 arg11 harg11 arg12 harg12 arg13 harg13 arg14 harg14 _ x _ _ _ _ _ _ _ _ _ _ _ _ hf0 hf1 hf3 hs0 dq dcq rfl ?_ ?_ ?_ ?_ ?_ ?_).2.1
  all_goals sl_unfold_run_names
  all_goals (simp only [readRows _ _ (off1_0 i), readRows _ _ (off1_1 i), readRowsC _ _ (off3_0 i), readRowsC _ _ (off3_1 i),
        readRowsL _ _ (off2_0 i), readRowsL _ _ (off2_1 i), writeRows _ _ (off1_0 i), writeRows _ _ (off1_1 i),
        writeRowsL _ _ (off2_0 i), writeRowsL _ _ (off2_1 i), View.writes_nil, readK, readC, hf0, hf1, hf3, hf4, hf5, hf6, hf7, hf11, hs0, diag0, diag1,
        rows_set_ne _ _ (blk_ne (2 * (i 1).val)), rowsL_set_ne _ _ (blk_ne (2 * (i 1).val))])
end

end Cert.KernelIdeal.Fox
end
-- ==== Proof.Fox.BodyFirst.lean ====
/- The first point of a head as the program runs it: it clears the query gradient and computes the deltas. -/
module

public import proofs.«01_k».proof.Proof.Fox.Body
public import proofs.«01_k».proof.Proof.Gen.KernelIdeal.Frame

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The first point of a head: the deltas from the output and its gradient, and the sums from nothing. -/
def first (x : In F) (o : Vec F S4096x128 .f32) (j : ℕ) : St F := point { x with de := k0_pay30 x.dO o } j k0_pay28 k0_pay29

section
variable (c : Dev nD) (i : grid0.Coords)
  (arg2 : Memref sig .tc .vmem S4096x128 .bf16) (harg2 : arg2.IsWhole) (arg3 : Memref sig .tc .vmem S4096x128 .bf16) (harg3 : arg3.IsWhole)
  (arg4 : Memref sig .tc .vmem S4096x128 .f32) (harg4 : arg4.IsWhole) (arg5 : Memref sig .tc .vmem S1x4096x1 .f32) (harg5 : arg5.IsWhole)
  (arg6 : Memref sig .tc .vmem S1024x128 .bf16) (harg6 : arg6.IsWhole) (arg7 : Memref sig .tc .vmem S1024x128 .bf16) (harg7 : arg7.IsWhole)
  (arg8 : Memref sig .tc .vmem S1x1x1024 .f32) (harg8 : arg8.IsWhole) (arg9 : Memref sig .tc .vmem S4096x128 .f32) (harg9 : arg9.IsWhole)
  (arg10 : Memref sig .tc .vmem S1024x128 .bf16) (harg10 : arg10.IsWhole) (arg11 : Memref sig .tc .vmem S1024x128 .bf16) (harg11 : arg11.IsWhole)
  (arg12 : Memref sig .tc .vmem S1x1x1024 .f32) (harg12 : arg12.IsWhole) (arg13 : Memref sig .tc .vmem S1x4096x1 .f32) (harg13 : arg13.IsWhole)
  (arg14 : Memref sig .tc .vmem S4096x1 .f32) (harg14 : arg14.IsWhole)

set_option maxHeartbeats 1000000 in
theorem run_first (hc : First i) (x : In F) (o : Vec F S4096x128 .f32) (E : Set ℕ) (K : PUnit → sProp 𝕄) :
    iprop(owns (c : Thread nD τ) arg2 fullShare x.q ∗ owns (c : Thread nD τ) arg3 fullShare x.dO ∗ owns (c : Thread nD τ) arg4 fullShare o ∗ owns (c : Thread nD τ) arg5 fullShare x.lse ∗ owns (c : Thread nD τ) arg6 fullShare x.k ∗ owns (c : Thread nD τ) arg7 fullShare x.v ∗ owns (c : Thread nD τ) arg8 fullShare x.c
        ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x.q ∗ owns (c : Thread nD τ) arg3 fullShare x.dO ∗ owns (c : Thread nD τ) arg4 fullShare o ∗ owns (c : Thread nD τ) arg5 fullShare x.lse ∗ owns (c : Thread nD τ) arg6 fullShare x.k ∗ owns (c : Thread nD τ) arg7 fullShare x.v ∗ owns (c : Thread nD τ) arg8 fullShare x.c
          ∗ owns (c : Thread nD τ) arg9 fullShare (first x o (i 1).val).dq ∗ owns (c : Thread nD τ) arg10 fullShare (k0_pay65 (first x o (i 1).val).acc.1) ∗ owns (c : Thread nD τ) arg11 fullShare (k0_pay66 (first x o (i 1).val).acc.2.1)
          ∗ owns (c : Thread nD τ) arg12 fullShare (k0_pay1 (first x o (i 1).val).acc.2.2) ∗ owns (c : Thread nD τ) arg13 fullShare (first x o (i 1).val).dcq ∗ owns (c : Thread nD τ) arg14 fullShare (k0_pay30 x.dO o)) -∗ K ⟨⟩))
      ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11 arg12 harg12 arg13 harg13 arg14 harg14) K := by
  simp only [cc0_fox_bwd_eq_skeleton]; unfold cc0_fox_bwd_skel
  simp only [k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%ds0, %fs0, -, HS0⟩, Hk⟩
  sl_exec (disch := first | sl_exact hc)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]; rotate_left
  isplitl [H8]; rotate_left
  isplitl [H9]; rotate_left
  isplitl [H10]; rotate_left
  isplitl [H11]; rotate_left
  · iexists _; isplitr; swap; · iexact HS0
    ipureintro; sl_unfold_run_names; simp only [writeD, readQ, hf1, hf2]
  on_goal 5 =>
    iexists _; isplitr; swap; iexact H11; ipureintro
    rw [trips0, st_k0_t2.eq_1, List.nil_append, View.writes_append]
    refine (loop_val Variants.none c none i arg2 harg2 arg3 harg3 arg4 harg4 arg5 harg5 arg6 harg6 arg7 harg7 arg8 harg8 arg9 harg9 arg10 harg10 arg11 harg11 arg12 harg12 arg13 harg13 arg14 harg14 _ { x with de := k0_pay30 x.dO o } _ _ _ _ _ _ _ _ _ _ _ _ hf0 hf1 hf3 ?_ k0_pay28 k0_pay29 rfl ?_ ?_ ?_ ?_ ?_ ?_).2.2
  on_goal 4 =>
    iexists _; isplitr; swap; iexact H10; ipureintro
    rw [View.read_writes_full]; unfold run_first.sl.r_17; rw [trips0, st_k0_t2.eq_1]
    refine congrArg (fun z : Acc F => k0_pay1 z.2.2) (loop_val Variants.none c none i arg2 harg2 arg3 harg3 arg4 harg4 arg5 harg5 arg6 harg6 arg7 harg7 arg8 harg8 arg9 harg9 arg10 harg10 arg11 harg11 arg12 harg12 arg13 harg13 arg14 harg14 _ { x with de := k0_pay30 x.dO o } _ _ _ _ _ _ _ _ _ _ _ _ hf0 hf1 hf3 ?_ k0_pay28 k0_pay29 rfl ?_ ?_ ?_ ?_ ?_ ?_).1
  on_goal 3 =>
    iexists _; isplitr; swap; iexact H9; ipureintro
    rw [View.read_writes_full, trips0, st_k0_t2.eq_1]
    refine congrArg (fun z : Acc F => k0_pay66 z.2.1) (loop_val Variants.none c none i arg2 harg2 arg3 harg3 arg4 harg4 arg5 harg5 arg6 harg6 arg7 harg7 arg8 harg8 arg9 harg9 arg10 harg10 arg11 harg11 arg12 harg12 arg13 harg13 arg14 harg14 _ { x with de := k0_pay30 x.dO o } _ _ _ _ _ _ _ _ _ _ _ _ hf0 hf1 hf3 ?_ k0_pay28 k0_pay29 rfl ?_ ?_ ?_ ?_ ?_ ?_).1
  on_goal 2 =>
    iexists _; isplitr; swap; iexact H8; ipureintro
    rw [View.read_writes_full, trips0, st_k0_t2.eq_1]
    refine congrArg (fun z : Acc F => k0_pay65 z.1) (loop_val Variants.none c none i arg2 harg2 arg3 harg3 arg4 harg4 arg5 harg5 arg6 harg6 arg7 harg7 arg8 harg8 arg9 harg9 arg10 harg10 arg11 harg11 arg12 harg12 arg13 harg13 arg14 harg14 _ { x with de := k0_pay30 x.dO o } _ _ _ _ _ _ _ _ _ _ _ _ hf0 hf1 hf3 ?_ k0_pay28 k0_pay29 rfl ?_ ?_ ?_ ?_ ?_ ?_).1
  on_goal 1 =>
    iexists _; isplitr; swap; iexact H7; ipureintro
    rw [trips0, st_k0_t2.eq_1, List.nil_append, View.writes_append]
    refine (loop_val Variants.none c none i arg2 harg2 arg3 harg3 arg4 harg4 arg5 harg5 arg6 harg6 arg7 harg7 arg8 harg8 arg9 harg9 arg10 harg10 arg11 harg11 arg12 harg12 arg13 harg13 arg14 harg14 _ { x with de := k0_pay30 x.dO o } _ _ _ _ _ _ _ _ _ _ _ _ hf0 hf1 hf3 ?_ k0_pay28 k0_pay29 rfl ?_ ?_ ?_ ?_ ?_ ?_).2.1
  all_goals sl_unfold_run_names
  all_goals (simp only [readRows _ _ (off1_0 i), readRows _ _ (off1_1 i), readRowsC _ _ (off3_0 i), readRowsC _ _ (off3_1 i),
        readRowsL _ _ (off2_0 i), readRowsL _ _ (off2_1 i), writeRows _ _ (off1_0 i), writeRows _ _ (off1_1 i),
        writeRowsL _ _ (off2_0 i), writeRowsL _ _ (off2_1 i), View.writes_nil, readK, readC, readQ, writeQ, writeL, writeD, View.readCov, hf2, hf0, hf1, hf3, hf4, hf5, hf6, diag0, diag1,
        rows_set_ne _ _ (blk_ne (2 * (i 1).val)), rowsL_set_ne _ _ (blk_ne (2 * (i 1).val))])
end

end Cert.KernelIdeal.Fox
end
-- ==== Proof.Fox.Frame.lean ====
/- The kernel's run with everything it leaves named: what every grid point leaves in each result's staging buffer, and
   so what the result arrays hold at the end. -/
module

public import proofs.«01_k».proof.Proof.Fox.BodyFirst
public import Idealize.ShloMosaic.Lib.Claim
public import Idealize.ShloMosaic.Lib.Pipeline.TableIdle

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid: eight heads, four key blocks each -/

theorem points (t : Fin cfg0.N) : t.val < 32 := Nat.lt_of_lt_of_eq t.isLt N_0
theorem coord0 (t : Fin cfg0.N) : (grid0.coords t 0).val = t.val / 4 := by
  have := points t
  have e : (grid0.coords t 0).val = t.val / 4 % 8 := Pipeline.Grid.coords_val t 0 (by decide) rfl
  omega
theorem coord1 (t : Fin cfg0.N) : (grid0.coords t 1).val = t.val % 4 := by
  have e : (grid0.coords t 1).val = t.val / 1 % 4 := Pipeline.Grid.coords_val t 1 (by decide) rfl
  omega
/-- The body's test for the first key block of a head. -/
theorem first_iff (t : Fin cfg0.N) : First (grid0.coords t) ↔ t.val % 4 = 0 := by
  have e0 := coord0 t
  have e1 := coord1 t
  simp only [First, e1]
  word_cmp

/-- The first point of the head that point `t` works on. -/
def headPt (t : Fin cfg0.N) : Fin cfg0.N := ⟨4 * (t.val / 4), by have := t.isLt; omega⟩
theorem headPt_first (t : Fin cfg0.N) (h : t.val % 4 = 0) : headPt t = t := Fin.ext (by unfold headPt; simp only; omega)
theorem headPt_next (n : ℕ) (hn : n + 1 < cfg0.N) (h : ¬(n + 1) % 4 = 0) :
    headPt ⟨n + 1, hn⟩ = headPt ⟨n, Nat.lt_of_succ_lt hn⟩ := Fin.ext (by unfold headPt; simp only; omega)

/-! ## What a point reads and leaves -/

/-- The deltas the scratch buffer holds at point `t`: those of the head's blocks of the output and its gradient. -/
def deAt (c : Dev nD) (t : Fin cfg0.N) : Vec F S4096x1 .f32 := k0_pay30 (iblk m c 1 (headPt t)) (iblk m c 2 (headPt t))
/-- The blocks point `t` works on. -/
def inAt (c : Dev nD) (t : Fin cfg0.N) : In F :=
  { q := iblk m c 0 t, dO := iblk m c 1 t, lse := iblk m c 3 t, de := deAt m c t, k := iblk m c 4 t, v := iblk m c 5 t, c := iblk m c 6 t }
/-- The sums after each point: a head's first point starts from nothing, a later one goes on from the point before. -/
def stAt (c : Dev nD) : (n : ℕ) → n < cfg0.N → St F
  | 0, h => point (inAt m c ⟨0, h⟩) 0 k0_pay28 k0_pay29
  | n + 1, h =>
    if (n + 1) % 4 = 0 then point (inAt m c ⟨n + 1, h⟩) ((n + 1) % 4) k0_pay28 k0_pay29
    else point (inAt m c ⟨n + 1, h⟩) ((n + 1) % 4) (stAt c n (Nat.lt_of_succ_lt h)).dq (stAt c n (Nat.lt_of_succ_lt h)).dcq
theorem stAt_first (c : Dev nD) (n : ℕ) (h : n < cfg0.N) (h0 : n % 4 = 0) :
    stAt m c n h = first (inAt m c ⟨n, h⟩) (iblk m c 2 ⟨n, h⟩) (n % 4) := by
  have e : ({ inAt m c ⟨n, h⟩ with de := k0_pay30 (inAt m c ⟨n, h⟩).dO (iblk m c 2 ⟨n, h⟩) } : In F) = inAt m c ⟨n, h⟩ := by
    have hd : deAt m c ⟨n, h⟩ = k0_pay30 (iblk m c 1 ⟨n, h⟩) (iblk m c 2 ⟨n, h⟩) := by unfold deAt; rw [headPt_first ⟨n, h⟩ h0]
    unfold inAt; simp only [hd]
  unfold first; rw [e]
  cases n with
  | zero => rfl
  | succ n => rw [stAt, if_pos h0]
theorem stAt_next (c : Dev nD) (n : ℕ) (h : n + 1 < cfg0.N) (h0 : ¬(n + 1) % 4 = 0) :
    stAt m c (n + 1) h = point (inAt m c ⟨n + 1, h⟩) ((n + 1) % 4) (stAt m c n (Nat.lt_of_succ_lt h)).dq (stAt m c n (Nat.lt_of_succ_lt h)).dcq := by
  rw [stAt, if_neg h0]

/-- The scratch buffer of the deltas. -/
abbrev scr : Memref sig .tc .vmem S4096x1 .f32 := Memref.whole cc0_scratch0
theorem rest_eq (c : Dev nD) :
    (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

/-- What holds of the scratch buffer before each point: anything at the start, then the deltas of the point before. -/
def Inv (c : Dev nD) : (n : ℕ) → n ≤ cfg0.N → sProp 𝕄
  | 0, _ => Pipeline.ΦA spec0 c
  | n + 1, hn => iprop(iprop(owns (c : Thread nD τ) scr fullShare (deAt m c ⟨n, hn⟩)) ∗ (∃ r, prngReg c r))
theorem Inv_zero (c : Dev nD) (n : ℕ) (h : n ≤ cfg0.N) (hz : n = 0) : Inv m c n h = Pipeline.ΦA spec0 c := by
  subst hz; rfl
theorem Inv_succ (c : Dev nD) (n : ℕ) (hn : n < cfg0.N) :
    Inv m c (n + 1) hn = iprop(iprop(owns (c : Thread nD τ) scr fullShare (deAt m c ⟨n, hn⟩)) ∗ (∃ r, prngReg c r)) := rfl

/-- The run's data: the arrays as the region finds them, each input's buffer at its block, and each result's buffer at
    what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (stAt m c t.val t.isLt).dq
    | ⟨8, _⟩ => k0_pay65 (stAt m c t.val t.isLt).acc.1
    | ⟨9, _⟩ => k0_pay66 (stAt m c t.val t.isLt).acc.2.1
    | ⟨10, _⟩ => k0_pay1 (stAt m c t.val t.isLt).acc.2.2
    | ⟨11, _⟩ => (stAt m c t.val t.isLt).dcq
  Φ t := Inv m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem Inv_castSucc (c : Dev nD) (t : Fin cfg0.N) : (dats m 0 c).Φ t.castSucc = Inv m c t.val (Nat.le_of_lt t.isLt) := by
  dsimp only [dats]; exact Pipeline.Dat.Φ_castSucc (Inv m c) t
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = (stAt m c t.val t.isLt).dq := by dsimp only [dats]
theorem after_8 (c : Dev nD) (t : Fin cfg0.N) : (dats m 0 c).after 8 t = k0_pay65 (stAt m c t.val t.isLt).acc.1 := by dsimp only [dats]
theorem after_9 (c : Dev nD) (t : Fin cfg0.N) : (dats m 0 c).after 9 t = k0_pay66 (stAt m c t.val t.isLt).acc.2.1 := by dsimp only [dats]
theorem after_10 (c : Dev nD) (t : Fin cfg0.N) : (dats m 0 c).after 10 t = k0_pay1 (stAt m c t.val t.isLt).acc.2.2 := by dsimp only [dats]
theorem after_11 (c : Dev nD) (t : Fin cfg0.N) : (dats m 0 c).after 11 t = (stAt m c t.val t.isLt).dcq := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
/-- Inside a head the query gradient buffer holds what the point before left. -/
theorem before_7 (c : Dev nD) (n : ℕ) (h : n + 1 < cfg0.N) (h0 : ¬(n + 1) % 4 = 0) (d) :
    (dats m 0 c).before 7 ⟨n + 1, h⟩ d = (stAt m c n (Nat.lt_of_succ_lt h)).dq := by
  rw [(dats m 0 c).before_out_traj 7 rfl (fun _ _ => rfl) (fun _ _ hi _ => absurd hi Bool.false_ne_true) (n + 1) ⟨n + 1, h⟩ rfl d,
    Cfg.fresh_succ cfg0 7 n (Nat.lt_of_succ_lt h)]
  have hf : (cfg0.win 7).flush ⟨n, Nat.lt_of_succ_lt h⟩ = false := by
    rw [Bool.eq_false_iff]; intro e; have := (flush0_7 ⟨n, Nat.lt_of_succ_lt h⟩).mp e; simp only at this; omega
  rw [hf, Bool.false_or, show cfg0.idle 7 (cfg0.grid.coords ⟨n, Nat.lt_of_succ_lt h⟩) = false from rfl, Bool.false_and, if_neg Bool.false_ne_true]
  exact after_7 m c _
/-- Inside a head the row sums buffer holds what the point before left. -/
theorem before_11 (c : Dev nD) (n : ℕ) (h : n + 1 < cfg0.N) (h0 : ¬(n + 1) % 4 = 0) (d) :
    (dats m 0 c).before 11 ⟨n + 1, h⟩ d = (stAt m c n (Nat.lt_of_succ_lt h)).dcq := by
  rw [(dats m 0 c).before_out_traj 11 rfl (fun _ _ => rfl) (fun _ _ hi _ => absurd hi Bool.false_ne_true) (n + 1) ⟨n + 1, h⟩ rfl d,
    Cfg.fresh_succ cfg0 11 n (Nat.lt_of_succ_lt h)]
  have hf : (cfg0.win 11).flush ⟨n, Nat.lt_of_succ_lt h⟩ = false := by
    rw [Bool.eq_false_iff]; intro e; have := (flush0_11 ⟨n, Nat.lt_of_succ_lt h⟩).mp e; simp only at this; omega
  rw [hf, Bool.false_or, show cfg0.idle 11 (cfg0.grid.coords ⟨n, Nat.lt_of_succ_lt h⟩) = false from rfl, Bool.false_and, if_neg Bool.false_ne_true]
  exact after_11 m c _

/-! ## The body at a point -/

abbrev st0 (t : Fin cfg0.N) : Memref sig .tc .vmem S4096x128 .bf16 := win0_0.stage (cfg0.slots t 0)
abbrev st1 (t : Fin cfg0.N) : Memref sig .tc .vmem S4096x128 .bf16 := win0_1.stage (cfg0.slots t 1)
abbrev st2 (t : Fin cfg0.N) : Memref sig .tc .vmem S4096x128 .f32 := win0_2.stage (cfg0.slots t 2)
abbrev st3 (t : Fin cfg0.N) : Memref sig .tc .vmem S1x4096x1 .f32 := win0_3.stage (cfg0.slots t 3)
abbrev st4 (t : Fin cfg0.N) : Memref sig .tc .vmem S1024x128 .bf16 := win0_4.stage (cfg0.slots t 4)
abbrev st5 (t : Fin cfg0.N) : Memref sig .tc .vmem S1024x128 .bf16 := win0_5.stage (cfg0.slots t 5)
abbrev st6 (t : Fin cfg0.N) : Memref sig .tc .vmem S1x1x1024 .f32 := win0_6.stage (cfg0.slots t 6)
abbrev st7 (t : Fin cfg0.N) : Memref sig .tc .vmem S4096x128 .f32 := win0_7.stage (cfg0.slots t 7)
abbrev st8 (t : Fin cfg0.N) : Memref sig .tc .vmem S1024x128 .bf16 := win0_8.stage (cfg0.slots t 8)
abbrev st9 (t : Fin cfg0.N) : Memref sig .tc .vmem S1024x128 .bf16 := win0_9.stage (cfg0.slots t 9)
abbrev st10 (t : Fin cfg0.N) : Memref sig .tc .vmem S1x1x1024 .f32 := win0_10.stage (cfg0.slots t 10)
abbrev st11 (t : Fin cfg0.N) : Memref sig .tc .vmem S1x4096x1 .f32 := win0_11.stage (cfg0.slots t 11)

def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d))
    ∗ (∃ d, owns (c : Thread nD τ) (st9 t) fullShare ((dats m 0 c).before 9 t d))
    ∗ (∃ d, owns (c : Thread nD τ) (st10 t) fullShare ((dats m 0 c).before 10 t d))
    ∗ (∃ d, owns (c : Thread nD τ) (st11 t) fullShare ((dats m 0 c).before 11 t d)))
def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t)
    ∗ owns (c : Thread nD τ) (st6 t) fullShare ((dats m 0 c).after 6 t)
    ∗ owns (c : Thread nD τ) (st7 t) fullShare ((dats m 0 c).after 7 t)
    ∗ owns (c : Thread nD τ) (st8 t) fullShare ((dats m 0 c).after 8 t)
    ∗ owns (c : Thread nD τ) (st9 t) fullShare ((dats m 0 c).after 9 t)
    ∗ owns (c : Thread nD τ) (st10 t) fullShare ((dats m 0 c).after 10 t)
    ∗ owns (c : Thread nD τ) (st11 t) fullShare ((dats m 0 c).after 11 t))

set_option maxHeartbeats 4000000 in
/-- At the first point of a head. -/
theorem body_first (c : Dev nD) (t : Fin cfg0.N) (h0 : t.val % 4 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl, after_0, after_1, after_2, after_3, after_4, after_5, after_6, after_7, after_8, after_9, after_10, after_11,
    show (dats m 0 c).Φ t.succ = Inv m c (t.val + 1) t.isLt from rfl, Inv_succ, Inv_castSucc m c t]
  have hs : (iprop(Inv m c t.val (Nat.le_of_lt t.isLt)) : sProp 𝕄) ⊢ iprop(iprop((∃ d, owns (c : Thread nD τ) scr fullShare d)) ∗ (∃ r, prngReg c r)) := by
    obtain ⟨n, hn⟩ := t
    cases n with
    | zero => rw [Inv_zero m c _ _ rfl, rest_eq]
    | succ n =>
      rw [Inv_succ m c n (Nat.lt_of_succ_lt hn)]
      iintro ⟨HS0, Hg⟩
      isplitl [HS0]
      · iexists _; iexact HS0
      iexact Hg
  have hv := stAt_first m c t.val t.isLt h0
  have hd : deAt m c t = k0_pay30 (iblk m c 1 t) (iblk m c 2 t) := by unfold deAt; rw [headPt_first t h0]
  rw [show (⟨t.val, t.isLt⟩ : Fin cfg0.N) = t from rfl] at hv
  rw [hv, hd, ← coord1 t]
  refine (Laws.sep_mono_left hs).trans ?_
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_first c (grid0.coords t) _ _ _ _ _ _ _ _ _ _ _ _ _ _ _ _ _ _ _ _ _ _ _ _ _ _ ((first_iff t).mpr h0) (inAt m c t) (iblk m c 2 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [HS0]; · iexact HS0
  iintro ⟨H0, H1, H2, H3, H4, H5, H6, H7, H8, H9, H10, H11, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option maxHeartbeats 4000000 in
/-- At a later point. -/
theorem body_next (c : Dev nD) (n : ℕ) (hn : n + 1 < cfg0.N) (h0 : ¬(n + 1) % 4 = 0) :
    bodyPre m c ⟨n + 1, hn⟩ ⊢ wp frame (wpE (defs₀ (F := F)) Variants.none c none) Set.univ (bodyAt0 ⟨n + 1, hn⟩) (fun _ => bodyPost m c ⟨n + 1, hn⟩) := by
  unfold bodyPre bodyPost bodyAt0
  simp only [before_0, before_1, before_2, before_3, before_4, before_5, before_6, before_7 m c n hn h0, before_11 m c n hn h0]
  rw [show (dats m 0 c).owesAt () (Fin.succ ⟨n + 1, hn⟩) = (dats m 0 c).owesAt () (Fin.castSucc ⟨n + 1, hn⟩) from rfl, after_0, after_1, after_2, after_3, after_4, after_5, after_6, after_7, after_8, after_9, after_10, after_11,
    show (dats m 0 c).Φ (Fin.succ ⟨n + 1, hn⟩) = Inv m c (n + 1 + 1) hn from rfl, Inv_succ m c (n + 1) hn, Inv_castSucc m c ⟨n + 1, hn⟩,
    Inv_succ m c n (Nat.lt_of_succ_lt hn)]
  have hd : deAt m c ⟨n, Nat.lt_of_succ_lt hn⟩ = deAt m c ⟨n + 1, hn⟩ := by unfold deAt; rw [headPt_next n hn h0]
  have hj : (n + 1) % 4 = (grid0.coords ⟨n + 1, hn⟩ 1).val := (coord1 ⟨n + 1, hn⟩).symm
  rw [stAt_next m c n hn h0, hd, hj]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_next c (grid0.coords ⟨n + 1, hn⟩) _ _ _ _ _ _ _ _ _ _ _ _ _ _ _ _ _ _ _ _ _ _ _ _ _ _ (fun hc => h0 ((first_iff _).mp hc)) (inAt m c ⟨n + 1, hn⟩) (iblk m c 2 ⟨n + 1, hn⟩) (stAt m c n (Nat.lt_of_succ_lt hn)).dq (stAt m c n (Nat.lt_of_succ_lt hn)).dcq Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexact H11
  isplitl [HS0]; · iexact HS0
  iintro ⟨H0, H1, H2, H3, H4, H5, H6, H7, H8, H9, H10, H11, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_at (c : Dev nD) (t : Fin cfg0.N) :
    bodyPre m c t ⊢ wp frame (wpE (defs₀ (F := F)) Variants.none c none) Set.univ (bodyAt0 t) (fun _ => bodyPost m c t) := by
  by_cases h0 : t.val % 4 = 0
  · exact body_first m c t h0
  · obtain ⟨n, hn⟩ := t
    cases n with
    | zero => exact absurd (Nat.zero_mod 4) h0
    | succ n => exact body_next m c n hn h0

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (body_at m c t) rfl .rfl fun _ => .rfl

theorem inv_in (c : Dev nD) : Pipeline.ΦA spec0 c ⊢ (dats m 0 c).Φ 0 := by
  rw [show (dats m 0 c).Φ 0 = Inv m c 0 (Nat.zero_le _) from rfl, Inv_zero m c 0 _ rfl]

theorem inv_out (c : Dev nD) : (dats m 0 c).Φ (Fin.last cfg0.N) ⊢ Pipeline.ΦA spec0 c := by
  rw [show (dats m 0 c).Φ (Fin.last cfg0.N) = Inv m c cfg0.N (Nat.le_refl _) from rfl]
  have e : ∀ n (h : n ≤ cfg0.N), n ≠ 0 → (Inv m c n h : sProp 𝕄) ⊢ Pipeline.ΦA spec0 c := by
    intro n h hz
    cases n with
    | zero => exact absurd rfl hz
    | succ n =>
      rw [Inv_succ m c n h, rest_eq]
      iintro ⟨HS0, Hg⟩
      isplitl [HS0]
      · iexists _; iexact HS0
      iexact Hg
  exact e _ _ (by have : cfg0.N = 32 := N_0; omega)

set_option backward.isDefEq.respectTransparency.types false in
/-- Every run ends with each array as the points leave it, every other buffer as the region found it and every counter at zero. -/
theorem run_main : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := inv_in m) (hout := inv_out m)

/-- The frame: the arguments end as they were and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => ⟨((h.1 c).1 5).trans (((dats m 0 c).arrAt_in 5 rfl _).trans ((A_eq m c 5).trans (V_main_arg0 m c))),
      ((h.1 c).1 6).trans (((dats m 0 c).arrAt_in 6 rfl _).trans ((A_eq m c 6).trans (V_main_arg1 m c))),
      ((h.1 c).1 1).trans (((dats m 0 c).arrAt_in 1 rfl _).trans ((A_eq m c 1).trans (V_main_arg2 m c)))⟩, h.2⟩) (run_main m ρ)

end Cert.KernelIdeal.Fox

end
-- ==== Proof.Fox.Val.lean ====
/- What one point of the grid computes over the real numbers: every block of 512 rows adds its part of the sums, and the
   parts of all the blocks are the sums over all rows. A row that does not see a key adds nothing for it. -/
module

public import proofs.«01_k».proof.Proof.Fox.Model
public import Idealize.ShloMosaic.Lib.Pointwise
public import Idealize.ShloMosaic.Lib.WordCmp

@[expose] public section

set_option maxRecDepth 16384

noncomputable section

namespace Cert.KernelIdeal.Fox

open Idealize.ShloMosaic Cert.KernelIdeal Cert.KernelIdeal.Gen
open Finset (range)

/-! ## Real numbers among the extended ones -/

theorem coe_sum (n : ℕ) (f : ℕ → ℝ) : ∑ i : Fin n, ((f i.val : ℝ) : EReal) = ((∑ i ∈ range n, f i : ℝ) : EReal) := by
  induction n with
  | zero => simp
  | succ n ih => rw [Fin.sum_univ_castSucc, Finset.sum_range_succ, EReal.coe_add, ← ih]; rfl
theorem coe_sum_mul (n : ℕ) (f g : ℕ → ℝ) :
    ∑ i : Fin n, ((f i.val : ℝ) : EReal) * ((g i.val : ℝ) : EReal) = ((∑ i ∈ range n, f i * g i : ℝ) : EReal) := by
  rw [← coe_sum]; exact Finset.sum_congr rfl fun i _ => (EReal.coe_mul _ _).symm
theorem zero_sub_coe (a : ℝ) : (0 : EReal) - (a : EReal) = ((-a : ℝ) : EReal) := by
  rw [← EReal.coe_zero, ← EReal.coe_sub, zero_sub]

/-- The scale of the logits. -/
def sc : ℝ := (Ideal.ofBits .f32 0x3DB504F3#32 : EReal).toReal
theorem sc_eq : (Ideal.ofBits .f32 1035273459#32 : EReal) = (sc : EReal) := by
  refine (EReal.coe_toReal ?_ ?_).symm <;> simp [Ideal.ofBits, Ideal.ieee, -EReal.coe_mul]

/-! ## The numbers a point works on -/

/-- Queries, output gradient, row statistics and deltas by row; keys, values and forget row by key. -/
structure Nums where
  q : ℕ → ℕ → ℝ
  dO : ℕ → ℕ → ℝ
  lse : ℕ → ℝ
  de : ℕ → ℝ
  k : ℕ → ℕ → ℝ
  v : ℕ → ℕ → ℝ
  c : ℕ → ℝ

/-- The arrays of a point hold these numbers. -/
structure Reads (x : In Ideal) (y : Nums) : Prop where
  q : ∀ (r : Fin 4096) (l : Fin 128), x.q (ix2 r l) = ((y.q r.val l.val : ℝ) : EReal)
  dO : ∀ (r : Fin 4096) (l : Fin 128), x.dO (ix2 r l) = ((y.dO r.val l.val : ℝ) : EReal)
  lse : ∀ r : Fin 4096, x.lse (ix3 0 r 0) = ((y.lse r.val : ℝ) : EReal)
  de : ∀ r : Fin 4096, x.de (ix2 r 0) = ((y.de r.val : ℝ) : EReal)
  k : ∀ (n : Fin 1024) (l : Fin 128), x.k (ix2 n l) = ((y.k n.val l.val : ℝ) : EReal)
  v : ∀ (n : Fin 1024) (l : Fin 128), x.v (ix2 n l) = ((y.v n.val l.val : ℝ) : EReal)
  c : ∀ n : Fin 1024, x.c (ix3 0 0 n) = ((y.c n.val : ℝ) : EReal)

/-- The inner product of row `R` of one array with row `n` of another. -/
def ip (a b : ℕ → ℕ → ℝ) (R n : ℕ) : ℝ := ∑ l ∈ range 128, a R l * b n l
/-- The weight row `R` gives key `n` of block `j`: nothing if the key comes after the row. -/
def wt (y : Nums) (j R n : ℕ) : ℝ := if 1024 * j + n ≤ R then Real.exp (ip y.q y.k R n * sc - y.c n - y.lse R) else 0
/-- The gradient of the logit of row `R` and key `n` of block `j`. -/
def dl (y : Nums) (j R n : ℕ) : ℝ := wt y j R n * (ip y.dO y.v R n - y.de R)

theorem wt_zero (y : Nums) {j R n : ℕ} (h : R < 1024 * j + n) : wt y j R n = 0 := if_neg (by omega)
theorem dl_zero (y : Nums) {j R n : ℕ} (h : R < 1024 * j + n) : dl y j R n = 0 := by unfold dl; rw [wt_zero y h, zero_mul]

/-! ## Rows of a block -/

/-- Row `r` of block `b`. -/
def row (b : Fin 8) (r : Fin 512) : Fin 4096 := ⟨512 * b.val + r.val, by omega⟩

theorem rows_apply {e : EltTy} (x : Vec Ideal S4096x128 e) (b : Fin 8) (r : Fin 512) (l : Fin 128) : rows x b (ix2 r l) = x (ix2 (row b r) l) := by
  unfold rows VecWindow.window
  congr 1; funext a; match a with
  | 0 => exact Fin.ext (show 512 * b.val + 1 * r.val = 512 * b.val + r.val by omega)
  | 1 => exact Fin.ext (show 0 + 1 * l.val = l.val by omega)
theorem rowsC_apply (x : Vec Ideal S4096x1 .f32) (b : Fin 8) (r : Fin 512) : rowsC x b (ix2 r 0) = x (ix2 (row b r) 0) := by
  unfold rowsC VecWindow.window
  congr 1; funext a; match a with
  | 0 => exact Fin.ext (show 512 * b.val + 1 * r.val = 512 * b.val + r.val by omega)
  | 1 => rfl
theorem rowsL_apply (x : Vec Ideal S1x4096x1 .f32) (b : Fin 8) (r : Fin 512) : rowsL x b (ix3 0 r 0) = x (ix3 0 (row b r) 0) := by
  unfold rowsL VecWindow.window
  congr 1; funext a; match a with
  | 0 => rfl
  | 1 => exact Fin.ext (show 512 * b.val + 1 * r.val = 512 * b.val + r.val by omega)
  | 2 => rfl
theorem setRows_in (x : Vec Ideal S4096x128 .f32) (b : Fin 8) (w : Vec Ideal S512x128 .f32) (r : Fin 512) (l : Fin 128) :
    setRows x b w (ix2 (row b r) l) = w (ix2 r l) := by
  rw [← rows_apply (setRows x b w) b r l]
  exact congrFun (VecWindow.window_put_same x (at2 b) S512x128.size (at2_inb b) w) (ix2 r l)
theorem setRows_out (x : Vec Ideal S4096x128 .f32) (b : Fin 8) (w : Vec Ideal S512x128 .f32) (R : Fin 4096) (l : Fin 128)
    (h : R.val < 512 * b.val ∨ 512 * b.val + 512 ≤ R.val) : setRows x b w (ix2 R l) = x (ix2 R l) := by
  unfold setRows VecWindow.put
  refine dif_neg fun H => ?_
  have h0 : 512 * b.val ≤ R.val ∧ R.val < 512 * b.val + 512 := H 0
  omega
theorem setRowsL_in (x : Vec Ideal S1x4096x1 .f32) (b : Fin 8) (w : Vec Ideal S1x512x1 .f32) (r : Fin 512) :
    setRowsL x b w (ix3 0 (row b r) 0) = w (ix3 0 r 0) := by
  rw [← rowsL_apply (setRowsL x b w) b r]
  exact congrFun (VecWindow.window_put_same x (at3 b) S1x512x1.size (at3_inb b) w) (ix3 0 r 0)
theorem setRowsL_out (x : Vec Ideal S1x4096x1 .f32) (b : Fin 8) (w : Vec Ideal S1x512x1 .f32) (R : Fin 4096)
    (h : R.val < 512 * b.val ∨ 512 * b.val + 512 ≤ R.val) : setRowsL x b w (ix3 0 R 0) = x (ix3 0 R 0) := by
  unfold setRowsL VecWindow.put
  refine dif_neg fun H => ?_
  have h0 : 512 * b.val ≤ R.val ∧ R.val < 512 * b.val + 512 := H 1
  omega

/-! ## The weights and the logits' gradients of a block -/

/-- The exponential the blocks have in common. -/
theorem weight (x : In Ideal) (y : Nums) (hx : Reads x y) (b : Fin 8) (r : Fin 512) (n : Fin 1024) :
    Ideal.exp ((∑ l : Fin 128, rows x.q b (ix2 r l) * x.k (ix2 n l)) * Ideal.ofBits .f32 1035273459#32 - x.c (ix3 0 0 n) - rowsL x.lse b (ix3 0 r 0))
      = ((Real.exp (ip y.q y.k (512 * b.val + r.val) n.val * sc - y.c n.val - y.lse (512 * b.val + r.val)) : ℝ) : EReal) := by
  simp only [rows_apply, rowsL_apply, hx.q, hx.k, hx.c, hx.lse, sc_eq]
  rw [coe_sum_mul 128 (fun l => y.q (row b r).val l) (fun l => y.k n.val l), ← EReal.coe_mul, ← EReal.coe_sub, ← EReal.coe_sub]
  rfl
/-- The products of the output gradient with the values, less the delta of the row. -/
theorem dweight (x : In Ideal) (y : Nums) (hx : Reads x y) (b : Fin 8) (r : Fin 512) (n : Fin 1024) :
    (∑ l : Fin 128, rows x.dO b (ix2 r l) * x.v (ix2 n l)) - rowsC x.de b (ix2 r 0)
      = ((ip y.dO y.v (512 * b.val + r.val) n.val - y.de (512 * b.val + r.val) : ℝ) : EReal) := by
  simp only [rows_apply, rowsC_apply, hx.dO, hx.v, hx.de]
  rw [coe_sum_mul 128 (fun l => y.dO (row b r).val l) (fun l => y.v n.val l), ← EReal.coe_sub]
  rfl
/-- A masked weight. -/
theorem masked (p : Prop) (w : BitVec 1) (hw : w = 1#1 ↔ p) [Decidable p] (a : ℝ) :
    Scalar.select w (a : EReal) (0 : EReal) = ((if p then a else 0 : ℝ) : EReal) := by
  unfold Scalar.select
  by_cases h : p
  · rw [if_pos h]; simp [hw.mpr h]
  · rw [if_neg h]; simp [mt hw.mp h]

theorem nat_sge (a b : ℕ) (ha : a < 4096) (hb : b < 4096) (w : BitVec 32) (hw : w = BitVec.ofNat 32 a) :
    IntOp.cmpi CmpIPredicate.sge w (BitVec.ofNat 32 b) = 1#1 ↔ b ≤ a := by
  subst hw
  have e : ∀ k : ℕ, k < 4096 → (BitVec.ofNat 32 k).toInt = (k : ℤ) := fun k hk => by
    rw [BitVec.toInt_eq_toNat_of_lt (by rw [BitVec.toNat_ofNat, Nat.mod_eq_of_lt (by omega)]; omega), BitVec.toNat_ofNat, Nat.mod_eq_of_lt (by omega)]
  show BitVec.ofBool (BitVec.sle (BitVec.ofNat 32 b) (BitVec.ofNat 32 a)) = 1#1 ↔ _
  rw [show (BitVec.ofBool (BitVec.sle (BitVec.ofNat 32 b) (BitVec.ofNat 32 a)) = 1#1) ↔ BitVec.sle (BitVec.ofNat 32 b) (BitVec.ofNat 32 a) = true from by
    cases BitVec.sle (BitVec.ofNat 32 b) (BitVec.ofNat 32 a) <;> decide, BitVec.sle_iff_toInt_le, e b hb, e a ha]
  omega
theorem sees512 (r : Fin 512) (n : Fin 1024) :
    IntOp.cmpi CmpIPredicate.sge (IntOp.addi (BitVec.ofNat 32 r.val) 512#32) (BitVec.ofNat 32 n.val) = 1#1 ↔ n.val ≤ r.val + 512 :=
  nat_sge _ _ (by omega) (by omega) _ (BitVec.ofNat_add r.val 512).symm
theorem sees0 (r n : Fin 512) :
    IntOp.cmpi CmpIPredicate.sge (IntOp.addi (BitVec.ofNat 32 r.val) 0#32) (BitVec.ofNat 32 n.val) = 1#1 ↔ n.val ≤ r.val :=
  nat_sge _ _ (by omega) (by omega) _ (BitVec.ofNat_add r.val 0).symm

section
variable (x : In Ideal) (y : Nums) (hx : Reads x y) (j : ℕ)
include hx

theorem half_wt (b : Fin 8) (hb : 1024 * (j + 1) ≤ 512 * b.val) (r : Fin 512) (n : Fin 1024) :
    k0_pay2 x.k (k0_pay31 x.c) (rows x.q b) (rowsL x.lse b) (ix2 r n) = ((wt y j (512 * b.val + r.val) n.val : ℝ) : EReal) := by
  pointwise [k0_pay2, k0_pay31]
  rw [weight x y hx b r n, wt, if_pos (by omega)]
theorem half_dl (b : Fin 8) (hb : 1024 * (j + 1) ≤ 512 * b.val) (r : Fin 512) (n : Fin 1024) :
    k0_pay3 x.k x.v (k0_pay31 x.c) (rows x.q b) (rows x.dO b) (rowsL x.lse b) (rowsC x.de b) (ix2 r n)
      = ((dl y j (512 * b.val + r.val) n.val : ℝ) : EReal) := by
  have hw := half_wt x y hx j b hb r n
  pointwise [k0_pay3]
  rw [hw, dweight x y hx b r n, ← EReal.coe_mul]; rfl
theorem diag1_wt (b : Fin 8) (hb : b.val = 2 * j + 1) (r : Fin 512) (n : Fin 1024) :
    k0_pay48 x.k (k0_pay31 x.c) (rows x.q b) (rowsL x.lse b) (ix2 r n) = ((wt y j (512 * b.val + r.val) n.val : ℝ) : EReal) := by
  pointwise [k0_pay48, k0_pay31]
  rw [weight x y hx b r n, masked _ _ (sees512 r n), wt]
  congr 1
  exact if_congr (by omega) rfl rfl
theorem diag1_dl (b : Fin 8) (hb : b.val = 2 * j + 1) (r : Fin 512) (n : Fin 1024) :
    k0_pay49 x.k x.v (k0_pay31 x.c) (rows x.q b) (rows x.dO b) (rowsL x.lse b) (rowsC x.de b) (ix2 r n)
      = ((dl y j (512 * b.val + r.val) n.val : ℝ) : EReal) := by
  have hw := diag1_wt x y hx j b hb r n
  pointwise [k0_pay49]
  rw [hw, dweight x y hx b r n, ← EReal.coe_mul]; rfl
theorem diag0_wt (b : Fin 8) (hb : b.val = 2 * j) (r n : Fin 512) :
    k0_pay39 (k0_pay37 x.k x.c (rows x.q b) (rowsL x.lse b)) k0_pay38 (ix2 r n) = ((wt y j (512 * b.val + r.val) n.val : ℝ) : EReal) := by
  have hw := weight x y hx b r ⟨n.val, by omega⟩
  pointwise [k0_pay39, k0_pay37, k0_pay38, k0_pay31, k0_pay35]
  rw [hw, masked _ _ (sees0 r n), wt]
  congr 1
  exact if_congr (by omega) rfl rfl
theorem diag0_dl (b : Fin 8) (hb : b.val = 2 * j) (r n : Fin 512) :
    k0_pay40 (k0_pay36 x.v) (rows x.dO b) (k0_pay37 x.k x.c (rows x.q b) (rowsL x.lse b)) k0_pay38 (rowsC x.de b) (ix2 r n)
      = ((dl y j (512 * b.val + r.val) n.val : ℝ) : EReal) := by
  have hw := diag0_wt x y hx j b hb r n
  have hd := dweight x y hx b r ⟨n.val, by omega⟩
  pointwise [k0_pay40, k0_pay36]
  rw [hw, hd, ← EReal.coe_mul]; rfl

end

end Cert.KernelIdeal.Fox
end
-- ==== Proof.Fox.ValStep.lean ====
/- The sums a point carries, block by block: after the blocks up to row 512 m they are the sums over the rows below 512 m. -/
module

public import proofs.«01_k».proof.Proof.Fox.Val

@[expose] public section

set_option maxRecDepth 16384

noncomputable section

namespace Cert.KernelIdeal.Fox

open Idealize.ShloMosaic Cert.KernelIdeal Cert.KernelIdeal.Gen
open Finset (range)

/-- What the rows below `R` leave: the gradients of keys, values and forget row, and the query gradient and row sums of those rows
    added to `dq` and `dcq`. -/
structure Good (y : Nums) (j : ℕ) (dq : ℕ → ℕ → ℝ) (dcq : ℕ → ℝ) (N : ℕ) (s : St Ideal) : Prop where
  dk : ∀ (n : Fin 1024) (l : Fin 128), s.acc.1 (ix2 n l) = ((∑ R ∈ range N, dl y j R n.val * y.q R l.val : ℝ) : EReal)
  dv : ∀ (n : Fin 1024) (l : Fin 128), s.acc.2.1 (ix2 n l) = ((∑ R ∈ range N, wt y j R n.val * y.dO R l.val : ℝ) : EReal)
  dc : ∀ n : Fin 1024, s.acc.2.2 (ix2 0 n) = ((-∑ R ∈ range N, dl y j R n.val : ℝ) : EReal)
  dq : ∀ (R : Fin 4096) (l : Fin 128), s.dq (ix2 R l)
    = ((dq R.val l.val + if R.val < N then (∑ n ∈ range 1024, dl y j R.val n * y.k n l.val) * sc else 0 : ℝ) : EReal)
  dcq : ∀ R : Fin 4096, s.dcq (ix3 0 R 0) = ((dcq R.val + if R.val < N then ∑ n ∈ range 1024, dl y j R.val n else 0 : ℝ) : EReal)

/-- What block `b` adds to the sums `s`. -/
structure Adds (y : Nums) (j : ℕ) (b : Fin 8) (s s' : St Ideal) : Prop where
  dk : ∀ (n : Fin 1024) (l : Fin 128), s'.acc.1 (ix2 n l)
    = s.acc.1 (ix2 n l) + ((∑ r ∈ range 512, dl y j (512 * b.val + r) n.val * y.q (512 * b.val + r) l.val : ℝ) : EReal)
  dv : ∀ (n : Fin 1024) (l : Fin 128), s'.acc.2.1 (ix2 n l)
    = s.acc.2.1 (ix2 n l) + ((∑ r ∈ range 512, wt y j (512 * b.val + r) n.val * y.dO (512 * b.val + r) l.val : ℝ) : EReal)
  dc : ∀ n : Fin 1024, s'.acc.2.2 (ix2 0 n) = s.acc.2.2 (ix2 0 n) + ((-∑ r ∈ range 512, dl y j (512 * b.val + r) n.val : ℝ) : EReal)
  dq : ∃ w, s'.dq = setRows s.dq b w ∧ ∀ (r : Fin 512) (l : Fin 128), w (ix2 r l)
    = s.dq (ix2 (row b r) l) + (((∑ n ∈ range 1024, dl y j (512 * b.val + r.val) n * y.k n l.val) * sc : ℝ) : EReal)
  dcq : ∃ w, s'.dcq = setRowsL s.dcq b w ∧ ∀ r : Fin 512, w (ix3 0 r 0)
    = s.dcq (ix3 0 (row b r) 0) + ((∑ n ∈ range 1024, dl y j (512 * b.val + r.val) n : ℝ) : EReal)

theorem row_val (b : Fin 8) (r : Fin 512) : (row b r).val = 512 * b.val + r.val := rfl
theorem row_or (b : Fin 8) (R : Fin 4096) : (∃ r, R = row b r) ∨ R.val < 512 * b.val ∨ 512 * b.val + 512 ≤ R.val := by
  by_cases h : R.val < 512 * b.val ∨ 512 * b.val + 512 ≤ R.val
  · exact .inr h
  · exact .inl ⟨⟨R.val - 512 * b.val, by omega⟩, Fin.ext (show R.val = 512 * b.val + (R.val - 512 * b.val) by omega)⟩

theorem Good.step {y : Nums} {j : ℕ} {dq : ℕ → ℕ → ℝ} {dcq : ℕ → ℝ} {b : Fin 8} {s s' : St Ideal}
    (h : Good y j dq dcq (512 * b.val) s) (a : Adds y j b s s') : Good y j dq dcq (512 * b.val + 512) s' where
  dk n l := by rw [a.dk, h.dk, ← EReal.coe_add, Finset.sum_range_add]
  dv n l := by rw [a.dv, h.dv, ← EReal.coe_add, Finset.sum_range_add]
  dc n := by rw [a.dc, h.dc, ← EReal.coe_add, Finset.sum_range_add, neg_add]
  dq R l := by
    obtain ⟨w, e, hw⟩ := a.dq
    rw [e]
    rcases row_or b R with ⟨r, rfl⟩ | hR
    · rw [setRows_in, hw, h.dq, ← EReal.coe_add, if_neg (by simp [row]), if_pos (by simp [row]), add_zero]; rfl
    · rw [setRows_out _ _ _ _ _ hR, h.dq]
      congr 2
      exact if_congr (by omega) rfl rfl
  dcq R := by
    obtain ⟨w, e, hw⟩ := a.dcq
    rw [e]
    rcases row_or b R with ⟨r, rfl⟩ | hR
    · rw [setRowsL_in, hw, h.dcq, ← EReal.coe_add, if_neg (by simp [row]), if_pos (by simp [row]), add_zero]; rfl
    · rw [setRowsL_out _ _ _ _ hR, h.dcq]
      congr 2
      exact if_congr (by omega) rfl rfl

/-- A sum over 512 keys is the sum over all keys when the others add nothing. -/
theorem keys512 (f : ℕ → ℝ) (h : ∀ n, 512 ≤ n → f n = 0) : ∑ n ∈ range 512, f n = ∑ n ∈ range 1024, f n := by
  rw [show (1024 : ℕ) = 512 + 512 from rfl, Finset.sum_range_add, Finset.sum_eq_zero (fun i _ => h (512 + i) (by omega)), add_zero]

section
variable (x : In Ideal) (y : Nums) (hx : Reads x y) (j : ℕ) (b : Fin 8) (s : St Ideal)
include hx

theorem half_adds (hb : 1024 * (j + 1) ≤ 512 * b.val) : Adds y j b s (half x b s) where
  dk n l := by
    have hd := half_dl x y hx j b hb
    unfold half
    pointwise [k0_pay6, k0_pay4]
    simp only [hd, rows_apply, hx.q, row_val]
    rw [coe_sum_mul 512 (fun r => dl y j (512 * b.val + r) n.val) (fun r => y.q (512 * b.val + r) l.val)]
  dv n l := by
    have hd := half_wt x y hx j b hb
    unfold half
    pointwise [k0_pay5]
    simp only [hd, rows_apply, hx.dO, row_val]
    rw [coe_sum_mul 512 (fun r => wt y j (512 * b.val + r) n.val) (fun r => y.dO (512 * b.val + r) l.val)]
  dc n := by
    have hd := half_dl x y hx j b hb
    unfold half
    pointwise [k0_pay9, k0_pay8]
    simp only [hd]
    rw [coe_sum 512 (fun r => dl y j (512 * b.val + r) n.val), zero_sub_coe]
  dq := by
    refine ⟨_, rfl, fun r l => ?_⟩
    have hd := half_dl x y hx j b hb
    pointwise [k0_pay7, k0_pay4]
    simp only [hd, rows_apply, hx.k, sc_eq]
    rw [coe_sum_mul 1024 (fun n => dl y j (512 * b.val + r.val) n) (fun n => y.k n l.val), ← EReal.coe_mul]
  dcq := by
    refine ⟨_, rfl, fun r => ?_⟩
    have hd := half_dl x y hx j b hb
    pointwise [k0_pay10]
    simp only [hd, rowsL_apply]
    rw [coe_sum 1024 (fun n => dl y j (512 * b.val + r.val) n)]

theorem diag1_adds (hb : b.val = 2 * j + 1) : Adds y j b s (diag1 x b s) where
  dk n l := by
    have hd := diag1_dl x y hx j b hb
    unfold diag1
    pointwise [k0_pay52, k0_pay50]
    simp only [hd, rows_apply, hx.q, row_val]
    rw [coe_sum_mul 512 (fun r => dl y j (512 * b.val + r) n.val) (fun r => y.q (512 * b.val + r) l.val)]
  dv n l := by
    have hd := diag1_wt x y hx j b hb
    unfold diag1
    pointwise [k0_pay51]
    simp only [hd, rows_apply, hx.dO, row_val]
    rw [coe_sum_mul 512 (fun r => wt y j (512 * b.val + r) n.val) (fun r => y.dO (512 * b.val + r) l.val)]
  dc n := by
    have hd := diag1_dl x y hx j b hb
    unfold diag1
    pointwise [k0_pay55]
    simp only [hd]
    rw [coe_sum 512 (fun r => dl y j (512 * b.val + r) n.val), zero_sub_coe]
  dq := by
    refine ⟨_, rfl, fun r l => ?_⟩
    have hd := diag1_dl x y hx j b hb
    pointwise [k0_pay54, k0_pay53, k0_pay50]
    simp only [hd, rows_apply, hx.k, sc_eq]
    rw [coe_sum_mul 1024 (fun n => dl y j (512 * b.val + r.val) n) (fun n => y.k n l.val), ← EReal.coe_mul]
  dcq := by
    refine ⟨_, rfl, fun r => ?_⟩
    have hd := diag1_dl x y hx j b hb
    pointwise [k0_pay56]
    simp only [hd, rowsL_apply]
    rw [coe_sum 1024 (fun n => dl y j (512 * b.val + r.val) n)]

theorem diag0_adds (hb : b.val = 2 * j) (hs : s.acc = (k0_pay32, k0_pay33, k0_pay34)) : Adds y j b s (diag0 x b s) where
  dk n l := by
    have hd := diag0_dl x y hx j b hb
    have hz := fun r (hr : r < 512) (h : 512 ≤ n.val) => dl_zero y (j := j) (R := 512 * b.val + r) (n := n.val) (by omega)
    rw [hs]; unfold diag0
    pointwise [k0_pay43, k0_pay41, k0_pay32]
    split
    · simp only [hd, rows_apply, hx.q, row_val, zero_add]
      rw [coe_sum_mul 512 (fun r => dl y j (512 * b.val + r) n.val) (fun r => y.q (512 * b.val + r) l.val)]
    · rw [Finset.sum_eq_zero fun r hr => by rw [hz r (Finset.mem_range.mp hr) (by omega), zero_mul]]; simp
  dv n l := by
    have hd := diag0_wt x y hx j b hb
    have hz := fun r (hr : r < 512) (h : 512 ≤ n.val) => wt_zero y (j := j) (R := 512 * b.val + r) (n := n.val) (by omega)
    rw [hs]; unfold diag0
    pointwise [k0_pay42, k0_pay33]
    split
    · simp only [hd, rows_apply, hx.dO, row_val, zero_add]
      rw [coe_sum_mul 512 (fun r => wt y j (512 * b.val + r) n.val) (fun r => y.dO (512 * b.val + r) l.val)]
    · rw [Finset.sum_eq_zero fun r hr => by rw [hz r (Finset.mem_range.mp hr) (by omega), zero_mul]]; simp
  dc n := by
    have hd := diag0_dl x y hx j b hb
    have hz := fun r (hr : r < 512) (h : 512 ≤ n.val) => dl_zero y (j := j) (R := 512 * b.val + r) (n := n.val) (by omega)
    rw [hs]; unfold diag0
    pointwise [k0_pay45, k0_pay34]
    split
    · simp only [hd, zero_add]
      rw [coe_sum 512 (fun r => dl y j (512 * b.val + r) n.val), zero_sub_coe]
    · rw [Finset.sum_eq_zero fun r hr => hz r (Finset.mem_range.mp hr) (by omega)]; simp
  dq := by
    refine ⟨_, rfl, fun r l => ?_⟩
    have hd := diag0_dl x y hx j b hb
    have hz := fun n (h : 512 ≤ n) => dl_zero y (j := j) (R := 512 * b.val + r.val) (n := n) (by omega)
    pointwise [k0_pay44, k0_pay41, k0_pay35]
    simp only [hd, rows_apply, hx.k, sc_eq]
    rw [coe_sum_mul 512 (fun n => dl y j (512 * b.val + r.val) n) (fun n => y.k n l.val), ← EReal.coe_mul,
      keys512 _ fun n h => by rw [hz n h, zero_mul]]
  dcq := by
    refine ⟨_, rfl, fun r => ?_⟩
    have hd := diag0_dl x y hx j b hb
    have hz := fun n (h : 512 ≤ n) => dl_zero y (j := j) (R := 512 * b.val + r.val) (n := n) (by omega)
    pointwise [k0_pay47, k0_pay46]
    simp only [hd, rowsL_apply]
    rw [coe_sum 512 (fun n => dl y j (512 * b.val + r.val) n), keys512 _ fun n h => hz n h]

end

theorem blk_val (n : ℕ) (h : n < 8) : (blk n).val = n := Nat.mod_eq_of_lt h

/-- A point's sums run over all rows. -/
theorem point_good (x : In Ideal) (y : Nums) (hx : Reads x y) (j : ℕ) (hj : j < 4) (dq : Vec Ideal S4096x128 .f32) (dcq : Vec Ideal S1x4096x1 .f32)
    (rq : ℕ → ℕ → ℝ) (rc : ℕ → ℝ) (hq : ∀ (R : Fin 4096) (l : Fin 128), dq (ix2 R l) = ((rq R.val l.val : ℝ) : EReal))
    (hc : ∀ R : Fin 4096, dcq (ix3 0 R 0) = ((rc R.val : ℝ) : EReal)) : Good y j rq rc 4096 (point x j dq dcq) := by
  have hz : ∀ R n : ℕ, R < 512 * (2 * j) → dl y j R n = 0 := fun R n h => dl_zero y (by omega)
  have hz' : ∀ R n : ℕ, R < 512 * (2 * j) → wt y j R n = 0 := fun R n h => wt_zero y (by omega)
  have e0 : Good y j rq rc (512 * (blk (2 * j)).val) ⟨(k0_pay32, k0_pay33, k0_pay34), dq, dcq⟩ := by
    rw [blk_val _ (by omega)]
    refine ⟨fun n l => ?_, fun n l => ?_, fun n => ?_, fun R l => ?_, fun R => ?_⟩
    · rw [Finset.sum_eq_zero fun R hR => by rw [hz R _ (Finset.mem_range.mp hR), zero_mul]]
      pointwise [k0_pay32]; simp
    · rw [Finset.sum_eq_zero fun R hR => by rw [hz' R _ (Finset.mem_range.mp hR), zero_mul]]
      pointwise [k0_pay33]; simp
    · rw [Finset.sum_eq_zero fun R hR => hz R _ (Finset.mem_range.mp hR)]
      pointwise [k0_pay34]; simp
    · show dq (ix2 R l) = _
      rw [hq]
      split
      · rw [Finset.sum_eq_zero fun n _ => by rw [hz R.val n (by omega), zero_mul], zero_mul, add_zero]
      · rw [add_zero]
    · show dcq (ix3 0 R 0) = _
      rw [hc]
      split
      · rw [Finset.sum_eq_zero fun n _ => hz R.val n (by omega), add_zero]
      · rw [add_zero]
  have e1 := e0.step (diag0_adds x y hx j (blk (2 * j)) _ (blk_val _ (by omega)) rfl)
  rw [show 512 * (blk (2 * j)).val + 512 = 512 * (blk (2 * j + 1)).val by rw [blk_val _ (by omega), blk_val _ (by omega)]; omega] at e1
  have e2 := e1.step (diag1_adds x y hx j (blk (2 * j + 1)) _ (blk_val _ (by omega)))
  have e3 : ∀ n, n ≤ 2 * (3 - j) → Good y j rq rc (512 * (2 * (j + 1) + n)) (sweep x (2 * (j + 1)) (diag1 x (blk (2 * j + 1)) (diag0 x (blk (2 * j)) ⟨(k0_pay32, k0_pay33, k0_pay34), dq, dcq⟩)) n) := by
    intro n
    induction n with
    | zero =>
      intro _
      rw [show 512 * (2 * (j + 1) + 0) = 512 * (blk (2 * j + 1)).val + 512 by rw [blk_val _ (by omega)]; omega]
      exact e2
    | succ n ih =>
      intro hn
      have e := ih (by omega)
      have hb : (blk (2 * (j + 1) + n)).val = 2 * (j + 1) + n := blk_val _ (by omega)
      rw [← hb] at e
      have e' := e.step (half_adds x y hx j (blk (2 * (j + 1) + n)) _ (by rw [hb]; omega))
      rw [show 512 * (2 * (j + 1) + (n + 1)) = 512 * (blk (2 * (j + 1) + n)).val + 512 by rw [hb]; omega]
      exact e'
  have e4 := e3 (2 * (3 - j)) le_rfl
  rw [show 512 * (2 * (j + 1) + 2 * (3 - j)) = 4096 by omega] at e4
  exact e4

end Cert.KernelIdeal.Fox
end
-- ==== Proof.Fox.Blocks.lean ====
/- The blocks of a point hold the numbers of its head. -/
module

public import proofs.«01_k».proof.Proof.Fox.Frame
public import proofs.«01_k».proof.Proof.Fox.ValStep
public import Idealize.ShloMosaic.Lib.Pipeline.ValueKit.Geometry

@[expose] public section

set_option maxRecDepth 16384

noncomputable section

namespace Cert.KernelIdeal.Fox

open Idealize.ShloMosaic Idealize.ShloMosaic.TcCoe Cert.KernelIdeal Cert.KernelIdeal.Gen
open Finset (range)

/-! ## The block of each window at each point -/

theorem place0 : ∀ t : Fin cfg0.N, win0_0.index t = ![0, t.val / 4] := (by decide +kernel : ∀ t : Fin grid0.N, _)
theorem place1 : ∀ t : Fin cfg0.N, win0_1.index t = ![0, t.val / 4] := (by decide +kernel : ∀ t : Fin grid0.N, _)
theorem place2 : ∀ t : Fin cfg0.N, win0_2.index t = ![0, t.val / 4] := (by decide +kernel : ∀ t : Fin grid0.N, _)
theorem place3 : ∀ t : Fin cfg0.N, win0_3.index t = ![t.val / 4, 0, 0] := (by decide +kernel : ∀ t : Fin grid0.N, _)
theorem place4 : ∀ t : Fin cfg0.N, win0_4.index t = ![t.val % 4, 8 + t.val / 4] := (by decide +kernel : ∀ t : Fin grid0.N, _)
theorem place5 : ∀ t : Fin cfg0.N, win0_5.index t = ![t.val % 4, 16 + t.val / 4] := (by decide +kernel : ∀ t : Fin grid0.N, _)
theorem place6 : ∀ t : Fin cfg0.N, win0_6.index t = ![t.val / 4, 0, t.val % 4] := (by decide +kernel : ∀ t : Fin grid0.N, _)
theorem place7 : ∀ t : Fin cfg0.N, win0_7.index t = ![0, t.val / 4] := (by decide +kernel : ∀ t : Fin grid0.N, _)
theorem place8 : ∀ t : Fin cfg0.N, win0_8.index t = ![t.val % 4, t.val / 4] := (by decide +kernel : ∀ t : Fin grid0.N, _)
theorem place9 : ∀ t : Fin cfg0.N, win0_9.index t = ![t.val % 4, t.val / 4] := (by decide +kernel : ∀ t : Fin grid0.N, _)
theorem place10 : ∀ t : Fin cfg0.N, win0_10.index t = ![t.val / 4, 0, t.val % 4] := (by decide +kernel : ∀ t : Fin grid0.N, _)
theorem place11 : ∀ t : Fin cfg0.N, win0_11.index t = ![t.val / 4, 0, 0] := (by decide +kernel : ∀ t : Fin grid0.N, _)

/-! ## The numbers the arrays hold -/

/-- The numbers of the whole arrays: projected rows (queries, keys and values side by side), output gradient, output, forget row and
    row statistics of each head. -/
structure Whole where
  pm : ℕ → ℕ → ℝ
  dO : ℕ → ℕ → ℝ
  o : ℕ → ℕ → ℝ
  f : ℕ → ℕ → ℝ
  lse : ℕ → ℕ → ℝ

/-- The numbers of head `h` and key block `j`. -/
def Whole.nums (g : Whole) (h j : ℕ) : Nums where
  q R l := g.pm R (128 * h + l)
  dO R l := g.dO R (128 * h + l)
  lse R := g.lse h R
  de R := ∑ l ∈ range 128, g.dO R (128 * h + l) * g.o R (128 * h + l)
  k n l := g.pm (1024 * j + n) (1024 + 128 * h + l)
  v n l := g.pm (1024 * j + n) (2048 + 128 * h + l)
  c n := g.f h (1024 * j + n)

variable (m : (ℓ : Loc nD τ sig) → Buf (Elt Ideal) ℓ)

/-- The arrays the kernel is called with hold these numbers. -/
structure Holds (c : Dev nD) (g : Whole) : Prop where
  pm : ∀ (R : Fin 4096) (x : Fin 6144), V m c main_arg0 (ix2 R x) = ((g.pm R.val x.val : ℝ) : EReal)
  dO : ∀ (R : Fin 4096) (x : Fin 1024), V m c main_arg2 (ix2 R x) = ((g.dO R.val x.val : ℝ) : EReal)
  o : ∀ (R : Fin 4096) (x : Fin 1024), V m c main_v37 (ix2 R x) = ((g.o R.val x.val : ℝ) : EReal)
  f : ∀ (h : Fin 8) (n : Fin 4096), V m c main_arg1 (ix3 h 0 n) = ((g.f h.val n.val : ℝ) : EReal)
  lse : ∀ (h : Fin 8) (R : Fin 4096), V m c main_v32 (ix3 h R 0) = ((g.lse h.val R.val : ℝ) : EReal)

variable {m}

theorem blk_q {c : Dev nD} {g : Whole} (hg : Holds m c g) (t : Fin cfg0.N) (r : Fin 4096) (l : Fin 128) :
    iblk m c 0 t (ix2 r l) = ((g.pm r.val (128 * (t.val / 4) + l.val) : ℝ) : EReal) := by
  have hp := points t
  have e : ∀ A : Buf (Elt Ideal) ((c : Thread nD τ).loc main_arg0), ((cfg0.win 0).blk t).view.read (Elt Ideal) A (ix2 r l) = A (ix2 r ⟨128 * (t.val / 4) + l.val, by omega⟩) :=
    fun A => by rw [View.read_apply]; show A _ = A _; refine congrArg A ?_; blk_ext [place0]
  exact (e (V m c main_arg0)).trans ((hg.pm _ _).trans rfl)

theorem blk_dO {c : Dev nD} {g : Whole} (hg : Holds m c g) (t : Fin cfg0.N) (r : Fin 4096) (l : Fin 128) :
    iblk m c 1 t (ix2 r l) = ((g.dO r.val (128 * (t.val / 4) + l.val) : ℝ) : EReal) := by
  have hp := points t
  have e : ∀ A : Buf (Elt Ideal) ((c : Thread nD τ).loc main_arg2), ((cfg0.win 1).blk t).view.read (Elt Ideal) A (ix2 r l) = A (ix2 r ⟨128 * (t.val / 4) + l.val, by omega⟩) :=
    fun A => by rw [View.read_apply]; show A _ = A _; refine congrArg A ?_; blk_ext [place1]
  exact (e (V m c main_arg2)).trans ((hg.dO _ _).trans rfl)

theorem blk_o {c : Dev nD} {g : Whole} (hg : Holds m c g) (t : Fin cfg0.N) (r : Fin 4096) (l : Fin 128) :
    iblk m c 2 t (ix2 r l) = ((g.o r.val (128 * (t.val / 4) + l.val) : ℝ) : EReal) := by
  have hp := points t
  have e : ∀ A : Buf (Elt Ideal) ((c : Thread nD τ).loc main_v37), ((cfg0.win 2).blk t).view.read (Elt Ideal) A (ix2 r l) = A (ix2 r ⟨128 * (t.val / 4) + l.val, by omega⟩) :=
    fun A => by rw [View.read_apply]; show A _ = A _; refine congrArg A ?_; blk_ext [place2]
  exact (e (V m c main_v37)).trans ((hg.o _ _).trans rfl)

theorem blk_lse {c : Dev nD} {g : Whole} (hg : Holds m c g) (t : Fin cfg0.N) (r : Fin 4096) :
    iblk m c 3 t (ix3 (0 : Fin 1) r (0 : Fin 1)) = ((g.lse (t.val / 4) r.val : ℝ) : EReal) := by
  have hp := points t
  have e : ∀ A : Buf (Elt Ideal) ((c : Thread nD τ).loc main_v32), ((cfg0.win 3).blk t).view.read (Elt Ideal) A (ix3 (0 : Fin 1) r (0 : Fin 1)) = A (ix3 ⟨t.val / 4, by omega⟩ r (0 : Fin 1)) :=
    fun A => by rw [View.read_apply]; show A _ = A _; refine congrArg A ?_; blk_ext [place3]
  exact (e (V m c main_v32)).trans ((hg.lse _ _).trans rfl)

theorem blk_k {c : Dev nD} {g : Whole} (hg : Holds m c g) (t : Fin cfg0.N) (n : Fin 1024) (l : Fin 128) :
    iblk m c 4 t (ix2 n l) = ((g.pm (1024 * (t.val % 4) + n.val) (1024 + 128 * (t.val / 4) + l.val) : ℝ) : EReal) := by
  have hp := points t
  have e : ∀ A : Buf (Elt Ideal) ((c : Thread nD τ).loc main_arg0), ((cfg0.win 4).blk t).view.read (Elt Ideal) A (ix2 n l) = A (ix2 ⟨1024 * (t.val % 4) + n.val, by omega⟩ ⟨1024 + 128 * (t.val / 4) + l.val, by omega⟩) :=
    fun A => by rw [View.read_apply]; show A _ = A _; refine congrArg A ?_; blk_ext [place4]
  exact (e (V m c main_arg0)).trans ((hg.pm _ _).trans rfl)

theorem blk_v {c : Dev nD} {g : Whole} (hg : Holds m c g) (t : Fin cfg0.N) (n : Fin 1024) (l : Fin 128) :
    iblk m c 5 t (ix2 n l) = ((g.pm (1024 * (t.val % 4) + n.val) (2048 + 128 * (t.val / 4) + l.val) : ℝ) : EReal) := by
  have hp := points t
  have e : ∀ A : Buf (Elt Ideal) ((c : Thread nD τ).loc main_arg0), ((cfg0.win 5).blk t).view.read (Elt Ideal) A (ix2 n l) = A (ix2 ⟨1024 * (t.val % 4) + n.val, by omega⟩ ⟨2048 + 128 * (t.val / 4) + l.val, by omega⟩) :=
    fun A => by rw [View.read_apply]; show A _ = A _; refine congrArg A ?_; blk_ext [place5]
  exact (e (V m c main_arg0)).trans ((hg.pm _ _).trans rfl)

theorem blk_c {c : Dev nD} {g : Whole} (hg : Holds m c g) (t : Fin cfg0.N) (n : Fin 1024) :
    iblk m c 6 t (ix3 (0 : Fin 1) (0 : Fin 1) n) = ((g.f (t.val / 4) (1024 * (t.val % 4) + n.val) : ℝ) : EReal) := by
  have hp := points t
  have e : ∀ A : Buf (Elt Ideal) ((c : Thread nD τ).loc main_arg1), ((cfg0.win 6).blk t).view.read (Elt Ideal) A (ix3 (0 : Fin 1) (0 : Fin 1) n) = A (ix3 ⟨t.val / 4, by omega⟩ (0 : Fin 1) ⟨1024 * (t.val % 4) + n.val, by omega⟩) :=
    fun A => by rw [View.read_apply]; show A _ = A _; refine congrArg A ?_; blk_ext [place6]
  exact (e (V m c main_arg1)).trans ((hg.f _ _).trans rfl)

/-- The row sums of output gradient times output. -/
theorem delta_reads {c : Dev nD} {g : Whole} (hg : Holds m c g) (t : Fin cfg0.N) (r : Fin 4096) :
    deAt m c t (ix2 r 0) = ((∑ l ∈ range 128, g.dO r.val (128 * (t.val / 4) + l) * g.o r.val (128 * (t.val / 4) + l) : ℝ) : EReal) := by
  have hh : (headPt t).val / 4 = t.val / 4 := by show 4 * (t.val / 4) / 4 = _; omega
  unfold deAt
  pointwise [k0_pay30]
  simp only [blk_dO hg, blk_o hg, hh]
  exact coe_sum_mul 128 (fun l => g.dO r.val (128 * (t.val / 4) + l)) (fun l => g.o r.val (128 * (t.val / 4) + l))

theorem inAt_reads {c : Dev nD} {g : Whole} (hg : Holds m c g) (t : Fin cfg0.N) :
    Reads (inAt m c t) (g.nums (t.val / 4) (t.val % 4)) where
  q := blk_q hg t
  dO := blk_dO hg t
  lse := blk_lse hg t
  de := delta_reads hg t
  k := blk_k hg t
  v := blk_v hg t
  c := blk_c hg t

end Cert.KernelIdeal.Fox
end
-- ==== Proof.Fox.Chain.lean ====
/- What each point of a head leaves, and so what the result arrays end holding. -/
module

public import proofs.«01_k».proof.Proof.Fox.Blocks

@[expose] public section

set_option maxRecDepth 16384

noncomputable section

namespace Cert.KernelIdeal.Fox

open Idealize.ShloMosaic Idealize.ShloMosaic.TcCoe Cert.KernelIdeal Cert.KernelIdeal.Gen
open Finset (range)

/-! ## The gradients of a head, its keys counted from its first -/

/-- The weight row `R` of head `h` gives key `n`. -/
def Whole.wt (g : Whole) (h R n : ℕ) : ℝ :=
  if n ≤ R then Real.exp ((∑ l ∈ range 128, g.pm R (128 * h + l) * g.pm n (1024 + 128 * h + l)) * sc - g.f h n - g.lse h R) else 0
/-- The gradient of the logit of row `R` and key `n`. -/
def Whole.dl (g : Whole) (h R n : ℕ) : ℝ :=
  g.wt h R n * ((∑ l ∈ range 128, g.dO R (128 * h + l) * g.pm n (2048 + 128 * h + l)) - ∑ l ∈ range 128, g.dO R (128 * h + l) * g.o R (128 * h + l))
/-- The query gradient from the keys below `N`. -/
def Whole.dqTo (g : Whole) (h N R l : ℕ) : ℝ := (∑ n ∈ range N, g.dl h R n * g.pm n (1024 + 128 * h + l)) * sc
/-- The row sum of logit gradients over the keys below `N`. -/
def Whole.dcqTo (g : Whole) (h N R : ℕ) : ℝ := ∑ n ∈ range N, g.dl h R n

theorem wt_nums (g : Whole) (h j R n : ℕ) : Fox.wt (g.nums h j) j R n = g.wt h R (1024 * j + n) := rfl
theorem dl_nums (g : Whole) (h j R n : ℕ) : Fox.dl (g.nums h j) j R n = g.dl h R (1024 * j + n) := rfl

theorem dqTo_next (g : Whole) (h j R l : ℕ) : g.dqTo h (1024 * (j + 1)) R l
    = g.dqTo h (1024 * j) R l + (∑ n ∈ range 1024, Fox.dl (g.nums h j) j R n * (g.nums h j).k n l) * sc := by
  unfold Whole.dqTo
  rw [show 1024 * (j + 1) = 1024 * j + 1024 by ring, Finset.sum_range_add, add_mul]
  rfl
theorem dcqTo_next (g : Whole) (h j R : ℕ) : g.dcqTo h (1024 * (j + 1)) R
    = g.dcqTo h (1024 * j) R + ∑ n ∈ range 1024, Fox.dl (g.nums h j) j R n := by
  unfold Whole.dcqTo
  rw [show 1024 * (j + 1) = 1024 * j + 1024 by ring, Finset.sum_range_add]
  rfl

/-! ## The points -/

variable {m : (ℓ : Loc nD τ sig) → Buf (Elt Ideal) ℓ}

/-- Point `t` leaves the sums of its key block, and the query gradient and row sums of the key blocks so far. -/
abbrev Left (m : (ℓ : Loc nD τ sig) → Buf (Elt Ideal) ℓ) (c : Dev nD) (g : Whole) (t : Fin cfg0.N) : Prop :=
  Good (g.nums (t.val / 4) (t.val % 4)) (t.val % 4) (g.dqTo (t.val / 4) (1024 * (t.val % 4))) (g.dcqTo (t.val / 4) (1024 * (t.val % 4))) 4096
    (stAt m c t.val t.isLt)

theorem stAt_head (c : Dev nD) : ∀ (n : ℕ) (h : n < cfg0.N), n % 4 = 0 →
    stAt m c n h = point (inAt m c ⟨n, h⟩) 0 (k0_pay28 (F := Ideal)) (k0_pay29 (F := Ideal))
  | 0, _, _ => rfl
  | n + 1, _, h0 => by rw [stAt, if_pos h0, h0]

theorem left_first {c : Dev nD} {g : Whole} (hg : Holds m c g) (n : ℕ) (h : n < cfg0.N) (h0 : n % 4 = 0) : Left m c g ⟨n, h⟩ := by
  have hx := inAt_reads hg ⟨n, h⟩
  unfold Left
  dsimp only at hx ⊢
  rw [stAt_head c n h h0]
  rw [h0] at hx ⊢
  refine point_good _ _ hx 0 (by omega) _ _ _ _ (fun R l => ?_) fun R => ?_
  · pointwise [k0_pay28]; simp [Whole.dqTo]
  · pointwise [k0_pay29]; simp [Whole.dcqTo]

theorem left_next {c : Dev nD} {g : Whole} (hg : Holds m c g) (n : ℕ) (h : n + 1 < cfg0.N) (h0 : ¬(n + 1) % 4 = 0)
    (hl : Left m c g ⟨n, by omega⟩) : Left m c g ⟨n + 1, h⟩ := by
  have hx := inAt_reads hg ⟨n + 1, h⟩
  unfold Left at hl ⊢
  dsimp only at hx hl ⊢
  have hd : n / 4 = (n + 1) / 4 := by omega
  have hm : (n + 1) % 4 = n % 4 + 1 := by omega
  rw [stAt_next m c n h h0]
  rw [hd] at hl
  rw [hm] at hx ⊢
  refine point_good _ _ hx _ (by omega) _ _ _ _ (fun R l => ?_) fun R => ?_
  · rw [hl.dq R l, if_pos R.isLt, dqTo_next]
  · rw [hl.dcq R, if_pos R.isLt, dcqTo_next]

/-- Every point leaves its sums. -/
theorem left {c : Dev nD} {g : Whole} (hg : Holds m c g) : ∀ (n : ℕ) (h : n < cfg0.N), Left m c g ⟨n, h⟩
  | 0, h => left_first hg 0 h rfl
  | n + 1, h => if h0 : (n + 1) % 4 = 0 then left_first hg (n + 1) h h0 else left_next hg n h h0 (left hg n (by omega))

/-! ## The result arrays -/

/-- The key gradient. -/
def Whole.dk (g : Whole) (h n l : ℕ) : ℝ := (∑ R ∈ range 4096, g.dl h R n * g.pm R (128 * h + l)) * sc
/-- The value gradient. -/
def Whole.dv (g : Whole) (h n l : ℕ) : ℝ := ∑ R ∈ range 4096, g.wt h R n * g.dO R (128 * h + l)
/-- The forget gradient of a key. -/
def Whole.dc (g : Whole) (h n : ℕ) : ℝ := -∑ R ∈ range 4096, g.dl h R n

section
variable {c : Dev nD} {g : Whole} (hg : Holds m c g) (t : Fin cfg0.N)
include hg

theorem left_dq (h3 : t.val % 4 = 3) (R : Fin 4096) (l : Fin 128) :
    (stAt m c t.val t.isLt).dq (ix2 R l) = ((g.dqTo (t.val / 4) 4096 R.val l.val : ℝ) : EReal) := by
  rw [(left hg t.val t.isLt).dq R l, if_pos R.isLt, ← dqTo_next, h3]
theorem left_dcq (h3 : t.val % 4 = 3) (R : Fin 4096) :
    (stAt m c t.val t.isLt).dcq (ix3 0 R 0) = ((g.dcqTo (t.val / 4) 4096 R.val : ℝ) : EReal) := by
  rw [(left hg t.val t.isLt).dcq R, if_pos R.isLt, ← dcqTo_next, h3]
theorem left_dk (n : Fin 1024) (l : Fin 128) : k0_pay65 (F := Ideal) (stAt m c t.val t.isLt).acc.1 (ix2 n l)
    = ((g.dk (t.val / 4) (1024 * (t.val % 4) + n.val) l.val : ℝ) : EReal) := by
  pointwise [k0_pay65]
  rw [(left hg t.val t.isLt).dk n l, sc_eq, ← EReal.coe_mul]
  rfl
theorem left_dv (n : Fin 1024) (l : Fin 128) : k0_pay66 (F := Ideal) (stAt m c t.val t.isLt).acc.2.1 (ix2 n l)
    = ((g.dv (t.val / 4) (1024 * (t.val % 4) + n.val) l.val : ℝ) : EReal) := by
  pointwise [k0_pay66]
  rw [(left hg t.val t.isLt).dv n l]
  rfl
theorem left_dc (n : Fin 1024) : k0_pay1 (F := Ideal) (stAt m c t.val t.isLt).acc.2.2 (ix3 0 0 n)
    = ((g.dc (t.val / 4) (1024 * (t.val % 4) + n.val) : ℝ) : EReal) := by
  pointwise [k0_pay1]
  rw [(left hg t.val t.isLt).dc n]
  rfl

end

variable (m)

/-- The query gradient. -/
theorem final_dq {c : Dev nD} {g : Whole} (hg : Holds m c g) (R : Fin 4096) (x : Fin 1024) :
    (dats m 0 c).arrAt 7 cfg0.N (ix2 R x) = ((g.dqTo (x.val / 128) 4096 R.val (x.val % 128) : ℝ) : EReal) := by
  refine (dats m 0 c).arrAt_forall_of_covers 7 (fun i v => v = ((g.dqTo ((i (1 : Fin 2)).val / 128) 4096 (i (0 : Fin 2)).val ((i (1 : Fin 2)).val % 128) : ℝ) : EReal)) (by decide +kernel) (fun t hf y => ?_) (ix2 R x)
  blk_simp [place7]
  rw [after_7]
  have hy : (y (1 : Fin 2)).val < 128 := (y (1 : Fin 2)).isLt
  rw [show (t.val / 4 * 128 + (y (1 : Fin 2)).val) / 128 = t.val / 4 by omega, show (t.val / 4 * 128 + (y (1 : Fin 2)).val) % 128 = (y (1 : Fin 2)).val by omega]
  exact (congrArg _ (eq_ix2 y)).trans (left_dq hg t ((flush0_7 t).mp hf) (y (0 : Fin 2)) (y (1 : Fin 2)))

/-- The key gradient. -/
theorem final_dk {c : Dev nD} {g : Whole} (hg : Holds m c g) (n : Fin 4096) (x : Fin 1024) :
    (dats m 0 c).arrAt 8 cfg0.N (ix2 n x) = ((g.dk (x.val / 128) n.val (x.val % 128) : ℝ) : EReal) := by
  refine (dats m 0 c).arrAt_forall_of_covers 8 (fun i v => v = ((g.dk ((i (1 : Fin 2)).val / 128) (i (0 : Fin 2)).val ((i (1 : Fin 2)).val % 128) : ℝ) : EReal)) (by decide +kernel) (fun t hf y => ?_) (ix2 n x)
  blk_simp [place8]
  rw [after_8]
  have hy : (y (1 : Fin 2)).val < 128 := (y (1 : Fin 2)).isLt
  rw [show (t.val / 4 * 128 + (y (1 : Fin 2)).val) / 128 = t.val / 4 by omega, show (t.val / 4 * 128 + (y (1 : Fin 2)).val) % 128 = (y (1 : Fin 2)).val by omega, Nat.mul_comm (t.val % 4) 1024]
  exact (congrArg _ (eq_ix2 y)).trans (left_dk hg t (y (0 : Fin 2)) (y (1 : Fin 2)))

/-- The value gradient. -/
theorem final_dv {c : Dev nD} {g : Whole} (hg : Holds m c g) (n : Fin 4096) (x : Fin 1024) :
    (dats m 0 c).arrAt 9 cfg0.N (ix2 n x) = ((g.dv (x.val / 128) n.val (x.val % 128) : ℝ) : EReal) := by
  refine (dats m 0 c).arrAt_forall_of_covers 9 (fun i v => v = ((g.dv ((i (1 : Fin 2)).val / 128) (i (0 : Fin 2)).val ((i (1 : Fin 2)).val % 128) : ℝ) : EReal)) (by decide +kernel) (fun t hf y => ?_) (ix2 n x)
  blk_simp [place9]
  rw [after_9]
  have hy : (y (1 : Fin 2)).val < 128 := (y (1 : Fin 2)).isLt
  rw [show (t.val / 4 * 128 + (y (1 : Fin 2)).val) / 128 = t.val / 4 by omega, show (t.val / 4 * 128 + (y (1 : Fin 2)).val) % 128 = (y (1 : Fin 2)).val by omega, Nat.mul_comm (t.val % 4) 1024]
  exact (congrArg _ (eq_ix2 y)).trans (left_dv hg t (y (0 : Fin 2)) (y (1 : Fin 2)))

/-- The forget gradient of the keys. -/
theorem final_dc {c : Dev nD} {g : Whole} (hg : Holds m c g) (h : Fin 8) (n : Fin 4096) :
    (dats m 0 c).arrAt 10 cfg0.N (ix3 h (0 : Fin 1) n) = ((g.dc h.val n.val : ℝ) : EReal) := by
  refine (dats m 0 c).arrAt_forall_of_covers 10 (fun i v => v = ((g.dc (i (0 : Fin 3)).val (i (2 : Fin 3)).val : ℝ) : EReal)) (by decide +kernel) (fun t hf y => ?_) (ix3 h (0 : Fin 1) n)
  blk_simp [place10]
  rw [after_10]
  have ey : (y : S1x1x1024.Idx) = ix3 (0 : Fin 1) (0 : Fin 1) (y (2 : Fin 3)) :=
    (eq_ix3 y).trans (congrArg₂ (fun a b => ix3 a b (y (2 : Fin 3))) (Subsingleton.elim (α := Fin 1) _ _) (Subsingleton.elim (α := Fin 1) _ _))
  rw [Nat.mul_comm (t.val % 4) 1024]
  exact (congrArg _ ey).trans (left_dc hg t (y (2 : Fin 3)))

/-- The row sums of the logit gradients. -/
theorem final_dcq {c : Dev nD} {g : Whole} (hg : Holds m c g) (h : Fin 8) (R : Fin 4096) :
    (dats m 0 c).arrAt 11 cfg0.N (ix3 h R (0 : Fin 1)) = ((g.dcqTo h.val 4096 R.val : ℝ) : EReal) := by
  refine (dats m 0 c).arrAt_forall_of_covers 11 (fun i v => v = ((g.dcqTo (i (0 : Fin 3)).val 4096 (i (1 : Fin 3)).val : ℝ) : EReal)) (by decide +kernel) (fun t hf y => ?_) (ix3 h R (0 : Fin 1))
  blk_simp [place11]
  rw [after_11]
  have ey : (y : S1x4096x1.Idx) = ix3 (0 : Fin 1) (y (1 : Fin 3)) (0 : Fin 1) :=
    (eq_ix3 y).trans (congrArg₂ (fun a b => ix3 a (y (1 : Fin 3)) b) (Subsingleton.elim (α := Fin 1) _ _) (Subsingleton.elim (α := Fin 1) _ _))
  exact (congrArg _ ey).trans (left_dcq hg t ((flush0_11 t).mp hf) (y (1 : Fin 3)))

end Cert.KernelIdeal.Fox
end
-- ==== Proof.Fox.Softmax.lean ====
/- The causal softmax of a row of real logits, and its steps over the extended reals. -/
module

public import proofs.«01_k».proof.Proof.Fox.Val

@[expose] public section

noncomputable section

namespace Cert.Fox

open Idealize.ShloMosaic
open Finset (range)

/-- The exponential of key `n`'s logit less `M`, for a row `R` that sees the key. -/
def term (a : ℕ → ℝ) (M : ℝ) (R n : ℕ) : ℝ := if n ≤ R then Real.exp (a n - M) else 0
/-- Their sum. -/
def total (a : ℕ → ℝ) (M : ℝ) (R : ℕ) : ℝ := ∑ n ∈ range 4096, term a M R n
/-- The softmax of row `R`. -/
def soft (a : ℕ → ℝ) (R n : ℕ) : ℝ := term a 0 R n / total a 0 R

theorem term_nonneg (a : ℕ → ℝ) (M : ℝ) (R n : ℕ) : 0 ≤ term a M R n := by
  unfold term; split
  · exact (Real.exp_pos _).le
  · exact le_refl _
theorem total_pos (a : ℕ → ℝ) (M : ℝ) (R : ℕ) : 0 < total a M R := by
  refine Finset.sum_pos' (fun n _ => term_nonneg a M R n) ⟨0, by simp, ?_⟩
  unfold term; rw [if_pos (Nat.zero_le _)]; exact Real.exp_pos _
theorem term_shift (a : ℕ → ℝ) (M : ℝ) (R n : ℕ) : term a M R n = term a 0 R n * Real.exp (-M) := by
  unfold term; split
  · rw [← Real.exp_add]; congr 1; ring
  · rw [zero_mul]
theorem total_shift (a : ℕ → ℝ) (M : ℝ) (R : ℕ) : total a M R = total a 0 R * Real.exp (-M) := by
  unfold total; rw [Finset.sum_mul]; exact Finset.sum_congr rfl fun n _ => term_shift a M R n
/-- Taking any `M` off all logits leaves the softmax. -/
theorem term_div_total (a : ℕ → ℝ) (M : ℝ) (R n : ℕ) : term a M R n / total a M R = soft a R n := by
  rw [term_shift, total_shift, mul_div_mul_right _ _ (Real.exp_pos _).ne']; rfl
/-- Adding the row's own constant to all its logits leaves the softmax. -/
theorem soft_add (a : ℕ → ℝ) (b : ℝ) (R n : ℕ) : soft (fun n => a n + b) R n = soft a R n := by
  rw [← term_div_total a (-b) R n]
  have e : ∀ k, term (fun n => a n + b) 0 R k = term a (-b) R k := fun k => by unfold term; congr 2; ring
  unfold soft total
  simp only [e]
/-- The softmax by the logarithm of the total. -/
theorem exp_sub_lse (a : ℕ → ℝ) (M : ℝ) (R n : ℕ) :
    (if n ≤ R then Real.exp (a n - (M + Real.log (total a M R))) else 0) = soft a R n := by
  rw [← term_div_total a M]
  unfold term
  split
  · rw [← sub_sub, Real.exp_sub, Real.exp_log (total_pos a M R)]
  · rw [zero_div]

/-! ## The gradients, from projected rows `p`, forget sums `f` and output gradient `d` -/

open Cert.KernelIdeal.Fox (sc)

section
variable (p f d : ℕ → ℕ → ℝ)

/-- The logit of key `n` for row `R` of head `h`, the row's own forget sum left out. -/
def logit (h R n : ℕ) : ℝ := (∑ l ∈ range 128, p R (128 * h + l) * p n (1024 + 128 * h + l)) * sc - f h n
/-- Its softmax. -/
def prob (h R n : ℕ) : ℝ := soft (logit p f h R) R n
/-- The gradient of the softmax of row `R` and key `n`. -/
def dprob (h R n : ℕ) : ℝ := ∑ l ∈ range 128, d R (128 * h + l) * p n (2048 + 128 * h + l)
/-- The gradient of the logit. -/
def dlogit (h R n : ℕ) : ℝ := prob p f h R n * (dprob p d h R n - ∑ k ∈ range 4096, dprob p d h R k * prob p f h R k)
/-- The gradients of the queries, keys and values, of the forget sums as a key's and as a row's. -/
def gradQ (h R l : ℕ) : ℝ := (∑ n ∈ range 4096, dlogit p f d h R n * p n (1024 + 128 * h + l)) * sc
def gradK (h n l : ℕ) : ℝ := (∑ R ∈ range 4096, dlogit p f d h R n * p R (128 * h + l)) * sc
def gradV (h n l : ℕ) : ℝ := ∑ R ∈ range 4096, prob p f h R n * d R (128 * h + l)
def gradC (h n : ℕ) : ℝ := -∑ R ∈ range 4096, dlogit p f d h R n
def gradCq (h R : ℕ) : ℝ := ∑ n ∈ range 4096, dlogit p f d h R n

/-- The product of output and output gradient is the mean of the softmax's gradient. -/
theorem delta_eq (h R : ℕ) : ∑ l ∈ range 128, d R (128 * h + l) * ∑ k ∈ range 4096, p k (2048 + (128 * h + l)) * prob p f h R k
    = ∑ k ∈ range 4096, dprob p d h R k * prob p f h R k := by
  simp only [Finset.mul_sum, dprob, Finset.sum_mul]
  rw [Finset.sum_comm]
  refine Finset.sum_congr rfl fun k _ => Finset.sum_congr rfl fun l _ => ?_
  rw [show 2048 + (128 * h + l) = 2048 + 128 * h + l by ring]; ring
/-- The gradient of the logit through numerator and denominator of the softmax, each on its own. -/
theorem dlogit_parts (h R n : ℕ) (b M : ℝ) : (dprob p d h R n / total (fun k => logit p f h R k + b) M R
      + -∑ k ∈ range 4096, dprob p d h R k * (1 / (total (fun k => logit p f h R k + b) M R * total (fun k => logit p f h R k + b) M R))
          * term (fun k => logit p f h R k + b) M R k) * term (fun k => logit p f h R k + b) M R n = dlogit p f d h R n := by
  have e : ∀ k, prob p f h R k = term (fun k => logit p f h R k + b) M R k / total (fun k => logit p f h R k + b) M R := fun k => by
    rw [term_div_total, soft_add]; rfl
  have hT := (total_pos (fun k => logit p f h R k + b) M R).ne'
  unfold dlogit
  simp only [e]
  generalize total (fun k => logit p f h R k + b) M R = T at hT ⊢
  have hs : ∑ k ∈ range 4096, dprob p d h R k * (1 / (T * T)) * term (fun k => logit p f h R k + b) M R k
      = (∑ k ∈ range 4096, dprob p d h R k * (term (fun k => logit p f h R k + b) M R k / T)) / T := by
    rw [Finset.sum_div]; refine Finset.sum_congr rfl fun k _ => ?_; field_simp
  rw [hs]
  field_simp
  ring
theorem prob_zero {h R n : ℕ} (hn : R < n) : prob p f h R n = 0 := by
  unfold prob soft term; rw [if_neg (by omega), zero_div]
theorem dlogit_zero {h R n : ℕ} (hn : R < n) : dlogit p f d h R n = 0 := by
  unfold dlogit; rw [prob_zero p f hn, zero_mul]
end

/-! ## Over the extended reals -/

/-- A logit, or minus infinity where the row does not see the key. -/
def masked (a : ℕ → ℝ) (R n : ℕ) : EReal := if n ≤ R then (a n : EReal) else ⊥

/-- The maximum of a row is a number: the row sees its first key. -/
theorem max_real (a : ℕ → ℝ) (R : ℕ) : ∃ M : ℝ, Finset.fold max (⊥ : EReal) (fun n : Fin 4096 => masked a R n.val) Finset.univ = (M : EReal) := by
  have e : Finset.fold max (⊥ : EReal) (fun n : Fin 4096 => masked a R n.val) Finset.univ = Finset.univ.sup fun n : Fin 4096 => masked a R n.val := rfl
  rw [e]
  refine ⟨_, (EReal.coe_toReal ?_ ?_).symm⟩
  · refine ((Finset.sup_lt_iff (by exact bot_lt_top)).mpr fun n _ => ?_).ne
    unfold masked; split
    · exact EReal.coe_lt_top _
    · exact bot_lt_top
  · refine (lt_of_lt_of_le ?_ (Finset.le_sup (f := fun n : Fin 4096 => masked a R n.val) (Finset.mem_univ (0 : Fin 4096)))).ne'
    show ⊥ < masked a R 0
    unfold masked; rw [if_pos (Nat.zero_le _)]; exact EReal.bot_lt_coe _

theorem masked_exp (a : ℕ → ℝ) (M : ℝ) (R n : ℕ) : Ideal.exp (masked a R n - (M : EReal)) = ((term a M R n : ℝ) : EReal) := by
  unfold masked term; split
  · rw [← EReal.coe_sub, Ideal.exp_coe]
  · rw [EReal.bot_sub, Ideal.exp_bot, EReal.coe_zero]

theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- The logit chosen where the row's number is at least the key's. -/
theorem select_masked (b : ℕ → ℝ) (R n : Fin 4096) :
    Scalar.select (IntOp.cmpi CmpIPredicate.sge (BitVec.ofNat 32 R.val) (BitVec.ofNat 32 n.val)) ((b n.val : ℝ) : EReal) ⊥ = masked b R.val n.val := by
  have hw := Cert.KernelIdeal.Fox.nat_sge R.val n.val R.isLt n.isLt _ rfl
  unfold masked Scalar.select
  by_cases h : n.val ≤ R.val
  · rw [if_pos h]; simp [hw.mpr h]
  · rw [if_neg h]; simp [mt hw.mp h]

theorem ofBits_neg_inf : Ideal.ofBits .f32 0xFF800000#32 = (⊥ : EReal) := by
  simp [Ideal.ofBits, Ideal.ieee]

/-- The arguments hold these numbers. -/
structure Args (pm : FVec Ideal ⟨2, ![4096, 6144]⟩ .bf16) (cr : FVec Ideal ⟨3, ![8, 1, 4096]⟩ .f32) (p f : ℕ → ℕ → ℝ) : Prop where
  pm : ∀ (R : Fin 4096) (x : Fin 6144), pm (ix2 R x) = ((p R.val x.val : ℝ) : EReal)
  cr : ∀ (h : Fin 8) (n : Fin 4096), cr (ix3 h (0 : Fin 1) n) = ((f h.val n.val : ℝ) : EReal)

end Cert.Fox
end
-- ==== Proof.Fox.Soft.lean ====
/- The host lines before the kernel: the row statistics and the output the forward pass saves. -/
module

public import proofs.«01_k».proof.Proof.Fox.Blocks
public import proofs.«01_k».proof.Proof.Fox.Softmax
public import Idealize.ShloMosaic.Lib.StableHlo.RunRead
public import Idealize.ShloMosaic.Lib.IdealHost

@[expose] public section

set_option maxRecDepth 16384

noncomputable section

namespace Cert.KernelIdeal.Fox

open Idealize.ShloMosaic Idealize.ShloMosaic.TcCoe Cert.KernelIdeal Cert.KernelIdeal.Gen
open Finset (range)

/-! ## The host lines, one by one -/

section
variable (pm : FVec Ideal S4096x6144 .bf16) (cr : FVec Ideal S8x1x4096 .f32)

def hq : FVec Ideal S4096x8x128 .f32 :=
  shapeCast S4096x8x128 (extf (F := Ideal) .f32 (extractStridedSlice S4096x1024 ![0, 0] pm slices_S4096x6144_S4096x1024_0_0) bitsLt_bf16_f32) shapeCasts_S4096x1024_S4096x8x128
def hk : FVec Ideal S4096x8x128 .f32 :=
  shapeCast S4096x8x128 (extf (F := Ideal) .f32 (extractStridedSlice S4096x1024 ![0, 1024] pm slices_S4096x6144_S4096x1024_0_1024) bitsLt_bf16_f32) shapeCasts_S4096x1024_S4096x8x128
def hv : FVec Ideal S4096x8x128 .f32 :=
  shapeCast S4096x8x128 (extf (F := Ideal) .f32 (extractStridedSlice S4096x1024 ![0, 2048] pm slices_S4096x6144_S4096x1024_0_2048) bitsLt_bf16_f32) shapeCasts_S4096x1024_S4096x8x128
def hlog : FVec Ideal S8x4096x4096 .f32 :=
  subf (F := Ideal) (mulf (F := Ideal) (Host.dotGeneral (F := Ideal) (φ₁ := .f32) (φ₂ := .f32) dot_S4096x8x128_S4096x8x128_S8x4096x4096_2_2_0_0_1_1 none (hq pm) (hk pm))
    (broadcastInDim S8x4096x4096 ![] bcast_S_S8x4096x4096 (constant (F := Ideal) S_ .f32 0x3DB504F3#32)))
    (broadcastInDim S8x4096x4096 ![0, 1, 2] bcast_S8x1x4096_S8x4096x4096_0_1_2 cr)
def hmask : IVec S8x4096x4096 1 :=
  broadcastInDim S8x4096x4096 ![1, 2] bcast_S4096x4096_S8x4096x4096_1_2
    (cmpi .sge (broadcastInDim S4096x4096 ![0, 1] bcast_S4096x1_S4096x4096_0_1 (broadcastInDim S4096x1 ![0] bcast_S4096_S4096x1_0 (iotaInDim S4096 32 0)))
      (broadcastInDim S4096x4096 ![0, 1] bcast_S1x4096_S4096x4096_0_1 (broadcastInDim S1x4096 ![1] bcast_S4096_S1x4096_1 (iotaInDim S4096 32 0))))
def hsel : FVec Ideal S8x4096x4096 .f32 :=
  select hmask (hlog pm cr) (broadcastInDim S8x4096x4096 ![] bcast_S_S8x4096x4096 (constant (F := Ideal) S_ .f32 0xFF800000#32))
def hmax : FVec Ideal S8x4096 .f32 :=
  Host.reduce (FloatOps.maximumf (F := Ideal)) (hsel pm cr) (constant (F := Ideal) S_ .f32 0xFF800000#32) reducesTo_S8x4096x4096_S8x4096_d2 h_S_
def hexp : FVec Ideal S8x4096x4096 .f32 :=
  Host.exp (F := Ideal) (subf (F := Ideal) (hsel pm cr) (broadcastInDim S8x4096x4096 ![0, 1, 2] bcast_S8x4096x1_S8x4096x4096_0_1_2
    (broadcastInDim S8x4096x1 ![0, 1] bcast_S8x4096_S8x4096x1_0_1 (hmax pm cr))))
def hadd : FVec Ideal S8x4096 .f32 :=
  Host.reduceAdd (hexp pm cr) (constant (F := Ideal) S_ .f32 0x00000000#32) reducesTo_S8x4096x4096_S8x4096_d2 h_S_
def hsum : FVec Ideal S8x4096x1 .f32 := broadcastInDim S8x4096x1 ![0, 1] bcast_S8x4096_S8x4096x1_0_1 (hadd pm cr)
def hlse : FVec Ideal S8x4096x1 .f32 :=
  addf (F := Ideal) (broadcastInDim S8x4096x1 ![0, 1] bcast_S8x4096_S8x4096x1_0_1 (hmax pm cr)) (Host.log (hsum pm cr))
def hout : FVec Ideal S4096x1024 .f32 :=
  shapeCast S4096x1024 (transpose S4096x8x128 [2, 0, 1] (Host.dotGeneral (F := Ideal) (φ₁ := .f32) (φ₂ := .f32) dot_S4096x8x128_S8x4096x4096_S8x128x4096_0_2_2_1_1_0 none (hv pm)
    (Host.divf (F := Ideal) (hexp pm cr) (broadcastInDim S8x4096x4096 ![0, 1, 2] bcast_S8x4096x1_S8x4096x4096_0_1_2 (hsum pm cr))))
    transposes_S8x128x4096_S4096x8x128_2_0_1) shapeCasts_S4096x8x128_S4096x1024
end

theorem V_lse (m : (ℓ : Loc nD τ sig) → Buf (Elt Ideal) ℓ) (c : Dev nD) :
    V m c main_v32 = hlse (m (c.tc.loc main_arg0)) (m (c.tc.loc main_arg1)) := by
  unfold V
  after_reads_simp
  rfl
theorem V_out (m : (ℓ : Loc nD τ sig) → Buf (Elt Ideal) ℓ) (c : Dev nD) :
    V m c main_v37 = hout (m (c.tc.loc main_arg0)) (m (c.tc.loc main_arg1)) := by
  unfold V
  after_reads_simp
  rfl

/-! ## Their elements -/

theorem col_apply (a : FVec Ideal S8x4096 .f32) (h : Fin 8) (R : Fin 4096) :
    broadcastInDim S8x4096x1 ![0, 1] bcast_S8x4096_S8x4096x1_0_1 a (ix3 h R (0 : Fin 1)) = a (ix2 h R) := by
  pointwise
theorem add_log_apply (a b : FVec Ideal S8x4096x1 .f32) (i : S8x4096x1.Idx) : addf a (Host.log b) i = a i + Ideal.log (b i) := rfl

variable (pm : FVec Ideal S4096x6144 .bf16) (cr : FVec Ideal S8x1x4096 .f32)

theorem hadd_apply (h : Fin 8) (R : Fin 4096) : hadd pm cr (ix2 h R) = ∑ n : Fin 4096, hexp pm cr (ix3 h R n) := by
  pointwise [hadd]
theorem hsum_apply (h : Fin 8) (R : Fin 4096) : hsum pm cr (ix3 h R (0 : Fin 1)) = ∑ n : Fin 4096, hexp pm cr (ix3 h R n) :=
  (col_apply _ h R).trans (hadd_apply pm cr h R)
theorem hlse_apply (h : Fin 8) (R : Fin 4096) : hlse pm cr (ix3 h R (0 : Fin 1))
    = hmax pm cr (ix2 h R) + Ideal.log (∑ n : Fin 4096, hexp pm cr (ix3 h R n)) := by
  unfold hlse
  rw [add_log_apply, col_apply, hsum_apply]

theorem hexp_apply (h : Fin 8) (R n : Fin 4096) : hexp pm cr (ix3 h R n) = Ideal.exp (hsel pm cr (ix3 h R n) - hmax pm cr (ix2 h R)) := by
  pointwise [hexp]
theorem hmax_apply (h : Fin 8) (R : Fin 4096) :
    hmax pm cr (ix2 h R) = Finset.fold max (⊥ : EReal) (fun n : Fin 4096 => hsel pm cr (ix3 h R n)) Finset.univ := by
  pointwise [hmax]
  rw [Cert.Fox.ofBits_neg_inf]
theorem hout_apply (R : Fin 4096) (x : Fin 1024) : hout pm cr (ix2 R x)
    = ∑ n : Fin 4096, pm (ix2 n ⟨2048 + x.val, by omega⟩)
        * Ideal.div (hexp pm cr (ix3 ⟨x.val / 128, by omega⟩ R n)) (hsum pm cr (ix3 ⟨x.val / 128, by omega⟩ R (0 : Fin 1))) := by
  pointwise [hout, hv]

/-! ## Their values on finite arguments -/

open Cert.Fox (logit Args)

section
variable {pm cr} {p f : ℕ → ℕ → ℝ} (hA : Args pm cr p f)
include hA

theorem hsel_eq (h : Fin 8) (R n : Fin 4096) : hsel pm cr (ix3 h R n) = Cert.Fox.masked (logit p f h.val R.val) R.val n.val := by
  unfold hsel hlog hmask
  pointwise [hq, hk]
  rw [← Cert.Fox.select_masked, Cert.Fox.ofBits_neg_inf]
  congr 1
  simp only [hA.pm, hA.cr, sc_eq, Nat.mul_comm h.val 128, ← Nat.add_assoc]
  rw [coe_sum_mul 128 (fun l => p R.val (128 * h.val + l)) (fun l => p n.val (1024 + 128 * h.val + l)), ← EReal.coe_mul, ← EReal.coe_sub]
  rfl
/-- The maximum of a row. -/
theorem hmax_eq (h : Fin 8) (R : Fin 4096) : ∃ M : ℝ, hmax pm cr (ix2 h R) = (M : EReal) := by
  rw [hmax_apply]
  simp only [hsel_eq hA]
  exact Cert.Fox.max_real _ _
variable {M : ℕ → ℕ → ℝ} (hM : ∀ (h : Fin 8) (R : Fin 4096), hmax pm cr (ix2 h R) = ((M h.val R.val : ℝ) : EReal))
include hM
theorem hexp_eq (h : Fin 8) (R n : Fin 4096) :
    hexp pm cr (ix3 h R n) = ((Cert.Fox.term (logit p f h.val R.val) (M h.val R.val) R.val n.val : ℝ) : EReal) := by
  rw [hexp_apply, hsel_eq hA, hM, Cert.Fox.masked_exp]
theorem hsum_eq (h : Fin 8) (R : Fin 4096) :
    hsum pm cr (ix3 h R (0 : Fin 1)) = ((Cert.Fox.total (logit p f h.val R.val) (M h.val R.val) R.val : ℝ) : EReal) := by
  rw [hsum_apply]
  simp only [hexp_eq hA hM]
  exact coe_sum 4096 fun n => Cert.Fox.term (logit p f h.val R.val) (M h.val R.val) R.val n
/-- The row statistic. -/
theorem hlse_eq (h : Fin 8) (R : Fin 4096) : hlse pm cr (ix3 h R (0 : Fin 1))
    = ((M h.val R.val + Real.log (Cert.Fox.total (logit p f h.val R.val) (M h.val R.val) R.val) : ℝ) : EReal) := by
  rw [hlse_apply, ← hsum_apply, hsum_eq hA hM, hM, Ideal.log_coe, if_neg (not_le.mpr (Cert.Fox.total_pos _ _ _)), ← EReal.coe_add]
/-- The output. -/
theorem hout_eq (R : Fin 4096) (x : Fin 1024) : hout pm cr (ix2 R x)
    = ((∑ n ∈ range 4096, p n (2048 + x.val) * Cert.Fox.soft (logit p f (x.val / 128) R.val) R.val n : ℝ) : EReal) := by
  rw [hout_apply]
  simp only [hexp_eq hA hM, hsum_eq hA hM, hA.pm, Cert.Fox.div_coe _ _ (Cert.Fox.total_pos _ _ _).ne', Cert.Fox.term_div_total]
  exact coe_sum_mul 4096 (fun n => p n (2048 + x.val)) fun n => Cert.Fox.soft (logit p f (x.val / 128) R.val) R.val n
end

end Cert.KernelIdeal.Fox
end
-- ==== Proof.Fox.Ref.lean ====
/- The reference, stage by stage, on finite arguments. -/
module

public import proofs.«01_k».proof.Proof.Gen.ReferenceIdeal.Read
public import proofs.«01_k».proof.Proof.Fox.Softmax
public import Idealize.ShloMosaic.Lib.IdealHost

@[expose] public section

set_option maxRecDepth 16384

noncomputable section

namespace Cert.ReferenceIdeal.Fox

open Idealize.ShloMosaic Cert.ReferenceIdeal Cert.ReferenceIdeal.Gen Cert.ReferenceIdeal.Read Cert.Fox Cert.KernelIdeal.Fox
open Finset (range)

variable (x0 : FVec Ideal S4096x6144 .bf16) (x1 : FVec Ideal S8x1x4096 .f32) (x2 : FVec Ideal S4096x1024 .bf16)

/-- The numbers of a row, the row's own constant added. -/
def own (p f : ℕ → ℕ → ℝ) (h R n : ℕ) : ℝ := logit p f h R n + f h R

theorem v2_apply (R : Fin 4096) (h : Fin 8) (l : Fin 128) :
    val_main_v2 (F := Ideal) x0 (ix3 R h l) = x0 (ix2 R ⟨h.val * 128 + l.val, by omega⟩) := by
  pointwise [val_main_v0, val_main_v1, val_main_v2]
theorem v5_apply (R : Fin 4096) (h : Fin 8) (l : Fin 128) :
    val_main_v5 (F := Ideal) x0 (ix3 R h l) = x0 (ix2 R ⟨1024 + (h.val * 128 + l.val), by omega⟩) := by
  pointwise [val_main_v3, val_main_v4, val_main_v5]
theorem v8_apply (R : Fin 4096) (h : Fin 8) (l : Fin 128) :
    val_main_v8 (F := Ideal) x0 (ix3 R h l) = x0 (ix2 R ⟨2048 + (h.val * 128 + l.val), by omega⟩) := by
  pointwise [val_main_v6, val_main_v7, val_main_v8]
theorem v9_apply (h : Fin 8) (R : Fin 4096) : val_main_v9 (F := Ideal) x1 (ix2 h R) = x1 (ix3 h (0 : Fin 1) R) := by
  pointwise [val_main_v9]
theorem v11_apply (R : Fin 4096) (h : Fin 8) (l : Fin 128) :
    val_main_v11 (F := Ideal) x2 (ix3 R h l) = x2 (ix2 R ⟨h.val * 128 + l.val, by omega⟩) := by
  pointwise [val_main_v10, val_main_v11]
theorem v26_apply (R n : Fin 4096) :
    val_main_v26 (F := Ideal) (ix2 R n) = IntOp.cmpi CmpIPredicate.sge (BitVec.ofNat 32 R.val) (BitVec.ofNat 32 n.val) := by
  pointwise [val_main_v26, val_main_v25, val_main_v24, val_main_v23, val_main_v22, val_main_v21, val_main_v20]
theorem v30_apply (h : Fin 8) (R n : Fin 4096) : val_main_v30 (F := Ideal) x0 x1 (ix3 h R n)
    = Scalar.select (val_main_v26 (F := Ideal) (ix2 R n)) ((∑ l, val_main_v2 (F := Ideal) x0 (ix3 R h l) * val_main_v5 (F := Ideal) x0 (ix3 n h l)) * val_main_cst (F := Ideal) ix0
      + (val_main_v9 (F := Ideal) x1 (ix2 h R) - val_main_v9 (F := Ideal) x1 (ix2 h n))) (val_main_cst_0 (F := Ideal) ix0) := by
  pointwise [val_main_v30, val_main_v29, val_main_v28, val_main_v27, val_main_v19, val_main_v18, val_main_v17, val_main_v16, val_main_v15, val_main_v14, val_main_v13, val_main_v12]
theorem v32_apply (h : Fin 8) (R : Fin 4096) : val_main_v32 (F := Ideal) x0 x1 (ix2 h R)
    = Finset.fold max (val_main_cst_2 (F := Ideal) (Shape.Idx.first h_S_)) (fun n => val_main_v30 (F := Ideal) x0 x1 (ix3 h R n)) Finset.univ := by
  pointwise [val_main_v32]
theorem v36_apply (h : Fin 8) (R n : Fin 4096) : val_main_v36 (F := Ideal) x0 x1 (ix3 h R n)
    = Ideal.exp (val_main_v30 (F := Ideal) x0 x1 (ix3 h R n) - val_main_v32 (F := Ideal) x0 x1 (ix2 h R)) := by
  pointwise [val_main_v36, val_main_v35, val_main_v34, val_main_v33]
theorem v38_apply (h : Fin 8) (R : Fin 4096) : val_main_v38 (F := Ideal) x0 x1 (ix3 h R (0 : Fin 1))
    = val_main_cst_3 (F := Ideal) (Shape.Idx.first h_S_) + ∑ n, val_main_v36 (F := Ideal) x0 x1 (ix3 h R n) := by
  pointwise [val_main_v38, val_main_v37]
theorem v40_apply (h : Fin 8) (R n : Fin 4096) : val_main_v40 (F := Ideal) x0 x1 (ix3 h R n)
    = Ideal.div (val_main_v36 (F := Ideal) x0 x1 (ix3 h R n)) (val_main_v38 (F := Ideal) x0 x1 (ix3 h R (0 : Fin 1))) := by
  pointwise [val_main_v40, val_main_v39]
theorem v43_apply (h : Fin 8) (R : Fin 4096) : val_main_v43 (F := Ideal) x0 x1 (ix3 h R (0 : Fin 1))
    = Ideal.div (val_main_cst_4 (F := Ideal) ix0) (val_main_v38 (F := Ideal) x0 x1 (ix3 h R (0 : Fin 1)) * val_main_v38 (F := Ideal) x0 x1 (ix3 h R (0 : Fin 1))) := by
  pointwise [val_main_v43, val_main_v42, val_main_v41]
theorem v47_apply (h : Fin 8) (R n : Fin 4096) : val_main_v47 (F := Ideal) x0 x2 (ix3 h R n)
    = ∑ l, val_main_v11 (F := Ideal) x2 (ix3 R h l) * val_main_v8 (F := Ideal) x0 (ix3 n h l) := by
  pointwise [val_main_v47, val_main_v46]
theorem v55_apply (h : Fin 8) (R : Fin 4096) : val_main_v55 (F := Ideal) x0 x1 x2 (ix3 h R (0 : Fin 1))
    = -(val_main_cst_5 (F := Ideal) (Shape.Idx.first h_S_) + ∑ n, val_main_v47 (F := Ideal) x0 x2 (ix3 h R n) * val_main_v43 (F := Ideal) x0 x1 (ix3 h R (0 : Fin 1))
      * val_main_v36 (F := Ideal) x0 x1 (ix3 h R n)) := by
  pointwise [val_main_v55, val_main_v54, val_main_v53, val_main_v52, val_main_v51, val_main_v50]
theorem v63_apply (h : Fin 8) (R n : Fin 4096) : val_main_v63 (F := Ideal) x0 x1 x2 (ix3 h R n)
    = Scalar.select (val_main_v26 (F := Ideal) (ix2 R n)) ((Ideal.div (val_main_v47 (F := Ideal) x0 x2 (ix3 h R n)) (val_main_v38 (F := Ideal) x0 x1 (ix3 h R (0 : Fin 1)))
      + (val_main_cst_6 (F := Ideal) (Shape.Idx.first h_S_) + ∑ x : Fin 1, val_main_v55 (F := Ideal) x0 x1 x2 (ix3 h R x)))
      * val_main_v36 (F := Ideal) x0 x1 (ix3 h R n)) (val_main_cst_7 (F := Ideal) ix0) := by
  pointwise [val_main_v63, val_main_v62, val_main_v27, val_main_v61, val_main_v60, val_main_v59, val_main_v58, val_main_v57, val_main_v56]
theorem v77_apply (R : Fin 4096) (x : Fin 1024) : val_main_v77 (F := Ideal) x0 x1 x2 (ix2 R x)
    = ∑ n, val_main_v63 (F := Ideal) x0 x1 x2 (ix3 ⟨x.val / 128, by omega⟩ R n) * val_main_cst_12 (F := Ideal) ix0
        * val_main_v5 (F := Ideal) x0 (ix3 n ⟨x.val / 128, by omega⟩ ⟨x.val % 128, by omega⟩) := by
  pointwise [val_main_v77, val_main_v76, val_main_v75, val_main_v72, val_main_v71]
theorem v79_apply (n : Fin 4096) (x : Fin 1024) : val_main_v79 (F := Ideal) x0 x1 x2 (ix2 n x)
    = ∑ R, val_main_v63 (F := Ideal) x0 x1 x2 (ix3 ⟨x.val / 128, by omega⟩ R n) * val_main_cst_12 (F := Ideal) ix0
        * val_main_v2 (F := Ideal) x0 (ix3 R ⟨x.val / 128, by omega⟩ ⟨x.val % 128, by omega⟩) := by
  pointwise [val_main_v79, val_main_v78, val_main_v74, val_main_v73, val_main_v72, val_main_v71]
theorem v81_apply (n : Fin 4096) (x : Fin 1024) : val_main_v81 (F := Ideal) x0 x1 x2 (ix2 n x)
    = ∑ R, val_main_v11 (F := Ideal) x2 (ix3 R ⟨x.val / 128, by omega⟩ ⟨x.val % 128, by omega⟩)
        * val_main_v40 (F := Ideal) x0 x1 (ix3 ⟨x.val / 128, by omega⟩ R n) := by
  pointwise [val_main_v81, val_main_v80, val_main_v49, val_main_v48, val_main_v46]
theorem v82_apply (h : Fin 8) (n : Fin 4096) : val_main_v82 (F := Ideal) x0 x1 x2 (ix3 h (0 : Fin 1) n)
    = val_main_cst_10 (F := Ideal) (Shape.Idx.first h_S_) + ∑ _x : Fin 1, (val_main_cst_9 (F := Ideal) (Shape.Idx.first h_S_)
        + ∑ R, -val_main_v63 (F := Ideal) x0 x1 x2 (ix3 h R n)) := by
  pointwise [val_main_v82, val_main_v69, val_main_v68, val_main_v67, val_main_v66]
theorem v83_apply (h : Fin 8) (R : Fin 4096) : val_main_v83 (F := Ideal) x0 x1 x2 (ix3 h R (0 : Fin 1))
    = val_main_cst_11 (F := Ideal) (Shape.Idx.first h_S_) + ∑ _x : Fin 1, (val_main_cst_8 (F := Ideal) (Shape.Idx.first h_S_)
        + ∑ n, val_main_v63 (F := Ideal) x0 x1 x2 (ix3 h R n)) := by
  pointwise [val_main_v83, val_main_v70, val_main_v65, val_main_v64]

/-! ## On numbers -/

theorem zero_f32 : Ideal.ofBits .f32 0x00000000#32 = (0 : EReal) := by simp [Ideal.ofBits, Ideal.ieee]

variable {x0 x1 x2} {p f d : ℕ → ℕ → ℝ} (hA : Args x0 x1 p f) (hd : ∀ (R : Fin 4096) (x : Fin 1024), x2 (ix2 R x) = ((d R.val x.val : ℝ) : EReal))
include hA
theorem v30_eq (h : Fin 8) (R n : Fin 4096) : val_main_v30 (F := Ideal) x0 x1 (ix3 h R n) = masked (own p f h.val R.val) R.val n.val := by
  rw [v30_apply, v26_apply, ← select_masked, ← ofBits_neg_inf]
  simp only [v2_apply, v5_apply, v9_apply, hA.pm, hA.cr, val_main_cst_apply, val_main_cst_0_apply, Nat.mul_comm h.val 128, ← Nat.add_assoc]
  refine congrArg (fun z : EReal => Scalar.select _ z _) ?_
  rw [coe_sum_mul 128 (fun l => p R.val (128 * h.val + l)) (fun l => p n.val (1024 + 128 * h.val + l))]
  show _ * Ideal.ofBits .f32 0x3DB504F3#32 + _ = _
  rw [sc_eq, ← EReal.coe_mul, ← EReal.coe_sub, ← EReal.coe_add]
  refine congrArg _ ?_
  unfold own logit; ring
theorem v32_eq (h : Fin 8) (R : Fin 4096) : ∃ M : ℝ, val_main_v32 (F := Ideal) x0 x1 (ix2 h R) = (M : EReal) := by
  rw [v32_apply]
  simp only [v30_eq hA, val_main_cst_2_apply]
  refine Eq.mp ?_ (max_real (own p f h.val R.val) R.val)
  rw [← ofBits_neg_inf]; rfl

section
variable {M : ℝ} {h : Fin 8} {R : Fin 4096} (hM : val_main_v32 (F := Ideal) x0 x1 (ix2 h R) = (M : EReal))
include hM
theorem v36_eq (n : Fin 4096) : val_main_v36 (F := Ideal) x0 x1 (ix3 h R n) = ((term (own p f h.val R.val) M R.val n.val : ℝ) : EReal) := by
  rw [v36_apply, v30_eq hA, hM, masked_exp]
theorem v38_eq : val_main_v38 (F := Ideal) x0 x1 (ix3 h R (0 : Fin 1)) = ((total (own p f h.val R.val) M R.val : ℝ) : EReal) := by
  rw [v38_apply, val_main_cst_3_apply]
  simp only [v36_eq hA hM]
  rw [coe_sum 4096 fun n => term (own p f h.val R.val) M R.val n]
  show Ideal.ofBits .f32 0x00000000#32 + _ = _
  rw [zero_f32, zero_add]; rfl
theorem v43_eq : val_main_v43 (F := Ideal) x0 x1 (ix3 h R (0 : Fin 1))
    = ((1 / (total (own p f h.val R.val) M R.val * total (own p f h.val R.val) M R.val) : ℝ) : EReal) := by
  have hp := total_pos (own p f h.val R.val) M R.val
  rw [v43_apply, v38_eq hA hM, ← EReal.coe_mul, val_main_cst_4_apply]
  show Ideal.div (Ideal.ofBits .f32 0x3F800000#32) _ = _
  rw [show Ideal.ofBits .f32 0x3F800000#32 = ((1 : ℝ) : EReal) from Ideal.ofBits_one_f32.trans EReal.coe_one.symm, div_coe _ _ (mul_pos hp hp).ne']
end
/-- The weights of the reference are the softmax. -/
theorem v40_eq (h : Fin 8) (R n : Fin 4096) : val_main_v40 (F := Ideal) x0 x1 (ix3 h R n) = ((prob p f h.val R.val n.val : ℝ) : EReal) := by
  obtain ⟨M, hM⟩ := v32_eq hA h R
  rw [v40_apply, v36_eq hA hM, v38_eq hA hM, div_coe _ _ (total_pos _ _ _).ne', term_div_total]
  exact congrArg _ (soft_add (logit p f h.val R.val) (f h.val R.val) R.val n.val)
include hd
theorem v47_eq (h : Fin 8) (R n : Fin 4096) : val_main_v47 (F := Ideal) x0 x2 (ix3 h R n) = ((dprob p d h.val R.val n.val : ℝ) : EReal) := by
  rw [v47_apply]
  simp only [v11_apply, v8_apply, hA.pm, hd, Nat.mul_comm h.val 128, ← Nat.add_assoc]
  exact coe_sum_mul 128 (fun l => d R.val (128 * h.val + l)) (fun l => p n.val (2048 + 128 * h.val + l))
/-- The gradient of a logit. -/
theorem v63_eq (h : Fin 8) (R n : Fin 4096) : val_main_v63 (F := Ideal) x0 x1 x2 (ix3 h R n) = ((dlogit p f d h.val R.val n.val : ℝ) : EReal) := by
  obtain ⟨M, hM⟩ := v32_eq hA h R
  rw [v63_apply, v26_apply, Fin.sum_univ_one, v55_apply]
  simp only [v36_eq hA hM, v38_eq hA hM, v43_eq hA hM, v47_eq hA hd, val_main_cst_5_apply, val_main_cst_6_apply, val_main_cst_7_apply]
  have hw := nat_sge R.val n.val R.isLt n.isLt _ rfl
  unfold Scalar.select
  rw [show (1 : BitVec 1) = 1#1 from rfl]
  by_cases hn : n.val ≤ R.val
  · rw [if_pos (hw.mpr hn), ← dlogit_parts p f d h.val R.val n.val (f h.val R.val) M]
    show (_ + (Ideal.ofBits .f32 0x00000000#32 + -(Ideal.ofBits .f32 0x00000000#32 + _))) * _ = _
    rw [zero_f32, zero_add, zero_add, div_coe _ _ (total_pos _ _ _).ne']
    simp only [← EReal.coe_mul]
    rw [coe_sum 4096 fun k => dprob p d h.val R.val k * (1 / (total (own p f h.val R.val) M R.val * total (own p f h.val R.val) M R.val))
          * term (own p f h.val R.val) M R.val k, ← EReal.coe_neg, ← EReal.coe_add, ← EReal.coe_mul]
    rfl
  · rw [if_neg (mt hw.mp hn), dlogit_zero p f d (not_le.mp hn), EReal.coe_zero]
    exact zero_f32

/-! ## The results -/

theorem dq_eq (R : Fin 4096) (x : Fin 1024) : val_main_v77 (F := Ideal) x0 x1 x2 (ix2 R x) = ((gradQ p f d (x.val / 128) R.val (x.val % 128) : ℝ) : EReal) := by
  rw [v77_apply, val_main_cst_12_apply]
  show ∑ n, _ * Ideal.ofBits .f32 0x3DB504F3#32 * _ = _
  simp only [v63_eq hA hd, v5_apply, hA.pm, sc_eq, ← EReal.coe_mul]
  rw [coe_sum 4096 fun n => dlogit p f d (x.val / 128) R.val n * sc * p n (1024 + (x.val / 128 * 128 + x.val % 128))]
  unfold gradQ
  rw [Finset.sum_mul]
  refine congrArg _ (Finset.sum_congr rfl fun n _ => ?_)
  rw [Nat.mul_comm, ← Nat.add_assoc]; ring
theorem dk_eq (n : Fin 4096) (x : Fin 1024) : val_main_v79 (F := Ideal) x0 x1 x2 (ix2 n x) = ((gradK p f d (x.val / 128) n.val (x.val % 128) : ℝ) : EReal) := by
  rw [v79_apply, val_main_cst_12_apply]
  show ∑ n, _ * Ideal.ofBits .f32 0x3DB504F3#32 * _ = _
  simp only [v63_eq hA hd, v2_apply, hA.pm, sc_eq, ← EReal.coe_mul]
  rw [coe_sum 4096 fun R => dlogit p f d (x.val / 128) R n.val * sc * p R (x.val / 128 * 128 + x.val % 128)]
  unfold gradK
  rw [Finset.sum_mul]
  refine congrArg _ (Finset.sum_congr rfl fun R _ => ?_)
  rw [Nat.mul_comm (x.val / 128)]; ring
theorem dv_eq (n : Fin 4096) (x : Fin 1024) : val_main_v81 (F := Ideal) x0 x1 x2 (ix2 n x) = ((gradV p f d (x.val / 128) n.val (x.val % 128) : ℝ) : EReal) := by
  rw [v81_apply]
  simp only [v40_eq hA, v11_apply, hd, ← EReal.coe_mul]
  rw [coe_sum 4096 fun R => d R (x.val / 128 * 128 + x.val % 128) * prob p f (x.val / 128) R n.val]
  refine congrArg _ (Finset.sum_congr rfl fun R _ => ?_)
  rw [Nat.mul_comm (x.val / 128), mul_comm]
theorem dc_eq (h : Fin 8) (n : Fin 4096) : val_main_v82 (F := Ideal) x0 x1 x2 (ix3 h (0 : Fin 1) n) = ((gradC p f d h.val n.val : ℝ) : EReal) := by
  rw [v82_apply, Fin.sum_univ_one, val_main_cst_9_apply, val_main_cst_10_apply]
  show Ideal.ofBits .f32 0x00000000#32 + (Ideal.ofBits .f32 0x00000000#32 + _) = _
  simp only [v63_eq hA hd, zero_f32, zero_add, ← EReal.coe_neg]
  rw [coe_sum 4096 fun R => -dlogit p f d h.val R n.val, Finset.sum_neg_distrib]; rfl
theorem dcq_eq (h : Fin 8) (R : Fin 4096) : val_main_v83 (F := Ideal) x0 x1 x2 (ix3 h R (0 : Fin 1)) = ((gradCq p f d h.val R.val : ℝ) : EReal) := by
  rw [v83_apply, Fin.sum_univ_one, val_main_cst_8_apply, val_main_cst_11_apply]
  show Ideal.ofBits .f32 0x00000000#32 + (Ideal.ofBits .f32 0x00000000#32 + _) = _
  simp only [v63_eq hA hd, zero_f32, zero_add]
  exact coe_sum 4096 fun n => dlogit p f d h.val R.val n

end Cert.ReferenceIdeal.Fox
end
-- ==== Proof.Fox.Agree.lean ====
/- The kernel and the reference leave the same gradients, given finite arguments. -/
module

public import proofs.«01_k».proof.Defs
public import proofs.«01_k».proof.Proof.Gen.Pre_finite
public import proofs.«01_k».proof.Proof.Gen.KernelIdeal
public import proofs.«01_k».proof.Proof.Gen.ReferenceIdeal
public import proofs.«01_k».proof.Proof.Gen.ReferenceIdeal.Run
public import proofs.«01_k».proof.Proof.Fox.Chain
public import proofs.«01_k».proof.Proof.Fox.Soft
public import proofs.«01_k».proof.Proof.Fox.Ref
public import Idealize.ShloMosaic.Lib.Claim

@[expose] public section

set_option maxRecDepth 16384

noncomputable section

namespace Cert.KernelIdeal.Fox

open Idealize.ShloMosaic Cert.KernelIdeal Cert.KernelIdeal.Gen
open Cert.Fox (Args prob dprob dlogit gradQ gradK gradV gradC gradCq soft total logit)
open Finset (range)

/-! ## What the precondition says -/

/-- An extended real between the infinities is a number. -/
theorem real_of_between {φ : FTy} {t b : Ideal φ} (ht : t = (⊤ : EReal)) (hb : b = (⊥ : EReal)) {z : Ideal φ}
    (h1 : FloatOps.cmpf CmpFPredicate.olt z t = 1#1) (h2 : FloatOps.cmpf CmpFPredicate.ogt z b = 1#1) : z = ((EReal.toReal z : ℝ) : EReal) := by
  subst ht; subst hb
  refine (EReal.coe_toReal ?_ ?_).symm
  · rintro rfl
    have h : Ideal.cmp CmpFPredicate.olt (⊤ : EReal) ⊤ = 1#1 := h1
    simp [Ideal.cmp] at h
  · rintro rfl
    have h : Ideal.cmp CmpFPredicate.ogt (⊥ : EReal) ⊥ = 1#1 := h2
    simp [Ideal.cmp] at h
theorem top_bf16 : (Ideal.ofBits .bf16 0x7F80#16 : EReal) = ⊤ := by simp [Ideal.ofBits, Ideal.ieee]
theorem bot_bf16 : (Ideal.ofBits .bf16 0xFF80#16 : EReal) = ⊥ := by simp [Ideal.ofBits, Ideal.ieee]
theorem top_f32 : (Ideal.ofBits .f32 0x7F800000#32 : EReal) = ⊤ := by simp [Ideal.ofBits, Ideal.ieee]
theorem bot_f32 : (Ideal.ofBits .f32 0xFF800000#32 : EReal) = ⊥ := by simp [Ideal.ofBits, Ideal.ieee]

/-- A table as a function of two numbers. -/
theorem numbered {a b : ℕ} (t : Fin a → Fin b → ℝ) : ∃ g : ℕ → ℕ → ℝ, ∀ i j, t i j = g i.val j.val :=
  ⟨fun i j => if w : i < a ∧ j < b then t ⟨i, w.1⟩ ⟨j, w.2⟩ else 0, fun i j => by
    show t i j = dite _ _ _
    rw [dif_pos ⟨i.isLt, j.isLt⟩]⟩

variable {m : (ℓ : Loc nD τ sig) → Buf (Elt Ideal) ℓ}

/-- The numbers of the three arguments. -/
theorem reals (hpre : Cert.Pre_KernelIdeal_finite m) (c : Dev nD) : ∃ p f d : ℕ → ℕ → ℝ,
    Args (m (c.tc.loc main_arg0)) (m (c.tc.loc main_arg1)) p f
    ∧ ∀ (R : Fin 4096) (x : Fin 1024), m (c.tc.loc main_arg2) (ix2 R x) = ((d R.val x.val : ℝ) : EReal) := by
  obtain ⟨h0, h1, h2, h3, h4, h5⟩ := hpre c
  obtain ⟨p, hp⟩ := numbered fun (R : Fin 4096) (x : Fin 6144) => EReal.toReal (m (c.tc.loc main_arg0) (ix2 R x))
  obtain ⟨f, hf⟩ := numbered fun (h : Fin 8) (n : Fin 4096) => EReal.toReal (m (c.tc.loc main_arg1) (ix3 h (0 : Fin 1) n))
  obtain ⟨d, hd⟩ := numbered fun (R : Fin 4096) (x : Fin 1024) => EReal.toReal (m (c.tc.loc main_arg2) (ix2 R x))
  refine ⟨p, f, d, ⟨fun R x => ?_, fun h n => ?_⟩, fun R x => ?_⟩
  · rw [← hp]; exact real_of_between top_bf16 bot_bf16 (congrFun h0 (ix2 R x)) (congrFun h1 (ix2 R x))
  · rw [← hf]; exact real_of_between top_f32 bot_f32 (congrFun h2 (ix3 h (0 : Fin 1) n)) (congrFun h3 (ix3 h (0 : Fin 1) n))
  · rw [← hd]; exact real_of_between top_bf16 bot_bf16 (congrFun h4 (ix2 R x)) (congrFun h5 (ix2 R x))

/-! ## The kernel's weights are the softmax -/

/-- The numbers the kernel is called with. -/
def whole (p f d M : ℕ → ℕ → ℝ) : Whole where
  pm := p
  dO := d
  o R x := ∑ n ∈ range 4096, p n (2048 + x) * soft (logit p f (x / 128) R) R n
  f := f
  lse h R := M h R + Real.log (total (logit p f h R) (M h R) R)

variable (p f d M : ℕ → ℕ → ℝ)
theorem whole_wt (h R n : ℕ) : (whole p f d M).wt h R n = prob p f h R n :=
  Cert.Fox.exp_sub_lse (logit p f h R) (M h R) R n
theorem whole_dl (h R n : ℕ) : (whole p f d M).dl h R n = dlogit p f d h R n := by
  unfold Whole.dl dlogit
  rw [whole_wt]
  refine congrArg (fun z : ℝ => prob p f h R n * (dprob p d h R n - z)) ?_
  rw [← Cert.Fox.delta_eq]
  refine Finset.sum_congr rfl fun l hl => ?_
  have e : (128 * h + l) / 128 = h := by have := Finset.mem_range.mp hl; omega
  show _ * ∑ n ∈ range 4096, p n (2048 + (128 * h + l)) * soft (logit p f ((128 * h + l) / 128) R) R n = _
  rw [e]; rfl

variable {p f d M}
theorem holds {c : Dev nD} (hA : Args (m (c.tc.loc main_arg0)) (m (c.tc.loc main_arg1)) p f)
    (hd : ∀ (R : Fin 4096) (x : Fin 1024), m (c.tc.loc main_arg2) (ix2 R x) = ((d R.val x.val : ℝ) : EReal)) :
    ∃ M, Holds m c (whole p f d M) := by
  choose M' hM' using hmax_eq hA
  obtain ⟨M, hn⟩ := numbered M'
  have hM : ∀ (h : Fin 8) (R : Fin 4096), hmax (m (c.tc.loc main_arg0)) (m (c.tc.loc main_arg1)) (ix2 h R) = ((M h.val R.val : ℝ) : EReal) :=
    fun h R => (hM' h R).trans (congrArg _ (hn h R))
  refine ⟨M, ?_, ?_, ?_, ?_, ?_⟩
  · intro R x; rw [V_main_arg0]; exact hA.pm R x
  · intro R x; rw [V_main_arg2]; exact hd R x
  · intro R x; rw [V_out]; exact hout_eq hA hM R x
  · intro h n; rw [V_main_arg1]; exact hA.cr h n
  · intro h R; rw [V_lse]; exact hlse_eq hA hM h R

/-! ## The claim -/

section
variable {c : Dev nD} (hH : Holds m c (whole p f d M))
include hH
theorem dq_value (R : Fin 4096) (x : Fin 1024) : (dats m 0 c).arrAt 7 cfg0.N (ix2 R x) = ((gradQ p f d (x.val / 128) R.val (x.val % 128) : ℝ) : EReal) := by
  rw [final_dq m hH]; unfold Whole.dqTo gradQ; simp only [whole_dl]; rfl
theorem dk_value (n : Fin 4096) (x : Fin 1024) : (dats m 0 c).arrAt 8 cfg0.N (ix2 n x) = ((gradK p f d (x.val / 128) n.val (x.val % 128) : ℝ) : EReal) := by
  rw [final_dk m hH]; unfold Whole.dk gradK; simp only [whole_dl]; rfl
theorem dv_value (n : Fin 4096) (x : Fin 1024) : (dats m 0 c).arrAt 9 cfg0.N (ix2 n x) = ((gradV p f d (x.val / 128) n.val (x.val % 128) : ℝ) : EReal) := by
  rw [final_dv m hH]; unfold Whole.dv gradV; simp only [whole_wt]; rfl
theorem dc_value (h : Fin 8) (n : Fin 4096) : (dats m 0 c).arrAt 10 cfg0.N (ix3 h (0 : Fin 1) n) = ((gradC p f d h.val n.val : ℝ) : EReal) := by
  rw [final_dc m hH]; unfold Whole.dc gradC; simp only [whole_dl]
theorem dcq_value (h : Fin 8) (R : Fin 4096) : (dats m 0 c).arrAt 11 cfg0.N (ix3 h R (0 : Fin 1)) = ((gradCq p f d h.val R.val : ℝ) : EReal) := by
  rw [final_dcq m hH]; unfold Whole.dcqTo gradCq; simp only [whole_dl]
end

theorem dc_index (i : S8x1x4096.Idx) : ∃ (h : Fin 8) (n : Fin 4096), i = ix3 h (0 : Fin 1) n :=
  ⟨i 0, i 2, (eq_ix3 i).trans (congrArg (fun z : Fin 1 => ix3 (i 0) z (i 2)) (Subsingleton.elim (α := Fin 1) _ _))⟩
theorem dcq_index (i : S8x4096x1.Idx) : ∃ (h : Fin 8) (R : Fin 4096), i = ix3 h R (0 : Fin 1) :=
  ⟨i 0, i 1, (eq_ix3 i).trans (congrArg (fun z : Fin 1 => ix3 (i 0) (i 1) z) (Subsingleton.elim (α := Fin 1) _ _))⟩
/-- The reference's results are what the kernel leaves. -/
theorem values (hpre : Cert.Pre_KernelIdeal_finite m)
    {m' : (ℓ : Loc Cert.ReferenceIdeal.nD Cert.ReferenceIdeal.τ Cert.ReferenceIdeal.sig) → Buf (Elt Ideal) ℓ} (c : Dev nD)
    (hagree : m' (c.tc.loc Cert.ReferenceIdeal.main_arg0) = m (c.tc.loc main_arg0) ∧ m' (c.tc.loc Cert.ReferenceIdeal.main_arg1) = m (c.tc.loc main_arg1)
      ∧ m' (c.tc.loc Cert.ReferenceIdeal.main_arg2) = m (c.tc.loc main_arg2)) :
    Cert.ReferenceIdeal.Value.res_main_v77 m' c = (dats m 0 c).arrAt 7 cfg0.N
    ∧ Cert.ReferenceIdeal.Value.res_main_v79 m' c = (dats m 0 c).arrAt 8 cfg0.N
    ∧ Cert.ReferenceIdeal.Value.res_main_v81 m' c = (dats m 0 c).arrAt 9 cfg0.N
    ∧ Cert.ReferenceIdeal.Value.res_main_v82 m' c = (dats m 0 c).arrAt 10 cfg0.N
    ∧ Cert.ReferenceIdeal.Value.res_main_v83 m' c = (dats m 0 c).arrAt 11 cfg0.N := by
  obtain ⟨p, f, d, hA, hd⟩ := reals hpre c
  obtain ⟨M, hH⟩ := holds hA hd
  refine ⟨?_, ?_, ?_, ?_, ?_⟩
  · rw [Cert.ReferenceIdeal.Read.val_main_v77_eq, hagree.1, hagree.2.1, hagree.2.2]; funext i; rw [eq_ix2 i]; exact (Cert.ReferenceIdeal.Fox.dq_eq hA hd _ _).trans (dq_value hH _ _).symm
  · rw [Cert.ReferenceIdeal.Read.val_main_v79_eq, hagree.1, hagree.2.1, hagree.2.2]; funext i; rw [eq_ix2 i]; exact (Cert.ReferenceIdeal.Fox.dk_eq hA hd _ _).trans (dk_value hH _ _).symm
  · rw [Cert.ReferenceIdeal.Read.val_main_v81_eq, hagree.1, hagree.2.1, hagree.2.2]; funext i; rw [eq_ix2 i]; exact (Cert.ReferenceIdeal.Fox.dv_eq hA hd _ _).trans (dv_value hH _ _).symm
  · rw [Cert.ReferenceIdeal.Read.val_main_v82_eq, hagree.1, hagree.2.1, hagree.2.2]; funext i; obtain ⟨a, b, rfl⟩ := dc_index i; exact (Cert.ReferenceIdeal.Fox.dc_eq hA hd _ _).trans (dc_value hH _ _).symm
  · rw [Cert.ReferenceIdeal.Read.val_main_v83_eq, hagree.1, hagree.2.1, hagree.2.2]; funext i; obtain ⟨a, b, rfl⟩ := dcq_index i; exact (Cert.ReferenceIdeal.Fox.dcq_eq hA hd _ _).trans (dcq_value hH _ _).symm

/-- The run, its results named. -/
theorem run_values (m : (ℓ : Loc nD τ sig) → Buf (Elt Ideal) ℓ) (ρ : Dev nD → PrngReg) : θ_run defs (onTc (τ := τ) (main (F := Ideal))) ⟨m, fun _ => 0, ρ⟩ (fun r => ∀ c : Dev nD,
      r.2.mem ((c.tc : Thread nD τ).loc main_v38_0) = (dats m 0 c).arrAt 7 cfg0.N
      ∧ r.2.mem ((c.tc : Thread nD τ).loc main_v38_1) = (dats m 0 c).arrAt 8 cfg0.N
      ∧ r.2.mem ((c.tc : Thread nD τ).loc main_v38_2) = (dats m 0 c).arrAt 9 cfg0.N
      ∧ r.2.mem ((c.tc : Thread nD τ).loc main_v38_3) = (dats m 0 c).arrAt 10 cfg0.N
      ∧ r.2.mem ((c.tc : Thread nD τ).loc main_v38_4) = (dats m 0 c).arrAt 11 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h.1 c).1 7, (h.1 c).1 8, (h.1 c).1 9, (h.1 c).1 10, (h.1 c).1 11,
      ((h.1 c).1 5).trans (((dats m 0 c).arrAt_in 5 rfl _).trans ((A_eq m c 5).trans (V_main_arg0 m c))),
      ((h.1 c).1 6).trans (((dats m 0 c).arrAt_in 6 rfl _).trans ((A_eq m c 6).trans (V_main_arg1 m c))),
      ((h.1 c).1 1).trans (((dats m 0 c).arrAt_in 1 rfl _).trans ((A_eq m c 1).trans (V_main_arg2 m c)))⟩) (run_main m ρ)

theorem agree : Cert.algebraic_KernelIdeal_ReferenceIdeal_pre_finite := by
  pair_intro
  · run_from run_values m g
  · run_from Cert.ReferenceIdeal.Value.run (F := Ideal) m' g'
    · exact (values hpre c (hagree c)).1
    · exact (values hpre c (hagree c)).2.1
    · exact (values hpre c (hagree c)).2.2.1
    · exact (values hpre c (hagree c)).2.2.2.1
    · exact (values hpre c (hagree c)).2.2.2.2

end Cert.KernelIdeal.Fox
end
-- ==== Proof.Fox.Twin.lean ====
/- The kernel and its idealization are one text: the run of the one is the run of the other. -/
module

public import proofs.«01_k».proof.Defs
public import proofs.«01_k».proof.Proof.Gen.Kernel
public import proofs.«01_k».proof.Proof.Gen.KernelIdeal
public import proofs.«01_k».proof.Proof.Fox.Frame

@[expose] public section

set_option maxRecDepth 16384

noncomputable section

namespace Cert.KernelIdeal.Fox

open Idealize.ShloMosaic

set_option maxHeartbeats 4000000 in
theorem main_twin : Cert.Kernel.main (F := Bits) = Cert.KernelIdeal.main (F := Bits) := by
  delta Cert.Kernel.main Cert.KernelIdeal.main
  rfl
set_option maxHeartbeats 4000000 in
theorem body_twin : Cert.Kernel.cc0_fox_bwd (F := Bits) = Cert.KernelIdeal.cc0_fox_bwd (F := Bits) := rfl
set_option maxHeartbeats 8000000 in
theorem defs₀_twin : Cert.Kernel.defs₀ (F := Bits) = Cert.KernelIdeal.defs₀ (F := Bits) := by
  delta Cert.Kernel.defs₀ Cert.KernelIdeal.defs₀
  refine congrArg Defs.onTc (funext fun l => ?_)
  obtain ⟨l, hl⟩ := l
  cases l with
  | zero =>
    funext a; obtain ⟨t, s⟩ := a
    show Cert.Kernel.cc0_fox_bwd _ _ _ _ _ _ _ _ _ _ _ _ _ _ _ _ _ _ _ _ _ _ _ _ _ _ _ = Cert.KernelIdeal.cc0_fox_bwd _ _ _ _ _ _ _ _ _ _ _ _ _ _ _ _ _ _ _ _ _ _ _ _ _ _ _
    rw [body_twin]; rfl
  | succ n => exact absurd hl (Nat.not_lt.2 (Nat.le_add_left _ _))
set_option maxHeartbeats 8000000 in
theorem frame_twin : Cert.quiescent_Kernel := fun m ρ _ => by
  have h := frame_main (F := Bits) m ρ
  unfold Cert.KernelIdeal.defs at h
  unfold Cert.Kernel.defs
  rw [defs₀_twin, main_twin]
  exact h
end Cert.KernelIdeal.Fox
end
-- ==== Proof.Products.Sum.lean ====
/- Sums of products over a range of numbers, added up block by block. -/
module

public import Idealize.ShloMosaic.PureOps.Ideal
public import Mathlib.Algebra.BigOperators.Fin

@[expose] public section

noncomputable section

namespace Cert.Products

open Finset (range)

/-- The entry of a table at two numbers; zero outside the table. -/
def entry {M N : ℕ} (A : Fin M → Fin N → EReal) (i j : ℕ) : EReal := if h : i < M ∧ j < N then A ⟨i, h.1⟩ ⟨j, h.2⟩ else 0

theorem entry_eq {M N : ℕ} (A : Fin M → Fin N → EReal) {i j : ℕ} (hi : i < M) (hj : j < N) : entry A i j = A ⟨i, hi⟩ ⟨j, hj⟩ :=
  dif_pos ⟨hi, hj⟩

/-- The entry of a table of planes at three numbers; zero outside the table. -/
def entry3 {K M N : ℕ} (A : Fin K → Fin M → Fin N → EReal) (u i j : ℕ) : EReal := if h : u < K then entry (A ⟨u, h⟩) i j else 0

theorem entry3_eq {K M N : ℕ} (A : Fin K → Fin M → Fin N → EReal) {u i j : ℕ} (hu : u < K) (hi : i < M) (hj : j < N) :
    entry3 A u i j = A ⟨u, hu⟩ ⟨i, hi⟩ ⟨j, hj⟩ :=
  (dif_pos hu).trans (entry_eq _ hi hj)

/-- The sum of the first `n` products. -/
def dotTo (f g : ℕ → EReal) (n : ℕ) : EReal := ∑ p ∈ range n, f p * g p

theorem dotTo_fin (f g : ℕ → EReal) (n : ℕ) : dotTo f g n = ∑ v : Fin n, f v.val * g v.val := Finset.sum_range _

/-- The first `n` products and the next `t` of them. -/
theorem dotTo_add (f g : ℕ → EReal) (n t : ℕ) : dotTo f g (n + t) = dotTo f g n + ∑ v : Fin t, f (n + v.val) * g (n + v.val) := by
  unfold dotTo; rw [Finset.sum_range_add, Finset.sum_range (fun x => f (n + x) * g (n + x))]

theorem dotTo_zero (f g : ℕ → EReal) : dotTo f g 0 = 0 := Finset.sum_range_zero _

/-- The products of block `k`, `t` of them, added to those of the blocks before. -/
theorem dotTo_block (f g : ℕ → EReal) (t k : ℕ) :
    dotTo f g (t * k) + ∑ v : Fin t, f (t * k + v.val) * g (t * k + v.val) = dotTo f g (t * (k + 1)) := by
  rw [Nat.mul_succ, dotTo_add]

/-- An accumulator over `n` points for each result block: the first point of a block starts it with its products, the others add
    theirs, and the last writes the sum instead of keeping it. What it writes is the sum of all products of the block. -/
theorem fold {N n T : ℕ} (hn : 2 ≤ n) (acc out : (t : ℕ) → t < N → EReal) (f g : ℕ → ℕ → EReal)
    (first : ∀ (t : ℕ) (h : t < N), t % n = 0 → acc t h = ∑ v : Fin T, f (t / n) (T * (t % n) + v.val) * g (t / n) (T * (t % n) + v.val))
    (next : ∀ (t : ℕ) (h : t < N), 1 ≤ t % n → t % n + 1 < n →
      acc t h = acc (t - 1) (by omega) + ∑ v : Fin T, f (t / n) (T * (t % n) + v.val) * g (t / n) (T * (t % n) + v.val))
    (last : ∀ (t : ℕ) (h : t < N), t % n + 1 = n →
      out t h = acc (t - 1) (by omega) + ∑ v : Fin T, f (t / n) (T * (t % n) + v.val) * g (t / n) (T * (t % n) + v.val))
    (t : ℕ) (h : t < N) (ht : t % n + 1 = n) : out t h = dotTo (f (t / n)) (g (t / n)) (T * n) := by
  have before : ∀ t : ℕ, 1 ≤ t % n → (t - 1) / n = t / n ∧ (t - 1) % n + 1 = t % n := by
    intro t h1
    have e := Nat.div_add_mod t n
    have l := Nat.mod_lt t (by omega : 0 < n)
    have e' : t - 1 = (t % n - 1) + n * (t / n) := by omega
    rw [e', Nat.add_mul_div_left _ _ (by omega), Nat.add_mul_mod_self_left, Nat.div_eq_of_lt (by omega), Nat.mod_eq_of_lt (by omega)]
    omega
  have carried : ∀ (k t : ℕ) (h : t < N), t % n = k → k + 1 < n → acc t h = dotTo (f (t / n)) (g (t / n)) (T * (t % n + 1)) := by
    intro k
    induction k with
    | zero =>
      intro t h hk _
      rw [first t h hk, ← dotTo_block, hk, Nat.mul_zero, dotTo_zero, zero_add]
    | succ k ih =>
      intro t h hk hl
      have b := before t (by omega)
      rw [next t h (by omega) (by omega), ih (t - 1) (by omega) (by omega) (by omega), b.1, b.2, dotTo_block]
  have b := before t (by omega)
  rw [last t h ht, carried ((t - 1) % n) (t - 1) (by omega) rfl (by omega), b.1, b.2, dotTo_block, ht]

end Cert.Products
end
-- ==== Proof.Products.MlpIn.lean ====
/- The first product of the feed-forward block, its positive part and the square of that. -/
module

public import proofs.«01_k».proof.Defs
public import proofs.«01_k».proof.Proof.Products.Sum
public import proofs.«01_k».proof.Proof.Gen.MlpInIdeal.Frame
public import proofs.«01_k».proof.Proof.Gen.MlpInReferenceIdeal
public import proofs.«01_k».proof.Proof.Gen.MlpInReferenceIdeal.Run
public import proofs.«01_k».proof.Proof.Gen.MlpInReferenceIdeal.Read
public import Idealize.ShloMosaic.Lib.Pipeline.ValueKit
public import Idealize.ShloMosaic.Lib.Pipeline.ValueKit.Geometry
public import Idealize.ShloMosaic.Lib.Pointwise
public import Idealize.ShloMosaic.Lib.Tactic
public import Idealize.ShloMosaic.Lib.Claim
public import Idealize.ShloMosaic.Lib.Quiescent

@[expose] public section

set_option maxRecDepth 16384

noncomputable section

namespace Cert.MlpInIdeal.Products

open Idealize.ShloMosaic Idealize.ShloMosaic.TcCoe Idealize.SL.Sem Cert.MlpInIdeal Cert.MlpInIdeal.Gen Cert.Products

variable (m : (ℓ : Loc nD τ sig) → Buf (Elt Ideal) ℓ)

/-! ## What one point leaves -/

theorem hz : (![0, 0] : Fin 2 → Nat) = fun _ => 0 := funext fun a => by fin_cases a <;> rfl

theorem hz3 : (![0, 0, 0] : Fin 3 → Nat) = fun _ => 0 := funext fun a => by fin_cases a <;> rfl

theorem pay2 (x : Vec Ideal S1024x2048 .bf16) (y : Vec Ideal S1x2048x1024 .bf16) (r q : Fin 1024) :
    k0_pay2 x y (ix2 r q) = max (∑ v : Fin 2048, x (ix2 r v) * y (ix3 (0 : Fin 1) v q)) 0 * max (∑ v : Fin 2048, x (ix2 r v) * y (ix3 (0 : Fin 1) v q)) 0 := by
  pointwise [k0_pay2, k0_pay1]

theorem pay3 (x : Vec Ideal S1024x2048 .bf16) (y : Vec Ideal S1x2048x1024 .bf16) (r q : Fin 1024) :
    k0_pay3 x y (ix2 r q) = max (∑ v : Fin 2048, x (ix2 r v) * y (ix3 (0 : Fin 1) v q)) 0 := by
  pointwise [k0_pay3, k0_pay1]

/-- A point writes the square of the positive part of the product of its blocks. -/
theorem point2 (c : Dev nD) (t : Fin cfg0.N) : (outsAt0 m c t).1 = k0_pay2 (iblk m c 0 t) (iblk m c 1 t) := by
  unfold outsAt0
  dsimp only
  generalize iblk m c 0 t = x
  generalize iblk m c 1 t = y
  unfold out0_A_2
  rw [View.read_writes_eq_canon _ _ _ (fun z => cover0_A_2 (y := z) ..)]
  unfold kernelRun0_A
  dsimp only
  rw [View.canon_unit_zero hz]
  simp only [View.readAt_eq_ld, Memref.IsWhole.read_unread, View.ld_unit_zero (S := S1024x2048) hz, View.ld_unit_zero (S := S1x2048x1024) hz3]

/-- And the positive part itself. -/
theorem point3 (c : Dev nD) (t : Fin cfg0.N) : (outsAt0 m c t).2 = k0_pay3 (iblk m c 0 t) (iblk m c 1 t) := by
  unfold outsAt0
  dsimp only
  generalize iblk m c 0 t = x
  generalize iblk m c 1 t = y
  unfold out0_A_3
  rw [View.read_writes_eq_canon _ _ _ (fun z => cover0_A_3 (y := z) ..)]
  unfold kernelRun0_A
  dsimp only
  rw [View.canon_unit_zero hz]
  simp only [View.readAt_eq_ld, Memref.IsWhole.read_unread, View.ld_unit_zero (S := S1024x2048) hz, View.ld_unit_zero (S := S1x2048x1024) hz3]

/-! ## The blocks -/

theorem place0 : ∀ t : Fin cfg0.N, win0_0.index t = ![t.val / 8, 0] := (by decide +kernel : ∀ t : Fin grid0.N, _)
theorem place1 : ∀ t : Fin cfg0.N, win0_1.index t = ![t.val % 8, 0, 0] := (by decide +kernel : ∀ t : Fin grid0.N, _)
theorem place2 : ∀ t : Fin cfg0.N, win0_2.index t = ![t.val / 8, t.val % 8] := (by decide +kernel : ∀ t : Fin grid0.N, _)
theorem place3 : ∀ t : Fin cfg0.N, win0_3.index t = ![t.val / 8, t.val % 8] := (by decide +kernel : ∀ t : Fin grid0.N, _)

theorem points (t : Fin cfg0.N) : t.val < 32 := lt_of_lt_of_eq t.isLt N_0

/-- The rows, and the weight with its eight parts side by side. -/
abbrev a (c : Dev nD) : ℕ → ℕ → EReal := entry fun (i : Fin 4096) (p : Fin 2048) => m ((c : Thread nD τ).loc main_arg0) (ix2 i p)
abbrev w (c : Dev nD) : ℕ → ℕ → ℕ → EReal := entry3 fun (u : Fin 8) (p : Fin 2048) (j : Fin 1024) => m ((c : Thread nD τ).loc main_arg1) (ix3 u p j)
abbrev b (c : Dev nD) (p j : ℕ) : EReal := w m c (j / 1024) p (j % 1024)

theorem blk0 (c : Dev nD) (t : Fin cfg0.N) (r : Fin 1024) (v : Fin 2048) :
    iblk m c 0 t (ix2 r v) = a m c (1024 * (t.val / 8) + r.val) (v.val) := by
  have hp := points t
  have e : ∀ A : Buf (Elt Ideal) ((c : Thread nD τ).loc main_arg0), ((cfg0.win 0).blk t).view.read (Elt Ideal) A (ix2 r v) = A (ix2 ⟨1024 * (t.val / 8) + r.val, by omega⟩ ⟨v.val, by omega⟩) :=
    fun A => by rw [View.read_apply]; show A _ = A _; refine congrArg A ?_; blk_ext [place0]
  refine (e (V m c main_arg0)).trans (Eq.symm ?_)
  exact (entry_eq _ (by omega) (by omega)).trans rfl

theorem blk1 (c : Dev nD) (t : Fin cfg0.N) (v : Fin 2048) (q : Fin 1024) :
    iblk m c 1 t (ix3 (0 : Fin 1) v q) = b m c v.val (1024 * (t.val % 8) + q.val) := by
  have hp := points t
  have e : ∀ A : Buf (Elt Ideal) ((c : Thread nD τ).loc main_arg1), ((cfg0.win 1).blk t).view.read (Elt Ideal) A (ix3 (0 : Fin 1) v q) = A (ix3 ⟨t.val % 8, by omega⟩ v q) :=
    fun A => by rw [View.read_apply]; show A _ = A _; refine congrArg A ?_; blk_ext [place1]
  refine (e (V m c main_arg1)).trans (Eq.symm ?_)
  rw [b, show (1024 * (t.val % 8) + q.val) / 1024 = t.val % 8 by omega, show (1024 * (t.val % 8) + q.val) % 1024 = q.val by omega]
  exact (entry3_eq _ (by omega) v.isLt q.isLt).trans rfl

/-! ## The sum -/

/-- The positive part of the sum of the products of row `i` and column `j`. -/
abbrev part (c : Dev nD) (i j : ℕ) : EReal := max (dotTo (fun p => a m c i p) (fun p => b m c p j) 2048) 0

theorem products (c : Dev nD) (t : Fin cfg0.N) (r q : Fin 1024) :
    ∑ v : Fin 2048, (show Vec Ideal S1024x2048 .bf16 from iblk m c 0 t) (ix2 r v) * (show Vec Ideal S1x2048x1024 .bf16 from iblk m c 1 t) (ix3 (0 : Fin 1) v q)
      = dotTo (fun p => a m c (1024 * (t.val / 8) + r.val) p) (fun p => b m c p (1024 * (t.val % 8) + q.val)) 2048 := by
  rw [dotTo_fin]
  exact Finset.sum_congr rfl fun v _ => congrArg₂ (· * ·) (blk0 m c t r v) (blk1 m c t v q)

theorem written3 (c : Dev nD) (t : Fin cfg0.N) (r q : Fin 1024) :
    (outsAt0 m c t).2 (ix2 r q) = part m c (1024 * (t.val / 8) + r.val) (1024 * (t.val % 8) + q.val) :=
  (congrFun (point3 m c t) _).trans ((pay3 _ _ r q).trans (congrArg (max · 0) (products m c t r q)))

theorem written2 (c : Dev nD) (t : Fin cfg0.N) (r q : Fin 1024) :
    (outsAt0 m c t).1 (ix2 r q) = part m c (1024 * (t.val / 8) + r.val) (1024 * (t.val % 8) + q.val) * part m c (1024 * (t.val / 8) + r.val) (1024 * (t.val % 8) + q.val) :=
  (congrFun (point2 m c t) _).trans ((pay2 _ _ r q).trans (congrArg (fun z => max z 0 * max z 0) (products m c t r q)))

/-- The result, entry by entry. -/
theorem result2 (c : Dev nD) (i : Fin 4096) (j : Fin 8192) :
    (dats m 0 c).arrAt 2 cfg0.N (ix2 i j) = part m c i.val j.val * part m c i.val j.val := by
  refine (dats m 0 c).arrAt_forall_of_covers 2 (fun i v => v = part m c (i (0 : Fin 2)).val (i (1 : Fin 2)).val * part m c (i (0 : Fin 2)).val (i (1 : Fin 2)).val) (by decide +kernel) (fun t hf y => ?_) (ix2 i j)
  blk_simp [place2]
  rw [after0_2]
  refine (congrArg _ (eq_ix2 y)).trans ((written2 m c t (y (0 : Fin 2)) (y (1 : Fin 2))).trans ?_)
  rw [Nat.mul_comm 1024, Nat.mul_comm 1024]

/-- The other result, entry by entry. -/
theorem result3 (c : Dev nD) (i : Fin 4096) (j : Fin 8192) :
    (dats m 0 c).arrAt 3 cfg0.N (ix2 i j) = part m c i.val j.val := by
  refine (dats m 0 c).arrAt_forall_of_covers 3 (fun i v => v = part m c (i (0 : Fin 2)).val (i (1 : Fin 2)).val) (by decide +kernel) (fun t hf y => ?_) (ix2 i j)
  blk_simp [place3]
  rw [after0_3]
  refine (congrArg _ (eq_ix2 y)).trans ((written3 m c t (y (0 : Fin 2)) (y (1 : Fin 2))).trans ?_)
  rw [Nat.mul_comm 1024, Nat.mul_comm 1024]

/-! ## The reference -/

open Cert.MlpInReferenceIdeal.Read in
theorem reference3 (x : Vec Ideal S4096x2048 .bf16) (y : Vec Ideal S8x2048x1024 .bf16) (i : Fin 4096) (j : Fin 8192) :
    val_main_v8 (F := Ideal) x y (ix2 i j) = max (∑ p : Fin 2048, x (ix2 i p) * y (ix3 ⟨j.val / 1024, by omega⟩ p ⟨j.val % 1024, by omega⟩)) 0 := by
  pointwise [val_main_v8, val_main_v7, val_main_v6, val_main_v5, val_main_call0_v0, val_main_call0_cst, val_main_v4, val_main_v3, val_main_v2, val_main_v1, val_main_v0]

open Cert.MlpInReferenceIdeal.Read in
theorem reference2 (x : Vec Ideal S4096x2048 .bf16) (y : Vec Ideal S8x2048x1024 .bf16) (i : Fin 4096) (j : Fin 8192) :
    val_main_v7 (F := Ideal) x y (ix2 i j) = max (∑ p : Fin 2048, x (ix2 i p) * y (ix3 ⟨j.val / 1024, by omega⟩ p ⟨j.val % 1024, by omega⟩)) 0 * max (∑ p : Fin 2048, x (ix2 i p) * y (ix3 ⟨j.val / 1024, by omega⟩ p ⟨j.val % 1024, by omega⟩)) 0 := by
  pointwise [val_main_v8, val_main_v7, val_main_v6, val_main_v5, val_main_call0_v0, val_main_call0_cst, val_main_v4, val_main_v3, val_main_v2, val_main_v1, val_main_v0]

theorem dot_total (c : Dev nD) (i : Fin 4096) (j : Fin 8192) : dotTo (fun p => a m c i.val p) (fun p => b m c p j.val) 2048
    = ∑ p : Fin 2048, (show Vec Ideal S4096x2048 .bf16 from m ((c : Thread nD τ).loc main_arg0)) (ix2 i p) * (show Vec Ideal S8x2048x1024 .bf16 from m ((c : Thread nD τ).loc main_arg1)) (ix3 ⟨j.val / 1024, by omega⟩ p ⟨j.val % 1024, by omega⟩) := by
  rw [dotTo_fin]
  exact Finset.sum_congr rfl fun p _ => congrArg₂ (· * ·) (entry_eq _ i.isLt p.isLt) (entry3_eq _ (by omega) p.isLt (by omega))

theorem total3 (c : Dev nD) (i : Fin 4096) (j : Fin 8192) : part m c i.val j.val
    = Cert.MlpInReferenceIdeal.Read.val_main_v8 (F := Ideal) (m ((c : Thread nD τ).loc main_arg0)) (m ((c : Thread nD τ).loc main_arg1)) (ix2 i j) := by
  rw [reference3, part, dot_total]

theorem total2 (c : Dev nD) (i : Fin 4096) (j : Fin 8192) : part m c i.val j.val * part m c i.val j.val
    = Cert.MlpInReferenceIdeal.Read.val_main_v7 (F := Ideal) (m ((c : Thread nD τ).loc main_arg0)) (m ((c : Thread nD τ).loc main_arg1)) (ix2 i j) := by
  rw [reference2, part, dot_total]

variable (ρ : Dev nD → PrngReg)

theorem run_values : θ_run defs (onTc (τ := τ) (main (F := Ideal))) ⟨m, fun _ => 0, ρ⟩ (fun r => ∀ c : Dev nD,
    r.2.mem ((c : Thread nD τ).loc main_v0_0) = Cert.MlpInReferenceIdeal.Read.val_main_v7 (F := Ideal) (m ((c : Thread nD τ).loc main_arg0)) (m ((c : Thread nD τ).loc main_arg1))
    ∧ r.2.mem ((c : Thread nD τ).loc main_v0_1) = Cert.MlpInReferenceIdeal.Read.val_main_v8 (F := Ideal) (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1)) :=
  (θ_run defs _ _).mono (fun _ h c => ⟨((h c).1 2).trans (funext fun i => by
      rw [eq_ix2 i]; exact (result2 m c _ _).trans (total2 m c _ _)),
    ((h c).1 3).trans (funext fun i => by
      rw [eq_ix2 i]; exact (result3 m c _ _).trans (total3 m c _ _)),
    ((h c).1 0).trans ((dats m 0 c).arrAt_in 0 rfl _), ((h c).1 1).trans ((dats m 0 c).arrAt_in 1 rfl _)⟩)
    (run_main m ρ)

/-- The call computes what the reference computes. -/
theorem agree : Cert.algebraic_MlpInIdeal_MlpInReferenceIdeal := by
  pair_intro
  · run_from run_values m g
  · run_from Cert.MlpInReferenceIdeal.Value.run (F := Ideal) m' g'
    · exact Cert.MlpInReferenceIdeal.Read.val_main_v7_eq _ _
    · exact Cert.MlpInReferenceIdeal.Read.val_main_v8_eq _ _

theorem frame_reference : Cert.quiescent_MlpInReferenceIdeal := fun m ρ _ =>
  (θ_run Cert.MlpInReferenceIdeal.defs _ _).mono (fun r h => ⟨fun c => (h c).2.2, Idealize.ShloMosaic.sem_eq_zero_of_no_sems (by decide) r.2⟩)
    (Cert.MlpInReferenceIdeal.Value.run (F := Ideal) m ρ)

end Cert.MlpInIdeal.Products
end
-- ==== Proof.Products.MlpOut.lean ====
/- The second product of the feed-forward block. -/
module

public import proofs.«01_k».proof.Defs
public import proofs.«01_k».proof.Proof.Products.Sum
public import proofs.«01_k».proof.Proof.Gen.MlpOutIdeal.Frame
public import proofs.«01_k».proof.Proof.Gen.MlpOutReferenceIdeal
public import proofs.«01_k».proof.Proof.Gen.MlpOutReferenceIdeal.Run
public import proofs.«01_k».proof.Proof.Gen.MlpOutReferenceIdeal.Read
public import Idealize.ShloMosaic.Lib.Pipeline.ValueKit
public import Idealize.ShloMosaic.Lib.Pipeline.ValueKit.Geometry
public import Idealize.ShloMosaic.Lib.Pointwise
public import Idealize.ShloMosaic.Lib.Tactic
public import Idealize.ShloMosaic.Lib.Claim
public import Idealize.ShloMosaic.Lib.Quiescent

@[expose] public section

set_option maxRecDepth 16384

noncomputable section

namespace Cert.MlpOutIdeal.Products

open Idealize.ShloMosaic Idealize.ShloMosaic.TcCoe Idealize.SL.Sem Cert.MlpOutIdeal Cert.MlpOutIdeal.Gen Cert.Products

variable (m : (ℓ : Loc nD τ sig) → Buf (Elt Ideal) ℓ)

/-! ## What one point leaves -/

theorem hz : (![0, 0] : Fin 2 → Nat) = fun _ => 0 := funext fun a => by fin_cases a <;> rfl

theorem pay1 (x : Vec Ideal S1024x2048 .bf16) (y : Vec Ideal S2048x1024 .bf16) (r q : Fin 1024) :
    k0_pay1 x y (ix2 r q) = ∑ v : Fin 2048, x (ix2 r v) * y (ix2 v q) := by
  pointwise [k0_pay1]

theorem pay2 (a : Vec Ideal S1024x1024 .f32) (x : Vec Ideal S1024x2048 .bf16) (y : Vec Ideal S2048x1024 .bf16) (r q : Fin 1024) :
    k0_pay2 a x y (ix2 r q) = a (ix2 r q) + ∑ v : Fin 2048, x (ix2 r v) * y (ix2 v q) := by
  pointwise [k0_pay2]

theorem pay3 (a : Vec Ideal S1024x1024 .f32) (x : Vec Ideal S1024x2048 .bf16) (y : Vec Ideal S2048x1024 .bf16) (r q : Fin 1024) :
    k0_pay3 a x y (ix2 r q) = a (ix2 r q) + ∑ v : Fin 2048, x (ix2 r v) * y (ix2 v q) := by
  pointwise [k0_pay3]

/-- The first of 4 points of a block leaves its products. -/
theorem first (c : Dev nD) (t : Fin cfg0.N) (h : t.val % 4 = 0) :
    (outsAt0 m c t.val t.isLt).2 = k0_pay1 (iblk m c 0 t) (iblk m c 1 t) := by
  refine (congrArg Prod.snd (outsAt0_A m c t h (by omega) (by omega))).trans ?_
  dsimp only
  generalize iblk m c 0 t = x
  generalize iblk m c 1 t = y
  unfold sout0_A_0
  rw [View.read_writes_eq_canon _ _ _ (fun z => scover0_A_0 (y := z) ..)]
  unfold kernelRun0_A
  dsimp only
  rw [View.canon_unit_zero hz]
  simp only [View.readAt_eq_ld, Memref.IsWhole.read_unread, View.ld_unit_zero (S := S1024x2048) hz, View.ld_unit_zero (S := S2048x1024) hz]

/-- The points between add theirs to what the point before left. -/
theorem next (c : Dev nD) (t : Fin cfg0.N) (h : 1 ≤ t.val % 4 ∧ t.val % 4 ≤ 2) :
    (outsAt0 m c t.val t.isLt).2 = k0_pay2 (outsAt0 m c (t.val - 1) (by omega)).2 (iblk m c 0 t) (iblk m c 1 t) := by
  refine (congrArg Prod.snd (outsAt0_B m c t (by omega) h (by omega))).trans ?_
  dsimp only
  generalize iblk m c 0 t = x
  generalize iblk m c 1 t = y
  generalize (outsAt0 m c (t.val - 1) _).2 = a
  unfold sout0_B_0
  rw [View.read_writes_eq_canon _ _ _ (fun z => scover0_B_0 (y := z) ..)]
  unfold kernelRun0_B
  dsimp only
  rw [View.canon_unit_zero hz]
  simp only [View.readAt_eq_ld, Memref.IsWhole.read_unread, View.ld_unit_zero (S := S1024x1024) hz, View.ld_unit_zero (S := S1024x2048) hz, View.ld_unit_zero (S := S2048x1024) hz]
  exact congrArg (k0_pay2 · x y) ((Memref.isWhole_whole cc0_scratch0).read_unread a)

/-- The last writes the sum of all of them. -/
theorem last (c : Dev nD) (t : Fin cfg0.N) (h : t.val % 4 = 3) :
    (outsAt0 m c t.val t.isLt).1 = k0_pay3 (outsAt0 m c (t.val - 1) (by omega)).2 (iblk m c 0 t) (iblk m c 1 t) := by
  refine (congrArg Prod.fst (outsAt0_C m c t (by omega) (by omega) h)).trans ?_
  dsimp only
  generalize iblk m c 0 t = x
  generalize iblk m c 1 t = y
  generalize (outsAt0 m c (t.val - 1) _).2 = a
  unfold out0_C_2
  rw [View.read_writes_eq_canon _ _ _ (fun z => cover0_C_2 (y := z) ..)]
  unfold kernelRun0_C
  dsimp only
  rw [View.canon_unit_zero hz]
  simp only [View.readAt_eq_ld, Memref.IsWhole.read_unread, View.ld_unit_zero (S := S1024x1024) hz, View.ld_unit_zero (S := S1024x2048) hz, View.ld_unit_zero (S := S2048x1024) hz]
  exact congrArg (k0_pay3 · x y) ((Memref.isWhole_whole cc0_scratch0).read_unread a)

/-! ## The blocks -/

theorem place0 : ∀ t : Fin cfg0.N, win0_0.index t = ![t.val / 8, t.val % 4] := (by decide +kernel : ∀ t : Fin grid0.N, _)
theorem place1 : ∀ t : Fin cfg0.N, win0_1.index t = ![t.val % 4, t.val / 4 % 2] := (by decide +kernel : ∀ t : Fin grid0.N, _)
theorem place2 : ∀ t : Fin cfg0.N, win0_2.index t = ![t.val / 8, t.val / 4 % 2] := (by decide +kernel : ∀ t : Fin grid0.N, _)

theorem points (t : Fin cfg0.N) : t.val < 32 := lt_of_lt_of_eq t.isLt N_0

/-- The row factor and the column factor of the product. -/
abbrev a (c : Dev nD) : ℕ → ℕ → EReal := entry fun (i : Fin 4096) (p : Fin 8192) => m ((c : Thread nD τ).loc main_arg0) (ix2 i p)
abbrev b (c : Dev nD) : ℕ → ℕ → EReal := entry fun (p : Fin 8192) (j : Fin 2048) => m ((c : Thread nD τ).loc main_arg1) (ix2 p j)

theorem blk0 (c : Dev nD) (t : Fin cfg0.N) (r : Fin 1024) (v : Fin 2048) :
    iblk m c 0 t (ix2 r v) = a m c (1024 * (t.val / 8) + r.val) (2048 * (t.val % 4) + v.val) := by
  have hp := points t
  have e : ∀ A : Buf (Elt Ideal) ((c : Thread nD τ).loc main_arg0), ((cfg0.win 0).blk t).view.read (Elt Ideal) A (ix2 r v) = A (ix2 ⟨1024 * (t.val / 8) + r.val, by omega⟩ ⟨2048 * (t.val % 4) + v.val, by omega⟩) :=
    fun A => by rw [View.read_apply]; show A _ = A _; refine congrArg A ?_; blk_ext [place0]
  refine (e (V m c main_arg0)).trans (Eq.symm ?_)
  exact (entry_eq _ (by omega) (by omega)).trans rfl

theorem blk1 (c : Dev nD) (t : Fin cfg0.N) (v : Fin 2048) (q : Fin 1024) :
    iblk m c 1 t (ix2 v q) = b m c (2048 * (t.val % 4) + v.val) (1024 * (t.val / 4 % 2) + q.val) := by
  have hp := points t
  have e : ∀ A : Buf (Elt Ideal) ((c : Thread nD τ).loc main_arg1), ((cfg0.win 1).blk t).view.read (Elt Ideal) A (ix2 v q) = A (ix2 ⟨2048 * (t.val % 4) + v.val, by omega⟩ ⟨1024 * (t.val / 4 % 2) + q.val, by omega⟩) :=
    fun A => by rw [View.read_apply]; show A _ = A _; refine congrArg A ?_; blk_ext [place1]
  refine (e (V m c main_arg1)).trans (Eq.symm ?_)
  exact (entry_eq _ (by omega) (by omega)).trans rfl

/-! ## The sum -/

/-- The sum of the products of row `i` and column `j` up to position `n`. -/
abbrev sumTo (c : Dev nD) (i j n : ℕ) : EReal := dotTo (fun p => a m c i p) (fun p => b m c p j) n

theorem products (c : Dev nD) (t : Fin cfg0.N) (r q : Fin 1024) :
    ∑ v : Fin 2048, (show Vec Ideal S1024x2048 .bf16 from iblk m c 0 t) (ix2 r v) * (show Vec Ideal S2048x1024 .bf16 from iblk m c 1 t) (ix2 v q)
      = ∑ v : Fin 2048, a m c (1024 * (t.val / 4 / 2) + r.val) (2048 * (t.val % 4) + v.val) * b m c (2048 * (t.val % 4) + v.val) (1024 * (t.val / 4 % 2) + q.val) :=
  Finset.sum_congr rfl fun v _ => congrArg₂ (· * ·) ((blk0 m c t r v).trans (by rw [show t.val / 8 = t.val / 4 / 2 by omega])) (blk1 m c t v q)

theorem written (c : Dev nD) (t : Fin cfg0.N) (h : t.val % 4 = 3) (r q : Fin 1024) :
    (outsAt0 m c t.val t.isLt).1 (ix2 r q) = sumTo m c (1024 * (t.val / 4 / 2) + r.val) (1024 * (t.val / 4 % 2) + q.val) 8192 :=
  fold (n := 4) (T := 2048) (by omega) (fun t h => (outsAt0 m c t h).2 (ix2 r q)) (fun t h => (outsAt0 m c t h).1 (ix2 r q))
    (fun u p => a m c (1024 * (u / 2) + r.val) p) (fun u p => b m c p (1024 * (u % 2) + q.val))
    (fun t h h0 => (congrFun (first m c ⟨t, h⟩ h0) _).trans ((pay1 _ _ r q).trans (products m c ⟨t, h⟩ r q)))
    (fun t h h0 h1 => (congrFun (next m c ⟨t, h⟩ ⟨h0, Nat.le_of_lt_succ (Nat.lt_of_succ_lt_succ h1)⟩) _).trans ((pay2 _ _ _ r q).trans (congrArg (_ + ·) (products m c ⟨t, h⟩ r q))))
    (fun t h h0 => (congrFun (last m c ⟨t, h⟩ (Nat.succ_injective h0)) _).trans ((pay3 _ _ _ r q).trans (congrArg (_ + ·) (products m c ⟨t, h⟩ r q))))
    t.val t.isLt (by omega)

/-- The result, entry by entry. -/
theorem result (c : Dev nD) (i : Fin 4096) (j : Fin 2048) :
    (dats m 0 c).arrAt 2 cfg0.N (ix2 i j) = sumTo m c i.val j.val 8192 := by
  refine (dats m 0 c).arrAt_forall_of_covers 2 (fun i v => v = sumTo m c (i (0 : Fin 2)).val (i (1 : Fin 2)).val 8192) (by decide +kernel) (fun t hf y => ?_) (ix2 i j)
  blk_simp [place2]
  rw [after0_2]
  refine (congrArg _ (eq_ix2 y)).trans ((written m c t ((flush0_2 t).mp hf) (y (0 : Fin 2)) (y (1 : Fin 2))).trans ?_)
  rw [show t.val / 4 / 2 = t.val / 8 by omega, Nat.mul_comm 1024, Nat.mul_comm 1024]

/-! ## The reference -/

open Cert.MlpOutReferenceIdeal.Read in
theorem reference (x : Vec Ideal S4096x8192 .bf16) (y : Vec Ideal S8192x2048 .bf16) (i : Fin 4096) (j : Fin 2048) :
    val_main_v3 (F := Ideal) x y (ix2 i j) = ∑ p : Fin 8192, x (ix2 i p) * y (ix2 p j) := by
  pointwise [val_main_v3, val_main_v2, val_main_v1, val_main_v0]

theorem total (c : Dev nD) (i : Fin 4096) (j : Fin 2048) : sumTo m c i.val j.val 8192
    = Cert.MlpOutReferenceIdeal.Read.val_main_v3 (F := Ideal) (m ((c : Thread nD τ).loc main_arg0)) (m ((c : Thread nD τ).loc main_arg1)) (ix2 i j) := by
  rw [reference, sumTo, dotTo_fin]
  exact Finset.sum_congr rfl fun p _ => congrArg₂ (· * ·) (entry_eq _ i.isLt p.isLt) (entry_eq _ p.isLt j.isLt)

variable (ρ : Dev nD → PrngReg)

theorem run_values : θ_run defs (onTc (τ := τ) (main (F := Ideal))) ⟨m, fun _ => 0, ρ⟩ (fun r => ∀ c : Dev nD,
    r.2.mem ((c : Thread nD τ).loc main_v0) = Cert.MlpOutReferenceIdeal.Read.val_main_v3 (F := Ideal) (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1)) :=
  (θ_run defs _ _).mono (fun _ h c => ⟨((h c).1 2).trans (funext fun i => by
      rw [eq_ix2 i]; exact (result m c _ _).trans (total m c _ _)),
    ((h c).1 0).trans ((dats m 0 c).arrAt_in 0 rfl _), ((h c).1 1).trans ((dats m 0 c).arrAt_in 1 rfl _)⟩)
    (run_main m ρ)

/-- The call computes what the reference computes. -/
theorem agree : Cert.algebraic_MlpOutIdeal_MlpOutReferenceIdeal := by
  pair_intro
  · run_from run_values m g
  · run_from Cert.MlpOutReferenceIdeal.Value.run (F := Ideal) m' g'
    exact Cert.MlpOutReferenceIdeal.Read.val_main_v3_eq _ _

theorem frame_reference : Cert.quiescent_MlpOutReferenceIdeal := fun m ρ _ =>
  (θ_run Cert.MlpOutReferenceIdeal.defs _ _).mono (fun r h => ⟨fun c => (h c).2, Idealize.ShloMosaic.sem_eq_zero_of_no_sems (by decide) r.2⟩)
    (Cert.MlpOutReferenceIdeal.Value.run (F := Ideal) m ρ)

end Cert.MlpOutIdeal.Products
end
-- ==== Proof.Products.MlpOutDx.lean ====
/- The gradient of the first product of the feed-forward block, through the squared positive part. -/
module

public import proofs.«01_k».proof.Defs
public import proofs.«01_k».proof.Proof.Products.Sum
public import proofs.«01_k».proof.Proof.Gen.MlpOutDxIdeal.Frame
public import proofs.«01_k».proof.Proof.Gen.MlpOutDxReferenceIdeal
public import proofs.«01_k».proof.Proof.Gen.MlpOutDxReferenceIdeal.Run
public import proofs.«01_k».proof.Proof.Gen.MlpOutDxReferenceIdeal.Read
public import Idealize.ShloMosaic.Lib.Pipeline.ValueKit
public import Idealize.ShloMosaic.Lib.Pipeline.ValueKit.Geometry
public import Idealize.ShloMosaic.Lib.Pointwise
public import Idealize.ShloMosaic.Lib.Tactic
public import Idealize.ShloMosaic.Lib.Claim
public import Idealize.ShloMosaic.Lib.Quiescent

@[expose] public section

set_option maxRecDepth 16384

noncomputable section

namespace Cert.MlpOutDxIdeal.Products

open Idealize.ShloMosaic Idealize.ShloMosaic.TcCoe Idealize.SL.Sem Cert.MlpOutDxIdeal Cert.MlpOutDxIdeal.Gen Cert.Products

variable (m : (ℓ : Loc nD τ sig) → Buf (Elt Ideal) ℓ)

/-! ## What one point leaves -/

theorem hz : (![0, 0] : Fin 2 → Nat) = fun _ => 0 := funext fun a => by fin_cases a <;> rfl

/-- The constant 2 of the program, as it is printed. -/
abbrev two : EReal := Ideal.ofBits .f32 0x40000000#32

theorem pay1 (x y : Vec Ideal S1024x2048 .bf16) (e : Vec Ideal S1024x1024 .bf16) (r q : Fin 1024) :
    k0_pay1 x y e (ix2 r q) = (∑ v : Fin 2048, x (ix2 r v) * y (ix2 q v)) * (two * e (ix2 r q)) := by
  pointwise [k0_pay1]

/-- A point writes the product of its blocks times twice its block of the positive part. -/
theorem point (c : Dev nD) (t : Fin cfg0.N) : outsAt0 m c t = k0_pay1 (iblk m c 0 t) (iblk m c 1 t) (iblk m c 2 t) := by
  unfold outsAt0
  generalize iblk m c 0 t = x
  generalize iblk m c 1 t = y
  generalize iblk m c 2 t = z
  unfold out0_A_3
  rw [View.read_writes_eq_canon _ _ _ (fun u => cover0_A_3 (y := u) ..)]
  unfold kernelRun0_A
  dsimp only
  rw [View.canon_unit_zero hz]
  simp only [View.readAt_eq_ld, Memref.IsWhole.read_unread, View.ld_unit_zero (S := S1024x2048) hz, View.ld_unit_zero (S := S1024x1024) hz]

/-- The positive part is computed before the call. -/
theorem positive (c : Dev nD) (i : Fin 4096) (j : Fin 8192) :
    (show Vec Ideal S4096x8192 .bf16 from V m c main_v1) (ix2 i j) = max ((show Vec Ideal S4096x8192 .bf16 from m ((c : Thread nD τ).loc main_arg0)) (ix2 i j)) 0 := by
  entry_read
  pointwise []

/-! ## The blocks -/

theorem place0 : ∀ t : Fin cfg0.N, win0_0.index t = ![t.val / 8, 0] := (by decide +kernel : ∀ t : Fin grid0.N, _)
theorem place1 : ∀ t : Fin cfg0.N, win0_1.index t = ![t.val % 8, 0] := (by decide +kernel : ∀ t : Fin grid0.N, _)
theorem place2 : ∀ t : Fin cfg0.N, win0_2.index t = ![t.val / 8, t.val % 8] := (by decide +kernel : ∀ t : Fin grid0.N, _)
theorem place3 : ∀ t : Fin cfg0.N, win0_3.index t = ![t.val / 8, t.val % 8] := (by decide +kernel : ∀ t : Fin grid0.N, _)

theorem points (t : Fin cfg0.N) : t.val < 32 := lt_of_lt_of_eq t.isLt N_0

/-- The two factors of the product, and the positive part. -/
abbrev a (c : Dev nD) : ℕ → ℕ → EReal := entry fun (i : Fin 4096) (p : Fin 2048) => m ((c : Thread nD τ).loc main_arg2) (ix2 i p)
abbrev b (c : Dev nD) : ℕ → ℕ → EReal := entry fun (p : Fin 2048) (j : Fin 8192) => m ((c : Thread nD τ).loc main_arg1) (ix2 j p)
abbrev w (c : Dev nD) : ℕ → ℕ → EReal := entry fun (i : Fin 4096) (j : Fin 8192) => max ((show Vec Ideal S4096x8192 .bf16 from m ((c : Thread nD τ).loc main_arg0)) (ix2 i j)) 0

theorem blk0 (c : Dev nD) (t : Fin cfg0.N) (r : Fin 1024) (v : Fin 2048) :
    iblk m c 0 t (ix2 r v) = a m c (1024 * (t.val / 8) + r.val) (v.val) := by
  have hp := points t
  have e : ∀ A : Buf (Elt Ideal) ((c : Thread nD τ).loc main_arg2), ((cfg0.win 0).blk t).view.read (Elt Ideal) A (ix2 r v) = A (ix2 ⟨1024 * (t.val / 8) + r.val, by omega⟩ ⟨v.val, by omega⟩) :=
    fun A => by rw [View.read_apply]; show A _ = A _; refine congrArg A ?_; blk_ext [place0]
  refine (e (V m c main_arg2)).trans (Eq.symm ?_)
  exact (entry_eq _ (by omega) (by omega)).trans rfl

theorem blk1 (c : Dev nD) (t : Fin cfg0.N) (v : Fin 2048) (q : Fin 1024) :
    iblk m c 1 t (ix2 q v) = b m c (v.val) (1024 * (t.val % 8) + q.val) := by
  have hp := points t
  have e : ∀ A : Buf (Elt Ideal) ((c : Thread nD τ).loc main_arg1), ((cfg0.win 1).blk t).view.read (Elt Ideal) A (ix2 q v) = A (ix2 ⟨1024 * (t.val % 8) + q.val, by omega⟩ ⟨v.val, by omega⟩) :=
    fun A => by rw [View.read_apply]; show A _ = A _; refine congrArg A ?_; blk_ext [place1]
  refine (e (V m c main_arg1)).trans (Eq.symm ?_)
  exact (entry_eq _ (by omega) (by omega)).trans rfl

theorem blk2 (c : Dev nD) (t : Fin cfg0.N) (r q : Fin 1024) : iblk m c 2 t (ix2 r q) = w m c (1024 * (t.val / 8) + r.val) (1024 * (t.val % 8) + q.val) := by
  have hp := points t
  have e : ∀ A : Buf (Elt Ideal) ((c : Thread nD τ).loc main_v1), ((cfg0.win 2).blk t).view.read (Elt Ideal) A (ix2 r q) = A (ix2 ⟨1024 * (t.val / 8) + r.val, by omega⟩ ⟨1024 * (t.val % 8) + q.val, by omega⟩) :=
    fun A => by rw [View.read_apply]; show A _ = A _; refine congrArg A ?_; blk_ext [place2]
  exact (e (V m c main_v1)).trans ((positive m c ⟨1024 * (t.val / 8) + r.val, by omega⟩ ⟨1024 * (t.val % 8) + q.val, by omega⟩).trans (entry_eq (fun (i : Fin 4096) (j : Fin 8192) => max ((show Vec Ideal S4096x8192 .bf16 from m ((c : Thread nD τ).loc main_arg0)) (ix2 i j)) 0) (by omega) (by omega)).symm)

/-! ## The product -/

/-- Row `i` and column `j`: the sum of the products, times twice the positive part there. -/
abbrev part (c : Dev nD) (i j : ℕ) : EReal := dotTo (fun p => a m c i p) (fun p => b m c p j) 2048 * (two * w m c i j)

theorem products (c : Dev nD) (t : Fin cfg0.N) (r q : Fin 1024) :
    ∑ v : Fin 2048, (show Vec Ideal S1024x2048 .bf16 from iblk m c 0 t) (ix2 r v) * (show Vec Ideal S1024x2048 .bf16 from iblk m c 1 t) (ix2 q v)
      = dotTo (fun p => a m c (1024 * (t.val / 8) + r.val) p) (fun p => b m c p (1024 * (t.val % 8) + q.val)) 2048 := by
  rw [dotTo_fin]
  exact Finset.sum_congr rfl fun v _ => congrArg₂ (· * ·) (blk0 m c t r v) (blk1 m c t v q)

theorem written (c : Dev nD) (t : Fin cfg0.N) (r q : Fin 1024) :
    outsAt0 m c t (ix2 r q) = part m c (1024 * (t.val / 8) + r.val) (1024 * (t.val % 8) + q.val) :=
  (congrFun (point m c t) _).trans ((pay1 _ _ _ r q).trans (congrArg₂ (· * ·) (products m c t r q) (congrArg (two * ·) (blk2 m c t r q))))

/-- The result, entry by entry. -/
theorem result (c : Dev nD) (i : Fin 4096) (j : Fin 8192) :
    (dats m 0 c).arrAt 3 cfg0.N (ix2 i j) = part m c i.val j.val := by
  refine (dats m 0 c).arrAt_forall_of_covers 3 (fun i v => v = part m c (i (0 : Fin 2)).val (i (1 : Fin 2)).val) (by decide +kernel) (fun t hf y => ?_) (ix2 i j)
  blk_simp [place3]
  rw [after0_3]
  refine (congrArg _ (eq_ix2 y)).trans ((written m c t (y (0 : Fin 2)) (y (1 : Fin 2))).trans ?_)
  rw [Nat.mul_comm 1024, Nat.mul_comm 1024]

/-! ## The reference -/

open Cert.MlpOutDxReferenceIdeal.Read in
theorem reference (x : Vec Ideal S4096x8192 .bf16) (y : Vec Ideal S8192x2048 .bf16) (z : Vec Ideal S4096x2048 .bf16) (i : Fin 4096) (j : Fin 8192) :
    val_main_v15 (F := Ideal) x y z (ix2 i j) = (∑ p : Fin 2048, z (ix2 i p) * y (ix2 j p)) * (two * max (x (ix2 i j)) 0) := by
  have e : val_main_v15 (F := Ideal) x y z (ix2 i j) = if 0 < x (ix2 i j) then (∑ p : Fin 2048, z (ix2 i p) * y (ix2 j p)) * (two * max (x (ix2 i j)) 0) else 0 := by
    pointwise [val_main_v15, val_main_v14, val_main_v13, val_main_cst_2, val_main_v12, val_main_v11, val_main_v10, val_main_v9, val_main_v8, val_main_v7, val_main_cst_1, val_main_v6, val_main_v5, val_main_cst_0, val_main_v4, val_main_v3, val_main_cst, val_main_v2, val_main_call0_v0, val_main_call0_cst, val_main_v1, val_main_v0]
  rw [e]
  split_ifs with h
  · rfl
  · rw [max_eq_right (not_lt.mp h), mul_zero, mul_zero]

theorem total (c : Dev nD) (i : Fin 4096) (j : Fin 8192) : part m c i.val j.val
    = Cert.MlpOutDxReferenceIdeal.Read.val_main_v15 (F := Ideal) (m ((c : Thread nD τ).loc main_arg0)) (m ((c : Thread nD τ).loc main_arg1)) (m ((c : Thread nD τ).loc main_arg2)) (ix2 i j) := by
  rw [reference, part, dotTo_fin]
  exact congrArg₂ (· * ·) (Finset.sum_congr rfl fun p _ => congrArg₂ (· * ·) (entry_eq _ i.isLt p.isLt) (entry_eq _ p.isLt j.isLt))
    (congrArg (two * ·) (entry_eq _ i.isLt j.isLt))

variable (ρ : Dev nD → PrngReg)

theorem run_values : θ_run defs (onTc (τ := τ) (main (F := Ideal))) ⟨m, fun _ => 0, ρ⟩ (fun r => ∀ c : Dev nD,
    r.2.mem ((c : Thread nD τ).loc main_v2) = Cert.MlpOutDxReferenceIdeal.Read.val_main_v15 (F := Ideal) (m ((c : Thread nD τ).loc main_arg0)) (m ((c : Thread nD τ).loc main_arg1)) (m ((c : Thread nD τ).loc main_arg2))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)) :=
  (θ_run defs _ _).mono (fun _ h c => ⟨((h c).1 3).trans (funext fun i => by
      rw [eq_ix2 i]; exact (result m c _ _).trans (total m c _ _)),
    ((h c).2 main_arg0 (Pipeline.mem_restRefs_of main_arg0 (by decide) (by decide))).trans (V_main_arg0 m c), ((h c).1 1).trans (((dats m 0 c).arrAt_in 1 rfl _).trans (V_main_arg1 m c)), ((h c).1 0).trans (((dats m 0 c).arrAt_in 0 rfl _).trans (V_main_arg2 m c))⟩)
    (run_main m ρ)

/-- The call computes what the reference computes. -/
theorem agree : Cert.algebraic_MlpOutDxIdeal_MlpOutDxReferenceIdeal := by
  pair_intro
  · run_from run_values m g
  · run_from Cert.MlpOutDxReferenceIdeal.Value.run (F := Ideal) m' g'
    exact Cert.MlpOutDxReferenceIdeal.Read.val_main_v15_eq _ _ _

theorem frame_reference : Cert.quiescent_MlpOutDxReferenceIdeal := fun m ρ _ =>
  (θ_run Cert.MlpOutDxReferenceIdeal.defs _ _).mono (fun r h => ⟨fun c => (h c).2, Idealize.ShloMosaic.sem_eq_zero_of_no_sems (by decide) r.2⟩)
    (Cert.MlpOutDxReferenceIdeal.Value.run (F := Ideal) m ρ)

end Cert.MlpOutDxIdeal.Products
end
-- ==== Proof.Products.MlpOutDw.lean ====
/- The gradient of the second weight of the feed-forward block. -/
module

public import proofs.«01_k».proof.Defs
public import proofs.«01_k».proof.Proof.Products.Sum
public import proofs.«01_k».proof.Proof.Gen.MlpOutDwIdeal.Frame
public import proofs.«01_k».proof.Proof.Gen.MlpOutDwReferenceIdeal
public import proofs.«01_k».proof.Proof.Gen.MlpOutDwReferenceIdeal.Run
public import proofs.«01_k».proof.Proof.Gen.MlpOutDwReferenceIdeal.Read
public import Idealize.ShloMosaic.Lib.Pipeline.ValueKit
public import Idealize.ShloMosaic.Lib.Pipeline.ValueKit.Geometry
public import Idealize.ShloMosaic.Lib.Pointwise
public import Idealize.ShloMosaic.Lib.Tactic
public import Idealize.ShloMosaic.Lib.Claim
public import Idealize.ShloMosaic.Lib.Quiescent

@[expose] public section

set_option maxRecDepth 16384

noncomputable section

namespace Cert.MlpOutDwIdeal.Products

open Idealize.ShloMosaic Idealize.ShloMosaic.TcCoe Idealize.SL.Sem Cert.MlpOutDwIdeal Cert.MlpOutDwIdeal.Gen Cert.Products

variable (m : (ℓ : Loc nD τ sig) → Buf (Elt Ideal) ℓ)

/-! ## What one point leaves -/

theorem hz : (![0, 0] : Fin 2 → Nat) = fun _ => 0 := funext fun a => by fin_cases a <;> rfl

theorem pay1 (x : Vec Ideal S2048x1024 .bf16) (y : Vec Ideal S2048x1024 .bf16) (r q : Fin 1024) :
    k0_pay1 x y (ix2 r q) = ∑ v : Fin 2048, x (ix2 v r) * y (ix2 v q) := by
  pointwise [k0_pay1]

theorem pay3 (a : Vec Ideal S1024x1024 .f32) (x : Vec Ideal S2048x1024 .bf16) (y : Vec Ideal S2048x1024 .bf16) (r q : Fin 1024) :
    k0_pay3 a x y (ix2 r q) = a (ix2 r q) + ∑ v : Fin 2048, x (ix2 v r) * y (ix2 v q) := by
  pointwise [k0_pay3]

/-- The first of two points of a block leaves its products. -/
theorem first (c : Dev nD) (t : Fin cfg0.N) (h : t.val % 2 = 0) :
    (outsAt0 m c t.val t.isLt).2 = k0_pay1 (iblk m c 0 t) (iblk m c 1 t) := by
  refine (congrArg Prod.snd (outsAt0_A m c t h (by omega))).trans ?_
  dsimp only
  generalize iblk m c 0 t = x
  generalize iblk m c 1 t = y
  unfold sout0_A_0
  rw [View.read_writes_eq_canon _ _ _ (fun z => scover0_A_0 (y := z) ..)]
  unfold kernelRun0_A
  dsimp only
  rw [View.canon_unit_zero hz]
  simp only [View.readAt_eq_ld, Memref.IsWhole.read_unread, View.ld_unit_zero (S := S2048x1024) hz]

/-- The second writes the sum of both. -/
theorem last (c : Dev nD) (t : Fin cfg0.N) (h : t.val % 2 = 1) :
    (outsAt0 m c t.val t.isLt).1 = k0_pay3 (outsAt0 m c (t.val - 1) (by omega)).2 (iblk m c 0 t) (iblk m c 1 t) := by
  refine (congrArg Prod.fst (outsAt0_B m c t (by omega) h)).trans ?_
  dsimp only
  generalize iblk m c 0 t = x
  generalize iblk m c 1 t = y
  generalize (outsAt0 m c (t.val - 1) _).2 = a
  unfold out0_B_2
  rw [View.read_writes_eq_canon _ _ _ (fun z => cover0_B_2 (y := z) ..)]
  unfold kernelRun0_B
  dsimp only
  rw [View.canon_unit_zero hz]
  simp only [View.readAt_eq_ld, Memref.IsWhole.read_unread, View.ld_unit_zero (S := S1024x1024) hz, View.ld_unit_zero (S := S2048x1024) hz]
  exact congrArg (k0_pay3 · x y) ((Memref.isWhole_whole cc0_scratch0).read_unread a)

/-! ## The blocks -/

theorem place0 : ∀ t : Fin cfg0.N, win0_0.index t = ![t.val % 2, t.val / 4] := (by decide +kernel : ∀ t : Fin grid0.N, _)
theorem place1 : ∀ t : Fin cfg0.N, win0_1.index t = ![t.val % 2, t.val / 2 % 2] := (by decide +kernel : ∀ t : Fin grid0.N, _)
theorem place2 : ∀ t : Fin cfg0.N, win0_2.index t = ![t.val / 4, t.val / 2 % 2] := (by decide +kernel : ∀ t : Fin grid0.N, _)

theorem points (t : Fin cfg0.N) : t.val < 32 := lt_of_lt_of_eq t.isLt N_0

/-- The row factor and the column factor of the product. -/
abbrev a (c : Dev nD) : ℕ → ℕ → EReal := entry fun (i : Fin 8192) (p : Fin 4096) => m ((c : Thread nD τ).loc main_arg0) (ix2 p i)
abbrev b (c : Dev nD) : ℕ → ℕ → EReal := entry fun (p : Fin 4096) (j : Fin 2048) => m ((c : Thread nD τ).loc main_arg1) (ix2 p j)

theorem blk0 (c : Dev nD) (t : Fin cfg0.N) (r : Fin 1024) (v : Fin 2048) :
    iblk m c 0 t (ix2 v r) = a m c (1024 * (t.val / 4) + r.val) (2048 * (t.val % 2) + v.val) := by
  have hp := points t
  have e : ∀ A : Buf (Elt Ideal) ((c : Thread nD τ).loc main_arg0), ((cfg0.win 0).blk t).view.read (Elt Ideal) A (ix2 v r) = A (ix2 ⟨2048 * (t.val % 2) + v.val, by omega⟩ ⟨1024 * (t.val / 4) + r.val, by omega⟩) :=
    fun A => by rw [View.read_apply]; show A _ = A _; refine congrArg A ?_; blk_ext [place0]
  refine (e (V m c main_arg0)).trans (Eq.symm ?_)
  exact (entry_eq _ (by omega) (by omega)).trans rfl

theorem blk1 (c : Dev nD) (t : Fin cfg0.N) (v : Fin 2048) (q : Fin 1024) :
    iblk m c 1 t (ix2 v q) = b m c (2048 * (t.val % 2) + v.val) (1024 * (t.val / 2 % 2) + q.val) := by
  have hp := points t
  have e : ∀ A : Buf (Elt Ideal) ((c : Thread nD τ).loc main_arg1), ((cfg0.win 1).blk t).view.read (Elt Ideal) A (ix2 v q) = A (ix2 ⟨2048 * (t.val % 2) + v.val, by omega⟩ ⟨1024 * (t.val / 2 % 2) + q.val, by omega⟩) :=
    fun A => by rw [View.read_apply]; show A _ = A _; refine congrArg A ?_; blk_ext [place1]
  refine (e (V m c main_arg1)).trans (Eq.symm ?_)
  exact (entry_eq _ (by omega) (by omega)).trans rfl

/-! ## The sum -/

/-- The sum of the products of row `i` and column `j` up to position `n`. -/
abbrev sumTo (c : Dev nD) (i j n : ℕ) : EReal := dotTo (fun p => a m c i p) (fun p => b m c p j) n

theorem products (c : Dev nD) (t : Fin cfg0.N) (r q : Fin 1024) :
    ∑ v : Fin 2048, (show Vec Ideal S2048x1024 .bf16 from iblk m c 0 t) (ix2 v r) * (show Vec Ideal S2048x1024 .bf16 from iblk m c 1 t) (ix2 v q)
      = ∑ v : Fin 2048, a m c (1024 * (t.val / 2 / 2) + r.val) (2048 * (t.val % 2) + v.val) * b m c (2048 * (t.val % 2) + v.val) (1024 * (t.val / 2 % 2) + q.val) :=
  Finset.sum_congr rfl fun v _ => congrArg₂ (· * ·) ((blk0 m c t r v).trans (by rw [show t.val / 4 = t.val / 2 / 2 by omega])) (blk1 m c t v q)

theorem written (c : Dev nD) (t : Fin cfg0.N) (h : t.val % 2 = 1) (r q : Fin 1024) :
    (outsAt0 m c t.val t.isLt).1 (ix2 r q) = sumTo m c (1024 * (t.val / 2 / 2) + r.val) (1024 * (t.val / 2 % 2) + q.val) 4096 :=
  fold (n := 2) (T := 2048) (by omega) (fun t h => (outsAt0 m c t h).2 (ix2 r q)) (fun t h => (outsAt0 m c t h).1 (ix2 r q))
    (fun u p => a m c (1024 * (u / 2) + r.val) p) (fun u p => b m c p (1024 * (u % 2) + q.val))
    (fun t h h0 => (congrFun (first m c ⟨t, h⟩ h0) _).trans ((pay1 _ _ r q).trans (products m c ⟨t, h⟩ r q)))
    (fun t h h0 h1 => absurd h1 (by omega))
    (fun t h h0 => (congrFun (last m c ⟨t, h⟩ (Nat.succ_injective h0)) _).trans ((pay3 _ _ _ r q).trans (congrArg (_ + ·) (products m c ⟨t, h⟩ r q))))
    t.val t.isLt (by omega)

/-- The result, entry by entry. -/
theorem result (c : Dev nD) (i : Fin 8192) (j : Fin 2048) :
    (dats m 0 c).arrAt 2 cfg0.N (ix2 i j) = sumTo m c i.val j.val 4096 := by
  refine (dats m 0 c).arrAt_forall_of_covers 2 (fun i v => v = sumTo m c (i (0 : Fin 2)).val (i (1 : Fin 2)).val 4096) (by decide +kernel) (fun t hf y => ?_) (ix2 i j)
  blk_simp [place2]
  rw [after0_2]
  refine (congrArg _ (eq_ix2 y)).trans ((written m c t ((flush0_2 t).mp hf) (y (0 : Fin 2)) (y (1 : Fin 2))).trans ?_)
  rw [show t.val / 2 / 2 = t.val / 4 by omega, Nat.mul_comm 1024, Nat.mul_comm 1024]

/-! ## The reference -/

open Cert.MlpOutDwReferenceIdeal.Read in
theorem reference (x : Vec Ideal S4096x8192 .bf16) (y : Vec Ideal S4096x2048 .bf16) (i : Fin 8192) (j : Fin 2048) :
    val_main_v6 (F := Ideal) x y (ix2 i j) = ∑ p : Fin 4096, y (ix2 p j) * x (ix2 p i) := by
  pointwise [val_main_v6, val_main_v5, val_main_v4, val_main_v3, val_main_v2, val_main_v1, val_main_v0, val_main_cst]

theorem total (c : Dev nD) (i : Fin 8192) (j : Fin 2048) : sumTo m c i.val j.val 4096
    = Cert.MlpOutDwReferenceIdeal.Read.val_main_v6 (F := Ideal) (m ((c : Thread nD τ).loc main_arg0)) (m ((c : Thread nD τ).loc main_arg1)) (ix2 i j) := by
  rw [reference, sumTo, dotTo_fin]
  exact Finset.sum_congr rfl fun p _ => (congrArg₂ (· * ·) (entry_eq _ i.isLt p.isLt) (entry_eq _ p.isLt j.isLt)).trans (mul_comm _ _)

variable (ρ : Dev nD → PrngReg)

theorem run_values : θ_run defs (onTc (τ := τ) (main (F := Ideal))) ⟨m, fun _ => 0, ρ⟩ (fun r => ∀ c : Dev nD,
    r.2.mem ((c : Thread nD τ).loc main_v0) = Cert.MlpOutDwReferenceIdeal.Read.val_main_v6 (F := Ideal) (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1)) :=
  (θ_run defs _ _).mono (fun _ h c => ⟨((h c).1 2).trans (funext fun i => by
      rw [eq_ix2 i]; exact (result m c _ _).trans (total m c _ _)),
    ((h c).1 0).trans ((dats m 0 c).arrAt_in 0 rfl _), ((h c).1 1).trans ((dats m 0 c).arrAt_in 1 rfl _)⟩)
    (run_main m ρ)

/-- The call computes what the reference computes. -/
theorem agree : Cert.algebraic_MlpOutDwIdeal_MlpOutDwReferenceIdeal := by
  pair_intro
  · run_from run_values m g
  · run_from Cert.MlpOutDwReferenceIdeal.Value.run (F := Ideal) m' g'
    exact Cert.MlpOutDwReferenceIdeal.Read.val_main_v6_eq _ _

theorem frame_reference : Cert.quiescent_MlpOutDwReferenceIdeal := fun m ρ _ =>
  (θ_run Cert.MlpOutDwReferenceIdeal.defs _ _).mono (fun r h => ⟨fun c => (h c).2, Idealize.ShloMosaic.sem_eq_zero_of_no_sems (by decide) r.2⟩)
    (Cert.MlpOutDwReferenceIdeal.Value.run (F := Ideal) m ρ)

end Cert.MlpOutDwIdeal.Products
end
-- ==== Proof.Products.MlpInDx.lean ====
/- The gradient of the rows the feed-forward block's first product is applied to. -/
module

public import proofs.«01_k».proof.Defs
public import proofs.«01_k».proof.Proof.Products.Sum
public import proofs.«01_k».proof.Proof.Gen.MlpInDxIdeal.Frame
public import proofs.«01_k».proof.Proof.Gen.MlpInDxReferenceIdeal
public import proofs.«01_k».proof.Proof.Gen.MlpInDxReferenceIdeal.Run
public import proofs.«01_k».proof.Proof.Gen.MlpInDxReferenceIdeal.Read
public import Idealize.ShloMosaic.Lib.Pipeline.ValueKit
public import Idealize.ShloMosaic.Lib.Pipeline.ValueKit.Geometry
public import Idealize.ShloMosaic.Lib.Pointwise
public import Idealize.ShloMosaic.Lib.Tactic
public import Idealize.ShloMosaic.Lib.Claim
public import Idealize.ShloMosaic.Lib.Quiescent

@[expose] public section

set_option maxRecDepth 16384

noncomputable section

namespace Cert.MlpInDxIdeal.Products

open Idealize.ShloMosaic Idealize.ShloMosaic.TcCoe Idealize.SL.Sem Cert.MlpInDxIdeal Cert.MlpInDxIdeal.Gen Cert.Products

variable (m : (ℓ : Loc nD τ sig) → Buf (Elt Ideal) ℓ)

/-! ## What one point leaves -/

theorem hz : (![0, 0] : Fin 2 → Nat) = fun _ => 0 := funext fun a => by fin_cases a <;> rfl

/-- The products of one point: a block of 2048 columns of the left factor with two of the eight parts of the weight. -/
abbrev pair (x : Vec Ideal S1024x2048 .bf16) (y : Vec Ideal S2x1024x1024 .bf16) (r q : Fin 1024) : EReal :=
  ∑ v : Fin 1024, x (ix2 r ⟨v.val, by omega⟩) * y (ix3 (0 : Fin 2) q v) + ∑ v : Fin 1024, x (ix2 r ⟨1024 + v.val, by omega⟩) * y (ix3 (1 : Fin 2) q v)

/-- The first of four points of a block leaves its products. -/
theorem first (c : Dev nD) (t : Fin cfg0.N) (h : t.val % 4 = 0) (r q : Fin 1024) :
    (outsAt0 m c t.val t.isLt).2 (ix2 r q) = pair (iblk m c 0 t) (iblk m c 1 t) r q := by
  refine (congrFun (congrArg Prod.snd (outsAt0_A m c t h (by omega) (by omega))) _).trans ?_
  dsimp only
  generalize iblk m c 0 t = x
  generalize iblk m c 1 t = y
  unfold sout0_A_0
  rw [View.read_writes_eq_canon _ _ _ (fun z => scover0_A_0 (y := z) ..)]
  unfold kernelRun0_A
  dsimp only
  rw [View.canon_unit_zero hz]
  simp only [View.readAt_eq_ld, Memref.IsWhole.read_unread]
  pointwise [k0_pay1]

/-- The points between add theirs to what the point before left. -/
theorem next (c : Dev nD) (t : Fin cfg0.N) (h : 1 ≤ t.val % 4 ∧ t.val % 4 ≤ 2) (r q : Fin 1024) :
    (outsAt0 m c t.val t.isLt).2 (ix2 r q) = (outsAt0 m c (t.val - 1) (by omega)).2 (ix2 r q) + pair (iblk m c 0 t) (iblk m c 1 t) r q := by
  refine (congrFun (congrArg Prod.snd (outsAt0_B m c t (by omega) h (by omega))) _).trans ?_
  dsimp only
  generalize iblk m c 0 t = x
  generalize iblk m c 1 t = y
  generalize (outsAt0 m c (t.val - 1) _).2 = a
  unfold sout0_B_0
  rw [View.read_writes_eq_canon _ _ _ (fun z => scover0_B_0 (y := z) ..)]
  unfold kernelRun0_B
  dsimp only
  rw [View.canon_unit_zero hz]
  simp only [View.readAt_eq_ld, Memref.IsWhole.read_unread, View.ld_unit_zero (S := S1024x1024) hz]
  refine (congrArg (fun a => k0_pay2 a _ _ _ _ (ix2 r q)) ((Memref.isWhole_whole cc0_scratch0).read_unread a)).trans ?_
  pointwise [k0_pay2]

/-- The last writes the sum of all of them. -/
theorem last (c : Dev nD) (t : Fin cfg0.N) (h : t.val % 4 = 3) (r q : Fin 1024) :
    (outsAt0 m c t.val t.isLt).1 (ix2 r q) = (outsAt0 m c (t.val - 1) (by omega)).2 (ix2 r q) + pair (iblk m c 0 t) (iblk m c 1 t) r q := by
  refine (congrFun (congrArg Prod.fst (outsAt0_C m c t (by omega) (by omega) h)) _).trans ?_
  dsimp only
  generalize iblk m c 0 t = x
  generalize iblk m c 1 t = y
  generalize (outsAt0 m c (t.val - 1) _).2 = a
  unfold out0_C_2
  rw [View.read_writes_eq_canon _ _ _ (fun z => cover0_C_2 (y := z) ..)]
  unfold kernelRun0_C
  dsimp only
  rw [View.canon_unit_zero hz]
  simp only [View.readAt_eq_ld, Memref.IsWhole.read_unread, View.ld_unit_zero (S := S1024x1024) hz]
  refine (congrArg (fun a => k0_pay3 a _ _ _ _ (ix2 r q)) ((Memref.isWhole_whole cc0_scratch0).read_unread a)).trans ?_
  pointwise [k0_pay3]

/-! ## The blocks -/

theorem place0 : ∀ t : Fin cfg0.N, win0_0.index t = ![t.val / 8, t.val % 4] := (by decide +kernel : ∀ t : Fin grid0.N, _)
theorem place1 : ∀ t : Fin cfg0.N, win0_1.index t = ![t.val % 4, t.val / 4 % 2, 0] := (by decide +kernel : ∀ t : Fin grid0.N, _)
theorem place2 : ∀ t : Fin cfg0.N, win0_2.index t = ![t.val / 8, t.val / 4 % 2] := (by decide +kernel : ∀ t : Fin grid0.N, _)

theorem points (t : Fin cfg0.N) : t.val < 32 := lt_of_lt_of_eq t.isLt N_0

/-- The left factor, and the weight with its eight parts side by side. -/
abbrev a (c : Dev nD) : ℕ → ℕ → EReal := entry fun (i : Fin 4096) (p : Fin 8192) => m ((c : Thread nD τ).loc main_arg1) (ix2 i p)
abbrev w (c : Dev nD) : ℕ → ℕ → ℕ → EReal := entry3 fun (u : Fin 8) (j : Fin 2048) (p : Fin 1024) => m ((c : Thread nD τ).loc main_arg0) (ix3 u j p)
abbrev b (c : Dev nD) (p j : ℕ) : EReal := w m c (p / 1024) j (p % 1024)

theorem blk0 (c : Dev nD) (t : Fin cfg0.N) (r : Fin 1024) (v : Fin 2048) :
    iblk m c 0 t (ix2 r v) = a m c (1024 * (t.val / 8) + r.val) (2048 * (t.val % 4) + v.val) := by
  have hp := points t
  have e : ∀ A : Buf (Elt Ideal) ((c : Thread nD τ).loc main_arg1), ((cfg0.win 0).blk t).view.read (Elt Ideal) A (ix2 r v) = A (ix2 ⟨1024 * (t.val / 8) + r.val, by omega⟩ ⟨2048 * (t.val % 4) + v.val, by omega⟩) :=
    fun A => by rw [View.read_apply]; show A _ = A _; refine congrArg A ?_; blk_ext [place0]
  refine (e (V m c main_arg1)).trans (Eq.symm ?_)
  exact (entry_eq _ (by omega) (by omega)).trans rfl

theorem blk1 (c : Dev nD) (t : Fin cfg0.N) (u : Fin 2) (q v : Fin 1024) :
    iblk m c 1 t (ix3 u q v) = w m c (2 * (t.val % 4) + u.val) (1024 * (t.val / 4 % 2) + q.val) v.val := by
  have hp := points t
  have e : ∀ A : Buf (Elt Ideal) ((c : Thread nD τ).loc main_arg0), ((cfg0.win 1).blk t).view.read (Elt Ideal) A (ix3 u q v) = A (ix3 ⟨2 * (t.val % 4) + u.val, by omega⟩ ⟨1024 * (t.val / 4 % 2) + q.val, by omega⟩ v) :=
    fun A => by rw [View.read_apply]; show A _ = A _; refine congrArg A ?_; blk_ext [place1]
  refine (e (V m c main_arg0)).trans (Eq.symm ?_)
  exact (entry3_eq _ (by omega) (by omega) v.isLt).trans rfl

/-! ## The sum -/

/-- The sum of the products of row `i` and column `j` up to position `n`. -/
abbrev sumTo (c : Dev nD) (i j n : ℕ) : EReal := dotTo (fun p => a m c i p) (fun p => b m c p j) n

/-- A sum over 2048 positions is one over the first half and one over the second. -/
theorem halves (f : ℕ → EReal) : ∑ v : Fin 2048, f v.val = ∑ v : Fin 1024, f v.val + ∑ v : Fin 1024, f (1024 + v.val) :=
  Fin.sum_univ_add (a := 1024) (b := 1024) fun v => f v.val

theorem products (c : Dev nD) (t : Fin cfg0.N) (r q : Fin 1024) : pair (iblk m c 0 t) (iblk m c 1 t) r q
      = ∑ v : Fin 2048, a m c (1024 * (t.val / 4 / 2) + r.val) (2048 * (t.val % 4) + v.val) * b m c (2048 * (t.val % 4) + v.val) (1024 * (t.val / 4 % 2) + q.val) := by
  rw [halves fun p => a m c (1024 * (t.val / 4 / 2) + r.val) (2048 * (t.val % 4) + p) * b m c (2048 * (t.val % 4) + p) (1024 * (t.val / 4 % 2) + q.val),
    show t.val / 4 / 2 = t.val / 8 by omega]
  refine congrArg₂ (· + ·) (Finset.sum_congr rfl fun v _ => congrArg₂ (· * ·) (blk0 m c t r _) ((blk1 m c t 0 q v).trans ?_))
    (Finset.sum_congr rfl fun v _ => congrArg₂ (· * ·) (blk0 m c t r _) ((blk1 m c t 1 q v).trans ?_))
  · rw [b, show (2048 * (t.val % 4) + v.val) / 1024 = 2 * (t.val % 4) + 0 by omega, show (2048 * (t.val % 4) + v.val) % 1024 = v.val by omega]
    rfl
  · rw [b, show (2048 * (t.val % 4) + (1024 + v.val)) / 1024 = 2 * (t.val % 4) + 1 by omega, show (2048 * (t.val % 4) + (1024 + v.val)) % 1024 = v.val by omega]
    rfl

theorem written (c : Dev nD) (t : Fin cfg0.N) (h : t.val % 4 = 3) (r q : Fin 1024) :
    (outsAt0 m c t.val t.isLt).1 (ix2 r q) = sumTo m c (1024 * (t.val / 4 / 2) + r.val) (1024 * (t.val / 4 % 2) + q.val) 8192 :=
  fold (n := 4) (T := 2048) (by omega) (fun t h => (outsAt0 m c t h).2 (ix2 r q)) (fun t h => (outsAt0 m c t h).1 (ix2 r q))
    (fun u p => a m c (1024 * (u / 2) + r.val) p) (fun u p => b m c p (1024 * (u % 2) + q.val))
    (fun t h h0 => (first m c ⟨t, h⟩ h0 r q).trans (products m c ⟨t, h⟩ r q))
    (fun t h h0 h1 => (next m c ⟨t, h⟩ ⟨h0, Nat.le_of_lt_succ (Nat.lt_of_succ_lt_succ h1)⟩ r q).trans (congrArg (_ + ·) (products m c ⟨t, h⟩ r q)))
    (fun t h h0 => (last m c ⟨t, h⟩ (Nat.succ_injective h0) r q).trans (congrArg (_ + ·) (products m c ⟨t, h⟩ r q)))
    t.val t.isLt (by omega)

/-- The result, entry by entry. -/
theorem result (c : Dev nD) (i : Fin 4096) (j : Fin 2048) :
    (dats m 0 c).arrAt 2 cfg0.N (ix2 i j) = sumTo m c i.val j.val 8192 := by
  refine (dats m 0 c).arrAt_forall_of_covers 2 (fun i v => v = sumTo m c (i (0 : Fin 2)).val (i (1 : Fin 2)).val 8192) (by decide +kernel) (fun t hf y => ?_) (ix2 i j)
  blk_simp [place2]
  rw [after0_2]
  refine (congrArg _ (eq_ix2 y)).trans ((written m c t ((flush0_2 t).mp hf) (y (0 : Fin 2)) (y (1 : Fin 2))).trans ?_)
  rw [show t.val / 4 / 2 = t.val / 8 by omega, Nat.mul_comm 1024, Nat.mul_comm 1024]

/-! ## The reference -/

open Cert.MlpInDxReferenceIdeal.Read in
theorem reference (x : Vec Ideal S8x2048x1024 .bf16) (y : Vec Ideal S4096x8192 .bf16) (i : Fin 4096) (j : Fin 2048) :
    val_main_v7 (F := Ideal) x y (ix2 i j) = ∑ p : Fin 8192, y (ix2 i p) * x (ix3 ⟨p.val / 1024, by omega⟩ j ⟨p.val % 1024, by omega⟩) := by
  pointwise [val_main_v7, val_main_v6, val_main_v5, val_main_v4, val_main_v3, val_main_cst, val_main_v2, val_main_v1, val_main_v0]

theorem total (c : Dev nD) (i : Fin 4096) (j : Fin 2048) : sumTo m c i.val j.val 8192
    = Cert.MlpInDxReferenceIdeal.Read.val_main_v7 (F := Ideal) (m ((c : Thread nD τ).loc main_arg0)) (m ((c : Thread nD τ).loc main_arg1)) (ix2 i j) := by
  rw [reference, sumTo, dotTo_fin]
  exact Finset.sum_congr rfl fun p _ => congrArg₂ (· * ·) (entry_eq _ i.isLt p.isLt) (entry3_eq _ (by omega) j.isLt (by omega))

variable (ρ : Dev nD → PrngReg)

theorem run_values : θ_run defs (onTc (τ := τ) (main (F := Ideal))) ⟨m, fun _ => 0, ρ⟩ (fun r => ∀ c : Dev nD,
    r.2.mem ((c : Thread nD τ).loc main_v0) = Cert.MlpInDxReferenceIdeal.Read.val_main_v7 (F := Ideal) (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1)) :=
  (θ_run defs _ _).mono (fun _ h c => ⟨((h c).1 2).trans (funext fun i => by
      rw [eq_ix2 i]; exact (result m c _ _).trans (total m c _ _)),
    ((h c).1 1).trans ((dats m 0 c).arrAt_in 1 rfl _), ((h c).1 0).trans ((dats m 0 c).arrAt_in 0 rfl _)⟩)
    (run_main m ρ)

/-- The call computes what the reference computes. -/
theorem agree : Cert.algebraic_MlpInDxIdeal_MlpInDxReferenceIdeal := by
  pair_intro
  · run_from run_values m g
  · run_from Cert.MlpInDxReferenceIdeal.Value.run (F := Ideal) m' g'
    exact Cert.MlpInDxReferenceIdeal.Read.val_main_v7_eq _ _

theorem frame_reference : Cert.quiescent_MlpInDxReferenceIdeal := fun m ρ _ =>
  (θ_run Cert.MlpInDxReferenceIdeal.defs _ _).mono (fun r h => ⟨fun c => (h c).2, Idealize.ShloMosaic.sem_eq_zero_of_no_sems (by decide) r.2⟩)
    (Cert.MlpInDxReferenceIdeal.Value.run (F := Ideal) m ρ)

end Cert.MlpInDxIdeal.Products
end
-- ==== Proof.Products.MlpInDw.lean ====
/- The gradient of the first weight of the feed-forward block, in eight parts. -/
module

public import proofs.«01_k».proof.Defs
public import proofs.«01_k».proof.Proof.Products.Sum
public import proofs.«01_k».proof.Proof.Gen.MlpInDwIdeal.Frame
public import proofs.«01_k».proof.Proof.Gen.MlpInDwReferenceIdeal
public import proofs.«01_k».proof.Proof.Gen.MlpInDwReferenceIdeal.Run
public import proofs.«01_k».proof.Proof.Gen.MlpInDwReferenceIdeal.Read
public import Idealize.ShloMosaic.Lib.Pipeline.ValueKit
public import Idealize.ShloMosaic.Lib.Pipeline.ValueKit.Geometry
public import Idealize.ShloMosaic.Lib.Pointwise
public import Idealize.ShloMosaic.Lib.Tactic
public import Idealize.ShloMosaic.Lib.Claim
public import Idealize.ShloMosaic.Lib.Quiescent

@[expose] public section

set_option maxRecDepth 16384

noncomputable section

namespace Cert.MlpInDwIdeal.Products

open Idealize.ShloMosaic Idealize.ShloMosaic.TcCoe Idealize.SL.Sem Cert.MlpInDwIdeal Cert.MlpInDwIdeal.Gen Cert.Products

variable (m : (ℓ : Loc nD τ sig) → Buf (Elt Ideal) ℓ)

/-! ## What one point leaves -/

theorem hz : (![0, 0] : Fin 2 → Nat) = fun _ => 0 := funext fun a => by fin_cases a <;> rfl

theorem hz3 : (![0, 0, 0] : Fin 3 → Nat) = fun _ => 0 := funext fun a => by fin_cases a <;> rfl

theorem pay1 (x : Vec Ideal S2048x1024 .bf16) (y : Vec Ideal S2048x1024 .bf16) (r q : Fin 1024) :
    k0_pay1 x y (ix2 r q) = ∑ v : Fin 2048, x (ix2 v r) * y (ix2 v q) := by
  pointwise [k0_pay1]

theorem pay3 (a : Vec Ideal S1024x1024 .f32) (x : Vec Ideal S2048x1024 .bf16) (y : Vec Ideal S2048x1024 .bf16) (r q : Fin 1024) :
    k0_pay3 a x y (ix3 (0 : Fin 1) r q) = a (ix2 r q) + ∑ v : Fin 2048, x (ix2 v r) * y (ix2 v q) := by
  pointwise [k0_pay3]

/-- The first of two points of a block leaves its products. -/
theorem first (c : Dev nD) (t : Fin cfg0.N) (h : t.val % 2 = 0) :
    (outsAt0 m c t.val t.isLt).2 = k0_pay1 (iblk m c 0 t) (iblk m c 1 t) := by
  refine (congrArg Prod.snd (outsAt0_A m c t h (by omega))).trans ?_
  dsimp only
  generalize iblk m c 0 t = x
  generalize iblk m c 1 t = y
  unfold sout0_A_0
  rw [View.read_writes_eq_canon _ _ _ (fun z => scover0_A_0 (y := z) ..)]
  unfold kernelRun0_A
  dsimp only
  rw [View.canon_unit_zero hz]
  simp only [View.readAt_eq_ld, Memref.IsWhole.read_unread, View.ld_unit_zero (S := S2048x1024) hz]

/-- The second writes the sum of both. -/
theorem last (c : Dev nD) (t : Fin cfg0.N) (h : t.val % 2 = 1) :
    (outsAt0 m c t.val t.isLt).1 = k0_pay3 (outsAt0 m c (t.val - 1) (by omega)).2 (iblk m c 0 t) (iblk m c 1 t) := by
  refine (congrArg Prod.fst (outsAt0_B m c t (by omega) h)).trans ?_
  dsimp only
  generalize iblk m c 0 t = x
  generalize iblk m c 1 t = y
  generalize (outsAt0 m c (t.val - 1) _).2 = a
  unfold out0_B_2
  rw [View.read_writes_eq_canon _ _ _ (fun z => cover0_B_2 (y := z) ..)]
  unfold kernelRun0_B
  dsimp only
  rw [View.canon_unit_zero hz3]
  simp only [View.readAt_eq_ld, Memref.IsWhole.read_unread, View.ld_unit_zero (S := S1024x1024) hz, View.ld_unit_zero (S := S2048x1024) hz]
  exact congrArg (k0_pay3 · x y) ((Memref.isWhole_whole cc0_scratch0).read_unread a)

/-! ## The blocks -/

theorem place0 : ∀ t : Fin cfg0.N, win0_0.index t = ![t.val % 2, t.val / 16] := (by decide +kernel : ∀ t : Fin grid0.N, _)
theorem place1 : ∀ t : Fin cfg0.N, win0_1.index t = ![t.val % 2, t.val / 2 % 8] := (by decide +kernel : ∀ t : Fin grid0.N, _)
theorem place2 : ∀ t : Fin cfg0.N, win0_2.index t = ![t.val / 2 % 8, t.val / 16, 0] := (by decide +kernel : ∀ t : Fin grid0.N, _)

theorem points (t : Fin cfg0.N) : t.val < 32 := lt_of_lt_of_eq t.isLt N_0

/-- The row factor and the column factor of the product. -/
abbrev a (c : Dev nD) : ℕ → ℕ → EReal := entry fun (i : Fin 2048) (p : Fin 4096) => m ((c : Thread nD τ).loc main_arg0) (ix2 p i)
abbrev b (c : Dev nD) : ℕ → ℕ → EReal := entry fun (p : Fin 4096) (j : Fin 8192) => m ((c : Thread nD τ).loc main_arg1) (ix2 p j)

theorem blk0 (c : Dev nD) (t : Fin cfg0.N) (r : Fin 1024) (v : Fin 2048) :
    iblk m c 0 t (ix2 v r) = a m c (1024 * (t.val / 16) + r.val) (2048 * (t.val % 2) + v.val) := by
  have hp := points t
  have e : ∀ A : Buf (Elt Ideal) ((c : Thread nD τ).loc main_arg0), ((cfg0.win 0).blk t).view.read (Elt Ideal) A (ix2 v r) = A (ix2 ⟨2048 * (t.val % 2) + v.val, by omega⟩ ⟨1024 * (t.val / 16) + r.val, by omega⟩) :=
    fun A => by rw [View.read_apply]; show A _ = A _; refine congrArg A ?_; blk_ext [place0]
  refine (e (V m c main_arg0)).trans (Eq.symm ?_)
  exact (entry_eq _ (by omega) (by omega)).trans rfl

theorem blk1 (c : Dev nD) (t : Fin cfg0.N) (v : Fin 2048) (q : Fin 1024) :
    iblk m c 1 t (ix2 v q) = b m c (2048 * (t.val % 2) + v.val) (1024 * (t.val / 2 % 8) + q.val) := by
  have hp := points t
  have e : ∀ A : Buf (Elt Ideal) ((c : Thread nD τ).loc main_arg1), ((cfg0.win 1).blk t).view.read (Elt Ideal) A (ix2 v q) = A (ix2 ⟨2048 * (t.val % 2) + v.val, by omega⟩ ⟨1024 * (t.val / 2 % 8) + q.val, by omega⟩) :=
    fun A => by rw [View.read_apply]; show A _ = A _; refine congrArg A ?_; blk_ext [place1]
  refine (e (V m c main_arg1)).trans (Eq.symm ?_)
  exact (entry_eq _ (by omega) (by omega)).trans rfl

/-! ## The sum -/

/-- The sum of the products of row `i` and column `j` up to position `n`. -/
abbrev sumTo (c : Dev nD) (i j n : ℕ) : EReal := dotTo (fun p => a m c i p) (fun p => b m c p j) n

theorem products (c : Dev nD) (t : Fin cfg0.N) (r q : Fin 1024) :
    ∑ v : Fin 2048, (show Vec Ideal S2048x1024 .bf16 from iblk m c 0 t) (ix2 v r) * (show Vec Ideal S2048x1024 .bf16 from iblk m c 1 t) (ix2 v q)
      = ∑ v : Fin 2048, a m c (1024 * (t.val / 2 / 8) + r.val) (2048 * (t.val % 2) + v.val) * b m c (2048 * (t.val % 2) + v.val) (1024 * (t.val / 2 % 8) + q.val) :=
  Finset.sum_congr rfl fun v _ => congrArg₂ (· * ·) ((blk0 m c t r v).trans (by rw [show t.val / 16 = t.val / 2 / 8 by omega])) (blk1 m c t v q)

theorem written (c : Dev nD) (t : Fin cfg0.N) (h : t.val % 2 = 1) (r q : Fin 1024) :
    (outsAt0 m c t.val t.isLt).1 (ix3 (0 : Fin 1) r q) = sumTo m c (1024 * (t.val / 2 / 8) + r.val) (1024 * (t.val / 2 % 8) + q.val) 4096 :=
  fold (n := 2) (T := 2048) (by omega) (fun t h => (outsAt0 m c t h).2 (ix2 r q)) (fun t h => (outsAt0 m c t h).1 (ix3 (0 : Fin 1) r q))
    (fun u p => a m c (1024 * (u / 8) + r.val) p) (fun u p => b m c p (1024 * (u % 8) + q.val))
    (fun t h h0 => (congrFun (first m c ⟨t, h⟩ h0) _).trans ((pay1 _ _ r q).trans (products m c ⟨t, h⟩ r q)))
    (fun t h h0 h1 => absurd h1 (by omega))
    (fun t h h0 => (congrFun (last m c ⟨t, h⟩ (Nat.succ_injective h0)) _).trans ((pay3 _ _ _ r q).trans (congrArg (_ + ·) (products m c ⟨t, h⟩ r q))))
    t.val t.isLt (by omega)

/-- The result, entry by entry. -/
theorem result (c : Dev nD) (u : Fin 8) (i : Fin 2048) (j : Fin 1024) :
    (dats m 0 c).arrAt 2 cfg0.N (ix3 u i j) = sumTo m c i.val (u.val * 1024 + j.val) 4096 := by
  refine (dats m 0 c).arrAt_forall_of_covers 2 (fun i v => v = sumTo m c (i (1 : Fin 3)).val ((i (0 : Fin 3)).val * 1024 + (i (2 : Fin 3)).val) 4096) (by decide +kernel) (fun t hf y => ?_) (ix3 u i j)
  blk_simp [place2]
  rw [after0_2]
  have h0 : y (0 : Fin 3) = (0 : Fin 1) := Subsingleton.elim (α := Fin 1) _ _
  refine (congrArg _ ((eq_ix3 y).trans (by rw [h0]))).trans ((written m c t ((flush0_2 t).mp hf) (y (1 : Fin 3)) (y (2 : Fin 3))).trans ?_)
  rw [show t.val / 2 / 8 = t.val / 16 by omega, Nat.mul_comm 1024 (t.val / 16), Nat.mul_comm 1024 (t.val / 2 % 8)]

/-! ## The reference -/

open Cert.MlpInDwReferenceIdeal.Read in
theorem reference (x : Vec Ideal S4096x2048 .bf16) (y : Vec Ideal S4096x8192 .bf16) (u : Fin 8) (i : Fin 2048) (j : Fin 1024) :
    val_main_v10 (F := Ideal) x y (ix3 u i j) = ∑ p : Fin 4096, y (ix2 p ⟨u.val * 1024 + j.val, by omega⟩) * x (ix2 p i) := by
  pointwise [val_main_v10, val_main_v9, val_main_v8, val_main_v7, val_main_v6, val_main_v5, val_main_v4, val_main_v3, val_main_v2, val_main_v1, val_main_v0, val_main_cst]

theorem total (c : Dev nD) (u : Fin 8) (i : Fin 2048) (j : Fin 1024) : sumTo m c i.val (u.val * 1024 + j.val) 4096
    = Cert.MlpInDwReferenceIdeal.Read.val_main_v10 (F := Ideal) (m ((c : Thread nD τ).loc main_arg0)) (m ((c : Thread nD τ).loc main_arg1)) (ix3 u i j) := by
  rw [reference, sumTo, dotTo_fin]
  exact Finset.sum_congr rfl fun p _ => (congrArg₂ (· * ·) (entry_eq _ i.isLt p.isLt) (entry_eq _ p.isLt (by omega))).trans (mul_comm _ _)

variable (ρ : Dev nD → PrngReg)

theorem run_values : θ_run defs (onTc (τ := τ) (main (F := Ideal))) ⟨m, fun _ => 0, ρ⟩ (fun r => ∀ c : Dev nD,
    r.2.mem ((c : Thread nD τ).loc main_v0) = Cert.MlpInDwReferenceIdeal.Read.val_main_v10 (F := Ideal) (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1)) :=
  (θ_run defs _ _).mono (fun _ h c => ⟨((h c).1 2).trans (funext fun i => by
      rw [eq_ix3 i]; exact (result m c _ _ _).trans (total m c _ _ _)),
    ((h c).1 0).trans ((dats m 0 c).arrAt_in 0 rfl _), ((h c).1 1).trans ((dats m 0 c).arrAt_in 1 rfl _)⟩)
    (run_main m ρ)

/-- The call computes what the reference computes. -/
theorem agree : Cert.algebraic_MlpInDwIdeal_MlpInDwReferenceIdeal := by
  pair_intro
  · run_from run_values m g
  · run_from Cert.MlpInDwReferenceIdeal.Value.run (F := Ideal) m' g'
    exact Cert.MlpInDwReferenceIdeal.Read.val_main_v10_eq _ _

theorem frame_reference : Cert.quiescent_MlpInDwReferenceIdeal := fun m ρ _ =>
  (θ_run Cert.MlpInDwReferenceIdeal.defs _ _).mono (fun r h => ⟨fun c => (h c).2, Idealize.ShloMosaic.sem_eq_zero_of_no_sems (by decide) r.2⟩)
    (Cert.MlpInDwReferenceIdeal.Value.run (F := Ideal) m ρ)

end Cert.MlpInDwIdeal.Products
end
-- ==== Proof.Products.ProjMain.lean ====
/- The main projection. -/
module

public import proofs.«01_k».proof.Defs
public import proofs.«01_k».proof.Proof.Products.Sum
public import proofs.«01_k».proof.Proof.Gen.ProjMainIdeal.Frame
public import proofs.«01_k».proof.Proof.Gen.ProjMainReferenceIdeal
public import proofs.«01_k».proof.Proof.Gen.ProjMainReferenceIdeal.Run
public import proofs.«01_k».proof.Proof.Gen.ProjMainReferenceIdeal.Read
public import Idealize.ShloMosaic.Lib.Pipeline.ValueKit
public import Idealize.ShloMosaic.Lib.Pipeline.ValueKit.Geometry
public import Idealize.ShloMosaic.Lib.Pointwise
public import Idealize.ShloMosaic.Lib.Tactic
public import Idealize.ShloMosaic.Lib.Claim
public import Idealize.ShloMosaic.Lib.Quiescent

@[expose] public section

set_option maxRecDepth 16384

noncomputable section

namespace Cert.ProjMainIdeal.Products

open Idealize.ShloMosaic Idealize.ShloMosaic.TcCoe Idealize.SL.Sem Cert.ProjMainIdeal Cert.ProjMainIdeal.Gen Cert.Products

variable (m : (ℓ : Loc nD τ sig) → Buf (Elt Ideal) ℓ)

/-! ## What one point leaves -/

theorem hz : (![0, 0] : Fin 2 → Nat) = fun _ => 0 := funext fun a => by fin_cases a <;> rfl

theorem pay1 (x : Vec Ideal S1024x2048 .bf16) (y : Vec Ideal S1024x2048 .bf16) (r q : Fin 1024) :
    k0_pay1 x y (ix2 r q) = ∑ v : Fin 2048, x (ix2 r v) * y (ix2 q v) := by
  pointwise [k0_pay1]

/-- A point writes the product of its blocks. -/
theorem point (c : Dev nD) (t : Fin cfg0.N) : outsAt0 m c t = k0_pay1 (iblk m c 0 t) (iblk m c 1 t) := by
  unfold outsAt0
  generalize iblk m c 0 t = x
  generalize iblk m c 1 t = y
  unfold out0_A_2
  rw [View.read_writes_eq_canon _ _ _ (fun z => cover0_A_2 (y := z) ..)]
  unfold kernelRun0_A
  dsimp only
  rw [View.canon_unit_zero hz]
  simp only [View.readAt_eq_ld, Memref.IsWhole.read_unread, View.ld_unit_zero (S := S1024x2048) hz]

/-! ## The blocks -/

theorem place0 : ∀ t : Fin cfg0.N, win0_0.index t = ![t.val / 6, 0] := (by decide +kernel : ∀ t : Fin grid0.N, _)
theorem place1 : ∀ t : Fin cfg0.N, win0_1.index t = ![t.val % 6, 0] := (by decide +kernel : ∀ t : Fin grid0.N, _)
theorem place2 : ∀ t : Fin cfg0.N, win0_2.index t = ![t.val / 6, t.val % 6] := (by decide +kernel : ∀ t : Fin grid0.N, _)

theorem points (t : Fin cfg0.N) : t.val < 24 := lt_of_lt_of_eq t.isLt N_0

/-- The row factor and the column factor of the product. -/
abbrev a (c : Dev nD) : ℕ → ℕ → EReal := entry fun (i : Fin 4096) (p : Fin 2048) => m ((c : Thread nD τ).loc main_arg0) (ix2 i p)
abbrev b (c : Dev nD) : ℕ → ℕ → EReal := entry fun (p : Fin 2048) (j : Fin 6144) => m ((c : Thread nD τ).loc main_arg1) (ix2 j p)

theorem blk0 (c : Dev nD) (t : Fin cfg0.N) (r : Fin 1024) (v : Fin 2048) :
    iblk m c 0 t (ix2 r v) = a m c (1024 * (t.val / 6) + r.val) (v.val) := by
  have hp := points t
  have e : ∀ A : Buf (Elt Ideal) ((c : Thread nD τ).loc main_arg0), ((cfg0.win 0).blk t).view.read (Elt Ideal) A (ix2 r v) = A (ix2 ⟨1024 * (t.val / 6) + r.val, by omega⟩ ⟨v.val, by omega⟩) :=
    fun A => by rw [View.read_apply]; show A _ = A _; refine congrArg A ?_; blk_ext [place0]
  refine (e (V m c main_arg0)).trans (Eq.symm ?_)
  exact (entry_eq _ (by omega) (by omega)).trans rfl

theorem blk1 (c : Dev nD) (t : Fin cfg0.N) (v : Fin 2048) (q : Fin 1024) :
    iblk m c 1 t (ix2 q v) = b m c (v.val) (1024 * (t.val % 6) + q.val) := by
  have hp := points t
  have e : ∀ A : Buf (Elt Ideal) ((c : Thread nD τ).loc main_arg1), ((cfg0.win 1).blk t).view.read (Elt Ideal) A (ix2 q v) = A (ix2 ⟨1024 * (t.val % 6) + q.val, by omega⟩ ⟨v.val, by omega⟩) :=
    fun A => by rw [View.read_apply]; show A _ = A _; refine congrArg A ?_; blk_ext [place1]
  refine (e (V m c main_arg1)).trans (Eq.symm ?_)
  exact (entry_eq _ (by omega) (by omega)).trans rfl

/-! ## The sum -/

/-- The sum of the products of row `i` and column `j` up to position `n`. -/
abbrev sumTo (c : Dev nD) (i j n : ℕ) : EReal := dotTo (fun p => a m c i p) (fun p => b m c p j) n

theorem written (c : Dev nD) (t : Fin cfg0.N) (r q : Fin 1024) :
    outsAt0 m c t (ix2 r q) = sumTo m c (1024 * (t.val / 6) + r.val) (1024 * (t.val % 6) + q.val) 2048 := by
  rw [point, pay1, sumTo, dotTo_fin]
  exact Finset.sum_congr rfl fun v _ => congrArg₂ (· * ·) (blk0 m c t r v) (blk1 m c t v q)

/-- The result, entry by entry. -/
theorem result (c : Dev nD) (i : Fin 4096) (j : Fin 6144) :
    (dats m 0 c).arrAt 2 cfg0.N (ix2 i j) = sumTo m c i.val j.val 2048 := by
  refine (dats m 0 c).arrAt_forall_of_covers 2 (fun i v => v = sumTo m c (i (0 : Fin 2)).val (i (1 : Fin 2)).val 2048) (by decide +kernel) (fun t hf y => ?_) (ix2 i j)
  blk_simp [place2]
  rw [after0_2]
  refine (congrArg _ (eq_ix2 y)).trans ((written m c t (y (0 : Fin 2)) (y (1 : Fin 2))).trans ?_)
  rw [Nat.mul_comm 1024, Nat.mul_comm 1024]

/-! ## The reference -/

open Cert.ProjMainReferenceIdeal.Read in
theorem reference (x : Vec Ideal S4096x2048 .bf16) (y : Vec Ideal S6144x2048 .bf16) (i : Fin 4096) (j : Fin 6144) :
    val_main_v4 (F := Ideal) x y (ix2 i j) = ∑ p : Fin 2048, x (ix2 i p) * y (ix2 j p) := by
  pointwise [val_main_v4, val_main_v3, val_main_v2, val_main_v1, val_main_v0]

theorem total (c : Dev nD) (i : Fin 4096) (j : Fin 6144) : sumTo m c i.val j.val 2048
    = Cert.ProjMainReferenceIdeal.Read.val_main_v4 (F := Ideal) (m ((c : Thread nD τ).loc main_arg0)) (m ((c : Thread nD τ).loc main_arg1)) (ix2 i j) := by
  rw [reference, sumTo, dotTo_fin]
  exact Finset.sum_congr rfl fun p _ => congrArg₂ (· * ·) (entry_eq _ i.isLt p.isLt) (entry_eq _ p.isLt j.isLt)

variable (ρ : Dev nD → PrngReg)

theorem run_values : θ_run defs (onTc (τ := τ) (main (F := Ideal))) ⟨m, fun _ => 0, ρ⟩ (fun r => ∀ c : Dev nD,
    r.2.mem ((c : Thread nD τ).loc main_v0) = Cert.ProjMainReferenceIdeal.Read.val_main_v4 (F := Ideal) (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1)) :=
  (θ_run defs _ _).mono (fun _ h c => ⟨((h c).1 2).trans (funext fun i => by
      rw [eq_ix2 i]; exact (result m c _ _).trans (total m c _ _)),
    ((h c).1 0).trans ((dats m 0 c).arrAt_in 0 rfl _), ((h c).1 1).trans ((dats m 0 c).arrAt_in 1 rfl _)⟩)
    (run_main m ρ)

/-- The call computes what the reference computes. -/
theorem agree : Cert.algebraic_ProjMainIdeal_ProjMainReferenceIdeal := by
  pair_intro
  · run_from run_values m g
  · run_from Cert.ProjMainReferenceIdeal.Value.run (F := Ideal) m' g'
    exact Cert.ProjMainReferenceIdeal.Read.val_main_v4_eq _ _

theorem frame_reference : Cert.quiescent_ProjMainReferenceIdeal := fun m ρ _ =>
  (θ_run Cert.ProjMainReferenceIdeal.defs _ _).mono (fun r h => ⟨fun c => (h c).2, Idealize.ShloMosaic.sem_eq_zero_of_no_sems (by decide) r.2⟩)
    (Cert.ProjMainReferenceIdeal.Value.run (F := Ideal) m ρ)

end Cert.ProjMainIdeal.Products
end
-- ==== Proof.Products.ProjMainDx.lean ====
/- The gradient of the rows the main projection and the small one are applied to. -/
module

public import proofs.«01_k».proof.Defs
public import proofs.«01_k».proof.Proof.Products.Sum
public import proofs.«01_k».proof.Proof.Gen.ProjMainDxIdeal.Frame
public import proofs.«01_k».proof.Proof.Gen.ProjMainDxReferenceIdeal
public import proofs.«01_k».proof.Proof.Gen.ProjMainDxReferenceIdeal.Run
public import proofs.«01_k».proof.Proof.Gen.ProjMainDxReferenceIdeal.Read
public import Idealize.ShloMosaic.Lib.Pipeline.ValueKit
public import Idealize.ShloMosaic.Lib.Pipeline.ValueKit.Geometry
public import Idealize.ShloMosaic.Lib.Pointwise
public import Idealize.ShloMosaic.Lib.Tactic
public import Idealize.ShloMosaic.Lib.Claim
public import Idealize.ShloMosaic.Lib.Quiescent

@[expose] public section

set_option maxRecDepth 16384

noncomputable section

namespace Cert.ProjMainDxIdeal.Products

open Idealize.ShloMosaic Idealize.ShloMosaic.TcCoe Idealize.SL.Sem Cert.ProjMainDxIdeal Cert.ProjMainDxIdeal.Gen Cert.Products

variable (m : (ℓ : Loc nD τ sig) → Buf (Elt Ideal) ℓ)

/-! ## What one point leaves -/

theorem hz : (![0, 0] : Fin 2 → Nat) = fun _ => 0 := funext fun a => by fin_cases a <;> rfl

theorem pay1 (x : Vec Ideal S1024x2048 .bf16) (y : Vec Ideal S2048x1024 .bf16) (r q : Fin 1024) :
    k0_pay1 x y (ix2 r q) = ∑ v : Fin 2048, x (ix2 r v) * y (ix2 v q) := by
  pointwise [k0_pay1]

theorem pay2 (a : Vec Ideal S1024x1024 .f32) (x : Vec Ideal S1024x2048 .bf16) (y : Vec Ideal S2048x1024 .bf16) (r q : Fin 1024) :
    k0_pay2 a x y (ix2 r q) = a (ix2 r q) + ∑ v : Fin 2048, x (ix2 r v) * y (ix2 v q) := by
  pointwise [k0_pay2]

theorem pay3 (a : Vec Ideal S1024x1024 .f32) (x : Vec Ideal S1024x2048 .bf16) (y : Vec Ideal S2048x1024 .bf16) (z : Vec Ideal S1024x128 .f32)
    (w : Vec Ideal S128x1024 .bf16) (r q : Fin 1024) :
    k0_pay3 a x y z w (ix2 r q) = a (ix2 r q) + ∑ v : Fin 2048, x (ix2 r v) * y (ix2 v q) + ∑ v : Fin 128, z (ix2 r v) * w (ix2 v q) := by
  pointwise [k0_pay3]

/-- The first of 3 points of a block leaves its products. -/
theorem first (c : Dev nD) (t : Fin cfg0.N) (h : t.val % 3 = 0) :
    (outsAt0 m c t.val t.isLt).2 = k0_pay1 (iblk m c 0 t) (iblk m c 1 t) := by
  refine (congrArg Prod.snd (outsAt0_A m c t h (by omega) (by omega))).trans ?_
  dsimp only
  generalize iblk m c 0 t = x
  generalize iblk m c 1 t = y
  unfold sout0_A_0
  rw [View.read_writes_eq_canon _ _ _ (fun z => scover0_A_0 (y := z) ..)]
  unfold kernelRun0_A
  dsimp only
  rw [View.canon_unit_zero hz]
  simp only [View.readAt_eq_ld, Memref.IsWhole.read_unread, View.ld_unit_zero (S := S1024x2048) hz, View.ld_unit_zero (S := S2048x1024) hz]

/-- The points between add theirs to what the point before left. -/
theorem next (c : Dev nD) (t : Fin cfg0.N) (h : t.val % 3 = 1) :
    (outsAt0 m c t.val t.isLt).2 = k0_pay2 (outsAt0 m c (t.val - 1) (by omega)).2 (iblk m c 0 t) (iblk m c 1 t) := by
  refine (congrArg Prod.snd (outsAt0_B m c t (by omega) h (by omega))).trans ?_
  dsimp only
  generalize iblk m c 0 t = x
  generalize iblk m c 1 t = y
  generalize (outsAt0 m c (t.val - 1) _).2 = a
  unfold sout0_B_0
  rw [View.read_writes_eq_canon _ _ _ (fun z => scover0_B_0 (y := z) ..)]
  unfold kernelRun0_B
  dsimp only
  rw [View.canon_unit_zero hz]
  simp only [View.readAt_eq_ld, Memref.IsWhole.read_unread, View.ld_unit_zero (S := S1024x1024) hz, View.ld_unit_zero (S := S1024x2048) hz, View.ld_unit_zero (S := S2048x1024) hz]
  exact congrArg (k0_pay2 · x y) ((Memref.isWhole_whole cc0_scratch0).read_unread a)

/-- The last adds its own and the products of the small projection, and writes the sum. -/
theorem last (c : Dev nD) (t : Fin cfg0.N) (h : t.val % 3 = 2) :
    (outsAt0 m c t.val t.isLt).1 = k0_pay3 (outsAt0 m c (t.val - 1) (by omega)).2 (iblk m c 0 t) (iblk m c 1 t) (iblk m c 2 t) (iblk m c 3 t) := by
  refine (congrArg Prod.fst (outsAt0_C m c t (by omega) (by omega) h)).trans ?_
  dsimp only
  generalize iblk m c 0 t = x
  generalize iblk m c 1 t = y
  generalize iblk m c 2 t = z
  generalize iblk m c 3 t = w
  generalize (outsAt0 m c (t.val - 1) _).2 = a
  unfold out0_C_4
  rw [View.read_writes_eq_canon _ _ _ (fun u => cover0_C_4 (y := u) ..)]
  unfold kernelRun0_C
  dsimp only
  rw [View.canon_unit_zero hz]
  simp only [View.readAt_eq_ld, Memref.IsWhole.read_unread, View.ld_unit_zero (S := S1024x1024) hz, View.ld_unit_zero (S := S1024x128) hz, View.ld_unit_zero (S := S128x1024) hz, View.ld_unit_zero (S := S1024x2048) hz, View.ld_unit_zero (S := S2048x1024) hz]
  exact congrArg (k0_pay3 · x y z w) ((Memref.isWhole_whole cc0_scratch0).read_unread a)

/-! ## The blocks -/

theorem place0 : ∀ t : Fin cfg0.N, win0_0.index t = ![t.val / 6, t.val % 3] := (by decide +kernel : ∀ t : Fin grid0.N, _)
theorem place1 : ∀ t : Fin cfg0.N, win0_1.index t = ![t.val % 3, t.val / 3 % 2] := (by decide +kernel : ∀ t : Fin grid0.N, _)
theorem place2 : ∀ t : Fin cfg0.N, win0_2.index t = ![t.val / 6, 0] := (by decide +kernel : ∀ t : Fin grid0.N, _)
theorem place3 : ∀ t : Fin cfg0.N, win0_3.index t = ![0, t.val / 3 % 2] := (by decide +kernel : ∀ t : Fin grid0.N, _)
theorem place4 : ∀ t : Fin cfg0.N, win0_4.index t = ![t.val / 6, t.val / 3 % 2] := (by decide +kernel : ∀ t : Fin grid0.N, _)

theorem points (t : Fin cfg0.N) : t.val < 24 := lt_of_lt_of_eq t.isLt N_0

/-- The row factor and the column factor of the product. -/
abbrev a (c : Dev nD) : ℕ → ℕ → EReal := entry fun (i : Fin 4096) (p : Fin 6144) => m ((c : Thread nD τ).loc main_arg0) (ix2 i p)
abbrev b (c : Dev nD) : ℕ → ℕ → EReal := entry fun (p : Fin 6144) (j : Fin 2048) => m ((c : Thread nD τ).loc main_arg1) (ix2 p j)

/-- The two factors of the small product. -/
abbrev a' (c : Dev nD) : ℕ → ℕ → EReal := entry fun (i : Fin 4096) (p : Fin 128) => m ((c : Thread nD τ).loc main_arg2) (ix2 i p)
abbrev b' (c : Dev nD) : ℕ → ℕ → EReal := entry fun (p : Fin 128) (j : Fin 2048) => m ((c : Thread nD τ).loc main_arg3) (ix2 p j)

theorem blk0 (c : Dev nD) (t : Fin cfg0.N) (r : Fin 1024) (v : Fin 2048) :
    iblk m c 0 t (ix2 r v) = a m c (1024 * (t.val / 6) + r.val) (2048 * (t.val % 3) + v.val) := by
  have hp := points t
  have e : ∀ A : Buf (Elt Ideal) ((c : Thread nD τ).loc main_arg0), ((cfg0.win 0).blk t).view.read (Elt Ideal) A (ix2 r v) = A (ix2 ⟨1024 * (t.val / 6) + r.val, by omega⟩ ⟨2048 * (t.val % 3) + v.val, by omega⟩) :=
    fun A => by rw [View.read_apply]; show A _ = A _; refine congrArg A ?_; blk_ext [place0]
  refine (e (V m c main_arg0)).trans (Eq.symm ?_)
  exact (entry_eq _ (by omega) (by omega)).trans rfl

theorem blk1 (c : Dev nD) (t : Fin cfg0.N) (v : Fin 2048) (q : Fin 1024) :
    iblk m c 1 t (ix2 v q) = b m c (2048 * (t.val % 3) + v.val) (1024 * (t.val / 3 % 2) + q.val) := by
  have hp := points t
  have e : ∀ A : Buf (Elt Ideal) ((c : Thread nD τ).loc main_arg1), ((cfg0.win 1).blk t).view.read (Elt Ideal) A (ix2 v q) = A (ix2 ⟨2048 * (t.val % 3) + v.val, by omega⟩ ⟨1024 * (t.val / 3 % 2) + q.val, by omega⟩) :=
    fun A => by rw [View.read_apply]; show A _ = A _; refine congrArg A ?_; blk_ext [place1]
  refine (e (V m c main_arg1)).trans (Eq.symm ?_)
  exact (entry_eq _ (by omega) (by omega)).trans rfl

theorem blk2 (c : Dev nD) (t : Fin cfg0.N) (r : Fin 1024) (v : Fin 128) : iblk m c 2 t (ix2 r v) = a' m c (1024 * (t.val / 6) + r.val) v.val := by
  have hp := points t
  have e : ∀ A : Buf (Elt Ideal) ((c : Thread nD τ).loc main_arg2), ((cfg0.win 2).blk t).view.read (Elt Ideal) A (ix2 r v) = A (ix2 ⟨1024 * (t.val / 6) + r.val, by omega⟩ v) :=
    fun A => by rw [View.read_apply]; show A _ = A _; refine congrArg A ?_; blk_ext [place2]
  refine (e (V m c main_arg2)).trans (Eq.symm ?_)
  exact (entry_eq _ (by omega) v.isLt).trans rfl

theorem blk3 (c : Dev nD) (t : Fin cfg0.N) (v : Fin 128) (q : Fin 1024) : iblk m c 3 t (ix2 v q) = b' m c v.val (1024 * (t.val / 3 % 2) + q.val) := by
  have hp := points t
  have e : ∀ A : Buf (Elt Ideal) ((c : Thread nD τ).loc main_arg3), ((cfg0.win 3).blk t).view.read (Elt Ideal) A (ix2 v q) = A (ix2 v ⟨1024 * (t.val / 3 % 2) + q.val, by omega⟩) :=
    fun A => by rw [View.read_apply]; show A _ = A _; refine congrArg A ?_; blk_ext [place3]
  refine (e (V m c main_arg3)).trans (Eq.symm ?_)
  exact (entry_eq _ v.isLt (by omega)).trans rfl

/-! ## The sum -/

/-- The sum of the products of row `i` and column `j` up to position `n`. -/
abbrev sumTo (c : Dev nD) (i j n : ℕ) : EReal := dotTo (fun p => a m c i p) (fun p => b m c p j) n

theorem products (c : Dev nD) (t : Fin cfg0.N) (r q : Fin 1024) :
    ∑ v : Fin 2048, (show Vec Ideal S1024x2048 .bf16 from iblk m c 0 t) (ix2 r v) * (show Vec Ideal S2048x1024 .bf16 from iblk m c 1 t) (ix2 v q)
      = ∑ v : Fin 2048, a m c (1024 * (t.val / 3 / 2) + r.val) (2048 * (t.val % 3) + v.val) * b m c (2048 * (t.val % 3) + v.val) (1024 * (t.val / 3 % 2) + q.val) :=
  Finset.sum_congr rfl fun v _ => congrArg₂ (· * ·) ((blk0 m c t r v).trans (by rw [show t.val / 6 = t.val / 3 / 2 by omega])) (blk1 m c t v q)

/-- The products of the main projection, all three points of them. -/
theorem main_part (c : Dev nD) (t : Fin cfg0.N) (h : t.val % 3 = 2) (r q : Fin 1024) :
    (outsAt0 m c (t.val - 1) (by omega)).2 (ix2 r q) + ∑ v : Fin 2048, (show Vec Ideal S1024x2048 .bf16 from iblk m c 0 t) (ix2 r v) * (show Vec Ideal S2048x1024 .bf16 from iblk m c 1 t) (ix2 v q)
      = sumTo m c (1024 * (t.val / 3 / 2) + r.val) (1024 * (t.val / 3 % 2) + q.val) 6144 :=
  fold (n := 3) (T := 2048) (by omega) (fun t h => (outsAt0 m c t h).2 (ix2 r q)) (fun t h => (outsAt0 m c (t - 1) (by omega)).2 (ix2 r q) + ∑ v : Fin 2048, (show Vec Ideal S1024x2048 .bf16 from iblk m c 0 ⟨t, h⟩) (ix2 r v) * (show Vec Ideal S2048x1024 .bf16 from iblk m c 1 ⟨t, h⟩) (ix2 v q))
    (fun u p => a m c (1024 * (u / 2) + r.val) p) (fun u p => b m c p (1024 * (u % 2) + q.val))
    (fun t h h0 => (congrFun (first m c ⟨t, h⟩ h0) _).trans ((pay1 _ _ r q).trans (products m c ⟨t, h⟩ r q)))
    (fun t h h0 h1 => (congrFun (next m c ⟨t, h⟩ (Nat.le_antisymm (Nat.le_of_lt_succ (Nat.lt_of_succ_lt_succ h1)) h0)) _).trans ((pay2 _ _ _ r q).trans (congrArg (_ + ·) (products m c ⟨t, h⟩ r q))))
    (fun t h _ => congrArg (_ + ·) (products m c ⟨t, h⟩ r q))
    t.val t.isLt (by omega)

theorem small_part (c : Dev nD) (t : Fin cfg0.N) (r q : Fin 1024) :
    ∑ v : Fin 128, (show Vec Ideal S1024x128 .f32 from iblk m c 2 t) (ix2 r v) * (show Vec Ideal S128x1024 .bf16 from iblk m c 3 t) (ix2 v q)
      = dotTo (fun p => a' m c (1024 * (t.val / 6) + r.val) p) (fun p => b' m c p (1024 * (t.val / 3 % 2) + q.val)) 128 := by
  rw [dotTo_fin]
  exact Finset.sum_congr rfl fun v _ => congrArg₂ (· * ·) (blk2 m c t r v) (blk3 m c t v q)

/-- Row `i` and column `j` of both products together. -/
abbrev both (c : Dev nD) (i j : ℕ) : EReal := sumTo m c i j 6144 + dotTo (fun p => a' m c i p) (fun p => b' m c p j) 128

theorem written (c : Dev nD) (t : Fin cfg0.N) (h : t.val % 3 = 2) (r q : Fin 1024) :
    (outsAt0 m c t.val t.isLt).1 (ix2 r q) = both m c (1024 * (t.val / 6) + r.val) (1024 * (t.val / 3 % 2) + q.val) :=
  (congrFun (last m c t h) _).trans ((pay3 _ _ _ _ _ r q).trans (congrArg₂ (· + ·)
    ((main_part m c t h r q).trans (by rw [show t.val / 3 / 2 = t.val / 6 by omega])) (small_part m c t r q)))

/-- The result, entry by entry. -/
theorem result (c : Dev nD) (i : Fin 4096) (j : Fin 2048) :
    (dats m 0 c).arrAt 4 cfg0.N (ix2 i j) = both m c i.val j.val := by
  refine (dats m 0 c).arrAt_forall_of_covers 4 (fun i v => v = both m c (i (0 : Fin 2)).val (i (1 : Fin 2)).val) (by decide +kernel) (fun t hf y => ?_) (ix2 i j)
  blk_simp [place4]
  rw [after0_4]
  refine (congrArg _ (eq_ix2 y)).trans ((written m c t ((flush0_4 t).mp hf) (y (0 : Fin 2)) (y (1 : Fin 2))).trans ?_)
  rw [Nat.mul_comm 1024, Nat.mul_comm 1024]

/-! ## The reference -/

open Cert.ProjMainDxReferenceIdeal.Read in
theorem reference (x : Vec Ideal S4096x6144 .bf16) (y : Vec Ideal S6144x2048 .bf16) (z : Vec Ideal S4096x128 .f32) (w : Vec Ideal S128x2048 .bf16)
    (i : Fin 4096) (j : Fin 2048) :
    val_main_v11 (F := Ideal) x y z w (ix2 i j) = ∑ p : Fin 128, z (ix2 i p) * w (ix2 p j) + ∑ p : Fin 6144, x (ix2 i p) * y (ix2 p j) := by
  pointwise [val_main_v11, val_main_v10, val_main_v9, val_main_v8, val_main_v7, val_main_v6, val_main_v5, val_main_v4, val_main_v3, val_main_v2, val_main_cst, val_main_v1, val_main_v0]

theorem total (c : Dev nD) (i : Fin 4096) (j : Fin 2048) : both m c i.val j.val
    = Cert.ProjMainDxReferenceIdeal.Read.val_main_v11 (F := Ideal) (m ((c : Thread nD τ).loc main_arg0)) (m ((c : Thread nD τ).loc main_arg1))
        (m ((c : Thread nD τ).loc main_arg2)) (m ((c : Thread nD τ).loc main_arg3)) (ix2 i j) := by
  rw [reference, both, sumTo, dotTo_fin, dotTo_fin, add_comm]
  exact congrArg₂ (· + ·) (Finset.sum_congr rfl fun p _ => congrArg₂ (· * ·) (entry_eq _ i.isLt p.isLt) (entry_eq _ p.isLt j.isLt))
    (Finset.sum_congr rfl fun p _ => congrArg₂ (· * ·) (entry_eq _ i.isLt p.isLt) (entry_eq _ p.isLt j.isLt))

variable (ρ : Dev nD → PrngReg)

theorem run_values : θ_run defs (onTc (τ := τ) (main (F := Ideal))) ⟨m, fun _ => 0, ρ⟩ (fun r => ∀ c : Dev nD,
    r.2.mem ((c : Thread nD τ).loc main_v0) = Cert.ProjMainDxReferenceIdeal.Read.val_main_v11 (F := Ideal) (m ((c : Thread nD τ).loc main_arg0)) (m ((c : Thread nD τ).loc main_arg1)) (m ((c : Thread nD τ).loc main_arg2)) (m ((c : Thread nD τ).loc main_arg3))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)) :=
  (θ_run defs _ _).mono (fun _ h c => ⟨((h c).1 4).trans (funext fun i => by
      rw [eq_ix2 i]; exact (result m c _ _).trans (total m c _ _)),
    ((h c).1 0).trans ((dats m 0 c).arrAt_in 0 rfl _), ((h c).1 1).trans ((dats m 0 c).arrAt_in 1 rfl _), ((h c).1 2).trans ((dats m 0 c).arrAt_in 2 rfl _), ((h c).1 3).trans ((dats m 0 c).arrAt_in 3 rfl _)⟩)
    (run_main m ρ)

/-- The call computes what the reference computes. -/
theorem agree : Cert.algebraic_ProjMainDxIdeal_ProjMainDxReferenceIdeal := by
  pair_intro
  · run_from run_values m g
  · run_from Cert.ProjMainDxReferenceIdeal.Value.run (F := Ideal) m' g'
    exact Cert.ProjMainDxReferenceIdeal.Read.val_main_v11_eq _ _ _ _

theorem frame_reference : Cert.quiescent_ProjMainDxReferenceIdeal := fun m ρ _ =>
  (θ_run Cert.ProjMainDxReferenceIdeal.defs _ _).mono (fun r h => ⟨fun c => (h c).2, Idealize.ShloMosaic.sem_eq_zero_of_no_sems (by decide) r.2⟩)
    (Cert.ProjMainDxReferenceIdeal.Value.run (F := Ideal) m ρ)

end Cert.ProjMainDxIdeal.Products
end
-- ==== Proof.Products.ProjMainDw.lean ====
/- The gradient of the weight of the main projection. -/
module

public import proofs.«01_k».proof.Defs
public import proofs.«01_k».proof.Proof.Products.Sum
public import proofs.«01_k».proof.Proof.Gen.ProjMainDwIdeal.Frame
public import proofs.«01_k».proof.Proof.Gen.ProjMainDwReferenceIdeal
public import proofs.«01_k».proof.Proof.Gen.ProjMainDwReferenceIdeal.Run
public import proofs.«01_k».proof.Proof.Gen.ProjMainDwReferenceIdeal.Read
public import Idealize.ShloMosaic.Lib.Pipeline.ValueKit
public import Idealize.ShloMosaic.Lib.Pipeline.ValueKit.Geometry
public import Idealize.ShloMosaic.Lib.Pointwise
public import Idealize.ShloMosaic.Lib.Tactic
public import Idealize.ShloMosaic.Lib.Claim
public import Idealize.ShloMosaic.Lib.Quiescent

@[expose] public section

set_option maxRecDepth 16384

noncomputable section

namespace Cert.ProjMainDwIdeal.Products

open Idealize.ShloMosaic Idealize.ShloMosaic.TcCoe Idealize.SL.Sem Cert.ProjMainDwIdeal Cert.ProjMainDwIdeal.Gen Cert.Products

variable (m : (ℓ : Loc nD τ sig) → Buf (Elt Ideal) ℓ)

/-! ## What one point leaves -/

theorem hz : (![0, 0] : Fin 2 → Nat) = fun _ => 0 := funext fun a => by fin_cases a <;> rfl

theorem pay1 (x : Vec Ideal S2048x1024 .bf16) (y : Vec Ideal S2048x1024 .bf16) (r q : Fin 1024) :
    k0_pay1 x y (ix2 r q) = ∑ v : Fin 2048, x (ix2 v r) * y (ix2 v q) := by
  pointwise [k0_pay1]

theorem pay3 (a : Vec Ideal S1024x1024 .f32) (x : Vec Ideal S2048x1024 .bf16) (y : Vec Ideal S2048x1024 .bf16) (r q : Fin 1024) :
    k0_pay3 a x y (ix2 r q) = a (ix2 r q) + ∑ v : Fin 2048, x (ix2 v r) * y (ix2 v q) := by
  pointwise [k0_pay3]

/-- The first of two points of a block leaves its products. -/
theorem first (c : Dev nD) (t : Fin cfg0.N) (h : t.val % 2 = 0) :
    (outsAt0 m c t.val t.isLt).2 = k0_pay1 (iblk m c 0 t) (iblk m c 1 t) := by
  refine (congrArg Prod.snd (outsAt0_A m c t h (by omega))).trans ?_
  dsimp only
  generalize iblk m c 0 t = x
  generalize iblk m c 1 t = y
  unfold sout0_A_0
  rw [View.read_writes_eq_canon _ _ _ (fun z => scover0_A_0 (y := z) ..)]
  unfold kernelRun0_A
  dsimp only
  rw [View.canon_unit_zero hz]
  simp only [View.readAt_eq_ld, Memref.IsWhole.read_unread, View.ld_unit_zero (S := S2048x1024) hz]

/-- The second writes the sum of both. -/
theorem last (c : Dev nD) (t : Fin cfg0.N) (h : t.val % 2 = 1) :
    (outsAt0 m c t.val t.isLt).1 = k0_pay3 (outsAt0 m c (t.val - 1) (by omega)).2 (iblk m c 0 t) (iblk m c 1 t) := by
  refine (congrArg Prod.fst (outsAt0_B m c t (by omega) h)).trans ?_
  dsimp only
  generalize iblk m c 0 t = x
  generalize iblk m c 1 t = y
  generalize (outsAt0 m c (t.val - 1) _).2 = a
  unfold out0_B_2
  rw [View.read_writes_eq_canon _ _ _ (fun z => cover0_B_2 (y := z) ..)]
  unfold kernelRun0_B
  dsimp only
  rw [View.canon_unit_zero hz]
  simp only [View.readAt_eq_ld, Memref.IsWhole.read_unread, View.ld_unit_zero (S := S1024x1024) hz, View.ld_unit_zero (S := S2048x1024) hz]
  exact congrArg (k0_pay3 · x y) ((Memref.isWhole_whole cc0_scratch0).read_unread a)

/-! ## The blocks -/

theorem place0 : ∀ t : Fin cfg0.N, win0_0.index t = ![t.val % 2, t.val / 4] := (by decide +kernel : ∀ t : Fin grid0.N, _)
theorem place1 : ∀ t : Fin cfg0.N, win0_1.index t = ![t.val % 2, t.val / 2 % 2] := (by decide +kernel : ∀ t : Fin grid0.N, _)
theorem place2 : ∀ t : Fin cfg0.N, win0_2.index t = ![t.val / 4, t.val / 2 % 2] := (by decide +kernel : ∀ t : Fin grid0.N, _)

theorem points (t : Fin cfg0.N) : t.val < 24 := lt_of_lt_of_eq t.isLt N_0

/-- The row factor and the column factor of the product. -/
abbrev a (c : Dev nD) : ℕ → ℕ → EReal := entry fun (i : Fin 6144) (p : Fin 4096) => m ((c : Thread nD τ).loc main_arg0) (ix2 p i)
abbrev b (c : Dev nD) : ℕ → ℕ → EReal := entry fun (p : Fin 4096) (j : Fin 2048) => m ((c : Thread nD τ).loc main_arg1) (ix2 p j)

theorem blk0 (c : Dev nD) (t : Fin cfg0.N) (r : Fin 1024) (v : Fin 2048) :
    iblk m c 0 t (ix2 v r) = a m c (1024 * (t.val / 4) + r.val) (2048 * (t.val % 2) + v.val) := by
  have hp := points t
  have e : ∀ A : Buf (Elt Ideal) ((c : Thread nD τ).loc main_arg0), ((cfg0.win 0).blk t).view.read (Elt Ideal) A (ix2 v r) = A (ix2 ⟨2048 * (t.val % 2) + v.val, by omega⟩ ⟨1024 * (t.val / 4) + r.val, by omega⟩) :=
    fun A => by rw [View.read_apply]; show A _ = A _; refine congrArg A ?_; blk_ext [place0]
  refine (e (V m c main_arg0)).trans (Eq.symm ?_)
  exact (entry_eq _ (by omega) (by omega)).trans rfl

theorem blk1 (c : Dev nD) (t : Fin cfg0.N) (v : Fin 2048) (q : Fin 1024) :
    iblk m c 1 t (ix2 v q) = b m c (2048 * (t.val % 2) + v.val) (1024 * (t.val / 2 % 2) + q.val) := by
  have hp := points t
  have e : ∀ A : Buf (Elt Ideal) ((c : Thread nD τ).loc main_arg1), ((cfg0.win 1).blk t).view.read (Elt Ideal) A (ix2 v q) = A (ix2 ⟨2048 * (t.val % 2) + v.val, by omega⟩ ⟨1024 * (t.val / 2 % 2) + q.val, by omega⟩) :=
    fun A => by rw [View.read_apply]; show A _ = A _; refine congrArg A ?_; blk_ext [place1]
  refine (e (V m c main_arg1)).trans (Eq.symm ?_)
  exact (entry_eq _ (by omega) (by omega)).trans rfl

/-! ## The sum -/

/-- The sum of the products of row `i` and column `j` up to position `n`. -/
abbrev sumTo (c : Dev nD) (i j n : ℕ) : EReal := dotTo (fun p => a m c i p) (fun p => b m c p j) n

theorem products (c : Dev nD) (t : Fin cfg0.N) (r q : Fin 1024) :
    ∑ v : Fin 2048, (show Vec Ideal S2048x1024 .bf16 from iblk m c 0 t) (ix2 v r) * (show Vec Ideal S2048x1024 .bf16 from iblk m c 1 t) (ix2 v q)
      = ∑ v : Fin 2048, a m c (1024 * (t.val / 2 / 2) + r.val) (2048 * (t.val % 2) + v.val) * b m c (2048 * (t.val % 2) + v.val) (1024 * (t.val / 2 % 2) + q.val) :=
  Finset.sum_congr rfl fun v _ => congrArg₂ (· * ·) ((blk0 m c t r v).trans (by rw [show t.val / 4 = t.val / 2 / 2 by omega])) (blk1 m c t v q)

theorem written (c : Dev nD) (t : Fin cfg0.N) (h : t.val % 2 = 1) (r q : Fin 1024) :
    (outsAt0 m c t.val t.isLt).1 (ix2 r q) = sumTo m c (1024 * (t.val / 2 / 2) + r.val) (1024 * (t.val / 2 % 2) + q.val) 4096 :=
  fold (n := 2) (T := 2048) (by omega) (fun t h => (outsAt0 m c t h).2 (ix2 r q)) (fun t h => (outsAt0 m c t h).1 (ix2 r q))
    (fun u p => a m c (1024 * (u / 2) + r.val) p) (fun u p => b m c p (1024 * (u % 2) + q.val))
    (fun t h h0 => (congrFun (first m c ⟨t, h⟩ h0) _).trans ((pay1 _ _ r q).trans (products m c ⟨t, h⟩ r q)))
    (fun t h h0 h1 => absurd h1 (by omega))
    (fun t h h0 => (congrFun (last m c ⟨t, h⟩ (Nat.succ_injective h0)) _).trans ((pay3 _ _ _ r q).trans (congrArg (_ + ·) (products m c ⟨t, h⟩ r q))))
    t.val t.isLt (by omega)

/-- The result, entry by entry. -/
theorem result (c : Dev nD) (i : Fin 6144) (j : Fin 2048) :
    (dats m 0 c).arrAt 2 cfg0.N (ix2 i j) = sumTo m c i.val j.val 4096 := by
  refine (dats m 0 c).arrAt_forall_of_covers 2 (fun i v => v = sumTo m c (i (0 : Fin 2)).val (i (1 : Fin 2)).val 4096) (by decide +kernel) (fun t hf y => ?_) (ix2 i j)
  blk_simp [place2]
  rw [after0_2]
  refine (congrArg _ (eq_ix2 y)).trans ((written m c t ((flush0_2 t).mp hf) (y (0 : Fin 2)) (y (1 : Fin 2))).trans ?_)
  rw [show t.val / 2 / 2 = t.val / 4 by omega, Nat.mul_comm 1024, Nat.mul_comm 1024]

/-! ## The reference -/

open Cert.ProjMainDwReferenceIdeal.Read in
theorem reference (x : Vec Ideal S4096x6144 .bf16) (y : Vec Ideal S4096x2048 .bf16) (i : Fin 6144) (j : Fin 2048) :
    val_main_v8 (F := Ideal) x y (ix2 i j) = ∑ p : Fin 4096, x (ix2 p i) * y (ix2 p j) := by
  pointwise [val_main_v8, val_main_v7, val_main_v6, val_main_v5, val_main_v4, val_main_v3, val_main_v2, val_main_v1, val_main_v0, val_main_cst]

theorem total (c : Dev nD) (i : Fin 6144) (j : Fin 2048) : sumTo m c i.val j.val 4096
    = Cert.ProjMainDwReferenceIdeal.Read.val_main_v8 (F := Ideal) (m ((c : Thread nD τ).loc main_arg0)) (m ((c : Thread nD τ).loc main_arg1)) (ix2 i j) := by
  rw [reference, sumTo, dotTo_fin]
  exact Finset.sum_congr rfl fun p _ => congrArg₂ (· * ·) (entry_eq _ i.isLt p.isLt) (entry_eq _ p.isLt j.isLt)

variable (ρ : Dev nD → PrngReg)

theorem run_values : θ_run defs (onTc (τ := τ) (main (F := Ideal))) ⟨m, fun _ => 0, ρ⟩ (fun r => ∀ c : Dev nD,
    r.2.mem ((c : Thread nD τ).loc main_v0) = Cert.ProjMainDwReferenceIdeal.Read.val_main_v8 (F := Ideal) (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1)) :=
  (θ_run defs _ _).mono (fun _ h c => ⟨((h c).1 2).trans (funext fun i => by
      rw [eq_ix2 i]; exact (result m c _ _).trans (total m c _ _)),
    ((h c).1 0).trans ((dats m 0 c).arrAt_in 0 rfl _), ((h c).1 1).trans ((dats m 0 c).arrAt_in 1 rfl _)⟩)
    (run_main m ρ)

/-- The call computes what the reference computes. -/
theorem agree : Cert.algebraic_ProjMainDwIdeal_ProjMainDwReferenceIdeal := by
  pair_intro
  · run_from run_values m g
  · run_from Cert.ProjMainDwReferenceIdeal.Value.run (F := Ideal) m' g'
    exact Cert.ProjMainDwReferenceIdeal.Read.val_main_v8_eq _ _

theorem frame_reference : Cert.quiescent_ProjMainDwReferenceIdeal := fun m ρ _ =>
  (θ_run Cert.ProjMainDwReferenceIdeal.defs _ _).mono (fun r h => ⟨fun c => (h c).2, Idealize.ShloMosaic.sem_eq_zero_of_no_sems (by decide) r.2⟩)
    (Cert.ProjMainDwReferenceIdeal.Value.run (F := Ideal) m ρ)

end Cert.ProjMainDwIdeal.Products
end
-- ==== Proof.Products.OutProj.lean ====
/- The output projection. -/
module

public import proofs.«01_k».proof.Defs
public import proofs.«01_k».proof.Proof.Products.Sum
public import proofs.«01_k».proof.Proof.Gen.OutProjIdeal.Frame
public import proofs.«01_k».proof.Proof.Gen.OutProjReferenceIdeal
public import proofs.«01_k».proof.Proof.Gen.OutProjReferenceIdeal.Run
public import proofs.«01_k».proof.Proof.Gen.OutProjReferenceIdeal.Read
public import Idealize.ShloMosaic.Lib.Pipeline.ValueKit
public import Idealize.ShloMosaic.Lib.Pipeline.ValueKit.Geometry
public import Idealize.ShloMosaic.Lib.Pointwise
public import Idealize.ShloMosaic.Lib.Tactic
public import Idealize.ShloMosaic.Lib.Claim
public import Idealize.ShloMosaic.Lib.Quiescent

@[expose] public section

set_option maxRecDepth 16384

noncomputable section

namespace Cert.OutProjIdeal.Products

open Idealize.ShloMosaic Idealize.ShloMosaic.TcCoe Idealize.SL.Sem Cert.OutProjIdeal Cert.OutProjIdeal.Gen Cert.Products

variable (m : (ℓ : Loc nD τ sig) → Buf (Elt Ideal) ℓ)

/-! ## What one point leaves -/

theorem hz : (![0, 0] : Fin 2 → Nat) = fun _ => 0 := funext fun a => by fin_cases a <;> rfl

theorem pay1 (x : Vec Ideal S1024x2048 .bf16) (y : Vec Ideal S2048x1024 .bf16) (r q : Fin 1024) :
    k0_pay1 x y (ix2 r q) = ∑ v : Fin 2048, x (ix2 r v) * y (ix2 v q) := by
  pointwise [k0_pay1]

/-- A point writes the product of its blocks. -/
theorem point (c : Dev nD) (t : Fin cfg0.N) : outsAt0 m c t = k0_pay1 (iblk m c 0 t) (iblk m c 1 t) := by
  unfold outsAt0
  generalize iblk m c 0 t = x
  generalize iblk m c 1 t = y
  unfold out0_A_2
  rw [View.read_writes_eq_canon _ _ _ (fun z => cover0_A_2 (y := z) ..)]
  unfold kernelRun0_A
  dsimp only
  rw [View.canon_unit_zero hz]
  simp only [View.readAt_eq_ld, Memref.IsWhole.read_unread, View.ld_unit_zero (S := S1024x2048) hz, View.ld_unit_zero (S := S2048x1024) hz]

/-! ## The blocks -/

theorem place0 : ∀ t : Fin cfg0.N, win0_0.index t = ![t.val / 2, 0] := (by decide +kernel : ∀ t : Fin grid0.N, _)
theorem place1 : ∀ t : Fin cfg0.N, win0_1.index t = ![0, t.val % 2] := (by decide +kernel : ∀ t : Fin grid0.N, _)
theorem place2 : ∀ t : Fin cfg0.N, win0_2.index t = ![t.val / 2, t.val % 2] := (by decide +kernel : ∀ t : Fin grid0.N, _)

theorem points (t : Fin cfg0.N) : t.val < 8 := lt_of_lt_of_eq t.isLt N_0

/-- The row factor and the column factor of the product. -/
abbrev a (c : Dev nD) : ℕ → ℕ → EReal := entry fun (i : Fin 4096) (p : Fin 2048) => m ((c : Thread nD τ).loc main_arg0) (ix2 i p)
abbrev b (c : Dev nD) : ℕ → ℕ → EReal := entry fun (p : Fin 2048) (j : Fin 2048) => m ((c : Thread nD τ).loc main_arg1) (ix2 p j)

theorem blk0 (c : Dev nD) (t : Fin cfg0.N) (r : Fin 1024) (v : Fin 2048) :
    iblk m c 0 t (ix2 r v) = a m c (1024 * (t.val / 2) + r.val) (v.val) := by
  have hp := points t
  have e : ∀ A : Buf (Elt Ideal) ((c : Thread nD τ).loc main_arg0), ((cfg0.win 0).blk t).view.read (Elt Ideal) A (ix2 r v) = A (ix2 ⟨1024 * (t.val / 2) + r.val, by omega⟩ ⟨v.val, by omega⟩) :=
    fun A => by rw [View.read_apply]; show A _ = A _; refine congrArg A ?_; blk_ext [place0]
  refine (e (V m c main_arg0)).trans (Eq.symm ?_)
  exact (entry_eq _ (by omega) (by omega)).trans rfl

theorem blk1 (c : Dev nD) (t : Fin cfg0.N) (v : Fin 2048) (q : Fin 1024) :
    iblk m c 1 t (ix2 v q) = b m c (v.val) (1024 * (t.val % 2) + q.val) := by
  have hp := points t
  have e : ∀ A : Buf (Elt Ideal) ((c : Thread nD τ).loc main_arg1), ((cfg0.win 1).blk t).view.read (Elt Ideal) A (ix2 v q) = A (ix2 ⟨v.val, by omega⟩ ⟨1024 * (t.val % 2) + q.val, by omega⟩) :=
    fun A => by rw [View.read_apply]; show A _ = A _; refine congrArg A ?_; blk_ext [place1]
  refine (e (V m c main_arg1)).trans (Eq.symm ?_)
  exact (entry_eq _ (by omega) (by omega)).trans rfl

/-! ## The sum -/

/-- The sum of the products of row `i` and column `j` up to position `n`. -/
abbrev sumTo (c : Dev nD) (i j n : ℕ) : EReal := dotTo (fun p => a m c i p) (fun p => b m c p j) n

theorem written (c : Dev nD) (t : Fin cfg0.N) (r q : Fin 1024) :
    outsAt0 m c t (ix2 r q) = sumTo m c (1024 * (t.val / 2) + r.val) (1024 * (t.val % 2) + q.val) 2048 := by
  rw [point, pay1, sumTo, dotTo_fin]
  exact Finset.sum_congr rfl fun v _ => congrArg₂ (· * ·) (blk0 m c t r v) (blk1 m c t v q)

/-- The result, entry by entry. -/
theorem result (c : Dev nD) (i : Fin 4096) (j : Fin 2048) :
    (dats m 0 c).arrAt 2 cfg0.N (ix2 i j) = sumTo m c i.val j.val 2048 := by
  refine (dats m 0 c).arrAt_forall_of_covers 2 (fun i v => v = sumTo m c (i (0 : Fin 2)).val (i (1 : Fin 2)).val 2048) (by decide +kernel) (fun t hf y => ?_) (ix2 i j)
  blk_simp [place2]
  rw [after0_2]
  refine (congrArg _ (eq_ix2 y)).trans ((written m c t (y (0 : Fin 2)) (y (1 : Fin 2))).trans ?_)
  rw [Nat.mul_comm 1024, Nat.mul_comm 1024]

/-! ## The reference -/

open Cert.OutProjReferenceIdeal.Read in
theorem reference (x : Vec Ideal S4096x2048 .bf16) (y : Vec Ideal S2048x2048 .bf16) (i : Fin 4096) (j : Fin 2048) :
    val_main_v3 (F := Ideal) x y (ix2 i j) = ∑ p : Fin 2048, x (ix2 i p) * y (ix2 p j) := by
  pointwise [val_main_v3, val_main_v2, val_main_v1, val_main_v0]

theorem total (c : Dev nD) (i : Fin 4096) (j : Fin 2048) : sumTo m c i.val j.val 2048
    = Cert.OutProjReferenceIdeal.Read.val_main_v3 (F := Ideal) (m ((c : Thread nD τ).loc main_arg0)) (m ((c : Thread nD τ).loc main_arg1)) (ix2 i j) := by
  rw [reference, sumTo, dotTo_fin]
  exact Finset.sum_congr rfl fun p _ => congrArg₂ (· * ·) (entry_eq _ i.isLt p.isLt) (entry_eq _ p.isLt j.isLt)

variable (ρ : Dev nD → PrngReg)

theorem run_values : θ_run defs (onTc (τ := τ) (main (F := Ideal))) ⟨m, fun _ => 0, ρ⟩ (fun r => ∀ c : Dev nD,
    r.2.mem ((c : Thread nD τ).loc main_v0) = Cert.OutProjReferenceIdeal.Read.val_main_v3 (F := Ideal) (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1)) :=
  (θ_run defs _ _).mono (fun _ h c => ⟨((h c).1 2).trans (funext fun i => by
      rw [eq_ix2 i]; exact (result m c _ _).trans (total m c _ _)),
    ((h c).1 0).trans ((dats m 0 c).arrAt_in 0 rfl _), ((h c).1 1).trans ((dats m 0 c).arrAt_in 1 rfl _)⟩)
    (run_main m ρ)

/-- The call computes what the reference computes. -/
theorem agree : Cert.algebraic_OutProjIdeal_OutProjReferenceIdeal := by
  pair_intro
  · run_from run_values m g
  · run_from Cert.OutProjReferenceIdeal.Value.run (F := Ideal) m' g'
    exact Cert.OutProjReferenceIdeal.Read.val_main_v3_eq _ _

theorem frame_reference : Cert.quiescent_OutProjReferenceIdeal := fun m ρ _ =>
  (θ_run Cert.OutProjReferenceIdeal.defs _ _).mono (fun r h => ⟨fun c => (h c).2, Idealize.ShloMosaic.sem_eq_zero_of_no_sems (by decide) r.2⟩)
    (Cert.OutProjReferenceIdeal.Value.run (F := Ideal) m ρ)

end Cert.OutProjIdeal.Products
end
-- ==== Proof.Products.OutProjDx.lean ====
/- The gradient of the rows the output projection is applied to. -/
module

public import proofs.«01_k».proof.Defs
public import proofs.«01_k».proof.Proof.Products.Sum
public import proofs.«01_k».proof.Proof.Gen.OutProjDxIdeal.Frame
public import proofs.«01_k».proof.Proof.Gen.OutProjDxReferenceIdeal
public import proofs.«01_k».proof.Proof.Gen.OutProjDxReferenceIdeal.Run
public import proofs.«01_k».proof.Proof.Gen.OutProjDxReferenceIdeal.Read
public import Idealize.ShloMosaic.Lib.Pipeline.ValueKit
public import Idealize.ShloMosaic.Lib.Pipeline.ValueKit.Geometry
public import Idealize.ShloMosaic.Lib.Pointwise
public import Idealize.ShloMosaic.Lib.Tactic
public import Idealize.ShloMosaic.Lib.Claim
public import Idealize.ShloMosaic.Lib.Quiescent

@[expose] public section

set_option maxRecDepth 16384

noncomputable section

namespace Cert.OutProjDxIdeal.Products

open Idealize.ShloMosaic Idealize.ShloMosaic.TcCoe Idealize.SL.Sem Cert.OutProjDxIdeal Cert.OutProjDxIdeal.Gen Cert.Products

variable (m : (ℓ : Loc nD τ sig) → Buf (Elt Ideal) ℓ)

/-! ## What one point leaves -/

theorem hz : (![0, 0] : Fin 2 → Nat) = fun _ => 0 := funext fun a => by fin_cases a <;> rfl

theorem pay1 (x : Vec Ideal S1024x2048 .bf16) (y : Vec Ideal S1024x2048 .bf16) (r q : Fin 1024) :
    k0_pay1 x y (ix2 r q) = ∑ v : Fin 2048, x (ix2 r v) * y (ix2 q v) := by
  pointwise [k0_pay1]

/-- A point writes the product of its blocks. -/
theorem point (c : Dev nD) (t : Fin cfg0.N) : outsAt0 m c t = k0_pay1 (iblk m c 0 t) (iblk m c 1 t) := by
  unfold outsAt0
  generalize iblk m c 0 t = x
  generalize iblk m c 1 t = y
  unfold out0_A_2
  rw [View.read_writes_eq_canon _ _ _ (fun z => cover0_A_2 (y := z) ..)]
  unfold kernelRun0_A
  dsimp only
  rw [View.canon_unit_zero hz]
  simp only [View.readAt_eq_ld, Memref.IsWhole.read_unread, View.ld_unit_zero (S := S1024x2048) hz]

/-! ## The blocks -/

theorem place0 : ∀ t : Fin cfg0.N, win0_0.index t = ![t.val / 2, 0] := (by decide +kernel : ∀ t : Fin grid0.N, _)
theorem place1 : ∀ t : Fin cfg0.N, win0_1.index t = ![t.val % 2, 0] := (by decide +kernel : ∀ t : Fin grid0.N, _)
theorem place2 : ∀ t : Fin cfg0.N, win0_2.index t = ![t.val / 2, t.val % 2] := (by decide +kernel : ∀ t : Fin grid0.N, _)

theorem points (t : Fin cfg0.N) : t.val < 8 := lt_of_lt_of_eq t.isLt N_0

/-- The row factor and the column factor of the product. -/
abbrev a (c : Dev nD) : ℕ → ℕ → EReal := entry fun (i : Fin 4096) (p : Fin 2048) => m ((c : Thread nD τ).loc main_arg0) (ix2 i p)
abbrev b (c : Dev nD) : ℕ → ℕ → EReal := entry fun (p : Fin 2048) (j : Fin 2048) => m ((c : Thread nD τ).loc main_arg1) (ix2 j p)

theorem blk0 (c : Dev nD) (t : Fin cfg0.N) (r : Fin 1024) (v : Fin 2048) :
    iblk m c 0 t (ix2 r v) = a m c (1024 * (t.val / 2) + r.val) (v.val) := by
  have hp := points t
  have e : ∀ A : Buf (Elt Ideal) ((c : Thread nD τ).loc main_arg0), ((cfg0.win 0).blk t).view.read (Elt Ideal) A (ix2 r v) = A (ix2 ⟨1024 * (t.val / 2) + r.val, by omega⟩ ⟨v.val, by omega⟩) :=
    fun A => by rw [View.read_apply]; show A _ = A _; refine congrArg A ?_; blk_ext [place0]
  refine (e (V m c main_arg0)).trans (Eq.symm ?_)
  exact (entry_eq _ (by omega) (by omega)).trans rfl

theorem blk1 (c : Dev nD) (t : Fin cfg0.N) (v : Fin 2048) (q : Fin 1024) :
    iblk m c 1 t (ix2 q v) = b m c (v.val) (1024 * (t.val % 2) + q.val) := by
  have hp := points t
  have e : ∀ A : Buf (Elt Ideal) ((c : Thread nD τ).loc main_arg1), ((cfg0.win 1).blk t).view.read (Elt Ideal) A (ix2 q v) = A (ix2 ⟨1024 * (t.val % 2) + q.val, by omega⟩ ⟨v.val, by omega⟩) :=
    fun A => by rw [View.read_apply]; show A _ = A _; refine congrArg A ?_; blk_ext [place1]
  refine (e (V m c main_arg1)).trans (Eq.symm ?_)
  exact (entry_eq _ (by omega) (by omega)).trans rfl

/-! ## The sum -/

/-- The sum of the products of row `i` and column `j` up to position `n`. -/
abbrev sumTo (c : Dev nD) (i j n : ℕ) : EReal := dotTo (fun p => a m c i p) (fun p => b m c p j) n

theorem written (c : Dev nD) (t : Fin cfg0.N) (r q : Fin 1024) :
    outsAt0 m c t (ix2 r q) = sumTo m c (1024 * (t.val / 2) + r.val) (1024 * (t.val % 2) + q.val) 2048 := by
  rw [point, pay1, sumTo, dotTo_fin]
  exact Finset.sum_congr rfl fun v _ => congrArg₂ (· * ·) (blk0 m c t r v) (blk1 m c t v q)

/-- The result, entry by entry. -/
theorem result (c : Dev nD) (i : Fin 4096) (j : Fin 2048) :
    (dats m 0 c).arrAt 2 cfg0.N (ix2 i j) = sumTo m c i.val j.val 2048 := by
  refine (dats m 0 c).arrAt_forall_of_covers 2 (fun i v => v = sumTo m c (i (0 : Fin 2)).val (i (1 : Fin 2)).val 2048) (by decide +kernel) (fun t hf y => ?_) (ix2 i j)
  blk_simp [place2]
  rw [after0_2]
  refine (congrArg _ (eq_ix2 y)).trans ((written m c t (y (0 : Fin 2)) (y (1 : Fin 2))).trans ?_)
  rw [Nat.mul_comm 1024, Nat.mul_comm 1024]

/-! ## The reference -/

open Cert.OutProjDxReferenceIdeal.Read in
theorem reference (x : Vec Ideal S4096x2048 .bf16) (y : Vec Ideal S2048x2048 .bf16) (i : Fin 4096) (j : Fin 2048) :
    val_main_v5 (F := Ideal) x y (ix2 i j) = ∑ p : Fin 2048, x (ix2 i p) * y (ix2 j p) := by
  pointwise [val_main_v5, val_main_v4, val_main_v3, val_main_v2, val_main_v1, val_main_cst, val_main_v0]

theorem total (c : Dev nD) (i : Fin 4096) (j : Fin 2048) : sumTo m c i.val j.val 2048
    = Cert.OutProjDxReferenceIdeal.Read.val_main_v5 (F := Ideal) (m ((c : Thread nD τ).loc main_arg0)) (m ((c : Thread nD τ).loc main_arg1)) (ix2 i j) := by
  rw [reference, sumTo, dotTo_fin]
  exact Finset.sum_congr rfl fun p _ => congrArg₂ (· * ·) (entry_eq _ i.isLt p.isLt) (entry_eq _ p.isLt j.isLt)

variable (ρ : Dev nD → PrngReg)

theorem run_values : θ_run defs (onTc (τ := τ) (main (F := Ideal))) ⟨m, fun _ => 0, ρ⟩ (fun r => ∀ c : Dev nD,
    r.2.mem ((c : Thread nD τ).loc main_v0) = Cert.OutProjDxReferenceIdeal.Read.val_main_v5 (F := Ideal) (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1)) :=
  (θ_run defs _ _).mono (fun _ h c => ⟨((h c).1 2).trans (funext fun i => by
      rw [eq_ix2 i]; exact (result m c _ _).trans (total m c _ _)),
    ((h c).1 0).trans ((dats m 0 c).arrAt_in 0 rfl _), ((h c).1 1).trans ((dats m 0 c).arrAt_in 1 rfl _)⟩)
    (run_main m ρ)

/-- The call computes what the reference computes. -/
theorem agree : Cert.algebraic_OutProjDxIdeal_OutProjDxReferenceIdeal := by
  pair_intro
  · run_from run_values m g
  · run_from Cert.OutProjDxReferenceIdeal.Value.run (F := Ideal) m' g'
    exact Cert.OutProjDxReferenceIdeal.Read.val_main_v5_eq _ _

theorem frame_reference : Cert.quiescent_OutProjDxReferenceIdeal := fun m ρ _ =>
  (θ_run Cert.OutProjDxReferenceIdeal.defs _ _).mono (fun r h => ⟨fun c => (h c).2, Idealize.ShloMosaic.sem_eq_zero_of_no_sems (by decide) r.2⟩)
    (Cert.OutProjDxReferenceIdeal.Value.run (F := Ideal) m ρ)

end Cert.OutProjDxIdeal.Products
end
-- ==== Proof.Products.OutProjDw.lean ====
/- The gradient of the weight of the output projection. -/
module

public import proofs.«01_k».proof.Defs
public import proofs.«01_k».proof.Proof.Products.Sum
public import proofs.«01_k».proof.Proof.Gen.OutProjDwIdeal.Frame
public import proofs.«01_k».proof.Proof.Gen.OutProjDwReferenceIdeal
public import proofs.«01_k».proof.Proof.Gen.OutProjDwReferenceIdeal.Run
public import proofs.«01_k».proof.Proof.Gen.OutProjDwReferenceIdeal.Read
public import Idealize.ShloMosaic.Lib.Pipeline.ValueKit
public import Idealize.ShloMosaic.Lib.Pipeline.ValueKit.Geometry
public import Idealize.ShloMosaic.Lib.Pointwise
public import Idealize.ShloMosaic.Lib.Tactic
public import Idealize.ShloMosaic.Lib.Claim
public import Idealize.ShloMosaic.Lib.Quiescent

@[expose] public section

set_option maxRecDepth 16384

noncomputable section

namespace Cert.OutProjDwIdeal.Products

open Idealize.ShloMosaic Idealize.ShloMosaic.TcCoe Idealize.SL.Sem Cert.OutProjDwIdeal Cert.OutProjDwIdeal.Gen Cert.Products

variable (m : (ℓ : Loc nD τ sig) → Buf (Elt Ideal) ℓ)

/-! ## What one point leaves -/

theorem hz : (![0, 0] : Fin 2 → Nat) = fun _ => 0 := funext fun a => by fin_cases a <;> rfl

theorem pay1 (x : Vec Ideal S2048x1024 .bf16) (y : Vec Ideal S2048x1024 .bf16) (r q : Fin 1024) :
    k0_pay1 x y (ix2 r q) = ∑ v : Fin 2048, x (ix2 v r) * y (ix2 v q) := by
  pointwise [k0_pay1]

theorem pay3 (a : Vec Ideal S1024x1024 .f32) (x : Vec Ideal S2048x1024 .bf16) (y : Vec Ideal S2048x1024 .bf16) (r q : Fin 1024) :
    k0_pay3 a x y (ix2 r q) = a (ix2 r q) + ∑ v : Fin 2048, x (ix2 v r) * y (ix2 v q) := by
  pointwise [k0_pay3]

/-- The first of two points of a block leaves its products. -/
theorem first (c : Dev nD) (t : Fin cfg0.N) (h : t.val % 2 = 0) :
    (outsAt0 m c t.val t.isLt).2 = k0_pay1 (iblk m c 0 t) (iblk m c 1 t) := by
  refine (congrArg Prod.snd (outsAt0_A m c t h (by omega))).trans ?_
  dsimp only
  generalize iblk m c 0 t = x
  generalize iblk m c 1 t = y
  unfold sout0_A_0
  rw [View.read_writes_eq_canon _ _ _ (fun z => scover0_A_0 (y := z) ..)]
  unfold kernelRun0_A
  dsimp only
  rw [View.canon_unit_zero hz]
  simp only [View.readAt_eq_ld, Memref.IsWhole.read_unread, View.ld_unit_zero (S := S2048x1024) hz]

/-- The second writes the sum of both. -/
theorem last (c : Dev nD) (t : Fin cfg0.N) (h : t.val % 2 = 1) :
    (outsAt0 m c t.val t.isLt).1 = k0_pay3 (outsAt0 m c (t.val - 1) (by omega)).2 (iblk m c 0 t) (iblk m c 1 t) := by
  refine (congrArg Prod.fst (outsAt0_B m c t (by omega) h)).trans ?_
  dsimp only
  generalize iblk m c 0 t = x
  generalize iblk m c 1 t = y
  generalize (outsAt0 m c (t.val - 1) _).2 = a
  unfold out0_B_2
  rw [View.read_writes_eq_canon _ _ _ (fun z => cover0_B_2 (y := z) ..)]
  unfold kernelRun0_B
  dsimp only
  rw [View.canon_unit_zero hz]
  simp only [View.readAt_eq_ld, Memref.IsWhole.read_unread, View.ld_unit_zero (S := S1024x1024) hz, View.ld_unit_zero (S := S2048x1024) hz]
  exact congrArg (k0_pay3 · x y) ((Memref.isWhole_whole cc0_scratch0).read_unread a)

/-! ## The blocks -/

theorem place0 : ∀ t : Fin cfg0.N, win0_0.index t = ![t.val % 2, t.val / 4] := (by decide +kernel : ∀ t : Fin grid0.N, _)
theorem place1 : ∀ t : Fin cfg0.N, win0_1.index t = ![t.val % 2, t.val / 2 % 2] := (by decide +kernel : ∀ t : Fin grid0.N, _)
theorem place2 : ∀ t : Fin cfg0.N, win0_2.index t = ![t.val / 4, t.val / 2 % 2] := (by decide +kernel : ∀ t : Fin grid0.N, _)

theorem points (t : Fin cfg0.N) : t.val < 8 := lt_of_lt_of_eq t.isLt N_0

/-- The row factor and the column factor of the product. -/
abbrev a (c : Dev nD) : ℕ → ℕ → EReal := entry fun (i : Fin 2048) (p : Fin 4096) => m ((c : Thread nD τ).loc main_arg0) (ix2 p i)
abbrev b (c : Dev nD) : ℕ → ℕ → EReal := entry fun (p : Fin 4096) (j : Fin 2048) => m ((c : Thread nD τ).loc main_arg1) (ix2 p j)

theorem blk0 (c : Dev nD) (t : Fin cfg0.N) (r : Fin 1024) (v : Fin 2048) :
    iblk m c 0 t (ix2 v r) = a m c (1024 * (t.val / 4) + r.val) (2048 * (t.val % 2) + v.val) := by
  have hp := points t
  have e : ∀ A : Buf (Elt Ideal) ((c : Thread nD τ).loc main_arg0), ((cfg0.win 0).blk t).view.read (Elt Ideal) A (ix2 v r) = A (ix2 ⟨2048 * (t.val % 2) + v.val, by omega⟩ ⟨1024 * (t.val / 4) + r.val, by omega⟩) :=
    fun A => by rw [View.read_apply]; show A _ = A _; refine congrArg A ?_; blk_ext [place0]
  refine (e (V m c main_arg0)).trans (Eq.symm ?_)
  exact (entry_eq _ (by omega) (by omega)).trans rfl

theorem blk1 (c : Dev nD) (t : Fin cfg0.N) (v : Fin 2048) (q : Fin 1024) :
    iblk m c 1 t (ix2 v q) = b m c (2048 * (t.val % 2) + v.val) (1024 * (t.val / 2 % 2) + q.val) := by
  have hp := points t
  have e : ∀ A : Buf (Elt Ideal) ((c : Thread nD τ).loc main_arg1), ((cfg0.win 1).blk t).view.read (Elt Ideal) A (ix2 v q) = A (ix2 ⟨2048 * (t.val % 2) + v.val, by omega⟩ ⟨1024 * (t.val / 2 % 2) + q.val, by omega⟩) :=
    fun A => by rw [View.read_apply]; show A _ = A _; refine congrArg A ?_; blk_ext [place1]
  refine (e (V m c main_arg1)).trans (Eq.symm ?_)
  exact (entry_eq _ (by omega) (by omega)).trans rfl

/-! ## The sum -/

/-- The sum of the products of row `i` and column `j` up to position `n`. -/
abbrev sumTo (c : Dev nD) (i j n : ℕ) : EReal := dotTo (fun p => a m c i p) (fun p => b m c p j) n

theorem products (c : Dev nD) (t : Fin cfg0.N) (r q : Fin 1024) :
    ∑ v : Fin 2048, (show Vec Ideal S2048x1024 .bf16 from iblk m c 0 t) (ix2 v r) * (show Vec Ideal S2048x1024 .bf16 from iblk m c 1 t) (ix2 v q)
      = ∑ v : Fin 2048, a m c (1024 * (t.val / 2 / 2) + r.val) (2048 * (t.val % 2) + v.val) * b m c (2048 * (t.val % 2) + v.val) (1024 * (t.val / 2 % 2) + q.val) :=
  Finset.sum_congr rfl fun v _ => congrArg₂ (· * ·) ((blk0 m c t r v).trans (by rw [show t.val / 4 = t.val / 2 / 2 by omega])) (blk1 m c t v q)

theorem written (c : Dev nD) (t : Fin cfg0.N) (h : t.val % 2 = 1) (r q : Fin 1024) :
    (outsAt0 m c t.val t.isLt).1 (ix2 r q) = sumTo m c (1024 * (t.val / 2 / 2) + r.val) (1024 * (t.val / 2 % 2) + q.val) 4096 :=
  fold (n := 2) (T := 2048) (by omega) (fun t h => (outsAt0 m c t h).2 (ix2 r q)) (fun t h => (outsAt0 m c t h).1 (ix2 r q))
    (fun u p => a m c (1024 * (u / 2) + r.val) p) (fun u p => b m c p (1024 * (u % 2) + q.val))
    (fun t h h0 => (congrFun (first m c ⟨t, h⟩ h0) _).trans ((pay1 _ _ r q).trans (products m c ⟨t, h⟩ r q)))
    (fun t h h0 h1 => absurd h1 (by omega))
    (fun t h h0 => (congrFun (last m c ⟨t, h⟩ (Nat.succ_injective h0)) _).trans ((pay3 _ _ _ r q).trans (congrArg (_ + ·) (products m c ⟨t, h⟩ r q))))
    t.val t.isLt (by omega)

/-- The result, entry by entry. -/
theorem result (c : Dev nD) (i : Fin 2048) (j : Fin 2048) :
    (dats m 0 c).arrAt 2 cfg0.N (ix2 i j) = sumTo m c i.val j.val 4096 := by
  refine (dats m 0 c).arrAt_forall_of_covers 2 (fun i v => v = sumTo m c (i (0 : Fin 2)).val (i (1 : Fin 2)).val 4096) (by decide +kernel) (fun t hf y => ?_) (ix2 i j)
  blk_simp [place2]
  rw [after0_2]
  refine (congrArg _ (eq_ix2 y)).trans ((written m c t ((flush0_2 t).mp hf) (y (0 : Fin 2)) (y (1 : Fin 2))).trans ?_)
  rw [show t.val / 2 / 2 = t.val / 4 by omega, Nat.mul_comm 1024, Nat.mul_comm 1024]

/-! ## The reference -/

open Cert.OutProjDwReferenceIdeal.Read in
theorem reference (x : Vec Ideal S4096x2048 .bf16) (y : Vec Ideal S4096x2048 .bf16) (i : Fin 2048) (j : Fin 2048) :
    val_main_v6 (F := Ideal) x y (ix2 i j) = ∑ p : Fin 4096, y (ix2 p j) * x (ix2 p i) := by
  pointwise [val_main_v6, val_main_v5, val_main_v4, val_main_v3, val_main_v2, val_main_v1, val_main_v0, val_main_cst]

theorem total (c : Dev nD) (i : Fin 2048) (j : Fin 2048) : sumTo m c i.val j.val 4096
    = Cert.OutProjDwReferenceIdeal.Read.val_main_v6 (F := Ideal) (m ((c : Thread nD τ).loc main_arg0)) (m ((c : Thread nD τ).loc main_arg1)) (ix2 i j) := by
  rw [reference, sumTo, dotTo_fin]
  exact Finset.sum_congr rfl fun p _ => (congrArg₂ (· * ·) (entry_eq _ i.isLt p.isLt) (entry_eq _ p.isLt j.isLt)).trans (mul_comm _ _)

variable (ρ : Dev nD → PrngReg)

theorem run_values : θ_run defs (onTc (τ := τ) (main (F := Ideal))) ⟨m, fun _ => 0, ρ⟩ (fun r => ∀ c : Dev nD,
    r.2.mem ((c : Thread nD τ).loc main_v0) = Cert.OutProjDwReferenceIdeal.Read.val_main_v6 (F := Ideal) (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1)) :=
  (θ_run defs _ _).mono (fun _ h c => ⟨((h c).1 2).trans (funext fun i => by
      rw [eq_ix2 i]; exact (result m c _ _).trans (total m c _ _)),
    ((h c).1 0).trans ((dats m 0 c).arrAt_in 0 rfl _), ((h c).1 1).trans ((dats m 0 c).arrAt_in 1 rfl _)⟩)
    (run_main m ρ)

/-- The call computes what the reference computes. -/
theorem agree : Cert.algebraic_OutProjDwIdeal_OutProjDwReferenceIdeal := by
  pair_intro
  · run_from run_values m g
  · run_from Cert.OutProjDwReferenceIdeal.Value.run (F := Ideal) m' g'
    exact Cert.OutProjDwReferenceIdeal.Read.val_main_v6_eq _ _

theorem frame_reference : Cert.quiescent_OutProjDwReferenceIdeal := fun m ρ _ =>
  (θ_run Cert.OutProjDwReferenceIdeal.defs _ _).mono (fun r h => ⟨fun c => (h c).2, Idealize.ShloMosaic.sem_eq_zero_of_no_sems (by decide) r.2⟩)
    (Cert.OutProjDwReferenceIdeal.Value.run (F := Ideal) m ρ)

end Cert.OutProjDwIdeal.Products
end
-- ==== Proof.Products.ProjSmall.lean ====
/- The small projection. -/
module

public import proofs.«01_k».proof.Defs
public import proofs.«01_k».proof.Proof.Products.Sum
public import proofs.«01_k».proof.Proof.Gen.ProjSmallIdeal.Frame
public import proofs.«01_k».proof.Proof.Gen.ProjSmallReferenceIdeal
public import proofs.«01_k».proof.Proof.Gen.ProjSmallReferenceIdeal.Run
public import proofs.«01_k».proof.Proof.Gen.ProjSmallReferenceIdeal.Read
public import Idealize.ShloMosaic.Lib.Pipeline.ValueKit
public import Idealize.ShloMosaic.Lib.Pipeline.ValueKit.Geometry
public import Idealize.ShloMosaic.Lib.Pointwise
public import Idealize.ShloMosaic.Lib.Tactic
public import Idealize.ShloMosaic.Lib.Claim
public import Idealize.ShloMosaic.Lib.Quiescent

@[expose] public section

set_option maxRecDepth 16384

noncomputable section

namespace Cert.ProjSmallIdeal.Products

open Idealize.ShloMosaic Idealize.ShloMosaic.TcCoe Idealize.SL.Sem Cert.ProjSmallIdeal Cert.ProjSmallIdeal.Gen Cert.Products

variable (m : (ℓ : Loc nD τ sig) → Buf (Elt Ideal) ℓ)

/-! ## What one point leaves -/

theorem hz : (![0, 0] : Fin 2 → Nat) = fun _ => 0 := funext fun a => by fin_cases a <;> rfl

theorem pay1 (x : Vec Ideal S1024x2048 .bf16) (y : Vec Ideal S128x2048 .bf16) (r : Fin 1024) (q : Fin 128) :
    k0_pay1 x y (ix2 r q) = ∑ v : Fin 2048, x (ix2 r v) * y (ix2 q v) := by
  pointwise [k0_pay1]

/-- A point writes the product of its blocks. -/
theorem point (c : Dev nD) (t : Fin cfg0.N) : outsAt0 m c t = k0_pay1 (iblk m c 0 t) (iblk m c 1 t) := by
  unfold outsAt0
  generalize iblk m c 0 t = x
  generalize iblk m c 1 t = y
  unfold out0_A_2
  rw [View.read_writes_eq_canon _ _ _ (fun z => cover0_A_2 (y := z) ..)]
  unfold kernelRun0_A
  dsimp only
  rw [View.canon_unit_zero hz]
  simp only [View.readAt_eq_ld, Memref.IsWhole.read_unread, View.ld_unit_zero (S := S1024x2048) hz, View.ld_unit_zero (S := S128x2048) hz]

/-! ## The blocks -/

theorem place0 : ∀ t : Fin cfg0.N, win0_0.index t = ![t.val, 0] := (by decide +kernel : ∀ t : Fin grid0.N, _)
theorem place1 : ∀ t : Fin cfg0.N, win0_1.index t = ![0, 0] := (by decide +kernel : ∀ t : Fin grid0.N, _)
theorem place2 : ∀ t : Fin cfg0.N, win0_2.index t = ![t.val, 0] := (by decide +kernel : ∀ t : Fin grid0.N, _)

theorem points (t : Fin cfg0.N) : t.val < 4 := lt_of_lt_of_eq t.isLt N_0

/-- The row factor and the column factor of the product. -/
abbrev a (c : Dev nD) : ℕ → ℕ → EReal := entry fun (i : Fin 4096) (p : Fin 2048) => m ((c : Thread nD τ).loc main_arg0) (ix2 i p)
abbrev b (c : Dev nD) : ℕ → ℕ → EReal := entry fun (p : Fin 2048) (j : Fin 128) => m ((c : Thread nD τ).loc main_arg1) (ix2 j p)

theorem blk0 (c : Dev nD) (t : Fin cfg0.N) (r : Fin 1024) (v : Fin 2048) :
    iblk m c 0 t (ix2 r v) = a m c (1024 * t.val + r.val) (v.val) := by
  have hp := points t
  have e : ∀ A : Buf (Elt Ideal) ((c : Thread nD τ).loc main_arg0), ((cfg0.win 0).blk t).view.read (Elt Ideal) A (ix2 r v) = A (ix2 ⟨1024 * t.val + r.val, by omega⟩ ⟨v.val, by omega⟩) :=
    fun A => by rw [View.read_apply]; show A _ = A _; refine congrArg A ?_; blk_ext [place0]
  refine (e (V m c main_arg0)).trans (Eq.symm ?_)
  exact (entry_eq _ (by omega) (by omega)).trans rfl

theorem blk1 (c : Dev nD) (t : Fin cfg0.N) (v : Fin 2048) (q : Fin 128) :
    iblk m c 1 t (ix2 q v) = b m c (v.val) (q.val) := by
  have hp := points t
  have e : ∀ A : Buf (Elt Ideal) ((c : Thread nD τ).loc main_arg1), ((cfg0.win 1).blk t).view.read (Elt Ideal) A (ix2 q v) = A (ix2 ⟨q.val, by omega⟩ ⟨v.val, by omega⟩) :=
    fun A => by rw [View.read_apply]; show A _ = A _; refine congrArg A ?_; blk_ext [place1]
  refine (e (V m c main_arg1)).trans (Eq.symm ?_)
  exact (entry_eq _ (by omega) (by omega)).trans rfl

/-! ## The sum -/

/-- The sum of the products of row `i` and column `j` up to position `n`. -/
abbrev sumTo (c : Dev nD) (i j n : ℕ) : EReal := dotTo (fun p => a m c i p) (fun p => b m c p j) n

theorem written (c : Dev nD) (t : Fin cfg0.N) (r : Fin 1024) (q : Fin 128) :
    outsAt0 m c t (ix2 r q) = sumTo m c (1024 * t.val + r.val) (q.val) 2048 := by
  rw [point, pay1, sumTo, dotTo_fin]
  exact Finset.sum_congr rfl fun v _ => congrArg₂ (· * ·) (blk0 m c t r v) (blk1 m c t v q)

/-- The result, entry by entry. -/
theorem result (c : Dev nD) (i : Fin 4096) (j : Fin 128) :
    (dats m 0 c).arrAt 2 cfg0.N (ix2 i j) = sumTo m c i.val j.val 2048 := by
  refine (dats m 0 c).arrAt_forall_of_covers 2 (fun i v => v = sumTo m c (i (0 : Fin 2)).val (i (1 : Fin 2)).val 2048) (by decide +kernel) (fun t hf y => ?_) (ix2 i j)
  blk_simp [place2]
  rw [after0_2]
  refine (congrArg _ (eq_ix2 y)).trans ((written m c t (y (0 : Fin 2)) (y (1 : Fin 2))).trans ?_)
  rw [Nat.mul_comm 1024]

/-! ## The reference -/

open Cert.ProjSmallReferenceIdeal.Read in
theorem reference (x : Vec Ideal S4096x2048 .bf16) (y : Vec Ideal S128x2048 .bf16) (i : Fin 4096) (j : Fin 128) :
    val_main_v3 (F := Ideal) x y (ix2 i j) = ∑ p : Fin 2048, x (ix2 i p) * y (ix2 j p) := by
  pointwise [val_main_v3, val_main_v2, val_main_v1, val_main_v0]

theorem total (c : Dev nD) (i : Fin 4096) (j : Fin 128) : sumTo m c i.val j.val 2048
    = Cert.ProjSmallReferenceIdeal.Read.val_main_v3 (F := Ideal) (m ((c : Thread nD τ).loc main_arg0)) (m ((c : Thread nD τ).loc main_arg1)) (ix2 i j) := by
  rw [reference, sumTo, dotTo_fin]
  exact Finset.sum_congr rfl fun p _ => congrArg₂ (· * ·) (entry_eq _ i.isLt p.isLt) (entry_eq _ p.isLt j.isLt)

variable (ρ : Dev nD → PrngReg)

theorem run_values : θ_run defs (onTc (τ := τ) (main (F := Ideal))) ⟨m, fun _ => 0, ρ⟩ (fun r => ∀ c : Dev nD,
    r.2.mem ((c : Thread nD τ).loc main_v0) = Cert.ProjSmallReferenceIdeal.Read.val_main_v3 (F := Ideal) (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1)) :=
  (θ_run defs _ _).mono (fun _ h c => ⟨((h c).1 2).trans (funext fun i => by
      rw [eq_ix2 i]; exact (result m c _ _).trans (total m c _ _)),
    ((h c).1 0).trans ((dats m 0 c).arrAt_in 0 rfl _), ((h c).1 1).trans ((dats m 0 c).arrAt_in 1 rfl _)⟩)
    (run_main m ρ)

/-- The call computes what the reference computes. -/
theorem agree : Cert.algebraic_ProjSmallIdeal_ProjSmallReferenceIdeal := by
  pair_intro
  · run_from run_values m g
  · run_from Cert.ProjSmallReferenceIdeal.Value.run (F := Ideal) m' g'
    exact Cert.ProjSmallReferenceIdeal.Read.val_main_v3_eq (F := Ideal) _ _

theorem frame_reference : Cert.quiescent_ProjSmallReferenceIdeal := fun m ρ _ =>
  (θ_run Cert.ProjSmallReferenceIdeal.defs _ _).mono (fun r h => ⟨fun c => (h c).2, Idealize.ShloMosaic.sem_eq_zero_of_no_sems (by decide) r.2⟩)
    (Cert.ProjSmallReferenceIdeal.Value.run (F := Ideal) m ρ)

end Cert.ProjSmallIdeal.Products
end
-- ==== Proof.Products.GateDx.lean ====
/- The gradient of the gates with respect to the small projection, added to what is already there. -/
module

public import proofs.«01_k».proof.Defs
public import proofs.«01_k».proof.Proof.Products.Sum
public import proofs.«01_k».proof.Proof.Gen.GateDxIdeal.Frame
public import proofs.«01_k».proof.Proof.Gen.GateDxReferenceIdeal
public import proofs.«01_k».proof.Proof.Gen.GateDxReferenceIdeal.Run
public import proofs.«01_k».proof.Proof.Gen.GateDxReferenceIdeal.Read
public import Idealize.ShloMosaic.Lib.Pipeline.ValueKit
public import Idealize.ShloMosaic.Lib.Pipeline.ValueKit.Geometry
public import Idealize.ShloMosaic.Lib.Pointwise
public import Idealize.ShloMosaic.Lib.Tactic
public import Idealize.ShloMosaic.Lib.Claim
public import Idealize.ShloMosaic.Lib.Quiescent

@[expose] public section

set_option maxRecDepth 16384

noncomputable section

namespace Cert.GateDxIdeal.Products

open Idealize.ShloMosaic Idealize.ShloMosaic.TcCoe Idealize.SL.Sem Cert.GateDxIdeal Cert.GateDxIdeal.Gen Cert.Products

variable (m : (ℓ : Loc nD τ sig) → Buf (Elt Ideal) ℓ)

/-! ## What one point leaves -/

theorem hz : (![0, 0] : Fin 2 → Nat) = fun _ => 0 := funext fun a => by fin_cases a <;> rfl

theorem pay1 (x : Vec Ideal S1024x512 .bf16) (y : Vec Ideal S128x512 .bf16) (z : Vec Ideal S1024x128 .f32) (r : Fin 1024) (q : Fin 128) :
    k0_pay1 x y z (ix2 r q) = ∑ v : Fin 512, x (ix2 r v) * y (ix2 q v) + z (ix2 r q) := by
  pointwise [k0_pay1]

/-- A point writes the product of its blocks and its block of the third array. -/
theorem point (c : Dev nD) (t : Fin cfg0.N) : outsAt0 m c t = k0_pay1 (iblk m c 0 t) (iblk m c 1 t) (iblk m c 2 t) := by
  unfold outsAt0
  generalize iblk m c 0 t = x
  generalize iblk m c 1 t = y
  generalize iblk m c 2 t = z
  unfold out0_A_3
  rw [View.read_writes_eq_canon _ _ _ (fun u => cover0_A_3 (y := u) ..)]
  unfold kernelRun0_A
  dsimp only
  rw [View.canon_unit_zero hz]
  simp only [View.readAt_eq_ld, Memref.IsWhole.read_unread, View.ld_unit_zero (S := S1024x512) hz, View.ld_unit_zero (S := S128x512) hz, View.ld_unit_zero (S := S1024x128) hz]

/-! ## The blocks -/

theorem place0 : ∀ t : Fin cfg0.N, win0_0.index t = ![t.val, 0] := (by decide +kernel : ∀ t : Fin grid0.N, _)
theorem place1 : ∀ t : Fin cfg0.N, win0_1.index t = ![0, 0] := (by decide +kernel : ∀ t : Fin grid0.N, _)
theorem place2 : ∀ t : Fin cfg0.N, win0_2.index t = ![t.val, 0] := (by decide +kernel : ∀ t : Fin grid0.N, _)
theorem place3 : ∀ t : Fin cfg0.N, win0_3.index t = ![t.val, 0] := (by decide +kernel : ∀ t : Fin grid0.N, _)

theorem points (t : Fin cfg0.N) : t.val < 4 := lt_of_lt_of_eq t.isLt N_0

/-- The row factor and the column factor of the product. -/
abbrev a (c : Dev nD) : ℕ → ℕ → EReal := entry fun (i : Fin 4096) (p : Fin 512) => m ((c : Thread nD τ).loc main_arg0) (ix2 i p)
abbrev b (c : Dev nD) : ℕ → ℕ → EReal := entry fun (p : Fin 512) (j : Fin 128) => m ((c : Thread nD τ).loc main_arg1) (ix2 j p)

/-- What is already there. -/
abbrev o (c : Dev nD) : ℕ → ℕ → EReal := entry fun (i : Fin 4096) (j : Fin 128) => m ((c : Thread nD τ).loc main_arg2) (ix2 i j)

theorem blk0 (c : Dev nD) (t : Fin cfg0.N) (r : Fin 1024) (v : Fin 512) :
    iblk m c 0 t (ix2 r v) = a m c (1024 * t.val + r.val) (v.val) := by
  have hp := points t
  have e : ∀ A : Buf (Elt Ideal) ((c : Thread nD τ).loc main_arg0), ((cfg0.win 0).blk t).view.read (Elt Ideal) A (ix2 r v) = A (ix2 ⟨1024 * t.val + r.val, by omega⟩ ⟨v.val, by omega⟩) :=
    fun A => by rw [View.read_apply]; show A _ = A _; refine congrArg A ?_; blk_ext [place0]
  refine (e (V m c main_arg0)).trans (Eq.symm ?_)
  exact (entry_eq _ (by omega) (by omega)).trans rfl

theorem blk1 (c : Dev nD) (t : Fin cfg0.N) (v : Fin 512) (q : Fin 128) :
    iblk m c 1 t (ix2 q v) = b m c (v.val) (q.val) := by
  have hp := points t
  have e : ∀ A : Buf (Elt Ideal) ((c : Thread nD τ).loc main_arg1), ((cfg0.win 1).blk t).view.read (Elt Ideal) A (ix2 q v) = A (ix2 ⟨q.val, by omega⟩ ⟨v.val, by omega⟩) :=
    fun A => by rw [View.read_apply]; show A _ = A _; refine congrArg A ?_; blk_ext [place1]
  refine (e (V m c main_arg1)).trans (Eq.symm ?_)
  exact (entry_eq _ (by omega) (by omega)).trans rfl

theorem blk2 (c : Dev nD) (t : Fin cfg0.N) (r : Fin 1024) (q : Fin 128) : iblk m c 2 t (ix2 r q) = o m c (1024 * t.val + r.val) q.val := by
  have hp := points t
  have e : ∀ A : Buf (Elt Ideal) ((c : Thread nD τ).loc main_arg2), ((cfg0.win 2).blk t).view.read (Elt Ideal) A (ix2 r q) = A (ix2 ⟨1024 * t.val + r.val, by omega⟩ q) :=
    fun A => by rw [View.read_apply]; show A _ = A _; refine congrArg A ?_; blk_ext [place2]
  refine (e (V m c main_arg2)).trans (Eq.symm ?_)
  exact (entry_eq _ (by omega) q.isLt).trans rfl

/-! ## The sum -/

/-- The sum of the products of row `i` and column `j` up to position `n`. -/
abbrev sumTo (c : Dev nD) (i j n : ℕ) : EReal := dotTo (fun p => a m c i p) (fun p => b m c p j) n

/-- The product at row `i` and column `j`, and what is already there. -/
abbrev both (c : Dev nD) (i j : ℕ) : EReal := sumTo m c i j 512 + o m c i j

theorem written (c : Dev nD) (t : Fin cfg0.N) (r : Fin 1024) (q : Fin 128) :
    outsAt0 m c t (ix2 r q) = both m c (1024 * t.val + r.val) q.val := by
  rw [point, pay1, both, sumTo, dotTo_fin]
  exact congrArg₂ (· + ·) (Finset.sum_congr rfl fun v _ => congrArg₂ (· * ·) (blk0 m c t r v) (blk1 m c t v q)) (blk2 m c t r q)

/-- The result, entry by entry. -/
theorem result (c : Dev nD) (i : Fin 4096) (j : Fin 128) :
    (dats m 0 c).arrAt 3 cfg0.N (ix2 i j) = both m c i.val j.val := by
  refine (dats m 0 c).arrAt_forall_of_covers 3 (fun i v => v = both m c (i (0 : Fin 2)).val (i (1 : Fin 2)).val) (by decide +kernel) (fun t hf y => ?_) (ix2 i j)
  blk_simp [place3]
  rw [after0_3]
  refine (congrArg _ (eq_ix2 y)).trans ((written m c t (y (0 : Fin 2)) (y (1 : Fin 2))).trans ?_)
  rw [Nat.mul_comm 1024]

/-! ## The reference -/

open Cert.GateDxReferenceIdeal.Read in
theorem reference (x : Vec Ideal S4096x512 .bf16) (y : Vec Ideal S128x512 .bf16) (z : Vec Ideal S4096x128 .f32) (i : Fin 4096) (j : Fin 128) :
    val_main_v5 (F := Ideal) x y z (ix2 i j) = z (ix2 i j) + ∑ p : Fin 512, x (ix2 i p) * y (ix2 j p) := by
  pointwise [val_main_v5, val_main_v4, val_main_v3, val_main_v2, val_main_v1, val_main_cst, val_main_v0]

theorem total (c : Dev nD) (i : Fin 4096) (j : Fin 128) : both m c i.val j.val
    = Cert.GateDxReferenceIdeal.Read.val_main_v5 (F := Ideal) (m ((c : Thread nD τ).loc main_arg0)) (m ((c : Thread nD τ).loc main_arg1))
        (m ((c : Thread nD τ).loc main_arg2)) (ix2 i j) := by
  rw [reference, both, sumTo, dotTo_fin, add_comm]
  exact congrArg₂ (· + ·) (entry_eq _ i.isLt j.isLt) (Finset.sum_congr rfl fun p _ => congrArg₂ (· * ·) (entry_eq _ i.isLt p.isLt) (entry_eq _ p.isLt j.isLt))

variable (ρ : Dev nD → PrngReg)

theorem run_values : θ_run defs (onTc (τ := τ) (main (F := Ideal))) ⟨m, fun _ => 0, ρ⟩ (fun r => ∀ c : Dev nD,
    r.2.mem ((c : Thread nD τ).loc main_v0) = Cert.GateDxReferenceIdeal.Read.val_main_v5 (F := Ideal) (m ((c : Thread nD τ).loc main_arg0)) (m ((c : Thread nD τ).loc main_arg1)) (m ((c : Thread nD τ).loc main_arg2))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)) :=
  (θ_run defs _ _).mono (fun _ h c => ⟨((h c).1 3).trans (funext fun i => by
      rw [eq_ix2 i]; exact (result m c _ _).trans (total m c _ _)),
    ((h c).1 0).trans ((dats m 0 c).arrAt_in 0 rfl _), ((h c).1 1).trans ((dats m 0 c).arrAt_in 1 rfl _), ((h c).1 2).trans ((dats m 0 c).arrAt_in 2 rfl _)⟩)
    (run_main m ρ)

/-- The call computes what the reference computes. -/
theorem agree : Cert.algebraic_GateDxIdeal_GateDxReferenceIdeal := by
  pair_intro
  · run_from run_values m g
  · run_from Cert.GateDxReferenceIdeal.Value.run (F := Ideal) m' g'
    exact Cert.GateDxReferenceIdeal.Read.val_main_v5_eq _ _ _

theorem frame_reference : Cert.quiescent_GateDxReferenceIdeal := fun m ρ _ =>
  (θ_run Cert.GateDxReferenceIdeal.defs _ _).mono (fun r h => ⟨fun c => (h c).2, Idealize.ShloMosaic.sem_eq_zero_of_no_sems (by decide) r.2⟩)
    (Cert.GateDxReferenceIdeal.Value.run (F := Ideal) m ρ)

end Cert.GateDxIdeal.Products
end
-- ==== Proof.Products.GateDw.lean ====
/- The gradient of the second weight of the gates. -/
module

public import proofs.«01_k».proof.Defs
public import proofs.«01_k».proof.Proof.Products.Sum
public import proofs.«01_k».proof.Proof.Gen.GateDwIdeal.Frame
public import proofs.«01_k».proof.Proof.Gen.GateDwReferenceIdeal
public import proofs.«01_k».proof.Proof.Gen.GateDwReferenceIdeal.Run
public import proofs.«01_k».proof.Proof.Gen.GateDwReferenceIdeal.Read
public import Idealize.ShloMosaic.Lib.Pipeline.ValueKit
public import Idealize.ShloMosaic.Lib.Pipeline.ValueKit.Geometry
public import Idealize.ShloMosaic.Lib.Pointwise
public import Idealize.ShloMosaic.Lib.Tactic
public import Idealize.ShloMosaic.Lib.Claim
public import Idealize.ShloMosaic.Lib.Quiescent

@[expose] public section

set_option maxRecDepth 16384

noncomputable section

namespace Cert.GateDwIdeal.Products

open Idealize.ShloMosaic Idealize.ShloMosaic.TcCoe Idealize.SL.Sem Cert.GateDwIdeal Cert.GateDwIdeal.Gen Cert.Products

variable (m : (ℓ : Loc nD τ sig) → Buf (Elt Ideal) ℓ)

/-! ## What one point leaves -/

theorem hz : (![0, 0] : Fin 2 → Nat) = fun _ => 0 := funext fun a => by fin_cases a <;> rfl

theorem pay1 (x : Vec Ideal S2048x128 .f32) (y : Vec Ideal S2048x512 .bf16) (r : Fin 128) (q : Fin 512) :
    k0_pay1 x y (ix2 r q) = ∑ v : Fin 2048, x (ix2 v r) * y (ix2 v q) := by
  pointwise [k0_pay1]

theorem pay3 (a : Vec Ideal S128x512 .f32) (x : Vec Ideal S2048x128 .f32) (y : Vec Ideal S2048x512 .bf16) (r : Fin 128) (q : Fin 512) :
    k0_pay3 a x y (ix2 r q) = a (ix2 r q) + ∑ v : Fin 2048, x (ix2 v r) * y (ix2 v q) := by
  pointwise [k0_pay3]

/-- The first of two points of a block leaves its products. -/
theorem first (c : Dev nD) (t : Fin cfg0.N) (h : t.val % 2 = 0) :
    (outsAt0 m c t.val t.isLt).2 = k0_pay1 (iblk m c 0 t) (iblk m c 1 t) := by
  refine (congrArg Prod.snd (outsAt0_A m c t h (by omega))).trans ?_
  dsimp only
  generalize iblk m c 0 t = x
  generalize iblk m c 1 t = y
  unfold sout0_A_0
  rw [View.read_writes_eq_canon _ _ _ (fun z => scover0_A_0 (y := z) ..)]
  unfold kernelRun0_A
  dsimp only
  rw [View.canon_unit_zero hz]
  simp only [View.readAt_eq_ld, Memref.IsWhole.read_unread, View.ld_unit_zero (S := S2048x512) hz, View.ld_unit_zero (S := S2048x128) hz]

/-- The second writes the sum of both. -/
theorem last (c : Dev nD) (t : Fin cfg0.N) (h : t.val % 2 = 1) :
    (outsAt0 m c t.val t.isLt).1 = k0_pay3 (outsAt0 m c (t.val - 1) (by omega)).2 (iblk m c 0 t) (iblk m c 1 t) := by
  refine (congrArg Prod.fst (outsAt0_B m c t (by omega) h)).trans ?_
  dsimp only
  generalize iblk m c 0 t = x
  generalize iblk m c 1 t = y
  generalize (outsAt0 m c (t.val - 1) _).2 = a
  unfold out0_B_2
  rw [View.read_writes_eq_canon _ _ _ (fun z => cover0_B_2 (y := z) ..)]
  unfold kernelRun0_B
  dsimp only
  rw [View.canon_unit_zero hz]
  simp only [View.readAt_eq_ld, Memref.IsWhole.read_unread, View.ld_unit_zero (S := S128x512) hz, View.ld_unit_zero (S := S2048x512) hz, View.ld_unit_zero (S := S2048x128) hz]
  exact congrArg (k0_pay3 · x y) ((Memref.isWhole_whole cc0_scratch0).read_unread a)

/-! ## The blocks -/

theorem place0 : ∀ t : Fin cfg0.N, win0_0.index t = ![t.val % 2, 0] := (by decide +kernel : ∀ t : Fin grid0.N, _)
theorem place1 : ∀ t : Fin cfg0.N, win0_1.index t = ![t.val % 2, 0] := (by decide +kernel : ∀ t : Fin grid0.N, _)
theorem place2 : ∀ t : Fin cfg0.N, win0_2.index t = ![0, 0] := (by decide +kernel : ∀ t : Fin grid0.N, _)

theorem points (t : Fin cfg0.N) : t.val < 2 := lt_of_lt_of_eq t.isLt N_0

/-- The row factor and the column factor of the product. -/
abbrev a (c : Dev nD) : ℕ → ℕ → EReal := entry fun (i : Fin 128) (p : Fin 4096) => m ((c : Thread nD τ).loc main_arg0) (ix2 p i)
abbrev b (c : Dev nD) : ℕ → ℕ → EReal := entry fun (p : Fin 4096) (j : Fin 512) => m ((c : Thread nD τ).loc main_arg1) (ix2 p j)

theorem blk0 (c : Dev nD) (t : Fin cfg0.N) (r : Fin 128) (v : Fin 2048) :
    iblk m c 0 t (ix2 v r) = a m c (r.val) (2048 * (t.val % 2) + v.val) := by
  have hp := points t
  have e : ∀ A : Buf (Elt Ideal) ((c : Thread nD τ).loc main_arg0), ((cfg0.win 0).blk t).view.read (Elt Ideal) A (ix2 v r) = A (ix2 ⟨2048 * (t.val % 2) + v.val, by omega⟩ ⟨r.val, by omega⟩) :=
    fun A => by rw [View.read_apply]; show A _ = A _; refine congrArg A ?_; blk_ext [place0]
  refine (e (V m c main_arg0)).trans (Eq.symm ?_)
  exact (entry_eq _ (by omega) (by omega)).trans rfl

theorem blk1 (c : Dev nD) (t : Fin cfg0.N) (v : Fin 2048) (q : Fin 512) :
    iblk m c 1 t (ix2 v q) = b m c (2048 * (t.val % 2) + v.val) (q.val) := by
  have hp := points t
  have e : ∀ A : Buf (Elt Ideal) ((c : Thread nD τ).loc main_arg1), ((cfg0.win 1).blk t).view.read (Elt Ideal) A (ix2 v q) = A (ix2 ⟨2048 * (t.val % 2) + v.val, by omega⟩ ⟨q.val, by omega⟩) :=
    fun A => by rw [View.read_apply]; show A _ = A _; refine congrArg A ?_; blk_ext [place1]
  refine (e (V m c main_arg1)).trans (Eq.symm ?_)
  exact (entry_eq _ (by omega) (by omega)).trans rfl

/-! ## The sum -/

/-- The sum of the products of row `i` and column `j` up to position `n`. -/
abbrev sumTo (c : Dev nD) (i j n : ℕ) : EReal := dotTo (fun p => a m c i p) (fun p => b m c p j) n

theorem products (c : Dev nD) (t : Fin cfg0.N) (r : Fin 128) (q : Fin 512) :
    ∑ v : Fin 2048, (show Vec Ideal S2048x128 .f32 from iblk m c 0 t) (ix2 v r) * (show Vec Ideal S2048x512 .bf16 from iblk m c 1 t) (ix2 v q)
      = ∑ v : Fin 2048, a m c (r.val) (2048 * (t.val % 2) + v.val) * b m c (2048 * (t.val % 2) + v.val) (q.val) :=
  Finset.sum_congr rfl fun v _ => congrArg₂ (· * ·) (blk0 m c t r v) (blk1 m c t v q)

theorem written (c : Dev nD) (t : Fin cfg0.N) (h : t.val % 2 = 1) (r : Fin 128) (q : Fin 512) :
    (outsAt0 m c t.val t.isLt).1 (ix2 r q) = sumTo m c (r.val) (q.val) 4096 :=
  fold (n := 2) (T := 2048) (by omega) (fun t h => (outsAt0 m c t h).2 (ix2 r q)) (fun t h => (outsAt0 m c t h).1 (ix2 r q))
    (fun u p => a m c (r.val) p) (fun u p => b m c p (q.val))
    (fun t h h0 => (congrFun (first m c ⟨t, h⟩ h0) _).trans ((pay1 _ _ r q).trans (products m c ⟨t, h⟩ r q)))
    (fun t h h0 h1 => absurd h1 (by omega))
    (fun t h h0 => (congrFun (last m c ⟨t, h⟩ (Nat.succ_injective h0)) _).trans ((pay3 _ _ _ r q).trans (congrArg (_ + ·) (products m c ⟨t, h⟩ r q))))
    t.val t.isLt (by omega)

/-- The result, entry by entry. -/
theorem result (c : Dev nD) (i : Fin 128) (j : Fin 512) :
    (dats m 0 c).arrAt 2 cfg0.N (ix2 i j) = sumTo m c i.val j.val 4096 := by
  refine (dats m 0 c).arrAt_forall_of_covers 2 (fun i v => v = sumTo m c (i (0 : Fin 2)).val (i (1 : Fin 2)).val 4096) (by decide +kernel) (fun t hf y => ?_) (ix2 i j)
  blk_simp [place2]
  rw [after0_2]
  refine (congrArg _ (eq_ix2 y)).trans (written m c t ((flush0_2 t).mp hf) (y (0 : Fin 2)) (y (1 : Fin 2)))

/-! ## The reference -/

open Cert.GateDwReferenceIdeal.Read in
theorem reference (x : Vec Ideal S4096x128 .f32) (y : Vec Ideal S4096x512 .bf16) (i : Fin 128) (j : Fin 512) :
    val_main_v4 (F := Ideal) x y (ix2 i j) = ∑ p : Fin 4096, y (ix2 p j) * x (ix2 p i) := by
  pointwise [val_main_v4, val_main_v3, val_main_v2, val_main_v1, val_main_v0, val_main_cst]

theorem total (c : Dev nD) (i : Fin 128) (j : Fin 512) : sumTo m c i.val j.val 4096
    = Cert.GateDwReferenceIdeal.Read.val_main_v4 (F := Ideal) (m ((c : Thread nD τ).loc main_arg0)) (m ((c : Thread nD τ).loc main_arg1)) (ix2 i j) := by
  rw [reference, sumTo, dotTo_fin]
  exact Finset.sum_congr rfl fun p _ => (congrArg₂ (· * ·) (entry_eq _ i.isLt p.isLt) (entry_eq _ p.isLt j.isLt)).trans (mul_comm _ _)

variable (ρ : Dev nD → PrngReg)

theorem run_values : θ_run defs (onTc (τ := τ) (main (F := Ideal))) ⟨m, fun _ => 0, ρ⟩ (fun r => ∀ c : Dev nD,
    r.2.mem ((c : Thread nD τ).loc main_v0) = Cert.GateDwReferenceIdeal.Read.val_main_v4 (F := Ideal) (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1)) :=
  (θ_run defs _ _).mono (fun _ h c => ⟨((h c).1 2).trans (funext fun i => by
      rw [eq_ix2 i]; exact (result m c _ _).trans (total m c _ _)),
    ((h c).1 0).trans ((dats m 0 c).arrAt_in 0 rfl _), ((h c).1 1).trans ((dats m 0 c).arrAt_in 1 rfl _)⟩)
    (run_main m ρ)

/-- The call computes what the reference computes. -/
theorem agree : Cert.algebraic_GateDwIdeal_GateDwReferenceIdeal := by
  pair_intro
  · run_from run_values m g
  · run_from Cert.GateDwReferenceIdeal.Value.run (F := Ideal) m' g'
    exact Cert.GateDwReferenceIdeal.Read.val_main_v4_eq _ _

theorem frame_reference : Cert.quiescent_GateDwReferenceIdeal := fun m ρ _ =>
  (θ_run Cert.GateDwReferenceIdeal.defs _ _).mono (fun r h => ⟨fun c => (h c).2, Idealize.ShloMosaic.sem_eq_zero_of_no_sems (by decide) r.2⟩)
    (Cert.GateDwReferenceIdeal.Value.run (F := Ideal) m ρ)

end Cert.GateDwIdeal.Products
end
-- ==== Proof.Products.ProjSmallDw.lean ====
/- The gradient of the weight of the small projection. -/
module

public import proofs.«01_k».proof.Defs
public import proofs.«01_k».proof.Proof.Products.Sum
public import proofs.«01_k».proof.Proof.Gen.ProjSmallDwIdeal.Frame
public import proofs.«01_k».proof.Proof.Gen.ProjSmallDwReferenceIdeal
public import proofs.«01_k».proof.Proof.Gen.ProjSmallDwReferenceIdeal.Run
public import proofs.«01_k».proof.Proof.Gen.ProjSmallDwReferenceIdeal.Read
public import Idealize.ShloMosaic.Lib.Pipeline.ValueKit
public import Idealize.ShloMosaic.Lib.Pipeline.ValueKit.Geometry
public import Idealize.ShloMosaic.Lib.Pointwise
public import Idealize.ShloMosaic.Lib.Tactic
public import Idealize.ShloMosaic.Lib.Claim
public import Idealize.ShloMosaic.Lib.Quiescent

@[expose] public section

set_option maxRecDepth 16384

noncomputable section

namespace Cert.ProjSmallDwIdeal.Products

open Idealize.ShloMosaic Idealize.ShloMosaic.TcCoe Idealize.SL.Sem Cert.ProjSmallDwIdeal Cert.ProjSmallDwIdeal.Gen Cert.Products

variable (m : (ℓ : Loc nD τ sig) → Buf (Elt Ideal) ℓ)

/-! ## What one point leaves -/

theorem hz : (![0, 0] : Fin 2 → Nat) = fun _ => 0 := funext fun a => by fin_cases a <;> rfl

theorem pay1 (x : Vec Ideal S2048x128 .f32) (y : Vec Ideal S2048x1024 .bf16) (r : Fin 128) (q : Fin 1024) :
    k0_pay1 x y (ix2 r q) = ∑ v : Fin 2048, x (ix2 v r) * y (ix2 v q) := by
  pointwise [k0_pay1]

theorem pay3 (a : Vec Ideal S128x1024 .f32) (x : Vec Ideal S2048x128 .f32) (y : Vec Ideal S2048x1024 .bf16) (r : Fin 128) (q : Fin 1024) :
    k0_pay3 a x y (ix2 r q) = a (ix2 r q) + ∑ v : Fin 2048, x (ix2 v r) * y (ix2 v q) := by
  pointwise [k0_pay3]

/-- The first of two points of a block leaves its products. -/
theorem first (c : Dev nD) (t : Fin cfg0.N) (h : t.val % 2 = 0) :
    (outsAt0 m c t.val t.isLt).2 = k0_pay1 (iblk m c 0 t) (iblk m c 1 t) := by
  refine (congrArg Prod.snd (outsAt0_A m c t h (by omega))).trans ?_
  dsimp only
  generalize iblk m c 0 t = x
  generalize iblk m c 1 t = y
  unfold sout0_A_0
  rw [View.read_writes_eq_canon _ _ _ (fun z => scover0_A_0 (y := z) ..)]
  unfold kernelRun0_A
  dsimp only
  rw [View.canon_unit_zero hz]
  simp only [View.readAt_eq_ld, Memref.IsWhole.read_unread, View.ld_unit_zero (S := S2048x1024) hz, View.ld_unit_zero (S := S2048x128) hz]

/-- The second writes the sum of both. -/
theorem last (c : Dev nD) (t : Fin cfg0.N) (h : t.val % 2 = 1) :
    (outsAt0 m c t.val t.isLt).1 = k0_pay3 (outsAt0 m c (t.val - 1) (by omega)).2 (iblk m c 0 t) (iblk m c 1 t) := by
  refine (congrArg Prod.fst (outsAt0_B m c t (by omega) h)).trans ?_
  dsimp only
  generalize iblk m c 0 t = x
  generalize iblk m c 1 t = y
  generalize (outsAt0 m c (t.val - 1) _).2 = a
  unfold out0_B_2
  rw [View.read_writes_eq_canon _ _ _ (fun z => cover0_B_2 (y := z) ..)]
  unfold kernelRun0_B
  dsimp only
  rw [View.canon_unit_zero hz]
  simp only [View.readAt_eq_ld, Memref.IsWhole.read_unread, View.ld_unit_zero (S := S128x1024) hz, View.ld_unit_zero (S := S2048x1024) hz, View.ld_unit_zero (S := S2048x128) hz]
  exact congrArg (k0_pay3 · x y) ((Memref.isWhole_whole cc0_scratch0).read_unread a)

/-! ## The blocks -/

theorem place0 : ∀ t : Fin cfg0.N, win0_0.index t = ![t.val % 2, 0] := (by decide +kernel : ∀ t : Fin grid0.N, _)
theorem place1 : ∀ t : Fin cfg0.N, win0_1.index t = ![t.val % 2, t.val / 2 % 2] := (by decide +kernel : ∀ t : Fin grid0.N, _)
theorem place2 : ∀ t : Fin cfg0.N, win0_2.index t = ![0, t.val / 2 % 2] := (by decide +kernel : ∀ t : Fin grid0.N, _)

theorem points (t : Fin cfg0.N) : t.val < 4 := lt_of_lt_of_eq t.isLt N_0

/-- The row factor and the column factor of the product. -/
abbrev a (c : Dev nD) : ℕ → ℕ → EReal := entry fun (i : Fin 128) (p : Fin 4096) => m ((c : Thread nD τ).loc main_arg0) (ix2 p i)
abbrev b (c : Dev nD) : ℕ → ℕ → EReal := entry fun (p : Fin 4096) (j : Fin 2048) => m ((c : Thread nD τ).loc main_arg1) (ix2 p j)

theorem blk0 (c : Dev nD) (t : Fin cfg0.N) (r : Fin 128) (v : Fin 2048) :
    iblk m c 0 t (ix2 v r) = a m c (r.val) (2048 * (t.val % 2) + v.val) := by
  have hp := points t
  have e : ∀ A : Buf (Elt Ideal) ((c : Thread nD τ).loc main_arg0), ((cfg0.win 0).blk t).view.read (Elt Ideal) A (ix2 v r) = A (ix2 ⟨2048 * (t.val % 2) + v.val, by omega⟩ ⟨r.val, by omega⟩) :=
    fun A => by rw [View.read_apply]; show A _ = A _; refine congrArg A ?_; blk_ext [place0]
  refine (e (V m c main_arg0)).trans (Eq.symm ?_)
  exact (entry_eq _ (by omega) (by omega)).trans rfl

theorem blk1 (c : Dev nD) (t : Fin cfg0.N) (v : Fin 2048) (q : Fin 1024) :
    iblk m c 1 t (ix2 v q) = b m c (2048 * (t.val % 2) + v.val) (1024 * (t.val / 2 % 2) + q.val) := by
  have hp := points t
  have e : ∀ A : Buf (Elt Ideal) ((c : Thread nD τ).loc main_arg1), ((cfg0.win 1).blk t).view.read (Elt Ideal) A (ix2 v q) = A (ix2 ⟨2048 * (t.val % 2) + v.val, by omega⟩ ⟨1024 * (t.val / 2 % 2) + q.val, by omega⟩) :=
    fun A => by rw [View.read_apply]; show A _ = A _; refine congrArg A ?_; blk_ext [place1]
  refine (e (V m c main_arg1)).trans (Eq.symm ?_)
  exact (entry_eq _ (by omega) (by omega)).trans rfl

/-! ## The sum -/

/-- The sum of the products of row `i` and column `j` up to position `n`. -/
abbrev sumTo (c : Dev nD) (i j n : ℕ) : EReal := dotTo (fun p => a m c i p) (fun p => b m c p j) n

theorem products (c : Dev nD) (t : Fin cfg0.N) (r : Fin 128) (q : Fin 1024) :
    ∑ v : Fin 2048, (show Vec Ideal S2048x128 .f32 from iblk m c 0 t) (ix2 v r) * (show Vec Ideal S2048x1024 .bf16 from iblk m c 1 t) (ix2 v q)
      = ∑ v : Fin 2048, a m c (r.val) (2048 * (t.val % 2) + v.val) * b m c (2048 * (t.val % 2) + v.val) (1024 * (t.val / 2 % 2) + q.val) :=
  Finset.sum_congr rfl fun v _ => congrArg₂ (· * ·) (blk0 m c t r v) (blk1 m c t v q)

theorem written (c : Dev nD) (t : Fin cfg0.N) (h : t.val % 2 = 1) (r : Fin 128) (q : Fin 1024) :
    (outsAt0 m c t.val t.isLt).1 (ix2 r q) = sumTo m c (r.val) (1024 * (t.val / 2 % 2) + q.val) 4096 :=
  fold (n := 2) (T := 2048) (by omega) (fun t h => (outsAt0 m c t h).2 (ix2 r q)) (fun t h => (outsAt0 m c t h).1 (ix2 r q))
    (fun u p => a m c (r.val) p) (fun u p => b m c p (1024 * (u % 2) + q.val))
    (fun t h h0 => (congrFun (first m c ⟨t, h⟩ h0) _).trans ((pay1 _ _ r q).trans (products m c ⟨t, h⟩ r q)))
    (fun t h h0 h1 => absurd h1 (by omega))
    (fun t h h0 => (congrFun (last m c ⟨t, h⟩ (Nat.succ_injective h0)) _).trans ((pay3 _ _ _ r q).trans (congrArg (_ + ·) (products m c ⟨t, h⟩ r q))))
    t.val t.isLt (by omega)

/-- The result, entry by entry. -/
theorem result (c : Dev nD) (i : Fin 128) (j : Fin 2048) :
    (dats m 0 c).arrAt 2 cfg0.N (ix2 i j) = sumTo m c i.val j.val 4096 := by
  refine (dats m 0 c).arrAt_forall_of_covers 2 (fun i v => v = sumTo m c (i (0 : Fin 2)).val (i (1 : Fin 2)).val 4096) (by decide +kernel) (fun t hf y => ?_) (ix2 i j)
  blk_simp [place2]
  rw [after0_2]
  refine (congrArg _ (eq_ix2 y)).trans ((written m c t ((flush0_2 t).mp hf) (y (0 : Fin 2)) (y (1 : Fin 2))).trans ?_)
  rw [Nat.mul_comm 1024]

/-! ## The reference -/

open Cert.ProjSmallDwReferenceIdeal.Read in
theorem reference (x : Vec Ideal S4096x128 .f32) (y : Vec Ideal S4096x2048 .bf16) (i : Fin 128) (j : Fin 2048) :
    val_main_v7 (F := Ideal) x y (ix2 i j) = ∑ p : Fin 4096, x (ix2 p i) * y (ix2 p j) := by
  pointwise [val_main_v7, val_main_v6, val_main_v5, val_main_v4, val_main_v3, val_main_v2, val_main_v1, val_main_v0, val_main_cst]

theorem total (c : Dev nD) (i : Fin 128) (j : Fin 2048) : sumTo m c i.val j.val 4096
    = Cert.ProjSmallDwReferenceIdeal.Read.val_main_v7 (F := Ideal) (m ((c : Thread nD τ).loc main_arg0)) (m ((c : Thread nD τ).loc main_arg1)) (ix2 i j) := by
  rw [reference, sumTo, dotTo_fin]
  exact Finset.sum_congr rfl fun p _ => congrArg₂ (· * ·) (entry_eq _ i.isLt p.isLt) (entry_eq _ p.isLt j.isLt)

variable (ρ : Dev nD → PrngReg)

theorem run_values : θ_run defs (onTc (τ := τ) (main (F := Ideal))) ⟨m, fun _ => 0, ρ⟩ (fun r => ∀ c : Dev nD,
    r.2.mem ((c : Thread nD τ).loc main_v0) = Cert.ProjSmallDwReferenceIdeal.Read.val_main_v7 (F := Ideal) (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1)) :=
  (θ_run defs _ _).mono (fun _ h c => ⟨((h c).1 2).trans (funext fun i => by
      rw [eq_ix2 i]; exact (result m c _ _).trans (total m c _ _)),
    ((h c).1 0).trans ((dats m 0 c).arrAt_in 0 rfl _), ((h c).1 1).trans ((dats m 0 c).arrAt_in 1 rfl _)⟩)
    (run_main m ρ)

/-- The call computes what the reference computes. -/
theorem agree : Cert.algebraic_ProjSmallDwIdeal_ProjSmallDwReferenceIdeal := by
  pair_intro
  · run_from run_values m g
  · run_from Cert.ProjSmallDwReferenceIdeal.Value.run (F := Ideal) m' g'
    exact Cert.ProjSmallDwReferenceIdeal.Read.val_main_v7_eq _ _

theorem frame_reference : Cert.quiescent_ProjSmallDwReferenceIdeal := fun m ρ _ =>
  (θ_run Cert.ProjSmallDwReferenceIdeal.defs _ _).mono (fun r h => ⟨fun c => (h c).2, Idealize.ShloMosaic.sem_eq_zero_of_no_sems (by decide) r.2⟩)
    (Cert.ProjSmallDwReferenceIdeal.Value.run (F := Ideal) m ρ)

end Cert.ProjSmallDwIdeal.Products
end
-- ==== Proof.Products.Rows.lean ====
/- What the calls between the products compute of one row. -/
module

public import Idealize.ShloMosaic.PureOps.Ideal

@[expose] public section

noncomputable section

namespace Cert.Products

open Idealize.ShloMosaic

/-- The reciprocal root of the mean square of a row of 2048 numbers; 0x45000000 is the number of them, 0x358637BD the small number added. -/
def invRms (x : Fin 2048 → EReal) : EReal :=
  Ideal.rsqrt (Ideal.div (∑ v, x v * x v) (Ideal.ofBits .f32 0x45000000#32) + Ideal.ofBits .f32 0x358637BD#32)

/-- A row divided by its root mean square, with the gain `g`. -/
def normed (x g : Fin 2048 → EReal) (q : Fin 2048) : EReal := x q * invRms x * g q

/-- The same, scaled by one more than `s` and shifted by `h`. -/
def modulated (x g s h : Fin 2048 → EReal) (q : Fin 2048) : EReal := normed x g q * (1 + s q) + h q

/-- The row `x` with the normed row of `y`, gated by `a`. -/
def joined (x y a g : Fin 2048 → EReal) (q : Fin 2048) : EReal := x q + a q * normed y g q

end Cert.Products
end
-- ==== Proof.Products.Premix.lean ====
/- The normalisation before the first products. -/
module

public import proofs.«01_k».proof.Defs
public import proofs.«01_k».proof.Proof.Products.Sum
public import proofs.«01_k».proof.Proof.Products.Rows
public import proofs.«01_k».proof.Proof.Gen.PremixIdeal.Frame
public import proofs.«01_k».proof.Proof.Gen.PremixReferenceIdeal
public import proofs.«01_k».proof.Proof.Gen.PremixReferenceIdeal.Run
public import proofs.«01_k».proof.Proof.Gen.PremixReferenceIdeal.Read
public import Idealize.ShloMosaic.Lib.Pipeline.ValueKit
public import Idealize.ShloMosaic.Lib.Pipeline.ValueKit.Geometry
public import Idealize.ShloMosaic.Lib.Pointwise
public import Idealize.ShloMosaic.Lib.Tactic
public import Idealize.ShloMosaic.Lib.Claim
public import Idealize.ShloMosaic.Lib.Quiescent

@[expose] public section

set_option maxRecDepth 16384

noncomputable section

namespace Cert.PremixIdeal.Products

open Idealize.ShloMosaic Idealize.ShloMosaic.TcCoe Idealize.SL.Sem Cert.PremixIdeal Cert.PremixIdeal.Gen Cert.Products

variable (m : (ℓ : Loc nD τ sig) → Buf (Elt Ideal) ℓ)

/-! ## What one point leaves -/

theorem hz : (![0, 0] : Fin 2 → Nat) = fun _ => 0 := funext fun a => by fin_cases a <;> rfl

theorem pay1 (x : Vec Ideal S512x2048 .f32) (g s h : Vec Ideal S1x2048 .f32) (r : Fin 512) (q : Fin 2048) :
    k0_pay1 x g s h (ix2 r q) = modulated (fun v => x (ix2 r v)) (fun v => g (ix2 0 v)) (fun v => s (ix2 0 v)) (fun v => h (ix2 0 v)) q := by
  pointwise [k0_pay1]
  rfl

theorem left (x : Vec Ideal S512x2048 .f32) (g s h : Vec Ideal S1x2048 .f32) : out0_4 x g s h = k0_pay1 x g s h := by
  unfold out0_4
  rw [View.canon_unit_zero hz, View.ld_unit_zero (S := S512x2048) hz, View.ld_unit_zero (S := S1x2048) hz, View.ld_unit_zero (S := S1x2048) hz,
    View.ld_unit_zero (S := S1x2048) hz]

/-! ## The blocks -/

theorem place0 : ∀ t : Fin cfg0.N, win0_0.index t = ![t.val, 0] := (by decide +kernel : ∀ t : Fin grid0.N, _)
theorem place1 : ∀ t : Fin cfg0.N, win0_1.index t = ![0, 0] := (by decide +kernel : ∀ t : Fin grid0.N, _)
theorem place2 : ∀ t : Fin cfg0.N, win0_2.index t = ![0, 0] := (by decide +kernel : ∀ t : Fin grid0.N, _)
theorem place3 : ∀ t : Fin cfg0.N, win0_3.index t = ![0, 0] := (by decide +kernel : ∀ t : Fin grid0.N, _)
theorem place4 : ∀ t : Fin cfg0.N, win0_4.index t = ![t.val, 0] := (by decide +kernel : ∀ t : Fin grid0.N, _)

theorem points (t : Fin cfg0.N) : t.val < 8 := lt_of_lt_of_eq t.isLt N_0

/-- The row of the array that row `r` of a block is. -/
abbrev place (t : Fin cfg0.N) (r : Fin 512) : Fin 4096 := ⟨512 * t.val + r.val, by have := points t; omega⟩

theorem blk0 (c : Dev nD) (t : Fin cfg0.N) (r : Fin 512) (q : Fin 2048) :
    iblk m c 0 t (ix2 r q) = m ((c : Thread nD τ).loc main_arg0) (ix2 (place t r) q) := by
  have hp := points t
  have e : ∀ A : Buf (Elt Ideal) ((c : Thread nD τ).loc main_arg0), ((cfg0.win 0).blk t).view.read (Elt Ideal) A (ix2 r q) = A (ix2 (place t r) q) :=
    fun A => by rw [View.read_apply]; show A _ = A _; refine congrArg A ?_; blk_ext [place0, place]
  exact e (V m c main_arg0)

theorem blk1 (c : Dev nD) (t : Fin cfg0.N) (q : Fin 2048) :
    iblk m c 1 t (ix2 0 q) = m ((c : Thread nD τ).loc main_arg1) (ix2 0 q) := by
  have e : ∀ A : Buf (Elt Ideal) ((c : Thread nD τ).loc main_arg1), ((cfg0.win 1).blk t).view.read (Elt Ideal) A (ix2 0 q) = A (ix2 0 q) :=
    fun A => by rw [View.read_apply]; show A _ = A _; refine congrArg A ?_; blk_ext [place1]
  exact e (V m c main_arg1)

theorem blk2 (c : Dev nD) (t : Fin cfg0.N) (q : Fin 2048) :
    iblk m c 2 t (ix2 0 q) = m ((c : Thread nD τ).loc main_arg2) (ix2 0 q) := by
  have e : ∀ A : Buf (Elt Ideal) ((c : Thread nD τ).loc main_arg2), ((cfg0.win 2).blk t).view.read (Elt Ideal) A (ix2 0 q) = A (ix2 0 q) :=
    fun A => by rw [View.read_apply]; show A _ = A _; refine congrArg A ?_; blk_ext [place2]
  exact e (V m c main_arg2)

theorem blk3 (c : Dev nD) (t : Fin cfg0.N) (q : Fin 2048) :
    iblk m c 3 t (ix2 0 q) = m ((c : Thread nD τ).loc main_arg3) (ix2 0 q) := by
  have e : ∀ A : Buf (Elt Ideal) ((c : Thread nD τ).loc main_arg3), ((cfg0.win 3).blk t).view.read (Elt Ideal) A (ix2 0 q) = A (ix2 0 q) :=
    fun A => by rw [View.read_apply]; show A _ = A _; refine congrArg A ?_; blk_ext [place3]
  exact e (V m c main_arg3)

/-! ## The result -/

/-- The result at a row and a column. -/
abbrev value (c : Dev nD) (i : Fin 4096) (j : Fin 2048) : EReal :=
  modulated (fun v => m ((c : Thread nD τ).loc main_arg0) (ix2 i v)) (fun v => m ((c : Thread nD τ).loc main_arg1) (ix2 0 v))
    (fun v => m ((c : Thread nD τ).loc main_arg2) (ix2 0 v)) (fun v => m ((c : Thread nD τ).loc main_arg3) (ix2 0 v)) j

theorem written (c : Dev nD) (t : Fin cfg0.N) (r : Fin 512) (q : Fin 2048) :
    (dats m 0 c).after 4 t (ix2 r q) = value m c (place t r) q := by
  rw [after0_4, left, pay1]
  exact congr (congr (congr (congr (congrArg modulated (funext fun v => blk0 m c t r v)) (funext fun v => blk1 m c t v)) (funext fun v => blk2 m c t v))
    (funext fun v => blk3 m c t v)) rfl

/-- The result, entry by entry. -/
theorem result (c : Dev nD) (i : Fin 4096) (j : Fin 2048) : (dats m 0 c).arrAt 4 cfg0.N (ix2 i j) = value m c i j := by
  refine ((dats m 0 c).arrAt_forall_of_covers 4 (fun i v => v = entry (value m c) (i (0 : Fin 2)).val (i (1 : Fin 2)).val) (by decide +kernel)
    (fun t hf y => ?_) (ix2 i j)).trans (entry_eq _ i.isLt j.isLt)
  blk_simp [place4]
  refine (congrArg _ (eq_ix2 y)).trans ((written m c t (y (0 : Fin 2)) (y (1 : Fin 2))).trans (Eq.symm ?_))
  rw [Nat.mul_comm _ 512]
  exact entry_eq (value m c) (place t (y (0 : Fin 2))).isLt (y (1 : Fin 2)).isLt

open Cert.PremixReferenceIdeal.Read in
theorem reference (x : Vec Ideal S4096x2048 .f32) (g s h : Vec Ideal S1x2048 .f32) (i : Fin 4096) (j : Fin 2048) :
    val_main_v18 (F := Ideal) x g s h (ix2 i j)
      = modulated (fun v => x (ix2 i v)) (fun v => g (ix2 0 v)) (fun v => s (ix2 0 v)) (fun v => h (ix2 0 v)) j := by
  pointwise [val_main_v18, val_main_v17, val_main_v16, val_main_v15, val_main_v14, val_main_v13, val_main_v12, val_main_cst_2, val_main_v11, val_main_v10, val_main_v9, val_main_v8, val_main_v7, val_main_v6, val_main_v5, val_main_cst_1, val_main_v4, val_main_v3, val_main_cst_0, val_main_v2, val_main_v1, val_main_cst, val_main_v0]
  rfl

theorem total (c : Dev nD) (i : Fin 4096) (j : Fin 2048) : value m c i j
    = Cert.PremixReferenceIdeal.Read.val_main_v18 (F := Ideal) (m ((c : Thread nD τ).loc main_arg0)) (m ((c : Thread nD τ).loc main_arg1)) (m ((c : Thread nD τ).loc main_arg2)) (m ((c : Thread nD τ).loc main_arg3)) (ix2 i j) :=
  (reference _ _ _ _ i j).symm

variable (ρ : Dev nD → PrngReg)

theorem run_values : θ_run defs (onTc (τ := τ) (main (F := Ideal))) ⟨m, fun _ => 0, ρ⟩ (fun r => ∀ c : Dev nD,
    r.2.mem ((c : Thread nD τ).loc main_v0) = Cert.PremixReferenceIdeal.Read.val_main_v18 (F := Ideal) (m ((c : Thread nD τ).loc main_arg0)) (m ((c : Thread nD τ).loc main_arg1)) (m ((c : Thread nD τ).loc main_arg2)) (m ((c : Thread nD τ).loc main_arg3))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)) :=
  (θ_run defs _ _).mono (fun _ h c => ⟨((h c).1 4).trans (funext fun i => by
      rw [eq_ix2 i]; exact (result m c _ _).trans (total m c _ _)),
    ((h c).1 0).trans ((dats m 0 c).arrAt_in 0 rfl _), ((h c).1 1).trans ((dats m 0 c).arrAt_in 1 rfl _), ((h c).1 2).trans ((dats m 0 c).arrAt_in 2 rfl _), ((h c).1 3).trans ((dats m 0 c).arrAt_in 3 rfl _)⟩)
    (run_main m ρ)

/-- The call computes what the reference computes. -/
theorem agree : Cert.algebraic_PremixIdeal_PremixReferenceIdeal := by
  pair_intro
  · run_from run_values m g
  · run_from Cert.PremixReferenceIdeal.Value.run (F := Ideal) m' g'
    exact Cert.PremixReferenceIdeal.Read.val_main_v18_eq _ _ _ _

theorem frame_reference : Cert.quiescent_PremixReferenceIdeal := fun m ρ _ =>
  (θ_run Cert.PremixReferenceIdeal.defs _ _).mono (fun r h => ⟨fun c => (h c).2, Idealize.ShloMosaic.sem_eq_zero_of_no_sems (by decide) r.2⟩)
    (Cert.PremixReferenceIdeal.Value.run (F := Ideal) m ρ)

end Cert.PremixIdeal.Products
end
-- ==== Proof.Products.PostmixPremlp.lean ====
/- The normalisations between the mixer and the feed-forward block. -/
module

public import proofs.«01_k».proof.Defs
public import proofs.«01_k».proof.Proof.Products.Sum
public import proofs.«01_k».proof.Proof.Products.Rows
public import proofs.«01_k».proof.Proof.Gen.PostmixPremlpIdeal.Frame
public import proofs.«01_k».proof.Proof.Gen.PostmixPremlpReferenceIdeal
public import proofs.«01_k».proof.Proof.Gen.PostmixPremlpReferenceIdeal.Run
public import proofs.«01_k».proof.Proof.Gen.PostmixPremlpReferenceIdeal.Read
public import Idealize.ShloMosaic.Lib.Pipeline.ValueKit
public import Idealize.ShloMosaic.Lib.Pipeline.ValueKit.Geometry
public import Idealize.ShloMosaic.Lib.Pointwise
public import Idealize.ShloMosaic.Lib.Tactic
public import Idealize.ShloMosaic.Lib.Claim
public import Idealize.ShloMosaic.Lib.Quiescent

@[expose] public section

set_option maxRecDepth 16384

noncomputable section

namespace Cert.PostmixPremlpIdeal.Products

open Idealize.ShloMosaic Idealize.ShloMosaic.TcCoe Idealize.SL.Sem Cert.PostmixPremlpIdeal Cert.PostmixPremlpIdeal.Gen Cert.Products

variable (m : (ℓ : Loc nD τ sig) → Buf (Elt Ideal) ℓ)

/-! ## What one point leaves -/

theorem hz : (![0, 0] : Fin 2 → Nat) = fun _ => 0 := funext fun a => by fin_cases a <;> rfl

theorem pay_at7 (x : Vec Ideal S512x2048 .f32) (y : Vec Ideal S512x2048 .bf16) (a g : Vec Ideal S1x2048 .f32) (r : Fin 512) (q : Fin 2048) :
    k0_pay2 y x a g (ix2 r q) = joined (fun v => x (ix2 r v)) (fun v => y (ix2 r v)) (fun v => a (ix2 0 v)) (fun v => g (ix2 0 v)) q := by
  pointwise [k0_pay2]
  rfl

theorem pay_at8 (x : Vec Ideal S512x2048 .f32) (y : Vec Ideal S512x2048 .bf16) (a g k s h : Vec Ideal S1x2048 .f32) (r : Fin 512) (q : Fin 2048) :
    k0_pay1 (k0_pay3 y x a g k) (k0_pay4 s) h (ix2 r q)
      = modulated (joined (fun v => x (ix2 r v)) (fun v => y (ix2 r v)) (fun v => a (ix2 0 v)) (fun v => g (ix2 0 v))) (fun v => k (ix2 0 v)) (fun v => s (ix2 0 v)) (fun v => h (ix2 0 v)) q := by
  pointwise [k0_pay1, k0_pay3, k0_pay4]
  simp only [pay_at7]
  rfl

theorem left7 (x : Vec Ideal S512x2048 .f32) (y : Vec Ideal S512x2048 .bf16) (a : Vec Ideal S1x2048 .f32) (g : Vec Ideal S1x2048 .f32) (k : Vec Ideal S1x2048 .f32) (s : Vec Ideal S1x2048 .f32) (h : Vec Ideal S1x2048 .f32) : out0_7 x y a g k s h = k0_pay2 y x a g := by
  unfold out0_7
  rw [View.canon_unit_zero hz]
  simp only [View.ld_unit_zero (S := S512x2048) hz, View.ld_unit_zero (S := S1x2048) hz]

theorem left8 (x : Vec Ideal S512x2048 .f32) (y : Vec Ideal S512x2048 .bf16) (a : Vec Ideal S1x2048 .f32) (g : Vec Ideal S1x2048 .f32) (k : Vec Ideal S1x2048 .f32) (s : Vec Ideal S1x2048 .f32) (h : Vec Ideal S1x2048 .f32) : out0_8 x y a g k s h = k0_pay1 (k0_pay3 y x a g k) (k0_pay4 s) h := by
  unfold out0_8
  rw [View.canon_unit_zero hz]
  simp only [View.ld_unit_zero (S := S512x2048) hz, View.ld_unit_zero (S := S1x2048) hz]

/-! ## The blocks -/

theorem place0 : ∀ t : Fin cfg0.N, win0_0.index t = ![t.val, 0] := (by decide +kernel : ∀ t : Fin grid0.N, _)
theorem place1 : ∀ t : Fin cfg0.N, win0_1.index t = ![t.val, 0] := (by decide +kernel : ∀ t : Fin grid0.N, _)
theorem place2 : ∀ t : Fin cfg0.N, win0_2.index t = ![0, 0] := (by decide +kernel : ∀ t : Fin grid0.N, _)
theorem place3 : ∀ t : Fin cfg0.N, win0_3.index t = ![0, 0] := (by decide +kernel : ∀ t : Fin grid0.N, _)
theorem place4 : ∀ t : Fin cfg0.N, win0_4.index t = ![0, 0] := (by decide +kernel : ∀ t : Fin grid0.N, _)
theorem place5 : ∀ t : Fin cfg0.N, win0_5.index t = ![0, 0] := (by decide +kernel : ∀ t : Fin grid0.N, _)
theorem place6 : ∀ t : Fin cfg0.N, win0_6.index t = ![0, 0] := (by decide +kernel : ∀ t : Fin grid0.N, _)
theorem place7 : ∀ t : Fin cfg0.N, win0_7.index t = ![t.val, 0] := (by decide +kernel : ∀ t : Fin grid0.N, _)
theorem place8 : ∀ t : Fin cfg0.N, win0_8.index t = ![t.val, 0] := (by decide +kernel : ∀ t : Fin grid0.N, _)

theorem points (t : Fin cfg0.N) : t.val < 8 := lt_of_lt_of_eq t.isLt N_0

/-- The row of the array that row `r` of a block is. -/
abbrev place (t : Fin cfg0.N) (r : Fin 512) : Fin 4096 := ⟨512 * t.val + r.val, by have := points t; omega⟩

theorem blk0 (c : Dev nD) (t : Fin cfg0.N) (r : Fin 512) (q : Fin 2048) :
    iblk m c 0 t (ix2 r q) = m ((c : Thread nD τ).loc main_arg0) (ix2 (place t r) q) := by
  have hp := points t
  have e : ∀ A : Buf (Elt Ideal) ((c : Thread nD τ).loc main_arg0), ((cfg0.win 0).blk t).view.read (Elt Ideal) A (ix2 r q) = A (ix2 (place t r) q) :=
    fun A => by rw [View.read_apply]; show A _ = A _; refine congrArg A ?_; blk_ext [place0, place]
  exact e (V m c main_arg0)

theorem blk1 (c : Dev nD) (t : Fin cfg0.N) (r : Fin 512) (q : Fin 2048) :
    iblk m c 1 t (ix2 r q) = m ((c : Thread nD τ).loc main_arg1) (ix2 (place t r) q) := by
  have hp := points t
  have e : ∀ A : Buf (Elt Ideal) ((c : Thread nD τ).loc main_arg1), ((cfg0.win 1).blk t).view.read (Elt Ideal) A (ix2 r q) = A (ix2 (place t r) q) :=
    fun A => by rw [View.read_apply]; show A _ = A _; refine congrArg A ?_; blk_ext [place1, place]
  exact e (V m c main_arg1)

theorem blk2 (c : Dev nD) (t : Fin cfg0.N) (q : Fin 2048) :
    iblk m c 2 t (ix2 0 q) = m ((c : Thread nD τ).loc main_arg2) (ix2 0 q) := by
  have e : ∀ A : Buf (Elt Ideal) ((c : Thread nD τ).loc main_arg2), ((cfg0.win 2).blk t).view.read (Elt Ideal) A (ix2 0 q) = A (ix2 0 q) :=
    fun A => by rw [View.read_apply]; show A _ = A _; refine congrArg A ?_; blk_ext [place2]
  exact e (V m c main_arg2)

theorem blk3 (c : Dev nD) (t : Fin cfg0.N) (q : Fin 2048) :
    iblk m c 3 t (ix2 0 q) = m ((c : Thread nD τ).loc main_arg3) (ix2 0 q) := by
  have e : ∀ A : Buf (Elt Ideal) ((c : Thread nD τ).loc main_arg3), ((cfg0.win 3).blk t).view.read (Elt Ideal) A (ix2 0 q) = A (ix2 0 q) :=
    fun A => by rw [View.read_apply]; show A _ = A _; refine congrArg A ?_; blk_ext [place3]
  exact e (V m c main_arg3)

theorem blk4 (c : Dev nD) (t : Fin cfg0.N) (q : Fin 2048) :
    iblk m c 4 t (ix2 0 q) = m ((c : Thread nD τ).loc main_arg4) (ix2 0 q) := by
  have e : ∀ A : Buf (Elt Ideal) ((c : Thread nD τ).loc main_arg4), ((cfg0.win 4).blk t).view.read (Elt Ideal) A (ix2 0 q) = A (ix2 0 q) :=
    fun A => by rw [View.read_apply]; show A _ = A _; refine congrArg A ?_; blk_ext [place4]
  exact e (V m c main_arg4)

theorem blk5 (c : Dev nD) (t : Fin cfg0.N) (q : Fin 2048) :
    iblk m c 5 t (ix2 0 q) = m ((c : Thread nD τ).loc main_arg5) (ix2 0 q) := by
  have e : ∀ A : Buf (Elt Ideal) ((c : Thread nD τ).loc main_arg5), ((cfg0.win 5).blk t).view.read (Elt Ideal) A (ix2 0 q) = A (ix2 0 q) :=
    fun A => by rw [View.read_apply]; show A _ = A _; refine congrArg A ?_; blk_ext [place5]
  exact e (V m c main_arg5)

theorem blk6 (c : Dev nD) (t : Fin cfg0.N) (q : Fin 2048) :
    iblk m c 6 t (ix2 0 q) = m ((c : Thread nD τ).loc main_arg6) (ix2 0 q) := by
  have e : ∀ A : Buf (Elt Ideal) ((c : Thread nD τ).loc main_arg6), ((cfg0.win 6).blk t).view.read (Elt Ideal) A (ix2 0 q) = A (ix2 0 q) :=
    fun A => by rw [View.read_apply]; show A _ = A _; refine congrArg A ?_; blk_ext [place6]
  exact e (V m c main_arg6)

/-! ## The result -/

abbrev value7 (c : Dev nD) (i : Fin 4096) (j : Fin 2048) : EReal :=
  joined (fun v => m ((c : Thread nD τ).loc main_arg0) (ix2 i v)) (fun v => m ((c : Thread nD τ).loc main_arg1) (ix2 i v)) (fun v => m ((c : Thread nD τ).loc main_arg2) (ix2 0 v)) (fun v => m ((c : Thread nD τ).loc main_arg3) (ix2 0 v)) j

theorem written7 (c : Dev nD) (t : Fin cfg0.N) (r : Fin 512) (q : Fin 2048) : (dats m 0 c).after 7 t (ix2 r q) = value7 m c (place t r) q := by
  rw [after0_7, left7, pay_at7]
  have e0 : (fun v => (show Vec Ideal S512x2048 .f32 from iblk m c 0 t) (ix2 r v)) = (fun v => m ((c : Thread nD τ).loc main_arg0) (ix2 (place t r) v)) := funext fun v => blk0 m c t r v
  have e1 : (fun v => (show Vec Ideal S512x2048 .bf16 from iblk m c 1 t) (ix2 r v)) = (fun v => m ((c : Thread nD τ).loc main_arg1) (ix2 (place t r) v)) := funext fun v => blk1 m c t r v
  have e2 : (fun v => (show Vec Ideal S1x2048 .f32 from iblk m c 2 t) (ix2 0 v)) = (fun v => m ((c : Thread nD τ).loc main_arg2) (ix2 0 v)) := funext fun v => blk2 m c t v
  have e3 : (fun v => (show Vec Ideal S1x2048 .f32 from iblk m c 3 t) (ix2 0 v)) = (fun v => m ((c : Thread nD τ).loc main_arg3) (ix2 0 v)) := funext fun v => blk3 m c t v
  show joined (fun v => (show Vec Ideal S512x2048 .f32 from iblk m c 0 t) (ix2 r v)) (fun v => (show Vec Ideal S512x2048 .bf16 from iblk m c 1 t) (ix2 r v)) (fun v => (show Vec Ideal S1x2048 .f32 from iblk m c 2 t) (ix2 0 v)) (fun v => (show Vec Ideal S1x2048 .f32 from iblk m c 3 t) (ix2 0 v)) q = _
  rw [e0, e1, e2, e3]

theorem result7 (c : Dev nD) (i : Fin 4096) (j : Fin 2048) : (dats m 0 c).arrAt 7 cfg0.N (ix2 i j) = value7 m c i j := by
  refine ((dats m 0 c).arrAt_forall_of_covers 7 (fun i v => v = entry (value7 m c) (i (0 : Fin 2)).val (i (1 : Fin 2)).val) (by decide +kernel)
    (fun t hf y => ?_) (ix2 i j)).trans (entry_eq _ i.isLt j.isLt)
  blk_simp [place7]
  refine (congrArg _ (eq_ix2 y)).trans ((written7 m c t (y (0 : Fin 2)) (y (1 : Fin 2))).trans (Eq.symm ?_))
  rw [Nat.mul_comm _ 512]
  exact entry_eq (value7 m c) (place t (y (0 : Fin 2))).isLt (y (1 : Fin 2)).isLt

open Cert.PostmixPremlpReferenceIdeal.Read in
theorem reference7 (x : Vec Ideal S4096x2048 .f32) (y : Vec Ideal S4096x2048 .bf16) (a : Vec Ideal S1x2048 .f32) (g : Vec Ideal S1x2048 .f32) (i : Fin 4096) (j : Fin 2048) :
    val_main_v15 (F := Ideal) x y a g (ix2 i j) = joined (fun v => x (ix2 i v)) (fun v => y (ix2 i v)) (fun v => a (ix2 0 v)) (fun v => g (ix2 0 v)) j := by
  pointwise [val_main_v34, val_main_v33, val_main_v32, val_main_v31, val_main_v30, val_main_v29, val_main_v28, val_main_cst_5, val_main_v27, val_main_v26, val_main_v25, val_main_v24, val_main_v23, val_main_v22, val_main_v21, val_main_cst_4, val_main_v20, val_main_v19, val_main_cst_3, val_main_v18, val_main_v17, val_main_cst_2, val_main_v16, val_main_v15, val_main_v14, val_main_v13, val_main_v12, val_main_v11, val_main_v10, val_main_v9, val_main_v8, val_main_v7, val_main_v6, val_main_cst_1, val_main_v5, val_main_v4, val_main_cst_0, val_main_v3, val_main_v2, val_main_cst, val_main_v1, val_main_v0]
  rfl

theorem total7 (c : Dev nD) (i : Fin 4096) (j : Fin 2048) : value7 m c i j
    = Cert.PostmixPremlpReferenceIdeal.Read.val_main_v15 (F := Ideal) (m ((c : Thread nD τ).loc main_arg0)) (m ((c : Thread nD τ).loc main_arg1)) (m ((c : Thread nD τ).loc main_arg2)) (m ((c : Thread nD τ).loc main_arg3)) (ix2 i j) :=
  (reference7 _ _ _ _ i j).symm

abbrev value8 (c : Dev nD) (i : Fin 4096) (j : Fin 2048) : EReal :=
  modulated (joined (fun v => m ((c : Thread nD τ).loc main_arg0) (ix2 i v)) (fun v => m ((c : Thread nD τ).loc main_arg1) (ix2 i v)) (fun v => m ((c : Thread nD τ).loc main_arg2) (ix2 0 v)) (fun v => m ((c : Thread nD τ).loc main_arg3) (ix2 0 v))) (fun v => m ((c : Thread nD τ).loc main_arg4) (ix2 0 v)) (fun v => m ((c : Thread nD τ).loc main_arg5) (ix2 0 v)) (fun v => m ((c : Thread nD τ).loc main_arg6) (ix2 0 v)) j

theorem written8 (c : Dev nD) (t : Fin cfg0.N) (r : Fin 512) (q : Fin 2048) : (dats m 0 c).after 8 t (ix2 r q) = value8 m c (place t r) q := by
  rw [after0_8, left8, pay_at8]
  have e0 : (fun v => (show Vec Ideal S512x2048 .f32 from iblk m c 0 t) (ix2 r v)) = (fun v => m ((c : Thread nD τ).loc main_arg0) (ix2 (place t r) v)) := funext fun v => blk0 m c t r v
  have e1 : (fun v => (show Vec Ideal S512x2048 .bf16 from iblk m c 1 t) (ix2 r v)) = (fun v => m ((c : Thread nD τ).loc main_arg1) (ix2 (place t r) v)) := funext fun v => blk1 m c t r v
  have e2 : (fun v => (show Vec Ideal S1x2048 .f32 from iblk m c 2 t) (ix2 0 v)) = (fun v => m ((c : Thread nD τ).loc main_arg2) (ix2 0 v)) := funext fun v => blk2 m c t v
  have e3 : (fun v => (show Vec Ideal S1x2048 .f32 from iblk m c 3 t) (ix2 0 v)) = (fun v => m ((c : Thread nD τ).loc main_arg3) (ix2 0 v)) := funext fun v => blk3 m c t v
  have e4 : (fun v => (show Vec Ideal S1x2048 .f32 from iblk m c 4 t) (ix2 0 v)) = (fun v => m ((c : Thread nD τ).loc main_arg4) (ix2 0 v)) := funext fun v => blk4 m c t v
  have e5 : (fun v => (show Vec Ideal S1x2048 .f32 from iblk m c 5 t) (ix2 0 v)) = (fun v => m ((c : Thread nD τ).loc main_arg5) (ix2 0 v)) := funext fun v => blk5 m c t v
  have e6 : (fun v => (show Vec Ideal S1x2048 .f32 from iblk m c 6 t) (ix2 0 v)) = (fun v => m ((c : Thread nD τ).loc main_arg6) (ix2 0 v)) := funext fun v => blk6 m c t v
  show modulated (joined (fun v => (show Vec Ideal S512x2048 .f32 from iblk m c 0 t) (ix2 r v)) (fun v => (show Vec Ideal S512x2048 .bf16 from iblk m c 1 t) (ix2 r v)) (fun v => (show Vec Ideal S1x2048 .f32 from iblk m c 2 t) (ix2 0 v)) (fun v => (show Vec Ideal S1x2048 .f32 from iblk m c 3 t) (ix2 0 v))) (fun v => (show Vec Ideal S1x2048 .f32 from iblk m c 4 t) (ix2 0 v)) (fun v => (show Vec Ideal S1x2048 .f32 from iblk m c 5 t) (ix2 0 v)) (fun v => (show Vec Ideal S1x2048 .f32 from iblk m c 6 t) (ix2 0 v)) q = _
  rw [e0, e1, e2, e3, e4, e5, e6]

theorem result8 (c : Dev nD) (i : Fin 4096) (j : Fin 2048) : (dats m 0 c).arrAt 8 cfg0.N (ix2 i j) = value8 m c i j := by
  refine ((dats m 0 c).arrAt_forall_of_covers 8 (fun i v => v = entry (value8 m c) (i (0 : Fin 2)).val (i (1 : Fin 2)).val) (by decide +kernel)
    (fun t hf y => ?_) (ix2 i j)).trans (entry_eq _ i.isLt j.isLt)
  blk_simp [place8]
  refine (congrArg _ (eq_ix2 y)).trans ((written8 m c t (y (0 : Fin 2)) (y (1 : Fin 2))).trans (Eq.symm ?_))
  rw [Nat.mul_comm _ 512]
  exact entry_eq (value8 m c) (place t (y (0 : Fin 2))).isLt (y (1 : Fin 2)).isLt

open Cert.PostmixPremlpReferenceIdeal.Read in
theorem reference8 (x : Vec Ideal S4096x2048 .f32) (y : Vec Ideal S4096x2048 .bf16) (a : Vec Ideal S1x2048 .f32) (g : Vec Ideal S1x2048 .f32) (k : Vec Ideal S1x2048 .f32) (s : Vec Ideal S1x2048 .f32) (h : Vec Ideal S1x2048 .f32) (i : Fin 4096) (j : Fin 2048) :
    val_main_v34 (F := Ideal) x y a g k s h (ix2 i j) = modulated (joined (fun v => x (ix2 i v)) (fun v => y (ix2 i v)) (fun v => a (ix2 0 v)) (fun v => g (ix2 0 v))) (fun v => k (ix2 0 v)) (fun v => s (ix2 0 v)) (fun v => h (ix2 0 v)) j := by
  pointwise [val_main_v34, val_main_v33, val_main_v32, val_main_v31, val_main_v30, val_main_v29, val_main_v28, val_main_cst_5, val_main_v27, val_main_v26, val_main_v25, val_main_v24, val_main_v23, val_main_v22, val_main_v21, val_main_cst_4, val_main_v20, val_main_v19, val_main_cst_3, val_main_v18, val_main_v17, val_main_cst_2, val_main_v16, val_main_v15, val_main_v14, val_main_v13, val_main_v12, val_main_v11, val_main_v10, val_main_v9, val_main_v8, val_main_v7, val_main_v6, val_main_cst_1, val_main_v5, val_main_v4, val_main_cst_0, val_main_v3, val_main_v2, val_main_cst, val_main_v1, val_main_v0]
  rfl

theorem total8 (c : Dev nD) (i : Fin 4096) (j : Fin 2048) : value8 m c i j
    = Cert.PostmixPremlpReferenceIdeal.Read.val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 i j) :=
  (reference8 _ _ _ _ _ _ _ i j).symm

variable (ρ : Dev nD → PrngReg)

theorem run_values : θ_run defs (onTc (τ := τ) (main (F := Ideal))) ⟨m, fun _ => 0, ρ⟩ (fun r => ∀ c : Dev nD,
    r.2.mem ((c : Thread nD τ).loc main_v0_0) = Cert.PostmixPremlpReferenceIdeal.Read.val_main_v15 (F := Ideal) (m ((c : Thread nD τ).loc main_arg0)) (m ((c : Thread nD τ).loc main_arg1)) (m ((c : Thread nD τ).loc main_arg2)) (m ((c : Thread nD τ).loc main_arg3))
    ∧ r.2.mem ((c : Thread nD τ).loc main_v0_1) = Cert.PostmixPremlpReferenceIdeal.Read.val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)) :=
  (θ_run defs _ _).mono (fun _ h c => ⟨((h c).1 7).trans (funext fun i => by
      rw [eq_ix2 i]; exact (result7 m c _ _).trans (total7 m c _ _)),
    ((h c).1 8).trans (funext fun i => by
      rw [eq_ix2 i]; exact (result8 m c _ _).trans (total8 m c _ _)),
    ((h c).1 0).trans ((dats m 0 c).arrAt_in 0 rfl _), ((h c).1 1).trans ((dats m 0 c).arrAt_in 1 rfl _), ((h c).1 2).trans ((dats m 0 c).arrAt_in 2 rfl _), ((h c).1 3).trans ((dats m 0 c).arrAt_in 3 rfl _), ((h c).1 4).trans ((dats m 0 c).arrAt_in 4 rfl _), ((h c).1 5).trans ((dats m 0 c).arrAt_in 5 rfl _), ((h c).1 6).trans ((dats m 0 c).arrAt_in 6 rfl _)⟩)
    (run_main m ρ)

/-- The call computes what the reference computes. -/
theorem agree : Cert.algebraic_PostmixPremlpIdeal_PostmixPremlpReferenceIdeal := by
  pair_intro
  · run_from run_values m g
  · run_from Cert.PostmixPremlpReferenceIdeal.Value.run (F := Ideal) m' g'
    · exact Cert.PostmixPremlpReferenceIdeal.Read.val_main_v15_eq _ _ _ _
    · exact Cert.PostmixPremlpReferenceIdeal.Read.val_main_v34_eq _ _ _ _ _ _ _

theorem frame_reference : Cert.quiescent_PostmixPremlpReferenceIdeal := fun m ρ _ =>
  (θ_run Cert.PostmixPremlpReferenceIdeal.defs _ _).mono (fun r h => ⟨fun c => (h c).2.2, Idealize.ShloMosaic.sem_eq_zero_of_no_sems (by decide) r.2⟩)
    (Cert.PostmixPremlpReferenceIdeal.Value.run (F := Ideal) m ρ)

end Cert.PostmixPremlpIdeal.Products
end
-- ==== Proof.FoxFwd.Model.lean ====
/- What a point of the attention's forward call leaves in the staging buffers: running maximum, sum and weighted
   values of its two halves, block of keys by block of keys. -/
module

public import proofs.«01_k».proof.Proof.Gen.FoxFwdIdeal.Frame
public import Idealize.ShloMosaic.Lib.VecWindow

@[expose] public section

set_option maxRecDepth 16384

noncomputable section

namespace Cert.FoxFwdIdeal.Attn

open Idealize.ShloMosaic Cert.FoxFwdIdeal Cert.FoxFwdIdeal.Gen

variable {F : FTy → Type} [FloatOps F] [Named F]

/-- Where block `b` of 1024 keys begins. -/
def at2 (b : Fin 4) : Fin 2 → ℕ := ![1024 * b.val, 0]
/-- Where block `b` of the forget row begins. -/
def at4 (b : Fin 4) : Fin 4 → ℕ := ![0, b.val, 0, 0]
/-- Where half `g` of a block of 1024 rows begins. -/
def half2 (g : Fin 2) : Fin 2 → ℕ := ![512 * g.val, 0]
def half3 (g : Fin 2) : Fin 3 → ℕ := ![0, 512 * g.val, 0]

theorem at2_inb (b : Fin 4) : ∀ a, at2 b a + S1024x128.size a ≤ S4096x128.size a := by revert b; decide
theorem at4_inb (b : Fin 4) : ∀ a, at4 b a + S1x1x1x1024.size a ≤ S1x4x1x1024.size a := by revert b; decide
theorem half2_inb (g : Fin 2) : ∀ a, half2 g a + S512x128.size a ≤ S1024x128.size a := by revert g; decide
theorem half3_inb (g : Fin 2) : ∀ a, half3 g a + S1x512x1.size a ≤ S1x1024x1.size a := by revert g; decide

/-- Block `b` of keys or values. -/
def keys {e : EltTy} (x : Vec F S4096x128 e) (b : Fin 4) : Vec F S1024x128 e := VecWindow.window x (at2 b) S1024x128.size (at2_inb b)
/-- Block `b` of the forget row. -/
def forget (x : Vec F S1x4x1x1024 .f32) (b : Fin 4) : Vec F S1x1x1x1024 .f32 := VecWindow.window x (at4 b) S1x1x1x1024.size (at4_inb b)
/-- Half `g` of the queries. -/
def half {e : EltTy} (x : Vec F S1024x128 e) (g : Fin 2) : Vec F S512x128 e := VecWindow.window x (half2 g) S512x128.size (half2_inb g)

/-- Running maximum, sum and weighted values of both halves. -/
abbrev Carry (F : FTy → Type) := FVec F S512x1 .f32 × FVec F S512x1 .f32 × FVec F S512x128 .f32 × FVec F S512x1 .f32 × FVec F S512x1 .f32 × FVec F S512x128 .f32

/-- What a point reads: its block of queries, the head's keys and values and its forget row. -/
structure In (F : FTy → Type) where
  q : Vec F S1024x128 .bf16
  k : Vec F S4096x128 .bf16
  v : Vec F S4096x128 .bf16
  c : Vec F S1x4x1x1024 .f32

/-- Key block `b`, all of it before the rows. -/
def trip (x : In F) (b : Fin 4) (s : Carry F) : Carry F :=
  (k0_pay9 (half x.q 0) s.1 (keys x.k b) (forget x.c b),
    k0_pay12 (half x.q 0) s.1 s.2.1 (keys x.k b) (forget x.c b),
    k0_pay13 (half x.q 0) s.1 s.2.2.1 (keys x.k b) (keys x.v b) (forget x.c b),
    k0_pay31 s.2.2.2.1 (k0_pay15 (half x.q 1) (keys x.k b) (forget x.c b)),
    k0_pay34 s.2.2.2.1 s.2.2.2.2.1 (k0_pay14 (half x.q 1) (keys x.k b) (forget x.c b)) (k0_pay15 (half x.q 1) (keys x.k b) (forget x.c b)),
    k0_pay35 s.2.2.2.1 s.2.2.2.2.2 (keys x.v b) (k0_pay14 (half x.q 1) (keys x.k b) (forget x.c b)) (k0_pay15 (half x.q 1) (keys x.k b) (forget x.c b)))

/-- Block number `n`. -/
def blk (n : ℕ) : Fin 4 := ⟨n % 4, Nat.mod_lt _ (by decide)⟩

/-- The first `n` blocks. -/
def sweep (x : In F) : ℕ → Carry F
  | 0 => (k0_pay25, k0_pay26, k0_pay27, k0_pay28, k0_pay29, k0_pay30)
  | n + 1 => trip x (blk n) (sweep x n)

/-- The logits of the first half's diagonal block. -/
def score0 (x : In F) (b : Fin 4) : FVec F S512x512 .f32 := k0_pay43 (half x.q 0) (keys x.k b) (forget x.c b)
/-- The outputs and row statistics of the first half, after its diagonal block. -/
def out0 (x : In F) (b : Fin 4) (s : Carry F) : Vec F S512x128 .f32 :=
  k0_pay3 (k0_pay49 s.1 s.2.1 (score0 x b) k0_pay44) (k0_pay50 s.1 s.2.2.1 (k0_pay42 (keys x.v b)) (score0 x b) k0_pay44)
def lse0 (x : In F) (b : Fin 4) (s : Carry F) : Vec F S1x512x1 .f32 :=
  k0_pay4 (k0_pay46 s.1 (score0 x b) k0_pay44) (k0_pay49 s.1 s.2.1 (score0 x b) k0_pay44)
/-- The logits, new maximum, and rescaling of the second half's diagonal block. -/
def score1 (x : In F) (b : Fin 4) : FVec F S512x1024 .f32 := k0_pay51 (half x.q 1) (keys x.k b) (k0_pay41 (forget x.c b))
def max1 (x : In F) (b : Fin 4) (s : Carry F) : FVec F S512x1 .f32 := k0_pay52 (half x.q 1) s.2.2.2.1 (keys x.k b) (k0_pay41 (forget x.c b))
def scale1 (x : In F) (b : Fin 4) (s : Carry F) : FVec F S512x1 .f32 := k0_pay53 (half x.q 1) s.2.2.2.1 (keys x.k b) (k0_pay41 (forget x.c b))
def wide1 (x : In F) (b : Fin 4) (s : Carry F) : FVec F S512x1024 .f32 := k0_pay54 (half x.q 1) s.2.2.2.1 (keys x.k b) (k0_pay41 (forget x.c b))
/-- The outputs and row statistics of the second half. -/
def out1 (x : In F) (b : Fin 4) (s : Carry F) : Vec F S512x128 .f32 :=
  k0_pay5 s.2.2.2.2.1 s.2.2.2.2.2 (keys x.v b) (score1 x b) (scale1 x b s) (wide1 x b s)
def lse1 (x : In F) (b : Fin 4) (s : Carry F) : Vec F S1x512x1 .f32 :=
  k0_pay6 s.2.2.2.2.1 (score1 x b) (max1 x b s) (scale1 x b s) (wide1 x b s)

/-! ## The loops and the stores -/

theorem off1 (i : grid0.Coords) (t : Fin (k0_t1_loop i).trips) : k0_off1 i t = at2 (blk t.val) := by revert i; decide +kernel
theorem off2 (i : grid0.Coords) (t : Fin (k0_t1_loop i).trips) : k0_off2 i t = at4 (blk t.val) := by revert i; decide +kernel
theorem off5 (i : grid0.Coords) : k0_off5 i = at2 (blk (i 1).val) := by revert i; decide +kernel
theorem off6 (i : grid0.Coords) : k0_off6 i = at4 (blk (i 1).val) := by revert i; decide +kernel
theorem trips1 (i : grid0.Coords) : (k0_t1_loop i).trips = (i 1).val := by revert i; decide +kernel
theorem trips2 (i : grid0.Coords) : (k0_t2_loop i).trips = 0 := by revert i; decide +kernel

section Windows
variable {κ : Kind} {sp : Space}

theorem readKeys {e : EltTy} (v : View sig κ sp S4096x128 e) (f : v.ty.Contents (Elt F)) {off : Fin 2 → ℕ} {b : Fin 4} (h : off = at2 b)
    (inb : ∀ a, off a + S1024x128.size a ≤ S4096x128.size a) :
    v.readAt (Elt F) (Rect.unit (s := S4096x128) off S1024x128.size inb).toLoadRect f = keys (F := F) (v.read (Elt F) f) b :=
  View.readAt_unit v f inb h (at2_inb b)
theorem readForget (v : View sig κ sp S1x4x1x1024 .f32) (f : v.ty.Contents (Elt F)) {off : Fin 4 → ℕ} {b : Fin 4} (h : off = at4 b)
    (inb : ∀ a, off a + S1x1x1x1024.size a ≤ S1x4x1x1024.size a) :
    v.readAt (Elt F) (Rect.unit (s := S1x4x1x1024) off S1x1x1x1024.size inb).toLoadRect f = forget (F := F) (v.read (Elt F) f) b :=
  View.readAt_unit v f inb h (at4_inb b)
theorem readHalf {e : EltTy} (v : View sig κ sp S1024x128 e) (f : v.ty.Contents (Elt F)) {off : Fin 2 → ℕ} {g : Fin 2} (h : off = half2 g)
    (inb : ∀ a, off a + S512x128.size a ≤ S1024x128.size a) :
    v.readAt (Elt F) (Rect.unit (s := S1024x128) off S512x128.size inb).toLoadRect f = half (F := F) (v.read (Elt F) f) g :=
  View.readAt_unit v f inb h (half2_inb g)
end Windows

section
variable (𝒱 : Variants) (c : Dev nD) (bd : Option 𝒱.V) (i : grid0.Coords)
  (arg2 : Memref sig .tc .vmem S1024x128 .bf16) (harg2 : arg2.IsWhole) (arg3 : Memref sig .tc .vmem S4096x128 .bf16) (harg3 : arg3.IsWhole)
  (arg4 : Memref sig .tc .vmem S4096x128 .bf16) (harg4 : arg4.IsWhole) (arg5 : Memref sig .tc .vmem S1x4x1x1024 .f32) (harg5 : arg5.IsWhole)
  (arg6 : Memref sig .tc .vmem S1024x128 .f32) (harg6 : arg6.IsWhole) (arg7 : Memref sig .tc .vmem S1x1024x1 .f32) (harg7 : arg7.IsWhole)
  (x : In F)

/-- The trips before trip `t`. -/
theorem st_val (t : ℕ) (ht : t ≤ (k0_t1_loop i).trips) :
    st_k0_t1 (F := F) 𝒱 c bd i arg2 harg2 arg3 harg3 arg4 harg4 arg5 harg5 arg6 harg6 arg7 harg7 (half x.q 0) (half x.q 1) (harg3.unread x.k) (harg4.unread x.v) (harg5.unread x.c)
      (k0_pay25, k0_pay26, k0_pay27, k0_pay28, k0_pay29, k0_pay30) t = sweep x t := by
  induction t with
  | zero => rfl
  | succ t ih =>
    refine (st_k0_t1_succ 𝒱 c bd i arg2 harg2 arg3 harg3 arg4 harg4 arg5 harg5 arg6 harg6 arg7 harg7 (half x.q 0) (half x.q 1) _ _ _ _ ⟨t, ht⟩).trans ?_
    rw [ih (by omega)]
    unfold tripR_k0_t1 trip_k0_t1
    dsimp only
    sl_unfold_run_names
    simp only [readKeys _ _ (off1 i ⟨t, ht⟩), readForget _ _ (off2 i ⟨t, ht⟩), Memref.IsWhole.read_unread]
    rfl

/-- All trips of a point. -/
theorem st_all :
    st_k0_t1 (F := F) 𝒱 c bd i arg2 harg2 arg3 harg3 arg4 harg4 arg5 harg5 arg6 harg6 arg7 harg7 (half x.q 0) (half x.q 1) (harg3.unread x.k) (harg4.unread x.v) (harg5.unread x.c)
      (k0_pay25, k0_pay26, k0_pay27, k0_pay28, k0_pay29, k0_pay30) (i 1).val = sweep x (i 1).val :=
  st_val 𝒱 c bd i arg2 harg2 arg3 harg3 arg4 harg4 arg5 harg5 arg6 harg6 arg7 harg7 x _ (trips1 i).symm.le

theorem half2_0 : (![0, 0] : Fin 2 → ℕ) = half2 0 := by decide
theorem half2_1 : (![512, 0] : Fin 2 → ℕ) = half2 1 := by decide
theorem half3_0 : (![0, 0, 0] : Fin 3 → ℕ) = half3 0 := by decide
theorem half3_1 : (![0, 512, 0] : Fin 3 → ℕ) = half3 1 := by decide
theorem trips1' (i : grid0.Coords) : Scf.trips (0#32) (Scalar.addi (0#32) (Scalar.muli (Scalar.divsi (Scalar.subi (BitVec.ofNat 32 (i 1).val) 0#32) 1#32) 1#32)) 1#32 = (i 1).val := trips1 i
theorem trips2' (i : grid0.Coords) : Scf.trips (Scalar.addi (0#32) (Scalar.muli (Scalar.divsi (Scalar.subi (BitVec.ofNat 32 (i 1).val) 0#32) 1#32) 1#32)) (Scalar.addi (0#32) (Scalar.subi (BitVec.ofNat 32 (i 1).val) 0#32)) 1#32 = 0 := trips2 i

/-- The outputs: the first half's, then the second half's. -/
theorem out_val : ∃ z : Vec F S1024x128 .f32, out0_A_4 c i arg2 harg2 arg3 harg3 arg4 harg4 arg5 harg5 arg6 harg6 arg7 harg7 x.q x.k x.v x.c
    = VecWindow.put (VecWindow.put z (half2 0) S512x128.size (out0 x (blk (i 1).val) (sweep x (i 1).val))) (half2 1) S512x128.size (out1 x (blk (i 1).val) (sweep x (i 1).val)) := by
  refine ⟨VO0_4.read (Elt F) VO0_4.junk, ?_⟩
  unfold out0_A_4 kernelRun0_A
  dsimp only
  sl_unfold_run_names
  simp only [readHalf _ _ half2_0, readHalf _ _ half2_1, Memref.IsWhole.read_unread, trips1', trips2', st_k0_t2.eq_1, st_all,
    readKeys _ _ (off5 i), readForget _ _ (off6 i)]
  rw [View.read_writes_cons_put VO0_4 _ _ _ _ half2_1, View.read_writes_cons_put VO0_4 _ _ _ _ half2_0]
  rfl

/-- The row statistics: the first half's, then the second half's. -/
theorem lse_val : ∃ z : Vec F S1x1024x1 .f32, out0_A_5 c i arg2 harg2 arg3 harg3 arg4 harg4 arg5 harg5 arg6 harg6 arg7 harg7 x.q x.k x.v x.c
    = VecWindow.put (VecWindow.put z (half3 0) S1x512x1.size (lse0 x (blk (i 1).val) (sweep x (i 1).val))) (half3 1) S1x512x1.size (lse1 x (blk (i 1).val) (sweep x (i 1).val)) := by
  refine ⟨VO0_5.read (Elt F) VO0_5.junk, ?_⟩
  unfold out0_A_5 kernelRun0_A
  dsimp only
  sl_unfold_run_names
  simp only [readHalf _ _ half2_0, readHalf _ _ half2_1, Memref.IsWhole.read_unread, trips1', trips2', st_k0_t2.eq_1, st_all,
    readKeys _ _ (off5 i), readForget _ _ (off6 i)]
  rw [View.read_writes_cons_put VO0_5 _ _ _ _ half3_1, View.read_writes_cons_put VO0_5 _ _ _ _ half3_0]
  rfl

end

end Cert.FoxFwdIdeal.Attn
end
-- ==== Proof.FoxFwd.Pay.lean ====
/- The values of the forward call's payloads at an entry: running maximum, rescaled sums, masked logits. -/
module

public import proofs.«01_k».proof.Proof.FoxFwd.Model
public import Idealize.ShloMosaic.Lib.Pointwise

@[expose] public section

set_option maxRecDepth 16384

noncomputable section

namespace Cert.FoxFwdIdeal.Attn

open Idealize.ShloMosaic Cert.FoxFwdIdeal Cert.FoxFwdIdeal.Gen

theorem inf_word : (Ideal.ofBits .f32 2139095040#32 : EReal) = ⊤ := by simp [Ideal.ofBits, Ideal.ieee]
theorem mask_bot : Named.named (F := Ideal) κ "mask" (φ := .f32) 4286578687#32 = (⊥ : EReal) := by
  show (κ "mask").getD _ = _
  rfl

/-- The greatest entry of a row, taken as minus the least of the negatives, and what came before. -/
abbrev upTo {w : ℕ} (a : EReal) (s : Fin w → EReal) : EReal := max a ((0 : EReal) - Finset.fold min (⊤ : EReal) (fun n => (0 : EReal) - s n) Finset.univ)

variable (q : Vec Ideal S512x128 .bf16) (k v : Vec Ideal S1024x128 .bf16) (c : Vec Ideal S1x1x1x1024 .f32)
  (a b : FVec Ideal S512x1 .f32) (d : FVec Ideal S512x128 .f32) (r : Fin 512) (n : Fin 1024) (l : Fin 128)

theorem pay8_apply : k0_pay8 q k c (ix2 r n) = (∑ x, q (ix2 r x) * k (ix2 n x)) * Ideal.ofBits .f32 1035273459#32 - c (ix4 0 0 0 n) := by
  pointwise [k0_pay8, k0_pay7]
theorem pay14_apply : k0_pay14 q k c (ix2 r n) = (∑ x, q (ix2 r x) * k (ix2 n x)) * Ideal.ofBits .f32 1035273459#32 - c (ix4 0 0 0 n) := by
  pointwise [k0_pay14, k0_pay7]

theorem pay9_apply : k0_pay9 q a k c (ix2 r 0) = upTo (a (ix2 r 0)) fun n => k0_pay8 q k c (ix2 r n) := by
  rw [upTo, ← inf_word]; pointwise [k0_pay9]
theorem pay12_apply : k0_pay12 q a b k c (ix2 r 0)
    = Ideal.exp (a (ix2 r 0) - k0_pay9 q a k c (ix2 r 0)) * b (ix2 r 0) + ∑ n, Ideal.exp (k0_pay8 q k c (ix2 r n) - k0_pay9 q a k c (ix2 r 0)) := by
  pointwise [k0_pay12, k0_pay11, k0_pay10]
theorem pay13_apply : k0_pay13 q a d k v c (ix2 r l)
    = Ideal.exp (a (ix2 r 0) - k0_pay9 q a k c (ix2 r 0)) * d (ix2 r l) + ∑ n, Ideal.exp (k0_pay8 q k c (ix2 r n) - k0_pay9 q a k c (ix2 r 0)) * v (ix2 n l) := by
  pointwise [k0_pay13, k0_pay11, k0_pay10]

variable (z z' : FVec Ideal S512x1024 .f32)

theorem pay31_apply : k0_pay31 a (k0_pay15 q k c) (ix2 r 0) = upTo (a (ix2 r 0)) fun n => k0_pay14 q k c (ix2 r n) := by
  rw [upTo, ← inf_word]; pointwise [k0_pay31, k0_pay15]
theorem pay34_apply : k0_pay34 a b z z' (ix2 r 0)
    = Ideal.exp (a (ix2 r 0) - k0_pay31 a z' (ix2 r 0)) * b (ix2 r 0) + ∑ n, Ideal.exp (z (ix2 r n) - k0_pay31 a z' (ix2 r 0)) := by
  pointwise [k0_pay34, k0_pay33, k0_pay32]
theorem pay35_apply : k0_pay35 a d v z z' (ix2 r l)
    = Ideal.exp (a (ix2 r 0) - k0_pay31 a z' (ix2 r 0)) * d (ix2 r l) + ∑ n, Ideal.exp (z (ix2 r n) - k0_pay31 a z' (ix2 r 0)) * v (ix2 n l) := by
  pointwise [k0_pay35, k0_pay33, k0_pay32]

/-! ## The diagonal block -/

variable (o : Fin 512) (y : FVec Ideal S512x512 .f32) (i : IVec S512x512 32) (vh : FVec Ideal S512x128 .bf16)

theorem pay45_apply : k0_pay45 (k0_pay43 q k c) k0_pay44 (ix2 r o)
    = Scalar.select (IntOp.cmpi CmpIPredicate.sge (IntOp.addi (BitVec.ofNat 32 r.val) 0#32) (BitVec.ofNat 32 o.val))
        ((∑ x, q (ix2 r x) * k (ix2 (⟨o.val, by omega⟩ : Fin 1024) x)) * Ideal.ofBits .f32 1035273459#32 - c (ix4 0 0 0 (⟨o.val, by omega⟩ : Fin 1024))) (⊥ : EReal) := by
  rw [← mask_bot]; pointwise [k0_pay45, k0_pay43, k0_pay44, k0_pay41]
theorem pay46_apply : k0_pay46 a y i (ix2 r 0) = upTo (a (ix2 r 0)) fun n => k0_pay45 y i (ix2 r n) := by
  rw [upTo, ← inf_word]; pointwise [k0_pay46]
theorem pay49_apply : k0_pay49 a b y i (ix2 r 0)
    = Ideal.exp (a (ix2 r 0) - k0_pay46 a y i (ix2 r 0)) * b (ix2 r 0) + ∑ n, Ideal.exp (k0_pay45 y i (ix2 r n) - k0_pay46 a y i (ix2 r 0)) := by
  pointwise [k0_pay49, k0_pay48, k0_pay47]
theorem pay50_apply : k0_pay50 a d vh y i (ix2 r l)
    = Ideal.exp (a (ix2 r 0) - k0_pay46 a y i (ix2 r 0)) * d (ix2 r l) + ∑ n, Ideal.exp (k0_pay45 y i (ix2 r n) - k0_pay46 a y i (ix2 r 0)) * vh (ix2 n l) := by
  pointwise [k0_pay50, k0_pay48, k0_pay47]
theorem pay42_apply : k0_pay42 v (ix2 o l) = v (ix2 (⟨o.val, by omega⟩ : Fin 1024) l) := by
  pointwise [k0_pay42]
theorem pay3_apply : k0_pay3 b d (ix2 r l) = Ideal.div (d (ix2 r l)) (b (ix2 r 0)) := by
  pointwise [k0_pay3]
theorem pay4_apply : k0_pay4 a b (ix3 0 r 0) = a (ix2 r 0) + Ideal.log (b (ix2 r 0)) := by
  pointwise [k0_pay4]

theorem pay51_apply : k0_pay51 q k (k0_pay41 c) (ix2 r n)
    = Scalar.select (IntOp.cmpi CmpIPredicate.sge (IntOp.addi (BitVec.ofNat 32 r.val) 512#32) (BitVec.ofNat 32 n.val))
        ((∑ x, q (ix2 r x) * k (ix2 n x)) * Ideal.ofBits .f32 1035273459#32 - c (ix4 0 0 0 n)) (⊥ : EReal) := by
  rw [← mask_bot]; pointwise [k0_pay51, k0_pay41]
variable (e : FVec Ideal S1x1024 .f32)
theorem pay52_apply : k0_pay52 q a k e (ix2 r 0) = upTo (a (ix2 r 0)) fun n => k0_pay51 q k e (ix2 r n) := by
  rw [upTo, ← inf_word]; pointwise [k0_pay52]
theorem pay53_apply : k0_pay53 q a k e (ix2 r 0) = Ideal.exp (a (ix2 r 0) - k0_pay52 q a k e (ix2 r 0)) := by
  pointwise [k0_pay53]
theorem pay54_apply : k0_pay54 q a k e (ix2 r n) = k0_pay52 q a k e (ix2 r 0) := by
  pointwise [k0_pay54]
theorem pay2_apply : k0_pay2 b z a z' (ix2 r 0) = a (ix2 r 0) * b (ix2 r 0) + ∑ n, Ideal.exp (z (ix2 r n) - z' (ix2 r n)) := by
  pointwise [k0_pay2, k0_pay1]
theorem pay5_apply : k0_pay5 b d v z a z' (ix2 r l)
    = Ideal.div (a (ix2 r 0) * d (ix2 r l) + ∑ n, Ideal.exp (z (ix2 r n) - z' (ix2 r n)) * v (ix2 n l)) (k0_pay2 b z a z' (ix2 r 0)) := by
  pointwise [k0_pay5, k0_pay1]
theorem pay6_apply (t : FVec Ideal S512x1 .f32) : k0_pay6 b z t a z' (ix3 0 r 0) = t (ix2 r 0) + Ideal.log (k0_pay2 b z a z' (ix2 r 0)) := by
  pointwise [k0_pay6]

theorem pay25_apply : (k0_pay25 : FVec Ideal S512x1 .f32) (ix2 r 0) = (⊥ : EReal) := mask_bot
theorem pay28_apply : (k0_pay28 : FVec Ideal S512x1 .f32) (ix2 r 0) = (⊥ : EReal) := mask_bot
theorem pay26_apply : (k0_pay26 : FVec Ideal S512x1 .f32) (ix2 r 0) = (0 : EReal) := by pointwise [k0_pay26]
theorem pay27_apply : (k0_pay27 : FVec Ideal S512x128 .f32) (ix2 r l) = (0 : EReal) := by pointwise [k0_pay27]
theorem pay29_apply : (k0_pay29 : FVec Ideal S512x1 .f32) (ix2 r 0) = (0 : EReal) := by pointwise [k0_pay29]
theorem pay30_apply : (k0_pay30 : FVec Ideal S512x128 .f32) (ix2 r l) = (0 : EReal) := by pointwise [k0_pay30]

end Cert.FoxFwdIdeal.Attn
end
-- ==== Proof.FoxFwd.Soft.lean ====
/- The causal softmax taken block of keys by block of keys: running maximum, sum and weighted sum over the extended reals. -/
module

public import proofs.«01_k».proof.Proof.Fox.Softmax

@[expose] public section

noncomputable section

namespace Cert.Fox

open Idealize.ShloMosaic
open Finset (range)

variable {a : ℕ → ℝ} {R N w : ℕ} {u : ℕ → ℝ} {m m' x : EReal}

/-- Of row `R`'s first `N` keys: the running maximum `m`, and the sum `x` of their exponentials less the maximum, weighted by `u`.
    Before the first block the maximum is minus infinity and the sum is nothing. -/
def Held (a : ℕ → ℝ) (R N : ℕ) (m : EReal) (u : ℕ → ℝ) (x : EReal) : Prop :=
  (N = 0 ∧ m = ⊥ ∧ x = 0) ∨ ∃ M : ℝ, m = (M : EReal) ∧ x = ((∑ n ∈ range N, term a M R n * u n : ℝ) : EReal)

theorem zero_sub_masked (a : ℕ → ℝ) (R n : ℕ) : (0 : EReal) - masked a R n = if n ≤ R then ((-a n : ℝ) : EReal) else ⊤ := by
  unfold masked; split
  · exact Cert.KernelIdeal.Fox.zero_sub_coe _
  · simp

/-- The greatest logit of a block the row sees the first key of, as minus the least of their negatives. -/
theorem block_max (hw : 0 < w) (hN : N ≤ R) :
    ∃ M : ℝ, (0 : EReal) - Finset.fold min (⊤ : EReal) (fun k : Fin w => (0 : EReal) - masked a R (N + k.val)) Finset.univ = (M : EReal) := by
  have e : Finset.fold min (⊤ : EReal) (fun k : Fin w => (0 : EReal) - masked a R (N + k.val)) Finset.univ
      = Finset.univ.inf fun k : Fin w => (0 : EReal) - masked a R (N + k.val) := rfl
  rw [e]
  have h1 : (Finset.univ.inf fun k : Fin w => (0 : EReal) - masked a R (N + k.val)) ≠ ⊤ := by
    refine (lt_of_le_of_lt (Finset.inf_le (Finset.mem_univ (⟨0, hw⟩ : Fin w))) ?_).ne
    rw [zero_sub_masked, if_pos (by simpa using hN)]; exact EReal.coe_lt_top _
  have h2 : (Finset.univ.inf fun k : Fin w => (0 : EReal) - masked a R (N + k.val)) ≠ ⊥ := by
    refine ((Finset.lt_inf_iff (by exact bot_lt_top)).mpr fun k _ => ?_).ne'
    rw [zero_sub_masked]; split
    · exact EReal.bot_lt_coe _
    · exact bot_lt_top
  exact ⟨_, by rw [← EReal.coe_toReal h1 h2]; exact Cert.KernelIdeal.Fox.zero_sub_coe _⟩

/-- The exponentials of a block, weighted. -/
theorem block_sum (a : ℕ → ℝ) (R N w : ℕ) (M : ℝ) (u : ℕ → ℝ) :
    ∑ k : Fin w, Ideal.exp (masked a R (N + k.val) - (M : EReal)) * ((u (N + k.val) : ℝ) : EReal)
      = ((∑ k ∈ range w, term a M R (N + k) * u (N + k) : ℝ) : EReal) := by
  simp only [masked_exp]
  exact Cert.KernelIdeal.Fox.coe_sum_mul w (fun k => term a M R (N + k)) fun k => u (N + k)

theorem term_rescale (a : ℕ → ℝ) (M M' : ℝ) (R n : ℕ) : Real.exp (M - M') * term a M R n = term a M' R n := by
  unfold term; split
  · rw [← Real.exp_add]; congr 1; ring
  · rw [mul_zero]

/-- One more block: the maximum grows, the sums are rescaled to it and the block's own are added. -/
theorem Held.step (h : Held a R N m u x) (hw : 0 < w) (hN : N ≤ R)
    (hm : m' = max m ((0 : EReal) - Finset.fold min (⊤ : EReal) (fun k : Fin w => (0 : EReal) - masked a R (N + k.val)) Finset.univ)) :
    Held a R (N + w) m' u (Ideal.exp (m - m') * x
      + ∑ k : Fin w, Ideal.exp (masked a R (N + k.val) - m') * ((u (N + k.val) : ℝ) : EReal)) := by
  obtain ⟨B, hB⟩ := block_max (a := a) hw hN
  rw [hB] at hm
  right
  rcases h with ⟨rfl, rfl, rfl⟩ | ⟨M, rfl, rfl⟩
  · rw [max_eq_right bot_le] at hm
    subst hm
    refine ⟨B, rfl, ?_⟩
    rw [mul_zero, zero_add, block_sum, zero_add]
    simp only [zero_add]
  · rw [← EReal.coe_strictMono.monotone.map_max] at hm
    subst hm
    refine ⟨max M B, rfl, ?_⟩
    rw [block_sum, ← EReal.coe_sub, Ideal.exp_coe, ← EReal.coe_mul, ← EReal.coe_add, Finset.sum_range_add, Finset.mul_sum]
    refine congrArg (fun z : ℝ => ((z + _ : ℝ) : EReal)) (Finset.sum_congr rfl fun n _ => ?_)
    rw [← mul_assoc, term_rescale]

/-- The same for the sum of the exponentials themselves. -/
theorem Held.step_one (h : Held a R N m (fun _ => 1) x) (hw : 0 < w) (hN : N ≤ R)
    (hm : m' = max m ((0 : EReal) - Finset.fold min (⊤ : EReal) (fun k : Fin w => (0 : EReal) - masked a R (N + k.val)) Finset.univ)) :
    Held a R (N + w) m' (fun _ => 1) (Ideal.exp (m - m') * x + ∑ k : Fin w, Ideal.exp (masked a R (N + k.val) - m')) := by
  have e := h.step hw hN hm
  simpa only [EReal.coe_one, mul_one] using e

theorem sum_term (a u : ℕ → ℝ) (M : ℝ) (hR : R < N) (hN : N ≤ 4096) : ∑ n ∈ range N, term a M R n * u n = ∑ n ∈ range 4096, term a M R n * u n := by
  refine Finset.sum_subset (fun n h => by simp at h ⊢; omega) fun n _ h => ?_
  unfold term
  rw [if_neg (by simp at h; omega), zero_mul]

theorem log_total (a : ℕ → ℝ) (M : ℝ) (R : ℕ) : M + Real.log (total a M R) = Real.log (total a 0 R) := by
  rw [total_shift, Real.log_mul (total_pos a 0 R).ne' (Real.exp_pos _).ne', Real.log_exp]; ring

/-- After the row's last block the quotient of the sums is the softmax's mean, and maximum and sum give the row statistic. -/
theorem Held.mean {l : EReal} (h : Held a R N m u x) (hl : Held a R N m (fun _ => 1) l) (hR : R < N) (hN : N ≤ 4096) :
    Ideal.div x l = ((∑ n ∈ range 4096, u n * soft a R n : ℝ) : EReal) := by
  rcases h with ⟨rfl, -, -⟩ | ⟨M, rfl, rfl⟩
  · omega
  rcases hl with ⟨rfl, -, -⟩ | ⟨M', hM, rfl⟩
  · omega
  obtain rfl : M = M' := EReal.coe_injective hM
  rw [sum_term a u M hR hN, sum_term a _ M hR hN]
  simp only [mul_one]
  show Ideal.div _ ((total a M R : ℝ) : EReal) = _
  rw [div_coe _ _ (total_pos a M R).ne', Finset.sum_div]
  refine congrArg _ (Finset.sum_congr rfl fun n _ => ?_)
  rw [← term_div_total a M]; ring
theorem Held.lse {l : EReal} (hl : Held a R N m (fun _ => 1) l) (hR : R < N) (hN : N ≤ 4096) :
    m + Ideal.log l = ((Real.log (total a 0 R) : ℝ) : EReal) := by
  rcases hl with ⟨rfl, -, -⟩ | ⟨M, rfl, rfl⟩
  · omega
  rw [sum_term a _ M hR hN]
  simp only [mul_one]
  show _ + Ideal.log ((total a M R : ℝ) : EReal) = _
  rw [Ideal.log_coe, if_neg (not_le.mpr (total_pos a M R)), ← EReal.coe_add, log_total]

end Cert.Fox
end
-- ==== Proof.FoxFwd.Val.lean ====
/- What one point of the forward call computes over the real numbers: each of its 1024 rows gets the softmax's mean of the
   values of the keys it sees, and the logarithm of its softmax's denominator. -/
module

public import proofs.«01_k».proof.Proof.FoxFwd.Pay
public import proofs.«01_k».proof.Proof.FoxFwd.Soft

@[expose] public section

set_option maxRecDepth 16384

noncomputable section

namespace Cert.FoxFwdIdeal.Attn

open Idealize.ShloMosaic Cert.FoxFwdIdeal Cert.FoxFwdIdeal.Gen Cert.Fox
open Cert.KernelIdeal.Fox (sc sc_eq coe_sum_mul ip nat_sge)
open Finset (range)

/-! ## The windows -/

theorem keys_apply {e : EltTy} (x : Vec Ideal S4096x128 e) (b : Fin 4) (n : Fin 1024) (l : Fin 128) :
    keys x b (ix2 n l) = x (ix2 (⟨1024 * b.val + n.val, by omega⟩ : Fin 4096) l) := by
  unfold keys VecWindow.window
  congr 1; funext a; match a with
  | 0 => exact Fin.ext (show 1024 * b.val + 1 * n.val = 1024 * b.val + n.val by omega)
  | 1 => exact Fin.ext (show 0 + 1 * l.val = l.val by omega)
theorem forget_apply (x : Vec Ideal S1x4x1x1024 .f32) (b : Fin 4) (n : Fin 1024) : forget x b (ix4 0 0 0 n) = x (ix4 0 b 0 n) := by
  unfold forget VecWindow.window
  congr 1; funext a; match a with
  | 0 => rfl
  | 1 => exact Fin.ext (show b.val + 1 * 0 = b.val by omega)
  | 2 => rfl
  | 3 => exact Fin.ext (show 0 + 1 * n.val = n.val by omega)
theorem half_apply {e : EltTy} (x : Vec Ideal S1024x128 e) (g : Fin 2) (r : Fin 512) (l : Fin 128) :
    half x g (ix2 r l) = x (ix2 (⟨512 * g.val + r.val, by omega⟩ : Fin 1024) l) := by
  unfold half VecWindow.window
  congr 1; funext a; match a with
  | 0 => exact Fin.ext (show 512 * g.val + 1 * r.val = 512 * g.val + r.val by omega)
  | 1 => exact Fin.ext (show 0 + 1 * l.val = l.val by omega)

/-! ## The numbers a point works on -/

/-- Queries by row of the block; keys, values and forget row by key. -/
structure Nums where
  q : ℕ → ℕ → ℝ
  k : ℕ → ℕ → ℝ
  v : ℕ → ℕ → ℝ
  c : ℕ → ℝ

/-- The arrays of a point hold these numbers. -/
structure Reads (x : In Ideal) (y : Nums) : Prop where
  q : ∀ (r : Fin 1024) (l : Fin 128), x.q (ix2 r l) = ((y.q r.val l.val : ℝ) : EReal)
  k : ∀ (n : Fin 4096) (l : Fin 128), x.k (ix2 n l) = ((y.k n.val l.val : ℝ) : EReal)
  v : ∀ (n : Fin 4096) (l : Fin 128), x.v (ix2 n l) = ((y.v n.val l.val : ℝ) : EReal)
  c : ∀ (b : Fin 4) (n : Fin 1024), x.c (ix4 0 b 0 n) = ((y.c (1024 * b.val + n.val) : ℝ) : EReal)

/-- The logits of row `r` of the block. -/
def lg (y : Nums) (r n : ℕ) : ℝ := ip y.q y.k r n * sc - y.c n

section
variable {x : In Ideal} {y : Nums} (hx : Reads x y)
include hx

theorem logits (g : Fin 2) (b : Fin 4) (r : Fin 512) (n : Fin 1024) :
    (∑ l, half x.q g (ix2 r l) * keys x.k b (ix2 n l)) * Ideal.ofBits .f32 1035273459#32 - forget x.c b (ix4 0 0 0 n)
      = ((lg y (512 * g.val + r.val) (1024 * b.val + n.val) : ℝ) : EReal) := by
  simp only [half_apply, keys_apply, forget_apply, hx.q, hx.k, hx.c, sc_eq]
  rw [coe_sum_mul 128 (fun l => y.q (512 * g.val + r.val) l) (fun l => y.k (1024 * b.val + n.val) l), ← EReal.coe_mul, ← EReal.coe_sub]
  rfl

variable {i : ℕ}

/-- A block before the rows is seen whole. -/
theorem before0 (b : Fin 4) (hb : b.val < i) (r : Fin 512) (n : Fin 1024) :
    k0_pay8 (half x.q 0) (keys x.k b) (forget x.c b) (ix2 r n) = masked (lg y (512 * (0 : Fin 2).val + r.val)) (1024 * i + r.val) (1024 * b.val + n.val) := by
  rw [pay8_apply, logits hx]; exact (if_pos (by omega)).symm
theorem before1 (b : Fin 4) (hb : b.val < i) (r : Fin 512) (n : Fin 1024) :
    k0_pay14 (half x.q 1) (keys x.k b) (forget x.c b) (ix2 r n) = masked (lg y (512 * (1 : Fin 2).val + r.val)) (1024 * i + 512 + r.val) (1024 * b.val + n.val) := by
  rw [pay14_apply, logits hx]; exact (if_pos (by omega)).symm

omit hx in
theorem select_bot {p : Prop} {w : BitVec 1} (hw : w = 1#1 ↔ p) (a : ℕ → ℝ) (R n : ℕ) (hp : p ↔ n ≤ R) :
    Scalar.select w ((a n : ℝ) : EReal) (⊥ : EReal) = masked a R n := by
  unfold Scalar.select masked
  by_cases h : n ≤ R
  · rw [if_pos h]; simp [hw.mpr (hp.mpr h)]
  · rw [if_neg h]; simp [mt hw.mp (mt hp.mp h)]

/-- The diagonal block's keys after the row are masked. -/
theorem diag0 (b : Fin 4) (r n : Fin 512) :
    k0_pay45 (score0 x b) k0_pay44 (ix2 r n) = masked (lg y (512 * (0 : Fin 2).val + r.val)) (1024 * b.val + r.val) (1024 * b.val + n.val) := by
  unfold score0
  rw [pay45_apply, logits hx 0 b r ⟨n.val, by omega⟩]
  exact select_bot (nat_sge _ _ (by omega) (by omega) _ (BitVec.ofNat_add r.val 0).symm) _ _ _ (by dsimp only; omega)
theorem diag1 (b : Fin 4) (r : Fin 512) (n : Fin 1024) :
    score1 x b (ix2 r n) = masked (lg y (512 * (1 : Fin 2).val + r.val)) (1024 * b.val + 512 + r.val) (1024 * b.val + n.val) := by
  unfold score1
  rw [pay51_apply, logits hx 1 b r n]
  exact select_bot (nat_sge _ _ (by omega) (by omega) _ (BitVec.ofNat_add r.val 512).symm) _ _ _ (by omega)

theorem values (b : Fin 4) (n : Fin 1024) (l : Fin 128) : keys x.v b (ix2 n l) = ((y.v (1024 * b.val + n.val) l.val : ℝ) : EReal) := by
  rw [keys_apply, hx.v]

end

/-! ## The sweep -/

/-- What the carried arrays hold after `N` keys. -/
structure Good (y : Nums) (i N : ℕ) (s : Carry Ideal) : Prop where
  l0 : ∀ r : Fin 512, Held (lg y (512 * (0 : Fin 2).val + r.val)) (1024 * i + r.val) N (s.1 (ix2 r 0)) (fun _ => 1) (s.2.1 (ix2 r 0))
  o0 : ∀ (r : Fin 512) (l : Fin 128), Held (lg y (512 * (0 : Fin 2).val + r.val)) (1024 * i + r.val) N (s.1 (ix2 r 0)) (fun n => y.v n l.val) (s.2.2.1 (ix2 r l))
  l1 : ∀ r : Fin 512, Held (lg y (512 * (1 : Fin 2).val + r.val)) (1024 * i + 512 + r.val) N (s.2.2.2.1 (ix2 r 0)) (fun _ => 1) (s.2.2.2.2.1 (ix2 r 0))
  o1 : ∀ (r : Fin 512) (l : Fin 128), Held (lg y (512 * (1 : Fin 2).val + r.val)) (1024 * i + 512 + r.val) N (s.2.2.2.1 (ix2 r 0)) (fun n => y.v n l.val) (s.2.2.2.2.2 (ix2 r l))

section
variable {x : In Ideal} {y : Nums} (hx : Reads x y) {i : ℕ}
include hx

theorem Good.trip {b : Fin 4} (hb : b.val < i) {s : Carry Ideal} (h : Good y i (1024 * b.val) s) : Good y i (1024 * b.val + 1024) (trip x b s) where
  l0 r := by
    have m := pay9_apply (half x.q 0) (keys x.k b) (forget x.c b) s.1 r
    simp only [before0 hx b hb] at m
    have e := (h.l0 r).step_one (w := 1024) (by omega) (by omega) m
    refine (congrArg (Held _ _ _ _ _) ?_).mpr e
    show k0_pay12 _ _ _ _ _ _ = _
    rw [pay12_apply]; simp only [before0 hx b hb]
  o0 r l := by
    have m := pay9_apply (half x.q 0) (keys x.k b) (forget x.c b) s.1 r
    simp only [before0 hx b hb] at m
    have e := (h.o0 r l).step (w := 1024) (by omega) (by omega) m
    refine (congrArg (Held _ _ _ _ _) ?_).mpr e
    show k0_pay13 _ _ _ _ _ _ _ = _
    rw [pay13_apply]; simp only [before0 hx b hb, values hx]
  l1 r := by
    have m := pay31_apply (half x.q 1) (keys x.k b) (forget x.c b) s.2.2.2.1 r
    simp only [before1 hx b hb] at m
    have e := (h.l1 r).step_one (w := 1024) (by omega) (by omega) m
    refine (congrArg (Held _ _ _ _ _) ?_).mpr e
    show k0_pay34 _ _ _ _ _ = _
    rw [pay34_apply]; simp only [before1 hx b hb]
  o1 r l := by
    have m := pay31_apply (half x.q 1) (keys x.k b) (forget x.c b) s.2.2.2.1 r
    simp only [before1 hx b hb] at m
    have e := (h.o1 r l).step (w := 1024) (by omega) (by omega) m
    refine (congrArg (Held _ _ _ _ _) ?_).mpr e
    show k0_pay35 _ _ _ _ _ _ = _
    rw [pay35_apply]; simp only [before1 hx b hb, values hx]

omit hx in
theorem blk_val {n : ℕ} (h : n < 4) : (blk n).val = n := Nat.mod_eq_of_lt h

theorem Good.sweep (hi : i < 4) (t : ℕ) (ht : t ≤ i) : Good y i (1024 * t) (sweep x t) := by
  induction t with
  | zero => exact ⟨fun r => .inl ⟨rfl, pay25_apply r, pay26_apply r⟩, fun r l => .inl ⟨rfl, pay25_apply r, pay27_apply r l⟩,
      fun r => .inl ⟨rfl, pay28_apply r, pay29_apply r⟩, fun r l => .inl ⟨rfl, pay28_apply r, pay30_apply r l⟩⟩
  | succ t ih =>
    have e : (blk t).val = t := blk_val (by omega)
    have h := ih (by omega)
    rw [← e] at h
    have g := h.trip hx (b := blk t) (by omega)
    rw [e] at g
    exact g

/-! ## A point's results -/

variable {b : Fin 4} {s : Carry Ideal} (h : Good y b.val (1024 * b.val) s)
include h

theorem fin0 (r : Fin 512) : Held (lg y (512 * (0 : Fin 2).val + r.val)) (1024 * b.val + r.val) (1024 * b.val + 512)
      (k0_pay46 s.1 (score0 x b) k0_pay44 (ix2 r 0)) (fun _ => 1) (k0_pay49 s.1 s.2.1 (score0 x b) k0_pay44 (ix2 r 0)) := by
  have m := pay46_apply s.1 r (score0 x b) k0_pay44
  simp only [diag0 hx] at m
  have e := (h.l0 r).step_one (w := 512) (by omega) (by omega) m
  refine (congrArg (Held _ _ _ _ _) ?_).mpr e
  rw [pay49_apply]; simp only [diag0 hx]
theorem sum0 (r : Fin 512) (l : Fin 128) : Held (lg y (512 * (0 : Fin 2).val + r.val)) (1024 * b.val + r.val) (1024 * b.val + 512)
      (k0_pay46 s.1 (score0 x b) k0_pay44 (ix2 r 0)) (fun n => y.v n l.val) (k0_pay50 s.1 s.2.2.1 (k0_pay42 (keys x.v b)) (score0 x b) k0_pay44 (ix2 r l)) := by
  have m := pay46_apply s.1 r (score0 x b) k0_pay44
  simp only [diag0 hx] at m
  have e := (h.o0 r l).step (w := 512) (by omega) (by omega) m
  refine (congrArg (Held _ _ _ _ _) ?_).mpr e
  rw [pay50_apply]; simp only [diag0 hx, pay42_apply, values hx]
theorem fin1 (r : Fin 512) : Held (lg y (512 * (1 : Fin 2).val + r.val)) (1024 * b.val + 512 + r.val) (1024 * b.val + 1024)
      (max1 x b s (ix2 r 0)) (fun _ => 1) (k0_pay2 s.2.2.2.2.1 (score1 x b) (scale1 x b s) (wide1 x b s) (ix2 r 0)) := by
  have m := pay52_apply (half x.q 1) (keys x.k b) s.2.2.2.1 r (k0_pay41 (forget x.c b))
  simp only [show k0_pay51 (half x.q 1) (keys x.k b) (k0_pay41 (forget x.c b)) = score1 x b from rfl, diag1 hx] at m
  have e := (h.l1 r).step_one (w := 1024) (by omega) (by omega) m
  refine (congrArg (Held _ _ _ _ _) ?_).mpr e
  rw [pay2_apply]; unfold scale1 wide1; simp only [pay53_apply, pay54_apply, diag1 hx]
theorem sum1 (r : Fin 512) (l : Fin 128) : Held (lg y (512 * (1 : Fin 2).val + r.val)) (1024 * b.val + 512 + r.val) (1024 * b.val + 1024)
      (max1 x b s (ix2 r 0)) (fun n => y.v n l.val) (scale1 x b s (ix2 r 0) * s.2.2.2.2.2 (ix2 r l)
        + ∑ n, Ideal.exp (score1 x b (ix2 r n) - wide1 x b s (ix2 r n)) * keys x.v b (ix2 n l)) := by
  have m := pay52_apply (half x.q 1) (keys x.k b) s.2.2.2.1 r (k0_pay41 (forget x.c b))
  simp only [show k0_pay51 (half x.q 1) (keys x.k b) (k0_pay41 (forget x.c b)) = score1 x b from rfl, diag1 hx] at m
  have e := (h.o1 r l).step (w := 1024) (by omega) (by omega) m
  refine (congrArg (Held _ _ _ _ _) ?_).mpr e
  unfold scale1 wide1; simp only [pay53_apply, pay54_apply, diag1 hx, values hx]

theorem out0_apply (r : Fin 512) (l : Fin 128) : out0 x b s (ix2 r l)
    = ((∑ n ∈ range 4096, y.v n l.val * soft (lg y (512 * (0 : Fin 2).val + r.val)) (1024 * b.val + r.val) n : ℝ) : EReal) :=
  (pay3_apply _ _ r l).trans ((sum0 hx h r l).mean (fin0 hx h r) (by omega) (by omega))
theorem lse0_apply (r : Fin 512) : lse0 x b s (ix3 0 r 0)
    = ((Real.log (total (lg y (512 * (0 : Fin 2).val + r.val)) 0 (1024 * b.val + r.val)) : ℝ) : EReal) :=
  (pay4_apply _ _ r).trans ((fin0 hx h r).lse (by omega) (by omega))
theorem out1_apply (r : Fin 512) (l : Fin 128) : out1 x b s (ix2 r l)
    = ((∑ n ∈ range 4096, y.v n l.val * soft (lg y (512 * (1 : Fin 2).val + r.val)) (1024 * b.val + 512 + r.val) n : ℝ) : EReal) :=
  (pay5_apply _ _ _ _ r l _ _).trans ((sum1 hx h r l).mean (fin1 hx h r) (by omega) (by omega))
theorem lse1_apply (r : Fin 512) : lse1 x b s (ix3 0 r 0)
    = ((Real.log (total (lg y (512 * (1 : Fin 2).val + r.val)) 0 (1024 * b.val + 512 + r.val)) : ℝ) : EReal) :=
  (pay6_apply _ _ r _ _ _).trans ((fin1 hx h r).lse (by omega) (by omega))

end

end Cert.FoxFwdIdeal.Attn
end
-- ==== Proof.FoxFwd.Arrays.lean ====
/- The result arrays of the forward call, its arguments holding numbers: the softmax's means and the row statistics. -/
module

public import proofs.«01_k».proof.Proof.FoxFwd.Val
public import Idealize.ShloMosaic.Lib.Pipeline.ValueKit.Geometry
public import Idealize.ShloMosaic.Lib.Pipeline.ValueKit
public import Idealize.ShloMosaic.Lib.Tactic

@[expose] public section

set_option maxRecDepth 16384

noncomputable section

namespace Cert.FoxFwdIdeal.Attn

open Idealize.ShloMosaic Idealize.ShloMosaic.TcCoe Cert.FoxFwdIdeal Cert.FoxFwdIdeal.Gen Cert.Fox
open Finset (range)

/-! ## Both halves of a block of rows -/

theorem put_half (z : Vec Ideal S1024x128 .f32) (g : Fin 2) (w : Vec Ideal S512x128 .f32) (r : Fin 512) (l : Fin 128) :
    VecWindow.put z (half2 g) S512x128.size w (ix2 (⟨512 * g.val + r.val, by omega⟩ : Fin 1024) l) = w (ix2 r l) := by
  rw [← half_apply (VecWindow.put z (half2 g) S512x128.size w) g r l]
  exact congrFun (VecWindow.window_put_same z (half2 g) S512x128.size (half2_inb g) w) (ix2 r l)
theorem put_other (z : Vec Ideal S1024x128 .f32) (w : Vec Ideal S512x128 .f32) (r : Fin 1024) (h : r.val < 512) (l : Fin 128) :
    VecWindow.put z (half2 1) S512x128.size w (ix2 r l) = z (ix2 r l) := by
  unfold VecWindow.put
  refine dif_neg fun H => ?_
  have h0 : 512 ≤ r.val ∧ r.val < 512 + 512 := H 0
  omega
/-- A column of row statistics, half `g`. -/
def halfL (x : Vec Ideal S1x1024x1 .f32) (g : Fin 2) : Vec Ideal S1x512x1 .f32 := VecWindow.window x (half3 g) S1x512x1.size (half3_inb g)
theorem halfL_apply (x : Vec Ideal S1x1024x1 .f32) (g : Fin 2) (r : Fin 512) : halfL x g (ix3 0 r 0) = x (ix3 0 (⟨512 * g.val + r.val, by omega⟩ : Fin 1024) 0) := by
  unfold halfL VecWindow.window
  congr 1; funext a; match a with
  | 0 => rfl
  | 1 => exact Fin.ext (show 512 * g.val + 1 * r.val = 512 * g.val + r.val by omega)
  | 2 => rfl
theorem put_halfL (z : Vec Ideal S1x1024x1 .f32) (g : Fin 2) (w : Vec Ideal S1x512x1 .f32) (r : Fin 512) :
    VecWindow.put z (half3 g) S1x512x1.size w (ix3 0 (⟨512 * g.val + r.val, by omega⟩ : Fin 1024) 0) = w (ix3 0 r 0) := by
  rw [← halfL_apply (VecWindow.put z (half3 g) S1x512x1.size w) g r]
  exact congrFun (VecWindow.window_put_same z (half3 g) S1x512x1.size (half3_inb g) w) (ix3 0 r 0)
theorem put_otherL (z : Vec Ideal S1x1024x1 .f32) (w : Vec Ideal S1x512x1 .f32) (r : Fin 1024) (h : r.val < 512) :
    VecWindow.put z (half3 1) S1x512x1.size w (ix3 0 r 0) = z (ix3 0 r 0) := by
  unfold VecWindow.put
  refine dif_neg fun H => ?_
  have h0 : 512 ≤ r.val ∧ r.val < 512 + 512 := H 1
  omega

/-- A row of the block is in one of its halves. -/
theorem halves {P : Fin 1024 → Prop} (h0 : ∀ r : Fin 512, P ⟨512 * (0 : Fin 2).val + r.val, by omega⟩)
    (h1 : ∀ r : Fin 512, P ⟨512 * (1 : Fin 2).val + r.val, by omega⟩) (r : Fin 1024) : P r := by
  by_cases h : r.val < 512
  · have e : r = ⟨512 * (0 : Fin 2).val + (⟨r.val, h⟩ : Fin 512).val, by simp⟩ := Fin.ext (by simp)
    rw [e]; exact h0 ⟨r.val, h⟩
  · have e : r = ⟨512 * (1 : Fin 2).val + (⟨r.val - 512, by omega⟩ : Fin 512).val, by simp; omega⟩ := Fin.ext (by simp; omega)
    rw [e]; exact h1 ⟨r.val - 512, by omega⟩

section
variable {x : In Ideal} {y : Nums} (hx : Reads x y) {i : ℕ} (hi : i < 4)
include hx hi

theorem swept : Good y (blk i).val (1024 * (blk i).val) (sweep x i) := by
  rw [blk_val hi]; exact Good.sweep hx hi i le_rfl

theorem outs_apply (z : Vec Ideal S1024x128 .f32) (r : Fin 1024) (l : Fin 128) :
    VecWindow.put (VecWindow.put z (half2 0) S512x128.size (out0 x (blk i) (sweep x i))) (half2 1) S512x128.size (out1 x (blk i) (sweep x i)) (ix2 r l)
      = ((∑ n ∈ range 4096, y.v n l.val * soft (lg y r.val) (1024 * i + r.val) n : ℝ) : EReal) := by
  revert r
  refine halves (fun r => ?_) fun r => ?_
  · rw [put_other _ _ _ (by simp), put_half, out0_apply hx (swept hx hi), blk_val hi]; simp
  · rw [put_half, out1_apply hx (swept hx hi), blk_val hi]; simp [Nat.add_assoc]

theorem lses_apply (z : Vec Ideal S1x1024x1 .f32) (r : Fin 1024) :
    VecWindow.put (VecWindow.put z (half3 0) S1x512x1.size (lse0 x (blk i) (sweep x i))) (half3 1) S1x512x1.size (lse1 x (blk i) (sweep x i)) (ix3 0 r 0)
      = ((Real.log (total (lg y r.val) 0 (1024 * i + r.val)) : ℝ) : EReal) := by
  revert r
  refine halves (fun r => ?_) fun r => ?_
  · rw [put_otherL _ _ _ (by simp), put_halfL, lse0_apply hx (swept hx hi), blk_val hi]; simp
  · rw [put_halfL, lse1_apply hx (swept hx hi), blk_val hi]; simp [Nat.add_assoc]

end

/-! ## The block of each window at each point -/

theorem place0 : ∀ t : Fin cfg0.N, win0_0.index t = ![t.val % 4, t.val / 4] := (by decide +kernel : ∀ t : Fin grid0.N, _)
theorem place1 : ∀ t : Fin cfg0.N, win0_1.index t = ![0, 8 + t.val / 4] := (by decide +kernel : ∀ t : Fin grid0.N, _)
theorem place2 : ∀ t : Fin cfg0.N, win0_2.index t = ![0, 16 + t.val / 4] := (by decide +kernel : ∀ t : Fin grid0.N, _)
theorem place3 : ∀ t : Fin cfg0.N, win0_3.index t = ![t.val / 4, 0, 0, 0] := (by decide +kernel : ∀ t : Fin grid0.N, _)
theorem place4 : ∀ t : Fin cfg0.N, win0_4.index t = ![t.val % 4, t.val / 4] := (by decide +kernel : ∀ t : Fin grid0.N, _)
theorem place5 : ∀ t : Fin cfg0.N, win0_5.index t = ![t.val / 4, t.val % 4, 0] := (by decide +kernel : ∀ t : Fin grid0.N, _)

theorem points (t : Fin cfg0.N) : t.val < 32 := lt_of_lt_of_eq t.isLt N_0
theorem coord1 (t : Fin cfg0.N) : (grid0.coords t 1).val = t.val % 4 := by
  have e : (grid0.coords t 1).val = t.val / 1 % 4 := Pipeline.Grid.coords_val t 1 (by decide) rfl
  omega

/-! ## The numbers the arrays hold -/

variable (m : (ℓ : Loc nD τ sig) → Buf (Elt Ideal) ℓ)

/-- The forget row is cut into blocks before the call. -/
theorem cut (c : Dev nD) (h : Fin 8) (b : Fin 4) (n : Fin 1024) :
    (show Vec Ideal S8x4x1x1024 .f32 from V m c main_v0) (ix4 h b (0 : Fin 1) n)
      = (show Vec Ideal S8x1x4096 .f32 from m ((c : Thread nD τ).loc main_arg1)) (ix3 h (0 : Fin 1) ⟨1024 * b.val + n.val, by omega⟩) := by
  entry_read
  pointwise []
  exact congrArg (fun k : Fin 4096 => (show Vec Ideal S8x1x4096 .f32 from m ((c : Thread nD τ).loc main_arg1)) (ix3 h (0 : Fin 1) k))
    (Fin.ext (congrArg (· + n.val) (Nat.mul_comm b.val 1024)))

/-- The numbers of head `h` and row block `i`. -/
def nums (p f : ℕ → ℕ → ℝ) (h i : ℕ) : Nums where
  q r l := p (1024 * i + r) (128 * h + l)
  k n l := p n (1024 + 128 * h + l)
  v n l := p n (2048 + 128 * h + l)
  c n := f h n
theorem lg_nums (p f : ℕ → ℕ → ℝ) (h i r : ℕ) : lg (nums p f h i) r = logit p f h (1024 * i + r) := rfl

variable {m} {p f : ℕ → ℕ → ℝ}

/-- The blocks point `t` works on. -/
def inAt (m : (ℓ : Loc nD τ sig) → Buf (Elt Ideal) ℓ) (c : Dev nD) (t : Fin cfg0.N) : In Ideal := { q := iblk m c 0 t, k := iblk m c 1 t, v := iblk m c 2 t, c := iblk m c 3 t }

section
variable {c : Dev nD} (hA : Args (m (c.tc.loc main_arg0)) (m (c.tc.loc main_arg1)) p f) (t : Fin cfg0.N)
include hA

theorem blk_q (r : Fin 1024) (l : Fin 128) : iblk m c 0 t (ix2 r l) = ((p (1024 * (t.val % 4) + r.val) (128 * (t.val / 4) + l.val) : ℝ) : EReal) := by
  have hp := points t
  have e : ∀ A : Buf (Elt Ideal) ((c : Thread nD τ).loc main_arg0), ((cfg0.win 0).blk t).view.read (Elt Ideal) A (ix2 r l) = A (ix2 ⟨1024 * (t.val % 4) + r.val, by omega⟩ ⟨128 * (t.val / 4) + l.val, by omega⟩) :=
    fun A => by rw [View.read_apply]; show A _ = A _; refine congrArg A ?_; blk_ext [place0]
  exact (e (V m c main_arg0)).trans ((congrFun (V_main_arg0 m c) _).trans (hA.pm _ _))
theorem blk_k (n : Fin 4096) (l : Fin 128) : iblk m c 1 t (ix2 n l) = ((p n.val (1024 + 128 * (t.val / 4) + l.val) : ℝ) : EReal) := by
  have hp := points t
  have e : ∀ A : Buf (Elt Ideal) ((c : Thread nD τ).loc main_arg0), ((cfg0.win 1).blk t).view.read (Elt Ideal) A (ix2 n l) = A (ix2 n ⟨1024 + 128 * (t.val / 4) + l.val, by omega⟩) :=
    fun A => by rw [View.read_apply]; show A _ = A _; refine congrArg A ?_; blk_ext [place1]
  exact (e (V m c main_arg0)).trans ((congrFun (V_main_arg0 m c) _).trans (hA.pm _ _))
theorem blk_v (n : Fin 4096) (l : Fin 128) : iblk m c 2 t (ix2 n l) = ((p n.val (2048 + 128 * (t.val / 4) + l.val) : ℝ) : EReal) := by
  have hp := points t
  have e : ∀ A : Buf (Elt Ideal) ((c : Thread nD τ).loc main_arg0), ((cfg0.win 2).blk t).view.read (Elt Ideal) A (ix2 n l) = A (ix2 n ⟨2048 + 128 * (t.val / 4) + l.val, by omega⟩) :=
    fun A => by rw [View.read_apply]; show A _ = A _; refine congrArg A ?_; blk_ext [place2]
  exact (e (V m c main_arg0)).trans ((congrFun (V_main_arg0 m c) _).trans (hA.pm _ _))
theorem blk_c (b : Fin 4) (n : Fin 1024) : iblk m c 3 t (ix4 (0 : Fin 1) b (0 : Fin 1) n) = ((f (t.val / 4) (1024 * b.val + n.val) : ℝ) : EReal) := by
  have hp := points t
  have e : ∀ A : Buf (Elt Ideal) ((c : Thread nD τ).loc main_v0), ((cfg0.win 3).blk t).view.read (Elt Ideal) A (ix4 (0 : Fin 1) b (0 : Fin 1) n) = A (ix4 ⟨t.val / 4, by omega⟩ b (0 : Fin 1) n) :=
    fun A => by rw [View.read_apply]; show A _ = A _; refine congrArg A ?_; blk_ext [place3]
  exact (e (V m c main_v0)).trans ((cut m c _ _ _).trans (hA.cr _ _))

theorem inAt_reads : Reads (inAt m c t) (nums p f (t.val / 4) (t.val % 4)) where
  q := blk_q hA t
  k := blk_k hA t
  v := blk_v hA t
  c := blk_c hA t

/-- A point leaves the means of its block of rows. -/
theorem left_o (r : Fin 1024) (l : Fin 128) : (outsAt0 m c t).1 (ix2 r l)
    = ((∑ n ∈ range 4096, p n (2048 + 128 * (t.val / 4) + l.val) * soft (logit p f (t.val / 4) (1024 * (t.val % 4) + r.val)) (1024 * (t.val % 4) + r.val) n : ℝ) : EReal) := by
  have hx := inAt_reads hA t
  unfold outsAt0
  unfold inAt at hx
  generalize iblk m c 0 t = q at hx ⊢
  generalize iblk m c 1 t = k at hx ⊢
  generalize iblk m c 2 t = v at hx ⊢
  generalize iblk m c 3 t = u at hx ⊢
  dsimp only
  obtain ⟨z, hz⟩ := out_val c (grid0.coords t) (ms0_0 t) (hs0_0 t) (ms0_1 t) (hs0_1 t) (ms0_2 t) (hs0_2 t) (ms0_3 t) (hs0_3 t) (ms0_4 t) (hs0_4 t) (ms0_5 t) (hs0_5 t) ⟨q, k, v, u⟩
  dsimp only at hz
  rw [hz, coord1]
  exact outs_apply hx (Nat.mod_lt _ (by decide)) z r l
/-- A point leaves the statistics of its block of rows. -/
theorem left_lse (r : Fin 1024) : (outsAt0 m c t).2 (ix3 0 r 0)
    = ((Real.log (total (logit p f (t.val / 4) (1024 * (t.val % 4) + r.val)) 0 (1024 * (t.val % 4) + r.val)) : ℝ) : EReal) := by
  have hx := inAt_reads hA t
  unfold outsAt0
  unfold inAt at hx
  generalize iblk m c 0 t = q at hx ⊢
  generalize iblk m c 1 t = k at hx ⊢
  generalize iblk m c 2 t = v at hx ⊢
  generalize iblk m c 3 t = u at hx ⊢
  dsimp only
  obtain ⟨z, hz⟩ := lse_val c (grid0.coords t) (ms0_0 t) (hs0_0 t) (ms0_1 t) (hs0_1 t) (ms0_2 t) (hs0_2 t) (ms0_3 t) (hs0_3 t) (ms0_4 t) (hs0_4 t) (ms0_5 t) (hs0_5 t) ⟨q, k, v, u⟩
  dsimp only at hz
  rw [hz, coord1]
  exact lses_apply hx (Nat.mod_lt _ (by decide)) z r

end

/-! ## The result arrays -/

/-- The mean of the values of the keys a row sees, lane `l` of head `h`. -/
def mean (p f : ℕ → ℕ → ℝ) (h R l : ℕ) : ℝ := ∑ n ∈ range 4096, p n (2048 + 128 * h + l) * soft (logit p f h R) R n
/-- The logarithm of a row's softmax denominator. -/
def stat (p f : ℕ → ℕ → ℝ) (h R : ℕ) : ℝ := Real.log (total (logit p f h R) 0 R)

variable {c : Dev nD} (hA : Args (m (c.tc.loc main_arg0)) (m (c.tc.loc main_arg1)) p f)
include hA

theorem final_o (R : Fin 4096) (x : Fin 1024) : (dats m 0 c).arrAt 4 cfg0.N (ix2 R x) = ((mean p f (x.val / 128) R.val (x.val % 128) : ℝ) : EReal) := by
  refine (dats m 0 c).arrAt_forall_of_covers 4 (fun i v => v = ((mean p f ((i (1 : Fin 2)).val / 128) (i (0 : Fin 2)).val ((i (1 : Fin 2)).val % 128) : ℝ) : EReal)) (by decide +kernel) (fun t hf y => ?_) (ix2 R x)
  blk_simp [place4]
  rw [after0_4]
  have hy : (y (1 : Fin 2)).val < 128 := (y (1 : Fin 2)).isLt
  rw [show (t.val / 4 * 128 + (y (1 : Fin 2)).val) / 128 = t.val / 4 by omega, show (t.val / 4 * 128 + (y (1 : Fin 2)).val) % 128 = (y (1 : Fin 2)).val by omega, Nat.mul_comm (t.val % 4) 1024]
  exact (congrArg _ (eq_ix2 y)).trans (left_o hA t (y (0 : Fin 2)) (y (1 : Fin 2)))
theorem final_lse (h : Fin 8) (R : Fin 4096) : (dats m 0 c).arrAt 5 cfg0.N (ix3 h R (0 : Fin 1)) = ((stat p f h.val R.val : ℝ) : EReal) := by
  refine (dats m 0 c).arrAt_forall_of_covers 5 (fun i v => v = ((stat p f (i (0 : Fin 3)).val (i (1 : Fin 3)).val : ℝ) : EReal)) (by decide +kernel) (fun t hf y => ?_) (ix3 h R (0 : Fin 1))
  blk_simp [place5]
  rw [after0_5]
  have ey : (y : S1x1024x1.Idx) = ix3 (0 : Fin 1) (y (1 : Fin 3)) (0 : Fin 1) :=
    (eq_ix3 y).trans (congrArg₂ (fun a b => ix3 a (y (1 : Fin 3)) b) (Subsingleton.elim (α := Fin 1) _ _) (Subsingleton.elim (α := Fin 1) _ _))
  have e0 : (y (0 : Fin 3)).val = 0 := by have := (y (0 : Fin 3)).isLt; exact Nat.lt_one_iff.mp this
  rw [Nat.mul_comm (t.val % 4) 1024]
  first
  | exact (congrArg _ ey).trans (left_lse hA t (y (1 : Fin 3)))
  | (rw [e0]; exact (congrArg _ ey).trans (left_lse hA t (y (1 : Fin 3))))

end Cert.FoxFwdIdeal.Attn
end
-- ==== Proof.FoxFwd.Ref.lean ====
/- The reference of the forward call, stage by stage, on finite arguments. -/
module

public import proofs.«01_k».proof.Proof.Gen.FoxFwdReferenceIdeal.Read
public import proofs.«01_k».proof.Proof.FoxFwd.Soft
public import Idealize.ShloMosaic.Lib.IdealHost
public import Idealize.ShloMosaic.Lib.Pointwise

@[expose] public section

set_option maxRecDepth 16384

noncomputable section

namespace Cert.FoxFwdReferenceIdeal.Attn

open Idealize.ShloMosaic Cert.FoxFwdReferenceIdeal Cert.FoxFwdReferenceIdeal.Gen Cert.FoxFwdReferenceIdeal.Read Cert.Fox
open Cert.KernelIdeal.Fox (coe_sum coe_sum_mul sc sc_eq)
open Finset (range)

variable (x0 : FVec Ideal S4096x6144 .bf16) (x1 : FVec Ideal S8x1x4096 .f32)

/-- The numbers of a row, the row's own forgetting sum added. -/
def withOwn (p f : ℕ → ℕ → ℝ) (h R n : ℕ) : ℝ := logit p f h R n + f h R

theorem v2_apply (R : Fin 4096) (h : Fin 8) (l : Fin 128) :
    val_main_v2 (F := Ideal) x0 (ix3 R h l) = x0 (ix2 R ⟨h.val * 128 + l.val, by omega⟩) := by
  pointwise [val_main_v0, val_main_v1, val_main_v2]
theorem v5_apply (R : Fin 4096) (h : Fin 8) (l : Fin 128) :
    val_main_v5 (F := Ideal) x0 (ix3 R h l) = x0 (ix2 R ⟨1024 + (h.val * 128 + l.val), by omega⟩) := by
  pointwise [val_main_v3, val_main_v4, val_main_v5]
theorem v8_apply (R : Fin 4096) (h : Fin 8) (l : Fin 128) :
    val_main_v8 (F := Ideal) x0 (ix3 R h l) = x0 (ix2 R ⟨2048 + (h.val * 128 + l.val), by omega⟩) := by
  pointwise [val_main_v6, val_main_v7, val_main_v8]
theorem v9_apply (h : Fin 8) (R : Fin 4096) : val_main_v9 (F := Ideal) x1 (ix2 h R) = x1 (ix3 h (0 : Fin 1) R) := by
  pointwise [val_main_v9]
theorem v24_apply (R n : Fin 4096) :
    val_main_v24 (F := Ideal) (ix2 R n) = IntOp.cmpi CmpIPredicate.sge (BitVec.ofNat 32 R.val) (BitVec.ofNat 32 n.val) := by
  pointwise [val_main_v24, val_main_v23, val_main_v22, val_main_v21, val_main_v20, val_main_v19, val_main_v18]
theorem v28_apply (h : Fin 8) (R n : Fin 4096) : val_main_v28 (F := Ideal) x0 x1 (ix3 h R n)
    = Scalar.select (val_main_v24 (F := Ideal) (ix2 R n)) ((∑ l, val_main_v2 (F := Ideal) x0 (ix3 R h l) * val_main_v5 (F := Ideal) x0 (ix3 n h l)) * val_main_cst (F := Ideal) ix0
      + (val_main_v9 (F := Ideal) x1 (ix2 h R) - val_main_v9 (F := Ideal) x1 (ix2 h n))) (val_main_cst_0 (F := Ideal) ix0) := by
  pointwise [val_main_v28, val_main_v27, val_main_v26, val_main_v25, val_main_v17, val_main_v16, val_main_v15, val_main_v14, val_main_v13, val_main_v12, val_main_v11, val_main_v10]
theorem v29_apply (h : Fin 8) (R : Fin 4096) : val_main_v29 (F := Ideal) x0 x1 (ix2 h R)
    = Finset.fold max (val_main_cst_1 (F := Ideal) (Shape.Idx.first h_S_)) (fun n => val_main_v28 (F := Ideal) x0 x1 (ix3 h R n)) Finset.univ := by
  pointwise [val_main_v29]
theorem v33_apply (h : Fin 8) (R n : Fin 4096) : val_main_v33 (F := Ideal) x0 x1 (ix3 h R n)
    = Ideal.exp (val_main_v28 (F := Ideal) x0 x1 (ix3 h R n) - val_main_v29 (F := Ideal) x0 x1 (ix2 h R)) := by
  pointwise [val_main_v33, val_main_v32, val_main_v31, val_main_v30]
theorem v35_apply (h : Fin 8) (R : Fin 4096) : val_main_v35 (F := Ideal) x0 x1 (ix3 h R (0 : Fin 1))
    = val_main_cst_2 (F := Ideal) (Shape.Idx.first h_S_) + ∑ n, val_main_v33 (F := Ideal) x0 x1 (ix3 h R n) := by
  pointwise [val_main_v35, val_main_v34]
theorem v37_apply (h : Fin 8) (R n : Fin 4096) : val_main_v37 (F := Ideal) x0 x1 (ix3 h R n)
    = Ideal.div (val_main_v33 (F := Ideal) x0 x1 (ix3 h R n)) (val_main_v35 (F := Ideal) x0 x1 (ix3 h R (0 : Fin 1))) := by
  pointwise [val_main_v37, val_main_v36]
theorem v40_apply (R : Fin 4096) (x : Fin 1024) : val_main_v40 (F := Ideal) x0 x1 (ix2 R x)
    = ∑ n, val_main_v8 (F := Ideal) x0 (ix3 n ⟨x.val / 128, by omega⟩ ⟨x.val % 128, by omega⟩)
        * val_main_v37 (F := Ideal) x0 x1 (ix3 ⟨x.val / 128, by omega⟩ R n) := by
  pointwise [val_main_v40, val_main_v39, val_main_v38]
theorem v30_apply (h : Fin 8) (R : Fin 4096) : val_main_v30 (F := Ideal) x0 x1 (ix3 h R (0 : Fin 1)) = val_main_v29 (F := Ideal) x0 x1 (ix2 h R) := by
  pointwise [val_main_v30]
theorem v43_apply (h : Fin 8) (R : Fin 4096) : val_main_v43 (F := Ideal) x1 (ix3 h R (0 : Fin 1)) = val_main_v9 (F := Ideal) x1 (ix2 h R) := by
  pointwise [val_main_v43]
theorem v44_apply (h : Fin 8) (R : Fin 4096) : val_main_v44 (F := Ideal) x0 x1 (ix3 h R (0 : Fin 1))
    = (val_main_v29 (F := Ideal) x0 x1 (ix2 h R) + Ideal.log (val_main_v35 (F := Ideal) x0 x1 (ix3 h R (0 : Fin 1)))) - val_main_v9 (F := Ideal) x1 (ix2 h R) := by
  rw [val_main_v44_apply, val_main_v42_apply, val_main_v41_apply, v30_apply, v43_apply]
  generalize val_main_v29 (F := Ideal) x0 x1 (ix2 h R) = a
  generalize val_main_v35 (F := Ideal) x0 x1 (ix3 h R (0 : Fin 1)) = b
  generalize val_main_v9 (F := Ideal) x1 (ix2 h R) = d
  rfl

/-! ## On numbers -/

variable {x0 x1} {p f : ℕ → ℕ → ℝ} (hA : Args x0 x1 p f)
include hA

theorem v28_eq (h : Fin 8) (R n : Fin 4096) : val_main_v28 (F := Ideal) x0 x1 (ix3 h R n) = masked (withOwn p f h.val R.val) R.val n.val := by
  rw [v28_apply, v24_apply, ← select_masked, ← ofBits_neg_inf]
  simp only [v2_apply, v5_apply, v9_apply, hA.pm, hA.cr, val_main_cst_apply, val_main_cst_0_apply, Nat.mul_comm h.val 128, ← Nat.add_assoc]
  refine congrArg (fun z : EReal => Scalar.select _ z _) ?_
  rw [coe_sum_mul 128 (fun l => p R.val (128 * h.val + l)) (fun l => p n.val (1024 + 128 * h.val + l))]
  show _ * Ideal.ofBits .f32 0x3DB504F3#32 + _ = _
  rw [sc_eq, ← EReal.coe_mul, ← EReal.coe_sub, ← EReal.coe_add]
  refine congrArg _ ?_
  unfold withOwn logit; ring
theorem v29_eq (h : Fin 8) (R : Fin 4096) : ∃ M : ℝ, val_main_v29 (F := Ideal) x0 x1 (ix2 h R) = (M : EReal) := by
  rw [v29_apply]
  simp only [v28_eq hA, val_main_cst_1_apply]
  refine Eq.mp ?_ (max_real (withOwn p f h.val R.val) R.val)
  rw [← ofBits_neg_inf]; rfl

section
variable {M : ℝ} {h : Fin 8} {R : Fin 4096} (hM : val_main_v29 (F := Ideal) x0 x1 (ix2 h R) = (M : EReal))
include hM
theorem v33_eq (n : Fin 4096) : val_main_v33 (F := Ideal) x0 x1 (ix3 h R n) = ((term (withOwn p f h.val R.val) M R.val n.val : ℝ) : EReal) := by
  rw [v33_apply, v28_eq hA, hM, masked_exp]
theorem v35_eq : val_main_v35 (F := Ideal) x0 x1 (ix3 h R (0 : Fin 1)) = ((total (withOwn p f h.val R.val) M R.val : ℝ) : EReal) := by
  rw [v35_apply, val_main_cst_2_apply]
  simp only [v33_eq hA hM]
  rw [coe_sum 4096 fun n => term (withOwn p f h.val R.val) M R.val n]
  show Ideal.ofBits .f32 0x00000000#32 + _ = _
  rw [show Ideal.ofBits .f32 0x00000000#32 = (0 : EReal) by simp [Ideal.ofBits, Ideal.ieee], zero_add]; rfl
end
/-- The weights of the reference are the softmax: the row's own constant cancels. -/
theorem v37_eq (h : Fin 8) (R n : Fin 4096) : val_main_v37 (F := Ideal) x0 x1 (ix3 h R n) = ((soft (logit p f h.val R.val) R.val n.val : ℝ) : EReal) := by
  obtain ⟨M, hM⟩ := v29_eq hA h R
  rw [v37_apply, v33_eq hA hM, v35_eq hA hM, div_coe _ _ (total_pos _ _ _).ne', term_div_total]
  exact congrArg _ (soft_add (logit p f h.val R.val) (f h.val R.val) R.val n.val)

/-! ## The results -/

theorem o_eq (R : Fin 4096) (x : Fin 1024) : val_main_v40 (F := Ideal) x0 x1 (ix2 R x)
    = ((∑ n ∈ range 4096, p n (2048 + 128 * (x.val / 128) + x.val % 128) * soft (logit p f (x.val / 128) R.val) R.val n : ℝ) : EReal) := by
  rw [v40_apply]
  simp only [v37_eq hA, v8_apply, hA.pm, Nat.mul_comm (x.val / 128) 128, ← Nat.add_assoc]
  exact coe_sum_mul 4096 (fun n => p n (2048 + 128 * (x.val / 128) + x.val % 128)) fun n => soft (logit p f (x.val / 128) R.val) R.val n
omit hA in
/-- A constant added to every logit is added to the logarithm of the denominator. -/
theorem log_total_add (a : ℕ → ℝ) (b : ℝ) (R : ℕ) : Real.log (total (fun n => a n + b) 0 R) = Real.log (total a 0 R) + b := by
  have e : total (fun n => a n + b) 0 R = total a (-b) R := by
    unfold total term
    refine Finset.sum_congr rfl fun n _ => ?_
    rw [show a n + b - 0 = a n - -b by ring]
  rw [e, ← log_total a (-b) R]; ring
theorem lse_eq (h : Fin 8) (R : Fin 4096) : val_main_v44 (F := Ideal) x0 x1 (ix3 h R (0 : Fin 1))
    = ((Real.log (total (logit p f h.val R.val) 0 R.val) : ℝ) : EReal) := by
  obtain ⟨M, hM⟩ := v29_eq hA h R
  rw [v44_apply, v35_eq hA hM, hM, v9_apply, hA.cr, Ideal.log_coe, if_neg (not_le.mpr (total_pos _ _ _)), ← EReal.coe_add, ← EReal.coe_sub, log_total]
  refine congrArg _ ?_
  show Real.log (total (fun n => logit p f h.val R.val n + f h.val R.val) 0 R.val) - _ = _
  rw [log_total_add]; ring

end Cert.FoxFwdReferenceIdeal.Attn
end
-- ==== Proof.FoxFwd.Agree.lean ====
/- The forward call and its reference leave the same outputs and row statistics, given finite arguments. -/
module

public import proofs.«01_k».proof.Defs
public import proofs.«01_k».proof.Pre_finite_fwd
public import proofs.«01_k».proof.Proof.Gen.FoxFwdIdeal
public import proofs.«01_k».proof.Proof.Gen.FoxFwdReferenceIdeal
public import proofs.«01_k».proof.Proof.Gen.FoxFwdReferenceIdeal.Run
public import proofs.«01_k».proof.Proof.Fox.Agree
public import proofs.«01_k».proof.Proof.FoxFwd.Arrays
public import proofs.«01_k».proof.Proof.FoxFwd.Ref
public import Idealize.ShloMosaic.Lib.Claim
public import Idealize.ShloMosaic.Lib.Quiescent

@[expose] public section

set_option maxRecDepth 16384

noncomputable section

namespace Cert.FoxFwdIdeal.Attn

open Idealize.ShloMosaic Cert.FoxFwdIdeal Cert.FoxFwdIdeal.Gen
open Cert.Fox (Args)
open Cert.KernelIdeal.Fox (numbered real_of_between top_bf16 bot_bf16 top_f32 bot_f32)

variable {m : (ℓ : Loc nD τ sig) → Buf (Elt Ideal) ℓ}

/-- The shape relations the precondition states. -/
instance pre_facts : Cert.Pre_finite_fwd.Facts where
  bcast_S_S4096x6144 := by decide
  bcast_S_S8x1x4096 := by decide

/-- The numbers of the two arguments. -/
theorem reals (hpre : Cert.Pre_FoxFwdIdeal_finite_fwd m) (c : Dev nD) : ∃ p f : ℕ → ℕ → ℝ, Args (m (c.tc.loc main_arg0)) (m (c.tc.loc main_arg1)) p f := by
  obtain ⟨h0, h1, h2, h3⟩ := hpre c
  obtain ⟨p, hp⟩ := numbered fun (R : Fin 4096) (x : Fin 6144) => EReal.toReal (m (c.tc.loc main_arg0) (ix2 R x))
  obtain ⟨f, hf⟩ := numbered fun (h : Fin 8) (n : Fin 4096) => EReal.toReal (m (c.tc.loc main_arg1) (ix3 h (0 : Fin 1) n))
  refine ⟨p, f, ⟨fun R x => ?_, fun h n => ?_⟩⟩
  · rw [← hp]; exact real_of_between top_bf16 bot_bf16 (congrFun h0 (ix2 R x)) (congrFun h1 (ix2 R x))
  · rw [← hf]; exact real_of_between top_f32 bot_f32 (congrFun h2 (ix3 h (0 : Fin 1) n)) (congrFun h3 (ix3 h (0 : Fin 1) n))

theorem lse_index (i : S8x4096x1.Idx) : ∃ (h : Fin 8) (R : Fin 4096), i = ix3 h R (0 : Fin 1) :=
  ⟨i 0, i 1, (eq_ix3 i).trans (congrArg (fun z : Fin 1 => ix3 (i 0) (i 1) z) (Subsingleton.elim (α := Fin 1) _ _))⟩

/-- The reference's results are what the call leaves. -/
theorem values_agree (hpre : Cert.Pre_FoxFwdIdeal_finite_fwd m)
    {m' : (ℓ : Loc Cert.FoxFwdReferenceIdeal.nD Cert.FoxFwdReferenceIdeal.τ Cert.FoxFwdReferenceIdeal.sig) → Buf (Elt Ideal) ℓ} (c : Dev nD)
    (hagree : m' (c.tc.loc Cert.FoxFwdReferenceIdeal.main_arg0) = m (c.tc.loc main_arg0) ∧ m' (c.tc.loc Cert.FoxFwdReferenceIdeal.main_arg1) = m (c.tc.loc main_arg1)) :
    Cert.FoxFwdReferenceIdeal.Value.res_main_v40 m' c = (dats m 0 c).arrAt 4 cfg0.N
    ∧ Cert.FoxFwdReferenceIdeal.Value.res_main_v44 m' c = (dats m 0 c).arrAt 5 cfg0.N := by
  obtain ⟨p, f, hA⟩ := reals hpre c
  refine ⟨?_, ?_⟩
  · rw [Cert.FoxFwdReferenceIdeal.Read.val_main_v40_eq, hagree.1, hagree.2]; funext i; rw [eq_ix2 i]
    exact (Cert.FoxFwdReferenceIdeal.Attn.o_eq hA _ _).trans (final_o hA _ _).symm
  · rw [Cert.FoxFwdReferenceIdeal.Read.val_main_v44_eq, hagree.1, hagree.2]; funext i; obtain ⟨a, b, rfl⟩ := lse_index i
    exact (Cert.FoxFwdReferenceIdeal.Attn.lse_eq hA _ _).trans (final_lse hA _ _).symm

/-- The run, its results named. -/
theorem run_values (m : (ℓ : Loc nD τ sig) → Buf (Elt Ideal) ℓ) (ρ : Dev nD → PrngReg) : θ_run defs (onTc (τ := τ) (main (F := Ideal))) ⟨m, fun _ => 0, ρ⟩ (fun r => ∀ c : Dev nD,
      r.2.mem ((c.tc : Thread nD τ).loc main_v1_0) = (dats m 0 c).arrAt 4 cfg0.N
      ∧ r.2.mem ((c.tc : Thread nD τ).loc main_v1_1) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1 4, (h c).1 5,
      ((h c).1 2).trans (((dats m 0 c).arrAt_in 2 rfl _).trans ((A_eq m c 2).trans (V_main_arg0 m c))),
      ((h c).2 main_arg1 (Pipeline.mem_restRefs_of main_arg1 (by decide) (by decide))).trans (V_main_arg1 m c)⟩) (run_main m ρ)

theorem agree : Cert.algebraic_FoxFwdIdeal_FoxFwdReferenceIdeal_pre_finite_fwd := by
  pair_intro
  · run_from run_values m g
  · refine Idealize.ShloMosaic.θ_run_mono (Cert.FoxFwdReferenceIdeal.Value.run (F := Ideal) m' g') ?_
    intro r hr c
    exact ⟨(hr c).1.trans (values_agree hpre c (hagree c)).1, (hr c).2.1.trans (values_agree hpre c (hagree c)).2, (hr c).2.2⟩

theorem frame_reference : Cert.quiescent_FoxFwdReferenceIdeal := fun m ρ _ =>
  (θ_run Cert.FoxFwdReferenceIdeal.defs _ _).mono (fun r h => ⟨fun c => (h c).2.2, Idealize.ShloMosaic.sem_eq_zero_of_no_sems (by decide) r.2⟩)
    (Cert.FoxFwdReferenceIdeal.Value.run (F := Ideal) m ρ)

/-- The named constant is minus infinity. -/
theorem preserves : Cert.preserves_FoxFwd_FoxFwdIdeal := by
  exact Idealize.ShloMosaic.IdealRules.named_const.statement (κ := Cert.FoxFwdIdeal.κ) (name := "mask") .f32 0xFF7FFFFF#32 ⊥ rfl

end Cert.FoxFwdIdeal.Attn
end
-- ==== Proof.Products.NormBwd.lean ====
/- The gradient of a normed and modulated row, in the form the kernel computes and in the form differentiation gives. -/
module

public import proofs.«01_k».proof.Proof.Products.Rows
public import proofs.«01_k».proof.Proof.Fox.Softmax

@[expose] public section

noncomputable section

namespace Cert.Products

open Idealize.ShloMosaic

/-- The mean square of a row with the small number added. -/
def meanSq (x : Fin 2048 → EReal) : EReal :=
  Ideal.div (∑ v, x v * x v) (Ideal.ofBits .f32 0x45000000#32) + Ideal.ofBits .f32 0x358637BD#32

theorem invRms_eq (x : Fin 2048 → EReal) : invRms x = Ideal.rsqrt (meanSq x) := rfl

/-- The gradient that reaches the normed row times the gain: `d` came in, and the row was scaled by one more than `s`. -/
def reached (d s g : Fin 2048 → EReal) (q : Fin 2048) : EReal := d q * (1 + s q) * g q

/-- The kernel's form: the gradient less its part along the normed row, over the root mean square. -/
def projected (d s g x y : Fin 2048 → EReal) (q : Fin 2048) : EReal :=
  y q + invRms x * (reached d s g q
    - x q * invRms x * Ideal.div (∑ v, reached d s g v * (x v * invRms x)) (Ideal.ofBits .f32 0x45000000#32))

/-- The gradient that reaches the square of an entry: through the reciprocal root and through the mean. -/
def squarePart (d s g x : Fin 2048 → EReal) : EReal :=
  Ideal.div ((∑ v, x v * reached d s g v) * (Ideal.ofBits .f32 0xBF000000#32 * Ideal.div (invRms x) (meanSq x))) (Ideal.ofBits .f32 0x45000000#32)

/-- The form differentiation gives: the gradient by the factor and, twice, by the square. -/
def differentiated (d s g x y : Fin 2048 → EReal) (q : Fin 2048) : EReal :=
  y q + (reached d s g q * invRms x + x q * squarePart d s g x + squarePart d s g x * x q)

theorem width : (Ideal.ofBits .f32 0x45000000#32 : EReal) = ((2048 : ℝ) : EReal) := by
  simp [Ideal.ofBits, Ideal.ieee]; rw [← EReal.coe_mul]; norm_num

theorem minus_half : (Ideal.ofBits .f32 0xBF000000#32 : EReal) = ((-(1 / 2) : ℝ) : EReal) := by
  simp [Ideal.ofBits, Ideal.ieee]; rw [← EReal.coe_mul]; norm_num

theorem small : ∃ e : ℝ, 0 < e ∧ (Ideal.ofBits .f32 0x358637BD#32 : EReal) = (e : EReal) := by
  refine ⟨_, ?_, by simp [Ideal.ofBits, Ideal.ieee]; rfl⟩
  norm_num

/-- A sum of numbers is a number. -/
theorem sum_real {n : ℕ} (f : Fin n → ℝ) : ∑ v, ((f v : ℝ) : EReal) = ((∑ v, f v : ℝ) : EReal) :=
  (map_sum (⟨⟨Real.toEReal, EReal.coe_zero⟩, EReal.coe_add⟩ : ℝ →+ EReal) f Finset.univ).symm

/-- The mean square of a row of numbers is a positive number. -/
theorem meanSq_real {x : Fin 2048 → EReal} {X : Fin 2048 → ℝ} (hx : ∀ v, x v = (X v : EReal)) : ∃ M : ℝ, 0 < M ∧ meanSq x = (M : EReal) := by
  obtain ⟨e, he, hs⟩ := small
  refine ⟨(∑ v, X v * X v) / 2048 + e, ?_, ?_⟩
  · have : 0 ≤ ∑ v, X v * X v := Finset.sum_nonneg fun v _ => mul_self_nonneg _
    positivity
  · unfold meanSq
    simp only [hx, ← EReal.coe_mul]
    rw [sum_real, width, hs, Cert.Fox.div_coe _ _ (by norm_num), ← EReal.coe_add]

theorem invRms_real {x : Fin 2048 → EReal} {M : ℝ} (hM : 0 < M) (h : meanSq x = (M : EReal)) : invRms x = (((Real.sqrt M)⁻¹ : ℝ) : EReal) := by
  rw [invRms_eq, h, Ideal.rsqrt_coe, if_neg (by linarith), if_neg hM.ne']

theorem square_nonneg (a : EReal) : 0 ≤ a * a := by
  induction a with
  | bot => rw [EReal.bot_mul_bot]; exact le_top
  | top => rw [EReal.top_mul_top]; exact le_top
  | coe a => rw [← EReal.coe_mul]; exact EReal.coe_nonneg.mpr (mul_self_nonneg a)

/-- The mean square of a row with an infinite entry is infinite. -/
theorem meanSq_top {x : Fin 2048 → EReal} (v : Fin 2048) (h : x v * x v = ⊤) : meanSq x = ⊤ := by
  obtain ⟨e, -, hs⟩ := small
  have ht : ∑ v, x v * x v = ⊤ :=
    top_le_iff.mp (h ▸ Finset.single_le_sum (f := fun v => x v * x v) (fun v _ => square_nonneg (x v)) (Finset.mem_univ v))
  unfold meanSq
  rw [ht, width, hs, Ideal.div_coe (by norm_num), EReal.top_mul_coe_of_pos (by norm_num), EReal.top_add_coe]

/-- A number that is not negative multiplies a sum term by term. -/
theorem mul_sum_real {n : ℕ} {R : ℝ} (hR : 0 ≤ R) (f : Fin n → EReal) : (R : EReal) * ∑ v, f v = ∑ v, (R : EReal) * f v :=
  map_sum (⟨⟨fun z => (R : EReal) * z, mul_zero _⟩, fun a b => EReal.left_distrib_of_nonneg_of_ne_top (EReal.coe_nonneg.mpr hR) (EReal.coe_ne_top R) a b⟩ : EReal →+ EReal) f Finset.univ

theorem twice (u : EReal) : u + u = ((2 : ℝ) : EReal) * u := by
  induction u with
  | bot => rw [EReal.coe_mul_bot_of_pos (by norm_num)]; rfl
  | top => rw [EReal.coe_mul_top_of_pos (by norm_num)]; rfl
  | coe u => rw [← EReal.coe_add, ← EReal.coe_mul, two_mul]

/-- A row with an infinite entry has no gradient in either form. -/
theorem projected_eq_of_top {d s g x : Fin 2048 → EReal} (y : Fin 2048 → EReal) (h : meanSq x = ⊤) (q : Fin 2048) :
    projected d s g x y q = differentiated d s g x y q := by
  have hr : invRms x = 0 := by rw [invRms_eq, h, Ideal.rsqrt_top]
  have hd : Ideal.div 0 ⊤ = 0 := by rw [Ideal.div, if_neg EReal.top_ne_zero, zero_mul]
  have hz : squarePart d s g x = 0 := by
    rw [squarePart, hr, h, hd, mul_zero, mul_zero, width, Ideal.div_coe (by norm_num), zero_mul]
  unfold projected differentiated
  rw [hz, hr]
  simp only [zero_mul, mul_zero, add_zero]

/-- On a row of numbers the two forms are one, whatever gradient comes in. -/
theorem projected_eq_of_real {d s g x : Fin 2048 → EReal} (y : Fin 2048 → EReal) {X : Fin 2048 → ℝ} (hx : ∀ v, x v = (X v : EReal)) (q : Fin 2048) :
    projected d s g x y q = differentiated d s g x y q := by
  obtain ⟨M, hM, hm⟩ := meanSq_real hx
  have hr := invRms_real hM hm
  have hR : 0 ≤ (Real.sqrt M)⁻¹ := inv_nonneg.mpr (Real.sqrt_nonneg M)
  have hq : (Real.sqrt M)⁻¹ * (Real.sqrt M)⁻¹ = M⁻¹ := by rw [← mul_inv, Real.mul_self_sqrt hM.le]
  have hsum : ∑ v, reached d s g v * (x v * invRms x) = invRms x * ∑ v, x v * reached d s g v := by
    rw [hr, mul_sum_real hR]
    exact Finset.sum_congr rfl fun v _ => by rw [mul_comm, mul_comm (x v) _, mul_assoc]
  unfold projected differentiated squarePart
  refine congrArg (y q + ·) ?_
  rw [hsum]
  generalize ∑ v, x v * reached d s g v = T
  generalize reached d s g q = N
  rw [hr, hm, hx q, width, minus_half, Cert.Fox.div_coe _ _ hM.ne']
  generalize hS : (Real.sqrt M)⁻¹ = R at *
  generalize X q = x
  rw [Ideal.div_coe (by norm_num), Ideal.div_coe (by norm_num)]
  have left : ((x : ℝ) : EReal) * (R : EReal) * ((R : EReal) * T * ((1 / 2048 : ℝ) : EReal)) = ((x * R * R * (1 / 2048) : ℝ) : EReal) * T := by
    simp only [EReal.coe_mul]; ac_rfl
  have right : ((x : ℝ) : EReal) * (T * (((-(1 / 2) : ℝ) : EReal) * ((R / M : ℝ) : EReal)) * ((1 / 2048 : ℝ) : EReal))
      = ((x * (-(1 / 2)) * (R / M) * (1 / 2048) : ℝ) : EReal) * T := by
    simp only [EReal.coe_mul]; ac_rfl
  rw [mul_comm (T * _ * _) (x : EReal), add_assoc, twice, right, left, sub_eq_add_neg,
    EReal.left_distrib_of_nonneg_of_ne_top (EReal.coe_nonneg.mpr hR) (EReal.coe_ne_top R), mul_comm (R : EReal) N, ← EReal.neg_mul, ← mul_assoc, ← mul_assoc,
    ← EReal.coe_neg, ← EReal.coe_mul, ← EReal.coe_mul]
  refine congrArg (N * (R : EReal) + ·) (congrArg (fun z : ℝ => (z : EReal) * T) ?_)
  rw [div_eq_mul_inv R M, ← hq]
  ring

/-- The two forms are one on every row. -/
theorem projected_eq (d s g x y : Fin 2048 → EReal) (q : Fin 2048) : projected d s g x y q = differentiated d s g x y q := by
  by_cases h : ∃ v, x v * x v = ⊤
  · obtain ⟨v, hv⟩ := h
    exact projected_eq_of_top y (meanSq_top v hv) q
  · refine projected_eq_of_real y (X := fun v => (x v).toReal) (fun v => (EReal.coe_toReal ?_ ?_).symm) q
    · exact fun e => h ⟨v, by rw [e, EReal.top_mul_top]⟩
    · exact fun e => h ⟨v, by rw [e, EReal.bot_mul_bot]⟩

end Cert.Products
end
-- ==== Proof.Products.PremixBwd.lean ====
/- The row call that ends the backward pass: the gradients of the first normalisation. -/
module

public import proofs.«01_k».proof.Defs
public import proofs.«01_k».proof.Proof.Products.Sum
public import proofs.«01_k».proof.Proof.Products.NormBwd
public import proofs.«01_k».proof.Proof.Gen.PremixBwdIdeal.Frame
public import proofs.«01_k».proof.Proof.Gen.PremixBwdReferenceIdeal
public import proofs.«01_k».proof.Proof.Gen.PremixBwdReferenceIdeal.Run
public import proofs.«01_k».proof.Proof.Gen.PremixBwdReferenceIdeal.Read
public import Idealize.ShloMosaic.Lib.Pipeline.ValueKit
public import Idealize.ShloMosaic.Lib.Pipeline.ValueKit.Geometry
public import Idealize.ShloMosaic.Lib.Pointwise
public import Idealize.ShloMosaic.Lib.Tactic
public import Idealize.ShloMosaic.Lib.Claim
public import Idealize.ShloMosaic.Lib.Quiescent

@[expose] public section

set_option maxRecDepth 16384

noncomputable section

namespace Cert.PremixBwdIdeal.Products

open Idealize.ShloMosaic Idealize.ShloMosaic.TcCoe Idealize.SL.Sem Cert.PremixBwdIdeal Cert.PremixBwdIdeal.Gen Cert.Products

variable (m : (ℓ : Loc nD τ sig) → Buf (Elt Ideal) ℓ)

/-! ## What the body computes of one block -/

theorem hz : (![0, 0] : Fin 2 → Nat) = fun _ => 0 := funext fun a => by fin_cases a <;> rfl

section Body

variable (d : Vec Ideal S512x2048 .bf16) (y x : Vec Ideal S512x2048 .f32) (g s old : Vec Ideal S1x2048 .f32) (r : Fin 512) (q : Fin 2048)

theorem pay5 (r : Fin 512) : k0_pay5 x (ix2 r 0) = invRms fun v => x (ix2 r v) := by
  pointwise [k0_pay5]
  rfl

theorem pay6 : k0_pay6 x (ix2 r q) = x (ix2 r q) * invRms fun v => x (ix2 r v) := by
  have e : k0_pay6 x (ix2 r q) = x (ix2 r q) * k0_pay5 x (ix2 r 0) := by
    unfold k0_pay6
    generalize k0_pay5 x = z
    pointwise []
  rw [e, pay5]

theorem pay7 : k0_pay7 d (ix2 r q) = d (ix2 r q) := by
  pointwise [k0_pay7]

theorem pay1 (z : FVec Ideal S512x2048 .f32) : k0_pay1 z s (ix2 r q) = z (ix2 r q) * (1 + s (ix2 0 q)) := by
  pointwise [k0_pay1]

/-- The gradient of the scale in one block. -/
theorem pay8 : k0_pay8 x d g (ix2 0 q) = ∑ r : Fin 512, d (ix2 r q) * ((x (ix2 r q) * invRms fun v => x (ix2 r v)) * g (ix2 0 q)) := by
  have e : k0_pay8 x d g (ix2 0 q) = ∑ r : Fin 512, k0_pay7 d (ix2 r q) * (k0_pay6 x (ix2 r q) * g (ix2 0 q)) := by
    unfold k0_pay8
    generalize k0_pay6 x = z
    generalize k0_pay7 d = w
    pointwise []
  rw [e]
  exact Finset.sum_congr rfl fun r _ => by rw [pay6, pay7]

theorem pay9 : k0_pay9 x d g old (ix2 0 q) = old (ix2 0 q) + k0_pay8 x d g (ix2 0 q) := by
  unfold k0_pay9
  generalize k0_pay8 x d g = z
  pointwise []

/-- The gradient of the shift in one block. -/
theorem pay10 : k0_pay10 d (ix2 0 q) = ∑ r : Fin 512, d (ix2 r q) := by
  pointwise [k0_pay10, k0_pay7]

theorem pay11 : k0_pay11 d old (ix2 0 q) = old (ix2 0 q) + k0_pay10 d (ix2 0 q) := by
  unfold k0_pay11
  generalize k0_pay10 d = z
  pointwise []

/-- The gradient of the gain in one block. -/
theorem pay2 : k0_pay2 (k0_pay6 x) (k0_pay7 d) s (ix2 0 q)
    = ∑ r : Fin 512, d (ix2 r q) * (1 + s (ix2 0 q)) * (x (ix2 r q) * invRms fun v => x (ix2 r v)) := by
  have e : k0_pay2 (k0_pay6 x) (k0_pay7 d) s (ix2 0 q) = ∑ r : Fin 512, k0_pay1 (k0_pay7 d) s (ix2 r q) * k0_pay6 x (ix2 r q) := by
    unfold k0_pay2
    generalize k0_pay1 (k0_pay7 d) s = w
    generalize k0_pay6 x = z
    pointwise []
  rw [e]
  exact Finset.sum_congr rfl fun r _ => by rw [pay6, pay1, pay7]

theorem pay3 (a b : FVec Ideal S512x2048 .f32) : k0_pay3 a b s old (ix2 0 q) = old (ix2 0 q) + k0_pay2 a b s (ix2 0 q) := by
  unfold k0_pay3
  generalize k0_pay2 a b s = z
  pointwise []

/-- The gradient of the rows. -/
theorem pay4 : k0_pay4 (k0_pay5 x) (k0_pay6 x) (k0_pay7 d) s y g (ix2 r q)
    = projected (fun v => d (ix2 r v)) (fun v => s (ix2 0 v)) (fun v => g (ix2 0 v)) (fun v => x (ix2 r v)) (fun v => y (ix2 r v)) q := by
  have e : k0_pay4 (k0_pay5 x) (k0_pay6 x) (k0_pay7 d) s y g (ix2 r q)
      = y (ix2 r q) + k0_pay5 x (ix2 r 0) * (k0_pay1 (k0_pay7 d) s (ix2 r q) * g (ix2 0 q)
        - k0_pay6 x (ix2 r q) * Ideal.div (∑ v : Fin 2048, k0_pay1 (k0_pay7 d) s (ix2 r v) * g (ix2 0 v) * k0_pay6 x (ix2 r v)) (Ideal.ofBits .f32 0x45000000#32)) := by
    unfold k0_pay4
    generalize k0_pay1 (k0_pay7 d) s = w
    generalize k0_pay6 x = z
    generalize k0_pay5 x = u
    pointwise []
  have e' : ∀ v : Fin 2048, k0_pay1 (k0_pay7 d) s (ix2 r v) * g (ix2 0 v)
      = reached (fun v => d (ix2 r v)) (fun v => s (ix2 0 v)) (fun v => g (ix2 0 v)) v := fun v => by rw [pay1, pay7, reached]
  rw [e, pay5, pay6, e', Finset.sum_congr rfl fun v _ => congrArg₂ (· * ·) (e' v) (pay6 x r v)]
  rfl

end Body

/-! ## What one point leaves -/

theorem rows_first (c : Dev nD) (t : Fin cfg0.N) (h : t.val % 8 = 0) (h' : ¬1 ≤ t.val) :
    (outsAt0 m c t.val t.isLt).1 = k0_pay4 (k0_pay5 (iblk m c 2 t)) (k0_pay6 (iblk m c 2 t)) (k0_pay7 (iblk m c 0 t)) (iblk m c 4 t) (iblk m c 1 t) (iblk m c 3 t) := by
  refine (congrArg (fun o => o.1) (outsAt0_A m c t h h' h h' h h')).trans ?_
  dsimp only
  generalize iblk m c 0 t = d
  generalize iblk m c 1 t = y
  generalize iblk m c 2 t = x
  generalize iblk m c 3 t = g
  generalize iblk m c 4 t = s
  unfold out0_A_5
  rw [View.read_writes_eq_canon _ _ _ (fun z => cover0_A_5 (y := z) ..)]
  unfold kernelRun0_A
  dsimp only
  rw [View.canon_unit_zero hz]
  unfold kernelRun0_A.sl.r kernelRun0_A.sl.r_1 kernelRun0_A.sl.r_2 kernelRun0_A.sl.r_3
  simp only [View.readAt_eq_ld, Memref.IsWhole.read_unread, View.ld_unit_zero (S := S512x2048) hz, View.ld_unit_zero (S := S1x2048) hz]

theorem rows_next (c : Dev nD) (t : Fin cfg0.N) (h : ¬t.val % 8 = 0) (h' : 1 ≤ t.val) :
    (outsAt0 m c t.val t.isLt).1 = k0_pay4 (k0_pay5 (iblk m c 2 t)) (k0_pay6 (iblk m c 2 t)) (k0_pay7 (iblk m c 0 t)) (iblk m c 4 t) (iblk m c 1 t) (iblk m c 3 t) := by
  refine (congrArg (fun o => o.1) (outsAt0_B m c t h h' h h' h h')).trans ?_
  dsimp only
  generalize iblk m c 0 t = d
  generalize iblk m c 1 t = y
  generalize iblk m c 2 t = x
  generalize iblk m c 3 t = g
  generalize iblk m c 4 t = s
  generalize outsAt0 m c (t.val - 1) _ = o
  unfold out0_B_5
  rw [View.read_writes_eq_canon _ _ _ (fun z => cover0_B_5 (y := z) ..)]
  unfold kernelRun0_B
  dsimp only
  rw [View.canon_unit_zero hz]
  unfold kernelRun0_B.sl.r kernelRun0_B.sl.r_1 kernelRun0_B.sl.r_2 kernelRun0_B.sl.r_3
  simp only [View.readAt_eq_ld, Memref.IsWhole.read_unread, View.ld_unit_zero (S := S512x2048) hz, View.ld_unit_zero (S := S1x2048) hz]

theorem scale_first (c : Dev nD) (t : Fin cfg0.N) (h : t.val % 8 = 0) (h' : ¬1 ≤ t.val) :
    (outsAt0 m c t.val t.isLt).2.1 = k0_pay8 (iblk m c 2 t) (iblk m c 0 t) (iblk m c 3 t) := by
  refine (congrArg (fun o => o.2.1) (outsAt0_A m c t h h' h h' h h')).trans ?_
  dsimp only
  generalize iblk m c 0 t = d
  generalize iblk m c 1 t = y
  generalize iblk m c 2 t = x
  generalize iblk m c 3 t = g
  generalize iblk m c 4 t = s
  unfold out0_A_6
  rw [View.read_writes_eq_canon _ _ _ (fun z => cover0_A_6 (y := z) ..)]
  unfold kernelRun0_A
  dsimp only
  rw [View.canon_unit_zero hz]
  simp only [View.readAt_eq_ld, Memref.IsWhole.read_unread, View.ld_unit_zero (S := S512x2048) hz, View.ld_unit_zero (S := S1x2048) hz]

theorem scale_next (c : Dev nD) (t : Fin cfg0.N) (h : ¬t.val % 8 = 0) (h' : 1 ≤ t.val) :
    (outsAt0 m c t.val t.isLt).2.1 = k0_pay9 (iblk m c 2 t) (iblk m c 0 t) (iblk m c 3 t) (outsAt0 m c (t.val - 1) (by omega)).2.1 := by
  refine (congrArg (fun o => o.2.1) (outsAt0_B m c t h h' h h' h h')).trans ?_
  dsimp only
  generalize iblk m c 0 t = d
  generalize iblk m c 1 t = y
  generalize iblk m c 2 t = x
  generalize iblk m c 3 t = g
  generalize iblk m c 4 t = s
  generalize outsAt0 m c (t.val - 1) _ = o
  unfold out0_B_6
  rw [View.read_writes_eq_canon _ _ _ (fun z => cover0_B_6 (y := z) ..)]
  unfold kernelRun0_B
  dsimp only
  rw [View.canon_unit_zero hz]
  simp only [View.readAt_eq_ld, Memref.IsWhole.read_unread, View.ld_unit_zero (S := S512x2048) hz, View.ld_unit_zero (S := S1x2048) hz]

theorem shift_first (c : Dev nD) (t : Fin cfg0.N) (h : t.val % 8 = 0) (h' : ¬1 ≤ t.val) :
    (outsAt0 m c t.val t.isLt).2.2.1 = k0_pay10 (iblk m c 0 t) := by
  refine (congrArg (fun o => o.2.2.1) (outsAt0_A m c t h h' h h' h h')).trans ?_
  dsimp only
  generalize iblk m c 0 t = d
  generalize iblk m c 1 t = y
  generalize iblk m c 2 t = x
  generalize iblk m c 3 t = g
  generalize iblk m c 4 t = s
  unfold out0_A_7
  rw [View.read_writes_eq_canon _ _ _ (fun z => cover0_A_7 (y := z) ..)]
  unfold kernelRun0_A
  dsimp only
  rw [View.canon_unit_zero hz]
  simp only [View.readAt_eq_ld, Memref.IsWhole.read_unread, View.ld_unit_zero (S := S512x2048) hz, View.ld_unit_zero (S := S1x2048) hz]

theorem shift_next (c : Dev nD) (t : Fin cfg0.N) (h : ¬t.val % 8 = 0) (h' : 1 ≤ t.val) :
    (outsAt0 m c t.val t.isLt).2.2.1 = k0_pay11 (iblk m c 0 t) (outsAt0 m c (t.val - 1) (by omega)).2.2.1 := by
  refine (congrArg (fun o => o.2.2.1) (outsAt0_B m c t h h' h h' h h')).trans ?_
  dsimp only
  generalize iblk m c 0 t = d
  generalize iblk m c 1 t = y
  generalize iblk m c 2 t = x
  generalize iblk m c 3 t = g
  generalize iblk m c 4 t = s
  generalize outsAt0 m c (t.val - 1) _ = o
  unfold out0_B_7
  rw [View.read_writes_eq_canon _ _ _ (fun z => cover0_B_7 (y := z) ..)]
  unfold kernelRun0_B
  dsimp only
  rw [View.canon_unit_zero hz]
  simp only [View.readAt_eq_ld, Memref.IsWhole.read_unread, View.ld_unit_zero (S := S512x2048) hz, View.ld_unit_zero (S := S1x2048) hz]

theorem gain_first (c : Dev nD) (t : Fin cfg0.N) (h : t.val % 8 = 0) (h' : ¬1 ≤ t.val) :
    (outsAt0 m c t.val t.isLt).2.2.2 = k0_pay2 (k0_pay6 (iblk m c 2 t)) (k0_pay7 (iblk m c 0 t)) (iblk m c 4 t) := by
  refine (congrArg (fun o => o.2.2.2) (outsAt0_A m c t h h' h h' h h')).trans ?_
  dsimp only
  generalize iblk m c 0 t = d
  generalize iblk m c 1 t = y
  generalize iblk m c 2 t = x
  generalize iblk m c 3 t = g
  generalize iblk m c 4 t = s
  unfold out0_A_8
  rw [View.read_writes_eq_canon _ _ _ (fun z => cover0_A_8 (y := z) ..)]
  unfold kernelRun0_A
  dsimp only
  rw [View.canon_unit_zero hz]
  unfold kernelRun0_A.sl.r_1 kernelRun0_A.sl.r_2 kernelRun0_A.sl.r_3
  simp only [View.readAt_eq_ld, Memref.IsWhole.read_unread, View.ld_unit_zero (S := S512x2048) hz, View.ld_unit_zero (S := S1x2048) hz]

theorem gain_next (c : Dev nD) (t : Fin cfg0.N) (h : ¬t.val % 8 = 0) (h' : 1 ≤ t.val) :
    (outsAt0 m c t.val t.isLt).2.2.2 = k0_pay3 (k0_pay6 (iblk m c 2 t)) (k0_pay7 (iblk m c 0 t)) (iblk m c 4 t) (outsAt0 m c (t.val - 1) (by omega)).2.2.2 := by
  refine (congrArg (fun o => o.2.2.2) (outsAt0_B m c t h h' h h' h h')).trans ?_
  dsimp only
  generalize iblk m c 0 t = d
  generalize iblk m c 1 t = y
  generalize iblk m c 2 t = x
  generalize iblk m c 3 t = g
  generalize iblk m c 4 t = s
  generalize outsAt0 m c (t.val - 1) _ = o
  unfold out0_B_8
  rw [View.read_writes_eq_canon _ _ _ (fun z => cover0_B_8 (y := z) ..)]
  unfold kernelRun0_B
  dsimp only
  rw [View.canon_unit_zero hz]
  unfold kernelRun0_B.sl.r_1 kernelRun0_B.sl.r_2 kernelRun0_B.sl.r_3
  simp only [View.readAt_eq_ld, Memref.IsWhole.read_unread, View.ld_unit_zero (S := S512x2048) hz, View.ld_unit_zero (S := S1x2048) hz]

/-! ## The blocks -/

theorem place0 : ∀ t : Fin cfg0.N, win0_0.index t = ![t.val, 0] := (by decide +kernel : ∀ t : Fin grid0.N, _)
theorem place1 : ∀ t : Fin cfg0.N, win0_1.index t = ![t.val, 0] := (by decide +kernel : ∀ t : Fin grid0.N, _)
theorem place2 : ∀ t : Fin cfg0.N, win0_2.index t = ![t.val, 0] := (by decide +kernel : ∀ t : Fin grid0.N, _)
theorem place3 : ∀ t : Fin cfg0.N, win0_3.index t = ![0, 0] := (by decide +kernel : ∀ t : Fin grid0.N, _)
theorem place4 : ∀ t : Fin cfg0.N, win0_4.index t = ![0, 0] := (by decide +kernel : ∀ t : Fin grid0.N, _)
theorem place5 : ∀ t : Fin cfg0.N, win0_5.index t = ![t.val, 0] := (by decide +kernel : ∀ t : Fin grid0.N, _)
theorem place6 : ∀ t : Fin cfg0.N, win0_6.index t = ![0, 0] := (by decide +kernel : ∀ t : Fin grid0.N, _)
theorem place7 : ∀ t : Fin cfg0.N, win0_7.index t = ![0, 0] := (by decide +kernel : ∀ t : Fin grid0.N, _)
theorem place8 : ∀ t : Fin cfg0.N, win0_8.index t = ![0, 0] := (by decide +kernel : ∀ t : Fin grid0.N, _)

theorem points (t : Fin cfg0.N) : t.val < 8 := lt_of_lt_of_eq t.isLt N_0

/-- The row of the array that row `r` of a block is. -/
abbrev place (t : Fin cfg0.N) (r : Fin 512) : Fin 4096 := ⟨512 * t.val + r.val, by have := points t; omega⟩

theorem blk0 (c : Dev nD) (t : Fin cfg0.N) (r : Fin 512) (q : Fin 2048) :
    iblk m c 0 t (ix2 r q) = m ((c : Thread nD τ).loc main_arg0) (ix2 (place t r) q) := by
  have hp := points t
  have e : ∀ A : Buf (Elt Ideal) ((c : Thread nD τ).loc main_arg0), ((cfg0.win 0).blk t).view.read (Elt Ideal) A (ix2 r q) = A (ix2 (place t r) q) :=
    fun A => by rw [View.read_apply]; show A _ = A _; refine congrArg A ?_; blk_ext [place0, place]
  exact e (V m c main_arg0)

theorem blk1 (c : Dev nD) (t : Fin cfg0.N) (r : Fin 512) (q : Fin 2048) :
    iblk m c 1 t (ix2 r q) = m ((c : Thread nD τ).loc main_arg1) (ix2 (place t r) q) := by
  have hp := points t
  have e : ∀ A : Buf (Elt Ideal) ((c : Thread nD τ).loc main_arg1), ((cfg0.win 1).blk t).view.read (Elt Ideal) A (ix2 r q) = A (ix2 (place t r) q) :=
    fun A => by rw [View.read_apply]; show A _ = A _; refine congrArg A ?_; blk_ext [place1, place]
  exact e (V m c main_arg1)

theorem blk2 (c : Dev nD) (t : Fin cfg0.N) (r : Fin 512) (q : Fin 2048) :
    iblk m c 2 t (ix2 r q) = m ((c : Thread nD τ).loc main_arg2) (ix2 (place t r) q) := by
  have hp := points t
  have e : ∀ A : Buf (Elt Ideal) ((c : Thread nD τ).loc main_arg2), ((cfg0.win 2).blk t).view.read (Elt Ideal) A (ix2 r q) = A (ix2 (place t r) q) :=
    fun A => by rw [View.read_apply]; show A _ = A _; refine congrArg A ?_; blk_ext [place2, place]
  exact e (V m c main_arg2)

theorem blk3 (c : Dev nD) (t : Fin cfg0.N) (q : Fin 2048) :
    iblk m c 3 t (ix2 0 q) = m ((c : Thread nD τ).loc main_arg3) (ix2 0 q) := by
  have e : ∀ A : Buf (Elt Ideal) ((c : Thread nD τ).loc main_arg3), ((cfg0.win 3).blk t).view.read (Elt Ideal) A (ix2 0 q) = A (ix2 0 q) :=
    fun A => by rw [View.read_apply]; show A _ = A _; refine congrArg A ?_; blk_ext [place3]
  exact e (V m c main_arg3)

theorem blk4 (c : Dev nD) (t : Fin cfg0.N) (q : Fin 2048) :
    iblk m c 4 t (ix2 0 q) = m ((c : Thread nD τ).loc main_arg4) (ix2 0 q) := by
  have e : ∀ A : Buf (Elt Ideal) ((c : Thread nD τ).loc main_arg4), ((cfg0.win 4).blk t).view.read (Elt Ideal) A (ix2 0 q) = A (ix2 0 q) :=
    fun A => by rw [View.read_apply]; show A _ = A _; refine congrArg A ?_; blk_ext [place4]
  exact e (V m c main_arg4)

/-! ## The gradient of the rows -/

/-- The row `i` of each argument that has a row for each row, and the two rows the others are. -/
abbrev dRow (c : Dev nD) (i : Fin 4096) (v : Fin 2048) : EReal := m ((c : Thread nD τ).loc main_arg0) (ix2 i v)
abbrev yRow (c : Dev nD) (i : Fin 4096) (v : Fin 2048) : EReal := m ((c : Thread nD τ).loc main_arg1) (ix2 i v)
abbrev xRow (c : Dev nD) (i : Fin 4096) (v : Fin 2048) : EReal := m ((c : Thread nD τ).loc main_arg2) (ix2 i v)
abbrev gRow (c : Dev nD) (v : Fin 2048) : EReal := m ((c : Thread nD τ).loc main_arg3) (ix2 0 v)
abbrev sRow (c : Dev nD) (v : Fin 2048) : EReal := m ((c : Thread nD τ).loc main_arg4) (ix2 0 v)

abbrev rows (c : Dev nD) (i : Fin 4096) (j : Fin 2048) : EReal := projected (dRow m c i) (sRow m c) (gRow m c) (xRow m c i) (yRow m c i) j

theorem written5 (c : Dev nD) (t : Fin cfg0.N) (r : Fin 512) (q : Fin 2048) : (outsAt0 m c t.val t.isLt).1 (ix2 r q) = rows m c (place t r) q := by
  have e : (outsAt0 m c t.val t.isLt).1
      = k0_pay4 (k0_pay5 (iblk m c 2 t)) (k0_pay6 (iblk m c 2 t)) (k0_pay7 (iblk m c 0 t)) (iblk m c 4 t) (iblk m c 1 t) (iblk m c 3 t) := by
    have hp := points t
    by_cases h : t.val % 8 = 0
    · exact rows_first m c t h (by omega)
    · exact rows_next m c t h (by omega)
  refine (congrFun e _).trans ((pay4 _ _ _ _ _ r q).trans ?_)
  exact congr (congr (congr (congr (congr (congrArg projected (funext fun v => blk0 m c t r v)) (funext fun v => blk4 m c t v)) (funext fun v => blk3 m c t v))
    (funext fun v => blk2 m c t r v)) (funext fun v => blk1 m c t r v)) rfl

theorem result5 (c : Dev nD) (i : Fin 4096) (j : Fin 2048) : (dats m 0 c).arrAt 5 cfg0.N (ix2 i j) = rows m c i j := by
  refine ((dats m 0 c).arrAt_forall_of_covers 5 (fun i v => v = entry (rows m c) (i (0 : Fin 2)).val (i (1 : Fin 2)).val) (by decide +kernel)
    (fun t hf y => ?_) (ix2 i j)).trans (entry_eq _ i.isLt j.isLt)
  blk_simp [place5]
  rw [after0_5]
  refine (congrArg _ (eq_ix2 y)).trans ((written5 m c t (y (0 : Fin 2)) (y (1 : Fin 2))).trans (Eq.symm ?_))
  rw [Nat.mul_comm _ 512]
  exact entry_eq (rows m c) (place t (y (0 : Fin 2))).isLt (y (1 : Fin 2)).isLt

/-! ## The three sums over all rows -/

/-- What adds up the products of each block's rows ends with those of all rows. -/
theorem summed (f g : Fin 4096 → EReal) (acc : (t : ℕ) → t < cfg0.N → EReal)
    (first : ∀ t : Fin cfg0.N, t.val % 8 = 0 → ¬1 ≤ t.val → acc t.val t.isLt = ∑ r : Fin 512, f (place t r) * g (place t r))
    (next : ∀ t : Fin cfg0.N, ¬t.val % 8 = 0 → 1 ≤ t.val →
      acc t.val t.isLt = acc (t.val - 1) (by omega) + ∑ r : Fin 512, f (place t r) * g (place t r))
    (t : Fin cfg0.N) (ht : t.val % 8 = 7) : acc t.val t.isLt = ∑ p, f p * g p := by
  have e : ∀ (h : Fin 4096 → EReal) (t : Fin cfg0.N) (r : Fin 512), h (place t r) = entry (fun p (_ : Fin 1) => h p) (512 * (t.val % 8) + r.val) 0 := fun h t r => by
    have hp := points t
    rw [Nat.mod_eq_of_lt hp]; exact (entry_eq (fun p (_ : Fin 1) => h p) (place t r).isLt Nat.one_pos).symm
  simp only [e f, e g] at first next
  have N8 : cfg0.N = 8 := N_0
  refine (fold (n := 8) (T := 512) (by omega) acc acc (fun _ p => entry (fun p (_ : Fin 1) => f p) p 0) (fun _ p => entry (fun p (_ : Fin 1) => g p) p 0)
    (fun t h h0 => first ⟨t, h⟩ h0 (by show ¬1 ≤ t; omega)) (fun t h h0 _ => next ⟨t, h⟩ (by show ¬t % 8 = 0; omega) (by show 1 ≤ t; omega))
    (fun t h h0 => next ⟨t, h⟩ (by show ¬t % 8 = 0; omega) (by show 1 ≤ t; omega)) t.val t.isLt (by omega)).trans ?_
  rw [dotTo_fin]
  exact Finset.sum_congr rfl fun p _ => congrArg₂ (· * ·) (entry_eq _ p.isLt Nat.one_pos) (entry_eq _ p.isLt Nat.one_pos)

/-- An entry of the normed row, before the gain. -/
abbrev unit (c : Dev nD) (i : Fin 4096) (j : Fin 2048) : EReal := xRow m c i j * invRms (xRow m c i)

abbrev scale (c : Dev nD) (j : Fin 2048) : EReal := ∑ p, dRow m c p j * (unit m c p j * gRow m c j)
abbrev shift (c : Dev nD) (j : Fin 2048) : EReal := ∑ p, dRow m c p j * 1
abbrev gain (c : Dev nD) (j : Fin 2048) : EReal := ∑ p, dRow m c p j * (1 + sRow m c j) * unit m c p j

theorem unit_blk (c : Dev nD) (t : Fin cfg0.N) (r : Fin 512) (q : Fin 2048) :
    ((show Vec Ideal S512x2048 .f32 from iblk m c 2 t) (ix2 r q) * invRms fun v => (show Vec Ideal S512x2048 .f32 from iblk m c 2 t) (ix2 r v)) = unit m c (place t r) q :=
  congrArg₂ (· * ·) (blk2 m c t r q) (congrArg invRms (funext fun v => blk2 m c t r v))

theorem scale_part (c : Dev nD) (t : Fin cfg0.N) (q : Fin 2048) : k0_pay8 (iblk m c 2 t) (iblk m c 0 t) (iblk m c 3 t) (ix2 0 q)
    = ∑ r : Fin 512, dRow m c (place t r) q * (unit m c (place t r) q * gRow m c q) :=
  (pay8 _ _ _ q).trans (Finset.sum_congr rfl fun r _ => congrArg₂ (· * ·) (blk0 m c t r q) (congrArg₂ (· * ·) (unit_blk m c t r q) (blk3 m c t q)))

theorem shift_part (c : Dev nD) (t : Fin cfg0.N) (q : Fin 2048) : k0_pay10 (iblk m c 0 t) (ix2 0 q) = ∑ r : Fin 512, dRow m c (place t r) q * 1 :=
  (pay10 _ q).trans (Finset.sum_congr rfl fun r _ => (blk0 m c t r q).trans (mul_one (M := EReal) _).symm)

theorem gain_part (c : Dev nD) (t : Fin cfg0.N) (q : Fin 2048) : k0_pay2 (k0_pay6 (iblk m c 2 t)) (k0_pay7 (iblk m c 0 t)) (iblk m c 4 t) (ix2 0 q)
    = ∑ r : Fin 512, dRow m c (place t r) q * (1 + sRow m c q) * unit m c (place t r) q :=
  (pay2 _ _ _ q).trans (Finset.sum_congr rfl fun r _ =>
    congrArg₂ (· * ·) (congrArg₂ (· * ·) (blk0 m c t r q) (congrArg (1 + ·) (blk4 m c t q))) (unit_blk m c t r q))

theorem written6 (c : Dev nD) (t : Fin cfg0.N) (ht : t.val % 8 = 7) (q : Fin 2048) : (outsAt0 m c t.val t.isLt).2.1 (ix2 0 q) = scale m c q :=
  summed (fun p => dRow m c p q) (fun p => unit m c p q * gRow m c q) (fun t h => (outsAt0 m c t h).2.1 (ix2 0 q))
    (fun t h h' => (congrFun (scale_first m c t h h') _).trans (scale_part m c t q))
    (fun t h h' => (congrFun (scale_next m c t h h') _).trans ((pay9 _ _ _ _ q).trans (congrArg (_ + ·) (scale_part m c t q)))) t ht

theorem result6 (c : Dev nD) (j : Fin 2048) : (dats m 0 c).arrAt 6 cfg0.N (ix2 0 j) = scale m c j := by
  refine ((dats m 0 c).arrAt_forall_of_covers 6 (fun i v => v = entry (fun (_ : Fin 1) => scale m c) (i (0 : Fin 2)).val (i (1 : Fin 2)).val) (by decide +kernel)
    (fun t hf y => ?_) (ix2 0 j)).trans (entry_eq (fun (_ : Fin 1) => scale m c) Nat.one_pos j.isLt)
  blk_simp [place6]
  rw [after0_6]
  have hy : y = ix2 (0 : Fin 1) (y (1 : Fin 2)) := (eq_ix2 y).trans (congrArg (fun z : Fin 1 => ix2 z (y (1 : Fin 2))) (Subsingleton.elim (α := Fin 1) _ _))
  refine (congrArg _ hy).trans ((written6 m c t ((flush0_6 t).mp hf) (y (1 : Fin 2))).trans (Eq.symm ?_))
  exact entry_eq (fun (_ : Fin 1) => scale m c) Nat.one_pos (y (1 : Fin 2)).isLt

theorem written7 (c : Dev nD) (t : Fin cfg0.N) (ht : t.val % 8 = 7) (q : Fin 2048) : (outsAt0 m c t.val t.isLt).2.2.1 (ix2 0 q) = shift m c q :=
  summed (fun p => dRow m c p q) (fun _ => 1) (fun t h => (outsAt0 m c t h).2.2.1 (ix2 0 q))
    (fun t h h' => (congrFun (shift_first m c t h h') _).trans (shift_part m c t q))
    (fun t h h' => (congrFun (shift_next m c t h h') _).trans ((pay11 _ _ q).trans (congrArg (_ + ·) (shift_part m c t q)))) t ht

theorem result7 (c : Dev nD) (j : Fin 2048) : (dats m 0 c).arrAt 7 cfg0.N (ix2 0 j) = shift m c j := by
  refine ((dats m 0 c).arrAt_forall_of_covers 7 (fun i v => v = entry (fun (_ : Fin 1) => shift m c) (i (0 : Fin 2)).val (i (1 : Fin 2)).val) (by decide +kernel)
    (fun t hf y => ?_) (ix2 0 j)).trans (entry_eq (fun (_ : Fin 1) => shift m c) Nat.one_pos j.isLt)
  blk_simp [place7]
  rw [after0_7]
  have hy : y = ix2 (0 : Fin 1) (y (1 : Fin 2)) := (eq_ix2 y).trans (congrArg (fun z : Fin 1 => ix2 z (y (1 : Fin 2))) (Subsingleton.elim (α := Fin 1) _ _))
  refine (congrArg _ hy).trans ((written7 m c t ((flush0_7 t).mp hf) (y (1 : Fin 2))).trans (Eq.symm ?_))
  exact entry_eq (fun (_ : Fin 1) => shift m c) Nat.one_pos (y (1 : Fin 2)).isLt

theorem written8 (c : Dev nD) (t : Fin cfg0.N) (ht : t.val % 8 = 7) (q : Fin 2048) : (outsAt0 m c t.val t.isLt).2.2.2 (ix2 0 q) = gain m c q :=
  summed (fun p => dRow m c p q * (1 + sRow m c q)) (fun p => unit m c p q) (fun t h => (outsAt0 m c t h).2.2.2 (ix2 0 q))
    (fun t h h' => (congrFun (gain_first m c t h h') _).trans (gain_part m c t q))
    (fun t h h' => (congrFun (gain_next m c t h h') _).trans ((pay3 _ _ q _ _).trans (congrArg (_ + ·) (gain_part m c t q)))) t ht

theorem result8 (c : Dev nD) (j : Fin 2048) : (dats m 0 c).arrAt 8 cfg0.N (ix2 0 j) = gain m c j := by
  refine ((dats m 0 c).arrAt_forall_of_covers 8 (fun i v => v = entry (fun (_ : Fin 1) => gain m c) (i (0 : Fin 2)).val (i (1 : Fin 2)).val) (by decide +kernel)
    (fun t hf y => ?_) (ix2 0 j)).trans (entry_eq (fun (_ : Fin 1) => gain m c) Nat.one_pos j.isLt)
  blk_simp [place8]
  rw [after0_8]
  have hy : y = ix2 (0 : Fin 1) (y (1 : Fin 2)) := (eq_ix2 y).trans (congrArg (fun z : Fin 1 => ix2 z (y (1 : Fin 2))) (Subsingleton.elim (α := Fin 1) _ _))
  refine (congrArg _ hy).trans ((written8 m c t ((flush0_8 t).mp hf) (y (1 : Fin 2))).trans (Eq.symm ?_))
  exact entry_eq (fun (_ : Fin 1) => gain m c) Nat.one_pos (y (1 : Fin 2)).isLt

/-! ## The reference -/

section Reference

open Cert.PremixBwdReferenceIdeal.Read

variable (d : Vec Ideal S4096x2048 .bf16) (y x : Vec Ideal S4096x2048 .f32) (g s : Vec Ideal S1x2048 .f32) (i : Fin 4096) (j : Fin 2048)

theorem v7_apply : val_main_v7 (F := Ideal) x (ix2 i 0) = meanSq fun v => x (ix2 i v) := by
  pointwise [val_main_v7, val_main_v6, val_main_cst_1, val_main_v5, val_main_v4, val_main_cst_0, val_main_v3, val_main_v2, val_main_cst, val_main_v1]
  rfl

theorem v8_apply : val_main_v8 (F := Ideal) x (ix2 i 0) = invRms fun v => x (ix2 i v) :=
  (val_main_v8_apply x _).trans (congrArg Ideal.rsqrt (v7_apply x i))

theorem v13_apply : val_main_v13 (F := Ideal) x (ix2 i j) = x (ix2 i j) * invRms fun v => x (ix2 i v) := by
  have e : val_main_v13 (F := Ideal) x (ix2 i j) = x (ix2 i j) * val_main_v8 (F := Ideal) x (ix2 i 0) := by
    pointwise [val_main_v13, val_main_v12]
  rw [e, v8_apply]

theorem v24_apply : val_main_v24 (F := Ideal) d (ix2 0 j) = ∑ i : Fin 4096, d (ix2 i j) := by
  pointwise [val_main_v24, val_main_v23, val_main_cst_5, val_main_v22]

theorem v27_apply : val_main_v27 (F := Ideal) d x g (ix2 0 j)
    = ∑ i : Fin 4096, (x (ix2 i j) * invRms fun v => x (ix2 i v)) * g (ix2 0 j) * d (ix2 i j) := by
  have e : val_main_v27 (F := Ideal) d x g (ix2 0 j) = ∑ i : Fin 4096, val_main_v13 (F := Ideal) x (ix2 i j) * g (ix2 0 j) * d (ix2 i j) := by
    pointwise [val_main_v27, val_main_v26, val_main_cst_6, val_main_v25, val_main_v22, val_main_v15, val_main_v14]
  rw [e]
  exact Finset.sum_congr rfl fun i _ => by rw [v13_apply]

theorem v29_apply : val_main_v29 (F := Ideal) d s (ix2 i j) = d (ix2 i j) * (1 + s (ix2 0 j)) := by
  pointwise [val_main_v29, val_main_v28, val_main_v22, val_main_v17, val_main_v16, val_main_cst_4]

theorem v32_apply : val_main_v32 (F := Ideal) d x s (ix2 0 j)
    = ∑ i : Fin 4096, (x (ix2 i j) * invRms fun v => x (ix2 i v)) * (d (ix2 i j) * (1 + s (ix2 0 j))) := by
  have e : val_main_v32 (F := Ideal) d x s (ix2 0 j) = ∑ i : Fin 4096, val_main_v13 (F := Ideal) x (ix2 i j) * val_main_v29 (F := Ideal) d s (ix2 i j) := by
    pointwise [val_main_v32, val_main_v31, val_main_cst_7, val_main_v30]
  rw [e]
  exact Finset.sum_congr rfl fun i _ => by rw [v13_apply, v29_apply]

theorem v34_apply : val_main_v34 (F := Ideal) d g s (ix2 i j) = reached (fun v => d (ix2 i v)) (fun v => s (ix2 0 v)) (fun v => g (ix2 0 v)) j := by
  have e : val_main_v34 (F := Ideal) d g s (ix2 i j) = val_main_v29 (F := Ideal) d s (ix2 i j) * g (ix2 0 j) := by
    pointwise [val_main_v34, val_main_v33]
  rw [e, v29_apply]
  rfl

theorem v37_apply : val_main_v37 (F := Ideal) d x g s (ix2 i 0)
    = ∑ v : Fin 2048, x (ix2 i v) * reached (fun v => d (ix2 i v)) (fun v => s (ix2 0 v)) (fun v => g (ix2 0 v)) v := by
  have e : val_main_v37 (F := Ideal) d x g s (ix2 i 0) = ∑ v : Fin 2048, x (ix2 i v) * val_main_v34 (F := Ideal) d g s (ix2 i v) := by
    pointwise [val_main_v37, val_main_v36, val_main_cst_8, val_main_v35]
  rw [e]
  exact Finset.sum_congr rfl fun v _ => by rw [v34_apply]

theorem v11_apply : val_main_v11 (F := Ideal) x (ix2 i 0)
    = Ideal.ofBits .f32 0xBF000000#32 * Ideal.div (invRms fun v => x (ix2 i v)) (meanSq fun v => x (ix2 i v)) := by
  have e : val_main_v11 (F := Ideal) x (ix2 i 0)
      = Ideal.ofBits .f32 0xBF000000#32 * Ideal.div (val_main_v8 (F := Ideal) x (ix2 i 0)) (val_main_v7 (F := Ideal) x (ix2 i 0)) := by
    rw [val_main_v11_apply, val_main_v9_apply]
    generalize val_main_v8 (F := Ideal) x (ix2 i 0) = a
    generalize val_main_v7 (F := Ideal) x (ix2 i 0) = b
    pointwise [val_main_v10, val_main_cst_3]
  rw [e, v8_apply, v7_apply]

theorem v44_apply : val_main_v44 (F := Ideal) d x g s (ix2 i j)
    = squarePart (fun v => d (ix2 i v)) (fun v => s (ix2 0 v)) (fun v => g (ix2 0 v)) (fun v => x (ix2 i v)) := by
  have e : val_main_v44 (F := Ideal) d x g s (ix2 i j) = val_main_v42 (F := Ideal) d x g s (ix2 i 0) := by
    pointwise [val_main_v44, val_main_v43, val_main_cst_10]
    exact Fin.sum_univ_one _
  have e' : val_main_v42 (F := Ideal) d x g s (ix2 i 0)
      = Ideal.div (val_main_v37 (F := Ideal) d x g s (ix2 i 0) * val_main_v11 (F := Ideal) x (ix2 i 0)) (Ideal.ofBits .f32 0x45000000#32) := by
    rw [val_main_v42_apply, val_main_v40_apply, val_main_v41_apply]
    rfl
  rw [e, e', v37_apply, v11_apply]
  rfl

theorem v49_apply : val_main_v49 (F := Ideal) d y x g s (ix2 i j)
    = differentiated (fun v => d (ix2 i v)) (fun v => s (ix2 0 v)) (fun v => g (ix2 0 v)) (fun v => x (ix2 i v)) (fun v => y (ix2 i v)) j := by
  have e : val_main_v38 (F := Ideal) x (ix2 i j) = val_main_v8 (F := Ideal) x (ix2 i 0) := by
    pointwise [val_main_v38]
  rw [val_main_v49_apply, val_main_v48_apply, val_main_v47_apply, val_main_v46_apply, val_main_v45_apply, val_main_v39_apply, v44_apply, e, v34_apply, v8_apply]
  rfl

end Reference

/-! ## The two agree -/

variable {m}

theorem column (i : S1x2048.Idx) : ∃ j : Fin 2048, i = ix2 (0 : Fin 1) j :=
  ⟨i 1, (eq_ix2 i).trans (congrArg (fun z : Fin 1 => ix2 z (i 1)) (Subsingleton.elim (α := Fin 1) _ _))⟩

open Cert.PremixBwdReferenceIdeal.Read in
theorem total5 (c : Dev nD) : (dats m 0 c).arrAt 5 cfg0.N
    = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  funext i
  rw [eq_ix2 i]
  exact (result5 m c _ _).trans ((projected_eq _ _ _ _ _ _).trans (v49_apply _ _ _ _ _ _ _).symm)

open Cert.PremixBwdReferenceIdeal.Read in
theorem total6 (c : Dev nD) : (dats m 0 c).arrAt 6 cfg0.N = val_main_v27 (F := Ideal) (m ((c : Thread nD τ).loc main_arg0)) (m ((c : Thread nD τ).loc main_arg2)) (m ((c : Thread nD τ).loc main_arg3)) := by
  funext i
  obtain ⟨j, rfl⟩ := column i
  exact (result6 m c j).trans ((Finset.sum_congr rfl fun p _ => mul_comm (G := EReal) _ _).trans (v27_apply _ _ _ j).symm)

open Cert.PremixBwdReferenceIdeal.Read in
theorem total7 (c : Dev nD) : (dats m 0 c).arrAt 7 cfg0.N = val_main_v24 (F := Ideal) (m ((c : Thread nD τ).loc main_arg0)) := by
  funext i
  obtain ⟨j, rfl⟩ := column i
  exact (result7 m c j).trans ((Finset.sum_congr rfl fun p _ => mul_one (M := EReal) _).trans (v24_apply _ j).symm)

open Cert.PremixBwdReferenceIdeal.Read in
theorem total8 (c : Dev nD) : (dats m 0 c).arrAt 8 cfg0.N = val_main_v32 (F := Ideal) (m ((c : Thread nD τ).loc main_arg0)) (m ((c : Thread nD τ).loc main_arg2)) (m ((c : Thread nD τ).loc main_arg4)) := by
  funext i
  obtain ⟨j, rfl⟩ := column i
  exact (result8 m c j).trans ((Finset.sum_congr rfl fun p _ => mul_comm (G := EReal) _ _).trans (v32_apply _ _ _ j).symm)

/-- The run, its results named. -/
theorem run_values (m : (ℓ : Loc nD τ sig) → Buf (Elt Ideal) ℓ) (ρ : Dev nD → PrngReg) : θ_run defs (onTc (τ := τ) (main (F := Ideal))) ⟨m, fun _ => 0, ρ⟩ (fun r => ∀ c : Dev nD,
    r.2.mem ((c : Thread nD τ).loc main_v0_0) = (dats m 0 c).arrAt 5 cfg0.N
    ∧ r.2.mem ((c : Thread nD τ).loc main_v0_1) = (dats m 0 c).arrAt 6 cfg0.N
    ∧ r.2.mem ((c : Thread nD τ).loc main_v0_2) = (dats m 0 c).arrAt 7 cfg0.N
    ∧ r.2.mem ((c : Thread nD τ).loc main_v0_3) = (dats m 0 c).arrAt 8 cfg0.N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)) :=
  (θ_run defs _ _).mono (fun _ h c => ⟨(h c).1 5, (h c).1 6, (h c).1 7, (h c).1 8,
    ((h c).1 0).trans ((dats m 0 c).arrAt_in 0 rfl _), ((h c).1 1).trans ((dats m 0 c).arrAt_in 1 rfl _), ((h c).1 2).trans ((dats m 0 c).arrAt_in 2 rfl _),
    ((h c).1 3).trans ((dats m 0 c).arrAt_in 3 rfl _), ((h c).1 4).trans ((dats m 0 c).arrAt_in 4 rfl _)⟩)
    (run_main m ρ)

open Cert.PremixBwdReferenceIdeal.Read in
/-- The call computes what the reference computes. -/
theorem agree : Cert.algebraic_PremixBwdIdeal_PremixBwdReferenceIdeal := by
  pair_intro
  · run_from run_values m g
  · refine Idealize.ShloMosaic.θ_run_mono (Cert.PremixBwdReferenceIdeal.Value.run (F := Ideal) m' g') ?_
    intro r hr c
    obtain ⟨e0, e1, e2, e3, e4⟩ := hagree c
    refine ⟨(hr c).1.trans ?_, (hr c).2.1.trans ?_, (hr c).2.2.1.trans ?_, (hr c).2.2.2.1.trans ?_, (hr c).2.2.2.2⟩
    · rw [total5 c, val_main_v49_eq, e0, e1, e2, e3, e4]
    · rw [total6 c, val_main_v27_eq, e0, e2, e3]
    · rw [total7 c, val_main_v24_eq, e0]
    · rw [total8 c, val_main_v32_eq, e0, e2, e4]

theorem frame_reference : Cert.quiescent_PremixBwdReferenceIdeal := fun m ρ _ =>
  (θ_run Cert.PremixBwdReferenceIdeal.defs _ _).mono (fun r h => ⟨fun c => (h c).2.2.2.2, Idealize.ShloMosaic.sem_eq_zero_of_no_sems (by decide) r.2⟩)
    (Cert.PremixBwdReferenceIdeal.Value.run (F := Ideal) m ρ)

end Cert.PremixBwdIdeal.Products
end
-- ==== Proof.Products.PremlpPostmixBwd.lean ====
/- The row call of the backward pass between its halves: the gradients of the norm before the MLP and of the norm after the mixer. -/
module

public import proofs.«01_k».proof.Defs
public import proofs.«01_k».proof.Proof.Products.Sum
public import proofs.«01_k».proof.Proof.Products.NormBwd
public import proofs.«01_k».proof.Proof.Gen.PremlpPostmixBwdIdeal.Frame
public import proofs.«01_k».proof.Proof.Gen.PremlpPostmixBwdReferenceIdeal
public import proofs.«01_k».proof.Proof.Gen.PremlpPostmixBwdReferenceIdeal.Run
public import proofs.«01_k».proof.Proof.Gen.PremlpPostmixBwdReferenceIdeal.Read
public import Idealize.ShloMosaic.Lib.Pipeline.ValueKit
public import Idealize.ShloMosaic.Lib.Pipeline.ValueKit.Geometry
public import Idealize.ShloMosaic.Lib.Pointwise
public import Idealize.ShloMosaic.Lib.Tactic
public import Idealize.ShloMosaic.Lib.Claim
public import Idealize.ShloMosaic.Lib.Quiescent

@[expose] public section

set_option maxRecDepth 16384

noncomputable section

namespace Cert.PremlpPostmixBwdIdeal.Products

open Idealize.ShloMosaic Idealize.ShloMosaic.TcCoe Idealize.SL.Sem Cert.PremlpPostmixBwdIdeal Cert.PremlpPostmixBwdIdeal.Gen Cert.Products

variable (m : (ℓ : Loc nD τ sig) → Buf (Elt Ideal) ℓ)

/-! ## What the body computes of one block -/

theorem hz : (![0, 0] : Fin 2 → Nat) = fun _ => 0 := funext fun a => by fin_cases a <;> rfl

section Body

variable (d y : Vec Ideal S512x2048 .bf16) (p x w : Vec Ideal S512x2048 .f32) (s g a b old : Vec Ideal S1x2048 .f32) (r : Fin 512) (q : Fin 2048)

theorem pay2 (r : Fin 512) : k0_pay2 x (ix2 r 0) = invRms fun v => x (ix2 r v) := by
  pointwise [k0_pay2]
  rfl

theorem pay3 : k0_pay3 x (ix2 r q) = x (ix2 r q) * invRms fun v => x (ix2 r v) := by
  have e : k0_pay3 x (ix2 r q) = x (ix2 r q) * k0_pay2 x (ix2 r 0) := by
    unfold k0_pay3
    generalize k0_pay2 x = z
    pointwise []
  rw [e, pay2]

theorem pay4 : k0_pay4 d (ix2 r q) = d (ix2 r q) := by
  pointwise [k0_pay4]

theorem pay9 : k0_pay9 w s (ix2 r q) = w (ix2 r q) * (1 + s (ix2 0 q)) := by
  pointwise [k0_pay9]

/-- The gradient of the scale in one block. -/
theorem pay5 : k0_pay5 x d g (ix2 0 q) = ∑ r : Fin 512, d (ix2 r q) * ((x (ix2 r q) * invRms fun v => x (ix2 r v)) * g (ix2 0 q)) := by
  have e : k0_pay5 x d g (ix2 0 q) = ∑ r : Fin 512, k0_pay4 d (ix2 r q) * (k0_pay3 x (ix2 r q) * g (ix2 0 q)) := by
    unfold k0_pay5
    generalize k0_pay3 x = z
    generalize k0_pay4 d = w
    pointwise []
  rw [e]
  exact Finset.sum_congr rfl fun r _ => by rw [pay3, pay4]

theorem pay6 : k0_pay6 x d g old (ix2 0 q) = old (ix2 0 q) + k0_pay5 x d g (ix2 0 q) := by
  unfold k0_pay6
  generalize k0_pay5 x d g = z
  pointwise []

/-- The gradient of the shift in one block. -/
theorem pay7 : k0_pay7 d (ix2 0 q) = ∑ r : Fin 512, d (ix2 r q) := by
  pointwise [k0_pay7, k0_pay4]

theorem pay8 : k0_pay8 d old (ix2 0 q) = old (ix2 0 q) + k0_pay7 d (ix2 0 q) := by
  unfold k0_pay8
  generalize k0_pay7 d = z
  pointwise []

/-- The gradient of the first gain in one block. -/
theorem pay10 : k0_pay10 (k0_pay3 x) (k0_pay4 d) s (ix2 0 q)
    = ∑ r : Fin 512, d (ix2 r q) * (1 + s (ix2 0 q)) * (x (ix2 r q) * invRms fun v => x (ix2 r v)) := by
  have e : k0_pay10 (k0_pay3 x) (k0_pay4 d) s (ix2 0 q) = ∑ r : Fin 512, k0_pay9 (k0_pay4 d) s (ix2 r q) * k0_pay3 x (ix2 r q) := by
    unfold k0_pay10
    generalize k0_pay9 (k0_pay4 d) s = w
    generalize k0_pay3 x = z
    pointwise []
  rw [e]
  exact Finset.sum_congr rfl fun r _ => by rw [pay3, pay9, pay4]

theorem pay11 (u z : FVec Ideal S512x2048 .f32) : k0_pay11 u z s old (ix2 0 q) = old (ix2 0 q) + k0_pay10 u z s (ix2 0 q) := by
  unfold k0_pay11
  generalize k0_pay10 u z s = z
  pointwise []

/-- The gradient of the rows before the first norm. -/
theorem pay12 : k0_pay12 (k0_pay2 x) (k0_pay3 x) (k0_pay4 d) s p g (ix2 r q)
    = projected (fun v => d (ix2 r v)) (fun v => s (ix2 0 v)) (fun v => g (ix2 0 v)) (fun v => x (ix2 r v)) (fun v => p (ix2 r v)) q := by
  have e : k0_pay12 (k0_pay2 x) (k0_pay3 x) (k0_pay4 d) s p g (ix2 r q)
      = p (ix2 r q) + k0_pay2 x (ix2 r 0) * (k0_pay9 (k0_pay4 d) s (ix2 r q) * g (ix2 0 q)
        - k0_pay3 x (ix2 r q) * Ideal.div (∑ v : Fin 2048, k0_pay9 (k0_pay4 d) s (ix2 r v) * g (ix2 0 v) * k0_pay3 x (ix2 r v)) (Ideal.ofBits .f32 0x45000000#32)) := by
    unfold k0_pay12
    generalize k0_pay9 (k0_pay4 d) s = w
    generalize k0_pay3 x = z
    generalize k0_pay2 x = u
    pointwise []
  have e' : ∀ v : Fin 2048, k0_pay9 (k0_pay4 d) s (ix2 r v) * g (ix2 0 v)
      = reached (fun v => d (ix2 r v)) (fun v => s (ix2 0 v)) (fun v => g (ix2 0 v)) v := fun v => by rw [pay9, pay4, reached]
  rw [e, pay2, pay3, e', Finset.sum_congr rfl fun v _ => congrArg₂ (· * ·) (e' v) (pay3 x r v)]
  rfl

theorem pay13 : k0_pay13 y (ix2 r q) = y (ix2 r q) := by
  pointwise [k0_pay13]

theorem pay15 (r : Fin 512) : k0_pay15 (k0_pay14 y) (ix2 r 0) = invRms fun v => y (ix2 r v) := by
  pointwise [k0_pay15, k0_pay14, k0_pay13]
  rfl

theorem pay16 : k0_pay16 (k0_pay13 y) (k0_pay14 y) (ix2 r q) = y (ix2 r q) * invRms fun v => y (ix2 r v) := by
  have e : k0_pay16 (k0_pay13 y) (k0_pay14 y) (ix2 r q) = k0_pay13 y (ix2 r q) * k0_pay15 (k0_pay14 y) (ix2 r 0) := by
    unfold k0_pay16
    generalize k0_pay15 (k0_pay14 y) = z
    generalize k0_pay13 y = u
    pointwise []
  rw [e, pay13, pay15]

/-- The gradient of the gate in one block. -/
theorem pay17 : k0_pay17 w (k0_pay13 y) (k0_pay14 y) b (ix2 0 q)
    = ∑ r : Fin 512, w (ix2 r q) * ((y (ix2 r q) * invRms fun v => y (ix2 r v)) * b (ix2 0 q)) := by
  have e : k0_pay17 w (k0_pay13 y) (k0_pay14 y) b (ix2 0 q)
      = ∑ r : Fin 512, w (ix2 r q) * (k0_pay16 (k0_pay13 y) (k0_pay14 y) (ix2 r q) * b (ix2 0 q)) := by
    unfold k0_pay17
    generalize k0_pay16 (k0_pay13 y) (k0_pay14 y) = z
    pointwise []
  rw [e]
  exact Finset.sum_congr rfl fun r _ => by rw [pay16]

theorem pay18 (u : FVec Ideal S512x2048 .f32) (z : FVec Ideal S512x1 .f32) : k0_pay18 w u z b old (ix2 0 q) = old (ix2 0 q) + k0_pay17 w u z b (ix2 0 q) := by
  unfold k0_pay18
  generalize k0_pay17 w u z b = z
  pointwise []

theorem pay19 : k0_pay19 w a (ix2 r q) = w (ix2 r q) * a (ix2 0 q) := by
  pointwise [k0_pay19]

/-- The gradient of the second gain in one block. -/
theorem pay20 : k0_pay20 w (k0_pay13 y) (k0_pay14 y) a (ix2 0 q)
    = ∑ r : Fin 512, w (ix2 r q) * a (ix2 0 q) * (y (ix2 r q) * invRms fun v => y (ix2 r v)) := by
  have e : k0_pay20 w (k0_pay13 y) (k0_pay14 y) a (ix2 0 q)
      = ∑ r : Fin 512, k0_pay19 w a (ix2 r q) * k0_pay16 (k0_pay13 y) (k0_pay14 y) (ix2 r q) := by
    unfold k0_pay20
    generalize k0_pay16 (k0_pay13 y) (k0_pay14 y) = z
    generalize k0_pay19 w a = u
    pointwise []
  rw [e]
  exact Finset.sum_congr rfl fun r _ => by rw [pay16, pay19]

theorem pay21 (u : FVec Ideal S512x2048 .f32) (z : FVec Ideal S512x1 .f32) : k0_pay21 w u z a old (ix2 0 q) = old (ix2 0 q) + k0_pay20 w u z a (ix2 0 q) := by
  unfold k0_pay21
  generalize k0_pay20 w u z a = z
  pointwise []

/-- The gradient of the rows before the second norm: nothing is added to it, and the row was scaled by its gain alone. -/
theorem pay1 : k0_pay1 (k0_pay15 (k0_pay14 y)) (k0_pay22 w (k0_pay13 y) (k0_pay14 y) a b) (ix2 r q)
    = projected (fun v => w (ix2 r v) * a (ix2 0 v)) (fun _ => 0) (fun v => b (ix2 0 v)) (fun v => y (ix2 r v)) (fun _ => 0) q := by
  have e : k0_pay22 w (k0_pay13 y) (k0_pay14 y) a b (ix2 r q)
      = k0_pay19 w a (ix2 r q) * b (ix2 0 q) - k0_pay16 (k0_pay13 y) (k0_pay14 y) (ix2 r q)
        * Ideal.div (∑ v : Fin 2048, k0_pay19 w a (ix2 r v) * b (ix2 0 v) * k0_pay16 (k0_pay13 y) (k0_pay14 y) (ix2 r v)) (Ideal.ofBits .f32 0x45000000#32) := by
    unfold k0_pay22
    generalize k0_pay19 w a = u
    generalize k0_pay16 (k0_pay13 y) (k0_pay14 y) = z
    pointwise []
  have e' : ∀ v : Fin 2048, k0_pay19 w a (ix2 r v) * b (ix2 0 v)
      = reached (fun v => w (ix2 r v) * a (ix2 0 v)) (fun _ => 0) (fun v => b (ix2 0 v)) v := fun v => by rw [pay19, reached, add_zero, mul_one]
  have e'' : ∀ (u : FVec Ideal S512x1 .f32) (z : FVec Ideal S512x2048 .f32), k0_pay1 u z (ix2 r q) = u (ix2 r 0) * z (ix2 r q) := fun u z => by pointwise [k0_pay1]
  rw [e'', pay15, e, pay16, e', Finset.sum_congr rfl fun v _ => congrArg₂ (· * ·) (e' v) (pay16 y r v), projected, zero_add]

end Body

/-! ## What one point leaves -/

theorem rows_first (c : Dev nD) (t : Fin cfg0.N) (h : t.val % 8 = 0) (h' : ¬1 ≤ t.val) :
    (outsAt0 m c t.val t.isLt).1 = k0_pay12 (k0_pay2 (iblk m c 2 t)) (k0_pay3 (iblk m c 2 t)) (k0_pay4 (iblk m c 0 t)) (iblk m c 4 t) (iblk m c 1 t) (iblk m c 5 t) := by
  refine (congrArg (fun o => o.1) (outsAt0_A m c t h h' h h' h h' h h' h h')).trans ?_
  dsimp only
  generalize iblk m c 0 t = d
  generalize iblk m c 1 t = p
  generalize iblk m c 2 t = x
  generalize iblk m c 3 t = y
  generalize iblk m c 4 t = s
  generalize iblk m c 5 t = g
  generalize iblk m c 6 t = a
  generalize iblk m c 7 t = b
  unfold out0_A_8
  rw [View.read_writes_eq_canon _ _ _ (fun z => cover0_A_8 (y := z) ..)]
  unfold kernelRun0_A
  dsimp only
  rw [View.canon_unit_zero hz]
  simp only [kernelRun0_A.sl.r, kernelRun0_A.sl.r_1, kernelRun0_A.sl.r_2, kernelRun0_A.sl.r_3, kernelRun0_A.sl.r_4, View.readAt_eq_ld, Memref.IsWhole.read_unread, View.ld_unit_zero (S := S512x2048) hz, View.ld_unit_zero (S := S1x2048) hz]

theorem rows_next (c : Dev nD) (t : Fin cfg0.N) (h : ¬t.val % 8 = 0) (h' : 1 ≤ t.val) :
    (outsAt0 m c t.val t.isLt).1 = k0_pay12 (k0_pay2 (iblk m c 2 t)) (k0_pay3 (iblk m c 2 t)) (k0_pay4 (iblk m c 0 t)) (iblk m c 4 t) (iblk m c 1 t) (iblk m c 5 t) := by
  refine (congrArg (fun o => o.1) (outsAt0_B m c t h h' h h' h h' h h' h h')).trans ?_
  dsimp only
  generalize iblk m c 0 t = d
  generalize iblk m c 1 t = p
  generalize iblk m c 2 t = x
  generalize iblk m c 3 t = y
  generalize iblk m c 4 t = s
  generalize iblk m c 5 t = g
  generalize iblk m c 6 t = a
  generalize iblk m c 7 t = b
  generalize outsAt0 m c (t.val - 1) _ = o
  unfold out0_B_8
  rw [View.read_writes_eq_canon _ _ _ (fun z => cover0_B_8 (y := z) ..)]
  unfold kernelRun0_B
  dsimp only
  rw [View.canon_unit_zero hz]
  simp only [kernelRun0_B.sl.r, kernelRun0_B.sl.r_1, kernelRun0_B.sl.r_2, kernelRun0_B.sl.r_3, kernelRun0_B.sl.r_4, View.readAt_eq_ld, Memref.IsWhole.read_unread, View.ld_unit_zero (S := S512x2048) hz, View.ld_unit_zero (S := S1x2048) hz]

theorem again_first (c : Dev nD) (t : Fin cfg0.N) (h : t.val % 8 = 0) (h' : ¬1 ≤ t.val) :
    (outsAt0 m c t.val t.isLt).2.1 = k0_pay1 (k0_pay15 (k0_pay14 (iblk m c 3 t))) (k0_pay22 (k0_pay12 (k0_pay2 (iblk m c 2 t)) (k0_pay3 (iblk m c 2 t)) (k0_pay4 (iblk m c 0 t)) (iblk m c 4 t) (iblk m c 1 t) (iblk m c 5 t)) (k0_pay13 (iblk m c 3 t)) (k0_pay14 (iblk m c 3 t)) (iblk m c 6 t) (iblk m c 7 t)) := by
  refine (congrArg (fun o => o.2.1) (outsAt0_A m c t h h' h h' h h' h h' h h')).trans ?_
  dsimp only
  generalize iblk m c 0 t = d
  generalize iblk m c 1 t = p
  generalize iblk m c 2 t = x
  generalize iblk m c 3 t = y
  generalize iblk m c 4 t = s
  generalize iblk m c 5 t = g
  generalize iblk m c 6 t = a
  generalize iblk m c 7 t = b
  unfold out0_A_9
  rw [View.read_writes_eq_canon _ _ _ (fun z => cover0_A_9 (y := z) ..)]
  unfold kernelRun0_A
  dsimp only
  rw [View.canon_unit_zero hz]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, View.readAt_eq_ld, Memref.IsWhole.read_unread, View.ld_unit_zero (S := S512x2048) hz, View.ld_unit_zero (S := S1x2048) hz]

theorem again_next (c : Dev nD) (t : Fin cfg0.N) (h : ¬t.val % 8 = 0) (h' : 1 ≤ t.val) :
    (outsAt0 m c t.val t.isLt).2.1 = k0_pay1 (k0_pay15 (k0_pay14 (iblk m c 3 t))) (k0_pay22 (k0_pay12 (k0_pay2 (iblk m c 2 t)) (k0_pay3 (iblk m c 2 t)) (k0_pay4 (iblk m c 0 t)) (iblk m c 4 t) (iblk m c 1 t) (iblk m c 5 t)) (k0_pay13 (iblk m c 3 t)) (k0_pay14 (iblk m c 3 t)) (iblk m c 6 t) (iblk m c 7 t)) := by
  refine (congrArg (fun o => o.2.1) (outsAt0_B m c t h h' h h' h h' h h' h h')).trans ?_
  dsimp only
  generalize iblk m c 0 t = d
  generalize iblk m c 1 t = p
  generalize iblk m c 2 t = x
  generalize iblk m c 3 t = y
  generalize iblk m c 4 t = s
  generalize iblk m c 5 t = g
  generalize iblk m c 6 t = a
  generalize iblk m c 7 t = b
  generalize outsAt0 m c (t.val - 1) _ = o
  unfold out0_B_9
  rw [View.read_writes_eq_canon _ _ _ (fun z => cover0_B_9 (y := z) ..)]
  unfold kernelRun0_B
  dsimp only
  rw [View.canon_unit_zero hz]
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, View.readAt_eq_ld, Memref.IsWhole.read_unread, View.ld_unit_zero (S := S512x2048) hz, View.ld_unit_zero (S := S1x2048) hz]

theorem scale_first (c : Dev nD) (t : Fin cfg0.N) (h : t.val % 8 = 0) (h' : ¬1 ≤ t.val) :
    (outsAt0 m c t.val t.isLt).2.2.1 = k0_pay5 (iblk m c 2 t) (iblk m c 0 t) (iblk m c 5 t) := by
  refine (congrArg (fun o => o.2.2.1) (outsAt0_A m c t h h' h h' h h' h h' h h')).trans ?_
  dsimp only
  generalize iblk m c 0 t = d
  generalize iblk m c 1 t = p
  generalize iblk m c 2 t = x
  generalize iblk m c 3 t = y
  generalize iblk m c 4 t = s
  generalize iblk m c 5 t = g
  generalize iblk m c 6 t = a
  generalize iblk m c 7 t = b
  unfold out0_A_10
  rw [View.read_writes_eq_canon _ _ _ (fun z => cover0_A_10 (y := z) ..)]
  unfold kernelRun0_A
  dsimp only
  rw [View.canon_unit_zero hz]
  simp only [View.readAt_eq_ld, Memref.IsWhole.read_unread, View.ld_unit_zero (S := S512x2048) hz, View.ld_unit_zero (S := S1x2048) hz]

theorem scale_next (c : Dev nD) (t : Fin cfg0.N) (h : ¬t.val % 8 = 0) (h' : 1 ≤ t.val) :
    (outsAt0 m c t.val t.isLt).2.2.1 = k0_pay6 (iblk m c 2 t) (iblk m c 0 t) (iblk m c 5 t) (outsAt0 m c (t.val - 1) (by omega)).2.2.1 := by
  refine (congrArg (fun o => o.2.2.1) (outsAt0_B m c t h h' h h' h h' h h' h h')).trans ?_
  dsimp only
  generalize iblk m c 0 t = d
  generalize iblk m c 1 t = p
  generalize iblk m c 2 t = x
  generalize iblk m c 3 t = y
  generalize iblk m c 4 t = s
  generalize iblk m c 5 t = g
  generalize iblk m c 6 t = a
  generalize iblk m c 7 t = b
  generalize outsAt0 m c (t.val - 1) _ = o
  unfold out0_B_10
  rw [View.read_writes_eq_canon _ _ _ (fun z => cover0_B_10 (y := z) ..)]
  unfold kernelRun0_B
  dsimp only
  rw [View.canon_unit_zero hz]
  simp only [View.readAt_eq_ld, Memref.IsWhole.read_unread, View.ld_unit_zero (S := S512x2048) hz, View.ld_unit_zero (S := S1x2048) hz]

theorem shift_first (c : Dev nD) (t : Fin cfg0.N) (h : t.val % 8 = 0) (h' : ¬1 ≤ t.val) :
    (outsAt0 m c t.val t.isLt).2.2.2.1 = k0_pay7 (iblk m c 0 t) := by
  refine (congrArg (fun o => o.2.2.2.1) (outsAt0_A m c t h h' h h' h h' h h' h h')).trans ?_
  dsimp only
  generalize iblk m c 0 t = d
  generalize iblk m c 1 t = p
  generalize iblk m c 2 t = x
  generalize iblk m c 3 t = y
  generalize iblk m c 4 t = s
  generalize iblk m c 5 t = g
  generalize iblk m c 6 t = a
  generalize iblk m c 7 t = b
  unfold out0_A_11
  rw [View.read_writes_eq_canon _ _ _ (fun z => cover0_A_11 (y := z) ..)]
  unfold kernelRun0_A
  dsimp only
  rw [View.canon_unit_zero hz]
  simp only [View.readAt_eq_ld, Memref.IsWhole.read_unread, View.ld_unit_zero (S := S512x2048) hz, View.ld_unit_zero (S := S1x2048) hz]

theorem shift_next (c : Dev nD) (t : Fin cfg0.N) (h : ¬t.val % 8 = 0) (h' : 1 ≤ t.val) :
    (outsAt0 m c t.val t.isLt).2.2.2.1 = k0_pay8 (iblk m c 0 t) (outsAt0 m c (t.val - 1) (by omega)).2.2.2.1 := by
  refine (congrArg (fun o => o.2.2.2.1) (outsAt0_B m c t h h' h h' h h' h h' h h')).trans ?_
  dsimp only
  generalize iblk m c 0 t = d
  generalize iblk m c 1 t = p
  generalize iblk m c 2 t = x
  generalize iblk m c 3 t = y
  generalize iblk m c 4 t = s
  generalize iblk m c 5 t = g
  generalize iblk m c 6 t = a
  generalize iblk m c 7 t = b
  generalize outsAt0 m c (t.val - 1) _ = o
  unfold out0_B_11
  rw [View.read_writes_eq_canon _ _ _ (fun z => cover0_B_11 (y := z) ..)]
  unfold kernelRun0_B
  dsimp only
  rw [View.canon_unit_zero hz]
  simp only [View.readAt_eq_ld, Memref.IsWhole.read_unread, View.ld_unit_zero (S := S512x2048) hz, View.ld_unit_zero (S := S1x2048) hz]

theorem gain_first (c : Dev nD) (t : Fin cfg0.N) (h : t.val % 8 = 0) (h' : ¬1 ≤ t.val) :
    (outsAt0 m c t.val t.isLt).2.2.2.2.1 = k0_pay10 (k0_pay3 (iblk m c 2 t)) (k0_pay4 (iblk m c 0 t)) (iblk m c 4 t) := by
  refine (congrArg (fun o => o.2.2.2.2.1) (outsAt0_A m c t h h' h h' h h' h h' h h')).trans ?_
  dsimp only
  generalize iblk m c 0 t = d
  generalize iblk m c 1 t = p
  generalize iblk m c 2 t = x
  generalize iblk m c 3 t = y
  generalize iblk m c 4 t = s
  generalize iblk m c 5 t = g
  generalize iblk m c 6 t = a
  generalize iblk m c 7 t = b
  unfold out0_A_12
  rw [View.read_writes_eq_canon _ _ _ (fun z => cover0_A_12 (y := z) ..)]
  unfold kernelRun0_A
  dsimp only
  rw [View.canon_unit_zero hz]
  simp only [kernelRun0_A.sl.r_1, kernelRun0_A.sl.r_2, kernelRun0_A.sl.r_3, View.readAt_eq_ld, Memref.IsWhole.read_unread, View.ld_unit_zero (S := S512x2048) hz, View.ld_unit_zero (S := S1x2048) hz]

theorem gain_next (c : Dev nD) (t : Fin cfg0.N) (h : ¬t.val % 8 = 0) (h' : 1 ≤ t.val) :
    (outsAt0 m c t.val t.isLt).2.2.2.2.1 = k0_pay11 (k0_pay3 (iblk m c 2 t)) (k0_pay4 (iblk m c 0 t)) (iblk m c 4 t) (outsAt0 m c (t.val - 1) (by omega)).2.2.2.2.1 := by
  refine (congrArg (fun o => o.2.2.2.2.1) (outsAt0_B m c t h h' h h' h h' h h' h h')).trans ?_
  dsimp only
  generalize iblk m c 0 t = d
  generalize iblk m c 1 t = p
  generalize iblk m c 2 t = x
  generalize iblk m c 3 t = y
  generalize iblk m c 4 t = s
  generalize iblk m c 5 t = g
  generalize iblk m c 6 t = a
  generalize iblk m c 7 t = b
  generalize outsAt0 m c (t.val - 1) _ = o
  unfold out0_B_12
  rw [View.read_writes_eq_canon _ _ _ (fun z => cover0_B_12 (y := z) ..)]
  unfold kernelRun0_B
  dsimp only
  rw [View.canon_unit_zero hz]
  simp only [kernelRun0_B.sl.r_1, kernelRun0_B.sl.r_2, kernelRun0_B.sl.r_3, View.readAt_eq_ld, Memref.IsWhole.read_unread, View.ld_unit_zero (S := S512x2048) hz, View.ld_unit_zero (S := S1x2048) hz]

theorem gate_first (c : Dev nD) (t : Fin cfg0.N) (h : t.val % 8 = 0) (h' : ¬1 ≤ t.val) :
    (outsAt0 m c t.val t.isLt).2.2.2.2.2.1 = k0_pay17 (k0_pay12 (k0_pay2 (iblk m c 2 t)) (k0_pay3 (iblk m c 2 t)) (k0_pay4 (iblk m c 0 t)) (iblk m c 4 t) (iblk m c 1 t) (iblk m c 5 t)) (k0_pay13 (iblk m c 3 t)) (k0_pay14 (iblk m c 3 t)) (iblk m c 7 t) := by
  refine (congrArg (fun o => o.2.2.2.2.2.1) (outsAt0_A m c t h h' h h' h h' h h' h h')).trans ?_
  dsimp only
  generalize iblk m c 0 t = d
  generalize iblk m c 1 t = p
  generalize iblk m c 2 t = x
  generalize iblk m c 3 t = y
  generalize iblk m c 4 t = s
  generalize iblk m c 5 t = g
  generalize iblk m c 6 t = a
  generalize iblk m c 7 t = b
  unfold out0_A_13
  rw [View.read_writes_eq_canon _ _ _ (fun z => cover0_A_13 (y := z) ..)]
  unfold kernelRun0_A
  dsimp only
  rw [View.canon_unit_zero hz]
  simp only [kernelRun0_A.sl.r, kernelRun0_A.sl.r_1, kernelRun0_A.sl.r_2, kernelRun0_A.sl.r_3, kernelRun0_A.sl.r_4, kernelRun0_A.sl.r_5, kernelRun0_A.sl.r_6, View.readAt_eq_ld, Memref.IsWhole.read_unread, View.ld_unit_zero (S := S512x2048) hz, View.ld_unit_zero (S := S1x2048) hz]

theorem gate_next (c : Dev nD) (t : Fin cfg0.N) (h : ¬t.val % 8 = 0) (h' : 1 ≤ t.val) :
    (outsAt0 m c t.val t.isLt).2.2.2.2.2.1 = k0_pay18 (k0_pay12 (k0_pay2 (iblk m c 2 t)) (k0_pay3 (iblk m c 2 t)) (k0_pay4 (iblk m c 0 t)) (iblk m c 4 t) (iblk m c 1 t) (iblk m c 5 t)) (k0_pay13 (iblk m c 3 t)) (k0_pay14 (iblk m c 3 t)) (iblk m c 7 t) (outsAt0 m c (t.val - 1) (by omega)).2.2.2.2.2.1 := by
  refine (congrArg (fun o => o.2.2.2.2.2.1) (outsAt0_B m c t h h' h h' h h' h h' h h')).trans ?_
  dsimp only
  generalize iblk m c 0 t = d
  generalize iblk m c 1 t = p
  generalize iblk m c 2 t = x
  generalize iblk m c 3 t = y
  generalize iblk m c 4 t = s
  generalize iblk m c 5 t = g
  generalize iblk m c 6 t = a
  generalize iblk m c 7 t = b
  generalize outsAt0 m c (t.val - 1) _ = o
  unfold out0_B_13
  rw [View.read_writes_eq_canon _ _ _ (fun z => cover0_B_13 (y := z) ..)]
  unfold kernelRun0_B
  dsimp only
  rw [View.canon_unit_zero hz]
  simp only [kernelRun0_B.sl.r, kernelRun0_B.sl.r_1, kernelRun0_B.sl.r_2, kernelRun0_B.sl.r_3, kernelRun0_B.sl.r_4, kernelRun0_B.sl.r_5, kernelRun0_B.sl.r_6, View.readAt_eq_ld, Memref.IsWhole.read_unread, View.ld_unit_zero (S := S512x2048) hz, View.ld_unit_zero (S := S1x2048) hz]

theorem gain2_first (c : Dev nD) (t : Fin cfg0.N) (h : t.val % 8 = 0) (h' : ¬1 ≤ t.val) :
    (outsAt0 m c t.val t.isLt).2.2.2.2.2.2 = k0_pay20 (k0_pay12 (k0_pay2 (iblk m c 2 t)) (k0_pay3 (iblk m c 2 t)) (k0_pay4 (iblk m c 0 t)) (iblk m c 4 t) (iblk m c 1 t) (iblk m c 5 t)) (k0_pay13 (iblk m c 3 t)) (k0_pay14 (iblk m c 3 t)) (iblk m c 6 t) := by
  refine (congrArg (fun o => o.2.2.2.2.2.2) (outsAt0_A m c t h h' h h' h h' h h' h h')).trans ?_
  dsimp only
  generalize iblk m c 0 t = d
  generalize iblk m c 1 t = p
  generalize iblk m c 2 t = x
  generalize iblk m c 3 t = y
  generalize iblk m c 4 t = s
  generalize iblk m c 5 t = g
  generalize iblk m c 6 t = a
  generalize iblk m c 7 t = b
  unfold out0_A_14
  rw [View.read_writes_eq_canon _ _ _ (fun z => cover0_A_14 (y := z) ..)]
  unfold kernelRun0_A
  dsimp only
  rw [View.canon_unit_zero hz]
  simp only [kernelRun0_A.sl.r, kernelRun0_A.sl.r_1, kernelRun0_A.sl.r_2, kernelRun0_A.sl.r_3, kernelRun0_A.sl.r_4, kernelRun0_A.sl.r_5, kernelRun0_A.sl.r_6, View.readAt_eq_ld, Memref.IsWhole.read_unread, View.ld_unit_zero (S := S512x2048) hz, View.ld_unit_zero (S := S1x2048) hz]

theorem gain2_next (c : Dev nD) (t : Fin cfg0.N) (h : ¬t.val % 8 = 0) (h' : 1 ≤ t.val) :
    (outsAt0 m c t.val t.isLt).2.2.2.2.2.2 = k0_pay21 (k0_pay12 (k0_pay2 (iblk m c 2 t)) (k0_pay3 (iblk m c 2 t)) (k0_pay4 (iblk m c 0 t)) (iblk m c 4 t) (iblk m c 1 t) (iblk m c 5 t)) (k0_pay13 (iblk m c 3 t)) (k0_pay14 (iblk m c 3 t)) (iblk m c 6 t) (outsAt0 m c (t.val - 1) (by omega)).2.2.2.2.2.2 := by
  refine (congrArg (fun o => o.2.2.2.2.2.2) (outsAt0_B m c t h h' h h' h h' h h' h h')).trans ?_
  dsimp only
  generalize iblk m c 0 t = d
  generalize iblk m c 1 t = p
  generalize iblk m c 2 t = x
  generalize iblk m c 3 t = y
  generalize iblk m c 4 t = s
  generalize iblk m c 5 t = g
  generalize iblk m c 6 t = a
  generalize iblk m c 7 t = b
  generalize outsAt0 m c (t.val - 1) _ = o
  unfold out0_B_14
  rw [View.read_writes_eq_canon _ _ _ (fun z => cover0_B_14 (y := z) ..)]
  unfold kernelRun0_B
  dsimp only
  rw [View.canon_unit_zero hz]
  simp only [kernelRun0_B.sl.r, kernelRun0_B.sl.r_1, kernelRun0_B.sl.r_2, kernelRun0_B.sl.r_3, kernelRun0_B.sl.r_4, kernelRun0_B.sl.r_5, kernelRun0_B.sl.r_6, View.readAt_eq_ld, Memref.IsWhole.read_unread, View.ld_unit_zero (S := S512x2048) hz, View.ld_unit_zero (S := S1x2048) hz]

/-! ## The blocks -/

theorem place0 : ∀ t : Fin cfg0.N, win0_0.index t = ![t.val, 0] := (by decide +kernel : ∀ t : Fin grid0.N, _)
theorem place1 : ∀ t : Fin cfg0.N, win0_1.index t = ![t.val, 0] := (by decide +kernel : ∀ t : Fin grid0.N, _)
theorem place2 : ∀ t : Fin cfg0.N, win0_2.index t = ![t.val, 0] := (by decide +kernel : ∀ t : Fin grid0.N, _)
theorem place3 : ∀ t : Fin cfg0.N, win0_3.index t = ![t.val, 0] := (by decide +kernel : ∀ t : Fin grid0.N, _)
theorem place4 : ∀ t : Fin cfg0.N, win0_4.index t = ![0, 0] := (by decide +kernel : ∀ t : Fin grid0.N, _)
theorem place5 : ∀ t : Fin cfg0.N, win0_5.index t = ![0, 0] := (by decide +kernel : ∀ t : Fin grid0.N, _)
theorem place6 : ∀ t : Fin cfg0.N, win0_6.index t = ![0, 0] := (by decide +kernel : ∀ t : Fin grid0.N, _)
theorem place7 : ∀ t : Fin cfg0.N, win0_7.index t = ![0, 0] := (by decide +kernel : ∀ t : Fin grid0.N, _)
theorem place8 : ∀ t : Fin cfg0.N, win0_8.index t = ![t.val, 0] := (by decide +kernel : ∀ t : Fin grid0.N, _)
theorem place9 : ∀ t : Fin cfg0.N, win0_9.index t = ![t.val, 0] := (by decide +kernel : ∀ t : Fin grid0.N, _)
theorem place10 : ∀ t : Fin cfg0.N, win0_10.index t = ![0, 0] := (by decide +kernel : ∀ t : Fin grid0.N, _)
theorem place11 : ∀ t : Fin cfg0.N, win0_11.index t = ![0, 0] := (by decide +kernel : ∀ t : Fin grid0.N, _)
theorem place12 : ∀ t : Fin cfg0.N, win0_12.index t = ![0, 0] := (by decide +kernel : ∀ t : Fin grid0.N, _)
theorem place13 : ∀ t : Fin cfg0.N, win0_13.index t = ![0, 0] := (by decide +kernel : ∀ t : Fin grid0.N, _)
theorem place14 : ∀ t : Fin cfg0.N, win0_14.index t = ![0, 0] := (by decide +kernel : ∀ t : Fin grid0.N, _)

theorem points (t : Fin cfg0.N) : t.val < 8 := lt_of_lt_of_eq t.isLt N_0

/-- The row of the array that row `r` of a block is. -/
abbrev place (t : Fin cfg0.N) (r : Fin 512) : Fin 4096 := ⟨512 * t.val + r.val, by have := points t; omega⟩

theorem blk0 (c : Dev nD) (t : Fin cfg0.N) (r : Fin 512) (q : Fin 2048) :
    iblk m c 0 t (ix2 r q) = m ((c : Thread nD τ).loc main_arg0) (ix2 (place t r) q) := by
  have hp := points t
  have e : ∀ A : Buf (Elt Ideal) ((c : Thread nD τ).loc main_arg0), ((cfg0.win 0).blk t).view.read (Elt Ideal) A (ix2 r q) = A (ix2 (place t r) q) :=
    fun A => by rw [View.read_apply]; show A _ = A _; refine congrArg A ?_; blk_ext [place0, place]
  exact e (V m c main_arg0)

theorem blk1 (c : Dev nD) (t : Fin cfg0.N) (r : Fin 512) (q : Fin 2048) :
    iblk m c 1 t (ix2 r q) = m ((c : Thread nD τ).loc main_arg1) (ix2 (place t r) q) := by
  have hp := points t
  have e : ∀ A : Buf (Elt Ideal) ((c : Thread nD τ).loc main_arg1), ((cfg0.win 1).blk t).view.read (Elt Ideal) A (ix2 r q) = A (ix2 (place t r) q) :=
    fun A => by rw [View.read_apply]; show A _ = A _; refine congrArg A ?_; blk_ext [place1, place]
  exact e (V m c main_arg1)

theorem blk2 (c : Dev nD) (t : Fin cfg0.N) (r : Fin 512) (q : Fin 2048) :
    iblk m c 2 t (ix2 r q) = m ((c : Thread nD τ).loc main_arg2) (ix2 (place t r) q) := by
  have hp := points t
  have e : ∀ A : Buf (Elt Ideal) ((c : Thread nD τ).loc main_arg2), ((cfg0.win 2).blk t).view.read (Elt Ideal) A (ix2 r q) = A (ix2 (place t r) q) :=
    fun A => by rw [View.read_apply]; show A _ = A _; refine congrArg A ?_; blk_ext [place2, place]
  exact e (V m c main_arg2)

theorem blk3 (c : Dev nD) (t : Fin cfg0.N) (r : Fin 512) (q : Fin 2048) :
    iblk m c 3 t (ix2 r q) = m ((c : Thread nD τ).loc main_arg3) (ix2 (place t r) q) := by
  have hp := points t
  have e : ∀ A : Buf (Elt Ideal) ((c : Thread nD τ).loc main_arg3), ((cfg0.win 3).blk t).view.read (Elt Ideal) A (ix2 r q) = A (ix2 (place t r) q) :=
    fun A => by rw [View.read_apply]; show A _ = A _; refine congrArg A ?_; blk_ext [place3, place]
  exact e (V m c main_arg3)

theorem blk4 (c : Dev nD) (t : Fin cfg0.N) (q : Fin 2048) :
    iblk m c 4 t (ix2 0 q) = m ((c : Thread nD τ).loc main_arg4) (ix2 0 q) := by
  have e : ∀ A : Buf (Elt Ideal) ((c : Thread nD τ).loc main_arg4), ((cfg0.win 4).blk t).view.read (Elt Ideal) A (ix2 0 q) = A (ix2 0 q) :=
    fun A => by rw [View.read_apply]; show A _ = A _; refine congrArg A ?_; blk_ext [place4]
  exact e (V m c main_arg4)

theorem blk5 (c : Dev nD) (t : Fin cfg0.N) (q : Fin 2048) :
    iblk m c 5 t (ix2 0 q) = m ((c : Thread nD τ).loc main_arg5) (ix2 0 q) := by
  have e : ∀ A : Buf (Elt Ideal) ((c : Thread nD τ).loc main_arg5), ((cfg0.win 5).blk t).view.read (Elt Ideal) A (ix2 0 q) = A (ix2 0 q) :=
    fun A => by rw [View.read_apply]; show A _ = A _; refine congrArg A ?_; blk_ext [place5]
  exact e (V m c main_arg5)

theorem blk6 (c : Dev nD) (t : Fin cfg0.N) (q : Fin 2048) :
    iblk m c 6 t (ix2 0 q) = m ((c : Thread nD τ).loc main_arg6) (ix2 0 q) := by
  have e : ∀ A : Buf (Elt Ideal) ((c : Thread nD τ).loc main_arg6), ((cfg0.win 6).blk t).view.read (Elt Ideal) A (ix2 0 q) = A (ix2 0 q) :=
    fun A => by rw [View.read_apply]; show A _ = A _; refine congrArg A ?_; blk_ext [place6]
  exact e (V m c main_arg6)

theorem blk7 (c : Dev nD) (t : Fin cfg0.N) (q : Fin 2048) :
    iblk m c 7 t (ix2 0 q) = m ((c : Thread nD τ).loc main_arg7) (ix2 0 q) := by
  have e : ∀ A : Buf (Elt Ideal) ((c : Thread nD τ).loc main_arg7), ((cfg0.win 7).blk t).view.read (Elt Ideal) A (ix2 0 q) = A (ix2 0 q) :=
    fun A => by rw [View.read_apply]; show A _ = A _; refine congrArg A ?_; blk_ext [place7]
  exact e (V m c main_arg7)

/-! ## The gradients of the rows -/

/-- The row `i` of each argument that has a row for each row, and the four rows the others are. -/
abbrev dRow (c : Dev nD) (i : Fin 4096) (v : Fin 2048) : EReal := m ((c : Thread nD τ).loc main_arg0) (ix2 i v)
abbrev pRow (c : Dev nD) (i : Fin 4096) (v : Fin 2048) : EReal := m ((c : Thread nD τ).loc main_arg1) (ix2 i v)
abbrev xRow (c : Dev nD) (i : Fin 4096) (v : Fin 2048) : EReal := m ((c : Thread nD τ).loc main_arg2) (ix2 i v)
abbrev yRow (c : Dev nD) (i : Fin 4096) (v : Fin 2048) : EReal := m ((c : Thread nD τ).loc main_arg3) (ix2 i v)
abbrev sRow (c : Dev nD) (v : Fin 2048) : EReal := m ((c : Thread nD τ).loc main_arg4) (ix2 0 v)
abbrev gRow (c : Dev nD) (v : Fin 2048) : EReal := m ((c : Thread nD τ).loc main_arg5) (ix2 0 v)
abbrev aRow (c : Dev nD) (v : Fin 2048) : EReal := m ((c : Thread nD τ).loc main_arg6) (ix2 0 v)
abbrev bRow (c : Dev nD) (v : Fin 2048) : EReal := m ((c : Thread nD τ).loc main_arg7) (ix2 0 v)

/-- The gradient of the rows before the first norm, with what came past it. -/
abbrev rows (c : Dev nD) (i : Fin 4096) (j : Fin 2048) : EReal := projected (dRow m c i) (sRow m c) (gRow m c) (xRow m c i) (pRow m c i) j

/-- The gradient of the rows before the second norm. -/
abbrev again (c : Dev nD) (i : Fin 4096) (j : Fin 2048) : EReal :=
  projected (fun v => rows m c i v * aRow m c v) (fun _ => 0) (bRow m c) (yRow m c i) (fun _ => 0) j

/-- What the body computes of the first gradient from the blocks of one point. -/
abbrev block (c : Dev nD) (t : Fin cfg0.N) : FVec Ideal S512x2048 .f32 := k0_pay12 (k0_pay2 (iblk m c 2 t)) (k0_pay3 (iblk m c 2 t)) (k0_pay4 (iblk m c 0 t)) (iblk m c 4 t) (iblk m c 1 t) (iblk m c 5 t)

theorem block_apply (c : Dev nD) (t : Fin cfg0.N) (r : Fin 512) (q : Fin 2048) : block m c t (ix2 r q) = rows m c (place t r) q :=
  (pay12 _ _ _ _ _ r q).trans (congr (congr (congr (congr (congr (congrArg projected (funext fun v => blk0 m c t r v)) (funext fun v => blk4 m c t v)) (funext fun v => blk5 m c t v))
    (funext fun v => blk2 m c t r v)) (funext fun v => blk1 m c t r v)) rfl)

theorem written8 (c : Dev nD) (t : Fin cfg0.N) (r : Fin 512) (q : Fin 2048) : (outsAt0 m c t.val t.isLt).1 (ix2 r q) = rows m c (place t r) q := by
  have e : (outsAt0 m c t.val t.isLt).1 = block m c t := by
    by_cases h : t.val % 8 = 0
    · exact rows_first m c t h (by have hp := points t; omega)
    · exact rows_next m c t h (by omega)
  exact (congrFun e _).trans (block_apply m c t r q)

theorem written9 (c : Dev nD) (t : Fin cfg0.N) (r : Fin 512) (q : Fin 2048) : (outsAt0 m c t.val t.isLt).2.1 (ix2 r q) = again m c (place t r) q := by
  have e : (outsAt0 m c t.val t.isLt).2.1 = k0_pay1 (k0_pay15 (k0_pay14 (iblk m c 3 t))) (k0_pay22 (block m c t) (k0_pay13 (iblk m c 3 t)) (k0_pay14 (iblk m c 3 t)) (iblk m c 6 t) (iblk m c 7 t)) := by
    by_cases h : t.val % 8 = 0
    · exact again_first m c t h (by have hp := points t; omega)
    · exact again_next m c t h (by omega)
  refine (congrFun e _).trans ((pay1 _ (block m c t) _ _ r q).trans ?_)
  exact congr (congr (congr (congr (congrArg (fun z => projected z (fun _ => 0)) (funext fun v => congrArg₂ (· * ·) (block_apply m c t r v) (blk6 m c t v)))
    (funext fun v => blk7 m c t v)) (funext fun v => blk3 m c t r v)) rfl) rfl

theorem result8 (c : Dev nD) (i : Fin 4096) (j : Fin 2048) : (dats m 0 c).arrAt 8 cfg0.N (ix2 i j) = rows m c i j := by
  refine ((dats m 0 c).arrAt_forall_of_covers 8 (fun i v => v = entry (rows m c) (i (0 : Fin 2)).val (i (1 : Fin 2)).val) (by decide +kernel)
    (fun t hf y => ?_) (ix2 i j)).trans (entry_eq _ i.isLt j.isLt)
  blk_simp [place8]
  rw [after0_8]
  refine (congrArg _ (eq_ix2 y)).trans ((written8 m c t (y (0 : Fin 2)) (y (1 : Fin 2))).trans (Eq.symm ?_))
  rw [Nat.mul_comm _ 512]
  exact entry_eq (rows m c) (place t (y (0 : Fin 2))).isLt (y (1 : Fin 2)).isLt

theorem result9 (c : Dev nD) (i : Fin 4096) (j : Fin 2048) : (dats m 0 c).arrAt 9 cfg0.N (ix2 i j) = again m c i j := by
  refine ((dats m 0 c).arrAt_forall_of_covers 9 (fun i v => v = entry (again m c) (i (0 : Fin 2)).val (i (1 : Fin 2)).val) (by decide +kernel)
    (fun t hf y => ?_) (ix2 i j)).trans (entry_eq _ i.isLt j.isLt)
  blk_simp [place9]
  rw [after0_9]
  refine (congrArg _ (eq_ix2 y)).trans ((written9 m c t (y (0 : Fin 2)) (y (1 : Fin 2))).trans (Eq.symm ?_))
  rw [Nat.mul_comm _ 512]
  exact entry_eq (again m c) (place t (y (0 : Fin 2))).isLt (y (1 : Fin 2)).isLt

/-! ## The five sums over all rows -/

/-- What adds up the products of each block's rows ends with those of all rows. -/
theorem summed (f g : Fin 4096 → EReal) (acc : (t : ℕ) → t < cfg0.N → EReal)
    (first : ∀ t : Fin cfg0.N, t.val % 8 = 0 → ¬1 ≤ t.val → acc t.val t.isLt = ∑ r : Fin 512, f (place t r) * g (place t r))
    (next : ∀ t : Fin cfg0.N, ¬t.val % 8 = 0 → 1 ≤ t.val →
      acc t.val t.isLt = acc (t.val - 1) (by omega) + ∑ r : Fin 512, f (place t r) * g (place t r))
    (t : Fin cfg0.N) (ht : t.val % 8 = 7) : acc t.val t.isLt = ∑ p, f p * g p := by
  have e : ∀ (h : Fin 4096 → EReal) (t : Fin cfg0.N) (r : Fin 512), h (place t r) = entry (fun p (_ : Fin 1) => h p) (512 * (t.val % 8) + r.val) 0 := fun h t r => by
    have hp := points t
    rw [Nat.mod_eq_of_lt hp]; exact (entry_eq (fun p (_ : Fin 1) => h p) (place t r).isLt Nat.one_pos).symm
  simp only [e f, e g] at first next
  have N8 : cfg0.N = 8 := N_0
  refine (fold (n := 8) (T := 512) (by omega) acc acc (fun _ p => entry (fun p (_ : Fin 1) => f p) p 0) (fun _ p => entry (fun p (_ : Fin 1) => g p) p 0)
    (fun t h h0 => first ⟨t, h⟩ h0 (by show ¬1 ≤ t; omega)) (fun t h h0 _ => next ⟨t, h⟩ (by show ¬t % 8 = 0; omega) (by show 1 ≤ t; omega))
    (fun t h h0 => next ⟨t, h⟩ (by show ¬t % 8 = 0; omega) (by show 1 ≤ t; omega)) t.val t.isLt (by omega)).trans ?_
  rw [dotTo_fin]
  exact Finset.sum_congr rfl fun p _ => congrArg₂ (· * ·) (entry_eq _ p.isLt Nat.one_pos) (entry_eq _ p.isLt Nat.one_pos)

/-- An entry of either normed row, before its gain. -/
abbrev unit (c : Dev nD) (i : Fin 4096) (j : Fin 2048) : EReal := xRow m c i j * invRms (xRow m c i)
abbrev unit2 (c : Dev nD) (i : Fin 4096) (j : Fin 2048) : EReal := yRow m c i j * invRms (yRow m c i)

abbrev scale (c : Dev nD) (j : Fin 2048) : EReal := ∑ p, dRow m c p j * (unit m c p j * gRow m c j)
abbrev shift (c : Dev nD) (j : Fin 2048) : EReal := ∑ p, dRow m c p j * 1
abbrev gain (c : Dev nD) (j : Fin 2048) : EReal := ∑ p, dRow m c p j * (1 + sRow m c j) * unit m c p j
abbrev gate (c : Dev nD) (j : Fin 2048) : EReal := ∑ p, rows m c p j * (unit2 m c p j * bRow m c j)
abbrev gain2 (c : Dev nD) (j : Fin 2048) : EReal := ∑ p, rows m c p j * aRow m c j * unit2 m c p j

theorem unit_blk (c : Dev nD) (t : Fin cfg0.N) (r : Fin 512) (q : Fin 2048) :
    ((show Vec Ideal S512x2048 .f32 from iblk m c 2 t) (ix2 r q) * invRms fun v => (show Vec Ideal S512x2048 .f32 from iblk m c 2 t) (ix2 r v)) = unit m c (place t r) q :=
  congrArg₂ (· * ·) (blk2 m c t r q) (congrArg invRms (funext fun v => blk2 m c t r v))

theorem unit2_blk (c : Dev nD) (t : Fin cfg0.N) (r : Fin 512) (q : Fin 2048) :
    ((show Vec Ideal S512x2048 .bf16 from iblk m c 3 t) (ix2 r q) * invRms fun v => (show Vec Ideal S512x2048 .bf16 from iblk m c 3 t) (ix2 r v)) = unit2 m c (place t r) q :=
  congrArg₂ (· * ·) (blk3 m c t r q) (congrArg invRms (funext fun v => blk3 m c t r v))

theorem scale_part (c : Dev nD) (t : Fin cfg0.N) (q : Fin 2048) : k0_pay5 (iblk m c 2 t) (iblk m c 0 t) (iblk m c 5 t) (ix2 0 q)
    = ∑ r : Fin 512, dRow m c (place t r) q * (unit m c (place t r) q * gRow m c q) :=
  (pay5 _ _ _ q).trans (Finset.sum_congr rfl fun r _ => congrArg₂ (· * ·) (blk0 m c t r q) (congrArg₂ (· * ·) (unit_blk m c t r q) (blk5 m c t q)))

theorem shift_part (c : Dev nD) (t : Fin cfg0.N) (q : Fin 2048) : k0_pay7 (iblk m c 0 t) (ix2 0 q) = ∑ r : Fin 512, dRow m c (place t r) q * 1 :=
  (pay7 _ q).trans (Finset.sum_congr rfl fun r _ => (blk0 m c t r q).trans (mul_one (M := EReal) _).symm)

theorem gain_part (c : Dev nD) (t : Fin cfg0.N) (q : Fin 2048) : k0_pay10 (k0_pay3 (iblk m c 2 t)) (k0_pay4 (iblk m c 0 t)) (iblk m c 4 t) (ix2 0 q)
    = ∑ r : Fin 512, dRow m c (place t r) q * (1 + sRow m c q) * unit m c (place t r) q :=
  (pay10 _ _ _ q).trans (Finset.sum_congr rfl fun r _ =>
    congrArg₂ (· * ·) (congrArg₂ (· * ·) (blk0 m c t r q) (congrArg (1 + ·) (blk4 m c t q))) (unit_blk m c t r q))

theorem gate_part (c : Dev nD) (t : Fin cfg0.N) (q : Fin 2048) : k0_pay17 (block m c t) (k0_pay13 (iblk m c 3 t)) (k0_pay14 (iblk m c 3 t)) (iblk m c 7 t) (ix2 0 q)
    = ∑ r : Fin 512, rows m c (place t r) q * (unit2 m c (place t r) q * bRow m c q) :=
  (pay17 _ (block m c t) _ q).trans (Finset.sum_congr rfl fun r _ =>
    congrArg₂ (· * ·) (block_apply m c t r q) (congrArg₂ (· * ·) (unit2_blk m c t r q) (blk7 m c t q)))

theorem gain2_part (c : Dev nD) (t : Fin cfg0.N) (q : Fin 2048) : k0_pay20 (block m c t) (k0_pay13 (iblk m c 3 t)) (k0_pay14 (iblk m c 3 t)) (iblk m c 6 t) (ix2 0 q)
    = ∑ r : Fin 512, rows m c (place t r) q * aRow m c q * unit2 m c (place t r) q :=
  (pay20 _ (block m c t) _ q).trans (Finset.sum_congr rfl fun r _ =>
    congrArg₂ (· * ·) (congrArg₂ (· * ·) (block_apply m c t r q) (blk6 m c t q)) (unit2_blk m c t r q))

theorem written10 (c : Dev nD) (t : Fin cfg0.N) (ht : t.val % 8 = 7) (q : Fin 2048) : (outsAt0 m c t.val t.isLt).2.2.1 (ix2 0 q) = scale m c q :=
  summed (fun p => dRow m c p q) (fun p => unit m c p q * gRow m c q) (fun t h => (outsAt0 m c t h).2.2.1 (ix2 0 q))
    (fun t h h' => (congrFun (scale_first m c t h h') _).trans (scale_part m c t q))
    (fun t h h' => (congrFun (scale_next m c t h h') _).trans ((pay6 _ _ _ _ q).trans (congrArg (_ + ·) (scale_part m c t q)))) t ht

theorem result10 (c : Dev nD) (j : Fin 2048) : (dats m 0 c).arrAt 10 cfg0.N (ix2 0 j) = scale m c j := by
  refine ((dats m 0 c).arrAt_forall_of_covers 10 (fun i v => v = entry (fun (_ : Fin 1) => scale m c) (i (0 : Fin 2)).val (i (1 : Fin 2)).val) (by decide +kernel)
    (fun t hf y => ?_) (ix2 0 j)).trans (entry_eq (fun (_ : Fin 1) => scale m c) Nat.one_pos j.isLt)
  blk_simp [place10]
  rw [after0_10]
  have hy : y = ix2 (0 : Fin 1) (y (1 : Fin 2)) := (eq_ix2 y).trans (congrArg (fun z : Fin 1 => ix2 z (y (1 : Fin 2))) (Subsingleton.elim (α := Fin 1) _ _))
  refine (congrArg _ hy).trans ((written10 m c t ((flush0_10 t).mp hf) (y (1 : Fin 2))).trans (Eq.symm ?_))
  exact entry_eq (fun (_ : Fin 1) => scale m c) Nat.one_pos (y (1 : Fin 2)).isLt

theorem written11 (c : Dev nD) (t : Fin cfg0.N) (ht : t.val % 8 = 7) (q : Fin 2048) : (outsAt0 m c t.val t.isLt).2.2.2.1 (ix2 0 q) = shift m c q :=
  summed (fun p => dRow m c p q) (fun _ => 1) (fun t h => (outsAt0 m c t h).2.2.2.1 (ix2 0 q))
    (fun t h h' => (congrFun (shift_first m c t h h') _).trans (shift_part m c t q))
    (fun t h h' => (congrFun (shift_next m c t h h') _).trans ((pay8 _ _ q).trans (congrArg (_ + ·) (shift_part m c t q)))) t ht

theorem result11 (c : Dev nD) (j : Fin 2048) : (dats m 0 c).arrAt 11 cfg0.N (ix2 0 j) = shift m c j := by
  refine ((dats m 0 c).arrAt_forall_of_covers 11 (fun i v => v = entry (fun (_ : Fin 1) => shift m c) (i (0 : Fin 2)).val (i (1 : Fin 2)).val) (by decide +kernel)
    (fun t hf y => ?_) (ix2 0 j)).trans (entry_eq (fun (_ : Fin 1) => shift m c) Nat.one_pos j.isLt)
  blk_simp [place11]
  rw [after0_11]
  have hy : y = ix2 (0 : Fin 1) (y (1 : Fin 2)) := (eq_ix2 y).trans (congrArg (fun z : Fin 1 => ix2 z (y (1 : Fin 2))) (Subsingleton.elim (α := Fin 1) _ _))
  refine (congrArg _ hy).trans ((written11 m c t ((flush0_11 t).mp hf) (y (1 : Fin 2))).trans (Eq.symm ?_))
  exact entry_eq (fun (_ : Fin 1) => shift m c) Nat.one_pos (y (1 : Fin 2)).isLt

theorem written12 (c : Dev nD) (t : Fin cfg0.N) (ht : t.val % 8 = 7) (q : Fin 2048) : (outsAt0 m c t.val t.isLt).2.2.2.2.1 (ix2 0 q) = gain m c q :=
  summed (fun p => dRow m c p q * (1 + sRow m c q)) (fun p => unit m c p q) (fun t h => (outsAt0 m c t h).2.2.2.2.1 (ix2 0 q))
    (fun t h h' => (congrFun (gain_first m c t h h') _).trans (gain_part m c t q))
    (fun t h h' => (congrFun (gain_next m c t h h') _).trans ((pay11 _ _ q _ _).trans (congrArg (_ + ·) (gain_part m c t q)))) t ht

theorem result12 (c : Dev nD) (j : Fin 2048) : (dats m 0 c).arrAt 12 cfg0.N (ix2 0 j) = gain m c j := by
  refine ((dats m 0 c).arrAt_forall_of_covers 12 (fun i v => v = entry (fun (_ : Fin 1) => gain m c) (i (0 : Fin 2)).val (i (1 : Fin 2)).val) (by decide +kernel)
    (fun t hf y => ?_) (ix2 0 j)).trans (entry_eq (fun (_ : Fin 1) => gain m c) Nat.one_pos j.isLt)
  blk_simp [place12]
  rw [after0_12]
  have hy : y = ix2 (0 : Fin 1) (y (1 : Fin 2)) := (eq_ix2 y).trans (congrArg (fun z : Fin 1 => ix2 z (y (1 : Fin 2))) (Subsingleton.elim (α := Fin 1) _ _))
  refine (congrArg _ hy).trans ((written12 m c t ((flush0_12 t).mp hf) (y (1 : Fin 2))).trans (Eq.symm ?_))
  exact entry_eq (fun (_ : Fin 1) => gain m c) Nat.one_pos (y (1 : Fin 2)).isLt

theorem written13 (c : Dev nD) (t : Fin cfg0.N) (ht : t.val % 8 = 7) (q : Fin 2048) : (outsAt0 m c t.val t.isLt).2.2.2.2.2.1 (ix2 0 q) = gate m c q :=
  summed (fun p => rows m c p q) (fun p => unit2 m c p q * bRow m c q) (fun t h => (outsAt0 m c t h).2.2.2.2.2.1 (ix2 0 q))
    (fun t h h' => (congrFun (gate_first m c t h h') _).trans (gate_part m c t q))
    (fun t h h' => (congrFun (gate_next m c t h h') _).trans ((pay18 (block m c t) _ _ q _ _).trans (congrArg (_ + ·) (gate_part m c t q)))) t ht

theorem result13 (c : Dev nD) (j : Fin 2048) : (dats m 0 c).arrAt 13 cfg0.N (ix2 0 j) = gate m c j := by
  refine ((dats m 0 c).arrAt_forall_of_covers 13 (fun i v => v = entry (fun (_ : Fin 1) => gate m c) (i (0 : Fin 2)).val (i (1 : Fin 2)).val) (by decide +kernel)
    (fun t hf y => ?_) (ix2 0 j)).trans (entry_eq (fun (_ : Fin 1) => gate m c) Nat.one_pos j.isLt)
  blk_simp [place13]
  rw [after0_13]
  have hy : y = ix2 (0 : Fin 1) (y (1 : Fin 2)) := (eq_ix2 y).trans (congrArg (fun z : Fin 1 => ix2 z (y (1 : Fin 2))) (Subsingleton.elim (α := Fin 1) _ _))
  refine (congrArg _ hy).trans ((written13 m c t ((flush0_13 t).mp hf) (y (1 : Fin 2))).trans (Eq.symm ?_))
  exact entry_eq (fun (_ : Fin 1) => gate m c) Nat.one_pos (y (1 : Fin 2)).isLt

theorem written14 (c : Dev nD) (t : Fin cfg0.N) (ht : t.val % 8 = 7) (q : Fin 2048) : (outsAt0 m c t.val t.isLt).2.2.2.2.2.2 (ix2 0 q) = gain2 m c q :=
  summed (fun p => rows m c p q * aRow m c q) (fun p => unit2 m c p q) (fun t h => (outsAt0 m c t h).2.2.2.2.2.2 (ix2 0 q))
    (fun t h h' => (congrFun (gain2_first m c t h h') _).trans (gain2_part m c t q))
    (fun t h h' => (congrFun (gain2_next m c t h h') _).trans ((pay21 (block m c t) _ _ q _ _).trans (congrArg (_ + ·) (gain2_part m c t q)))) t ht

theorem result14 (c : Dev nD) (j : Fin 2048) : (dats m 0 c).arrAt 14 cfg0.N (ix2 0 j) = gain2 m c j := by
  refine ((dats m 0 c).arrAt_forall_of_covers 14 (fun i v => v = entry (fun (_ : Fin 1) => gain2 m c) (i (0 : Fin 2)).val (i (1 : Fin 2)).val) (by decide +kernel)
    (fun t hf y => ?_) (ix2 0 j)).trans (entry_eq (fun (_ : Fin 1) => gain2 m c) Nat.one_pos j.isLt)
  blk_simp [place14]
  rw [after0_14]
  have hy : y = ix2 (0 : Fin 1) (y (1 : Fin 2)) := (eq_ix2 y).trans (congrArg (fun z : Fin 1 => ix2 z (y (1 : Fin 2))) (Subsingleton.elim (α := Fin 1) _ _))
  refine (congrArg _ hy).trans ((written14 m c t ((flush0_14 t).mp hf) (y (1 : Fin 2))).trans (Eq.symm ?_))
  exact entry_eq (fun (_ : Fin 1) => gain2 m c) Nat.one_pos (y (1 : Fin 2)).isLt

/-! ## The reference -/

section Reference

open Cert.PremlpPostmixBwdReferenceIdeal.Read

variable (d y : Vec Ideal S4096x2048 .bf16) (p x : Vec Ideal S4096x2048 .f32) (s g a b : Vec Ideal S1x2048 .f32) (i : Fin 4096) (j : Fin 2048)

theorem v7_apply : val_main_v7 (F := Ideal) x (ix2 i 0) = meanSq fun v => x (ix2 i v) := by
  pointwise [val_main_v7, val_main_v6, val_main_cst_1, val_main_v5, val_main_v4, val_main_cst_0, val_main_v3, val_main_v2, val_main_cst, val_main_v1]
  rfl

theorem v8_apply : val_main_v8 (F := Ideal) x (ix2 i 0) = invRms fun v => x (ix2 i v) :=
  (val_main_v8_apply x _).trans (congrArg Ideal.rsqrt (v7_apply x i))

theorem v13_apply : val_main_v13 (F := Ideal) x (ix2 i j) = x (ix2 i j) * invRms fun v => x (ix2 i v) := by
  have e : val_main_v13 (F := Ideal) x (ix2 i j) = x (ix2 i j) * val_main_v8 (F := Ideal) x (ix2 i 0) := by
    pointwise [val_main_v13, val_main_v12]
  rw [e, v8_apply]

theorem v24_apply : val_main_v24 (F := Ideal) d (ix2 0 j) = ∑ i : Fin 4096, d (ix2 i j) := by
  pointwise [val_main_v24, val_main_v23, val_main_cst_5, val_main_v22]

theorem v27_apply : val_main_v27 (F := Ideal) d x g (ix2 0 j)
    = ∑ i : Fin 4096, (x (ix2 i j) * invRms fun v => x (ix2 i v)) * g (ix2 0 j) * d (ix2 i j) := by
  have e : val_main_v27 (F := Ideal) d x g (ix2 0 j) = ∑ i : Fin 4096, val_main_v13 (F := Ideal) x (ix2 i j) * g (ix2 0 j) * d (ix2 i j) := by
    pointwise [val_main_v27, val_main_v26, val_main_cst_6, val_main_v25, val_main_v22, val_main_v15, val_main_v14]
  rw [e]
  exact Finset.sum_congr rfl fun i _ => by rw [v13_apply]

theorem v29_apply : val_main_v29 (F := Ideal) d s (ix2 i j) = d (ix2 i j) * (1 + s (ix2 0 j)) := by
  pointwise [val_main_v29, val_main_v28, val_main_v22, val_main_v17, val_main_v16, val_main_cst_4]

theorem v32_apply : val_main_v32 (F := Ideal) d x s (ix2 0 j)
    = ∑ i : Fin 4096, (x (ix2 i j) * invRms fun v => x (ix2 i v)) * (d (ix2 i j) * (1 + s (ix2 0 j))) := by
  have e : val_main_v32 (F := Ideal) d x s (ix2 0 j) = ∑ i : Fin 4096, val_main_v13 (F := Ideal) x (ix2 i j) * val_main_v29 (F := Ideal) d s (ix2 i j) := by
    pointwise [val_main_v32, val_main_v31, val_main_cst_7, val_main_v30]
  rw [e]
  exact Finset.sum_congr rfl fun i _ => by rw [v13_apply, v29_apply]

theorem v34_apply : val_main_v34 (F := Ideal) d s g (ix2 i j) = reached (fun v => d (ix2 i v)) (fun v => s (ix2 0 v)) (fun v => g (ix2 0 v)) j := by
  have e : val_main_v34 (F := Ideal) d s g (ix2 i j) = val_main_v29 (F := Ideal) d s (ix2 i j) * g (ix2 0 j) := by
    pointwise [val_main_v34, val_main_v33]
  rw [e, v29_apply]
  rfl

theorem v37_apply : val_main_v37 (F := Ideal) d x s g (ix2 i 0)
    = ∑ v : Fin 2048, x (ix2 i v) * reached (fun v => d (ix2 i v)) (fun v => s (ix2 0 v)) (fun v => g (ix2 0 v)) v := by
  have e : val_main_v37 (F := Ideal) d x s g (ix2 i 0) = ∑ v : Fin 2048, x (ix2 i v) * val_main_v34 (F := Ideal) d s g (ix2 i v) := by
    pointwise [val_main_v37, val_main_v36, val_main_cst_8, val_main_v35]
  rw [e]
  exact Finset.sum_congr rfl fun v _ => by rw [v34_apply]

theorem v11_apply : val_main_v11 (F := Ideal) x (ix2 i 0)
    = Ideal.ofBits .f32 0xBF000000#32 * Ideal.div (invRms fun v => x (ix2 i v)) (meanSq fun v => x (ix2 i v)) := by
  have e : val_main_v11 (F := Ideal) x (ix2 i 0)
      = Ideal.ofBits .f32 0xBF000000#32 * Ideal.div (val_main_v8 (F := Ideal) x (ix2 i 0)) (val_main_v7 (F := Ideal) x (ix2 i 0)) := by
    rw [val_main_v11_apply, val_main_v9_apply]
    generalize val_main_v8 (F := Ideal) x (ix2 i 0) = a
    generalize val_main_v7 (F := Ideal) x (ix2 i 0) = b
    pointwise [val_main_v10, val_main_cst_3]
  rw [e, v8_apply, v7_apply]

theorem v44_apply : val_main_v44 (F := Ideal) d x s g (ix2 i j)
    = squarePart (fun v => d (ix2 i v)) (fun v => s (ix2 0 v)) (fun v => g (ix2 0 v)) (fun v => x (ix2 i v)) := by
  have e : val_main_v44 (F := Ideal) d x s g (ix2 i j) = val_main_v42 (F := Ideal) d x s g (ix2 i 0) := by
    pointwise [val_main_v44, val_main_v43, val_main_cst_10]
    exact Fin.sum_univ_one _
  have e' : val_main_v42 (F := Ideal) d x s g (ix2 i 0)
      = Ideal.div (val_main_v37 (F := Ideal) d x s g (ix2 i 0) * val_main_v11 (F := Ideal) x (ix2 i 0)) (Ideal.ofBits .f32 0x45000000#32) := by
    rw [val_main_v42_apply, val_main_v40_apply, val_main_v41_apply]
    rfl
  rw [e, e', v37_apply, v11_apply]
  rfl

theorem v49_apply : val_main_v49 (F := Ideal) d p x s g (ix2 i j)
    = differentiated (fun v => d (ix2 i v)) (fun v => s (ix2 0 v)) (fun v => g (ix2 0 v)) (fun v => x (ix2 i v)) (fun v => p (ix2 i v)) j := by
  have e : val_main_v38 (F := Ideal) x (ix2 i j) = val_main_v8 (F := Ideal) x (ix2 i 0) := by
    pointwise [val_main_v38]
  rw [val_main_v49_apply, val_main_v48_apply, val_main_v47_apply, val_main_v46_apply, val_main_v45_apply, val_main_v39_apply, v44_apply, e, v34_apply, v8_apply]
  rfl

theorem v57_apply : val_main_v57 (F := Ideal) y (ix2 i 0) = meanSq fun v => y (ix2 i v) := by
  pointwise [val_main_v57, val_main_v56, val_main_cst_13, val_main_v55, val_main_v54, val_main_cst_12, val_main_v53, val_main_v52, val_main_cst_11, val_main_v51, val_main_v50]
  rfl

theorem v58_apply : val_main_v58 (F := Ideal) y (ix2 i 0) = invRms fun v => y (ix2 i v) :=
  (val_main_v58_apply y _).trans (congrArg Ideal.rsqrt (v57_apply y i))

theorem v63_apply : val_main_v63 (F := Ideal) y (ix2 i j) = y (ix2 i j) * invRms fun v => y (ix2 i v) := by
  have e : val_main_v63 (F := Ideal) y (ix2 i j) = y (ix2 i j) * val_main_v58 (F := Ideal) y (ix2 i 0) := by
    pointwise [val_main_v63, val_main_v62, val_main_v50]
  rw [e, v58_apply]

theorem v69_apply : val_main_v69 (F := Ideal) d p x s g a (ix2 i j) = val_main_v49 (F := Ideal) d p x s g (ix2 i j) * a (ix2 0 j) := by
  have e : val_main_v69 (F := Ideal) d p x s g a (ix2 i j) = a (ix2 0 j) * val_main_v49 (F := Ideal) d p x s g (ix2 i j) := by
    unfold val_main_v69
    generalize val_main_v49 (F := Ideal) d p x s g = z
    pointwise [val_main_v68]
  exact e.trans (mul_comm (G := EReal) _ _)

theorem v72_apply : val_main_v72 (F := Ideal) d p x y s g b (ix2 0 j)
    = ∑ i : Fin 4096, val_main_v49 (F := Ideal) d p x s g (ix2 i j) * ((y (ix2 i j) * invRms fun v => y (ix2 i v)) * b (ix2 0 j)) := by
  have e : val_main_v72 (F := Ideal) d p x y s g b (ix2 0 j) = ∑ i : Fin 4096, val_main_v49 (F := Ideal) d p x s g (ix2 i j) * (val_main_v63 (F := Ideal) y (ix2 i j) * b (ix2 0 j)) := by
    unfold val_main_v72 val_main_v71 val_main_v70 val_main_v65
    generalize val_main_v49 (F := Ideal) d p x s g = z
    generalize val_main_v63 (F := Ideal) y = u
    pointwise [val_main_v64, val_main_cst_15]
  rw [e]
  exact Finset.sum_congr rfl fun i _ => by rw [v63_apply]

theorem v75_apply : val_main_v75 (F := Ideal) d p x y s g a (ix2 0 j)
    = ∑ i : Fin 4096, (y (ix2 i j) * invRms fun v => y (ix2 i v)) * (val_main_v49 (F := Ideal) d p x s g (ix2 i j) * a (ix2 0 j)) := by
  have e : val_main_v75 (F := Ideal) d p x y s g a (ix2 0 j) = ∑ i : Fin 4096, val_main_v63 (F := Ideal) y (ix2 i j) * val_main_v69 (F := Ideal) d p x s g a (ix2 i j) := by
    unfold val_main_v75 val_main_v74 val_main_v73
    generalize val_main_v69 (F := Ideal) d p x s g a = z
    generalize val_main_v63 (F := Ideal) y = u
    pointwise [val_main_cst_16]
  rw [e]
  exact Finset.sum_congr rfl fun i _ => by rw [v63_apply, v69_apply]

/-- The gradient that reaches the second normed row, before its gain. -/
abbrev came (i : Fin 4096) (v : Fin 2048) : EReal := val_main_v49 (F := Ideal) d p x s g (ix2 i v) * a (ix2 0 v)

theorem v77_apply : val_main_v77 (F := Ideal) d p x s g a b (ix2 i j) = reached (came d p x s g a i) (fun _ => 0) (fun v => b (ix2 0 v)) j := by
  have e : val_main_v77 (F := Ideal) d p x s g a b (ix2 i j) = val_main_v69 (F := Ideal) d p x s g a (ix2 i j) * b (ix2 0 j) := by
    unfold val_main_v77
    generalize val_main_v69 (F := Ideal) d p x s g a = z
    pointwise [val_main_v76]
  rw [e, v69_apply, reached, add_zero, mul_one]

theorem v80_apply : val_main_v80 (F := Ideal) d p x y s g a b (ix2 i 0)
    = ∑ v : Fin 2048, y (ix2 i v) * reached (came d p x s g a i) (fun _ => 0) (fun v => b (ix2 0 v)) v := by
  have e : val_main_v80 (F := Ideal) d p x y s g a b (ix2 i 0) = ∑ v : Fin 2048, y (ix2 i v) * val_main_v77 (F := Ideal) d p x s g a b (ix2 i v) := by
    unfold val_main_v80 val_main_v79 val_main_v78
    generalize val_main_v77 (F := Ideal) d p x s g a b = z
    pointwise [val_main_v50, val_main_cst_17]
  rw [e]
  exact Finset.sum_congr rfl fun v _ => by rw [v77_apply]

theorem v61_apply : val_main_v61 (F := Ideal) y (ix2 i 0)
    = Ideal.ofBits .f32 0xBF000000#32 * Ideal.div (invRms fun v => y (ix2 i v)) (meanSq fun v => y (ix2 i v)) := by
  have e : val_main_v61 (F := Ideal) y (ix2 i 0)
      = Ideal.ofBits .f32 0xBF000000#32 * Ideal.div (val_main_v58 (F := Ideal) y (ix2 i 0)) (val_main_v57 (F := Ideal) y (ix2 i 0)) := by
    rw [val_main_v61_apply, val_main_v59_apply]
    generalize val_main_v58 (F := Ideal) y (ix2 i 0) = a
    generalize val_main_v57 (F := Ideal) y (ix2 i 0) = b
    pointwise [val_main_v60, val_main_cst_14]
  rw [e, v58_apply, v57_apply]

theorem v87_apply : val_main_v87 (F := Ideal) d p x y s g a b (ix2 i j)
    = squarePart (came d p x s g a i) (fun _ => 0) (fun v => b (ix2 0 v)) (fun v => y (ix2 i v)) := by
  have e : val_main_v87 (F := Ideal) d p x y s g a b (ix2 i j) = val_main_v85 (F := Ideal) d p x y s g a b (ix2 i 0) := by
    unfold val_main_v87 val_main_v86
    generalize val_main_v85 (F := Ideal) d p x y s g a b = z
    pointwise [val_main_cst_19]
    exact Fin.sum_univ_one _
  have e' : val_main_v85 (F := Ideal) d p x y s g a b (ix2 i 0)
      = Ideal.div (val_main_v80 (F := Ideal) d p x y s g a b (ix2 i 0) * val_main_v61 (F := Ideal) y (ix2 i 0)) (Ideal.ofBits .f32 0x45000000#32) := by
    rw [val_main_v85_apply, val_main_v83_apply, val_main_v84_apply]
    rfl
  rw [e, e', v80_apply, v61_apply]
  rfl

theorem v92_apply : val_main_v92 (F := Ideal) d p x y s g a b (ix2 i j)
    = differentiated (came d p x s g a i) (fun _ => 0) (fun v => b (ix2 0 v)) (fun v => y (ix2 i v)) (fun _ => 0) j := by
  have e : val_main_v81 (F := Ideal) y (ix2 i j) = val_main_v58 (F := Ideal) y (ix2 i 0) := by
    pointwise [val_main_v81]
  have e' : val_main_v50 (F := Ideal) y (ix2 i j) = y (ix2 i j) := by
    pointwise [val_main_v50]
  have e'' : val_main_v92 (F := Ideal) d p x y s g a b (ix2 i j) = val_main_v91 (F := Ideal) d p x y s g a b (ix2 i j) := by
    unfold val_main_v92
    generalize val_main_v91 (F := Ideal) d p x y s g a b = z
    pointwise []
  rw [e'', val_main_v91_apply, val_main_v90_apply, val_main_v89_apply, val_main_v88_apply, val_main_v82_apply, v87_apply, e, e', v77_apply, v58_apply, differentiated, zero_add]
  rfl

end Reference

/-! ## The two agree -/

variable {m}

theorem column (i : S1x2048.Idx) : ∃ j : Fin 2048, i = ix2 (0 : Fin 1) j :=
  ⟨i 1, (eq_ix2 i).trans (congrArg (fun z : Fin 1 => ix2 z (i 1)) (Subsingleton.elim (α := Fin 1) _ _))⟩

open Cert.PremlpPostmixBwdReferenceIdeal.Read

/-- The reference's first gradient is the kernel's. -/
theorem rows_eq (c : Dev nD) (i : Fin 4096) (j : Fin 2048) : rows m c i j = val_main_v49 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (ix2 i j) :=
  (projected_eq _ _ _ _ _ _).trans (v49_apply _ _ _ _ _ _ _).symm

theorem total8 (c : Dev nD) : (dats m 0 c).arrAt 8 cfg0.N = val_main_v49 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  funext i
  rw [eq_ix2 i]
  exact (result8 m c _ _).trans (rows_eq c _ _)

theorem total9 (c : Dev nD) : (dats m 0 c).arrAt 9 cfg0.N = val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  funext i
  rw [eq_ix2 i]
  exact (result9 m c _ _).trans ((projected_eq _ _ _ _ _ _).trans ((congrArg (fun z => differentiated z (fun _ => 0) (bRow m c) (yRow m c _) (fun _ => 0) _)
    (funext fun v => congrArg (· * aRow m c v) (rows_eq c _ v))).trans (v92_apply _ _ _ _ _ _ _ _ _ _).symm))

theorem total10 (c : Dev nD) : (dats m 0 c).arrAt 10 cfg0.N = val_main_v27 (F := Ideal) (m ((c : Thread nD τ).loc main_arg0)) (m ((c : Thread nD τ).loc main_arg2)) (m ((c : Thread nD τ).loc main_arg5)) := by
  funext i
  obtain ⟨j, rfl⟩ := column i
  exact (result10 m c j).trans ((Finset.sum_congr rfl fun p _ => mul_comm (G := EReal) _ _).trans (v27_apply _ _ _ j).symm)

theorem total11 (c : Dev nD) : (dats m 0 c).arrAt 11 cfg0.N = val_main_v24 (F := Ideal) (m ((c : Thread nD τ).loc main_arg0)) := by
  funext i
  obtain ⟨j, rfl⟩ := column i
  exact (result11 m c j).trans ((Finset.sum_congr rfl fun p _ => mul_one (M := EReal) _).trans (v24_apply _ j).symm)

theorem total12 (c : Dev nD) : (dats m 0 c).arrAt 12 cfg0.N = val_main_v32 (F := Ideal) (m ((c : Thread nD τ).loc main_arg0)) (m ((c : Thread nD τ).loc main_arg2)) (m ((c : Thread nD τ).loc main_arg4)) := by
  funext i
  obtain ⟨j, rfl⟩ := column i
  exact (result12 m c j).trans ((Finset.sum_congr rfl fun p _ => mul_comm (G := EReal) _ _).trans (v32_apply _ _ _ j).symm)

theorem total13 (c : Dev nD) : (dats m 0 c).arrAt 13 cfg0.N = val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := by
  funext i
  obtain ⟨j, rfl⟩ := column i
  exact (result13 m c j).trans ((Finset.sum_congr rfl fun p _ => congrArg (· * (unit2 m c p j * bRow m c j)) (rows_eq c p j) :
    gate m c j = ∑ p, (_ : EReal)).trans (v72_apply _ _ _ _ _ _ _ j).symm)

theorem total14 (c : Dev nD) : (dats m 0 c).arrAt 14 cfg0.N = val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  obtain ⟨j, rfl⟩ := column i
  exact (result14 m c j).trans ((Finset.sum_congr rfl fun p _ =>
    (congrArg (· * _) (congrArg (· * _) (rows_eq c p j))).trans (mul_comm (G := EReal) _ _)).trans (v75_apply _ _ _ _ _ _ _ j).symm)

/-- The run, its results named. -/
theorem run_values (m : (ℓ : Loc nD τ sig) → Buf (Elt Ideal) ℓ) (ρ : Dev nD → PrngReg) : θ_run defs (onTc (τ := τ) (main (F := Ideal))) ⟨m, fun _ => 0, ρ⟩ (fun r => ∀ c : Dev nD,
    r.2.mem ((c : Thread nD τ).loc main_v0_0) = (dats m 0 c).arrAt 8 cfg0.N
    ∧ r.2.mem ((c : Thread nD τ).loc main_v0_1) = (dats m 0 c).arrAt 9 cfg0.N
    ∧ r.2.mem ((c : Thread nD τ).loc main_v0_2) = (dats m 0 c).arrAt 10 cfg0.N
    ∧ r.2.mem ((c : Thread nD τ).loc main_v0_3) = (dats m 0 c).arrAt 11 cfg0.N
    ∧ r.2.mem ((c : Thread nD τ).loc main_v0_4) = (dats m 0 c).arrAt 12 cfg0.N
    ∧ r.2.mem ((c : Thread nD τ).loc main_v0_5) = (dats m 0 c).arrAt 13 cfg0.N
    ∧ r.2.mem ((c : Thread nD τ).loc main_v0_6) = (dats m 0 c).arrAt 14 cfg0.N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)) :=
  (θ_run defs _ _).mono (fun _ h c => ⟨(h c).1 8, (h c).1 9, (h c).1 10, (h c).1 11, (h c).1 12, (h c).1 13, (h c).1 14,
    ((h c).1 0).trans ((dats m 0 c).arrAt_in 0 rfl _), ((h c).1 1).trans ((dats m 0 c).arrAt_in 1 rfl _), ((h c).1 2).trans ((dats m 0 c).arrAt_in 2 rfl _),
    ((h c).1 3).trans ((dats m 0 c).arrAt_in 3 rfl _), ((h c).1 4).trans ((dats m 0 c).arrAt_in 4 rfl _), ((h c).1 5).trans ((dats m 0 c).arrAt_in 5 rfl _),
    ((h c).1 6).trans ((dats m 0 c).arrAt_in 6 rfl _), ((h c).1 7).trans ((dats m 0 c).arrAt_in 7 rfl _)⟩)
    (run_main m ρ)

/-- The call computes what the reference computes. -/
theorem agree : Cert.algebraic_PremlpPostmixBwdIdeal_PremlpPostmixBwdReferenceIdeal := by
  pair_intro
  · run_from run_values m g
  · refine Idealize.ShloMosaic.θ_run_mono (Cert.PremlpPostmixBwdReferenceIdeal.Value.run (F := Ideal) m' g') ?_
    intro r hr c
    obtain ⟨e0, e1, e2, e3, e4, e5, e6, e7⟩ := hagree c
    obtain ⟨h8, h9, h10, h11, h12, h13, h14, hin⟩ := hr c
    refine ⟨h8.trans ?_, h9.trans ?_, h10.trans ?_, h11.trans ?_, h12.trans ?_, h13.trans ?_, h14.trans ?_, hin⟩
    · rw [total8 c, val_main_v49_eq, e0, e1, e2, e4, e5]
    · rw [total9 c, val_main_v92_eq, e0, e1, e2, e3, e4, e5, e6, e7]
    · rw [total10 c, val_main_v27_eq, e0, e2, e5]
    · rw [total11 c, val_main_v24_eq, e0]
    · rw [total12 c, val_main_v32_eq, e0, e2, e4]
    · rw [total13 c, val_main_v72_eq, e0, e1, e2, e3, e4, e5, e7]
    · rw [total14 c, val_main_v75_eq, e0, e1, e2, e3, e4, e5, e6]

theorem frame_reference : Cert.quiescent_PremlpPostmixBwdReferenceIdeal := fun m ρ _ =>
  (θ_run Cert.PremlpPostmixBwdReferenceIdeal.defs _ _).mono (fun r h => ⟨fun c => (h c).2.2.2.2.2.2.2, Idealize.ShloMosaic.sem_eq_zero_of_no_sems (by decide) r.2⟩)
    (Cert.PremlpPostmixBwdReferenceIdeal.Value.run (F := Ideal) m ρ)

end Cert.PremlpPostmixBwdIdeal.Products
end
-- ==== Proof.Products.FoxCum.lean ====
/- The cumulative sums of the forgetting term. -/
module

public import proofs.«01_k».proof.Defs
public import proofs.«01_k».proof.Proof.Products.Sum
public import proofs.«01_k».proof.Proof.Gen.FoxCumIdeal.Frame
public import proofs.«01_k».proof.Proof.Gen.FoxCumReferenceIdeal
public import proofs.«01_k».proof.Proof.Gen.FoxCumReferenceIdeal.Run
public import proofs.«01_k».proof.Proof.Gen.FoxCumReferenceIdeal.Read
public import Idealize.ShloMosaic.Lib.Pipeline.ValueKit
public import Idealize.ShloMosaic.Lib.Pipeline.ValueKit.Geometry
public import Idealize.ShloMosaic.Lib.Pointwise
public import Idealize.ShloMosaic.Lib.Tactic
public import Idealize.ShloMosaic.Lib.Claim
public import Idealize.ShloMosaic.Lib.Quiescent
public import Idealize.ShloMosaic.Lib.Routing.OpsOne

@[expose] public section

set_option maxRecDepth 16384

noncomputable section

namespace Cert.FoxCumIdeal.Products

open Idealize.ShloMosaic Idealize.ShloMosaic.TcCoe Idealize.SL.Sem Cert.FoxCumIdeal Cert.FoxCumIdeal.Gen Cert.Products

variable (m : (ℓ : Loc nD τ sig) → Buf (Elt Ideal) ℓ)

/-! ## The logarithm of the sigmoid -/

/-- The kernel's logarithm of the sigmoid. -/
def logSig (s : EReal) : EReal := min s 0 - Ideal.log (1 + Ideal.exp (0 - max s (-s)))

/-- Its logarithm is of a real above one or of one, so it is real. -/
theorem log_real (s : EReal) : ∃ r : ℝ, Ideal.log (1 + Ideal.exp (0 - max s (-s))) = r := by
  have e : ∃ u : ℝ, 0 ≤ u ∧ Ideal.exp (0 - max s (-s)) = u := by
    induction s using EReal.rec with
    | bot => exact ⟨0, le_rfl, by rw [show (0 : EReal) - max ⊥ (-⊥) = ⊥ by simp]; rfl⟩
    | top => exact ⟨0, le_rfl, by rw [show (0 : EReal) - max ⊤ (-⊤) = ⊥ by simp]; rfl⟩
    | coe x =>
      refine ⟨Real.exp (0 - max x (-x)), (Real.exp_pos _).le, ?_⟩
      rw [← EReal.coe_neg, ← EReal.coe_strictMono.monotone.map_max, ← EReal.coe_zero, ← EReal.coe_sub]
      rfl
  obtain ⟨u, hu, e⟩ := e
  rw [e]
  refine ⟨Real.log (1 + u), ?_⟩
  rw [← EReal.coe_one, ← EReal.coe_add]
  show (if 1 + u ≤ 0 then (⊥ : EReal) else (Real.log (1 + u) : EReal)) = _
  rw [if_neg (by linarith)]

theorem logSig_ne_top (s : EReal) : logSig s ≠ ⊤ := by
  obtain ⟨r, e⟩ := log_real s
  unfold logSig
  rw [e]
  have h : min s 0 ≠ ⊤ := fun h => absurd (h ▸ min_le_right s 0) (by simp)
  revert h
  generalize min s 0 = v
  intro h
  induction v using EReal.rec with
  | bot => simp
  | top => exact absurd rfl h
  | coe x => rw [← EReal.coe_sub]; exact EReal.coe_ne_top _

/-- The same as it is written with the maximum. -/
theorem logSig_eq (s : EReal) : -(max (-s) 0 + Ideal.log (1 + Ideal.exp (-max (-s) (- -s)))) = logSig s := by
  have e : -max (-s) (- -s) = 0 - max s (-s) := by rw [neg_neg, max_comm, zero_sub]
  rw [e, logSig]
  obtain ⟨r, e⟩ := log_real s
  rw [e, EReal.neg_add (Or.inr (EReal.coe_ne_top _)) (Or.inr (EReal.coe_ne_bot _))]
  refine congrArg (· - (r : EReal)) ?_
  rcases le_total s 0 with h | h
  · rw [max_eq_left (by simpa using h), min_eq_left h, neg_neg]
  · rw [max_eq_right (by simpa using h), min_eq_right h, neg_zero]

/-! ## Sums over the numbers up to another -/

/-- A number and what its rounding leaves, and what that leaves again, under a weight of zero or one. -/
theorem residuals (z w : EReal) (hz : z ≠ ⊤) (hw : w = 0 ∨ w = 1) : z * w + (z - z) * w + (z - z - (z - z)) * w = z * w := by
  rcases hw with rfl | rfl
  · simp
  · simp only [mul_one]
    induction z using EReal.rec with
    | bot => simp
    | top => exact absurd rfl hz
    | coe x => norm_cast; simp

/-- The weight of position `x` in the sum up to position `q`. -/
theorem weight (x q : Fin 256) : (FloatOps.sitofp (F := Ideal) .f32 (BitVec.setWidth 32 (IntOp.cmpi .sle (BitVec.ofNat 32 x.val) (BitVec.ofNat 32 q.val))) : EReal)
    = if x.val ≤ q.val then 1 else 0 := by
  have hx := x.isLt
  have hq := q.isLt
  have e : ∀ n : ℕ, n < 256 → (BitVec.ofNat 32 n).toInt = n := fun n h => by
    rw [BitVec.toInt_ofNat', Int.bmod_eq_of_le (by omega) (by omega)]
  have h : IntOp.cmpi .sle (BitVec.ofNat 32 x.val) (BitVec.ofNat 32 q.val) = BitVec.ofBool (decide (x.val ≤ q.val)) := by
    show BitVec.ofBool ((BitVec.ofNat 32 x.val).sle (BitVec.ofNat 32 q.val)) = _
    rw [BitVec.sle_eq_decide, e _ hx, e _ hq]
    simp
  rw [h]
  by_cases hle : x.val ≤ q.val
  · rw [if_pos hle, decide_eq_true hle]
    show (((1 : ℤ) : ℝ) : EReal) = 1
    simp
  · rw [if_neg hle, decide_eq_false hle]
    show (((0 : ℤ) : ℝ) : EReal) = 0
    simp

/-- The sum of the first `n` values. -/
def upTo (f : ℕ → EReal) (n : ℕ) : EReal := ∑ p ∈ Finset.range n, f p

theorem upTo_zero (f : ℕ → EReal) : upTo f 0 = 0 := Finset.sum_range_zero _

theorem upTo_add (f : ℕ → EReal) (n k : ℕ) : upTo f (n + k) = upTo f n + ∑ v ∈ Finset.range k, f (n + v) := Finset.sum_range_add ..

/-- A sum of those positions of a block that are not above `q`. -/
theorem masked (f : ℕ → EReal) (q n : ℕ) (hq : q < n) : ∑ x : Fin n, (if x.val ≤ q then f x.val else 0) = ∑ v ∈ Finset.range (q + 1), f v := by
  rw [← Finset.sum_range (fun x => if x ≤ q then f x else 0), ← Finset.sum_filter]
  refine Finset.sum_congr ?_ fun _ _ => rfl
  ext v
  simp only [Finset.mem_filter, Finset.mem_range]
  omega

/-- A running sum by a window of the whole height, padded above by one less: entry `j` of a column adds up the entries up to `j`. -/
theorem window {R Rm1 C : ℕ} (hR : Rm1 + 1 = R) (x : (Routing.shape2 R C).Idx → EReal) (f : ℕ → ℕ → EReal)
    (hx : ∀ (i : Fin R) (c : Fin C), x (ValueIdx.ix2 i c) = f i.val c.val) (init : Routing.shape0.Idx → EReal) (hinit : ∀ i, init i = 0)
    (h : (Routing.shape2 R C).ReduceWindows (![R, 1] : Fin 2 → ℕ) ![1, 1] ![Rm1, 0] ![0, 0] (Routing.shape2 R C)) (hu : 0 < Routing.shape0.numel) (j : Fin R) (c : Fin C) :
    Host.reduceWindow (· + ·) ![R, 1] ![1, 1] ![Rm1, 0] ![0, 0] x init h hu (ValueIdx.ix2 j c) = upTo (fun i => f i c.val) (j.val + 1) := by
  subst hR
  have hj := j.isLt
  have hc := c.isLt
  have fold : ∀ (l : List (Fin (Routing.shape2 (Rm1 + 1) 1).numel)) (g : Fin (Routing.shape2 (Rm1 + 1) 1).numel → EReal) (v : EReal),
      l.foldl (fun r n => r + g n) v = v + (l.map g).sum := by
    intro l g
    induction l with
    | nil => intro v; simp
    | cons a l ih => intro v; rw [List.foldl_cons, ih, List.map_cons, List.sum_cons, add_assoc]
  unfold Host.reduceWindow
  refine (fold _ _ _).trans ?_
  rw [hinit, zero_add, ← List.ofFn_eq_map, List.sum_ofFn]
  refine (Finset.sum_congr rfl (g := fun n : Fin (Routing.shape2 (Rm1 + 1) 1).numel => if Rm1 ≤ j.val + n.val then f (j.val + n.val - Rm1) c.val else 0)
    fun n _ => ?_).trans ?_
  · have hw0 : ((Routing.shape2 (Rm1 + 1) 1).rowMajor.symm n 0).val = n.val := by rw [Routing.symm_col]; rfl
    have hw1 : ((Routing.shape2 (Rm1 + 1) 1).rowMajor.symm n 1).val = 0 := by rw [Routing.symm_col]; rfl
    have hn : n.val < Rm1 + 1 := (n.cast (Routing.numel_col _)).isLt
    by_cases hin : Rm1 ≤ j.val + n.val
    · rw [if_pos hin]
      refine (dif_pos fun a => ?_).trans ((congrArg x (funext fun a => Fin.ext ?_)).trans (hx ⟨j.val + n.val - Rm1, by omega⟩ c))
      · match a with
        | ⟨0, _⟩ =>
          show Rm1 ≤ j.val * 1 + ((Routing.shape2 (Rm1 + 1) 1).rowMajor.symm n 0).val
            ∧ j.val * 1 + ((Routing.shape2 (Rm1 + 1) 1).rowMajor.symm n 0).val - Rm1 < Rm1 + 1
          rw [hw0]
          omega
        | ⟨1, _⟩ =>
          show 0 ≤ c.val * 1 + ((Routing.shape2 (Rm1 + 1) 1).rowMajor.symm n 1).val
            ∧ c.val * 1 + ((Routing.shape2 (Rm1 + 1) 1).rowMajor.symm n 1).val - 0 < C
          rw [hw1]
          omega
      · match a with
        | ⟨0, _⟩ =>
          show j.val * 1 + ((Routing.shape2 (Rm1 + 1) 1).rowMajor.symm n 0).val - Rm1 = j.val + n.val - Rm1
          rw [hw0, Nat.mul_one]
        | ⟨1, _⟩ =>
          show c.val * 1 + ((Routing.shape2 (Rm1 + 1) 1).rowMajor.symm n 1).val - 0 = c.val
          rw [hw1]
          omega
    · rw [if_neg hin]
      refine dif_neg fun h => hin ?_
      have h0 := (h 0).1
      change Rm1 ≤ j.val * 1 + ((Routing.shape2 (Rm1 + 1) 1).rowMajor.symm n 0).val at h0
      rw [hw0] at h0
      omega
  · rw [← Finset.sum_range (fun k => if Rm1 ≤ j.val + k then f (j.val + k - Rm1) c.val else 0), Routing.numel_col]
    have e : Rm1 + 1 = (Rm1 - j.val) + (j.val + 1) := by omega
    rw [show Finset.range (Rm1 + 1) = Finset.range ((Rm1 - j.val) + (j.val + 1)) from congrArg _ e, Finset.sum_range_add, Finset.sum_eq_zero fun k hk => if_neg (by have := Finset.mem_range.mp hk; omega), zero_add]
    refine Finset.sum_congr rfl fun v hv => ?_
    rw [if_pos (by omega)]
    exact congrArg (f · c.val) (by omega)

/-! ## What the body computes of one block -/

theorem hz : (![0, 0] : Fin 2 → Nat) = fun _ => 0 := funext fun a => by fin_cases a <;> rfl

section Body

variable (x : Vec Ideal S256x128 .f32) (b : Vec Ideal S1x128 .f32) (o : Vec Ideal S8x1 .f32) (h : Fin 8) (q : Fin 256)

theorem pay3 : k0_pay3 x b (ix2 h q) = logSig (x (ix2 q ⟨h.val, by omega⟩) + b (ix2 0 ⟨h.val, by omega⟩)) := by
  pointwise [k0_pay3]
  rfl

theorem pay4 : k0_pay4 x b o (ix2 h q) = (∑ v : Fin 256, if v.val ≤ q.val then k0_pay3 x b (ix2 h v) else 0) + o (ix2 h 0) := by
  have hn : ∀ v : Fin 256, k0_pay3 x b (ix2 h v) ≠ (⊤ : EReal) := fun v => by rw [pay3]; exact logSig_ne_top _
  revert hn
  unfold k0_pay4
  generalize k0_pay3 x b = z
  intro hn
  pointwise []
  refine congrArg (· + o (ix2 h 0)) ?_
  rw [← Finset.sum_add_distrib, ← Finset.sum_add_distrib]
  refine Finset.sum_congr rfl fun v _ => ?_
  rw [weight]
  refine (residuals _ _ (hn v) (by split <;> simp)).trans ?_
  split <;> simp

theorem pay1 (a : Vec Ideal S8x128 .f32) (z : FVec Ideal S8x256 .f32) (l : Fin 128) : k0_pay1 z a (ix2 h l) = a (ix2 h l) + ∑ v : Fin 256, z (ix2 h v) := by
  pointwise [k0_pay1]

theorem pay2 (l : Fin 128) : k0_pay2 (F := Ideal) (ix2 h l) = 0 := by
  pointwise [k0_pay2]

end Body

/-! ## What one point leaves -/

theorem carry_first (c : Dev nD) (t : Fin cfg0.N) (h : t.val % 16 = 0) :
    (outsAt0 m c t.val t.isLt).2 = k0_pay1 (k0_pay3 (iblk m c 0 t) (iblk m c 1 t)) (k0_pay2 (F := Ideal)) := by
  refine (congrArg Prod.snd (outsAt0_A m c t h)).trans ?_
  dsimp only
  generalize iblk m c 0 t = x
  generalize iblk m c 1 t = y
  unfold sout0_A_0
  rw [View.read_writes_eq_canon _ _ _ (fun z => scover0_A_0 (y := z) ..)]
  unfold kernelRun0_A
  dsimp only
  refine (View.canon_cons_unit_zero hz _ _ _).trans ?_
  unfold kernelRun0_A.sl.r kernelRun0_A.sl.v41 kernelRun0_A.sl.HS0_1
  simp only [View.readAt_eq_ld, Memref.IsWhole.read_unread, View.ld_unit_zero (S := S256x128) hz, View.ld_unit_zero (S := S1x128) hz]
  exact congrArg (k0_pay1 _) (View.readCov_unit_lit _ _ _ fun a => by fin_cases a <;> rfl)

theorem carry_next (c : Dev nD) (t : Fin cfg0.N) (h : ¬t.val % 16 = 0) :
    (outsAt0 m c t.val t.isLt).2 = k0_pay1 (k0_pay3 (iblk m c 0 t) (iblk m c 1 t)) (outsAt0 m c (t.val - 1) (by omega)).2 := by
  refine (congrArg Prod.snd (outsAt0_B m c t h)).trans ?_
  dsimp only
  generalize iblk m c 0 t = x
  generalize iblk m c 1 t = y
  generalize (outsAt0 m c (t.val - 1) _).2 = a
  unfold sout0_B_0
  rw [View.read_writes_eq_canon _ _ _ (fun z => scover0_B_0 (y := z) ..)]
  unfold kernelRun0_B
  dsimp only
  rw [View.canon_unit_zero hz]
  simp only [View.readAt_eq_ld, Memref.IsWhole.read_unread, View.ld_unit_zero (S := S8x128) hz, View.ld_unit_zero (S := S256x128) hz, View.ld_unit_zero (S := S1x128) hz, kernelRun0_B.sl.r]
  exact congrArg (k0_pay1 _) ((Memref.isWhole_whole cc0_scratch0).read_unread a)

theorem sums_first (c : Dev nD) (t : Fin cfg0.N) (h : t.val % 16 = 0) (i : Fin 8) (q : Fin 256) :
    (outsAt0 m c t.val t.isLt).1 (ix2 i q) = (∑ v : Fin 256, if v.val ≤ q.val then k0_pay3 (iblk m c 0 t) (iblk m c 1 t) (ix2 i v) else 0) + 0 := by
  refine (congrFun (congrArg Prod.fst (outsAt0_A m c t h)) _).trans ?_
  dsimp only
  generalize iblk m c 0 t = x
  generalize iblk m c 1 t = y
  unfold out0_A_2
  rw [View.read_writes_eq_canon _ _ _ (fun z => cover0_A_2 (y := z) ..)]
  unfold kernelRun0_A
  dsimp only
  rw [View.canon_unit_zero hz]
  simp only [View.readAt_eq_ld, Memref.IsWhole.read_unread, View.ld_unit_zero (S := S256x128) hz, View.ld_unit_zero (S := S1x128) hz]
  rw [pay4]
  refine congrArg (_ + ·) ?_
  unfold kernelRun0_A.sl.v37 kernelRun0_A.sl.HS0_1
  refine (congrFun (View.readAt_writes_junk_eq_canon _ _ _) _).trans ?_
  rw [View.canon_unit_zero hz]
  exact (congrArg _ (eq_ix2 _)).trans (pay2 _ _)

theorem sums_next (c : Dev nD) (t : Fin cfg0.N) (h : ¬t.val % 16 = 0) (i : Fin 8) (q : Fin 256) :
    (outsAt0 m c t.val t.isLt).1 (ix2 i q) = (∑ v : Fin 256, if v.val ≤ q.val then k0_pay3 (iblk m c 0 t) (iblk m c 1 t) (ix2 i v) else 0)
      + (outsAt0 m c (t.val - 1) (by omega)).2 (ix2 i 0) := by
  refine (congrFun (congrArg Prod.fst (outsAt0_B m c t h)) _).trans ?_
  dsimp only
  generalize iblk m c 0 t = x
  generalize iblk m c 1 t = y
  generalize (outsAt0 m c (t.val - 1) _).2 = a
  unfold out0_B_2
  rw [View.read_writes_eq_canon _ _ _ (fun z => cover0_B_2 (y := z) ..)]
  unfold kernelRun0_B
  dsimp only
  rw [View.canon_unit_zero hz]
  simp only [View.readAt_eq_ld, Memref.IsWhole.read_unread, View.ld_unit_zero (S := S256x128) hz, View.ld_unit_zero (S := S1x128) hz]
  rw [pay4]
  refine congrArg (_ + ·) ((View.ld_unit_apply_of _ _ _ _ _ (ix2 i 0) fun a => ?_).trans (congrFun ((Memref.isWhole_whole cc0_scratch0).read_unread a) _))
  fin_cases a <;> simp

/-! ## The blocks -/

theorem place0 : ∀ t : Fin cfg0.N, win0_0.index t = ![t.val, 0] := (by decide +kernel : ∀ t : Fin grid0.N, _)
theorem place1 : ∀ t : Fin cfg0.N, win0_1.index t = ![0, 0] := (by decide +kernel : ∀ t : Fin grid0.N, _)
theorem place2 : ∀ t : Fin cfg0.N, win0_2.index t = ![0, t.val] := (by decide +kernel : ∀ t : Fin grid0.N, _)

theorem points (t : Fin cfg0.N) : t.val < 16 := lt_of_lt_of_eq t.isLt N_0

/-- The two arguments and the logarithms they give, by row and head. -/
abbrev small (c : Dev nD) : ℕ → ℕ → EReal := entry fun (p : Fin 4096) (h : Fin 128) => m ((c : Thread nD τ).loc main_arg0) (ix2 p h)
abbrev bias (c : Dev nD) : ℕ → ℕ → EReal := entry fun (p : Fin 1) (h : Fin 128) => m ((c : Thread nD τ).loc main_arg1) (ix2 p h)
def gate (c : Dev nD) (p h : ℕ) : EReal := logSig (small m c p h + bias m c 0 h)

theorem blk0 (c : Dev nD) (t : Fin cfg0.N) (q : Fin 256) (h : Fin 128) : iblk m c 0 t (ix2 q h) = small m c (256 * t.val + q.val) h.val := by
  have hp := points t
  have e : ∀ A : Buf (Elt Ideal) ((c : Thread nD τ).loc main_arg0), ((cfg0.win 0).blk t).view.read (Elt Ideal) A (ix2 q h) = A (ix2 ⟨256 * t.val + q.val, by omega⟩ ⟨h.val, by omega⟩) :=
    fun A => by rw [View.read_apply]; show A _ = A _; refine congrArg A ?_; blk_ext [place0]
  refine (e (V m c main_arg0)).trans (Eq.symm ?_)
  exact (entry_eq _ (by omega) (by omega)).trans rfl

theorem blk1 (c : Dev nD) (t : Fin cfg0.N) (h : Fin 128) : iblk m c 1 t (ix2 0 h) = bias m c 0 h.val := by
  have e : ∀ A : Buf (Elt Ideal) ((c : Thread nD τ).loc main_arg1), ((cfg0.win 1).blk t).view.read (Elt Ideal) A (ix2 0 h) = A (ix2 0 ⟨h.val, by omega⟩) :=
    fun A => by rw [View.read_apply]; show A _ = A _; refine congrArg A ?_; blk_ext [place1]
  refine (e (V m c main_arg1)).trans (Eq.symm ?_)
  exact (entry_eq _ Nat.one_pos (by omega)).trans rfl

theorem gates (c : Dev nD) (t : Fin cfg0.N) (h : Fin 8) (q : Fin 256) :
    k0_pay3 (iblk m c 0 t) (iblk m c 1 t) (ix2 h q) = gate m c (256 * t.val + q.val) h.val :=
  (pay3 _ _ h q).trans (congrArg logSig (congrArg₂ (· + ·) (blk0 m c t q _) (blk1 m c t _)))

/-- The carry after a point: the sum of all rows so far. -/
theorem carried (c : Dev nD) (h : Fin 8) (l : Fin 128) : ∀ (t : ℕ) (ht : t < cfg0.N), (outsAt0 m c t ht).2 (ix2 h l) = upTo (fun p => gate m c p h.val) (256 * (t + 1)) := by
  have total : ∀ t : Fin cfg0.N, (∑ v : Fin 256, k0_pay3 (iblk m c 0 t) (iblk m c 1 t) (ix2 h v) : EReal) = ∑ v ∈ Finset.range 256, gate m c (256 * t.val + v) h.val := fun t =>
    (Finset.sum_congr rfl fun v _ => gates m c t h v).trans (Finset.sum_range fun v => gate m c (256 * t.val + v) h.val).symm
  intro t
  induction t with
  | zero =>
    intro ht
    refine (congrFun (carry_first m c ⟨0, ht⟩ rfl) _).trans ((pay1 _ _ _ _).trans ?_)
    rw [pay2, zero_add, total, show 256 * (0 + 1) = 0 + 256 from rfl, upTo_add, upTo_zero]
    exact (zero_add _).symm
  | succ t ih =>
    intro ht
    have hp := points ⟨t + 1, ht⟩
    refine (congrFun (carry_next m c ⟨t + 1, ht⟩ (by dsimp only at hp ⊢; omega)) _).trans ((pay1 _ _ _ _).trans ?_)
    rw [total, Nat.mul_succ 256 (t + 1), upTo_add]
    exact congrArg (· + _) (ih _)

theorem written (c : Dev nD) (t : Fin cfg0.N) (h : Fin 8) (q : Fin 256) :
    (outsAt0 m c t.val t.isLt).1 (ix2 h q) = upTo (fun p => gate m c p h.val) (256 * t.val + q.val + 1) := by
  have hp := points t
  have block : (∑ v : Fin 256, if v.val ≤ q.val then k0_pay3 (iblk m c 0 t) (iblk m c 1 t) (ix2 h v) else 0 : EReal)
      = ∑ v ∈ Finset.range (q.val + 1), gate m c (256 * t.val + v) h.val :=
    (Finset.sum_congr rfl fun v _ => by rw [gates]).trans (masked (fun v => gate m c (256 * t.val + v) h.val) q.val 256 q.isLt)
  rw [Nat.add_assoc, upTo_add, add_comm]
  by_cases h0 : t.val % 16 = 0
  · rw [sums_first m c t h0, block, show t.val = 0 by omega, Nat.mul_zero, upTo_zero]
  · rw [sums_next m c t h0, block, carried]
    exact congrArg (fun n => _ + upTo _ (256 * n)) (by omega)

/-- The result, entry by entry. -/
theorem result (c : Dev nD) (h : Fin 8) (j : Fin 4096) :
    (dats m 0 c).arrAt 2 cfg0.N (ix2 h j) = upTo (fun p => gate m c p h.val) (j.val + 1) := by
  refine (dats m 0 c).arrAt_forall_of_covers 2 (fun i v => v = upTo (fun p => gate m c p (i (0 : Fin 2)).val) ((i (1 : Fin 2)).val + 1)) (by decide +kernel) (fun t hf y => ?_) (ix2 h j)
  blk_simp [place2]
  rw [after0_2]
  refine (congrArg _ (eq_ix2 y)).trans ((written m c t (y (0 : Fin 2)) (y (1 : Fin 2))).trans ?_)
  rw [Nat.mul_comm 256]

/-! ## The reference -/

section Reference

open Cert.FoxCumReferenceIdeal.Read

variable (x : Vec Ideal S4096x128 .f32) (b : Vec Ideal S1x128 .f32)

theorem reference_gate (p : Fin 4096) (h : Fin 8) :
    val_main_v4 (F := Ideal) x b (ix2 p h) = logSig (x (ix2 p ⟨h.val, by omega⟩) + b (ix2 0 ⟨h.val, by omega⟩)) := by
  refine Eq.trans ?_ (logSig_eq _)
  pointwise [val_main_v4, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0, val_main_v3, val_main_v2, val_main_v1, val_main_v0]
  rw [if_neg fun h => h rfl]
  rfl

/-- The reference's logarithm at a row and a head. -/
def refGate (p : Fin 4096) (h : Fin 8) : EReal := logSig (x (ix2 p ⟨h.val, by omega⟩) + b (ix2 0 ⟨h.val, by omega⟩))

theorem reference_sum (h : Fin 8) (j : Fin 4096) : val_main_v6 (F := Ideal) x b (ix2 h j)
    = upTo (fun p => entry (refGate x b) p h.val) (j.val + 1) := by
  rw [val_main_v6_apply]
  refine (congrArg _ (eq_ix2 _)).trans ?_
  unfold val_main_v5 Host.reduceWindowAdd
  rw [Ideal.hostReduceWindowAdd_def]
  unfold Ideal.hostReduceWindowAdd
  have hi : val_main_call1_call0_v0 (F := Ideal) (Shape.Idx.first FoxCumReferenceIdeal.Gen.h_S_) = (0 : EReal) := by
    pointwise [val_main_call1_call0_v0, val_main_call1_call0_cst]
  rw [hi]
  have hg := reference_gate x b
  generalize val_main_v4 (F := Ideal) x b = z at hg ⊢
  exact window (R := 4096) (Rm1 := 4095) (C := 8) (by norm_num) z (entry (refGate x b)) (fun p h => (hg p h).trans (entry_eq (refGate x b) p.isLt h.isLt).symm) (fun _ => 0) (fun _ => rfl) _ (by decide) j h

end Reference

theorem total (c : Dev nD) (h : Fin 8) (j : Fin 4096) : upTo (fun p => gate m c p h.val) (j.val + 1)
    = Cert.FoxCumReferenceIdeal.Read.val_main_v6 (F := Ideal) (m ((c : Thread nD τ).loc main_arg0)) (m ((c : Thread nD τ).loc main_arg1)) (ix2 h j) := by
  rw [reference_sum]
  refine Finset.sum_congr rfl fun p hp => ?_
  have hp : p < 4096 := by have := Finset.mem_range.mp hp; omega
  refine Eq.trans ?_ (entry_eq _ hp h.isLt).symm
  exact congrArg logSig (congrArg₂ (· + ·) (entry_eq _ hp (by omega)) (entry_eq _ Nat.one_pos (by omega)))

variable (ρ : Dev nD → PrngReg)

theorem run_values : θ_run defs (onTc (τ := τ) (main (F := Ideal))) ⟨m, fun _ => 0, ρ⟩ (fun r => ∀ c : Dev nD,
    r.2.mem ((c : Thread nD τ).loc main_v0) = Cert.FoxCumReferenceIdeal.Read.val_main_v6 (F := Ideal) (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1)) :=
  (θ_run defs _ _).mono (fun _ h c => ⟨((h c).1 2).trans (funext fun i => by
      rw [eq_ix2 i]; exact (result m c _ _).trans (total m c _ _)),
    ((h c).1 0).trans ((dats m 0 c).arrAt_in 0 rfl _), ((h c).1 1).trans ((dats m 0 c).arrAt_in 1 rfl _)⟩)
    (run_main m ρ)

theorem reference_run (m : (ℓ : Loc Cert.FoxCumReferenceIdeal.nD Cert.FoxCumReferenceIdeal.τ Cert.FoxCumReferenceIdeal.sig) → Buf (Elt Ideal) ℓ) (ρ : Dev Cert.FoxCumReferenceIdeal.nD → PrngReg) :
    θ_run Cert.FoxCumReferenceIdeal.defs (onTc (τ := Cert.FoxCumReferenceIdeal.τ) (Cert.FoxCumReferenceIdeal.main (F := Ideal))) ⟨m, fun _ => 0, ρ⟩ (fun r => ∀ c : Dev Cert.FoxCumReferenceIdeal.nD,
    r.2.mem ((c.tc : Thread Cert.FoxCumReferenceIdeal.nD Cert.FoxCumReferenceIdeal.τ).loc Cert.FoxCumReferenceIdeal.main_v6)
      = Cert.FoxCumReferenceIdeal.Read.val_main_v6 (F := Ideal) (m ((c.tc : Thread Cert.FoxCumReferenceIdeal.nD Cert.FoxCumReferenceIdeal.τ).loc Cert.FoxCumReferenceIdeal.main_arg0)) (m ((c.tc : Thread Cert.FoxCumReferenceIdeal.nD Cert.FoxCumReferenceIdeal.τ).loc Cert.FoxCumReferenceIdeal.main_arg1))
    ∧ r.2.mem ((c.tc : Thread Cert.FoxCumReferenceIdeal.nD Cert.FoxCumReferenceIdeal.τ).loc Cert.FoxCumReferenceIdeal.main_arg0) = m ((c.tc : Thread Cert.FoxCumReferenceIdeal.nD Cert.FoxCumReferenceIdeal.τ).loc Cert.FoxCumReferenceIdeal.main_arg0)
    ∧ r.2.mem ((c.tc : Thread Cert.FoxCumReferenceIdeal.nD Cert.FoxCumReferenceIdeal.τ).loc Cert.FoxCumReferenceIdeal.main_arg1) = m ((c.tc : Thread Cert.FoxCumReferenceIdeal.nD Cert.FoxCumReferenceIdeal.τ).loc Cert.FoxCumReferenceIdeal.main_arg1)) :=
  (θ_run Cert.FoxCumReferenceIdeal.defs _ _).mono (fun _ h c => ⟨(h c).1.trans (Cert.FoxCumReferenceIdeal.Read.val_main_v6_eq _ _), (h c).2⟩)
    (Cert.FoxCumReferenceIdeal.Value.run (F := Ideal) m ρ)

attribute [local irreducible] Cert.FoxCumReferenceIdeal.Read.val_main_v6

/-- The call computes what the reference computes. -/
theorem agree : Cert.algebraic_FoxCumIdeal_FoxCumReferenceIdeal := by
  pair_intro
  · run_from run_values m g
  · run_from reference_run m' g'

theorem frame_reference : Cert.quiescent_FoxCumReferenceIdeal := fun m ρ _ =>
  (θ_run Cert.FoxCumReferenceIdeal.defs _ _).mono (fun r h => ⟨fun c => (h c).2, Idealize.ShloMosaic.sem_eq_zero_of_no_sems (by decide) r.2⟩)
    (Cert.FoxCumReferenceIdeal.Value.run (F := Ideal) m ρ)

end Cert.FoxCumIdeal.Products
end
-- ==== Proof.Products.FoxCumBwd.lean ====
/- The gradient of the cumulative sums of the forgetting term. -/
module

public import proofs.«01_k».proof.Defs
public import proofs.«01_k».proof.Pre_below
public import proofs.«01_k».proof.Proof.Products.Sum
public import proofs.«01_k».proof.Proof.Products.FoxCum
public import proofs.«01_k».proof.Proof.Gen.FoxCumBwdIdeal.Frame
public import proofs.«01_k».proof.Proof.Gen.FoxCumBwdReferenceIdeal
public import proofs.«01_k».proof.Proof.Gen.FoxCumBwdReferenceIdeal.Run
public import proofs.«01_k».proof.Proof.Gen.FoxCumBwdReferenceIdeal.Read
public import Idealize.ShloMosaic.Lib.Pipeline.ValueKit
public import Idealize.ShloMosaic.Lib.Pipeline.ValueKit.Geometry
public import Idealize.ShloMosaic.Lib.Pointwise
public import Idealize.ShloMosaic.Lib.Tactic
public import Idealize.ShloMosaic.Lib.Claim
public import Idealize.ShloMosaic.Lib.Quiescent
public import Idealize.ShloMosaic.Lib.Routing.OpsOne

@[expose] public section

set_option maxRecDepth 16384

noncomputable section

namespace Cert.FoxCumBwdIdeal.Products

open Idealize.ShloMosaic Idealize.ShloMosaic.TcCoe Idealize.SL.Sem Cert.FoxCumBwdIdeal Cert.FoxCumBwdIdeal.Gen Cert.Products

variable (m : (ℓ : Loc nD τ sig) → Buf (Elt Ideal) ℓ)

/-! ## The sigmoid -/

/-- The kernel's sigmoid of minus a number. -/
def sgm (s : EReal) : EReal := Ideal.div 1 (1 + Ideal.exp (0 - (0 - s)))

theorem top_f32 : (Ideal.ofBits .f32 0x7F800000#32 : EReal) = ⊤ := by simp [Ideal.ofBits, Ideal.ieee]

/-- The reference's: the exponential of what a number exceeds the logarithm by, both taken as zero where infinite. -/
theorem sigmoid (s : EReal) : Ideal.exp ((if -s = ⊤ then 0 else -s)
    - (if max (-s) 0 + Ideal.log (1 + Ideal.exp (-max (-s) (- -s))) = ⊤ then 0 else max (-s) 0 + Ideal.log (1 + Ideal.exp (-max (-s) (- -s))))) = sgm s := by
  have hl : ∃ r : ℝ, Ideal.log (1 + Ideal.exp (-max (-s) (- -s))) = r := by
    rw [show -max (-s) (- -s) = 0 - max s (-s) by rw [neg_neg, max_comm, zero_sub]]
    exact Cert.FoxCumIdeal.Products.log_real s
  induction s using EReal.rec with
  | bot =>
    obtain ⟨r, hl⟩ := hl
    rw [hl, if_pos (by simp), if_pos (by simp)]
    unfold sgm
    rw [show (0 : EReal) - (0 - ⊥) = ⊥ by simp, sub_zero]
    show ((Real.exp 0 : ℝ) : EReal) = Ideal.div 1 (1 + 0)
    rw [Real.exp_zero, add_zero, ← EReal.coe_one, Ideal.div_coe one_ne_zero, ← EReal.coe_mul]
    norm_num
  | top =>
    obtain ⟨r, hl⟩ := hl
    rw [hl, if_neg (by simp), if_neg (by rw [show max (-⊤) 0 = (0 : EReal) by simp, zero_add]; exact EReal.coe_ne_top r)]
    unfold sgm
    rw [show (0 : EReal) - (0 - ⊤) = ⊤ by simp, show -(⊤ : EReal) - (max (-⊤) 0 + (r : EReal)) = ⊥ by simp]
    show (0 : EReal) = Ideal.div 1 (1 + ⊤)
    rw [show (1 : EReal) + ⊤ = ⊤ by rw [← EReal.coe_one, EReal.coe_add_top]]
    simp [Ideal.div]
  | coe x =>
    have e : Ideal.log (1 + Ideal.exp (-max (-(x : EReal)) (- -(x : EReal)))) = ((Real.log (1 + Real.exp (-max (-x) x)) : ℝ) : EReal) := by
      rw [neg_neg, ← EReal.coe_neg, ← EReal.coe_strictMono.monotone.map_max, ← EReal.coe_neg]
      show Ideal.log (1 + ((Real.exp (-max (-x) x) : ℝ) : EReal)) = _
      rw [← EReal.coe_one, ← EReal.coe_add]
      show (if 1 + Real.exp (-max (-x) x) ≤ 0 then (⊥ : EReal) else (Real.log (1 + Real.exp (-max (-x) x)) : EReal)) = _
      rw [if_neg (by have := Real.exp_pos (-max (-x) x); linarith)]
    have r : max (-x) 0 + Real.log (1 + Real.exp (-max (-x) x)) = Real.log (1 + Real.exp (-x)) := by
      rcases le_total x 0 with h | h
      · rw [max_eq_left (by linarith), max_eq_left (by linarith), neg_neg, show 1 + Real.exp (-x) = Real.exp (-x) * (1 + Real.exp x) by rw [mul_add, mul_one, ← Real.exp_add, neg_add_cancel, Real.exp_zero, add_comm],
          Real.log_mul (Real.exp_pos _).ne' (by have := Real.exp_pos x; positivity), Real.log_exp]
      · rw [max_eq_right (by linarith), max_eq_right (by linarith), zero_add]
    have q : -x - Real.log (1 + Real.exp (-x)) = -Real.log (1 + Real.exp x) := by
      rw [show 1 + Real.exp x = Real.exp x * (1 + Real.exp (-x)) by rw [mul_add, mul_one, ← Real.exp_add, add_neg_cancel, Real.exp_zero, add_comm],
        Real.log_mul (Real.exp_pos _).ne' (by have := Real.exp_pos (-x); positivity), Real.log_exp]
      ring
    rw [e, ← EReal.coe_neg, ← EReal.coe_zero, ← EReal.coe_strictMono.monotone.map_max, ← EReal.coe_add, r, if_neg (EReal.coe_ne_top _), if_neg (EReal.coe_ne_top _), ← EReal.coe_sub, q]
    show ((Real.exp (-Real.log (1 + Real.exp x)) : ℝ) : EReal) = _
    rw [Real.exp_neg, Real.exp_log (by positivity)]
    unfold sgm
    rw [show (0 : EReal) - (0 - (x : EReal)) = (x : EReal) by rw [zero_sub, zero_sub, neg_neg]]
    show _ = Ideal.div 1 (1 + ((Real.exp x : ℝ) : EReal))
    rw [← EReal.coe_one, ← EReal.coe_add, Ideal.div_coe (by positivity), ← EReal.coe_mul]
    norm_num

/-! ## Sums over the numbers from another on -/

/-- The weight of position `x` in the sum from position `q`. -/
theorem weight (x q : Fin 256) : (FloatOps.sitofp (F := Ideal) .f32 (BitVec.setWidth 32 (IntOp.cmpi .sge (BitVec.ofNat 32 x.val) (BitVec.ofNat 32 q.val))) : EReal)
    = if q.val ≤ x.val then 1 else 0 :=
  Cert.FoxCumIdeal.Products.weight q x

/-- The sum of the values from `n` to `4095`. -/
def tail (f : ℕ → EReal) (n : ℕ) : EReal := ∑ p ∈ Finset.Ico n 4096, f p

theorem tail_end (f : ℕ → EReal) : tail f 4096 = 0 := by simp [tail]

theorem tail_add (f : ℕ → EReal) (n k : ℕ) (h : n + k ≤ 4096) : tail f n = (∑ v ∈ Finset.range k, f (n + v)) + tail f (n + k) := by
  unfold tail
  rw [← Finset.sum_Ico_consecutive f (Nat.le_add_right n k) h, Finset.sum_Ico_eq_sum_range]
  simp

/-- A sum of those positions of a block that are not below `q`, added to what comes after the block. -/
theorem masked (f : ℕ → EReal) (n k q : ℕ) (hq : q < k) (h : n + k ≤ 4096) :
    (∑ x : Fin k, (if q ≤ x.val then f (n + x.val) else 0)) + tail f (n + k) = tail f (n + q) := by
  have e : ∑ x : Fin k, (if q ≤ x.val then f (n + x.val) else 0) = ∑ v ∈ Finset.range (k - q), f (n + q + v) := by
    rw [← Finset.sum_range (fun x => if q ≤ x then f (n + x) else 0), show Finset.range k = Finset.range (q + (k - q)) by congr 1; omega, Finset.sum_range_add,
      Finset.sum_eq_zero fun v hv => if_neg (by have := Finset.mem_range.mp hv; omega), zero_add]
    exact Finset.sum_congr rfl fun v _ => by rw [if_pos (by omega), Nat.add_assoc]
  rw [e, tail_add f (n + q) (k - q) (by omega), show n + q + (k - q) = n + k by omega]

/-- A running sum from below by a window of the whole height: entry `j` of a column adds up the entries from `j` on. -/
theorem window {Rm1 C : ℕ} (hR : Rm1 + 1 = 4096) (x : (Routing.shape2 4096 C).Idx → EReal) (f : ℕ → ℕ → EReal)
    (hx : ∀ (i : Fin 4096) (c : Fin C), x (ValueIdx.ix2 i c) = f i.val c.val) (init : Routing.shape0.Idx → EReal) (hinit : ∀ i, init i = 0)
    (h : (Routing.shape2 4096 C).ReduceWindows (![4096, 1] : Fin 2 → ℕ) ![1, 1] ![0, 0] ![Rm1, 0] (Routing.shape2 4096 C)) (hu : 0 < Routing.shape0.numel) (j : Fin 4096) (c : Fin C) :
    Host.reduceWindow (· + ·) ![4096, 1] ![1, 1] ![0, 0] ![Rm1, 0] x init h hu (ValueIdx.ix2 j c) = tail (fun i => f i c.val) j.val := by
  have hj := j.isLt
  have hc := c.isLt
  have fold : ∀ (l : List (Fin (Routing.shape2 4096 1).numel)) (g : Fin (Routing.shape2 4096 1).numel → EReal) (v : EReal),
      l.foldl (fun r n => r + g n) v = v + (l.map g).sum := by
    intro l g
    induction l with
    | nil => intro v; simp
    | cons a l ih => intro v; rw [List.foldl_cons, ih, List.map_cons, List.sum_cons, add_assoc]
  unfold Host.reduceWindow
  refine (fold _ _ _).trans ?_
  rw [hinit, zero_add, ← List.ofFn_eq_map, List.sum_ofFn]
  refine (Finset.sum_congr rfl (g := fun n : Fin (Routing.shape2 4096 1).numel => if n.val < 4096 - j.val then f (j.val + n.val) c.val else 0)
    fun n _ => ?_).trans ?_
  · have hw0 : ((Routing.shape2 4096 1).rowMajor.symm n 0).val = n.val := by rw [Routing.symm_col]; rfl
    have hw1 : ((Routing.shape2 4096 1).rowMajor.symm n 1).val = 0 := by rw [Routing.symm_col]; rfl
    by_cases hin : n.val < 4096 - j.val
    · rw [if_pos hin]
      refine (dif_pos fun a => ?_).trans ((congrArg x (funext fun a => Fin.ext ?_)).trans (hx ⟨j.val + n.val, by omega⟩ c))
      · match a with
        | ⟨0, _⟩ =>
          show 0 ≤ j.val * 1 + ((Routing.shape2 4096 1).rowMajor.symm n 0).val
            ∧ j.val * 1 + ((Routing.shape2 4096 1).rowMajor.symm n 0).val - 0 < 4096
          rw [hw0]
          omega
        | ⟨1, _⟩ =>
          show 0 ≤ c.val * 1 + ((Routing.shape2 4096 1).rowMajor.symm n 1).val
            ∧ c.val * 1 + ((Routing.shape2 4096 1).rowMajor.symm n 1).val - 0 < C
          rw [hw1]
          omega
      · match a with
        | ⟨0, _⟩ =>
          show j.val * 1 + ((Routing.shape2 4096 1).rowMajor.symm n 0).val - 0 = j.val + n.val
          rw [hw0, Nat.mul_one, Nat.sub_zero]
        | ⟨1, _⟩ =>
          show c.val * 1 + ((Routing.shape2 4096 1).rowMajor.symm n 1).val - 0 = c.val
          rw [hw1]
          omega
    · rw [if_neg hin]
      refine dif_neg fun h => hin ?_
      have h0 := (h 0).2
      change j.val * 1 + ((Routing.shape2 4096 1).rowMajor.symm n 0).val - 0 < 4096 at h0
      rw [hw0] at h0
      omega
  · rw [← Finset.sum_range (fun k => if k < 4096 - j.val then f (j.val + k) c.val else 0), Routing.numel_col]
    rw [show Finset.range 4096 = Finset.range ((4096 - j.val) + j.val) from congrArg _ (by omega), Finset.sum_range_add,
      Finset.sum_eq_zero (s := Finset.range j.val) fun k hk => if_neg (by omega), add_zero, tail, Finset.sum_Ico_eq_sum_range]
    exact Finset.sum_congr rfl fun v hv => if_pos (Finset.mem_range.mp hv)

/-! ## What the body computes of one block -/

theorem hz : (![0, 0] : Fin 2 → Nat) = fun _ => 0 := funext fun a => by fin_cases a <;> rfl

/-- The numbers of the lanes. -/
abbrev lanes : IVec S256x128 32 := iota .tc S256x128 32 [1] iota_S256x128_d1_w32

section Body

variable (u0 u1 u2 u3 u4 u5 u6 u7 : Vec Ideal S1x256x1 .f32) (y : Vec Ideal S8x256 .f32) (x : Vec Ideal S256x128 .f32) (b : Vec Ideal S1x128 .f32) (a : Vec Ideal S8x1 .f32) (d : Vec Ideal S8x128 .f32)
  (h : Fin 8) (q : Fin 256) (l : Fin 128)

/-- The two gradients that reach the sums, added. -/
abbrev reach : FVec Ideal S8x256 .f32 := k0_pay6 lanes (k0_pay4 u0 u1 u2 u3) k0_pay5 u4 u5 u6 u7 y

theorem pay6 : reach u0 u1 u2 u3 u4 u5 u6 u7 y (ix2 h q) = y (ix2 h q) + (![u0, u1, u2, u3, u4, u5, u6, u7] h : Vec Ideal S1x256x1 .f32) (ix3 0 q 0) := by
  unfold reach lanes
  pointwise [k0_pay6, k0_pay4, k0_pay5]
  fin_cases h <;> rfl

/-- The gradient of the gates. -/
abbrev grad : FVec Ideal S8x256 .f32 :=
  k0_pay14 (k0_pay7 (F := Ideal)) (k0_pay10 lanes (k0_pay4 u0 u1 u2 u3) k0_pay5 u4 u5 u6 u7 y) (k0_pay11 lanes (k0_pay4 u0 u1 u2 u3) k0_pay5 u4 u5 u6 u7 y)
    (k0_pay12 lanes (k0_pay4 u0 u1 u2 u3) k0_pay5 u4 u5 u6 u7 y) (constant S8x256 .f32 0x00000000#32) a x b

theorem pay14 (hn : ∀ v, reach u0 u1 u2 u3 u4 u5 u6 u7 y (ix2 h v) ≠ (⊤ : EReal)) : grad u0 u1 u2 u3 u4 u5 u6 u7 y x b a (ix2 h q)
    = ((∑ v : Fin 256, if q.val ≤ v.val then reach u0 u1 u2 u3 u4 u5 u6 u7 y (ix2 h v) else 0) + a (ix2 h 0)) * sgm (x (ix2 q ⟨h.val, by omega⟩) + b (ix2 0 ⟨h.val, by omega⟩)) := by
  revert hn
  unfold grad k0_pay11 k0_pay10 k0_pay12 k0_pay9 k0_pay8 k0_pay7 k0_pay14 reach
  generalize k0_pay6 lanes (k0_pay4 u0 u1 u2 u3) k0_pay5 u4 u5 u6 u7 y = z
  intro hn
  pointwise []
  refine congrArg (· * sgm _) (congrArg (· + a (ix2 h 0)) ?_)
  rw [← Finset.sum_add_distrib, ← Finset.sum_add_distrib]
  refine Finset.sum_congr rfl fun v _ => ?_
  rw [weight, Cert.FoxCumIdeal.Products.residuals _ _ (hn v) (by split_ifs; exacts [Or.inr rfl, Or.inl rfl])]
  by_cases hv : q.val ≤ v.val
  · rw [if_pos hv, if_pos hv]; exact mul_one (M := EReal) _
  · rw [if_neg hv, if_neg hv]; exact mul_zero (M₀ := EReal) _

theorem pay15 : k0_pay15 (k0_pay7 (F := Ideal)) (k0_pay10 lanes (k0_pay4 u0 u1 u2 u3) k0_pay5 u4 u5 u6 u7 y) (k0_pay11 lanes (k0_pay4 u0 u1 u2 u3) k0_pay5 u4 u5 u6 u7 y)
    (k0_pay12 lanes (k0_pay4 u0 u1 u2 u3) k0_pay5 u4 u5 u6 u7 y) (constant S8x256 .f32 0x00000000#32) a x b d (ix2 h l)
    = d (ix2 h l) + ∑ v : Fin 256, (grad u0 u1 u2 u3 u4 u5 u6 u7 y x b a (ix2 h v) : EReal) := by
  unfold k0_pay15 grad
  generalize k0_pay14 (F := Ideal) _ _ _ _ _ _ _ _ = z
  pointwise []

theorem pay13 (z : FVec Ideal S8x256 .f32) : k0_pay13 z d (ix2 h l) = d (ix2 h l) + ∑ v : Fin 256, (z (ix2 h v) : EReal) := by
  pointwise [k0_pay13]

theorem pay1 (z : FVec Ideal S8x256 .f32) : k0_pay1 z (ix2 q l) = if hl : l.val < 8 then z (ix2 ⟨l.val, hl⟩ q) else 0 := by
  pointwise [k0_pay1]

end Body

section Block

variable (x : Vec Ideal S8x256 .f32) (y : Vec Ideal S8x256x1 .f32) (z : Vec Ideal S256x128 .f32) (w : Vec Ideal S1x128 .f32) (a : Vec Ideal S8x1 .f32) (d : Vec Ideal S8x128 .f32)
  (h : Fin 8) (q : Fin 256) (l : Fin 128)

abbrev col0 : Vec Ideal S1x256x1 .f32 := View.ld (Val := Elt Ideal) y (Rect.unit ![0, 0, 0] ![1, 256, 1] inb_S8x256x1_S1x256x1_0_0_0)
abbrev col1 : Vec Ideal S1x256x1 .f32 := View.ld (Val := Elt Ideal) y (Rect.unit ![1, 0, 0] ![1, 256, 1] inb_S8x256x1_S1x256x1_1_0_0)
abbrev col2 : Vec Ideal S1x256x1 .f32 := View.ld (Val := Elt Ideal) y (Rect.unit ![2, 0, 0] ![1, 256, 1] inb_S8x256x1_S1x256x1_2_0_0)
abbrev col3 : Vec Ideal S1x256x1 .f32 := View.ld (Val := Elt Ideal) y (Rect.unit ![3, 0, 0] ![1, 256, 1] inb_S8x256x1_S1x256x1_3_0_0)
abbrev col4 : Vec Ideal S1x256x1 .f32 := View.ld (Val := Elt Ideal) y (Rect.unit ![4, 0, 0] ![1, 256, 1] inb_S8x256x1_S1x256x1_4_0_0)
abbrev col5 : Vec Ideal S1x256x1 .f32 := View.ld (Val := Elt Ideal) y (Rect.unit ![5, 0, 0] ![1, 256, 1] inb_S8x256x1_S1x256x1_5_0_0)
abbrev col6 : Vec Ideal S1x256x1 .f32 := View.ld (Val := Elt Ideal) y (Rect.unit ![6, 0, 0] ![1, 256, 1] inb_S8x256x1_S1x256x1_6_0_0)
abbrev col7 : Vec Ideal S1x256x1 .f32 := View.ld (Val := Elt Ideal) y (Rect.unit ![7, 0, 0] ![1, 256, 1] inb_S8x256x1_S1x256x1_7_0_0)

/-- The two gradients that reach the sums, added, of a block. -/
def both : FVec Ideal S8x256 .f32 := reach (col0 y) (col1 y) (col2 y) (col3 y) (col4 y) (col5 y) (col6 y) (col7 y) x

theorem both_apply : both x y (ix2 h q) = x (ix2 h q) + y (ix3 h q 0) := by
  refine (pay6 _ _ _ _ _ _ _ _ x h q).trans (congrArg (_ + ·) ?_)
  fin_cases h
  all_goals
    refine View.ld_unit_apply_of _ _ _ _ _ _ fun a => ?_
    fin_cases a <;> simp

/-- The gradient of the gates of a block. -/
def gateGrad : FVec Ideal S8x256 .f32 := grad (col0 y) (col1 y) (col2 y) (col3 y) (col4 y) (col5 y) (col6 y) (col7 y) x z w a

/-- The gradient of the bias after a block. -/
def biasGrad : Vec Ideal S8x128 .f32 :=
  k0_pay15 (k0_pay7 (F := Ideal)) (k0_pay10 lanes (k0_pay4 (col0 y) (col1 y) (col2 y) (col3 y)) k0_pay5 (col4 y) (col5 y) (col6 y) (col7 y) x)
    (k0_pay11 lanes (k0_pay4 (col0 y) (col1 y) (col2 y) (col3 y)) k0_pay5 (col4 y) (col5 y) (col6 y) (col7 y) x)
    (k0_pay12 lanes (k0_pay4 (col0 y) (col1 y) (col2 y) (col3 y)) k0_pay5 (col4 y) (col5 y) (col6 y) (col7 y) x) (constant S8x256 .f32 0x00000000#32) a z w d

theorem gateGrad_apply (hn : ∀ v, both x y (ix2 h v) ≠ (⊤ : EReal)) : gateGrad x y z w a (ix2 h q)
    = ((∑ v : Fin 256, if q.val ≤ v.val then both x y (ix2 h v) else 0) + a (ix2 h 0)) * sgm (z (ix2 q ⟨h.val, by omega⟩) + w (ix2 0 ⟨h.val, by omega⟩)) :=
  pay14 _ _ _ _ _ _ _ _ x z w a h q hn

theorem biasGrad_apply : biasGrad x y z w a d (ix2 h l) = d (ix2 h l) + ∑ v : Fin 256, (gateGrad x y z w a (ix2 h v) : EReal) :=
  pay15 _ _ _ _ _ _ _ _ x z w a d h l

theorem pay2 : k0_pay2 (F := Ideal) (ix2 h l) = 0 := by
  pointwise [k0_pay2]

theorem pay3 : k0_pay3 (F := Ideal) (ix2 h l) = 0 := by
  pointwise [k0_pay3]

end Block

/-! ## What one point leaves -/

theorem point_first (c : Dev nD) (t : Fin cfg0.N) (h : t.val % 16 = 0) :
    outsAt0 m c t.val t.isLt = (k0_pay1 (gateGrad (iblk m c 0 t) (iblk m c 1 t) (iblk m c 2 t) (iblk m c 3 t) (kernelRun0_A.sl.v83 c scM0_0)),
      biasGrad (iblk m c 0 t) (iblk m c 1 t) (iblk m c 2 t) (iblk m c 3 t) (kernelRun0_A.sl.v83 c scM0_0) (k0_pay3 (F := Ideal)),
      k0_pay13 (both (iblk m c 0 t) (iblk m c 1 t)) (k0_pay2 (F := Ideal))) := by
  refine (outsAt0_A m c t h).trans ?_
  generalize iblk m c 0 t = x
  generalize iblk m c 1 t = y
  generalize iblk m c 2 t = z
  generalize iblk m c 3 t = w
  unfold sout0_A_0 out0_A_4 out0_A_5
  rw [View.read_writes_eq_canon _ _ _ (fun z => scover0_A_0 (y := z) ..), View.read_writes_eq_canon _ _ _ (fun z => cover0_A_4 (y := z) ..), View.read_writes_eq_canon _ _ _ (fun z => cover0_A_5 (y := z) ..)]
  unfold kernelRun0_A
  dsimp only
  refine Prod.ext ?_ (Prod.ext ?_ ?_)
  all_goals dsimp only
  · rw [View.canon_unit_zero hz]
    unfold kernelRun0_A.sl.r_5
    simp only [View.readAt_eq_ld, Memref.IsWhole.read_unread, View.ld_unit_zero (S := S8x256) hz, View.ld_unit_zero (S := S256x128) hz, View.ld_unit_zero (S := S1x128) hz,
      kernelRun0_A.sl.r, kernelRun0_A.sl.r_1, kernelRun0_A.sl.r_2, kernelRun0_A.sl.r_3, kernelRun0_A.sl.r_4]
    rfl
  · refine (View.canon_cons_unit_zero hz _ _ _).trans ?_
    unfold kernelRun0_A.sl.r_6
    simp only [View.readAt_eq_ld, Memref.IsWhole.read_unread, View.ld_unit_zero (S := S8x256) hz, View.ld_unit_zero (S := S256x128) hz, View.ld_unit_zero (S := S1x128) hz,
      kernelRun0_A.sl.r, kernelRun0_A.sl.r_1, kernelRun0_A.sl.r_2, kernelRun0_A.sl.r_3, kernelRun0_A.sl.r_4]
    unfold kernelRun0_A.sl.v110 kernelRun0_A.sl.H5_1
    exact congrArg (biasGrad x y z w _) (View.readCov_unit_lit _ _ _ fun a => by fin_cases a <;> rfl)
  · refine (View.canon_cons_unit_zero hz _ _ _).trans ?_
    unfold kernelRun0_A.sl.v86 kernelRun0_A.sl.HS0_1
    simp only [View.readAt_eq_ld, Memref.IsWhole.read_unread, View.ld_unit_zero (S := S8x256) hz, kernelRun0_A.sl.r, kernelRun0_A.sl.r_1]
    exact congrArg (k0_pay13 _) (View.readCov_unit_lit _ _ _ fun a => by fin_cases a <;> rfl)

theorem none_yet (c : Dev nD) (h : Fin 8) : kernelRun0_A.sl.v83 (F := Ideal) c scM0_0 (ix2 h 0) = 0 := by
  unfold kernelRun0_A.sl.v83 kernelRun0_A.sl.HS0_1
  refine (congrFun (View.readAt_writes_junk_eq_canon _ _ _) _).trans ?_
  rw [View.canon_unit_zero hz]
  exact (congrArg _ (eq_ix2 _)).trans (pay2 _ _)

/-- The first column of what is carried. -/
abbrev first (a : Vec Ideal S8x128 .f32) : Vec Ideal S8x1 .f32 := View.ld (Val := Elt Ideal) a (Rect.unit ![0, 0] ![8, 1] inb_S8x128_S8x1_0_0)

theorem first_apply (a : Vec Ideal S8x128 .f32) (h : Fin 8) : first a (ix2 h 0) = a (ix2 h 0) := by
  refine View.ld_unit_apply_of _ _ _ _ _ (ix2 h 0) fun a => ?_
  fin_cases a <;> simp

theorem point_next (c : Dev nD) (t : Fin cfg0.N) (h : ¬ t.val % 16 = 0) :
    outsAt0 m c t.val t.isLt = (k0_pay1 (gateGrad (iblk m c 0 t) (iblk m c 1 t) (iblk m c 2 t) (iblk m c 3 t) (first (outsAt0 m c (t.val - 1) (by omega)).2.2)),
      biasGrad (iblk m c 0 t) (iblk m c 1 t) (iblk m c 2 t) (iblk m c 3 t) (first (outsAt0 m c (t.val - 1) (by omega)).2.2) (outsAt0 m c (t.val - 1) (by omega)).2.1,
      k0_pay13 (both (iblk m c 0 t) (iblk m c 1 t)) (outsAt0 m c (t.val - 1) (by omega)).2.2) := by
  refine (outsAt0_B m c t h).trans ?_
  generalize iblk m c 0 t = x
  generalize iblk m c 1 t = y
  generalize iblk m c 2 t = z
  generalize iblk m c 3 t = w
  generalize (outsAt0 m c (t.val - 1) _).2.2 = a
  generalize (outsAt0 m c (t.val - 1) _).2.1 = d
  unfold sout0_B_0 out0_B_4 out0_B_5
  rw [View.read_writes_eq_canon _ _ _ (fun z => scover0_B_0 (y := z) ..), View.read_writes_eq_canon _ _ _ (fun z => cover0_B_4 (y := z) ..), View.read_writes_eq_canon _ _ _ (fun z => cover0_B_5 (y := z) ..)]
  unfold kernelRun0_B
  dsimp only
  have hs : View.read (Elt Ideal) (View.whole cc0_scratch0) ((Memref.isWhole_whole cc0_scratch0).unread a) = a := (Memref.isWhole_whole cc0_scratch0).read_unread a
  refine Prod.ext ?_ (Prod.ext ?_ ?_)
  all_goals dsimp only
  all_goals rw [View.canon_unit_zero hz]
  · unfold kernelRun0_B.sl.r_5
    simp only [View.readAt_eq_ld, Memref.IsWhole.read_unread, hs, View.ld_unit_zero (S := S8x256) hz, View.ld_unit_zero (S := S256x128) hz, View.ld_unit_zero (S := S1x128) hz,
      kernelRun0_B.sl.r, kernelRun0_B.sl.r_1, kernelRun0_B.sl.r_2, kernelRun0_B.sl.r_3, kernelRun0_B.sl.r_4]
    rfl
  · unfold kernelRun0_B.sl.r_6
    simp only [View.readAt_eq_ld, Memref.IsWhole.read_unread, hs, View.ld_unit_zero (S := S8x256) hz, View.ld_unit_zero (S := S256x128) hz, View.ld_unit_zero (S := S1x128) hz, View.ld_unit_zero (S := S8x128) hz,
      kernelRun0_B.sl.r, kernelRun0_B.sl.r_1, kernelRun0_B.sl.r_2, kernelRun0_B.sl.r_3, kernelRun0_B.sl.r_4]
    rfl
  · unfold kernelRun0_B.sl.r_1
    simp only [View.readAt_eq_ld, Memref.IsWhole.read_unread, hs, View.ld_unit_zero (S := S8x256) hz, View.ld_unit_zero (S := S8x128) hz, kernelRun0_B.sl.r]
    rfl

/-! ## The blocks -/

theorem place0 : ∀ t : Fin cfg0.N, win0_0.index t = ![0, 15 - t.val] := (by decide +kernel : ∀ t : Fin grid0.N, _)
theorem place1 : ∀ t : Fin cfg0.N, win0_1.index t = ![0, 15 - t.val, 0] := (by decide +kernel : ∀ t : Fin grid0.N, _)
theorem place2 : ∀ t : Fin cfg0.N, win0_2.index t = ![15 - t.val, 0] := (by decide +kernel : ∀ t : Fin grid0.N, _)
theorem place3 : ∀ t : Fin cfg0.N, win0_3.index t = ![0, 0] := (by decide +kernel : ∀ t : Fin grid0.N, _)
theorem place4 : ∀ t : Fin cfg0.N, win0_4.index t = ![15 - t.val, 0] := (by decide +kernel : ∀ t : Fin grid0.N, _)
theorem place5 : ∀ t : Fin cfg0.N, win0_5.index t = ![0, 0] := (by decide +kernel : ∀ t : Fin grid0.N, _)

theorem points (t : Fin cfg0.N) : t.val < 16 := lt_of_lt_of_eq t.isLt N_0

/-- The four arguments by head and row, and the gradient that reaches the sums. -/
abbrev direct (c : Dev nD) : ℕ → ℕ → EReal := entry fun (h : Fin 8) (p : Fin 4096) => m ((c : Thread nD τ).loc main_arg0) (ix2 h p)
abbrev column (c : Dev nD) : ℕ → ℕ → EReal := entry fun (h : Fin 8) (p : Fin 4096) => m ((c : Thread nD τ).loc main_arg1) (ix3 h p 0)
abbrev small (c : Dev nD) : ℕ → ℕ → EReal := entry fun (p : Fin 4096) (h : Fin 128) => m ((c : Thread nD τ).loc main_arg2) (ix2 p h)
abbrev bias (c : Dev nD) : ℕ → ℕ → EReal := entry fun (p : Fin 1) (h : Fin 128) => m ((c : Thread nD τ).loc main_arg3) (ix2 p h)
def reached (c : Dev nD) (h p : ℕ) : EReal := direct m c h p + column m c h p

/-- The gradient of the gate of a row and a head. -/
def slope (c : Dev nD) (h p : ℕ) : EReal := tail (reached m c h) p * sgm (small m c p h + bias m c 0 h)

theorem blk0 (c : Dev nD) (t : Fin cfg0.N) (h : Fin 8) (q : Fin 256) : iblk m c 0 t (ix2 h q) = direct m c h.val (256 * (15 - t.val) + q.val) := by
  have hp := points t
  have e : ∀ A : Buf (Elt Ideal) ((c : Thread nD τ).loc main_arg0), ((cfg0.win 0).blk t).view.read (Elt Ideal) A (ix2 h q) = A (ix2 ⟨h.val, by omega⟩ ⟨256 * (15 - t.val) + q.val, by omega⟩) :=
    fun A => by rw [View.read_apply]; show A _ = A _; refine congrArg A ?_; blk_ext [place0]
  refine (e (V m c main_arg0)).trans (Eq.symm ?_)
  exact (entry_eq _ (by omega) (by omega)).trans rfl

theorem blk1 (c : Dev nD) (t : Fin cfg0.N) (h : Fin 8) (q : Fin 256) : iblk m c 1 t (ix3 h q 0) = column m c h.val (256 * (15 - t.val) + q.val) := by
  have hp := points t
  have e : ∀ A : Buf (Elt Ideal) ((c : Thread nD τ).loc main_arg1), ((cfg0.win 1).blk t).view.read (Elt Ideal) A (ix3 h q 0) = A (ix3 ⟨h.val, by omega⟩ ⟨256 * (15 - t.val) + q.val, by omega⟩ 0) :=
    fun A => by rw [View.read_apply]; show A _ = A _; refine congrArg A ?_; blk_ext [place1]
  refine (e (V m c main_arg1)).trans (Eq.symm ?_)
  exact (entry_eq _ (by omega) (by omega)).trans rfl

theorem blk2 (c : Dev nD) (t : Fin cfg0.N) (q : Fin 256) (h : Fin 128) : iblk m c 2 t (ix2 q h) = small m c (256 * (15 - t.val) + q.val) h.val := by
  have hp := points t
  have e : ∀ A : Buf (Elt Ideal) ((c : Thread nD τ).loc main_arg2), ((cfg0.win 2).blk t).view.read (Elt Ideal) A (ix2 q h) = A (ix2 ⟨256 * (15 - t.val) + q.val, by omega⟩ ⟨h.val, by omega⟩) :=
    fun A => by rw [View.read_apply]; show A _ = A _; refine congrArg A ?_; blk_ext [place2]
  refine (e (V m c main_arg2)).trans (Eq.symm ?_)
  exact (entry_eq _ (by omega) (by omega)).trans rfl

theorem blk3 (c : Dev nD) (t : Fin cfg0.N) (h : Fin 128) : iblk m c 3 t (ix2 0 h) = bias m c 0 h.val := by
  have e : ∀ A : Buf (Elt Ideal) ((c : Thread nD τ).loc main_arg3), ((cfg0.win 3).blk t).view.read (Elt Ideal) A (ix2 0 h) = A (ix2 0 ⟨h.val, by omega⟩) :=
    fun A => by rw [View.read_apply]; show A _ = A _; refine congrArg A ?_; blk_ext [place3]
  refine (e (V m c main_arg3)).trans (Eq.symm ?_)
  exact (entry_eq _ Nat.one_pos (by omega)).trans rfl

theorem both_at (c : Dev nD) (t : Fin cfg0.N) (h : Fin 8) (q : Fin 256) :
    both (iblk m c 0 t) (iblk m c 1 t) (ix2 h q) = reached m c h.val (256 * (15 - t.val) + q.val) :=
  (both_apply _ _ h q).trans (congrArg₂ (· + ·) (blk0 m c t h q) (blk1 m c t h q))

/-- The carry after a point: the sum of all rows met so far. -/
theorem carried (c : Dev nD) (h : Fin 8) (l : Fin 128) : ∀ (t : ℕ) (ht : t < cfg0.N), (outsAt0 m c t ht).2.2 (ix2 h l) = tail (reached m c h.val) (256 * (15 - t)) := by
  have total : ∀ t : Fin cfg0.N, (∑ v : Fin 256, both (iblk m c 0 t) (iblk m c 1 t) (ix2 h v) : EReal) = ∑ v ∈ Finset.range 256, reached m c h.val (256 * (15 - t.val) + v) := fun t =>
    (Finset.sum_congr rfl fun v _ => both_at m c t h v).trans (Finset.sum_range fun v => reached m c h.val (256 * (15 - t.val) + v)).symm
  intro t
  induction t with
  | zero =>
    intro ht
    refine (congrFun (congrArg (fun o => o.2.2) (point_first m c ⟨0, ht⟩ rfl)) _).trans ((pay13 _ _ _ _).trans ?_)
    rw [pay2, zero_add, total, tail_add _ _ 256 (by omega), show 256 * (15 - 0) + 256 = 4096 from rfl, tail_end]
    exact (add_zero _).symm
  | succ t ih =>
    intro ht
    have hp := points ⟨t + 1, ht⟩
    dsimp only at hp
    refine (congrFun (congrArg (fun o => o.2.2) (point_next m c ⟨t + 1, ht⟩ (by dsimp only; omega))) _).trans ((pay13 _ _ _ _).trans ?_)
    rw [total, tail_add _ _ 256 (by omega), show 256 * (15 - (t + 1)) + 256 = 256 * (15 - t) by omega, add_comm]
    exact congrArg (_ + ·) (ih _)

section Below

variable (c : Dev nD) (hn : ∀ (h : Fin 8) (p : ℕ), p < 4096 → reached m c h.val p ≠ ⊤)

include hn

theorem slope_at (t : Fin cfg0.N) (a : Vec Ideal S8x1 .f32) (h : Fin 8) (q : Fin 256) (ha : a (ix2 h 0) = tail (reached m c h.val) (256 * (15 - t.val) + 256)) :
    gateGrad (iblk m c 0 t) (iblk m c 1 t) (iblk m c 2 t) (iblk m c 3 t) a (ix2 h q) = slope m c h.val (256 * (15 - t.val) + q.val) := by
  have hp := points t
  refine (gateGrad_apply _ _ _ _ _ h q fun v => by rw [both_at]; exact hn h _ (by omega)).trans ?_
  refine congrArg₂ (· * ·) ?_ (congrArg sgm (congrArg₂ (· + ·) (blk2 m c t q _) (blk3 m c t _)))
  rw [ha, ← masked (reached m c h.val) (256 * (15 - t.val)) 256 q.val q.isLt (by omega)]
  exact congrArg (· + _) (Finset.sum_congr rfl fun v _ => by rw [both_at])

theorem start (t : Fin cfg0.N) (h0 : t.val % 16 = 0) (h : Fin 8) : kernelRun0_A.sl.v83 (F := Ideal) c scM0_0 (ix2 h 0) = tail (reached m c h.val) (256 * (15 - t.val) + 256) := by
  have hp := points t
  rw [none_yet, show 256 * (15 - t.val) + 256 = 4096 by omega, tail_end]

theorem going (t : Fin cfg0.N) (h0 : ¬t.val % 16 = 0) (h : Fin 8) :
    first (outsAt0 m c (t.val - 1) (by omega)).2.2 (ix2 h 0) = tail (reached m c h.val) (256 * (15 - t.val) + 256) := by
  have hp := points t
  rw [first_apply, carried]
  exact congrArg _ (by omega)

theorem written4 (t : Fin cfg0.N) (q : Fin 256) (l : Fin 128) :
    (outsAt0 m c t.val t.isLt).1 (ix2 q l) = if l.val < 8 then slope m c l.val (256 * (15 - t.val) + q.val) else 0 := by
  by_cases h0 : t.val % 16 = 0
  · refine (congrFun (congrArg (fun o => o.1) (point_first m c t h0)) _).trans ((pay1 q l _).trans ?_)
    by_cases hl : l.val < 8
    · rw [dif_pos hl, if_pos hl]; exact slope_at m c hn t _ ⟨l.val, hl⟩ q (start m c hn t h0 _)
    · rw [dif_neg hl, if_neg hl]
  · refine (congrFun (congrArg (fun o => o.1) (point_next m c t h0)) _).trans ((pay1 q l _).trans ?_)
    by_cases hl : l.val < 8
    · rw [dif_pos hl, if_pos hl]; exact slope_at m c hn t _ ⟨l.val, hl⟩ q (going m c hn t h0 _)
    · rw [dif_neg hl, if_neg hl]

theorem written5 (h : Fin 8) (l : Fin 128) : ∀ (t : ℕ) (ht : t < cfg0.N), (outsAt0 m c t ht).2.1 (ix2 h l) = tail (slope m c h.val) (256 * (15 - t)) := by
  have total : ∀ (t : Fin cfg0.N) (a : Vec Ideal S8x1 .f32) (ha : a (ix2 h 0) = tail (reached m c h.val) (256 * (15 - t.val) + 256)),
      (∑ v : Fin 256, gateGrad (iblk m c 0 t) (iblk m c 1 t) (iblk m c 2 t) (iblk m c 3 t) a (ix2 h v) : EReal) = ∑ v ∈ Finset.range 256, slope m c h.val (256 * (15 - t.val) + v) := fun t a ha =>
    (Finset.sum_congr rfl fun v _ => slope_at m c hn t a h v ha).trans (Finset.sum_range fun v => slope m c h.val (256 * (15 - t.val) + v)).symm
  intro t
  induction t with
  | zero =>
    intro ht
    refine (congrFun (congrArg (fun o => o.2.1) (point_first m c ⟨0, ht⟩ rfl)) _).trans ((biasGrad_apply _ _ _ _ _ _ _ _).trans ?_)
    rw [pay3, zero_add, total _ _ (start m c hn ⟨0, ht⟩ rfl h), tail_add _ _ 256 (by omega), show 256 * (15 - 0) + 256 = 4096 from rfl, tail_end]
    exact (add_zero _).symm
  | succ t ih =>
    intro ht
    have hp := points ⟨t + 1, ht⟩
    dsimp only at hp
    have h0 : ¬(t + 1) % 16 = 0 := by omega
    refine (congrFun (congrArg (fun o => o.2.1) (point_next m c ⟨t + 1, ht⟩ h0)) _).trans ((biasGrad_apply _ _ _ _ _ _ _ _).trans ?_)
    rw [total _ _ (going m c hn ⟨t + 1, ht⟩ h0 h), tail_add _ _ 256 (by omega), show 256 * (15 - (t + 1)) + 256 = 256 * (15 - t) by omega, add_comm]
    exact congrArg (_ + ·) (ih _)

/-- The first result, entry by entry. -/
theorem result4 (p : Fin 4096) (l : Fin 128) : (dats m 0 c).arrAt 4 cfg0.N (ix2 p l) = if l.val < 8 then slope m c l.val p.val else 0 := by
  refine (dats m 0 c).arrAt_forall_of_covers 4 (fun i v => v = if (i (1 : Fin 2)).val < 8 then slope m c (i (1 : Fin 2)).val (i (0 : Fin 2)).val else 0) (by decide +kernel) (fun t hf y => ?_) (ix2 p l)
  blk_simp [place4]
  rw [after0_4]
  refine (congrArg _ (eq_ix2 y)).trans ((written4 m c hn t (y (0 : Fin 2)) (y (1 : Fin 2))).trans ?_)
  rw [Nat.mul_comm 256]

/-- The second result, entry by entry. -/
theorem result5 (h : Fin 8) (l : Fin 128) : (dats m 0 c).arrAt 5 cfg0.N (ix2 h l) = tail (slope m c h.val) 0 := by
  refine (dats m 0 c).arrAt_forall_of_covers 5 (fun i v => v = tail (slope m c (i (0 : Fin 2)).val) 0) (by decide +kernel) (fun t hf y => ?_) (ix2 h l)
  blk_simp [place5]
  rw [after0_5]
  have hp := points t
  have hl := (flush0_5 t).mp hf
  refine (congrArg _ (eq_ix2 y)).trans ((written5 m c hn (y (0 : Fin 2)) (y (1 : Fin 2)) t.val t.isLt).trans ?_)
  exact congrArg _ (by omega)

end Below

/-! ## The reference -/

section Reference

open Cert.FoxCumBwdReferenceIdeal.Read

variable (x0 : Vec Ideal S8x4096 .f32) (x1 : Vec Ideal S8x4096x1 .f32) (x2 : Vec Ideal S4096x128 .f32) (x3 : Vec Ideal S1x128 .f32)

/-- What reaches the sums at a row and a head. -/
def refReach (p : Fin 4096) (h : Fin 8) : EReal := x0 (ix2 h p) + x1 (ix3 h p 0)

theorem reference_reach (p : Fin 4096) (h : Fin 8) : val_main_v9 (F := Ideal) x0 x1 (ix2 p h) = refReach x0 x1 p h := by
  unfold refReach
  pointwise [val_main_v9, val_main_v8, val_main_v7]

theorem reference_tail (p : Fin 4096) (h : Fin 8) : val_main_v10 (F := Ideal) x0 x1 (ix2 p h) = tail (fun n => entry (refReach x0 x1) n h.val) p.val := by
  unfold val_main_v10 Host.reduceWindowAdd
  rw [Ideal.hostReduceWindowAdd_def]
  unfold Ideal.hostReduceWindowAdd
  have hi : val_main_call2_call0_v0 (F := Ideal) (Shape.Idx.first FoxCumBwdReferenceIdeal.Gen.h_S_) = (0 : EReal) := by
    pointwise [val_main_call2_call0_v0, val_main_call2_call0_cst]
  rw [hi]
  have hg := reference_reach x0 x1
  generalize val_main_v9 (F := Ideal) x0 x1 = z at hg ⊢
  exact window (Rm1 := 4095) (C := 8) (by norm_num) z (entry (refReach x0 x1)) (fun p h => (hg p h).trans (entry_eq (refReach x0 x1) p.isLt h.isLt).symm) (fun _ => 0) (fun _ => rfl) _ (by decide) p h

theorem reference_exp (p : Fin 4096) (h : Fin 8) :
    val_main_v4_1 (F := Ideal) x2 x3 (ix2 p h) = sgm (x2 (ix2 p ⟨h.val, by omega⟩) + x3 (ix2 0 ⟨h.val, by omega⟩)) := by
  pointwise [val_main_v4_1, val_main_call0_call0_v21, val_main_call0_call0_v20, val_main_call0_call0_v19, val_main_call0_call0_cst_3, val_main_call0_call0_v18, val_main_call0_call0_v17, val_main_call0_call0_cst_2, val_main_call0_call0_v16, val_main_call0_call0_v15, val_main_call0_call0_cst_1, val_main_call0_call0_v14, val_main_call0_call0_v13, val_main_call0_call0_cst_0, val_main_call0_v1_0, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0, val_main_v3, val_main_v2, val_main_v1, val_main_v0]
  generalize (x2 _ + x3 _ : EReal) = s
  rw [top_f32]
  refine Eq.trans ?_ (sigmoid s)
  rw [if_neg (c := -s ≠ -s) fun h => h rfl]
  rfl

/-- The reference's gradient of a gate. -/
def refSlope (h : Fin 8) (p : Fin 4096) : EReal := tail (fun n => entry (refReach x0 x1) n h.val) p.val * sgm (x2 (ix2 p ⟨h.val, by omega⟩) + x3 (ix2 0 ⟨h.val, by omega⟩))

theorem reference_slope (p : Fin 4096) (h : Fin 8) : val_main_v11 (F := Ideal) x0 x1 x2 x3 (ix2 p h) = refSlope x0 x1 x2 x3 h p := by
  have ht := reference_tail x0 x1 p h
  have he := reference_exp x2 x3 p h
  unfold refSlope
  rw [← ht, ← he]
  unfold val_main_v11 val_main_call3_v1 val_main_call3_v0
  generalize val_main_v10 (F := Ideal) x0 x1 = y
  generalize val_main_v4_1 (F := Ideal) x2 x3 = z
  pointwise []
  rw [EReal.neg_mul, neg_neg]

theorem reference_small (p : Fin 4096) (l : Fin 128) : val_main_v14 (F := Ideal) x0 x1 x2 x3 (ix2 p l)
    = if hl : l.val < 8 then refSlope x0 x1 x2 x3 ⟨l.val, hl⟩ p else 0 := by
  have hs := reference_slope x0 x1 x2 x3 p
  unfold val_main_v14
  generalize val_main_v11 (F := Ideal) x0 x1 x2 x3 = z at hs ⊢
  by_cases hl : l.val < 8
  · rw [dif_pos hl, ← hs]
    pointwise [val_main_cst_0]
    exact dif_pos hl
  · rw [dif_neg hl]
    pointwise [val_main_cst_0]
    exact dif_neg hl

theorem reference_bias (h : Fin 8) (l : Fin 128) : val_main_v16 (F := Ideal) x0 x1 x2 x3 (ix2 h l) = ∑ p : Fin 4096, refSlope x0 x1 x2 x3 h p := by
  have hs := fun p => reference_slope x0 x1 x2 x3 p h
  unfold val_main_v16 val_main_v15 val_main_v13 val_main_v12
  generalize val_main_v11 (F := Ideal) x0 x1 x2 x3 = z at hs ⊢
  pointwise [val_main_cst]
  exact Finset.sum_congr rfl fun p _ => hs p

end Reference

/-! ## The agreement -/

theorem reached_eq (c : Dev nD) (h : Fin 8) (p : ℕ) (hp : p < 4096) :
    reached m c h.val p = refReach (m ((c : Thread nD τ).loc main_arg0)) (m ((c : Thread nD τ).loc main_arg1)) ⟨p, hp⟩ h :=
  congrArg₂ (· + ·) (entry_eq _ h.isLt hp) (entry_eq _ h.isLt hp)

theorem slope_eq (c : Dev nD) (h : Fin 8) (p : Fin 4096) : slope m c h.val p.val
    = refSlope (m ((c : Thread nD τ).loc main_arg0)) (m ((c : Thread nD τ).loc main_arg1)) (m ((c : Thread nD τ).loc main_arg2)) (m ((c : Thread nD τ).loc main_arg3)) h p := by
  refine congrArg₂ (· * ·) (Finset.sum_congr rfl fun n hn => ?_) (congrArg sgm (congrArg₂ (· + ·) (entry_eq _ p.isLt (by omega)) (entry_eq _ Nat.one_pos (by omega))))
  have hn := (Finset.mem_Ico.mp hn).2
  exact (reached_eq m c h n hn).trans (entry_eq _ hn h.isLt).symm

theorem slopes_eq (c : Dev nD) (h : Fin 8) : tail (slope m c h.val) 0
    = ∑ p : Fin 4096, refSlope (m ((c : Thread nD τ).loc main_arg0)) (m ((c : Thread nD τ).loc main_arg1)) (m ((c : Thread nD τ).loc main_arg2)) (m ((c : Thread nD τ).loc main_arg3)) h p := by
  refine Eq.trans ?_ (Finset.sum_congr rfl fun p _ => slope_eq m c h p)
  unfold tail
  rw [← Finset.range_eq_Ico]
  exact Finset.sum_range fun p => slope m c h.val p

/-- The shape relations the precondition states. -/
instance pre_facts : Cert.Pre_below.Facts where
  bcast_S_S8x4096 := by decide
  bcast_S_S8x4096x1 := by decide

theorem ne_top {φ : FTy} {t : Ideal φ} (ht : t = (⊤ : EReal)) {z : Ideal φ} (h : FloatOps.cmpf CmpFPredicate.olt z t = 1#1) : z ≠ (⊤ : EReal) := by
  subst ht
  rintro rfl
  have h : Ideal.cmp CmpFPredicate.olt (⊤ : EReal) ⊤ = 1#1 := h
  simp [Ideal.cmp] at h

/-- Under the precondition nothing that reaches the sums is plus infinity. -/
theorem below (hpre : Cert.Pre_FoxCumBwdIdeal_below m) (c : Dev nD) (h : Fin 8) (p : ℕ) (hp : p < 4096) : reached m c h.val p ≠ ⊤ := by
  obtain ⟨h0, h1⟩ := hpre c
  rw [reached_eq m c h p hp]
  exact EReal.add_ne_top (ne_top top_f32 (congrFun h0 (ix2 h ⟨p, hp⟩))) (ne_top top_f32 (congrFun h1 (ix3 h ⟨p, hp⟩ 0)))

theorem total4 (hpre : Cert.Pre_FoxCumBwdIdeal_below m) (c : Dev nD) (p : Fin 4096) (l : Fin 128) : (dats m 0 c).arrAt 4 cfg0.N (ix2 p l)
    = Cert.FoxCumBwdReferenceIdeal.Read.val_main_v14 (F := Ideal) (m ((c : Thread nD τ).loc main_arg0)) (m ((c : Thread nD τ).loc main_arg1)) (m ((c : Thread nD τ).loc main_arg2)) (m ((c : Thread nD τ).loc main_arg3)) (ix2 p l) := by
  refine (result4 m c (below m hpre c) p l).trans (Eq.trans ?_ (reference_small _ _ _ _ p l).symm)
  by_cases hl : l.val < 8
  · rw [if_pos hl, dif_pos hl]; exact slope_eq m c ⟨_, hl⟩ _
  · rw [if_neg hl, dif_neg hl]

theorem total5 (hpre : Cert.Pre_FoxCumBwdIdeal_below m) (c : Dev nD) (h : Fin 8) (l : Fin 128) : (dats m 0 c).arrAt 5 cfg0.N (ix2 h l)
    = Cert.FoxCumBwdReferenceIdeal.Read.val_main_v16 (F := Ideal) (m ((c : Thread nD τ).loc main_arg0)) (m ((c : Thread nD τ).loc main_arg1)) (m ((c : Thread nD τ).loc main_arg2)) (m ((c : Thread nD τ).loc main_arg3)) (ix2 h l) := by
  refine (result5 m c (below m hpre c) h l).trans ((slopes_eq m c h).trans (reference_bias _ _ _ _ h l).symm)

variable (ρ : Dev nD → PrngReg)

theorem run_values (hpre : Cert.Pre_FoxCumBwdIdeal_below m) : θ_run defs (onTc (τ := τ) (main (F := Ideal))) ⟨m, fun _ => 0, ρ⟩ (fun r => ∀ c : Dev nD,
    r.2.mem ((c : Thread nD τ).loc main_v0_0) = Cert.FoxCumBwdReferenceIdeal.Read.val_main_v14 (F := Ideal) (m ((c : Thread nD τ).loc main_arg0)) (m ((c : Thread nD τ).loc main_arg1)) (m ((c : Thread nD τ).loc main_arg2)) (m ((c : Thread nD τ).loc main_arg3))
    ∧ r.2.mem ((c : Thread nD τ).loc main_v0_1) = Cert.FoxCumBwdReferenceIdeal.Read.val_main_v16 (F := Ideal) (m ((c : Thread nD τ).loc main_arg0)) (m ((c : Thread nD τ).loc main_arg1)) (m ((c : Thread nD τ).loc main_arg2)) (m ((c : Thread nD τ).loc main_arg3))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)) :=
  (θ_run defs _ _).mono (fun _ h c => ⟨((h c).1 4).trans (funext fun i => by
      rw [eq_ix2 i]; exact total4 m hpre c _ _),
    ((h c).1 5).trans (funext fun i => by
      rw [eq_ix2 i]; exact total5 m hpre c _ _),
    ((h c).1 0).trans ((dats m 0 c).arrAt_in 0 rfl _), ((h c).1 1).trans ((dats m 0 c).arrAt_in 1 rfl _),
    ((h c).1 2).trans ((dats m 0 c).arrAt_in 2 rfl _), ((h c).1 3).trans ((dats m 0 c).arrAt_in 3 rfl _)⟩)
    (run_main m ρ)

theorem reference_run (m : (ℓ : Loc Cert.FoxCumBwdReferenceIdeal.nD Cert.FoxCumBwdReferenceIdeal.τ Cert.FoxCumBwdReferenceIdeal.sig) → Buf (Elt Ideal) ℓ) (ρ : Dev Cert.FoxCumBwdReferenceIdeal.nD → PrngReg) :
    θ_run Cert.FoxCumBwdReferenceIdeal.defs (onTc (τ := Cert.FoxCumBwdReferenceIdeal.τ) (Cert.FoxCumBwdReferenceIdeal.main (F := Ideal))) ⟨m, fun _ => 0, ρ⟩ (fun r => ∀ c : Dev Cert.FoxCumBwdReferenceIdeal.nD,
    r.2.mem ((c.tc : Thread Cert.FoxCumBwdReferenceIdeal.nD Cert.FoxCumBwdReferenceIdeal.τ).loc Cert.FoxCumBwdReferenceIdeal.main_v14)
      = Cert.FoxCumBwdReferenceIdeal.Read.val_main_v14 (F := Ideal) (m ((c.tc : Thread Cert.FoxCumBwdReferenceIdeal.nD Cert.FoxCumBwdReferenceIdeal.τ).loc Cert.FoxCumBwdReferenceIdeal.main_arg0)) (m ((c.tc : Thread Cert.FoxCumBwdReferenceIdeal.nD Cert.FoxCumBwdReferenceIdeal.τ).loc Cert.FoxCumBwdReferenceIdeal.main_arg1)) (m ((c.tc : Thread Cert.FoxCumBwdReferenceIdeal.nD Cert.FoxCumBwdReferenceIdeal.τ).loc Cert.FoxCumBwdReferenceIdeal.main_arg2)) (m ((c.tc : Thread Cert.FoxCumBwdReferenceIdeal.nD Cert.FoxCumBwdReferenceIdeal.τ).loc Cert.FoxCumBwdReferenceIdeal.main_arg3))
    ∧ r.2.mem ((c.tc : Thread Cert.FoxCumBwdReferenceIdeal.nD Cert.FoxCumBwdReferenceIdeal.τ).loc Cert.FoxCumBwdReferenceIdeal.main_v16)
      = Cert.FoxCumBwdReferenceIdeal.Read.val_main_v16 (F := Ideal) (m ((c.tc : Thread Cert.FoxCumBwdReferenceIdeal.nD Cert.FoxCumBwdReferenceIdeal.τ).loc Cert.FoxCumBwdReferenceIdeal.main_arg0)) (m ((c.tc : Thread Cert.FoxCumBwdReferenceIdeal.nD Cert.FoxCumBwdReferenceIdeal.τ).loc Cert.FoxCumBwdReferenceIdeal.main_arg1)) (m ((c.tc : Thread Cert.FoxCumBwdReferenceIdeal.nD Cert.FoxCumBwdReferenceIdeal.τ).loc Cert.FoxCumBwdReferenceIdeal.main_arg2)) (m ((c.tc : Thread Cert.FoxCumBwdReferenceIdeal.nD Cert.FoxCumBwdReferenceIdeal.τ).loc Cert.FoxCumBwdReferenceIdeal.main_arg3))
    ∧ r.2.mem ((c.tc : Thread Cert.FoxCumBwdReferenceIdeal.nD Cert.FoxCumBwdReferenceIdeal.τ).loc Cert.FoxCumBwdReferenceIdeal.main_arg0) = m ((c.tc : Thread Cert.FoxCumBwdReferenceIdeal.nD Cert.FoxCumBwdReferenceIdeal.τ).loc Cert.FoxCumBwdReferenceIdeal.main_arg0)
    ∧ r.2.mem ((c.tc : Thread Cert.FoxCumBwdReferenceIdeal.nD Cert.FoxCumBwdReferenceIdeal.τ).loc Cert.FoxCumBwdReferenceIdeal.main_arg1) = m ((c.tc : Thread Cert.FoxCumBwdReferenceIdeal.nD Cert.FoxCumBwdReferenceIdeal.τ).loc Cert.FoxCumBwdReferenceIdeal.main_arg1)
    ∧ r.2.mem ((c.tc : Thread Cert.FoxCumBwdReferenceIdeal.nD Cert.FoxCumBwdReferenceIdeal.τ).loc Cert.FoxCumBwdReferenceIdeal.main_arg2) = m ((c.tc : Thread Cert.FoxCumBwdReferenceIdeal.nD Cert.FoxCumBwdReferenceIdeal.τ).loc Cert.FoxCumBwdReferenceIdeal.main_arg2)
    ∧ r.2.mem ((c.tc : Thread Cert.FoxCumBwdReferenceIdeal.nD Cert.FoxCumBwdReferenceIdeal.τ).loc Cert.FoxCumBwdReferenceIdeal.main_arg3) = m ((c.tc : Thread Cert.FoxCumBwdReferenceIdeal.nD Cert.FoxCumBwdReferenceIdeal.τ).loc Cert.FoxCumBwdReferenceIdeal.main_arg3)) :=
  (θ_run Cert.FoxCumBwdReferenceIdeal.defs _ _).mono (fun _ h c => ⟨(h c).1.trans (Cert.FoxCumBwdReferenceIdeal.Read.val_main_v14_eq _ _), (h c).2.1.trans (Cert.FoxCumBwdReferenceIdeal.Read.val_main_v16_eq _ _), (h c).2.2⟩)
    (Cert.FoxCumBwdReferenceIdeal.Value.run (F := Ideal) m ρ)

attribute [local irreducible] Cert.FoxCumBwdReferenceIdeal.Read.val_main_v14 Cert.FoxCumBwdReferenceIdeal.Read.val_main_v16

/-- The call computes what the reference computes. -/
theorem agree : Cert.algebraic_FoxCumBwdIdeal_FoxCumBwdReferenceIdeal_pre_below := by
  pair_intro
  · run_from run_values m g hpre
  · run_from reference_run m' g'

theorem frame_reference : Cert.quiescent_FoxCumBwdReferenceIdeal := fun m ρ _ =>
  (θ_run Cert.FoxCumBwdReferenceIdeal.defs _ _).mono (fun r h => ⟨fun c => (h c).2.2, Idealize.ShloMosaic.sem_eq_zero_of_no_sems (by decide) r.2⟩)
    (Cert.FoxCumBwdReferenceIdeal.Value.run (F := Ideal) m ρ)

end Cert.FoxCumBwdIdeal.Products
end
-- ==== Proof.Products.Modulation.lean ====
/- The modulation: the activated conditioning, and its product with the weights. -/
module

public import proofs.«01_k».proof.Defs
public import proofs.«01_k».proof.Proof.Products.Sum
public import proofs.«01_k».proof.Proof.Gen.ModulationIdeal.Frame
public import proofs.«01_k».proof.Proof.Gen.ModulationReferenceIdeal
public import proofs.«01_k».proof.Proof.Gen.ModulationReferenceIdeal.Run
public import proofs.«01_k».proof.Proof.Gen.ModulationReferenceIdeal.Read
public import Idealize.ShloMosaic.Lib.Pipeline.ValueKit
public import Idealize.ShloMosaic.Lib.Pipeline.ValueKit.Geometry
public import Idealize.ShloMosaic.Lib.Pointwise
public import Idealize.ShloMosaic.Lib.Tactic
public import Idealize.ShloMosaic.Lib.Claim
public import Idealize.ShloMosaic.Lib.Quiescent

@[expose] public section

set_option maxRecDepth 16384

noncomputable section

namespace Cert.ModulationIdeal.Products

open Idealize.ShloMosaic Idealize.ShloMosaic.TcCoe Idealize.SL.Sem Cert.ModulationIdeal Cert.ModulationIdeal.Gen Cert.Products

variable (m : (ℓ : Loc nD τ sig) → Buf (Elt Ideal) ℓ)

/-! ## What one point leaves -/

theorem hz : (![0, 0] : Fin 2 → Nat) = fun _ => 0 := funext fun a => by fin_cases a <;> rfl

open Cert.ModulationReferenceIdeal.Read in
/-- The kernel activates a number as the reference does: its negation is zero minus the number. -/
theorem pay1 (x : Vec Ideal S8x2048 .f32) (r : Fin 8) (v : Fin 2048) :
    k0_pay1 x (ix2 r v) = val_main_v0 (F := Ideal) x (ix2 r v) := by
  pointwise [k0_pay1, val_main_v0, val_main_call0_v5, val_main_call0_v4, val_main_call0_cst_0, val_main_call0_v3, val_main_call0_v2, val_main_call0_cst,
    val_main_call0_v1, val_main_call0_v0]
  rw [sub_eq_add_neg, zero_add]

theorem pay2 (x : Vec Ideal S8x2048 .f32) (y : Vec Ideal S2048x512 .f32) (r : Fin 8) (q : Fin 512) :
    k0_pay2 x y (ix2 r q) = ∑ v : Fin 2048, k0_pay1 x (ix2 r v) * y (ix2 v q) := by
  unfold k0_pay2
  generalize k0_pay1 x = z
  pointwise []

theorem left2 (x : Vec Ideal S8x2048 .f32) (y : Vec Ideal S2048x512 .f32) : out0_2 x y = k0_pay2 x y := by
  unfold out0_2
  rw [View.canon_unit_zero hz, View.ld_unit_zero (S := S8x2048) hz, View.ld_unit_zero (S := S2048x512) hz]

theorem left3 (x : Vec Ideal S8x2048 .f32) (y : Vec Ideal S2048x512 .f32) : out0_3 x y = k0_pay1 x := by
  unfold out0_3
  rw [View.canon_unit_zero hz, View.ld_unit_zero (S := S8x2048) hz]

/-! ## The blocks -/

theorem place0 : ∀ t : Fin cfg0.N, win0_0.index t = ![0, 0] := (by decide +kernel : ∀ t : Fin grid0.N, _)
theorem place1 : ∀ t : Fin cfg0.N, win0_1.index t = ![0, t.val] := (by decide +kernel : ∀ t : Fin grid0.N, _)
theorem place2 : ∀ t : Fin cfg0.N, win0_2.index t = ![0, t.val] := (by decide +kernel : ∀ t : Fin grid0.N, _)
theorem place3 : ∀ t : Fin cfg0.N, win0_3.index t = ![0, 0] := (by decide +kernel : ∀ t : Fin grid0.N, _)

theorem points (t : Fin cfg0.N) : t.val < 3 := lt_of_lt_of_eq t.isLt N_0

/-- The column of the weights that column `q` of a block is. -/
abbrev place (t : Fin cfg0.N) (q : Fin 512) : Fin 1536 := ⟨512 * t.val + q.val, by have := points t; omega⟩

/-- The conditioning and the weights. -/
abbrev cond (c : Dev nD) : Vec Ideal S8x2048 .f32 := m ((c : Thread nD τ).loc main_arg0)
abbrev weights (c : Dev nD) : Vec Ideal S2048x1536 .f32 := m ((c : Thread nD τ).loc main_arg1)

theorem blk0 (c : Dev nD) (t : Fin cfg0.N) : iblk m c 0 t = cond m c := by
  have e : ∀ A : Buf (Elt Ideal) ((c : Thread nD τ).loc main_arg0), ∀ (r : Fin 8) (v : Fin 2048),
      ((cfg0.win 0).blk t).view.read (Elt Ideal) A (ix2 r v) = A (ix2 r v) :=
    fun A r v => by rw [View.read_apply]; show A _ = A _; refine congrArg A ?_; blk_ext [place0]
  exact funext fun i => by rw [eq_ix2 i]; exact e (V m c main_arg0) _ _

theorem blk1 (c : Dev nD) (t : Fin cfg0.N) (v : Fin 2048) (q : Fin 512) :
    iblk m c 1 t (ix2 v q) = weights m c (ix2 v (place t q)) := by
  have hp := points t
  have e : ∀ A : Buf (Elt Ideal) ((c : Thread nD τ).loc main_arg1), ((cfg0.win 1).blk t).view.read (Elt Ideal) A (ix2 v q) = A (ix2 v (place t q)) :=
    fun A => by rw [View.read_apply]; show A _ = A _; refine congrArg A ?_; blk_ext [place1, place]
  exact e (V m c main_arg1)

/-! ## The results -/

/-- The activated conditioning at a row and a column. -/
abbrev act (c : Dev nD) (i : Fin 8) (v : Fin 2048) : EReal := Cert.ModulationReferenceIdeal.Read.val_main_v0 (F := Ideal) (cond m c) (ix2 i v)

/-- The product at a row and a column. -/
abbrev value (c : Dev nD) (i : Fin 8) (j : Fin 1536) : EReal := ∑ v : Fin 2048, act m c i v * weights m c (ix2 v j)

/-- A row of an activated block against a column of a block of the weights. -/
theorem along (c : Dev nD) (t : Fin cfg0.N) (r : Fin 8) (q : Fin 512) :
    k0_pay2 (F := Ideal) (iblk m c 0 t) (iblk m c 1 t) (ix2 r q) = value m c r (place t q) := by
  rw [pay2]
  refine Finset.sum_congr rfl fun v _ => congrArg₂ (· * ·) ?_ (blk1 m c t v q)
  rw [blk0, pay1]

theorem written2 (c : Dev nD) (t : Fin cfg0.N) (r : Fin 8) (q : Fin 512) :
    (dats m 0 c).after 2 t (ix2 r q) = value m c r (place t q) := by
  rw [after0_2, left2]
  exact along m c t r q

theorem written3 (c : Dev nD) (t : Fin cfg0.N) (r : Fin 8) (v : Fin 2048) :
    (dats m 0 c).after 3 t (ix2 r v) = act m c r v := by
  rw [after0_3, left3, blk0, pay1]

/-- The product, entry by entry. -/
theorem result2 (c : Dev nD) (i : Fin 8) (j : Fin 1536) : (dats m 0 c).arrAt 2 cfg0.N (ix2 i j) = value m c i j := by
  refine ((dats m 0 c).arrAt_forall_of_covers 2 (fun i v => v = entry (value m c) (i (0 : Fin 2)).val (i (1 : Fin 2)).val) (by decide +kernel)
    (fun t hf y => ?_) (ix2 i j)).trans (entry_eq _ i.isLt j.isLt)
  blk_simp [place2]
  refine (congrArg _ (eq_ix2 y)).trans ((written2 m c t (y (0 : Fin 2)) (y (1 : Fin 2))).trans (Eq.symm ?_))
  rw [Nat.mul_comm _ 512]
  exact entry_eq (value m c) (y (0 : Fin 2)).isLt (place t (y (1 : Fin 2))).isLt

/-- The activated conditioning, entry by entry: every point writes the whole of it, and the last is written back. -/
theorem result3 (c : Dev nD) (i : Fin 8) (j : Fin 2048) : (dats m 0 c).arrAt 3 cfg0.N (ix2 i j) = act m c i j := by
  refine ((dats m 0 c).arrAt_forall_of_covers 3 (fun i v => v = entry (act m c) (i (0 : Fin 2)).val (i (1 : Fin 2)).val) (by decide +kernel)
    (fun t hf y => ?_) (ix2 i j)).trans (entry_eq _ i.isLt j.isLt)
  blk_simp [place3]
  refine (congrArg _ (eq_ix2 y)).trans ((written3 m c t (y (0 : Fin 2)) (y (1 : Fin 2))).trans (Eq.symm ?_))
  exact entry_eq (act m c) (y (0 : Fin 2)).isLt (y (1 : Fin 2)).isLt

/-! ## The reference -/

open Cert.ModulationReferenceIdeal.Read in
theorem reference (x : Vec Ideal S8x2048 .f32) (y : Vec Ideal S2048x1536 .f32) (i : Fin 8) (j : Fin 1536) :
    val_main_v1 (F := Ideal) x y (ix2 i j) = ∑ v : Fin 2048, val_main_v0 (F := Ideal) x (ix2 i v) * y (ix2 v j) := by
  unfold val_main_v1
  generalize val_main_v0 (F := Ideal) x = z
  pointwise []

variable (ρ : Dev nD → PrngReg)

theorem run_values : θ_run defs (onTc (τ := τ) (main (F := Ideal))) ⟨m, fun _ => 0, ρ⟩ (fun r => ∀ c : Dev nD,
    r.2.mem ((c : Thread nD τ).loc main_v0_0) = Cert.ModulationReferenceIdeal.Read.val_main_v1 (F := Ideal) (m ((c : Thread nD τ).loc main_arg0)) (m ((c : Thread nD τ).loc main_arg1))
    ∧ r.2.mem ((c : Thread nD τ).loc main_v0_1) = Cert.ModulationReferenceIdeal.Read.val_main_v0 (F := Ideal) (m ((c : Thread nD τ).loc main_arg0))
    ∧ r.2.mem ((c : Thread nD τ).loc main_arg0) = m ((c : Thread nD τ).loc main_arg0)
    ∧ r.2.mem ((c : Thread nD τ).loc main_arg1) = m ((c : Thread nD τ).loc main_arg1)) :=
  (θ_run defs _ _).mono (fun _ h c => ⟨((h c).1 2).trans (funext fun i => by
      rw [eq_ix2 i]; exact (result2 m c _ _).trans (reference _ _ _ _).symm),
    ((h c).1 3).trans (funext fun i => by rw [eq_ix2 i]; exact result3 m c _ _),
    ((h c).1 0).trans ((dats m 0 c).arrAt_in 0 rfl _), ((h c).1 1).trans ((dats m 0 c).arrAt_in 1 rfl _)⟩)
    (run_main m ρ)

/-- The call computes what the reference computes. -/
theorem agree : Cert.algebraic_ModulationIdeal_ModulationReferenceIdeal := by
  pair_intro
  · run_from run_values m g
  · run_from Cert.ModulationReferenceIdeal.Value.run (F := Ideal) m' g'
    · exact Cert.ModulationReferenceIdeal.Read.val_main_v1_eq (F := Ideal) _ _
    · exact Cert.ModulationReferenceIdeal.Read.val_main_v0_eq (F := Ideal) _

theorem frame_reference : Cert.quiescent_ModulationReferenceIdeal := fun m ρ _ =>
  (θ_run Cert.ModulationReferenceIdeal.defs _ _).mono (fun r h => ⟨fun c => (h c).2.2, Idealize.ShloMosaic.sem_eq_zero_of_no_sems (by decide) r.2⟩)
    (Cert.ModulationReferenceIdeal.Value.run (F := Ideal) m ρ)

end Cert.ModulationIdeal.Products
end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Fox.Agree
public import proofs.«01_k».proof.Proof.Fox.Twin
public import proofs.«01_k».proof.Proof.Gen.MlpIn
public import proofs.«01_k».proof.Proof.Gen.MlpIn.Frame
public import proofs.«01_k».proof.Proof.Gen.MlpInIdeal
public import proofs.«01_k».proof.Proof.Gen.MlpInReferenceIdeal
public import proofs.«01_k».proof.Proof.Products.MlpIn
public import proofs.«01_k».proof.Proof.Gen.MlpOut
public import proofs.«01_k».proof.Proof.Gen.MlpOut.Frame
public import proofs.«01_k».proof.Proof.Gen.MlpOutIdeal
public import proofs.«01_k».proof.Proof.Gen.MlpOutReferenceIdeal
public import proofs.«01_k».proof.Proof.Products.MlpOut
public import proofs.«01_k».proof.Proof.Gen.MlpOutDx
public import proofs.«01_k».proof.Proof.Gen.MlpOutDx.Frame
public import proofs.«01_k».proof.Proof.Gen.MlpOutDxIdeal
public import proofs.«01_k».proof.Proof.Gen.MlpOutDxReferenceIdeal
public import proofs.«01_k».proof.Proof.Products.MlpOutDx
public import proofs.«01_k».proof.Proof.Gen.MlpOutDw
public import proofs.«01_k».proof.Proof.Gen.MlpOutDw.Frame
public import proofs.«01_k».proof.Proof.Gen.MlpOutDwIdeal
public import proofs.«01_k».proof.Proof.Gen.MlpOutDwReferenceIdeal
public import proofs.«01_k».proof.Proof.Products.MlpOutDw
public import proofs.«01_k».proof.Proof.Gen.MlpInDx
public import proofs.«01_k».proof.Proof.Gen.MlpInDx.Frame
public import proofs.«01_k».proof.Proof.Gen.MlpInDxIdeal
public import proofs.«01_k».proof.Proof.Gen.MlpInDxReferenceIdeal
public import proofs.«01_k».proof.Proof.Products.MlpInDx
public import proofs.«01_k».proof.Proof.Gen.MlpInDw
public import proofs.«01_k».proof.Proof.Gen.MlpInDw.Frame
public import proofs.«01_k».proof.Proof.Gen.MlpInDwIdeal
public import proofs.«01_k».proof.Proof.Gen.MlpInDwReferenceIdeal
public import proofs.«01_k».proof.Proof.Products.MlpInDw
public import proofs.«01_k».proof.Proof.Gen.ProjMain
public import proofs.«01_k».proof.Proof.Gen.ProjMain.Frame
public import proofs.«01_k».proof.Proof.Gen.ProjMainIdeal
public import proofs.«01_k».proof.Proof.Gen.ProjMainReferenceIdeal
public import proofs.«01_k».proof.Proof.Products.ProjMain
public import proofs.«01_k».proof.Proof.Gen.ProjMainDx
public import proofs.«01_k».proof.Proof.Gen.ProjMainDx.Frame
public import proofs.«01_k».proof.Proof.Gen.ProjMainDxIdeal
public import proofs.«01_k».proof.Proof.Gen.ProjMainDxReferenceIdeal
public import proofs.«01_k».proof.Proof.Products.ProjMainDx
public import proofs.«01_k».proof.Proof.Gen.ProjMainDw
public import proofs.«01_k».proof.Proof.Gen.ProjMainDw.Frame
public import proofs.«01_k».proof.Proof.Gen.ProjMainDwIdeal
public import proofs.«01_k».proof.Proof.Gen.ProjMainDwReferenceIdeal
public import proofs.«01_k».proof.Proof.Products.ProjMainDw
public import proofs.«01_k».proof.Proof.Gen.OutProj
public import proofs.«01_k».proof.Proof.Gen.OutProj.Frame
public import proofs.«01_k».proof.Proof.Gen.OutProjIdeal
public import proofs.«01_k».proof.Proof.Gen.OutProjReferenceIdeal
public import proofs.«01_k».proof.Proof.Products.OutProj
public import proofs.«01_k».proof.Proof.Gen.OutProjDx
public import proofs.«01_k».proof.Proof.Gen.OutProjDx.Frame
public import proofs.«01_k».proof.Proof.Gen.OutProjDxIdeal
public import proofs.«01_k».proof.Proof.Gen.OutProjDxReferenceIdeal
public import proofs.«01_k».proof.Proof.Products.OutProjDx
public import proofs.«01_k».proof.Proof.Gen.OutProjDw
public import proofs.«01_k».proof.Proof.Gen.OutProjDw.Frame
public import proofs.«01_k».proof.Proof.Gen.OutProjDwIdeal
public import proofs.«01_k».proof.Proof.Gen.OutProjDwReferenceIdeal
public import proofs.«01_k».proof.Proof.Products.OutProjDw
public import proofs.«01_k».proof.Proof.Gen.ProjSmall
public import proofs.«01_k».proof.Proof.Gen.ProjSmall.Frame
public import proofs.«01_k».proof.Proof.Gen.ProjSmallIdeal
public import proofs.«01_k».proof.Proof.Gen.ProjSmallReferenceIdeal
public import proofs.«01_k».proof.Proof.Products.ProjSmall
public import proofs.«01_k».proof.Proof.Gen.GateDx
public import proofs.«01_k».proof.Proof.Gen.GateDx.Frame
public import proofs.«01_k».proof.Proof.Gen.GateDxIdeal
public import proofs.«01_k».proof.Proof.Gen.GateDxReferenceIdeal
public import proofs.«01_k».proof.Proof.Products.GateDx
public import proofs.«01_k».proof.Proof.Gen.GateDw
public import proofs.«01_k».proof.Proof.Gen.GateDw.Frame
public import proofs.«01_k».proof.Proof.Gen.GateDwIdeal
public import proofs.«01_k».proof.Proof.Gen.GateDwReferenceIdeal
public import proofs.«01_k».proof.Proof.Products.GateDw
public import proofs.«01_k».proof.Proof.Gen.ProjSmallDw
public import proofs.«01_k».proof.Proof.Gen.ProjSmallDw.Frame
public import proofs.«01_k».proof.Proof.Gen.ProjSmallDwIdeal
public import proofs.«01_k».proof.Proof.Gen.ProjSmallDwReferenceIdeal
public import proofs.«01_k».proof.Proof.Products.ProjSmallDw
public import proofs.«01_k».proof.Proof.Gen.Premix
public import proofs.«01_k».proof.Proof.Gen.Premix.Frame
public import proofs.«01_k».proof.Proof.Gen.PremixIdeal
public import proofs.«01_k».proof.Proof.Gen.PremixReferenceIdeal
public import proofs.«01_k».proof.Proof.Products.Premix
public import proofs.«01_k».proof.Proof.Gen.PostmixPremlp
public import proofs.«01_k».proof.Proof.Gen.PostmixPremlp.Frame
public import proofs.«01_k».proof.Proof.Gen.PostmixPremlpIdeal
public import proofs.«01_k».proof.Proof.Gen.PostmixPremlpReferenceIdeal
public import proofs.«01_k».proof.Proof.Products.PostmixPremlp
public import proofs.«01_k».proof.Proof.Gen.FoxFwd
public import proofs.«01_k».proof.Proof.Gen.FoxFwd.Frame
public import proofs.«01_k».proof.Proof.Gen.FoxFwdIdeal
public import proofs.«01_k».proof.Proof.Gen.FoxFwdReferenceIdeal
public import proofs.«01_k».proof.Proof.Gen.FoxFwdIdeal.Frame
public import proofs.«01_k».proof.Proof.FoxFwd.Agree
public import proofs.«01_k».proof.Proof.Gen.PremixBwd
public import proofs.«01_k».proof.Proof.Gen.PremixBwd.Frame
public import proofs.«01_k».proof.Proof.Gen.PremixBwdIdeal
public import proofs.«01_k».proof.Proof.Gen.PremixBwdIdeal.Frame
public import proofs.«01_k».proof.Proof.Gen.PremixBwdReferenceIdeal
public import proofs.«01_k».proof.Proof.Gen.PremixBwdReferenceIdeal.Run
public import proofs.«01_k».proof.Proof.Gen.PremixBwdReferenceIdeal.Read
public import proofs.«01_k».proof.Proof.Products.PremixBwd
public import proofs.«01_k».proof.Proof.Gen.PremlpPostmixBwd
public import proofs.«01_k».proof.Proof.Gen.PremlpPostmixBwd.Frame
public import proofs.«01_k».proof.Proof.Gen.PremlpPostmixBwdIdeal
public import proofs.«01_k».proof.Proof.Gen.PremlpPostmixBwdIdeal.Frame
public import proofs.«01_k».proof.Proof.Gen.PremlpPostmixBwdReferenceIdeal
public import proofs.«01_k».proof.Proof.Gen.PremlpPostmixBwdReferenceIdeal.Run
public import proofs.«01_k».proof.Proof.Gen.PremlpPostmixBwdReferenceIdeal.Read
public import proofs.«01_k».proof.Proof.Products.PremlpPostmixBwd
public import proofs.«01_k».proof.Proof.Gen.FoxCum
public import proofs.«01_k».proof.Proof.Gen.FoxCum.Frame
public import proofs.«01_k».proof.Proof.Gen.FoxCumIdeal
public import proofs.«01_k».proof.Proof.Gen.FoxCumIdeal.Frame
public import proofs.«01_k».proof.Proof.Gen.FoxCumReferenceIdeal
public import proofs.«01_k».proof.Proof.Gen.FoxCumReferenceIdeal.Run
public import proofs.«01_k».proof.Proof.Gen.FoxCumReferenceIdeal.Read
public import proofs.«01_k».proof.Proof.Products.FoxCum
public import proofs.«01_k».proof.Proof.Gen.FoxCumBwd
public import proofs.«01_k».proof.Proof.Gen.FoxCumBwd.Frame
public import proofs.«01_k».proof.Proof.Gen.FoxCumBwdIdeal
public import proofs.«01_k».proof.Proof.Gen.FoxCumBwdIdeal.Frame
public import proofs.«01_k».proof.Proof.Gen.FoxCumBwdReferenceIdeal
public import proofs.«01_k».proof.Proof.Gen.FoxCumBwdReferenceIdeal.Run
public import proofs.«01_k».proof.Proof.Gen.FoxCumBwdReferenceIdeal.Read
public import proofs.«01_k».proof.Proof.Products.FoxCumBwd
public import proofs.«01_k».proof.Proof.Products.Modulation
public import proofs.«01_k».proof.Proof.Gen.Modulation
public import proofs.«01_k».proof.Proof.Gen.Modulation.Frame
public import proofs.«01_k».proof.Proof.Gen.ModulationIdeal
public import proofs.«01_k».proof.Proof.Gen.ModulationIdeal.Frame
public import proofs.«01_k».proof.Proof.Gen.ModulationReferenceIdeal
public import proofs.«01_k».proof.Proof.Gen.ModulationReferenceIdeal.Run
public import proofs.«01_k».proof.Proof.Gen.ModulationReferenceIdeal.Read
public import Idealize.ShloMosaic.Adequacy
public import Idealize.ShloMosaic.Init
public import Idealize.ShloMosaic.Lib.Quiescent

@[expose] public section

noncomputable section

namespace Cert.Proof

open Idealize.ShloMosaic Idealize.SL.Sem Cert.Kernel

theorem frame_reference (m : (ℓ : Loc Cert.ReferenceIdeal.nD Cert.ReferenceIdeal.τ Cert.ReferenceIdeal.sig) → Buf (Elt Ideal) ℓ)
    (ρ : Dev Cert.ReferenceIdeal.nD → PrngReg) : θ_run Cert.ReferenceIdeal.defs (onTc (τ := Cert.ReferenceIdeal.τ) (Cert.ReferenceIdeal.main (F := Ideal))) ⟨m, fun _ => 0, ρ⟩
      (fun r => (∀ c : Dev Cert.ReferenceIdeal.nD,
        r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1)
        ∧ r.2.mem ((c.tc : Thread _ _).loc Cert.ReferenceIdeal.main_arg2) = m ((c.tc : Thread _ _).loc Cert.ReferenceIdeal.main_arg2)) ∧ r.2.sem = fun _ => 0) :=
  (θ_run Cert.ReferenceIdeal.defs _ _).mono
    (fun r h => ⟨fun c => (h c).2.2.2.2.2, Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  Cert.MlpIn.Gen.facts, Cert.MlpInIdeal.Gen.facts, Cert.MlpInReferenceIdeal.Gen.facts,
  Cert.MlpOut.Gen.facts, Cert.MlpOutIdeal.Gen.facts, Cert.MlpOutReferenceIdeal.Gen.facts,
  Cert.MlpOutDx.Gen.facts, Cert.MlpOutDxIdeal.Gen.facts, Cert.MlpOutDxReferenceIdeal.Gen.facts,
  Cert.MlpOutDw.Gen.facts, Cert.MlpOutDwIdeal.Gen.facts, Cert.MlpOutDwReferenceIdeal.Gen.facts,
  Cert.MlpInDx.Gen.facts, Cert.MlpInDxIdeal.Gen.facts, Cert.MlpInDxReferenceIdeal.Gen.facts,
  Cert.MlpInDw.Gen.facts, Cert.MlpInDwIdeal.Gen.facts, Cert.MlpInDwReferenceIdeal.Gen.facts,
  Cert.ProjMain.Gen.facts, Cert.ProjMainIdeal.Gen.facts, Cert.ProjMainReferenceIdeal.Gen.facts,
  Cert.ProjMainDx.Gen.facts, Cert.ProjMainDxIdeal.Gen.facts, Cert.ProjMainDxReferenceIdeal.Gen.facts,
  Cert.ProjMainDw.Gen.facts, Cert.ProjMainDwIdeal.Gen.facts, Cert.ProjMainDwReferenceIdeal.Gen.facts,
  Cert.OutProj.Gen.facts, Cert.OutProjIdeal.Gen.facts, Cert.OutProjReferenceIdeal.Gen.facts,
  Cert.OutProjDx.Gen.facts, Cert.OutProjDxIdeal.Gen.facts, Cert.OutProjDxReferenceIdeal.Gen.facts,
  Cert.OutProjDw.Gen.facts, Cert.OutProjDwIdeal.Gen.facts, Cert.OutProjDwReferenceIdeal.Gen.facts,
  Cert.ProjSmall.Gen.facts, Cert.ProjSmallIdeal.Gen.facts, Cert.ProjSmallReferenceIdeal.Gen.facts,
  Cert.GateDx.Gen.facts, Cert.GateDxIdeal.Gen.facts, Cert.GateDxReferenceIdeal.Gen.facts,
  Cert.GateDw.Gen.facts, Cert.GateDwIdeal.Gen.facts, Cert.GateDwReferenceIdeal.Gen.facts,
  Cert.ProjSmallDw.Gen.facts, Cert.ProjSmallDwIdeal.Gen.facts, Cert.ProjSmallDwReferenceIdeal.Gen.facts,
  Cert.Premix.Gen.facts, Cert.PremixIdeal.Gen.facts, Cert.PremixReferenceIdeal.Gen.facts,
  Cert.PostmixPremlp.Gen.facts, Cert.PostmixPremlpIdeal.Gen.facts, Cert.PostmixPremlpReferenceIdeal.Gen.facts,
  Cert.FoxFwd.Gen.facts, Cert.FoxFwdIdeal.Gen.facts, Cert.FoxFwdReferenceIdeal.Gen.facts,
  Cert.PremixBwd.Gen.facts, Cert.PremixBwdIdeal.Gen.facts, Cert.PremixBwdReferenceIdeal.Gen.facts,
  Cert.PremlpPostmixBwd.Gen.facts, Cert.PremlpPostmixBwdIdeal.Gen.facts, Cert.PremlpPostmixBwdReferenceIdeal.Gen.facts,
  Cert.FoxCum.Gen.facts, Cert.FoxCumIdeal.Gen.facts, Cert.FoxCumReferenceIdeal.Gen.facts,
  Cert.FoxCumBwd.Gen.facts, Cert.FoxCumBwdIdeal.Gen.facts, Cert.FoxCumBwdReferenceIdeal.Gen.facts,
  Cert.Modulation.Gen.facts, Cert.ModulationIdeal.Gen.facts, Cert.ModulationReferenceIdeal.Gen.facts,
  Cert.Pre_finite.Gen.facts, Cert.FoxFwdIdeal.Attn.pre_facts, Cert.FoxCumBwdIdeal.Products.pre_facts,
  Cert.KernelIdeal.Fox.frame_twin, fun m ρ _ => Cert.KernelIdeal.Fox.frame_main m ρ, fun m ρ _ => Cert.KernelIdeal.Fox.frame_main m ρ,
  fun m ρ _ => frame_reference m ρ, fun m ρ _ => frame_reference m ρ,
  fun m ρ _ => Cert.MlpIn.Gen.frame m ρ, fun m ρ _ => Cert.MlpInIdeal.Gen.frame m ρ, Cert.MlpInIdeal.Products.frame_reference,
  fun m ρ _ => Cert.MlpOut.Gen.frame m ρ, fun m ρ _ => Cert.MlpOutIdeal.Gen.frame m ρ, Cert.MlpOutIdeal.Products.frame_reference,
  fun m ρ _ => Cert.MlpOutDx.Gen.frame m ρ, fun m ρ _ => Cert.MlpOutDxIdeal.Gen.frame m ρ, Cert.MlpOutDxIdeal.Products.frame_reference,
  fun m ρ _ => Cert.MlpOutDw.Gen.frame m ρ, fun m ρ _ => Cert.MlpOutDwIdeal.Gen.frame m ρ, Cert.MlpOutDwIdeal.Products.frame_reference,
  fun m ρ _ => Cert.MlpInDx.Gen.frame m ρ, fun m ρ _ => Cert.MlpInDxIdeal.Gen.frame m ρ, Cert.MlpInDxIdeal.Products.frame_reference,
  fun m ρ _ => Cert.MlpInDw.Gen.frame m ρ, fun m ρ _ => Cert.MlpInDwIdeal.Gen.frame m ρ, Cert.MlpInDwIdeal.Products.frame_reference,
  fun m ρ _ => Cert.ProjMain.Gen.frame m ρ, fun m ρ _ => Cert.ProjMainIdeal.Gen.frame m ρ, Cert.ProjMainIdeal.Products.frame_reference,
  fun m ρ _ => Cert.ProjMainDx.Gen.frame m ρ, fun m ρ _ => Cert.ProjMainDxIdeal.Gen.frame m ρ, Cert.ProjMainDxIdeal.Products.frame_reference,
  fun m ρ _ => Cert.ProjMainDw.Gen.frame m ρ, fun m ρ _ => Cert.ProjMainDwIdeal.Gen.frame m ρ, Cert.ProjMainDwIdeal.Products.frame_reference,
  fun m ρ _ => Cert.OutProj.Gen.frame m ρ, fun m ρ _ => Cert.OutProjIdeal.Gen.frame m ρ, Cert.OutProjIdeal.Products.frame_reference,
  fun m ρ _ => Cert.OutProjDx.Gen.frame m ρ, fun m ρ _ => Cert.OutProjDxIdeal.Gen.frame m ρ, Cert.OutProjDxIdeal.Products.frame_reference,
  fun m ρ _ => Cert.OutProjDw.Gen.frame m ρ, fun m ρ _ => Cert.OutProjDwIdeal.Gen.frame m ρ, Cert.OutProjDwIdeal.Products.frame_reference,
  fun m ρ _ => Cert.ProjSmall.Gen.frame m ρ, fun m ρ _ => Cert.ProjSmallIdeal.Gen.frame m ρ, Cert.ProjSmallIdeal.Products.frame_reference,
  fun m ρ _ => Cert.GateDx.Gen.frame m ρ, fun m ρ _ => Cert.GateDxIdeal.Gen.frame m ρ, Cert.GateDxIdeal.Products.frame_reference,
  fun m ρ _ => Cert.GateDw.Gen.frame m ρ, fun m ρ _ => Cert.GateDwIdeal.Gen.frame m ρ, Cert.GateDwIdeal.Products.frame_reference,
  fun m ρ _ => Cert.ProjSmallDw.Gen.frame m ρ, fun m ρ _ => Cert.ProjSmallDwIdeal.Gen.frame m ρ, Cert.ProjSmallDwIdeal.Products.frame_reference,
  fun m ρ _ => Cert.Premix.Gen.frame m ρ, fun m ρ _ => Cert.PremixIdeal.Gen.frame m ρ, Cert.PremixIdeal.Products.frame_reference,
  fun m ρ _ => Cert.PostmixPremlp.Gen.frame m ρ, fun m ρ _ => Cert.PostmixPremlpIdeal.Gen.frame m ρ, Cert.PostmixPremlpIdeal.Products.frame_reference,
  fun m ρ _ => Cert.FoxFwd.Gen.frame m ρ, fun m ρ _ => Cert.FoxFwdIdeal.Gen.frame m ρ, fun m ρ _ => Cert.FoxFwdIdeal.Gen.frame m ρ,
  fun m ρ _ => Cert.FoxFwdIdeal.Attn.frame_reference m ρ trivial, fun m ρ _ => Cert.FoxFwdIdeal.Attn.frame_reference m ρ trivial,
  fun m ρ _ => Cert.PremixBwd.Gen.frame m ρ, fun m ρ _ => Cert.PremixBwdIdeal.Gen.frame m ρ, Cert.PremixBwdIdeal.Products.frame_reference,
  fun m ρ _ => Cert.PremlpPostmixBwd.Gen.frame m ρ, fun m ρ _ => Cert.PremlpPostmixBwdIdeal.Gen.frame m ρ, Cert.PremlpPostmixBwdIdeal.Products.frame_reference,
  fun m ρ _ => Cert.FoxCum.Gen.frame m ρ, fun m ρ _ => Cert.FoxCumIdeal.Gen.frame m ρ, Cert.FoxCumIdeal.Products.frame_reference,
  fun m ρ _ => Cert.FoxCumBwd.Gen.frame m ρ, fun m ρ _ => Cert.FoxCumBwdIdeal.Gen.frame m ρ, fun m ρ _ => Cert.FoxCumBwdIdeal.Gen.frame m ρ,
  fun m ρ _ => Cert.FoxCumBwdIdeal.Products.frame_reference m ρ trivial, fun m ρ _ => Cert.FoxCumBwdIdeal.Products.frame_reference m ρ trivial,
  fun m ρ _ => Cert.Modulation.Gen.frame m ρ, fun m ρ _ => Cert.ModulationIdeal.Gen.frame m ρ, Cert.ModulationIdeal.Products.frame_reference,
  trivial, Cert.KernelIdeal.Fox.agree,
  trivial, Cert.MlpInIdeal.Products.agree,
  trivial, Cert.MlpOutIdeal.Products.agree,
  trivial, Cert.MlpOutDxIdeal.Products.agree,
  trivial, Cert.MlpOutDwIdeal.Products.agree,
  trivial, Cert.MlpInDxIdeal.Products.agree,
  trivial, Cert.MlpInDwIdeal.Products.agree,
  trivial, Cert.ProjMainIdeal.Products.agree,
  trivial, Cert.ProjMainDxIdeal.Products.agree,
  trivial, Cert.ProjMainDwIdeal.Products.agree,
  trivial, Cert.OutProjIdeal.Products.agree,
  trivial, Cert.OutProjDxIdeal.Products.agree,
  trivial, Cert.OutProjDwIdeal.Products.agree,
  trivial, Cert.ProjSmallIdeal.Products.agree,
  trivial, Cert.GateDxIdeal.Products.agree,
  trivial, Cert.GateDwIdeal.Products.agree,
  trivial, Cert.ProjSmallDwIdeal.Products.agree,
  trivial, Cert.PremixIdeal.Products.agree,
  trivial, Cert.PostmixPremlpIdeal.Products.agree,
  Cert.FoxFwdIdeal.Attn.preserves, Cert.FoxFwdIdeal.Attn.agree,
  trivial, Cert.PremixBwdIdeal.Products.agree, trivial, Cert.PremlpPostmixBwdIdeal.Products.agree,
  trivial, Cert.FoxCumIdeal.Products.agree,
  trivial, Cert.FoxCumBwdIdeal.Products.agree,
  trivial, Cert.ModulationIdeal.Products.agree⟩

end Cert.Proof

end
